-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_KernelDownIdeal_finite_down [hPre_finite_down : Cert.Pre_finite_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_finite_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_finite_down [hPre_finite_down : Cert.Pre_finite_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_finite_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3)) (m ((c.tc : Thread Cert.ReferenceDownIdeal.nD Cert.ReferenceDownIdeal.τ).loc Cert.ReferenceDownIdeal.main_arg4))) = (fun _ => 1#1)

def Pre_KernelDwd (m : (ℓ : Loc Cert.KernelDwd.nD Cert.KernelDwd.τ Cert.KernelDwd.sig) → Buf (Elt Bits) ℓ) : Prop :=
  True

def Pre_KernelDwdIdeal (m : (ℓ : Loc Cert.KernelDwdIdeal.nD Cert.KernelDwdIdeal.τ Cert.KernelDwdIdeal.sig) → Buf (Elt Ideal) ℓ) : Prop :=
  True

def Pre_ReferenceDwdIdeal (m : (ℓ : Loc Cert.ReferenceDwdIdeal.nD Cert.ReferenceDwdIdeal.τ Cert.ReferenceDwdIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_KernelDhIdeal_finite_dh [hPre_finite_dh : Cert.Pre_finite_dh.Facts] (m : (ℓ : Loc Cert.KernelDhIdeal.nD Cert.KernelDhIdeal.τ Cert.KernelDhIdeal.sig) → Buf (Elt Ideal) ℓ) : Prop :=
  ∀ c : Dev Cert.KernelDhIdeal.nD,
    (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6)) (m ((c.tc : Thread Cert.KernelDhIdeal.nD Cert.KernelDhIdeal.τ).loc Cert.KernelDhIdeal.main_arg7))) = (fun _ => 1#1)

def Pre_ReferenceDhIdeal (m : (ℓ : Loc Cert.ReferenceDhIdeal.nD Cert.ReferenceDhIdeal.τ Cert.ReferenceDhIdeal.sig) → Buf (Elt Ideal) ℓ) : Prop :=
  True

def Pre_ReferenceDhIdeal_finite_dh [hPre_finite_dh : Cert.Pre_finite_dh.Facts] (m : (ℓ : Loc Cert.ReferenceDhIdeal.nD Cert.ReferenceDhIdeal.τ Cert.ReferenceDhIdeal.sig) → Buf (Elt Ideal) ℓ) : Prop :=
  ∀ c : Dev Cert.ReferenceDhIdeal.nD,
    (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6)) (m ((c.tc : Thread Cert.ReferenceDhIdeal.nD Cert.ReferenceDhIdeal.τ).loc Cert.ReferenceDhIdeal.main_arg7))) = (fun _ => 1#1)

def Pre_KernelPn (m : (ℓ : Loc Cert.KernelPn.nD Cert.KernelPn.τ Cert.KernelPn.sig) → Buf (Elt Bits) ℓ) : Prop :=
  True

def Pre_KernelPnIdeal (m : (ℓ : Loc Cert.KernelPnIdeal.nD Cert.KernelPnIdeal.τ Cert.KernelPnIdeal.sig) → Buf (Elt Ideal) ℓ) : Prop :=
  True

def Pre_KernelPnIdeal_finite_pn [hPre_finite_pn : Cert.Pre_finite_pn.Facts] (m : (ℓ : Loc Cert.KernelPnIdeal.nD Cert.KernelPnIdeal.τ Cert.KernelPnIdeal.sig) → Buf (Elt Ideal) ℓ) : Prop :=
  ∀ c : Dev Cert.KernelPnIdeal.nD,
    (Cert.Pre_finite_pn.fn (F := Ideal) (m ((c.tc : Thread Cert.KernelPnIdeal.nD Cert.KernelPnIdeal.τ).loc Cert.KernelPnIdeal.main_arg0)) (m ((c.tc : Thread Cert.KernelPnIdeal.nD Cert.KernelPnIdeal.τ).loc Cert.KernelPnIdeal.main_arg1)) (m ((c.tc : Thread Cert.KernelPnIdeal.nD Cert.KernelPnIdeal.τ).loc Cert.KernelPnIdeal.main_arg2)) (m ((c.tc : Thread Cert.KernelPnIdeal.nD Cert.KernelPnIdeal.τ).loc Cert.KernelPnIdeal.main_arg3))) = (fun _ => 1#1)

def Pre_ReferencePnIdeal (m : (ℓ : Loc Cert.ReferencePnIdeal.nD Cert.ReferencePnIdeal.τ Cert.ReferencePnIdeal.sig) → Buf (Elt Ideal) ℓ) : Prop :=
  True

def Pre_ReferencePnIdeal_finite_pn [hPre_finite_pn : Cert.Pre_finite_pn.Facts] (m : (ℓ : Loc Cert.ReferencePnIdeal.nD Cert.ReferencePnIdeal.τ Cert.ReferencePnIdeal.sig) → Buf (Elt Ideal) ℓ) : Prop :=
  ∀ c : Dev Cert.ReferencePnIdeal.nD,
    (Cert.Pre_finite_pn.fn (F := Ideal) (m ((c.tc : Thread Cert.ReferencePnIdeal.nD Cert.ReferencePnIdeal.τ).loc Cert.ReferencePnIdeal.main_arg0)) (m ((c.tc : Thread Cert.ReferencePnIdeal.nD Cert.ReferencePnIdeal.τ).loc Cert.ReferencePnIdeal.main_arg1)) (m ((c.tc : Thread Cert.ReferencePnIdeal.nD Cert.ReferencePnIdeal.τ).loc Cert.ReferencePnIdeal.main_arg2)) (m ((c.tc : Thread Cert.ReferencePnIdeal.nD Cert.ReferencePnIdeal.τ).loc Cert.ReferencePnIdeal.main_arg3))) = (fun _ => 1#1)

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_KernelDnIdeal_finite_dn [hPre_finite_dn : Cert.Pre_finite_dn.Facts] (m : (ℓ : Loc Cert.KernelDnIdeal.nD Cert.KernelDnIdeal.τ Cert.KernelDnIdeal.sig) → Buf (Elt Ideal) ℓ) : Prop :=
  ∀ c : Dev Cert.KernelDnIdeal.nD,
    (Cert.Pre_finite_dn.fn (F := Ideal) (m ((c.tc : Thread Cert.KernelDnIdeal.nD Cert.KernelDnIdeal.τ).loc Cert.KernelDnIdeal.main_arg0)) (m ((c.tc : Thread Cert.KernelDnIdeal.nD Cert.KernelDnIdeal.τ).loc Cert.KernelDnIdeal.main_arg1)) (m ((c.tc : Thread Cert.KernelDnIdeal.nD Cert.KernelDnIdeal.τ).loc Cert.KernelDnIdeal.main_arg2)) (m ((c.tc : Thread Cert.KernelDnIdeal.nD Cert.KernelDnIdeal.τ).loc Cert.KernelDnIdeal.main_arg3))) = (fun _ => 1#1)

def Pre_ReferenceDnIdeal (m : (ℓ : Loc Cert.ReferenceDnIdeal.nD Cert.ReferenceDnIdeal.τ Cert.ReferenceDnIdeal.sig) → Buf (Elt Ideal) ℓ) : Prop :=
  True

def Pre_ReferenceDnIdeal_finite_dn [hPre_finite_dn : Cert.Pre_finite_dn.Facts] (m : (ℓ : Loc Cert.ReferenceDnIdeal.nD Cert.ReferenceDnIdeal.τ Cert.ReferenceDnIdeal.sig) → Buf (Elt Ideal) ℓ) : Prop :=
  ∀ c : Dev Cert.ReferenceDnIdeal.nD,
    (Cert.Pre_finite_dn.fn (F := Ideal) (m ((c.tc : Thread Cert.ReferenceDnIdeal.nD Cert.ReferenceDnIdeal.τ).loc Cert.ReferenceDnIdeal.main_arg0)) (m ((c.tc : Thread Cert.ReferenceDnIdeal.nD Cert.ReferenceDnIdeal.τ).loc Cert.ReferenceDnIdeal.main_arg1)) (m ((c.tc : Thread Cert.ReferenceDnIdeal.nD Cert.ReferenceDnIdeal.τ).loc Cert.ReferenceDnIdeal.main_arg2)) (m ((c.tc : Thread Cert.ReferenceDnIdeal.nD Cert.ReferenceDnIdeal.τ).loc Cert.ReferenceDnIdeal.main_arg3))) = (fun _ => 1#1)

def Pre_KernelDp (m : (ℓ : Loc Cert.KernelDp.nD Cert.KernelDp.τ Cert.KernelDp.sig) → Buf (Elt Bits) ℓ) : Prop :=
  True

def Pre_KernelDpIdeal (m : (ℓ : Loc Cert.KernelDpIdeal.nD Cert.KernelDpIdeal.τ Cert.KernelDpIdeal.sig) → Buf (Elt Ideal) ℓ) : Prop :=
  True

def Pre_ReferenceDpIdeal (m : (ℓ : Loc Cert.ReferenceDpIdeal.nD Cert.ReferenceDpIdeal.τ Cert.ReferenceDpIdeal.sig) → Buf (Elt Ideal) ℓ) : Prop :=
  True

def Pre_KernelPm (m : (ℓ : Loc Cert.KernelPm.nD Cert.KernelPm.τ Cert.KernelPm.sig) → Buf (Elt Bits) ℓ) : Prop :=
  True

def Pre_KernelPmIdeal (m : (ℓ : Loc Cert.KernelPmIdeal.nD Cert.KernelPmIdeal.τ Cert.KernelPmIdeal.sig) → Buf (Elt Ideal) ℓ) : Prop :=
  True

def Pre_KernelPmIdeal_finite_pm [hPre_finite_pm : Cert.Pre_finite_pm.Facts] (m : (ℓ : Loc Cert.KernelPmIdeal.nD Cert.KernelPmIdeal.τ Cert.KernelPmIdeal.sig) → Buf (Elt Ideal) ℓ) : Prop :=
  ∀ c : Dev Cert.KernelPmIdeal.nD,
    (Cert.Pre_finite_pm.fn (F := Ideal) (m ((c.tc : Thread Cert.KernelPmIdeal.nD Cert.KernelPmIdeal.τ).loc Cert.KernelPmIdeal.main_arg0)) (m ((c.tc : Thread Cert.KernelPmIdeal.nD Cert.KernelPmIdeal.τ).loc Cert.KernelPmIdeal.main_arg1)) (m ((c.tc : Thread Cert.KernelPmIdeal.nD Cert.KernelPmIdeal.τ).loc Cert.KernelPmIdeal.main_arg2)) (m ((c.tc : Thread Cert.KernelPmIdeal.nD Cert.KernelPmIdeal.τ).loc Cert.KernelPmIdeal.main_arg3))) = (fun _ => 1#1)

def Pre_ReferencePmIdeal (m : (ℓ : Loc Cert.ReferencePmIdeal.nD Cert.ReferencePmIdeal.τ Cert.ReferencePmIdeal.sig) → Buf (Elt Ideal) ℓ) : Prop :=
  True

def Pre_ReferencePmIdeal_finite_pm [hPre_finite_pm : Cert.Pre_finite_pm.Facts] (m : (ℓ : Loc Cert.ReferencePmIdeal.nD Cert.ReferencePmIdeal.τ Cert.ReferencePmIdeal.sig) → Buf (Elt Ideal) ℓ) : Prop :=
  ∀ c : Dev Cert.ReferencePmIdeal.nD,
    (Cert.Pre_finite_pm.fn (F := Ideal) (m ((c.tc : Thread Cert.ReferencePmIdeal.nD Cert.ReferencePmIdeal.τ).loc Cert.ReferencePmIdeal.main_arg0)) (m ((c.tc : Thread Cert.ReferencePmIdeal.nD Cert.ReferencePmIdeal.τ).loc Cert.ReferencePmIdeal.main_arg1)) (m ((c.tc : Thread Cert.ReferencePmIdeal.nD Cert.ReferencePmIdeal.τ).loc Cert.ReferencePmIdeal.main_arg2)) (m ((c.tc : Thread Cert.ReferencePmIdeal.nD Cert.ReferencePmIdeal.τ).loc Cert.ReferencePmIdeal.main_arg3))) = (fun _ => 1#1)

def Pre_KernelMo (m : (ℓ : Loc Cert.KernelMo.nD Cert.KernelMo.τ Cert.KernelMo.sig) → Buf (Elt Bits) ℓ) : Prop :=
  True

def Pre_KernelMoIdeal (m : (ℓ : Loc Cert.KernelMoIdeal.nD Cert.KernelMoIdeal.τ Cert.KernelMoIdeal.sig) → Buf (Elt Ideal) ℓ) : Prop :=
  True

def Pre_ReferenceMoIdeal (m : (ℓ : Loc Cert.ReferenceMoIdeal.nD Cert.ReferenceMoIdeal.τ Cert.ReferenceMoIdeal.sig) → Buf (Elt Ideal) ℓ) : Prop :=
  True

def Pre_KernelPr (m : (ℓ : Loc Cert.KernelPr.nD Cert.KernelPr.τ Cert.KernelPr.sig) → Buf (Elt Bits) ℓ) : Prop :=
  True

def Pre_KernelPrIdeal (m : (ℓ : Loc Cert.KernelPrIdeal.nD Cert.KernelPrIdeal.τ Cert.KernelPrIdeal.sig) → Buf (Elt Ideal) ℓ) : Prop :=
  True

def Pre_ReferencePrIdeal (m : (ℓ : Loc Cert.ReferencePrIdeal.nD Cert.ReferencePrIdeal.τ Cert.ReferencePrIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_KernelDownIdeal_pre_finite_down [hKernelDownIdeal : Cert.KernelDownIdeal.Facts] [hPre_finite_down : Cert.Pre_finite_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal_finite_down m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_ReferenceDownIdeal_pre_finite_down [hReferenceDownIdeal : Cert.ReferenceDownIdeal.Facts] [hPre_finite_down : Cert.Pre_finite_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_finite_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelDwd [hKernelDwd : Cert.KernelDwd.Facts] : Prop :=
  ∀ (m : (ℓ : Loc Cert.KernelDwd.nD Cert.KernelDwd.τ Cert.KernelDwd.sig) → Buf (Elt Bits) ℓ) (g : Dev Cert.KernelDwd.nD → PrngReg), Pre_KernelDwd m →
    θ_run (Cert.KernelDwd.defs (F := Bits)) (onTc (τ := Cert.KernelDwd.τ) (Cert.KernelDwd.main (F := Bits))) ⟨m, fun _ => 0, g⟩ (fun r => (∀ c : Dev Cert.KernelDwd.nD,
      r.2.mem ((c.tc : Thread Cert.KernelDwd.nD Cert.KernelDwd.τ).loc Cert.KernelDwd.main_arg0) = m ((c.tc : Thread Cert.KernelDwd.nD Cert.KernelDwd.τ).loc Cert.KernelDwd.main_arg0)
      ∧ r.2.mem ((c.tc : Thread Cert.KernelDwd.nD Cert.KernelDwd.τ).loc Cert.KernelDwd.main_arg1) = m ((c.tc : Thread Cert.KernelDwd.nD Cert.KernelDwd.τ).loc Cert.KernelDwd.main_arg1)
      ∧ r.2.mem ((c.tc : Thread Cert.KernelDwd.nD Cert.KernelDwd.τ).loc Cert.KernelDwd.main_arg2) = m ((c.tc : Thread Cert.KernelDwd.nD Cert.KernelDwd.τ).loc Cert.KernelDwd.main_arg2)
      ∧ r.2.mem ((c.tc : Thread Cert.KernelDwd.nD Cert.KernelDwd.τ).loc Cert.KernelDwd.main_arg3) = m ((c.tc : Thread Cert.KernelDwd.nD Cert.KernelDwd.τ).loc Cert.KernelDwd.main_arg3))
      ∧ r.2.sem = fun _ => 0)

def quiescent_KernelDwdIdeal [hKernelDwdIdeal : Cert.KernelDwdIdeal.Facts] : Prop :=
  ∀ (m : (ℓ : Loc Cert.KernelDwdIdeal.nD Cert.KernelDwdIdeal.τ Cert.KernelDwdIdeal.sig) → Buf (Elt Ideal) ℓ) (g : Dev Cert.KernelDwdIdeal.nD → PrngReg), Pre_KernelDwdIdeal m →
    θ_run (Cert.KernelDwdIdeal.defs (F := Ideal)) (onTc (τ := Cert.KernelDwdIdeal.τ) (Cert.KernelDwdIdeal.main (F := Ideal))) ⟨m, fun _ => 0, g⟩ (fun r => (∀ c : Dev Cert.KernelDwdIdeal.nD,
      r.2.mem ((c.tc : Thread Cert.KernelDwdIdeal.nD Cert.KernelDwdIdeal.τ).loc Cert.KernelDwdIdeal.main_arg0) = m ((c.tc : Thread Cert.KernelDwdIdeal.nD Cert.KernelDwdIdeal.τ).loc Cert.KernelDwdIdeal.main_arg0)
      ∧ r.2.mem ((c.tc : Thread Cert.KernelDwdIdeal.nD Cert.KernelDwdIdeal.τ).loc Cert.KernelDwdIdeal.main_arg1) = m ((c.tc : Thread Cert.KernelDwdIdeal.nD Cert.KernelDwdIdeal.τ).loc Cert.KernelDwdIdeal.main_arg1)
      ∧ r.2.mem ((c.tc : Thread Cert.KernelDwdIdeal.nD Cert.KernelDwdIdeal.τ).loc Cert.KernelDwdIdeal.main_arg2) = m ((c.tc : Thread Cert.KernelDwdIdeal.nD Cert.KernelDwdIdeal.τ).loc Cert.KernelDwdIdeal.main_arg2)
      ∧ r.2.mem ((c.tc : Thread Cert.KernelDwdIdeal.nD Cert.KernelDwdIdeal.τ).loc Cert.KernelDwdIdeal.main_arg3) = m ((c.tc : Thread Cert.KernelDwdIdeal.nD Cert.KernelDwdIdeal.τ).loc Cert.KernelDwdIdeal.main_arg3))
      ∧ r.2.sem = fun _ => 0)

def quiescent_ReferenceDwdIdeal [hReferenceDwdIdeal : Cert.ReferenceDwdIdeal.Facts] : Prop :=
  ∀ (m : (ℓ : Loc Cert.ReferenceDwdIdeal.nD Cert.ReferenceDwdIdeal.τ Cert.ReferenceDwdIdeal.sig) → Buf (Elt Ideal) ℓ) (g : Dev Cert.ReferenceDwdIdeal.nD → PrngReg), Pre_ReferenceDwdIdeal m →
    θ_run (Cert.ReferenceDwdIdeal.defs (F := Ideal)) (onTc (τ := Cert.ReferenceDwdIdeal.τ) (Cert.ReferenceDwdIdeal.main (F := Ideal))) ⟨m, fun _ => 0, g⟩ (fun r => (∀ c : Dev Cert.ReferenceDwdIdeal.nD,
      r.2.mem ((c.tc : Thread Cert.ReferenceDwdIdeal.nD Cert.ReferenceDwdIdeal.τ).loc Cert.ReferenceDwdIdeal.main_arg0) = m ((c.tc : Thread Cert.ReferenceDwdIdeal.nD Cert.ReferenceDwdIdeal.τ).loc Cert.ReferenceDwdIdeal.main_arg0)
      ∧ r.2.mem ((c.tc : Thread Cert.ReferenceDwdIdeal.nD Cert.ReferenceDwdIdeal.τ).loc Cert.ReferenceDwdIdeal.main_arg1) = m ((c.tc : Thread Cert.ReferenceDwdIdeal.nD Cert.ReferenceDwdIdeal.τ).loc Cert.ReferenceDwdIdeal.main_arg1)
      ∧ r.2.mem ((c.tc : Thread Cert.ReferenceDwdIdeal.nD Cert.ReferenceDwdIdeal.τ).loc Cert.ReferenceDwdIdeal.main_arg2) = m ((c.tc : Thread Cert.ReferenceDwdIdeal.nD Cert.ReferenceDwdIdeal.τ).loc Cert.ReferenceDwdIdeal.main_arg2)
      ∧ r.2.mem ((c.tc : Thread Cert.ReferenceDwdIdeal.nD Cert.ReferenceDwdIdeal.τ).loc Cert.ReferenceDwdIdeal.main_arg3) = m ((c.tc : Thread Cert.ReferenceDwdIdeal.nD Cert.ReferenceDwdIdeal.τ).loc Cert.ReferenceDwdIdeal.main_arg3))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1)
      ∧ r.2.mem ((c.tc : Thread Cert.KernelDwo.nD Cert.KernelDwo.τ).loc Cert.KernelDwo.main_arg2) = m ((c.tc : Thread Cert.KernelDwo.nD Cert.KernelDwo.τ).loc Cert.KernelDwo.main_arg2))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1)
      ∧ r.2.mem ((c.tc : Thread Cert.KernelDwoIdeal.nD Cert.KernelDwoIdeal.τ).loc Cert.KernelDwoIdeal.main_arg2) = m ((c.tc : Thread Cert.KernelDwoIdeal.nD Cert.KernelDwoIdeal.τ).loc Cert.KernelDwoIdeal.main_arg2))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1)
      ∧ r.2.mem ((c.tc : Thread Cert.ReferenceDwoIdeal.nD Cert.ReferenceDwoIdeal.τ).loc Cert.ReferenceDwoIdeal.main_arg2) = m ((c.tc : Thread Cert.ReferenceDwoIdeal.nD Cert.ReferenceDwoIdeal.τ).loc Cert.ReferenceDwoIdeal.main_arg2))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1)
      ∧ r.2.mem ((c.tc : Thread Cert.KernelDwin.nD Cert.KernelDwin.τ).loc Cert.KernelDwin.main_arg2) = m ((c.tc : Thread Cert.KernelDwin.nD Cert.KernelDwin.τ).loc Cert.KernelDwin.main_arg2)
      ∧ r.2.mem ((c.tc : Thread Cert.KernelDwin.nD Cert.KernelDwin.τ).loc Cert.KernelDwin.main_arg3) = m ((c.tc : Thread Cert.KernelDwin.nD Cert.KernelDwin.τ).loc Cert.KernelDwin.main_arg3)
      ∧ r.2.mem ((c.tc : Thread Cert.KernelDwin.nD Cert.KernelDwin.τ).loc Cert.KernelDwin.main_arg4) = m ((c.tc : Thread Cert.KernelDwin.nD Cert.KernelDwin.τ).loc Cert.KernelDwin.main_arg4)
      ∧ r.2.mem ((c.tc : Thread Cert.KernelDwin.nD Cert.KernelDwin.τ).loc Cert.KernelDwin.main_arg5) = m ((c.tc : Thread Cert.KernelDwin.nD Cert.KernelDwin.τ).loc Cert.KernelDwin.main_arg5)
      ∧ r.2.mem ((c.tc : Thread Cert.KernelDwin.nD Cert.KernelDwin.τ).loc Cert.KernelDwin.main_arg6) = m ((c.tc : Thread Cert.KernelDwin.nD Cert.KernelDwin.τ).loc Cert.KernelDwin.main_arg6)
      ∧ r.2.mem ((c.tc : Thread Cert.KernelDwin.nD Cert.KernelDwin.τ).loc Cert.KernelDwin.main_arg7) = m ((c.tc : Thread Cert.KernelDwin.nD Cert.KernelDwin.τ).loc Cert.KernelDwin.main_arg7))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
      ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2)
      ∧ r.2.mem ((c.tc : Thread Cert.KernelDwinIdeal.nD Cert.KernelDwinIdeal.τ).loc Cert.KernelDwinIdeal.main_arg3) = m ((c.tc : Thread Cert.KernelDwinIdeal.nD Cert.KernelDwinIdeal.τ).loc Cert.KernelDwinIdeal.main_arg3)
      ∧ r.2.mem ((c.tc : Thread Cert.KernelDwinIdeal.nD Cert.KernelDwinIdeal.τ).loc Cert.KernelDwinIdeal.main_arg4) = m ((c.tc : Thread Cert.KernelDwinIdeal.nD Cert.KernelDwinIdeal.τ).loc Cert.KernelDwinIdeal.main_arg4)
      ∧ r.2.mem ((c.tc : Thread Cert.KernelDwinIdeal.nD Cert.KernelDwinIdeal.τ).loc Cert.KernelDwinIdeal.main_arg5) = m ((c.tc : Thread Cert.KernelDwinIdeal.nD Cert.KernelDwinIdeal.τ).loc Cert.KernelDwinIdeal.main_arg5)
      ∧ r.2.mem ((c.tc : Thread Cert.KernelDwinIdeal.nD Cert.KernelDwinIdeal.τ).loc Cert.KernelDwinIdeal.main_arg6) = m ((c.tc : Thread Cert.KernelDwinIdeal.nD Cert.KernelDwinIdeal.τ).loc Cert.KernelDwinIdeal.main_arg6)
      ∧ r.2.mem ((c.tc : Thread Cert.KernelDwinIdeal.nD Cert.KernelDwinIdeal.τ).loc Cert.KernelDwinIdeal.main_arg7) = m ((c.tc : Thread Cert.KernelDwinIdeal.nD Cert.KernelDwinIdeal.τ).loc Cert.KernelDwinIdeal.main_arg7))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1)
      ∧ r.2.mem ((c.tc : Thread Cert.ReferenceDwinIdeal.nD Cert.ReferenceDwinIdeal.τ).loc Cert.ReferenceDwinIdeal.main_arg2) = m ((c.tc : Thread Cert.ReferenceDwinIdeal.nD Cert.ReferenceDwinIdeal.τ).loc Cert.ReferenceDwinIdeal.main_arg2)
      ∧ r.2.mem ((c.tc : Thread Cert.ReferenceDwinIdeal.nD Cert.ReferenceDwinIdeal.τ).loc Cert.ReferenceDwinIdeal.main_arg3) = m ((c.tc : Thread Cert.ReferenceDwinIdeal.nD Cert.ReferenceDwinIdeal.τ).loc Cert.ReferenceDwinIdeal.main_arg3)
      ∧ r.2.mem ((c.tc : Thread Cert.ReferenceDwinIdeal.nD Cert.ReferenceDwinIdeal.τ).loc Cert.ReferenceDwinIdeal.main_arg4) = m ((c.tc : Thread Cert.ReferenceDwinIdeal.nD Cert.ReferenceDwinIdeal.τ).loc Cert.ReferenceDwinIdeal.main_arg4)
      ∧ r.2.mem ((c.tc : Thread Cert.ReferenceDwinIdeal.nD Cert.ReferenceDwinIdeal.τ).loc Cert.ReferenceDwinIdeal.main_arg5) = m ((c.tc : Thread Cert.ReferenceDwinIdeal.nD Cert.ReferenceDwinIdeal.τ).loc Cert.ReferenceDwinIdeal.main_arg5)
      ∧ r.2.mem ((c.tc : Thread Cert.ReferenceDwinIdeal.nD Cert.ReferenceDwinIdeal.τ).loc Cert.ReferenceDwinIdeal.main_arg6) = m ((c.tc : Thread Cert.ReferenceDwinIdeal.nD Cert.ReferenceDwinIdeal.τ).loc Cert.ReferenceDwinIdeal.main_arg6)
      ∧ r.2.mem ((c.tc : Thread Cert.ReferenceDwinIdeal.nD Cert.ReferenceDwinIdeal.τ).loc Cert.ReferenceDwinIdeal.main_arg7) = m ((c.tc : Thread Cert.ReferenceDwinIdeal.nD Cert.ReferenceDwinIdeal.τ).loc Cert.ReferenceDwinIdeal.main_arg7))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4)
      ∧ r.2.mem ((c.tc : Thread Cert.KernelDh.nD Cert.KernelDh.τ).loc Cert.KernelDh.main_arg5) = m ((c.tc : Thread Cert.KernelDh.nD Cert.KernelDh.τ).loc Cert.KernelDh.main_arg5)
      ∧ r.2.mem ((c.tc : Thread Cert.KernelDh.nD Cert.KernelDh.τ).loc Cert.KernelDh.main_arg6) = m ((c.tc : Thread Cert.KernelDh.nD Cert.KernelDh.τ).loc Cert.KernelDh.main_arg6)
      ∧ r.2.mem ((c.tc : Thread Cert.KernelDh.nD Cert.KernelDh.τ).loc Cert.KernelDh.main_arg7) = m ((c.tc : Thread Cert.KernelDh.nD Cert.KernelDh.τ).loc Cert.KernelDh.main_arg7))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
      ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
      ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7))
      ∧ r.2.sem = fun _ => 0)

def quiescent_KernelDhIdeal_pre_finite_dh [hKernelDhIdeal : Cert.KernelDhIdeal.Facts] [hPre_finite_dh : Cert.Pre_finite_dh.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal_finite_dh m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
      ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
      ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5)
      ∧ r.2.mem ((c.tc : Thread Cert.ReferenceDhIdeal.nD Cert.ReferenceDhIdeal.τ).loc Cert.ReferenceDhIdeal.main_arg6) = m ((c.tc : Thread Cert.ReferenceDhIdeal.nD Cert.ReferenceDhIdeal.τ).loc Cert.ReferenceDhIdeal.main_arg6)
      ∧ r.2.mem ((c.tc : Thread Cert.ReferenceDhIdeal.nD Cert.ReferenceDhIdeal.τ).loc Cert.ReferenceDhIdeal.main_arg7) = m ((c.tc : Thread Cert.ReferenceDhIdeal.nD Cert.ReferenceDhIdeal.τ).loc Cert.ReferenceDhIdeal.main_arg7))
      ∧ r.2.sem = fun _ => 0)

def quiescent_ReferenceDhIdeal_pre_finite_dh [hReferenceDhIdeal : Cert.ReferenceDhIdeal.Facts] [hPre_finite_dh : Cert.Pre_finite_dh.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal_finite_dh m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5)
      ∧ r.2.mem ((c.tc : Thread Cert.ReferenceDhIdeal.nD Cert.ReferenceDhIdeal.τ).loc Cert.ReferenceDhIdeal.main_arg6) = m ((c.tc : Thread Cert.ReferenceDhIdeal.nD Cert.ReferenceDhIdeal.τ).loc Cert.ReferenceDhIdeal.main_arg6)
      ∧ r.2.mem ((c.tc : Thread Cert.ReferenceDhIdeal.nD Cert.ReferenceDhIdeal.τ).loc Cert.ReferenceDhIdeal.main_arg7) = m ((c.tc : Thread Cert.ReferenceDhIdeal.nD Cert.ReferenceDhIdeal.τ).loc Cert.ReferenceDhIdeal.main_arg7))
      ∧ r.2.sem = fun _ => 0)

def quiescent_KernelPn [hKernelPn : Cert.KernelPn.Facts] : Prop :=
  ∀ (m : (ℓ : Loc Cert.KernelPn.nD Cert.KernelPn.τ Cert.KernelPn.sig) → Buf (Elt Bits) ℓ) (g : Dev Cert.KernelPn.nD → PrngReg), Pre_KernelPn m →
    θ_run (Cert.KernelPn.defs (F := Bits)) (onTc (τ := Cert.KernelPn.τ) (Cert.KernelPn.main (F := Bits))) ⟨m, fun _ => 0, g⟩ (fun r => (∀ c : Dev Cert.KernelPn.nD,
      r.2.mem ((c.tc : Thread Cert.KernelPn.nD Cert.KernelPn.τ).loc Cert.KernelPn.main_arg0) = m ((c.tc : Thread Cert.KernelPn.nD Cert.KernelPn.τ).loc Cert.KernelPn.main_arg0)
      ∧ r.2.mem ((c.tc : Thread Cert.KernelPn.nD Cert.KernelPn.τ).loc Cert.KernelPn.main_arg1) = m ((c.tc : Thread Cert.KernelPn.nD Cert.KernelPn.τ).loc Cert.KernelPn.main_arg1)
      ∧ r.2.mem ((c.tc : Thread Cert.KernelPn.nD Cert.KernelPn.τ).loc Cert.KernelPn.main_arg2) = m ((c.tc : Thread Cert.KernelPn.nD Cert.KernelPn.τ).loc Cert.KernelPn.main_arg2)
      ∧ r.2.mem ((c.tc : Thread Cert.KernelPn.nD Cert.KernelPn.τ).loc Cert.KernelPn.main_arg3) = m ((c.tc : Thread Cert.KernelPn.nD Cert.KernelPn.τ).loc Cert.KernelPn.main_arg3))
      ∧ r.2.sem = fun _ => 0)

def quiescent_KernelPnIdeal [hKernelPnIdeal : Cert.KernelPnIdeal.Facts] : Prop :=
  ∀ (m : (ℓ : Loc Cert.KernelPnIdeal.nD Cert.KernelPnIdeal.τ Cert.KernelPnIdeal.sig) → Buf (Elt Ideal) ℓ) (g : Dev Cert.KernelPnIdeal.nD → PrngReg), Pre_KernelPnIdeal m →
    θ_run (Cert.KernelPnIdeal.defs (F := Ideal)) (onTc (τ := Cert.KernelPnIdeal.τ) (Cert.KernelPnIdeal.main (F := Ideal))) ⟨m, fun _ => 0, g⟩ (fun r => (∀ c : Dev Cert.KernelPnIdeal.nD,
      r.2.mem ((c.tc : Thread Cert.KernelPnIdeal.nD Cert.KernelPnIdeal.τ).loc Cert.KernelPnIdeal.main_arg0) = m ((c.tc : Thread Cert.KernelPnIdeal.nD Cert.KernelPnIdeal.τ).loc Cert.KernelPnIdeal.main_arg0)
      ∧ r.2.mem ((c.tc : Thread Cert.KernelPnIdeal.nD Cert.KernelPnIdeal.τ).loc Cert.KernelPnIdeal.main_arg1) = m ((c.tc : Thread Cert.KernelPnIdeal.nD Cert.KernelPnIdeal.τ).loc Cert.KernelPnIdeal.main_arg1)
      ∧ r.2.mem ((c.tc : Thread Cert.KernelPnIdeal.nD Cert.KernelPnIdeal.τ).loc Cert.KernelPnIdeal.main_arg2) = m ((c.tc : Thread Cert.KernelPnIdeal.nD Cert.KernelPnIdeal.τ).loc Cert.KernelPnIdeal.main_arg2)
      ∧ r.2.mem ((c.tc : Thread Cert.KernelPnIdeal.nD Cert.KernelPnIdeal.τ).loc Cert.KernelPnIdeal.main_arg3) = m ((c.tc : Thread Cert.KernelPnIdeal.nD Cert.KernelPnIdeal.τ).loc Cert.KernelPnIdeal.main_arg3))
      ∧ r.2.sem = fun _ => 0)

def quiescent_KernelPnIdeal_pre_finite_pn [hKernelPnIdeal : Cert.KernelPnIdeal.Facts] [hPre_finite_pn : Cert.Pre_finite_pn.Facts] : Prop :=
  ∀ (m : (ℓ : Loc Cert.KernelPnIdeal.nD Cert.KernelPnIdeal.τ Cert.KernelPnIdeal.sig) → Buf (Elt Ideal) ℓ) (g : Dev Cert.KernelPnIdeal.nD → PrngReg), Pre_KernelPnIdeal_finite_pn m →
    θ_run (Cert.KernelPnIdeal.defs (F := Ideal)) (onTc (τ := Cert.KernelPnIdeal.τ) (Cert.KernelPnIdeal.main (F := Ideal))) ⟨m, fun _ => 0, g⟩ (fun r => (∀ c : Dev Cert.KernelPnIdeal.nD,
      r.2.mem ((c.tc : Thread Cert.KernelPnIdeal.nD Cert.KernelPnIdeal.τ).loc Cert.KernelPnIdeal.main_arg0) = m ((c.tc : Thread Cert.KernelPnIdeal.nD Cert.KernelPnIdeal.τ).loc Cert.KernelPnIdeal.main_arg0)
      ∧ r.2.mem ((c.tc : Thread Cert.KernelPnIdeal.nD Cert.KernelPnIdeal.τ).loc Cert.KernelPnIdeal.main_arg1) = m ((c.tc : Thread Cert.KernelPnIdeal.nD Cert.KernelPnIdeal.τ).loc Cert.KernelPnIdeal.main_arg1)
      ∧ r.2.mem ((c.tc : Thread Cert.KernelPnIdeal.nD Cert.KernelPnIdeal.τ).loc Cert.KernelPnIdeal.main_arg2) = m ((c.tc : Thread Cert.KernelPnIdeal.nD Cert.KernelPnIdeal.τ).loc Cert.KernelPnIdeal.main_arg2)
      ∧ r.2.mem ((c.tc : Thread Cert.KernelPnIdeal.nD Cert.KernelPnIdeal.τ).loc Cert.KernelPnIdeal.main_arg3) = m ((c.tc : Thread Cert.KernelPnIdeal.nD Cert.KernelPnIdeal.τ).loc Cert.KernelPnIdeal.main_arg3))
      ∧ r.2.sem = fun _ => 0)

def quiescent_ReferencePnIdeal [hReferencePnIdeal : Cert.ReferencePnIdeal.Facts] : Prop :=
  ∀ (m : (ℓ : Loc Cert.ReferencePnIdeal.nD Cert.ReferencePnIdeal.τ Cert.ReferencePnIdeal.sig) → Buf (Elt Ideal) ℓ) (g : Dev Cert.ReferencePnIdeal.nD → PrngReg), Pre_ReferencePnIdeal m →
    θ_run (Cert.ReferencePnIdeal.defs (F := Ideal)) (onTc (τ := Cert.ReferencePnIdeal.τ) (Cert.ReferencePnIdeal.main (F := Ideal))) ⟨m, fun _ => 0, g⟩ (fun r => (∀ c : Dev Cert.ReferencePnIdeal.nD,
      r.2.mem ((c.tc : Thread Cert.ReferencePnIdeal.nD Cert.ReferencePnIdeal.τ).loc Cert.ReferencePnIdeal.main_arg0) = m ((c.tc : Thread Cert.ReferencePnIdeal.nD Cert.ReferencePnIdeal.τ).loc Cert.ReferencePnIdeal.main_arg0)
      ∧ r.2.mem ((c.tc : Thread Cert.ReferencePnIdeal.nD Cert.ReferencePnIdeal.τ).loc Cert.ReferencePnIdeal.main_arg1) = m ((c.tc : Thread Cert.ReferencePnIdeal.nD Cert.ReferencePnIdeal.τ).loc Cert.ReferencePnIdeal.main_arg1)
      ∧ r.2.mem ((c.tc : Thread Cert.ReferencePnIdeal.nD Cert.ReferencePnIdeal.τ).loc Cert.ReferencePnIdeal.main_arg2) = m ((c.tc : Thread Cert.ReferencePnIdeal.nD Cert.ReferencePnIdeal.τ).loc Cert.ReferencePnIdeal.main_arg2)
      ∧ r.2.mem ((c.tc : Thread Cert.ReferencePnIdeal.nD Cert.ReferencePnIdeal.τ).loc Cert.ReferencePnIdeal.main_arg3) = m ((c.tc : Thread Cert.ReferencePnIdeal.nD Cert.ReferencePnIdeal.τ).loc Cert.ReferencePnIdeal.main_arg3))
      ∧ r.2.sem = fun _ => 0)

def quiescent_ReferencePnIdeal_pre_finite_pn [hReferencePnIdeal : Cert.ReferencePnIdeal.Facts] [hPre_finite_pn : Cert.Pre_finite_pn.Facts] : Prop :=
  ∀ (m : (ℓ : Loc Cert.ReferencePnIdeal.nD Cert.ReferencePnIdeal.τ Cert.ReferencePnIdeal.sig) → Buf (Elt Ideal) ℓ) (g : Dev Cert.ReferencePnIdeal.nD → PrngReg), Pre_ReferencePnIdeal_finite_pn m →
    θ_run (Cert.ReferencePnIdeal.defs (F := Ideal)) (onTc (τ := Cert.ReferencePnIdeal.τ) (Cert.ReferencePnIdeal.main (F := Ideal))) ⟨m, fun _ => 0, g⟩ (fun r => (∀ c : Dev Cert.ReferencePnIdeal.nD,
      r.2.mem ((c.tc : Thread Cert.ReferencePnIdeal.nD Cert.ReferencePnIdeal.τ).loc Cert.ReferencePnIdeal.main_arg0) = m ((c.tc : Thread Cert.ReferencePnIdeal.nD Cert.ReferencePnIdeal.τ).loc Cert.ReferencePnIdeal.main_arg0)
      ∧ r.2.mem ((c.tc : Thread Cert.ReferencePnIdeal.nD Cert.ReferencePnIdeal.τ).loc Cert.ReferencePnIdeal.main_arg1) = m ((c.tc : Thread Cert.ReferencePnIdeal.nD Cert.ReferencePnIdeal.τ).loc Cert.ReferencePnIdeal.main_arg1)
      ∧ r.2.mem ((c.tc : Thread Cert.ReferencePnIdeal.nD Cert.ReferencePnIdeal.τ).loc Cert.ReferencePnIdeal.main_arg2) = m ((c.tc : Thread Cert.ReferencePnIdeal.nD Cert.ReferencePnIdeal.τ).loc Cert.ReferencePnIdeal.main_arg2)
      ∧ r.2.mem ((c.tc : Thread Cert.ReferencePnIdeal.nD Cert.ReferencePnIdeal.τ).loc Cert.ReferencePnIdeal.main_arg3) = m ((c.tc : Thread Cert.ReferencePnIdeal.nD Cert.ReferencePnIdeal.τ).loc Cert.ReferencePnIdeal.main_arg3))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1)
      ∧ r.2.mem ((c.tc : Thread Cert.KernelDn.nD Cert.KernelDn.τ).loc Cert.KernelDn.main_arg2) = m ((c.tc : Thread Cert.KernelDn.nD Cert.KernelDn.τ).loc Cert.KernelDn.main_arg2)
      ∧ r.2.mem ((c.tc : Thread Cert.KernelDn.nD Cert.KernelDn.τ).loc Cert.KernelDn.main_arg3) = m ((c.tc : Thread Cert.KernelDn.nD Cert.KernelDn.τ).loc Cert.KernelDn.main_arg3))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3))
      ∧ r.2.sem = fun _ => 0)

def quiescent_KernelDnIdeal_pre_finite_dn [hKernelDnIdeal : Cert.KernelDnIdeal.Facts] [hPre_finite_dn : Cert.Pre_finite_dn.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal_finite_dn m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3))
      ∧ r.2.sem = fun _ => 0)

def quiescent_ReferenceDnIdeal_pre_finite_dn [hReferenceDnIdeal : Cert.ReferenceDnIdeal.Facts] [hPre_finite_dn : Cert.Pre_finite_dn.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal_finite_dn m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3))
      ∧ r.2.sem = fun _ => 0)

def quiescent_KernelDp [hKernelDp : Cert.KernelDp.Facts] : Prop :=
  ∀ (m : (ℓ : Loc Cert.KernelDp.nD Cert.KernelDp.τ Cert.KernelDp.sig) → Buf (Elt Bits) ℓ) (g : Dev Cert.KernelDp.nD → PrngReg), Pre_KernelDp m →
    θ_run (Cert.KernelDp.defs (F := Bits)) (onTc (τ := Cert.KernelDp.τ) (Cert.KernelDp.main (F := Bits))) ⟨m, fun _ => 0, g⟩ (fun r => (∀ c : Dev Cert.KernelDp.nD,
      r.2.mem ((c.tc : Thread Cert.KernelDp.nD Cert.KernelDp.τ).loc Cert.KernelDp.main_arg0) = m ((c.tc : Thread Cert.KernelDp.nD Cert.KernelDp.τ).loc Cert.KernelDp.main_arg0)
      ∧ r.2.mem ((c.tc : Thread Cert.KernelDp.nD Cert.KernelDp.τ).loc Cert.KernelDp.main_arg1) = m ((c.tc : Thread Cert.KernelDp.nD Cert.KernelDp.τ).loc Cert.KernelDp.main_arg1)
      ∧ r.2.mem ((c.tc : Thread Cert.KernelDp.nD Cert.KernelDp.τ).loc Cert.KernelDp.main_arg2) = m ((c.tc : Thread Cert.KernelDp.nD Cert.KernelDp.τ).loc Cert.KernelDp.main_arg2)
      ∧ r.2.mem ((c.tc : Thread Cert.KernelDp.nD Cert.KernelDp.τ).loc Cert.KernelDp.main_arg3) = m ((c.tc : Thread Cert.KernelDp.nD Cert.KernelDp.τ).loc Cert.KernelDp.main_arg3)
      ∧ r.2.mem ((c.tc : Thread Cert.KernelDp.nD Cert.KernelDp.τ).loc Cert.KernelDp.main_arg4) = m ((c.tc : Thread Cert.KernelDp.nD Cert.KernelDp.τ).loc Cert.KernelDp.main_arg4)
      ∧ r.2.mem ((c.tc : Thread Cert.KernelDp.nD Cert.KernelDp.τ).loc Cert.KernelDp.main_arg5) = m ((c.tc : Thread Cert.KernelDp.nD Cert.KernelDp.τ).loc Cert.KernelDp.main_arg5))
      ∧ r.2.sem = fun _ => 0)

def quiescent_KernelDpIdeal [hKernelDpIdeal : Cert.KernelDpIdeal.Facts] : Prop :=
  ∀ (m : (ℓ : Loc Cert.KernelDpIdeal.nD Cert.KernelDpIdeal.τ Cert.KernelDpIdeal.sig) → Buf (Elt Ideal) ℓ) (g : Dev Cert.KernelDpIdeal.nD → PrngReg), Pre_KernelDpIdeal m →
    θ_run (Cert.KernelDpIdeal.defs (F := Ideal)) (onTc (τ := Cert.KernelDpIdeal.τ) (Cert.KernelDpIdeal.main (F := Ideal))) ⟨m, fun _ => 0, g⟩ (fun r => (∀ c : Dev Cert.KernelDpIdeal.nD,
      r.2.mem ((c.tc : Thread Cert.KernelDpIdeal.nD Cert.KernelDpIdeal.τ).loc Cert.KernelDpIdeal.main_arg0) = m ((c.tc : Thread Cert.KernelDpIdeal.nD Cert.KernelDpIdeal.τ).loc Cert.KernelDpIdeal.main_arg0)
      ∧ r.2.mem ((c.tc : Thread Cert.KernelDpIdeal.nD Cert.KernelDpIdeal.τ).loc Cert.KernelDpIdeal.main_arg1) = m ((c.tc : Thread Cert.KernelDpIdeal.nD Cert.KernelDpIdeal.τ).loc Cert.KernelDpIdeal.main_arg1)
      ∧ r.2.mem ((c.tc : Thread Cert.KernelDpIdeal.nD Cert.KernelDpIdeal.τ).loc Cert.KernelDpIdeal.main_arg2) = m ((c.tc : Thread Cert.KernelDpIdeal.nD Cert.KernelDpIdeal.τ).loc Cert.KernelDpIdeal.main_arg2)
      ∧ r.2.mem ((c.tc : Thread Cert.KernelDpIdeal.nD Cert.KernelDpIdeal.τ).loc Cert.KernelDpIdeal.main_arg3) = m ((c.tc : Thread Cert.KernelDpIdeal.nD Cert.KernelDpIdeal.τ).loc Cert.KernelDpIdeal.main_arg3)
      ∧ r.2.mem ((c.tc : Thread Cert.KernelDpIdeal.nD Cert.KernelDpIdeal.τ).loc Cert.KernelDpIdeal.main_arg4) = m ((c.tc : Thread Cert.KernelDpIdeal.nD Cert.KernelDpIdeal.τ).loc Cert.KernelDpIdeal.main_arg4)
      ∧ r.2.mem ((c.tc : Thread Cert.KernelDpIdeal.nD Cert.KernelDpIdeal.τ).loc Cert.KernelDpIdeal.main_arg5) = m ((c.tc : Thread Cert.KernelDpIdeal.nD Cert.KernelDpIdeal.τ).loc Cert.KernelDpIdeal.main_arg5))
      ∧ r.2.sem = fun _ => 0)

def quiescent_ReferenceDpIdeal [hReferenceDpIdeal : Cert.ReferenceDpIdeal.Facts] : Prop :=
  ∀ (m : (ℓ : Loc Cert.ReferenceDpIdeal.nD Cert.ReferenceDpIdeal.τ Cert.ReferenceDpIdeal.sig) → Buf (Elt Ideal) ℓ) (g : Dev Cert.ReferenceDpIdeal.nD → PrngReg), Pre_ReferenceDpIdeal m →
    θ_run (Cert.ReferenceDpIdeal.defs (F := Ideal)) (onTc (τ := Cert.ReferenceDpIdeal.τ) (Cert.ReferenceDpIdeal.main (F := Ideal))) ⟨m, fun _ => 0, g⟩ (fun r => (∀ c : Dev Cert.ReferenceDpIdeal.nD,
      r.2.mem ((c.tc : Thread Cert.ReferenceDpIdeal.nD Cert.ReferenceDpIdeal.τ).loc Cert.ReferenceDpIdeal.main_arg0) = m ((c.tc : Thread Cert.ReferenceDpIdeal.nD Cert.ReferenceDpIdeal.τ).loc Cert.ReferenceDpIdeal.main_arg0)
      ∧ r.2.mem ((c.tc : Thread Cert.ReferenceDpIdeal.nD Cert.ReferenceDpIdeal.τ).loc Cert.ReferenceDpIdeal.main_arg1) = m ((c.tc : Thread Cert.ReferenceDpIdeal.nD Cert.ReferenceDpIdeal.τ).loc Cert.ReferenceDpIdeal.main_arg1)
      ∧ r.2.mem ((c.tc : Thread Cert.ReferenceDpIdeal.nD Cert.ReferenceDpIdeal.τ).loc Cert.ReferenceDpIdeal.main_arg2) = m ((c.tc : Thread Cert.ReferenceDpIdeal.nD Cert.ReferenceDpIdeal.τ).loc Cert.ReferenceDpIdeal.main_arg2)
      ∧ r.2.mem ((c.tc : Thread Cert.ReferenceDpIdeal.nD Cert.ReferenceDpIdeal.τ).loc Cert.ReferenceDpIdeal.main_arg3) = m ((c.tc : Thread Cert.ReferenceDpIdeal.nD Cert.ReferenceDpIdeal.τ).loc Cert.ReferenceDpIdeal.main_arg3)
      ∧ r.2.mem ((c.tc : Thread Cert.ReferenceDpIdeal.nD Cert.ReferenceDpIdeal.τ).loc Cert.ReferenceDpIdeal.main_arg4) = m ((c.tc : Thread Cert.ReferenceDpIdeal.nD Cert.ReferenceDpIdeal.τ).loc Cert.ReferenceDpIdeal.main_arg4)
      ∧ r.2.mem ((c.tc : Thread Cert.ReferenceDpIdeal.nD Cert.ReferenceDpIdeal.τ).loc Cert.ReferenceDpIdeal.main_arg5) = m ((c.tc : Thread Cert.ReferenceDpIdeal.nD Cert.ReferenceDpIdeal.τ).loc Cert.ReferenceDpIdeal.main_arg5))
      ∧ r.2.sem = fun _ => 0)

def quiescent_KernelPm [hKernelPm : Cert.KernelPm.Facts] : Prop :=
  ∀ (m : (ℓ : Loc Cert.KernelPm.nD Cert.KernelPm.τ Cert.KernelPm.sig) → Buf (Elt Bits) ℓ) (g : Dev Cert.KernelPm.nD → PrngReg), Pre_KernelPm m →
    θ_run (Cert.KernelPm.defs (F := Bits)) (onTc (τ := Cert.KernelPm.τ) (Cert.KernelPm.main (F := Bits))) ⟨m, fun _ => 0, g⟩ (fun r => (∀ c : Dev Cert.KernelPm.nD,
      r.2.mem ((c.tc : Thread Cert.KernelPm.nD Cert.KernelPm.τ).loc Cert.KernelPm.main_arg0) = m ((c.tc : Thread Cert.KernelPm.nD Cert.KernelPm.τ).loc Cert.KernelPm.main_arg0)
      ∧ r.2.mem ((c.tc : Thread Cert.KernelPm.nD Cert.KernelPm.τ).loc Cert.KernelPm.main_arg1) = m ((c.tc : Thread Cert.KernelPm.nD Cert.KernelPm.τ).loc Cert.KernelPm.main_arg1)
      ∧ r.2.mem ((c.tc : Thread Cert.KernelPm.nD Cert.KernelPm.τ).loc Cert.KernelPm.main_arg2) = m ((c.tc : Thread Cert.KernelPm.nD Cert.KernelPm.τ).loc Cert.KernelPm.main_arg2)
      ∧ r.2.mem ((c.tc : Thread Cert.KernelPm.nD Cert.KernelPm.τ).loc Cert.KernelPm.main_arg3) = m ((c.tc : Thread Cert.KernelPm.nD Cert.KernelPm.τ).loc Cert.KernelPm.main_arg3))
      ∧ r.2.sem = fun _ => 0)

def quiescent_KernelPmIdeal [hKernelPmIdeal : Cert.KernelPmIdeal.Facts] : Prop :=
  ∀ (m : (ℓ : Loc Cert.KernelPmIdeal.nD Cert.KernelPmIdeal.τ Cert.KernelPmIdeal.sig) → Buf (Elt Ideal) ℓ) (g : Dev Cert.KernelPmIdeal.nD → PrngReg), Pre_KernelPmIdeal m →
    θ_run (Cert.KernelPmIdeal.defs (F := Ideal)) (onTc (τ := Cert.KernelPmIdeal.τ) (Cert.KernelPmIdeal.main (F := Ideal))) ⟨m, fun _ => 0, g⟩ (fun r => (∀ c : Dev Cert.KernelPmIdeal.nD,
      r.2.mem ((c.tc : Thread Cert.KernelPmIdeal.nD Cert.KernelPmIdeal.τ).loc Cert.KernelPmIdeal.main_arg0) = m ((c.tc : Thread Cert.KernelPmIdeal.nD Cert.KernelPmIdeal.τ).loc Cert.KernelPmIdeal.main_arg0)
      ∧ r.2.mem ((c.tc : Thread Cert.KernelPmIdeal.nD Cert.KernelPmIdeal.τ).loc Cert.KernelPmIdeal.main_arg1) = m ((c.tc : Thread Cert.KernelPmIdeal.nD Cert.KernelPmIdeal.τ).loc Cert.KernelPmIdeal.main_arg1)
      ∧ r.2.mem ((c.tc : Thread Cert.KernelPmIdeal.nD Cert.KernelPmIdeal.τ).loc Cert.KernelPmIdeal.main_arg2) = m ((c.tc : Thread Cert.KernelPmIdeal.nD Cert.KernelPmIdeal.τ).loc Cert.KernelPmIdeal.main_arg2)
      ∧ r.2.mem ((c.tc : Thread Cert.KernelPmIdeal.nD Cert.KernelPmIdeal.τ).loc Cert.KernelPmIdeal.main_arg3) = m ((c.tc : Thread Cert.KernelPmIdeal.nD Cert.KernelPmIdeal.τ).loc Cert.KernelPmIdeal.main_arg3))
      ∧ r.2.sem = fun _ => 0)

def quiescent_KernelPmIdeal_pre_finite_pm [hKernelPmIdeal : Cert.KernelPmIdeal.Facts] [hPre_finite_pm : Cert.Pre_finite_pm.Facts] : Prop :=
  ∀ (m : (ℓ : Loc Cert.KernelPmIdeal.nD Cert.KernelPmIdeal.τ Cert.KernelPmIdeal.sig) → Buf (Elt Ideal) ℓ) (g : Dev Cert.KernelPmIdeal.nD → PrngReg), Pre_KernelPmIdeal_finite_pm m →
    θ_run (Cert.KernelPmIdeal.defs (F := Ideal)) (onTc (τ := Cert.KernelPmIdeal.τ) (Cert.KernelPmIdeal.main (F := Ideal))) ⟨m, fun _ => 0, g⟩ (fun r => (∀ c : Dev Cert.KernelPmIdeal.nD,
      r.2.mem ((c.tc : Thread Cert.KernelPmIdeal.nD Cert.KernelPmIdeal.τ).loc Cert.KernelPmIdeal.main_arg0) = m ((c.tc : Thread Cert.KernelPmIdeal.nD Cert.KernelPmIdeal.τ).loc Cert.KernelPmIdeal.main_arg0)
      ∧ r.2.mem ((c.tc : Thread Cert.KernelPmIdeal.nD Cert.KernelPmIdeal.τ).loc Cert.KernelPmIdeal.main_arg1) = m ((c.tc : Thread Cert.KernelPmIdeal.nD Cert.KernelPmIdeal.τ).loc Cert.KernelPmIdeal.main_arg1)
      ∧ r.2.mem ((c.tc : Thread Cert.KernelPmIdeal.nD Cert.KernelPmIdeal.τ).loc Cert.KernelPmIdeal.main_arg2) = m ((c.tc : Thread Cert.KernelPmIdeal.nD Cert.KernelPmIdeal.τ).loc Cert.KernelPmIdeal.main_arg2)
      ∧ r.2.mem ((c.tc : Thread Cert.KernelPmIdeal.nD Cert.KernelPmIdeal.τ).loc Cert.KernelPmIdeal.main_arg3) = m ((c.tc : Thread Cert.KernelPmIdeal.nD Cert.KernelPmIdeal.τ).loc Cert.KernelPmIdeal.main_arg3))
      ∧ r.2.sem = fun _ => 0)

def quiescent_ReferencePmIdeal [hReferencePmIdeal : Cert.ReferencePmIdeal.Facts] : Prop :=
  ∀ (m : (ℓ : Loc Cert.ReferencePmIdeal.nD Cert.ReferencePmIdeal.τ Cert.ReferencePmIdeal.sig) → Buf (Elt Ideal) ℓ) (g : Dev Cert.ReferencePmIdeal.nD → PrngReg), Pre_ReferencePmIdeal m →
    θ_run (Cert.ReferencePmIdeal.defs (F := Ideal)) (onTc (τ := Cert.ReferencePmIdeal.τ) (Cert.ReferencePmIdeal.main (F := Ideal))) ⟨m, fun _ => 0, g⟩ (fun r => (∀ c : Dev Cert.ReferencePmIdeal.nD,
      r.2.mem ((c.tc : Thread Cert.ReferencePmIdeal.nD Cert.ReferencePmIdeal.τ).loc Cert.ReferencePmIdeal.main_arg0) = m ((c.tc : Thread Cert.ReferencePmIdeal.nD Cert.ReferencePmIdeal.τ).loc Cert.ReferencePmIdeal.main_arg0)
      ∧ r.2.mem ((c.tc : Thread Cert.ReferencePmIdeal.nD Cert.ReferencePmIdeal.τ).loc Cert.ReferencePmIdeal.main_arg1) = m ((c.tc : Thread Cert.ReferencePmIdeal.nD Cert.ReferencePmIdeal.τ).loc Cert.ReferencePmIdeal.main_arg1)
      ∧ r.2.mem ((c.tc : Thread Cert.ReferencePmIdeal.nD Cert.ReferencePmIdeal.τ).loc Cert.ReferencePmIdeal.main_arg2) = m ((c.tc : Thread Cert.ReferencePmIdeal.nD Cert.ReferencePmIdeal.τ).loc Cert.ReferencePmIdeal.main_arg2)
      ∧ r.2.mem ((c.tc : Thread Cert.ReferencePmIdeal.nD Cert.ReferencePmIdeal.τ).loc Cert.ReferencePmIdeal.main_arg3) = m ((c.tc : Thread Cert.ReferencePmIdeal.nD Cert.ReferencePmIdeal.τ).loc Cert.ReferencePmIdeal.main_arg3))
      ∧ r.2.sem = fun _ => 0)

def quiescent_ReferencePmIdeal_pre_finite_pm [hReferencePmIdeal : Cert.ReferencePmIdeal.Facts] [hPre_finite_pm : Cert.Pre_finite_pm.Facts] : Prop :=
  ∀ (m : (ℓ : Loc Cert.ReferencePmIdeal.nD Cert.ReferencePmIdeal.τ Cert.ReferencePmIdeal.sig) → Buf (Elt Ideal) ℓ) (g : Dev Cert.ReferencePmIdeal.nD → PrngReg), Pre_ReferencePmIdeal_finite_pm m →
    θ_run (Cert.ReferencePmIdeal.defs (F := Ideal)) (onTc (τ := Cert.ReferencePmIdeal.τ) (Cert.ReferencePmIdeal.main (F := Ideal))) ⟨m, fun _ => 0, g⟩ (fun r => (∀ c : Dev Cert.ReferencePmIdeal.nD,
      r.2.mem ((c.tc : Thread Cert.ReferencePmIdeal.nD Cert.ReferencePmIdeal.τ).loc Cert.ReferencePmIdeal.main_arg0) = m ((c.tc : Thread Cert.ReferencePmIdeal.nD Cert.ReferencePmIdeal.τ).loc Cert.ReferencePmIdeal.main_arg0)
      ∧ r.2.mem ((c.tc : Thread Cert.ReferencePmIdeal.nD Cert.ReferencePmIdeal.τ).loc Cert.ReferencePmIdeal.main_arg1) = m ((c.tc : Thread Cert.ReferencePmIdeal.nD Cert.ReferencePmIdeal.τ).loc Cert.ReferencePmIdeal.main_arg1)
      ∧ r.2.mem ((c.tc : Thread Cert.ReferencePmIdeal.nD Cert.ReferencePmIdeal.τ).loc Cert.ReferencePmIdeal.main_arg2) = m ((c.tc : Thread Cert.ReferencePmIdeal.nD Cert.ReferencePmIdeal.τ).loc Cert.ReferencePmIdeal.main_arg2)
      ∧ r.2.mem ((c.tc : Thread Cert.ReferencePmIdeal.nD Cert.ReferencePmIdeal.τ).loc Cert.ReferencePmIdeal.main_arg3) = m ((c.tc : Thread Cert.ReferencePmIdeal.nD Cert.ReferencePmIdeal.τ).loc Cert.ReferencePmIdeal.main_arg3))
      ∧ r.2.sem = fun _ => 0)

def quiescent_KernelMo [hKernelMo : Cert.KernelMo.Facts] : Prop :=
  ∀ (m : (ℓ : Loc Cert.KernelMo.nD Cert.KernelMo.τ Cert.KernelMo.sig) → Buf (Elt Bits) ℓ) (g : Dev Cert.KernelMo.nD → PrngReg), Pre_KernelMo m →
    θ_run (Cert.KernelMo.defs (F := Bits)) (onTc (τ := Cert.KernelMo.τ) (Cert.KernelMo.main (F := Bits))) ⟨m, fun _ => 0, g⟩ (fun r => (∀ c : Dev Cert.KernelMo.nD,
      r.2.mem ((c.tc : Thread Cert.KernelMo.nD Cert.KernelMo.τ).loc Cert.KernelMo.main_arg0) = m ((c.tc : Thread Cert.KernelMo.nD Cert.KernelMo.τ).loc Cert.KernelMo.main_arg0)
      ∧ r.2.mem ((c.tc : Thread Cert.KernelMo.nD Cert.KernelMo.τ).loc Cert.KernelMo.main_arg1) = m ((c.tc : Thread Cert.KernelMo.nD Cert.KernelMo.τ).loc Cert.KernelMo.main_arg1)
      ∧ r.2.mem ((c.tc : Thread Cert.KernelMo.nD Cert.KernelMo.τ).loc Cert.KernelMo.main_arg2) = m ((c.tc : Thread Cert.KernelMo.nD Cert.KernelMo.τ).loc Cert.KernelMo.main_arg2)
      ∧ r.2.mem ((c.tc : Thread Cert.KernelMo.nD Cert.KernelMo.τ).loc Cert.KernelMo.main_arg3) = m ((c.tc : Thread Cert.KernelMo.nD Cert.KernelMo.τ).loc Cert.KernelMo.main_arg3)
      ∧ r.2.mem ((c.tc : Thread Cert.KernelMo.nD Cert.KernelMo.τ).loc Cert.KernelMo.main_arg4) = m ((c.tc : Thread Cert.KernelMo.nD Cert.KernelMo.τ).loc Cert.KernelMo.main_arg4)
      ∧ r.2.mem ((c.tc : Thread Cert.KernelMo.nD Cert.KernelMo.τ).loc Cert.KernelMo.main_arg5) = m ((c.tc : Thread Cert.KernelMo.nD Cert.KernelMo.τ).loc Cert.KernelMo.main_arg5))
      ∧ r.2.sem = fun _ => 0)

def quiescent_KernelMoIdeal [hKernelMoIdeal : Cert.KernelMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg), Pre_KernelMoIdeal m →
    θ_run (Cert.KernelMoIdeal.defs (F := Ideal)) (onTc (τ := Cert.KernelMoIdeal.τ) (Cert.KernelMoIdeal.main (F := Ideal))) ⟨m, fun _ => 0, g⟩ (fun r => (∀ c : Dev Cert.KernelMoIdeal.nD,
      r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
      ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
      ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
      ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3)
      ∧ r.2.mem ((c.tc : Thread Cert.KernelMoIdeal.nD Cert.KernelMoIdeal.τ).loc Cert.KernelMoIdeal.main_arg4) = m ((c.tc : Thread Cert.KernelMoIdeal.nD Cert.KernelMoIdeal.τ).loc Cert.KernelMoIdeal.main_arg4)
      ∧ r.2.mem ((c.tc : Thread Cert.KernelMoIdeal.nD Cert.KernelMoIdeal.τ).loc Cert.KernelMoIdeal.main_arg5) = m ((c.tc : Thread Cert.KernelMoIdeal.nD Cert.KernelMoIdeal.τ).loc Cert.KernelMoIdeal.main_arg5))
      ∧ r.2.sem = fun _ => 0)

def quiescent_ReferenceMoIdeal [hReferenceMoIdeal : Cert.ReferenceMoIdeal.Facts] : Prop :=
  ∀ (m : (ℓ : Loc Cert.ReferenceMoIdeal.nD Cert.ReferenceMoIdeal.τ Cert.ReferenceMoIdeal.sig) → Buf (Elt Ideal) ℓ) (g : Dev Cert.ReferenceMoIdeal.nD → PrngReg), Pre_ReferenceMoIdeal m →
    θ_run (Cert.ReferenceMoIdeal.defs (F := Ideal)) (onTc (τ := Cert.ReferenceMoIdeal.τ) (Cert.ReferenceMoIdeal.main (F := Ideal))) ⟨m, fun _ => 0, g⟩ (fun r => (∀ c : Dev Cert.ReferenceMoIdeal.nD,
      r.2.mem ((c.tc : Thread Cert.ReferenceMoIdeal.nD Cert.ReferenceMoIdeal.τ).loc Cert.ReferenceMoIdeal.main_arg0) = m ((c.tc : Thread Cert.ReferenceMoIdeal.nD Cert.ReferenceMoIdeal.τ).loc Cert.ReferenceMoIdeal.main_arg0)
      ∧ r.2.mem ((c.tc : Thread Cert.ReferenceMoIdeal.nD Cert.ReferenceMoIdeal.τ).loc Cert.ReferenceMoIdeal.main_arg1) = m ((c.tc : Thread Cert.ReferenceMoIdeal.nD Cert.ReferenceMoIdeal.τ).loc Cert.ReferenceMoIdeal.main_arg1)
      ∧ r.2.mem ((c.tc : Thread Cert.ReferenceMoIdeal.nD Cert.ReferenceMoIdeal.τ).loc Cert.ReferenceMoIdeal.main_arg2) = m ((c.tc : Thread Cert.ReferenceMoIdeal.nD Cert.ReferenceMoIdeal.τ).loc Cert.ReferenceMoIdeal.main_arg2)
      ∧ r.2.mem ((c.tc : Thread Cert.ReferenceMoIdeal.nD Cert.ReferenceMoIdeal.τ).loc Cert.ReferenceMoIdeal.main_arg3) = m ((c.tc : Thread Cert.ReferenceMoIdeal.nD Cert.ReferenceMoIdeal.τ).loc Cert.ReferenceMoIdeal.main_arg3)
      ∧ r.2.mem ((c.tc : Thread Cert.ReferenceMoIdeal.nD Cert.ReferenceMoIdeal.τ).loc Cert.ReferenceMoIdeal.main_arg4) = m ((c.tc : Thread Cert.ReferenceMoIdeal.nD Cert.ReferenceMoIdeal.τ).loc Cert.ReferenceMoIdeal.main_arg4)
      ∧ r.2.mem ((c.tc : Thread Cert.ReferenceMoIdeal.nD Cert.ReferenceMoIdeal.τ).loc Cert.ReferenceMoIdeal.main_arg5) = m ((c.tc : Thread Cert.ReferenceMoIdeal.nD Cert.ReferenceMoIdeal.τ).loc Cert.ReferenceMoIdeal.main_arg5))
      ∧ r.2.sem = fun _ => 0)

def quiescent_KernelPr [hKernelPr : Cert.KernelPr.Facts] : Prop :=
  ∀ (m : (ℓ : Loc Cert.KernelPr.nD Cert.KernelPr.τ Cert.KernelPr.sig) → Buf (Elt Bits) ℓ) (g : Dev Cert.KernelPr.nD → PrngReg), Pre_KernelPr m →
    θ_run (Cert.KernelPr.defs (F := Bits)) (onTc (τ := Cert.KernelPr.τ) (Cert.KernelPr.main (F := Bits))) ⟨m, fun _ => 0, g⟩ (fun r => (∀ c : Dev Cert.KernelPr.nD,
      r.2.mem ((c.tc : Thread Cert.KernelPr.nD Cert.KernelPr.τ).loc Cert.KernelPr.main_arg0) = m ((c.tc : Thread Cert.KernelPr.nD Cert.KernelPr.τ).loc Cert.KernelPr.main_arg0)
      ∧ r.2.mem ((c.tc : Thread Cert.KernelPr.nD Cert.KernelPr.τ).loc Cert.KernelPr.main_arg1) = m ((c.tc : Thread Cert.KernelPr.nD Cert.KernelPr.τ).loc Cert.KernelPr.main_arg1)
      ∧ r.2.mem ((c.tc : Thread Cert.KernelPr.nD Cert.KernelPr.τ).loc Cert.KernelPr.main_arg2) = m ((c.tc : Thread Cert.KernelPr.nD Cert.KernelPr.τ).loc Cert.KernelPr.main_arg2))
      ∧ r.2.sem = fun _ => 0)

def quiescent_KernelPrIdeal [hKernelPrIdeal : Cert.KernelPrIdeal.Facts] : Prop :=
  ∀ (m : (ℓ : Loc Cert.KernelPrIdeal.nD Cert.KernelPrIdeal.τ Cert.KernelPrIdeal.sig) → Buf (Elt Ideal) ℓ) (g : Dev Cert.KernelPrIdeal.nD → PrngReg), Pre_KernelPrIdeal m →
    θ_run (Cert.KernelPrIdeal.defs (F := Ideal)) (onTc (τ := Cert.KernelPrIdeal.τ) (Cert.KernelPrIdeal.main (F := Ideal))) ⟨m, fun _ => 0, g⟩ (fun r => (∀ c : Dev Cert.KernelPrIdeal.nD,
      r.2.mem ((c.tc : Thread Cert.KernelPrIdeal.nD Cert.KernelPrIdeal.τ).loc Cert.KernelPrIdeal.main_arg0) = m ((c.tc : Thread Cert.KernelPrIdeal.nD Cert.KernelPrIdeal.τ).loc Cert.KernelPrIdeal.main_arg0)
      ∧ r.2.mem ((c.tc : Thread Cert.KernelPrIdeal.nD Cert.KernelPrIdeal.τ).loc Cert.KernelPrIdeal.main_arg1) = m ((c.tc : Thread Cert.KernelPrIdeal.nD Cert.KernelPrIdeal.τ).loc Cert.KernelPrIdeal.main_arg1)
      ∧ r.2.mem ((c.tc : Thread Cert.KernelPrIdeal.nD Cert.KernelPrIdeal.τ).loc Cert.KernelPrIdeal.main_arg2) = m ((c.tc : Thread Cert.KernelPrIdeal.nD Cert.KernelPrIdeal.τ).loc Cert.KernelPrIdeal.main_arg2))
      ∧ r.2.sem = fun _ => 0)

def quiescent_ReferencePrIdeal [hReferencePrIdeal : Cert.ReferencePrIdeal.Facts] : Prop :=
  ∀ (m : (ℓ : Loc Cert.ReferencePrIdeal.nD Cert.ReferencePrIdeal.τ Cert.ReferencePrIdeal.sig) → Buf (Elt Ideal) ℓ) (g : Dev Cert.ReferencePrIdeal.nD → PrngReg), Pre_ReferencePrIdeal m →
    θ_run (Cert.ReferencePrIdeal.defs (F := Ideal)) (onTc (τ := Cert.ReferencePrIdeal.τ) (Cert.ReferencePrIdeal.main (F := Ideal))) ⟨m, fun _ => 0, g⟩ (fun r => (∀ c : Dev Cert.ReferencePrIdeal.nD,
      r.2.mem ((c.tc : Thread Cert.ReferencePrIdeal.nD Cert.ReferencePrIdeal.τ).loc Cert.ReferencePrIdeal.main_arg0) = m ((c.tc : Thread Cert.ReferencePrIdeal.nD Cert.ReferencePrIdeal.τ).loc Cert.ReferencePrIdeal.main_arg0)
      ∧ r.2.mem ((c.tc : Thread Cert.ReferencePrIdeal.nD Cert.ReferencePrIdeal.τ).loc Cert.ReferencePrIdeal.main_arg1) = m ((c.tc : Thread Cert.ReferencePrIdeal.nD Cert.ReferencePrIdeal.τ).loc Cert.ReferencePrIdeal.main_arg1)
      ∧ r.2.mem ((c.tc : Thread Cert.ReferencePrIdeal.nD Cert.ReferencePrIdeal.τ).loc Cert.ReferencePrIdeal.main_arg2) = m ((c.tc : Thread Cert.ReferencePrIdeal.nD Cert.ReferencePrIdeal.τ).loc Cert.ReferencePrIdeal.main_arg2))
      ∧ r.2.sem = fun _ => 0)

def preserves_Kernel_KernelIdeal : Prop :=
  True

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v2_0)) (v1 : (c : Dev Cert.KernelUpIdeal.nD) → Buf (Elt Ideal) ((c.tc : Thread Cert.KernelUpIdeal.nD Cert.KernelUpIdeal.τ).loc Cert.KernelUpIdeal.main_v2_1)) (v2 : (c : Dev Cert.KernelUpIdeal.nD) → Buf (Elt Ideal) ((c.tc : Thread Cert.KernelUpIdeal.nD Cert.KernelUpIdeal.τ).loc Cert.KernelUpIdeal.main_v2_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2_0) = v0 c
          ∧ r.2.mem ((c.tc : Thread Cert.KernelUpIdeal.nD Cert.KernelUpIdeal.τ).loc Cert.KernelUpIdeal.main_v2_1) = v1 c
          ∧ r.2.mem ((c.tc : Thread Cert.KernelUpIdeal.nD Cert.KernelUpIdeal.τ).loc Cert.KernelUpIdeal.main_v2_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_v7) = v1 c
          ∧ r.2.mem ((c.tc : Thread Cert.ReferenceUpIdeal.nD Cert.ReferenceUpIdeal.τ).loc Cert.ReferenceUpIdeal.main_v10) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal_pre_finite_down [hKernelDownIdeal : Cert.KernelDownIdeal.Facts] [hReferenceDownIdeal : Cert.ReferenceDownIdeal.Facts] [hPre_finite_down : Cert.Pre_finite_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal_finite_down m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v8_0)) (v1 : (c : Dev Cert.KernelDownIdeal.nD) → Buf (Elt Ideal) ((c.tc : Thread Cert.KernelDownIdeal.nD Cert.KernelDownIdeal.τ).loc Cert.KernelDownIdeal.main_v8_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v8_0) = v0 c
          ∧ r.2.mem ((c.tc : Thread Cert.KernelDownIdeal.nD Cert.KernelDownIdeal.τ).loc Cert.KernelDownIdeal.main_v8_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v15) = v0 c
          ∧ r.2.mem ((c.tc : Thread Cert.ReferenceDownIdeal.nD Cert.ReferenceDownIdeal.τ).loc Cert.ReferenceDownIdeal.main_v16) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelDwd_KernelDwdIdeal : Prop :=
  True

def algebraic_KernelDwdIdeal_ReferenceDwdIdeal [hKernelDwdIdeal : Cert.KernelDwdIdeal.Facts] [hReferenceDwdIdeal : Cert.ReferenceDwdIdeal.Facts] : Prop :=
  ∀ (m : (ℓ : Loc Cert.KernelDwdIdeal.nD Cert.KernelDwdIdeal.τ Cert.KernelDwdIdeal.sig) → Buf (Elt Ideal) ℓ) (g : Dev Cert.KernelDwdIdeal.nD → PrngReg)
    (m' : (ℓ : Loc Cert.ReferenceDwdIdeal.nD Cert.ReferenceDwdIdeal.τ Cert.ReferenceDwdIdeal.sig) → Buf (Elt Ideal) ℓ) (g' : Dev Cert.ReferenceDwdIdeal.nD → PrngReg), Pre_KernelDwdIdeal m →
    (∀ c : Dev Cert.KernelDwdIdeal.nD,
      m' ((c.tc : Thread Cert.ReferenceDwdIdeal.nD Cert.ReferenceDwdIdeal.τ).loc Cert.ReferenceDwdIdeal.main_arg0) = m ((c.tc : Thread Cert.KernelDwdIdeal.nD Cert.KernelDwdIdeal.τ).loc Cert.KernelDwdIdeal.main_arg0)
      ∧ m' ((c.tc : Thread Cert.ReferenceDwdIdeal.nD Cert.ReferenceDwdIdeal.τ).loc Cert.ReferenceDwdIdeal.main_arg1) = m ((c.tc : Thread Cert.KernelDwdIdeal.nD Cert.KernelDwdIdeal.τ).loc Cert.KernelDwdIdeal.main_arg1)
      ∧ m' ((c.tc : Thread Cert.ReferenceDwdIdeal.nD Cert.ReferenceDwdIdeal.τ).loc Cert.ReferenceDwdIdeal.main_arg2) = m ((c.tc : Thread Cert.KernelDwdIdeal.nD Cert.KernelDwdIdeal.τ).loc Cert.KernelDwdIdeal.main_arg2)
      ∧ m' ((c.tc : Thread Cert.ReferenceDwdIdeal.nD Cert.ReferenceDwdIdeal.τ).loc Cert.ReferenceDwdIdeal.main_arg3) = m ((c.tc : Thread Cert.KernelDwdIdeal.nD Cert.KernelDwdIdeal.τ).loc Cert.KernelDwdIdeal.main_arg3)) →
    ∃ (v0 : (c : Dev Cert.KernelDwdIdeal.nD) → Buf (Elt Ideal) ((c.tc : Thread Cert.KernelDwdIdeal.nD Cert.KernelDwdIdeal.τ).loc Cert.KernelDwdIdeal.main_v9)),
      θ_run (Cert.KernelDwdIdeal.defs (F := Ideal)) (onTc (τ := Cert.KernelDwdIdeal.τ) (Cert.KernelDwdIdeal.main (F := Ideal))) ⟨m, fun _ => 0, g⟩ (fun r => ∀ c : Dev Cert.KernelDwdIdeal.nD,
          r.2.mem ((c.tc : Thread Cert.KernelDwdIdeal.nD Cert.KernelDwdIdeal.τ).loc Cert.KernelDwdIdeal.main_v9) = v0 c
          ∧ r.2.mem ((c.tc : Thread Cert.KernelDwdIdeal.nD Cert.KernelDwdIdeal.τ).loc Cert.KernelDwdIdeal.main_arg0) = m ((c.tc : Thread Cert.KernelDwdIdeal.nD Cert.KernelDwdIdeal.τ).loc Cert.KernelDwdIdeal.main_arg0)
          ∧ r.2.mem ((c.tc : Thread Cert.KernelDwdIdeal.nD Cert.KernelDwdIdeal.τ).loc Cert.KernelDwdIdeal.main_arg1) = m ((c.tc : Thread Cert.KernelDwdIdeal.nD Cert.KernelDwdIdeal.τ).loc Cert.KernelDwdIdeal.main_arg1)
          ∧ r.2.mem ((c.tc : Thread Cert.KernelDwdIdeal.nD Cert.KernelDwdIdeal.τ).loc Cert.KernelDwdIdeal.main_arg2) = m ((c.tc : Thread Cert.KernelDwdIdeal.nD Cert.KernelDwdIdeal.τ).loc Cert.KernelDwdIdeal.main_arg2)
          ∧ r.2.mem ((c.tc : Thread Cert.KernelDwdIdeal.nD Cert.KernelDwdIdeal.τ).loc Cert.KernelDwdIdeal.main_arg3) = m ((c.tc : Thread Cert.KernelDwdIdeal.nD Cert.KernelDwdIdeal.τ).loc Cert.KernelDwdIdeal.main_arg3))
      ∧ θ_run (Cert.ReferenceDwdIdeal.defs (F := Ideal)) (onTc (τ := Cert.ReferenceDwdIdeal.τ) (Cert.ReferenceDwdIdeal.main (F := Ideal))) ⟨m', fun _ => 0, g'⟩ (fun r => ∀ c : Dev Cert.ReferenceDwdIdeal.nD,
          r.2.mem ((c.tc : Thread Cert.ReferenceDwdIdeal.nD Cert.ReferenceDwdIdeal.τ).loc Cert.ReferenceDwdIdeal.main_v14) = v0 c
          ∧ r.2.mem ((c.tc : Thread Cert.ReferenceDwdIdeal.nD Cert.ReferenceDwdIdeal.τ).loc Cert.ReferenceDwdIdeal.main_arg0) = m' ((c.tc : Thread Cert.ReferenceDwdIdeal.nD Cert.ReferenceDwdIdeal.τ).loc Cert.ReferenceDwdIdeal.main_arg0)
          ∧ r.2.mem ((c.tc : Thread Cert.ReferenceDwdIdeal.nD Cert.ReferenceDwdIdeal.τ).loc Cert.ReferenceDwdIdeal.main_arg1) = m' ((c.tc : Thread Cert.ReferenceDwdIdeal.nD Cert.ReferenceDwdIdeal.τ).loc Cert.ReferenceDwdIdeal.main_arg1)
          ∧ r.2.mem ((c.tc : Thread Cert.ReferenceDwdIdeal.nD Cert.ReferenceDwdIdeal.τ).loc Cert.ReferenceDwdIdeal.main_arg2) = m' ((c.tc : Thread Cert.ReferenceDwdIdeal.nD Cert.ReferenceDwdIdeal.τ).loc Cert.ReferenceDwdIdeal.main_arg2)
          ∧ r.2.mem ((c.tc : Thread Cert.ReferenceDwdIdeal.nD Cert.ReferenceDwdIdeal.τ).loc Cert.ReferenceDwdIdeal.main_arg3) = m' ((c.tc : Thread Cert.ReferenceDwdIdeal.nD Cert.ReferenceDwdIdeal.τ).loc Cert.ReferenceDwdIdeal.main_arg3))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v8) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)
      ∧ m' ((c.tc : Thread Cert.ReferenceDwoIdeal.nD Cert.ReferenceDwoIdeal.τ).loc Cert.ReferenceDwoIdeal.main_arg2) = m ((c.tc : Thread Cert.KernelDwoIdeal.nD Cert.KernelDwoIdeal.τ).loc Cert.KernelDwoIdeal.main_arg2)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1)
          ∧ r.2.mem ((c.tc : Thread Cert.KernelDwoIdeal.nD Cert.KernelDwoIdeal.τ).loc Cert.KernelDwoIdeal.main_arg2) = m ((c.tc : Thread Cert.KernelDwoIdeal.nD Cert.KernelDwoIdeal.τ).loc Cert.KernelDwoIdeal.main_arg2))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v7) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1)
          ∧ r.2.mem ((c.tc : Thread Cert.ReferenceDwoIdeal.nD Cert.ReferenceDwoIdeal.τ).loc Cert.ReferenceDwoIdeal.main_arg2) = m' ((c.tc : Thread Cert.ReferenceDwoIdeal.nD Cert.ReferenceDwoIdeal.τ).loc Cert.ReferenceDwoIdeal.main_arg2))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)
      ∧ m' ((c.tc : Thread Cert.ReferenceDwinIdeal.nD Cert.ReferenceDwinIdeal.τ).loc Cert.ReferenceDwinIdeal.main_arg2) = m ((c.tc : Thread Cert.KernelDwinIdeal.nD Cert.KernelDwinIdeal.τ).loc Cert.KernelDwinIdeal.main_arg2)
      ∧ m' ((c.tc : Thread Cert.ReferenceDwinIdeal.nD Cert.ReferenceDwinIdeal.τ).loc Cert.ReferenceDwinIdeal.main_arg3) = m ((c.tc : Thread Cert.KernelDwinIdeal.nD Cert.KernelDwinIdeal.τ).loc Cert.KernelDwinIdeal.main_arg3)
      ∧ m' ((c.tc : Thread Cert.ReferenceDwinIdeal.nD Cert.ReferenceDwinIdeal.τ).loc Cert.ReferenceDwinIdeal.main_arg4) = m ((c.tc : Thread Cert.KernelDwinIdeal.nD Cert.KernelDwinIdeal.τ).loc Cert.KernelDwinIdeal.main_arg4)
      ∧ m' ((c.tc : Thread Cert.ReferenceDwinIdeal.nD Cert.ReferenceDwinIdeal.τ).loc Cert.ReferenceDwinIdeal.main_arg5) = m ((c.tc : Thread Cert.KernelDwinIdeal.nD Cert.KernelDwinIdeal.τ).loc Cert.KernelDwinIdeal.main_arg5)
      ∧ m' ((c.tc : Thread Cert.ReferenceDwinIdeal.nD Cert.ReferenceDwinIdeal.τ).loc Cert.ReferenceDwinIdeal.main_arg6) = m ((c.tc : Thread Cert.KernelDwinIdeal.nD Cert.KernelDwinIdeal.τ).loc Cert.KernelDwinIdeal.main_arg6)
      ∧ m' ((c.tc : Thread Cert.ReferenceDwinIdeal.nD Cert.ReferenceDwinIdeal.τ).loc Cert.ReferenceDwinIdeal.main_arg7) = m ((c.tc : Thread Cert.KernelDwinIdeal.nD Cert.KernelDwinIdeal.τ).loc Cert.KernelDwinIdeal.main_arg7)) →
    ∃ (v0 : (c : Dev Cert.KernelDwinIdeal.nD) → Buf (Elt Ideal) ((c.tc : Thread Cert.KernelDwinIdeal.nD Cert.KernelDwinIdeal.τ).loc Cert.KernelDwinIdeal.main_v1)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v1) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
          ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2)
          ∧ r.2.mem ((c.tc : Thread Cert.KernelDwinIdeal.nD Cert.KernelDwinIdeal.τ).loc Cert.KernelDwinIdeal.main_arg3) = m ((c.tc : Thread Cert.KernelDwinIdeal.nD Cert.KernelDwinIdeal.τ).loc Cert.KernelDwinIdeal.main_arg3)
          ∧ r.2.mem ((c.tc : Thread Cert.KernelDwinIdeal.nD Cert.KernelDwinIdeal.τ).loc Cert.KernelDwinIdeal.main_arg4) = m ((c.tc : Thread Cert.KernelDwinIdeal.nD Cert.KernelDwinIdeal.τ).loc Cert.KernelDwinIdeal.main_arg4)
          ∧ r.2.mem ((c.tc : Thread Cert.KernelDwinIdeal.nD Cert.KernelDwinIdeal.τ).loc Cert.KernelDwinIdeal.main_arg5) = m ((c.tc : Thread Cert.KernelDwinIdeal.nD Cert.KernelDwinIdeal.τ).loc Cert.KernelDwinIdeal.main_arg5)
          ∧ r.2.mem ((c.tc : Thread Cert.KernelDwinIdeal.nD Cert.KernelDwinIdeal.τ).loc Cert.KernelDwinIdeal.main_arg6) = m ((c.tc : Thread Cert.KernelDwinIdeal.nD Cert.KernelDwinIdeal.τ).loc Cert.KernelDwinIdeal.main_arg6)
          ∧ r.2.mem ((c.tc : Thread Cert.KernelDwinIdeal.nD Cert.KernelDwinIdeal.τ).loc Cert.KernelDwinIdeal.main_arg7) = m ((c.tc : Thread Cert.KernelDwinIdeal.nD Cert.KernelDwinIdeal.τ).loc Cert.KernelDwinIdeal.main_arg7))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v8) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1)
          ∧ r.2.mem ((c.tc : Thread Cert.ReferenceDwinIdeal.nD Cert.ReferenceDwinIdeal.τ).loc Cert.ReferenceDwinIdeal.main_arg2) = m' ((c.tc : Thread Cert.ReferenceDwinIdeal.nD Cert.ReferenceDwinIdeal.τ).loc Cert.ReferenceDwinIdeal.main_arg2)
          ∧ r.2.mem ((c.tc : Thread Cert.ReferenceDwinIdeal.nD Cert.ReferenceDwinIdeal.τ).loc Cert.ReferenceDwinIdeal.main_arg3) = m' ((c.tc : Thread Cert.ReferenceDwinIdeal.nD Cert.ReferenceDwinIdeal.τ).loc Cert.ReferenceDwinIdeal.main_arg3)
          ∧ r.2.mem ((c.tc : Thread Cert.ReferenceDwinIdeal.nD Cert.ReferenceDwinIdeal.τ).loc Cert.ReferenceDwinIdeal.main_arg4) = m' ((c.tc : Thread Cert.ReferenceDwinIdeal.nD Cert.ReferenceDwinIdeal.τ).loc Cert.ReferenceDwinIdeal.main_arg4)
          ∧ r.2.mem ((c.tc : Thread Cert.ReferenceDwinIdeal.nD Cert.ReferenceDwinIdeal.τ).loc Cert.ReferenceDwinIdeal.main_arg5) = m' ((c.tc : Thread Cert.ReferenceDwinIdeal.nD Cert.ReferenceDwinIdeal.τ).loc Cert.ReferenceDwinIdeal.main_arg5)
          ∧ r.2.mem ((c.tc : Thread Cert.ReferenceDwinIdeal.nD Cert.ReferenceDwinIdeal.τ).loc Cert.ReferenceDwinIdeal.main_arg6) = m' ((c.tc : Thread Cert.ReferenceDwinIdeal.nD Cert.ReferenceDwinIdeal.τ).loc Cert.ReferenceDwinIdeal.main_arg6)
          ∧ r.2.mem ((c.tc : Thread Cert.ReferenceDwinIdeal.nD Cert.ReferenceDwinIdeal.τ).loc Cert.ReferenceDwinIdeal.main_arg7) = m' ((c.tc : Thread Cert.ReferenceDwinIdeal.nD Cert.ReferenceDwinIdeal.τ).loc Cert.ReferenceDwinIdeal.main_arg7))

def preserves_KernelDh_KernelDhIdeal : Prop :=
  True

def algebraic_KernelDhIdeal_ReferenceDhIdeal_pre_finite_dh [hKernelDhIdeal : Cert.KernelDhIdeal.Facts] [hReferenceDhIdeal : Cert.ReferenceDhIdeal.Facts] [hPre_finite_dh : Cert.Pre_finite_dh.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal_finite_dh m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)
      ∧ m' ((c.tc : Thread Cert.ReferenceDhIdeal.nD Cert.ReferenceDhIdeal.τ).loc Cert.ReferenceDhIdeal.main_arg5) = m ((c.tc : Thread Cert.KernelDhIdeal.nD Cert.KernelDhIdeal.τ).loc Cert.KernelDhIdeal.main_arg5)
      ∧ m' ((c.tc : Thread Cert.ReferenceDhIdeal.nD Cert.ReferenceDhIdeal.τ).loc Cert.ReferenceDhIdeal.main_arg6) = m ((c.tc : Thread Cert.KernelDhIdeal.nD Cert.KernelDhIdeal.τ).loc Cert.KernelDhIdeal.main_arg6)
      ∧ m' ((c.tc : Thread Cert.ReferenceDhIdeal.nD Cert.ReferenceDhIdeal.τ).loc Cert.ReferenceDhIdeal.main_arg7) = m ((c.tc : Thread Cert.KernelDhIdeal.nD Cert.KernelDhIdeal.τ).loc Cert.KernelDhIdeal.main_arg7)) →
    ∃ (v0 : (c : Dev Cert.KernelDhIdeal.nD) → Buf (Elt Ideal) ((c.tc : Thread Cert.KernelDhIdeal.nD Cert.KernelDhIdeal.τ).loc Cert.KernelDhIdeal.main_v2_0)) (v1 : (c : Dev Cert.KernelDhIdeal.nD) → Buf (Elt Ideal) ((c.tc : Thread Cert.KernelDhIdeal.nD Cert.KernelDhIdeal.τ).loc Cert.KernelDhIdeal.main_v2_1)) (v2 : (c : Dev Cert.KernelDhIdeal.nD) → Buf (Elt Ideal) ((c.tc : Thread Cert.KernelDhIdeal.nD Cert.KernelDhIdeal.τ).loc Cert.KernelDhIdeal.main_v2_2)) (v3 : (c : Dev Cert.KernelDhIdeal.nD) → Buf (Elt Ideal) ((c.tc : Thread Cert.KernelDhIdeal.nD Cert.KernelDhIdeal.τ).loc Cert.KernelDhIdeal.main_v2_3)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v2_0) = v0 c
          ∧ r.2.mem ((c.tc : Thread Cert.KernelDhIdeal.nD Cert.KernelDhIdeal.τ).loc Cert.KernelDhIdeal.main_v2_1) = v1 c
          ∧ r.2.mem ((c.tc : Thread Cert.KernelDhIdeal.nD Cert.KernelDhIdeal.τ).loc Cert.KernelDhIdeal.main_v2_2) = v2 c
          ∧ r.2.mem ((c.tc : Thread Cert.KernelDhIdeal.nD Cert.KernelDhIdeal.τ).loc Cert.KernelDhIdeal.main_v2_3) = v3 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
          ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
          ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
          ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v69) = v0 c
          ∧ r.2.mem ((c.tc : Thread Cert.ReferenceDhIdeal.nD Cert.ReferenceDhIdeal.τ).loc Cert.ReferenceDhIdeal.main_v53) = v1 c
          ∧ r.2.mem ((c.tc : Thread Cert.ReferenceDhIdeal.nD Cert.ReferenceDhIdeal.τ).loc Cert.ReferenceDhIdeal.main_v44) = v2 c
          ∧ r.2.mem ((c.tc : Thread Cert.ReferenceDhIdeal.nD Cert.ReferenceDhIdeal.τ).loc Cert.ReferenceDhIdeal.main_v41) = v3 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4)
          ∧ r.2.mem ((c.tc : Thread Cert.ReferenceDhIdeal.nD Cert.ReferenceDhIdeal.τ).loc Cert.ReferenceDhIdeal.main_arg5) = m' ((c.tc : Thread Cert.ReferenceDhIdeal.nD Cert.ReferenceDhIdeal.τ).loc Cert.ReferenceDhIdeal.main_arg5)
          ∧ r.2.mem ((c.tc : Thread Cert.ReferenceDhIdeal.nD Cert.ReferenceDhIdeal.τ).loc Cert.ReferenceDhIdeal.main_arg6) = m' ((c.tc : Thread Cert.ReferenceDhIdeal.nD Cert.ReferenceDhIdeal.τ).loc Cert.ReferenceDhIdeal.main_arg6)
          ∧ r.2.mem ((c.tc : Thread Cert.ReferenceDhIdeal.nD Cert.ReferenceDhIdeal.τ).loc Cert.ReferenceDhIdeal.main_arg7) = m' ((c.tc : Thread Cert.ReferenceDhIdeal.nD Cert.ReferenceDhIdeal.τ).loc Cert.ReferenceDhIdeal.main_arg7))

def preserves_KernelPn_KernelPnIdeal : Prop :=
  True

def algebraic_KernelPnIdeal_ReferencePnIdeal_pre_finite_pn [hKernelPnIdeal : Cert.KernelPnIdeal.Facts] [hReferencePnIdeal : Cert.ReferencePnIdeal.Facts] [hPre_finite_pn : Cert.Pre_finite_pn.Facts] : Prop :=
  ∀ (m : (ℓ : Loc Cert.KernelPnIdeal.nD Cert.KernelPnIdeal.τ Cert.KernelPnIdeal.sig) → Buf (Elt Ideal) ℓ) (g : Dev Cert.KernelPnIdeal.nD → PrngReg)
    (m' : (ℓ : Loc Cert.ReferencePnIdeal.nD Cert.ReferencePnIdeal.τ Cert.ReferencePnIdeal.sig) → Buf (Elt Ideal) ℓ) (g' : Dev Cert.ReferencePnIdeal.nD → PrngReg), Pre_KernelPnIdeal_finite_pn m →
    (∀ c : Dev Cert.KernelPnIdeal.nD,
      m' ((c.tc : Thread Cert.ReferencePnIdeal.nD Cert.ReferencePnIdeal.τ).loc Cert.ReferencePnIdeal.main_arg0) = m ((c.tc : Thread Cert.KernelPnIdeal.nD Cert.KernelPnIdeal.τ).loc Cert.KernelPnIdeal.main_arg0)
      ∧ m' ((c.tc : Thread Cert.ReferencePnIdeal.nD Cert.ReferencePnIdeal.τ).loc Cert.ReferencePnIdeal.main_arg1) = m ((c.tc : Thread Cert.KernelPnIdeal.nD Cert.KernelPnIdeal.τ).loc Cert.KernelPnIdeal.main_arg1)
      ∧ m' ((c.tc : Thread Cert.ReferencePnIdeal.nD Cert.ReferencePnIdeal.τ).loc Cert.ReferencePnIdeal.main_arg2) = m ((c.tc : Thread Cert.KernelPnIdeal.nD Cert.KernelPnIdeal.τ).loc Cert.KernelPnIdeal.main_arg2)
      ∧ m' ((c.tc : Thread Cert.ReferencePnIdeal.nD Cert.ReferencePnIdeal.τ).loc Cert.ReferencePnIdeal.main_arg3) = m ((c.tc : Thread Cert.KernelPnIdeal.nD Cert.KernelPnIdeal.τ).loc Cert.KernelPnIdeal.main_arg3)) →
    ∃ (v0 : (c : Dev Cert.KernelPnIdeal.nD) → Buf (Elt Ideal) ((c.tc : Thread Cert.KernelPnIdeal.nD Cert.KernelPnIdeal.τ).loc Cert.KernelPnIdeal.main_v0_0)) (v1 : (c : Dev Cert.KernelPnIdeal.nD) → Buf (Elt Ideal) ((c.tc : Thread Cert.KernelPnIdeal.nD Cert.KernelPnIdeal.τ).loc Cert.KernelPnIdeal.main_v0_1)) (v2 : (c : Dev Cert.KernelPnIdeal.nD) → Buf (Elt Ideal) ((c.tc : Thread Cert.KernelPnIdeal.nD Cert.KernelPnIdeal.τ).loc Cert.KernelPnIdeal.main_v0_2)),
      θ_run (Cert.KernelPnIdeal.defs (F := Ideal)) (onTc (τ := Cert.KernelPnIdeal.τ) (Cert.KernelPnIdeal.main (F := Ideal))) ⟨m, fun _ => 0, g⟩ (fun r => ∀ c : Dev Cert.KernelPnIdeal.nD,
          r.2.mem ((c.tc : Thread Cert.KernelPnIdeal.nD Cert.KernelPnIdeal.τ).loc Cert.KernelPnIdeal.main_v0_0) = v0 c
          ∧ r.2.mem ((c.tc : Thread Cert.KernelPnIdeal.nD Cert.KernelPnIdeal.τ).loc Cert.KernelPnIdeal.main_v0_1) = v1 c
          ∧ r.2.mem ((c.tc : Thread Cert.KernelPnIdeal.nD Cert.KernelPnIdeal.τ).loc Cert.KernelPnIdeal.main_v0_2) = v2 c
          ∧ r.2.mem ((c.tc : Thread Cert.KernelPnIdeal.nD Cert.KernelPnIdeal.τ).loc Cert.KernelPnIdeal.main_arg0) = m ((c.tc : Thread Cert.KernelPnIdeal.nD Cert.KernelPnIdeal.τ).loc Cert.KernelPnIdeal.main_arg0)
          ∧ r.2.mem ((c.tc : Thread Cert.KernelPnIdeal.nD Cert.KernelPnIdeal.τ).loc Cert.KernelPnIdeal.main_arg1) = m ((c.tc : Thread Cert.KernelPnIdeal.nD Cert.KernelPnIdeal.τ).loc Cert.KernelPnIdeal.main_arg1)
          ∧ r.2.mem ((c.tc : Thread Cert.KernelPnIdeal.nD Cert.KernelPnIdeal.τ).loc Cert.KernelPnIdeal.main_arg2) = m ((c.tc : Thread Cert.KernelPnIdeal.nD Cert.KernelPnIdeal.τ).loc Cert.KernelPnIdeal.main_arg2)
          ∧ r.2.mem ((c.tc : Thread Cert.KernelPnIdeal.nD Cert.KernelPnIdeal.τ).loc Cert.KernelPnIdeal.main_arg3) = m ((c.tc : Thread Cert.KernelPnIdeal.nD Cert.KernelPnIdeal.τ).loc Cert.KernelPnIdeal.main_arg3))
      ∧ θ_run (Cert.ReferencePnIdeal.defs (F := Ideal)) (onTc (τ := Cert.ReferencePnIdeal.τ) (Cert.ReferencePnIdeal.main (F := Ideal))) ⟨m', fun _ => 0, g'⟩ (fun r => ∀ c : Dev Cert.ReferencePnIdeal.nD,
          r.2.mem ((c.tc : Thread Cert.ReferencePnIdeal.nD Cert.ReferencePnIdeal.τ).loc Cert.ReferencePnIdeal.main_v56) = v0 c
          ∧ r.2.mem ((c.tc : Thread Cert.ReferencePnIdeal.nD Cert.ReferencePnIdeal.τ).loc Cert.ReferencePnIdeal.main_v38) = v1 c
          ∧ r.2.mem ((c.tc : Thread Cert.ReferencePnIdeal.nD Cert.ReferencePnIdeal.τ).loc Cert.ReferencePnIdeal.main_v55) = v2 c
          ∧ r.2.mem ((c.tc : Thread Cert.ReferencePnIdeal.nD Cert.ReferencePnIdeal.τ).loc Cert.ReferencePnIdeal.main_arg0) = m' ((c.tc : Thread Cert.ReferencePnIdeal.nD Cert.ReferencePnIdeal.τ).loc Cert.ReferencePnIdeal.main_arg0)
          ∧ r.2.mem ((c.tc : Thread Cert.ReferencePnIdeal.nD Cert.ReferencePnIdeal.τ).loc Cert.ReferencePnIdeal.main_arg1) = m' ((c.tc : Thread Cert.ReferencePnIdeal.nD Cert.ReferencePnIdeal.τ).loc Cert.ReferencePnIdeal.main_arg1)
          ∧ r.2.mem ((c.tc : Thread Cert.ReferencePnIdeal.nD Cert.ReferencePnIdeal.τ).loc Cert.ReferencePnIdeal.main_arg2) = m' ((c.tc : Thread Cert.ReferencePnIdeal.nD Cert.ReferencePnIdeal.τ).loc Cert.ReferencePnIdeal.main_arg2)
          ∧ r.2.mem ((c.tc : Thread Cert.ReferencePnIdeal.nD Cert.ReferencePnIdeal.τ).loc Cert.ReferencePnIdeal.main_arg3) = m' ((c.tc : Thread Cert.ReferencePnIdeal.nD Cert.ReferencePnIdeal.τ).loc Cert.ReferencePnIdeal.main_arg3))

def preserves_KernelDn_KernelDnIdeal : Prop :=
  True

def algebraic_KernelDnIdeal_ReferenceDnIdeal_pre_finite_dn [hKernelDnIdeal : Cert.KernelDnIdeal.Facts] [hReferenceDnIdeal : Cert.ReferenceDnIdeal.Facts] [hPre_finite_dn : Cert.Pre_finite_dn.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal_finite_dn m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)
      ∧ m' ((c.tc : Thread Cert.ReferenceDnIdeal.nD Cert.ReferenceDnIdeal.τ).loc Cert.ReferenceDnIdeal.main_arg2) = m ((c.tc : Thread Cert.KernelDnIdeal.nD Cert.KernelDnIdeal.τ).loc Cert.KernelDnIdeal.main_arg2)
      ∧ m' ((c.tc : Thread Cert.ReferenceDnIdeal.nD Cert.ReferenceDnIdeal.τ).loc Cert.ReferenceDnIdeal.main_arg3) = m ((c.tc : Thread Cert.KernelDnIdeal.nD Cert.KernelDnIdeal.τ).loc Cert.KernelDnIdeal.main_arg3)) →
    ∃ (v0 : (c : Dev Cert.KernelDnIdeal.nD) → Buf (Elt Ideal) ((c.tc : Thread Cert.KernelDnIdeal.nD Cert.KernelDnIdeal.τ).loc Cert.KernelDnIdeal.main_v1_0)) (v1 : (c : Dev Cert.KernelDnIdeal.nD) → Buf (Elt Ideal) ((c.tc : Thread Cert.KernelDnIdeal.nD Cert.KernelDnIdeal.τ).loc Cert.KernelDnIdeal.main_v1_1)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v1_0) = v0 c
          ∧ r.2.mem ((c.tc : Thread Cert.KernelDnIdeal.nD Cert.KernelDnIdeal.τ).loc Cert.KernelDnIdeal.main_v1_1) = v1 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
          ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
          ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v37) = v0 c
          ∧ r.2.mem ((c.tc : Thread Cert.ReferenceDnIdeal.nD Cert.ReferenceDnIdeal.τ).loc Cert.ReferenceDnIdeal.main_v21) = v1 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1)
          ∧ r.2.mem ((c.tc : Thread Cert.ReferenceDnIdeal.nD Cert.ReferenceDnIdeal.τ).loc Cert.ReferenceDnIdeal.main_arg2) = m' ((c.tc : Thread Cert.ReferenceDnIdeal.nD Cert.ReferenceDnIdeal.τ).loc Cert.ReferenceDnIdeal.main_arg2)
          ∧ r.2.mem ((c.tc : Thread Cert.ReferenceDnIdeal.nD Cert.ReferenceDnIdeal.τ).loc Cert.ReferenceDnIdeal.main_arg3) = m' ((c.tc : Thread Cert.ReferenceDnIdeal.nD Cert.ReferenceDnIdeal.τ).loc Cert.ReferenceDnIdeal.main_arg3))

def preserves_KernelDp_KernelDpIdeal : Prop :=
  True

def algebraic_KernelDpIdeal_ReferenceDpIdeal [hKernelDpIdeal : Cert.KernelDpIdeal.Facts] [hReferenceDpIdeal : Cert.ReferenceDpIdeal.Facts] : Prop :=
  ∀ (m : (ℓ : Loc Cert.KernelDpIdeal.nD Cert.KernelDpIdeal.τ Cert.KernelDpIdeal.sig) → Buf (Elt Ideal) ℓ) (g : Dev Cert.KernelDpIdeal.nD → PrngReg)
    (m' : (ℓ : Loc Cert.ReferenceDpIdeal.nD Cert.ReferenceDpIdeal.τ Cert.ReferenceDpIdeal.sig) → Buf (Elt Ideal) ℓ) (g' : Dev Cert.ReferenceDpIdeal.nD → PrngReg), Pre_KernelDpIdeal m →
    (∀ c : Dev Cert.KernelDpIdeal.nD,
      m' ((c.tc : Thread Cert.ReferenceDpIdeal.nD Cert.ReferenceDpIdeal.τ).loc Cert.ReferenceDpIdeal.main_arg0) = m ((c.tc : Thread Cert.KernelDpIdeal.nD Cert.KernelDpIdeal.τ).loc Cert.KernelDpIdeal.main_arg0)
      ∧ m' ((c.tc : Thread Cert.ReferenceDpIdeal.nD Cert.ReferenceDpIdeal.τ).loc Cert.ReferenceDpIdeal.main_arg1) = m ((c.tc : Thread Cert.KernelDpIdeal.nD Cert.KernelDpIdeal.τ).loc Cert.KernelDpIdeal.main_arg1)
      ∧ m' ((c.tc : Thread Cert.ReferenceDpIdeal.nD Cert.ReferenceDpIdeal.τ).loc Cert.ReferenceDpIdeal.main_arg2) = m ((c.tc : Thread Cert.KernelDpIdeal.nD Cert.KernelDpIdeal.τ).loc Cert.KernelDpIdeal.main_arg2)
      ∧ m' ((c.tc : Thread Cert.ReferenceDpIdeal.nD Cert.ReferenceDpIdeal.τ).loc Cert.ReferenceDpIdeal.main_arg3) = m ((c.tc : Thread Cert.KernelDpIdeal.nD Cert.KernelDpIdeal.τ).loc Cert.KernelDpIdeal.main_arg3)
      ∧ m' ((c.tc : Thread Cert.ReferenceDpIdeal.nD Cert.ReferenceDpIdeal.τ).loc Cert.ReferenceDpIdeal.main_arg4) = m ((c.tc : Thread Cert.KernelDpIdeal.nD Cert.KernelDpIdeal.τ).loc Cert.KernelDpIdeal.main_arg4)
      ∧ m' ((c.tc : Thread Cert.ReferenceDpIdeal.nD Cert.ReferenceDpIdeal.τ).loc Cert.ReferenceDpIdeal.main_arg5) = m ((c.tc : Thread Cert.KernelDpIdeal.nD Cert.KernelDpIdeal.τ).loc Cert.KernelDpIdeal.main_arg5)) →
    ∃ (v0 : (c : Dev Cert.KernelDpIdeal.nD) → Buf (Elt Ideal) ((c.tc : Thread Cert.KernelDpIdeal.nD Cert.KernelDpIdeal.τ).loc Cert.KernelDpIdeal.main_v0_0)) (v1 : (c : Dev Cert.KernelDpIdeal.nD) → Buf (Elt Ideal) ((c.tc : Thread Cert.KernelDpIdeal.nD Cert.KernelDpIdeal.τ).loc Cert.KernelDpIdeal.main_v0_1)) (v2 : (c : Dev Cert.KernelDpIdeal.nD) → Buf (Elt Ideal) ((c.tc : Thread Cert.KernelDpIdeal.nD Cert.KernelDpIdeal.τ).loc Cert.KernelDpIdeal.main_v0_2)),
      θ_run (Cert.KernelDpIdeal.defs (F := Ideal)) (onTc (τ := Cert.KernelDpIdeal.τ) (Cert.KernelDpIdeal.main (F := Ideal))) ⟨m, fun _ => 0, g⟩ (fun r => ∀ c : Dev Cert.KernelDpIdeal.nD,
          r.2.mem ((c.tc : Thread Cert.KernelDpIdeal.nD Cert.KernelDpIdeal.τ).loc Cert.KernelDpIdeal.main_v0_0) = v0 c
          ∧ r.2.mem ((c.tc : Thread Cert.KernelDpIdeal.nD Cert.KernelDpIdeal.τ).loc Cert.KernelDpIdeal.main_v0_1) = v1 c
          ∧ r.2.mem ((c.tc : Thread Cert.KernelDpIdeal.nD Cert.KernelDpIdeal.τ).loc Cert.KernelDpIdeal.main_v0_2) = v2 c
          ∧ r.2.mem ((c.tc : Thread Cert.KernelDpIdeal.nD Cert.KernelDpIdeal.τ).loc Cert.KernelDpIdeal.main_arg0) = m ((c.tc : Thread Cert.KernelDpIdeal.nD Cert.KernelDpIdeal.τ).loc Cert.KernelDpIdeal.main_arg0)
          ∧ r.2.mem ((c.tc : Thread Cert.KernelDpIdeal.nD Cert.KernelDpIdeal.τ).loc Cert.KernelDpIdeal.main_arg1) = m ((c.tc : Thread Cert.KernelDpIdeal.nD Cert.KernelDpIdeal.τ).loc Cert.KernelDpIdeal.main_arg1)
          ∧ r.2.mem ((c.tc : Thread Cert.KernelDpIdeal.nD Cert.KernelDpIdeal.τ).loc Cert.KernelDpIdeal.main_arg2) = m ((c.tc : Thread Cert.KernelDpIdeal.nD Cert.KernelDpIdeal.τ).loc Cert.KernelDpIdeal.main_arg2)
          ∧ r.2.mem ((c.tc : Thread Cert.KernelDpIdeal.nD Cert.KernelDpIdeal.τ).loc Cert.KernelDpIdeal.main_arg3) = m ((c.tc : Thread Cert.KernelDpIdeal.nD Cert.KernelDpIdeal.τ).loc Cert.KernelDpIdeal.main_arg3)
          ∧ r.2.mem ((c.tc : Thread Cert.KernelDpIdeal.nD Cert.KernelDpIdeal.τ).loc Cert.KernelDpIdeal.main_arg4) = m ((c.tc : Thread Cert.KernelDpIdeal.nD Cert.KernelDpIdeal.τ).loc Cert.KernelDpIdeal.main_arg4)
          ∧ r.2.mem ((c.tc : Thread Cert.KernelDpIdeal.nD Cert.KernelDpIdeal.τ).loc Cert.KernelDpIdeal.main_arg5) = m ((c.tc : Thread Cert.KernelDpIdeal.nD Cert.KernelDpIdeal.τ).loc Cert.KernelDpIdeal.main_arg5))
      ∧ θ_run (Cert.ReferenceDpIdeal.defs (F := Ideal)) (onTc (τ := Cert.ReferenceDpIdeal.τ) (Cert.ReferenceDpIdeal.main (F := Ideal))) ⟨m', fun _ => 0, g'⟩ (fun r => ∀ c : Dev Cert.ReferenceDpIdeal.nD,
          r.2.mem ((c.tc : Thread Cert.ReferenceDpIdeal.nD Cert.ReferenceDpIdeal.τ).loc Cert.ReferenceDpIdeal.main_v40) = v0 c
          ∧ r.2.mem ((c.tc : Thread Cert.ReferenceDpIdeal.nD Cert.ReferenceDpIdeal.τ).loc Cert.ReferenceDpIdeal.main_v41) = v1 c
          ∧ r.2.mem ((c.tc : Thread Cert.ReferenceDpIdeal.nD Cert.ReferenceDpIdeal.τ).loc Cert.ReferenceDpIdeal.main_v42) = v2 c
          ∧ r.2.mem ((c.tc : Thread Cert.ReferenceDpIdeal.nD Cert.ReferenceDpIdeal.τ).loc Cert.ReferenceDpIdeal.main_arg0) = m' ((c.tc : Thread Cert.ReferenceDpIdeal.nD Cert.ReferenceDpIdeal.τ).loc Cert.ReferenceDpIdeal.main_arg0)
          ∧ r.2.mem ((c.tc : Thread Cert.ReferenceDpIdeal.nD Cert.ReferenceDpIdeal.τ).loc Cert.ReferenceDpIdeal.main_arg1) = m' ((c.tc : Thread Cert.ReferenceDpIdeal.nD Cert.ReferenceDpIdeal.τ).loc Cert.ReferenceDpIdeal.main_arg1)
          ∧ r.2.mem ((c.tc : Thread Cert.ReferenceDpIdeal.nD Cert.ReferenceDpIdeal.τ).loc Cert.ReferenceDpIdeal.main_arg2) = m' ((c.tc : Thread Cert.ReferenceDpIdeal.nD Cert.ReferenceDpIdeal.τ).loc Cert.ReferenceDpIdeal.main_arg2)
          ∧ r.2.mem ((c.tc : Thread Cert.ReferenceDpIdeal.nD Cert.ReferenceDpIdeal.τ).loc Cert.ReferenceDpIdeal.main_arg3) = m' ((c.tc : Thread Cert.ReferenceDpIdeal.nD Cert.ReferenceDpIdeal.τ).loc Cert.ReferenceDpIdeal.main_arg3)
          ∧ r.2.mem ((c.tc : Thread Cert.ReferenceDpIdeal.nD Cert.ReferenceDpIdeal.τ).loc Cert.ReferenceDpIdeal.main_arg4) = m' ((c.tc : Thread Cert.ReferenceDpIdeal.nD Cert.ReferenceDpIdeal.τ).loc Cert.ReferenceDpIdeal.main_arg4)
          ∧ r.2.mem ((c.tc : Thread Cert.ReferenceDpIdeal.nD Cert.ReferenceDpIdeal.τ).loc Cert.ReferenceDpIdeal.main_arg5) = m' ((c.tc : Thread Cert.ReferenceDpIdeal.nD Cert.ReferenceDpIdeal.τ).loc Cert.ReferenceDpIdeal.main_arg5))

def preserves_KernelPm_KernelPmIdeal : Prop :=
  True

def algebraic_KernelPmIdeal_ReferencePmIdeal_pre_finite_pm [hKernelPmIdeal : Cert.KernelPmIdeal.Facts] [hReferencePmIdeal : Cert.ReferencePmIdeal.Facts] [hPre_finite_pm : Cert.Pre_finite_pm.Facts] : Prop :=
  ∀ (m : (ℓ : Loc Cert.KernelPmIdeal.nD Cert.KernelPmIdeal.τ Cert.KernelPmIdeal.sig) → Buf (Elt Ideal) ℓ) (g : Dev Cert.KernelPmIdeal.nD → PrngReg)
    (m' : (ℓ : Loc Cert.ReferencePmIdeal.nD Cert.ReferencePmIdeal.τ Cert.ReferencePmIdeal.sig) → Buf (Elt Ideal) ℓ) (g' : Dev Cert.ReferencePmIdeal.nD → PrngReg), Pre_KernelPmIdeal_finite_pm m →
    (∀ c : Dev Cert.KernelPmIdeal.nD,
      m' ((c.tc : Thread Cert.ReferencePmIdeal.nD Cert.ReferencePmIdeal.τ).loc Cert.ReferencePmIdeal.main_arg0) = m ((c.tc : Thread Cert.KernelPmIdeal.nD Cert.KernelPmIdeal.τ).loc Cert.KernelPmIdeal.main_arg0)
      ∧ m' ((c.tc : Thread Cert.ReferencePmIdeal.nD Cert.ReferencePmIdeal.τ).loc Cert.ReferencePmIdeal.main_arg1) = m ((c.tc : Thread Cert.KernelPmIdeal.nD Cert.KernelPmIdeal.τ).loc Cert.KernelPmIdeal.main_arg1)
      ∧ m' ((c.tc : Thread Cert.ReferencePmIdeal.nD Cert.ReferencePmIdeal.τ).loc Cert.ReferencePmIdeal.main_arg2) = m ((c.tc : Thread Cert.KernelPmIdeal.nD Cert.KernelPmIdeal.τ).loc Cert.KernelPmIdeal.main_arg2)
      ∧ m' ((c.tc : Thread Cert.ReferencePmIdeal.nD Cert.ReferencePmIdeal.τ).loc Cert.ReferencePmIdeal.main_arg3) = m ((c.tc : Thread Cert.KernelPmIdeal.nD Cert.KernelPmIdeal.τ).loc Cert.KernelPmIdeal.main_arg3)) →
    ∃ (v0 : (c : Dev Cert.KernelPmIdeal.nD) → Buf (Elt Ideal) ((c.tc : Thread Cert.KernelPmIdeal.nD Cert.KernelPmIdeal.τ).loc Cert.KernelPmIdeal.main_v0_0)) (v1 : (c : Dev Cert.KernelPmIdeal.nD) → Buf (Elt Ideal) ((c.tc : Thread Cert.KernelPmIdeal.nD Cert.KernelPmIdeal.τ).loc Cert.KernelPmIdeal.main_v0_1)) (v2 : (c : Dev Cert.KernelPmIdeal.nD) → Buf (Elt Ideal) ((c.tc : Thread Cert.KernelPmIdeal.nD Cert.KernelPmIdeal.τ).loc Cert.KernelPmIdeal.main_v0_2)),
      θ_run (Cert.KernelPmIdeal.defs (F := Ideal)) (onTc (τ := Cert.KernelPmIdeal.τ) (Cert.KernelPmIdeal.main (F := Ideal))) ⟨m, fun _ => 0, g⟩ (fun r => ∀ c : Dev Cert.KernelPmIdeal.nD,
          r.2.mem ((c.tc : Thread Cert.KernelPmIdeal.nD Cert.KernelPmIdeal.τ).loc Cert.KernelPmIdeal.main_v0_0) = v0 c
          ∧ r.2.mem ((c.tc : Thread Cert.KernelPmIdeal.nD Cert.KernelPmIdeal.τ).loc Cert.KernelPmIdeal.main_v0_1) = v1 c
          ∧ r.2.mem ((c.tc : Thread Cert.KernelPmIdeal.nD Cert.KernelPmIdeal.τ).loc Cert.KernelPmIdeal.main_v0_2) = v2 c
          ∧ r.2.mem ((c.tc : Thread Cert.KernelPmIdeal.nD Cert.KernelPmIdeal.τ).loc Cert.KernelPmIdeal.main_arg0) = m ((c.tc : Thread Cert.KernelPmIdeal.nD Cert.KernelPmIdeal.τ).loc Cert.KernelPmIdeal.main_arg0)
          ∧ r.2.mem ((c.tc : Thread Cert.KernelPmIdeal.nD Cert.KernelPmIdeal.τ).loc Cert.KernelPmIdeal.main_arg1) = m ((c.tc : Thread Cert.KernelPmIdeal.nD Cert.KernelPmIdeal.τ).loc Cert.KernelPmIdeal.main_arg1)
          ∧ r.2.mem ((c.tc : Thread Cert.KernelPmIdeal.nD Cert.KernelPmIdeal.τ).loc Cert.KernelPmIdeal.main_arg2) = m ((c.tc : Thread Cert.KernelPmIdeal.nD Cert.KernelPmIdeal.τ).loc Cert.KernelPmIdeal.main_arg2)
          ∧ r.2.mem ((c.tc : Thread Cert.KernelPmIdeal.nD Cert.KernelPmIdeal.τ).loc Cert.KernelPmIdeal.main_arg3) = m ((c.tc : Thread Cert.KernelPmIdeal.nD Cert.KernelPmIdeal.τ).loc Cert.KernelPmIdeal.main_arg3))
      ∧ θ_run (Cert.ReferencePmIdeal.defs (F := Ideal)) (onTc (τ := Cert.ReferencePmIdeal.τ) (Cert.ReferencePmIdeal.main (F := Ideal))) ⟨m', fun _ => 0, g'⟩ (fun r => ∀ c : Dev Cert.ReferencePmIdeal.nD,
          r.2.mem ((c.tc : Thread Cert.ReferencePmIdeal.nD Cert.ReferencePmIdeal.τ).loc Cert.ReferencePmIdeal.main_v52) = v0 c
          ∧ r.2.mem ((c.tc : Thread Cert.ReferencePmIdeal.nD Cert.ReferencePmIdeal.τ).loc Cert.ReferencePmIdeal.main_v36) = v1 c
          ∧ r.2.mem ((c.tc : Thread Cert.ReferencePmIdeal.nD Cert.ReferencePmIdeal.τ).loc Cert.ReferencePmIdeal.main_v29) = v2 c
          ∧ r.2.mem ((c.tc : Thread Cert.ReferencePmIdeal.nD Cert.ReferencePmIdeal.τ).loc Cert.ReferencePmIdeal.main_arg0) = m' ((c.tc : Thread Cert.ReferencePmIdeal.nD Cert.ReferencePmIdeal.τ).loc Cert.ReferencePmIdeal.main_arg0)
          ∧ r.2.mem ((c.tc : Thread Cert.ReferencePmIdeal.nD Cert.ReferencePmIdeal.τ).loc Cert.ReferencePmIdeal.main_arg1) = m' ((c.tc : Thread Cert.ReferencePmIdeal.nD Cert.ReferencePmIdeal.τ).loc Cert.ReferencePmIdeal.main_arg1)
          ∧ r.2.mem ((c.tc : Thread Cert.ReferencePmIdeal.nD Cert.ReferencePmIdeal.τ).loc Cert.ReferencePmIdeal.main_arg2) = m' ((c.tc : Thread Cert.ReferencePmIdeal.nD Cert.ReferencePmIdeal.τ).loc Cert.ReferencePmIdeal.main_arg2)
          ∧ r.2.mem ((c.tc : Thread Cert.ReferencePmIdeal.nD Cert.ReferencePmIdeal.τ).loc Cert.ReferencePmIdeal.main_arg3) = m' ((c.tc : Thread Cert.ReferencePmIdeal.nD Cert.ReferencePmIdeal.τ).loc Cert.ReferencePmIdeal.main_arg3))

def preserves_KernelMo_KernelMoIdeal : Prop :=
  True

def algebraic_KernelMoIdeal_ReferenceMoIdeal [hKernelMoIdeal : Cert.KernelMoIdeal.Facts] [hReferenceMoIdeal : Cert.ReferenceMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg)
    (m' : (ℓ : Loc Cert.ReferenceMoIdeal.nD Cert.ReferenceMoIdeal.τ Cert.ReferenceMoIdeal.sig) → Buf (Elt Ideal) ℓ) (g' : Dev Cert.ReferenceMoIdeal.nD → PrngReg), Pre_KernelMoIdeal m →
    (∀ c : Dev Cert.KernelMoIdeal.nD,
      m' ((c.tc : Thread Cert.ReferenceMoIdeal.nD Cert.ReferenceMoIdeal.τ).loc Cert.ReferenceMoIdeal.main_arg0) = m ((c.tc : Thread Cert.KernelMoIdeal.nD Cert.KernelMoIdeal.τ).loc Cert.KernelMoIdeal.main_arg0)
      ∧ m' ((c.tc : Thread Cert.ReferenceMoIdeal.nD Cert.ReferenceMoIdeal.τ).loc Cert.ReferenceMoIdeal.main_arg1) = m ((c.tc : Thread Cert.KernelMoIdeal.nD Cert.KernelMoIdeal.τ).loc Cert.KernelMoIdeal.main_arg1)
      ∧ m' ((c.tc : Thread Cert.ReferenceMoIdeal.nD Cert.ReferenceMoIdeal.τ).loc Cert.ReferenceMoIdeal.main_arg2) = m ((c.tc : Thread Cert.KernelMoIdeal.nD Cert.KernelMoIdeal.τ).loc Cert.KernelMoIdeal.main_arg2)
      ∧ m' ((c.tc : Thread Cert.ReferenceMoIdeal.nD Cert.ReferenceMoIdeal.τ).loc Cert.ReferenceMoIdeal.main_arg3) = m ((c.tc : Thread Cert.KernelMoIdeal.nD Cert.KernelMoIdeal.τ).loc Cert.KernelMoIdeal.main_arg3)
      ∧ m' ((c.tc : Thread Cert.ReferenceMoIdeal.nD Cert.ReferenceMoIdeal.τ).loc Cert.ReferenceMoIdeal.main_arg4) = m ((c.tc : Thread Cert.KernelMoIdeal.nD Cert.KernelMoIdeal.τ).loc Cert.KernelMoIdeal.main_arg4)
      ∧ m' ((c.tc : Thread Cert.ReferenceMoIdeal.nD Cert.ReferenceMoIdeal.τ).loc Cert.ReferenceMoIdeal.main_arg5) = m ((c.tc : Thread Cert.KernelMoIdeal.nD Cert.KernelMoIdeal.τ).loc Cert.KernelMoIdeal.main_arg5)) →
    ∃ (v0 : (c : Dev Cert.KernelMoIdeal.nD) → Buf (Elt Ideal) ((c.tc : Thread Cert.KernelMoIdeal.nD Cert.KernelMoIdeal.τ).loc Cert.KernelMoIdeal.main_v2_0)) (v1 : (c : Dev Cert.KernelMoIdeal.nD) → Buf (Elt Ideal) ((c.tc : Thread Cert.KernelMoIdeal.nD Cert.KernelMoIdeal.τ).loc Cert.KernelMoIdeal.main_v2_1)),
      θ_run (Cert.KernelMoIdeal.defs (F := Ideal)) (onTc (τ := Cert.KernelMoIdeal.τ) (Cert.KernelMoIdeal.main (F := Ideal))) ⟨m, fun _ => 0, g⟩ (fun r => ∀ c : Dev Cert.KernelMoIdeal.nD,
          r.2.mem ((c.tc : Thread Cert.KernelMoIdeal.nD Cert.KernelMoIdeal.τ).loc Cert.KernelMoIdeal.main_v2_0) = v0 c
          ∧ r.2.mem ((c.tc : Thread Cert.KernelMoIdeal.nD Cert.KernelMoIdeal.τ).loc Cert.KernelMoIdeal.main_v2_1) = v1 c
          ∧ r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
          ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
          ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
          ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3)
          ∧ r.2.mem ((c.tc : Thread Cert.KernelMoIdeal.nD Cert.KernelMoIdeal.τ).loc Cert.KernelMoIdeal.main_arg4) = m ((c.tc : Thread Cert.KernelMoIdeal.nD Cert.KernelMoIdeal.τ).loc Cert.KernelMoIdeal.main_arg4)
          ∧ r.2.mem ((c.tc : Thread Cert.KernelMoIdeal.nD Cert.KernelMoIdeal.τ).loc Cert.KernelMoIdeal.main_arg5) = m ((c.tc : Thread Cert.KernelMoIdeal.nD Cert.KernelMoIdeal.τ).loc Cert.KernelMoIdeal.main_arg5))
      ∧ θ_run (Cert.ReferenceMoIdeal.defs (F := Ideal)) (onTc (τ := Cert.ReferenceMoIdeal.τ) (Cert.ReferenceMoIdeal.main (F := Ideal))) ⟨m', fun _ => 0, g'⟩ (fun r => ∀ c : Dev Cert.ReferenceMoIdeal.nD,
          r.2.mem ((c.tc : Thread Cert.ReferenceMoIdeal.nD Cert.ReferenceMoIdeal.τ).loc Cert.ReferenceMoIdeal.main_v24) = v0 c
          ∧ r.2.mem ((c.tc : Thread Cert.ReferenceMoIdeal.nD Cert.ReferenceMoIdeal.τ).loc Cert.ReferenceMoIdeal.main_v25) = v1 c
          ∧ r.2.mem ((c.tc : Thread Cert.ReferenceMoIdeal.nD Cert.ReferenceMoIdeal.τ).loc Cert.ReferenceMoIdeal.main_arg0) = m' ((c.tc : Thread Cert.ReferenceMoIdeal.nD Cert.ReferenceMoIdeal.τ).loc Cert.ReferenceMoIdeal.main_arg0)
          ∧ r.2.mem ((c.tc : Thread Cert.ReferenceMoIdeal.nD Cert.ReferenceMoIdeal.τ).loc Cert.ReferenceMoIdeal.main_arg1) = m' ((c.tc : Thread Cert.ReferenceMoIdeal.nD Cert.ReferenceMoIdeal.τ).loc Cert.ReferenceMoIdeal.main_arg1)
          ∧ r.2.mem ((c.tc : Thread Cert.ReferenceMoIdeal.nD Cert.ReferenceMoIdeal.τ).loc Cert.ReferenceMoIdeal.main_arg2) = m' ((c.tc : Thread Cert.ReferenceMoIdeal.nD Cert.ReferenceMoIdeal.τ).loc Cert.ReferenceMoIdeal.main_arg2)
          ∧ r.2.mem ((c.tc : Thread Cert.ReferenceMoIdeal.nD Cert.ReferenceMoIdeal.τ).loc Cert.ReferenceMoIdeal.main_arg3) = m' ((c.tc : Thread Cert.ReferenceMoIdeal.nD Cert.ReferenceMoIdeal.τ).loc Cert.ReferenceMoIdeal.main_arg3)
          ∧ r.2.mem ((c.tc : Thread Cert.ReferenceMoIdeal.nD Cert.ReferenceMoIdeal.τ).loc Cert.ReferenceMoIdeal.main_arg4) = m' ((c.tc : Thread Cert.ReferenceMoIdeal.nD Cert.ReferenceMoIdeal.τ).loc Cert.ReferenceMoIdeal.main_arg4)
          ∧ r.2.mem ((c.tc : Thread Cert.ReferenceMoIdeal.nD Cert.ReferenceMoIdeal.τ).loc Cert.ReferenceMoIdeal.main_arg5) = m' ((c.tc : Thread Cert.ReferenceMoIdeal.nD Cert.ReferenceMoIdeal.τ).loc Cert.ReferenceMoIdeal.main_arg5))

def preserves_KernelPr_KernelPrIdeal : Prop :=
  True

def algebraic_KernelPrIdeal_ReferencePrIdeal [hKernelPrIdeal : Cert.KernelPrIdeal.Facts] [hReferencePrIdeal : Cert.ReferencePrIdeal.Facts] : Prop :=
  ∀ (m : (ℓ : Loc Cert.KernelPrIdeal.nD Cert.KernelPrIdeal.τ Cert.KernelPrIdeal.sig) → Buf (Elt Ideal) ℓ) (g : Dev Cert.KernelPrIdeal.nD → PrngReg)
    (m' : (ℓ : Loc Cert.ReferencePrIdeal.nD Cert.ReferencePrIdeal.τ Cert.ReferencePrIdeal.sig) → Buf (Elt Ideal) ℓ) (g' : Dev Cert.ReferencePrIdeal.nD → PrngReg), Pre_KernelPrIdeal m →
    (∀ c : Dev Cert.KernelPrIdeal.nD,
      m' ((c.tc : Thread Cert.ReferencePrIdeal.nD Cert.ReferencePrIdeal.τ).loc Cert.ReferencePrIdeal.main_arg0) = m ((c.tc : Thread Cert.KernelPrIdeal.nD Cert.KernelPrIdeal.τ).loc Cert.KernelPrIdeal.main_arg0)
      ∧ m' ((c.tc : Thread Cert.ReferencePrIdeal.nD Cert.ReferencePrIdeal.τ).loc Cert.ReferencePrIdeal.main_arg1) = m ((c.tc : Thread Cert.KernelPrIdeal.nD Cert.KernelPrIdeal.τ).loc Cert.KernelPrIdeal.main_arg1)
      ∧ m' ((c.tc : Thread Cert.ReferencePrIdeal.nD Cert.ReferencePrIdeal.τ).loc Cert.ReferencePrIdeal.main_arg2) = m ((c.tc : Thread Cert.KernelPrIdeal.nD Cert.KernelPrIdeal.τ).loc Cert.KernelPrIdeal.main_arg2)) →
    ∃ (v0 : (c : Dev Cert.KernelPrIdeal.nD) → Buf (Elt Ideal) ((c.tc : Thread Cert.KernelPrIdeal.nD Cert.KernelPrIdeal.τ).loc Cert.KernelPrIdeal.main_v36)),
      θ_run (Cert.KernelPrIdeal.defs (F := Ideal)) (onTc (τ := Cert.KernelPrIdeal.τ) (Cert.KernelPrIdeal.main (F := Ideal))) ⟨m, fun _ => 0, g⟩ (fun r => ∀ c : Dev Cert.KernelPrIdeal.nD,
          r.2.mem ((c.tc : Thread Cert.KernelPrIdeal.nD Cert.KernelPrIdeal.τ).loc Cert.KernelPrIdeal.main_v36) = v0 c
          ∧ r.2.mem ((c.tc : Thread Cert.KernelPrIdeal.nD Cert.KernelPrIdeal.τ).loc Cert.KernelPrIdeal.main_arg0) = m ((c.tc : Thread Cert.KernelPrIdeal.nD Cert.KernelPrIdeal.τ).loc Cert.KernelPrIdeal.main_arg0)
          ∧ r.2.mem ((c.tc : Thread Cert.KernelPrIdeal.nD Cert.KernelPrIdeal.τ).loc Cert.KernelPrIdeal.main_arg1) = m ((c.tc : Thread Cert.KernelPrIdeal.nD Cert.KernelPrIdeal.τ).loc Cert.KernelPrIdeal.main_arg1)
          ∧ r.2.mem ((c.tc : Thread Cert.KernelPrIdeal.nD Cert.KernelPrIdeal.τ).loc Cert.KernelPrIdeal.main_arg2) = m ((c.tc : Thread Cert.KernelPrIdeal.nD Cert.KernelPrIdeal.τ).loc Cert.KernelPrIdeal.main_arg2))
      ∧ θ_run (Cert.ReferencePrIdeal.defs (F := Ideal)) (onTc (τ := Cert.ReferencePrIdeal.τ) (Cert.ReferencePrIdeal.main (F := Ideal))) ⟨m', fun _ => 0, g'⟩ (fun r => ∀ c : Dev Cert.ReferencePrIdeal.nD,
          r.2.mem ((c.tc : Thread Cert.ReferencePrIdeal.nD Cert.ReferencePrIdeal.τ).loc Cert.ReferencePrIdeal.main_v79) = v0 c
          ∧ r.2.mem ((c.tc : Thread Cert.ReferencePrIdeal.nD Cert.ReferencePrIdeal.τ).loc Cert.ReferencePrIdeal.main_arg0) = m' ((c.tc : Thread Cert.ReferencePrIdeal.nD Cert.ReferencePrIdeal.τ).loc Cert.ReferencePrIdeal.main_arg0)
          ∧ r.2.mem ((c.tc : Thread Cert.ReferencePrIdeal.nD Cert.ReferencePrIdeal.τ).loc Cert.ReferencePrIdeal.main_arg1) = m' ((c.tc : Thread Cert.ReferencePrIdeal.nD Cert.ReferencePrIdeal.τ).loc Cert.ReferencePrIdeal.main_arg1)
          ∧ r.2.mem ((c.tc : Thread Cert.ReferencePrIdeal.nD Cert.ReferencePrIdeal.τ).loc Cert.ReferencePrIdeal.main_arg2) = m' ((c.tc : Thread Cert.ReferencePrIdeal.nD Cert.ReferencePrIdeal.τ).loc Cert.ReferencePrIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDwd : Cert.KernelDwd.Facts) (hKernelDwdIdeal : Cert.KernelDwdIdeal.Facts) (hReferenceDwdIdeal : Cert.ReferenceDwdIdeal.Facts) (hKernelDw : Cert.KernelDw.Facts) (hKernelDwIdeal : Cert.KernelDwIdeal.Facts) (hReferenceDwIdeal : Cert.ReferenceDwIdeal.Facts) (hKernelDwo : Cert.KernelDwo.Facts) (hKernelDwoIdeal : Cert.KernelDwoIdeal.Facts) (hReferenceDwoIdeal : Cert.ReferenceDwoIdeal.Facts) (hKernelDwin : Cert.KernelDwin.Facts) (hKernelDwinIdeal : Cert.KernelDwinIdeal.Facts) (hReferenceDwinIdeal : Cert.ReferenceDwinIdeal.Facts) (hKernelDh : Cert.KernelDh.Facts) (hKernelDhIdeal : Cert.KernelDhIdeal.Facts) (hReferenceDhIdeal : Cert.ReferenceDhIdeal.Facts) (hKernelPn : Cert.KernelPn.Facts) (hKernelPnIdeal : Cert.KernelPnIdeal.Facts) (hReferencePnIdeal : Cert.ReferencePnIdeal.Facts) (hKernelDn : Cert.KernelDn.Facts) (hKernelDnIdeal : Cert.KernelDnIdeal.Facts) (hReferenceDnIdeal : Cert.ReferenceDnIdeal.Facts) (hKernelDp : Cert.KernelDp.Facts) (hKernelDpIdeal : Cert.KernelDpIdeal.Facts) (hReferenceDpIdeal : Cert.ReferenceDpIdeal.Facts) (hKernelPm : Cert.KernelPm.Facts) (hKernelPmIdeal : Cert.KernelPmIdeal.Facts) (hReferencePmIdeal : Cert.ReferencePmIdeal.Facts) (hKernelMo : Cert.KernelMo.Facts) (hKernelMoIdeal : Cert.KernelMoIdeal.Facts) (hReferenceMoIdeal : Cert.ReferenceMoIdeal.Facts) (hKernelPr : Cert.KernelPr.Facts) (hKernelPrIdeal : Cert.KernelPrIdeal.Facts) (hReferencePrIdeal : Cert.ReferencePrIdeal.Facts) (hPre_finite_down : Cert.Pre_finite_down.Facts) (hPre_finite_dh : Cert.Pre_finite_dh.Facts) (hPre_finite_pn : Cert.Pre_finite_pn.Facts) (hPre_finite_dn : Cert.Pre_finite_dn.Facts) (hPre_finite_pm : Cert.Pre_finite_pm.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_KernelDownIdeal_pre_finite_down (hKernelDownIdeal := hKernelDownIdeal) (hPre_finite_down := hPre_finite_down)
    ∧ quiescent_ReferenceDownIdeal (hReferenceDownIdeal := hReferenceDownIdeal)
    ∧ quiescent_ReferenceDownIdeal_pre_finite_down (hReferenceDownIdeal := hReferenceDownIdeal) (hPre_finite_down := hPre_finite_down)
    ∧ quiescent_KernelDwd (hKernelDwd := hKernelDwd)
    ∧ quiescent_KernelDwdIdeal (hKernelDwdIdeal := hKernelDwdIdeal)
    ∧ quiescent_ReferenceDwdIdeal (hReferenceDwdIdeal := hReferenceDwdIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDh (hKernelDh := hKernelDh)
    ∧ quiescent_KernelDhIdeal (hKernelDhIdeal := hKernelDhIdeal)
    ∧ quiescent_KernelDhIdeal_pre_finite_dh (hKernelDhIdeal := hKernelDhIdeal) (hPre_finite_dh := hPre_finite_dh)
    ∧ quiescent_ReferenceDhIdeal (hReferenceDhIdeal := hReferenceDhIdeal)
    ∧ quiescent_ReferenceDhIdeal_pre_finite_dh (hReferenceDhIdeal := hReferenceDhIdeal) (hPre_finite_dh := hPre_finite_dh)
    ∧ quiescent_KernelPn (hKernelPn := hKernelPn)
    ∧ quiescent_KernelPnIdeal (hKernelPnIdeal := hKernelPnIdeal)
    ∧ quiescent_KernelPnIdeal_pre_finite_pn (hKernelPnIdeal := hKernelPnIdeal) (hPre_finite_pn := hPre_finite_pn)
    ∧ quiescent_ReferencePnIdeal (hReferencePnIdeal := hReferencePnIdeal)
    ∧ quiescent_ReferencePnIdeal_pre_finite_pn (hReferencePnIdeal := hReferencePnIdeal) (hPre_finite_pn := hPre_finite_pn)
    ∧ quiescent_KernelDn (hKernelDn := hKernelDn)
    ∧ quiescent_KernelDnIdeal (hKernelDnIdeal := hKernelDnIdeal)
    ∧ quiescent_KernelDnIdeal_pre_finite_dn (hKernelDnIdeal := hKernelDnIdeal) (hPre_finite_dn := hPre_finite_dn)
    ∧ quiescent_ReferenceDnIdeal (hReferenceDnIdeal := hReferenceDnIdeal)
    ∧ quiescent_ReferenceDnIdeal_pre_finite_dn (hReferenceDnIdeal := hReferenceDnIdeal) (hPre_finite_dn := hPre_finite_dn)
    ∧ quiescent_KernelDp (hKernelDp := hKernelDp)
    ∧ quiescent_KernelDpIdeal (hKernelDpIdeal := hKernelDpIdeal)
    ∧ quiescent_ReferenceDpIdeal (hReferenceDpIdeal := hReferenceDpIdeal)
    ∧ quiescent_KernelPm (hKernelPm := hKernelPm)
    ∧ quiescent_KernelPmIdeal (hKernelPmIdeal := hKernelPmIdeal)
    ∧ quiescent_KernelPmIdeal_pre_finite_pm (hKernelPmIdeal := hKernelPmIdeal) (hPre_finite_pm := hPre_finite_pm)
    ∧ quiescent_ReferencePmIdeal (hReferencePmIdeal := hReferencePmIdeal)
    ∧ quiescent_ReferencePmIdeal_pre_finite_pm (hReferencePmIdeal := hReferencePmIdeal) (hPre_finite_pm := hPre_finite_pm)
    ∧ quiescent_KernelMo (hKernelMo := hKernelMo)
    ∧ quiescent_KernelMoIdeal (hKernelMoIdeal := hKernelMoIdeal)
    ∧ quiescent_ReferenceMoIdeal (hReferenceMoIdeal := hReferenceMoIdeal)
    ∧ quiescent_KernelPr (hKernelPr := hKernelPr)
    ∧ quiescent_KernelPrIdeal (hKernelPrIdeal := hKernelPrIdeal)
    ∧ quiescent_ReferencePrIdeal (hReferencePrIdeal := hReferencePrIdeal)
    ∧ preserves_Kernel_KernelIdeal
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal_pre_finite_down (hKernelDownIdeal := hKernelDownIdeal) (hReferenceDownIdeal := hReferenceDownIdeal) (hPre_finite_down := hPre_finite_down)
    ∧ preserves_KernelDwd_KernelDwdIdeal
    ∧ algebraic_KernelDwdIdeal_ReferenceDwdIdeal (hKernelDwdIdeal := hKernelDwdIdeal) (hReferenceDwdIdeal := hReferenceDwdIdeal)
    ∧ preserves_KernelDw_KernelDwIdeal
    ∧ algebraic_KernelDwIdeal_ReferenceDwIdeal (hKernelDwIdeal := hKernelDwIdeal) (hReferenceDwIdeal := hReferenceDwIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDh_KernelDhIdeal
    ∧ algebraic_KernelDhIdeal_ReferenceDhIdeal_pre_finite_dh (hKernelDhIdeal := hKernelDhIdeal) (hReferenceDhIdeal := hReferenceDhIdeal) (hPre_finite_dh := hPre_finite_dh)
    ∧ preserves_KernelPn_KernelPnIdeal
    ∧ algebraic_KernelPnIdeal_ReferencePnIdeal_pre_finite_pn (hKernelPnIdeal := hKernelPnIdeal) (hReferencePnIdeal := hReferencePnIdeal) (hPre_finite_pn := hPre_finite_pn)
    ∧ preserves_KernelDn_KernelDnIdeal
    ∧ algebraic_KernelDnIdeal_ReferenceDnIdeal_pre_finite_dn (hKernelDnIdeal := hKernelDnIdeal) (hReferenceDnIdeal := hReferenceDnIdeal) (hPre_finite_dn := hPre_finite_dn)
    ∧ preserves_KernelDp_KernelDpIdeal
    ∧ algebraic_KernelDpIdeal_ReferenceDpIdeal (hKernelDpIdeal := hKernelDpIdeal) (hReferenceDpIdeal := hReferenceDpIdeal)
    ∧ preserves_KernelPm_KernelPmIdeal
    ∧ algebraic_KernelPmIdeal_ReferencePmIdeal_pre_finite_pm (hKernelPmIdeal := hKernelPmIdeal) (hReferencePmIdeal := hReferencePmIdeal) (hPre_finite_pm := hPre_finite_pm)
    ∧ preserves_KernelMo_KernelMoIdeal
    ∧ algebraic_KernelMoIdeal_ReferenceMoIdeal (hKernelMoIdeal := hKernelMoIdeal) (hReferenceMoIdeal := hReferenceMoIdeal)
    ∧ preserves_KernelPr_KernelPrIdeal
    ∧ algebraic_KernelPrIdeal_ReferencePrIdeal (hKernelPrIdeal := hKernelPrIdeal) (hReferencePrIdeal := hReferencePrIdeal)
-- ==== Pre_finite_dh.lean ====
abbrev S8192x1024 : Shape := ⟨2, ![8192, 1024]⟩
abbrev S1x1024 : Shape := ⟨2, ![1, 1024]⟩
abbrev S4x9x1024 : Shape := ⟨3, ![4, 9, 1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x9x1024 : S_.BroadcastsInDim S4x9x1024 (![] : Fin 0 → Fin S4x9x1024.rank)
  reducesTo_S4x9x1024_S_d0_1_2 : S4x9x1024.ReducesTo [0, 1, 2] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024x2816 .bf16) (main_arg5 : FVec F S8192x2816 .bf16) (main_arg6 : FVec F S8192x2816 .bf16) (main_arg7 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .bf16 := Host.absf main_arg4
  let main_cst_6 : FVec F S_ .bf16 := constant S_ .bf16 0x7F80#16
  let main_v20 : FVec F S1024x2816 .bf16 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S8192x2816 .bf16 := Host.absf main_arg5
  let main_cst_8 : FVec F S_ .bf16 := constant S_ .bf16 0x7F80#16
  let main_v25 : FVec F S8192x2816 .bf16 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  let main_v29 : FVec F S8192x2816 .bf16 := Host.absf main_arg6
  let main_cst_10 : FVec F S_ .bf16 := constant S_ .bf16 0x7F80#16
  let main_v30 : FVec F S8192x2816 .bf16 := broadcastInDim S8192x2816 ![] bcast_S_S8192x2816 main_cst_10
  let main_v31 : IVec S8192x2816 1 := cmpf .olt main_v29 main_v30
  let main_c_11 : IVec S_ 1 := constantI S_ 1 1#1
  let main_v32 : IVec S_ 1 := (fun x v => Host.reduce IntOp.andi x v reducesTo_S8192x2816_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1x1024 .f32) (main_arg2 : FVec F S4x9x1024 .f32) (main_arg3 : FVec F S1024x2816 .bf16) (main_arg4 : FVec F S1024x2816 .bf16) (main_arg5 : FVec F S8192x2816 .bf16) (main_arg6 : FVec F S8192x2816 .bf16) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4x9x1024 .f32 := Host.absf main_arg2
  let main_cst_2 : FVec F S_ .f32 := constant S_ .f32 0x7F800000#32
  let main_v10 : FVec F S4x9x1024 .f32 := broadcastInDim S4x9x1024 ![] bcast_S_S4x9x1024 main_cst_2
  let main_v11 : IVec S4x9x1024 1 := cmpf .olt main_v9 main_v10
  let main_c_3 : IVec S_ 1 := constantI S_ 1 1#1
  let main_v12 : IVec S_ 1 := (fun x v => Host.reduce IntOp.andi x v reducesTo_S4x9x1024_S_d0_1_2 h_S_) main_v11 main_c_3
  let main_v13 : IVec S_ 1 := andi main_v8 main_v12
  let main_v14 : FVec F S1024x2816 .bf16 := Host.absf main_arg3
  let main_cst_4 : FVec F S_ .bf16 := constant S_ .bf16 0x7F80#16
  let main_v15 : FVec F S1024x2816 .bf16 := broadcastInDim S1024x2816 ![] bcast_S_S1024x2816 main_cst_4
  let main_v16 : IVec S1024x2816 1 := cmpf .olt main_v14 main_v15
  fn_part1 (F := F) main_arg4 main_arg5 main_arg6 main_arg7 main_v13 main_v16
-- ==== Pre_finite_dn.lean ====
abbrev S8192x1024 : Shape := ⟨2, ![8192, 1024]⟩
abbrev S512x1024 : Shape := ⟨2, ![512, 1024]⟩
abbrev S8192x512 : Shape := ⟨2, ![8192, 512]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S8192x1024 .bf16) (main_arg1 : FVec F S512x1024 .bf16) (main_arg2 : FVec F S8192x512 .f32) (main_arg3 : FVec F S1x512 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Pre_finite_down.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .bf16) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .bf16 := Host.absf main_arg4
  let main_cst_6 : FVec F S_ .bf16 := constant S_ .bf16 0x7F80#16
  let main_v20 : FVec F S8192x1024 .bf16 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .bf16) (main_arg1 : FVec F S1024x2816 .bf16) (main_arg2 : FVec F S1024x2816 .bf16) (main_arg3 : FVec F S2816x1024 .bf16) (main_arg4 : FVec F S8192x1024 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2816 .bf16 := Host.absf main_arg1
  let main_cst_0 : FVec F S_ .bf16 := constant S_ .bf16 0x7F80#16
  let main_v5 : FVec F S1024x2816 .bf16 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .bf16 := Host.absf main_arg2
  let main_cst_2 : FVec F S_ .bf16 := constant S_ .bf16 0x7F80#16
  let main_v10 : FVec F S1024x2816 .bf16 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .bf16 := Host.absf main_arg3
  let main_cst_4 : FVec F S_ .bf16 := constant S_ .bf16 0x7F80#16
  let main_v15 : FVec F S2816x1024 .bf16 := broadcastInDim S2816x1024 ![] bcast_S_S2816x1024 main_cst_4
  let main_v16 : IVec S2816x1024 1 := cmpf .olt main_v14 main_v15
  fn_part1 (F := F) main_arg4 main_v13 main_v16
-- ==== Pre_finite_pm.lean ====
abbrev S8192x1024 : Shape := ⟨2, ![8192, 1024]⟩
abbrev S1x1024 : Shape := ⟨2, ![1, 1024]⟩
abbrev S4x9x1024 : Shape := ⟨3, ![4, 9, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x9x1024 : S_.BroadcastsInDim S4x9x1024 (![] : Fin 0 → Fin S4x9x1024.rank)
  reducesTo_S4x9x1024_S_d0_1_2 : S4x9x1024.ReducesTo [0, 1, 2] S_

variable [Facts]

def fn_part1 {F : FTy → Type} [FloatOps F] (main_v13 : IVec S_ 1) (main_v16 : IVec S4x9x1024 1) : IVec S_ 1 :=
  let main_c_5 : IVec S_ 1 := constantI S_ 1 1#1
  let main_v17 : IVec S_ 1 := (fun x v => Host.reduce IntOp.andi x v reducesTo_S4x9x1024_S_d0_1_2 h_S_) main_v16 main_c_5
  let main_v18 : IVec S_ 1 := andi main_v13 main_v17
  main_v18

def fn {F : FTy → Type} [FloatOps F] (main_arg0 : FVec F S8192x1024 .f32) (main_arg1 : FVec F S8192x1024 .bf16) (main_arg2 : FVec F S1x1024 .f32) (main_arg3 : FVec F S4x9x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4x9x1024 .f32 := Host.absf main_arg3
  let main_cst_4 : FVec F S_ .f32 := constant S_ .f32 0x7F800000#32
  let main_v15 : FVec F S4x9x1024 .f32 := broadcastInDim S4x9x1024 ![] bcast_S_S4x9x1024 main_cst_4
  let main_v16 : IVec S4x9x1024 1 := cmpf .olt main_v14 main_v15
  fn_part1 (F := F) main_v13 main_v16
-- ==== Pre_finite_pn.lean ====
abbrev S8192x1024 : Shape := ⟨2, ![8192, 1024]⟩
abbrev S1x1024 : Shape := ⟨2, ![1, 1024]⟩
abbrev S4x9x1024 : Shape := ⟨3, ![4, 9, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x9x1024 : S_.BroadcastsInDim S4x9x1024 (![] : Fin 0 → Fin S4x9x1024.rank)
  reducesTo_S4x9x1024_S_d0_1_2 : S4x9x1024.ReducesTo [0, 1, 2] S_

variable [Facts]

def fn_part1 {F : FTy → Type} [FloatOps F] (main_v13 : IVec S_ 1) (main_v16 : IVec S4x9x1024 1) : IVec S_ 1 :=
  let main_c_5 : IVec S_ 1 := constantI S_ 1 1#1
  let main_v17 : IVec S_ 1 := (fun x v => Host.reduce IntOp.andi x v reducesTo_S4x9x1024_S_d0_1_2 h_S_) main_v16 main_c_5
  let main_v18 : IVec S_ 1 := andi main_v13 main_v17
  main_v18

def fn {F : FTy → Type} [FloatOps F] (main_arg0 : FVec F S8192x1024 .f32) (main_arg1 : FVec F S8192x1024 .bf16) (main_arg2 : FVec F S1x1024 .f32) (main_arg3 : FVec F S4x9x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4x9x1024 .f32 := Host.absf main_arg3
  let main_cst_4 : FVec F S_ .f32 := constant S_ .f32 0x7F800000#32
  let main_v15 : FVec F S4x9x1024 .f32 := broadcastInDim S4x9x1024 ![] bcast_S_S4x9x1024 main_cst_4
  let main_v16 : IVec S4x9x1024 1 := cmpf .olt main_v14 main_v15
  fn_part1 (F := F) main_v13 main_v16
-- ==== Kernel.lean ====
abbrev S8192x3072 : Shape := ⟨2, ![8192, 3072]⟩
abbrev S4x8x2048 : Shape := ⟨3, ![4, 8, 2048]⟩
abbrev S8192x512 : Shape := ⟨2, ![8192, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048x1 : Shape := ⟨4, ![4, 8, 2048, 1]⟩
abbrev S4x8x4x1x512 : Shape := ⟨5, ![4, 8, 4, 1, 512]⟩
abbrev S4 : Shape := ⟨1, ![4]⟩
abbrev S4x1x1 : Shape := ⟨3, ![4, 1, 1]⟩
abbrev S512 : Shape := ⟨1, ![512]⟩
abbrev S1x1x512 : Shape := ⟨3, ![1, 1, 512]⟩
abbrev S4x1x512 : Shape := ⟨3, ![4, 1, 512]⟩
abbrev S1x512x1 : Shape := ⟨3, ![1, 512, 1]⟩
abbrev S4x512x512 : Shape := ⟨3, ![4, 512, 512]⟩
abbrev S2048x128 : Shape := ⟨2, ![2048, 128]⟩
abbrev S1x2x4x1x512 : Shape := ⟨5, ![1, 2, 4, 1, 512]⟩
abbrev S4x128x512 : Shape := ⟨3, ![4, 128, 512]⟩
abbrev S2x4x64x512 : Shape := ⟨4, ![2, 4, 64, 512]⟩
abbrev S64x512 : Shape := ⟨2, ![64, 512]⟩
abbrev S2x2048x1 : Shape := ⟨3, ![2, 2048, 1]⟩
abbrev S4x512x128 : Shape := ⟨3, ![4, 512, 128]⟩
abbrev S512x128 : Shape := ⟨2, ![512, 128]⟩
abbrev S128x512 : Shape := ⟨2, ![128, 512]⟩
abbrev S1x128x512 : Shape := ⟨3, ![1, 128, 512]⟩
abbrev S1x1x1x1x512 : Shape := ⟨5, ![1, 1, 1, 1, 512]⟩
abbrev S1x512 : Shape := ⟨2, ![1, 512]⟩
abbrev S1x512x128 : Shape := ⟨3, ![1, 512, 128]⟩
abbrev S8x64 : Shape := ⟨2, ![8, 64]⟩
abbrev S512x64 : Shape := ⟨2, ![512, 64]⟩
abbrev S8x512 : Shape := ⟨2, ![8, 512]⟩
abbrev S512x512 : Shape := ⟨2, ![512, 512]⟩
abbrev S512x1 : Shape := ⟨2, ![512, 1]⟩
abbrev S1x1x64x512 : Shape := ⟨4, ![1, 1, 64, 512]⟩
abbrev S1x64x512 : Shape := ⟨3, ![1, 64, 512]⟩
abbrev S1x256x512 : Shape := ⟨3, ![1, 256, 512]⟩
abbrev S256x512 : Shape := ⟨2, ![256, 512]⟩
abbrev S256x64 : Shape := ⟨2, ![256, 64]⟩
abbrev S1x256x1 : Shape := ⟨3, ![1, 256, 1]⟩
abbrev S256x1 : Shape := ⟨2, ![256, 1]⟩
abbrev S1x1x64x256 : Shape := ⟨4, ![1, 1, 64, 256]⟩
abbrev S64x256 : Shape := ⟨2, ![64, 256]⟩
abbrev S1x64x256 : Shape := ⟨3, ![1, 64, 256]⟩
abbrev S256 : Shape := ⟨1, ![256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 85
  | .vmem => 32
  | .smem => 0
  | _ => 0

abbrev bufTy : (tb : Table) → Fin (tcTables nBuf tb) → BufTy
  | .hbm, ⟨0, _⟩ => ⟨S8192x3072, .bf16⟩
  | .hbm, ⟨1, _⟩ => ⟨S4x8x2048, .f32⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S4x2048x8x64, .f32⟩
  | .hbm, ⟨6, _⟩ => ⟨S4x8x2048x64, .f32⟩
  | .hbm, ⟨7, _⟩ => ⟨S8192x512, .bf16⟩
  | .hbm, ⟨8, _⟩ => ⟨S8192x512, .f32⟩
  | .hbm, ⟨9, _⟩ => ⟨S4x2048x8x64, .f32⟩
  | .hbm, ⟨10, _⟩ => ⟨S4x8x2048x64, .f32⟩
  | .hbm, ⟨11, _⟩ => ⟨S8192x512, .bf16⟩
  | .hbm, ⟨12, _⟩ => ⟨S8192x512, .f32⟩
  | .hbm, ⟨13, _⟩ => ⟨S4x2048x8x64, .f32⟩
  | .hbm, ⟨14, _⟩ => ⟨S4x8x2048x64, .f32⟩
  | .hbm, ⟨15, _⟩ => ⟨S4x8x2048x2048, .f32⟩
  | .hbm, ⟨16, _⟩ => ⟨S_, .f32⟩
  | .hbm, ⟨17, _⟩ => ⟨S4x8x2048x2048, .f32⟩
  | .hbm, ⟨18, _⟩ => ⟨S4x8x2048x2048, .f32⟩
  | .hbm, ⟨19, _⟩ => ⟨S4x8x1x2048, .f32⟩
  | .hbm, ⟨20, _⟩ => ⟨S4x8x2048x2048, .f32⟩
  | .hbm, ⟨21, _⟩ => ⟨S4x8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x1, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x2048x2048, .f32⟩
  | .hbm, ⟨48, _⟩ => ⟨S4x8x2048x64, .f32⟩
  | .hbm, ⟨49, _⟩ => ⟨S4x2048x8x64, .f32⟩
  | .hbm, ⟨50, _⟩ => ⟨S8192x512, .f32⟩
  | .hbm, ⟨51, _⟩ => ⟨S4x8x4x1x512, .f32⟩
  | .hbm, ⟨52, _⟩ => ⟨S4x8x4x1x512, .f32⟩
  | .hbm, ⟨53, _⟩ => ⟨S4, .i32⟩
  | .hbm, ⟨54, _⟩ => ⟨S_, .i32⟩
  | .hbm, ⟨55, _⟩ => ⟨S4, .i32⟩
  | .hbm, ⟨56, _⟩ => ⟨S4, .i32⟩
  | .hbm, ⟨57, _⟩ => ⟨S4x1x1, .i32⟩
  | .hbm, ⟨58, _⟩ => ⟨S_, .i32⟩
  | .hbm, ⟨59, _⟩ => ⟨S4x1x1, .i32⟩
  | .hbm, ⟨60, _⟩ => ⟨S4x1x1, .i32⟩
  | .hbm, ⟨61, _⟩ => ⟨S512, .i32⟩
  | .hbm, ⟨62, _⟩ => ⟨S1x1x512, .i32⟩
  | .hbm, ⟨63, _⟩ => ⟨S4x1x512, .i32⟩
  | .hbm, ⟨64, _⟩ => ⟨S4x1x512, .i32⟩
  | .hbm, ⟨65, _⟩ => ⟨S4x1x512, .i32⟩
  | .hbm, ⟨66, _⟩ => ⟨S512, .i32⟩
  | .hbm, ⟨67, _⟩ => ⟨S1x512x1, .i32⟩
  | .hbm, ⟨68, _⟩ => ⟨S4x512x512, .i32⟩
  | .hbm, ⟨69, _⟩ => ⟨S4x512x512, .i32⟩
  | .hbm, ⟨70, _⟩ => ⟨S4x512x512, .i32⟩
  | .hbm, ⟨71, _⟩ => ⟨S_, .i32⟩
  | .hbm, ⟨72, _⟩ => ⟨S4x512x512, .i32⟩
  | .hbm, ⟨73, _⟩ => ⟨S4x512x512, .i1⟩
  | .hbm, ⟨74, _⟩ => ⟨S_, .f32⟩
  | .hbm, ⟨75, _⟩ => ⟨S_, .f32⟩
  | .hbm, ⟨76, _⟩ => ⟨S4x512x512, .f32⟩
  | .hbm, ⟨77, _⟩ => ⟨S4x512x512, .f32⟩
  | .hbm, ⟨78, _⟩ => ⟨S4x512x512, .f32⟩
  | .hbm, ⟨79, _⟩ => ⟨S4x512x512, .f32⟩
  | .hbm, ⟨80, _⟩ => ⟨S8192x512, .bf16⟩
  | .hbm, ⟨81, _⟩ => ⟨S8192x512, .bf16⟩
  | .hbm, ⟨82, _⟩ => ⟨S8192x512, .bf16⟩
  | .hbm, ⟨83, _⟩ => ⟨S4x8x4x1x512, .f32⟩
  | .hbm, ⟨84, _⟩ => ⟨S4x8x4x1x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x2x4x1x512, .f32⟩
  | .local _ .vmem, ⟨9, _⟩ => ⟨S1x2x4x1x512, .f32⟩
  | .local _ .vmem, ⟨10, _⟩ => ⟨S2048x128, .f32⟩
  | .local _ .vmem, ⟨11, _⟩ => ⟨S2048x128, .f32⟩
  | .local _ .vmem, ⟨12, _⟩ => ⟨S4x512x512, .f32⟩
  | .local _ .vmem, ⟨13, _⟩ => ⟨S1x2x4x1x512, .f32⟩
  | .local _ .vmem, ⟨14, _⟩ => ⟨S1x2x4x1x512, .f32⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S1x2x4x1x512, .f32⟩
  | .local _ .vmem, ⟨22, _⟩ => ⟨S1x2x4x1x512, .f32⟩
  | .local _ .vmem, ⟨23, _⟩ => ⟨S1x2x4x1x512, .f32⟩
  | .local _ .vmem, ⟨24, _⟩ => ⟨S1x2x4x1x512, .f32⟩
  | .local _ .vmem, ⟨25, _⟩ => ⟨S4x128x512, .bf16⟩
  | .local _ .vmem, ⟨26, _⟩ => ⟨S2x4x64x512, .f32⟩
  | .local _ .vmem, ⟨27, _⟩ => ⟨S2x4x64x512, .f32⟩
  | .local _ .vmem, ⟨28, _⟩ => ⟨S64x512, .f32⟩
  | .local _ .vmem, ⟨29, _⟩ => ⟨S64x512, .f32⟩
  | .local _ .vmem, ⟨30, _⟩ => ⟨S2x2048x1, .f32⟩
  | .local _ .vmem, ⟨31, _⟩ => ⟨S4x512x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_4 : Ref sig .tc := ⟨.hbm, 71, rfl⟩
abbrev main_v59 : Ref sig .tc := ⟨.hbm, 72, rfl⟩
abbrev main_v60 : Ref sig .tc := ⟨.hbm, 73, rfl⟩
abbrev main_cst_5 : Ref sig .tc := ⟨.hbm, 74, rfl⟩
abbrev main_cst_6 : Ref sig .tc := ⟨.hbm, 75, rfl⟩
abbrev main_call1_v0 : Ref sig .tc := ⟨.hbm, 76, rfl⟩
abbrev main_call1_v1 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c4_i32 : BitVec 32 := 4#32
  let v93 : BitVec 32 := Scalar.addi c0_i32 c4_i32
  let c1_i32 : BitVec 32 := 1#32
  ⟨c0_i32, v93, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c512_i32 : BitVec 32 := 512#32
  let v230 : BitVec 32 := Scalar.muli arg22 c512_i32
  v230
def k0_off1 (k0_t1 : Fin k0_t1_loop.trips) : Fin 2 → Nat :=
  let c0_i32 : BitVec 32 := 0#32
  let c1_i32 : BitVec 32 := 1#32
  let arg22 : BitVec 32 := Scf.iv c0_i32 c1_i32 k0_t1
  let c512_i32 : BitVec 32 := 512#32
  let v230 : BitVec 32 := Scalar.muli arg22 c512_i32
  let v231 : BitVec 32 := v230
  let v232 : Index := Scalar.indexCast v231
  let c0_224 : Index := 0#32
  ![v232.toNat, 0]
def k0_off2 (k0_t1 : Fin k0_t1_loop.trips) : Fin 5 → Nat :=
  let c0_227 : Index := 0#32
  let c0_228 : Index := 0#32
  let c0_i32 : BitVec 32 := 0#32
  let c1_i32 : BitVec 32 := 1#32
  let arg22 : BitVec 32 := Scf.iv c0_i32 c1_i32 k0_t1
  let v245 : Index := Scalar.indexCast arg22
  let c0_229 : Index := 0#32
  let c0_230 : Index := 0#32
  ![0, 0, v245.toNat, 0, 0]
def k0_off3 (k0_t1 : Fin k0_t1_loop.trips) : Fin 2 → Nat :=
  let c0_i32 : BitVec 32 := 0#32
  let c1_i32 : BitVec 32 := 1#32
  let arg22 : BitVec 32 := Scf.iv c0_i32 c1_i32 k0_t1
  let c512_i32 : BitVec 32 := 512#32
  let v230 : BitVec 32 := Scalar.muli arg22 c512_i32
  let v231 : BitVec 32 := v230
  let v249 : Index := Scalar.indexCast v231
  let c0_231 : Index := 0#32
  ![v249.toNat, 0]
def k0_off4 (k0_t1 : Fin k0_t1_loop.trips) : Fin 5 → Nat :=
  let c0_234 : Index := 0#32
  let c1_235 : Index := 1#32
  let c0_i32 : BitVec 32 := 0#32
  let c1_i32 : BitVec 32 := 1#32
  let arg22 : BitVec 32 := Scf.iv c0_i32 c1_i32 k0_t1
  let v263 : Index := Scalar.indexCast arg22
  let c0_236 : Index := 0#32
  let c0_237 : Index := 0#32
  ![0, 1, v263.toNat, 0, 0]
def k0_off5 (k0_t1 : Fin k0_t1_loop.trips) : Fin 2 → Nat :=
  let c0_i32 : BitVec 32 := 0#32
  let c1_i32 : BitVec 32 := 1#32
  let arg22 : BitVec 32 := Scf.iv c0_i32 c1_i32 k0_t1
  let c512_i32 : BitVec 32 := 512#32
  let v230 : BitVec 32 := Scalar.muli arg22 c512_i32
  let v231 : BitVec 32 := v230
  let v267 : Index := Scalar.indexCast v231
  let c64 : Index := 64#32
  ![v267.toNat, 64]
@[reducible] def k0_t2_loop (k0_t1 : Fin k0_t1_loop.trips) : Scf.Loop 32 :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_250 : BitVec 32 := 1#32
  ⟨c0_i32_248, v293, c1_i32_250⟩
def k0_mult2 (k0_t1 : Fin k0_t1_loop.trips) (k0_t2 : Fin (k0_t2_loop k0_t1).trips) : BitVec 32 :=
  let c0_i32_248 : BitVec 32 := 0#32
  let c1_i32_250 : BitVec 32 := 1#32
  let arg23 : BitVec 32 := Scf.iv c0_i32_248 c1_i32_250 k0_t2
  let c512_i32_406 : BitVec 32 := 512#32
  let v581 : BitVec 32 := Scalar.muli arg23 c512_i32_406
  let c0_i32_407 : BitVec 32 := 0#32
  let v582 : BitVec 32 := Scalar.addi v581 c0_i32_407
  v582
def k0_off6 (k0_t1 : Fin k0_t1_loop.trips) (k0_t2 : Fin (k0_t2_loop k0_t1).trips) : Fin 2 → Nat :=
  let c0_i32_248 : BitVec 32 := 0#32
  let c1_i32_250 : BitVec 32 := 1#32
  let arg23 : BitVec 32 := Scf.iv c0_i32_248 c1_i32_250 k0_t2
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v584 : Index := Scalar.indexCast v583
  let c0_408 : Index := 0#32
  ![v584.toNat, 0]
def k0_off7 (k0_t1 : Fin k0_t1_loop.trips) (k0_t2 : Fin (k0_t2_loop k0_t1).trips) : Fin 3 → Nat :=
  let c0_i32_248 : BitVec 32 := 0#32
  let c1_i32_250 : BitVec 32 := 1#32
  let arg23 : BitVec 32 := Scf.iv c0_i32_248 c1_i32_250 k0_t2
  let v587 : Index := Scalar.indexCast arg23
  let c0_410 : Index := 0#32
  let c0_411 : Index := 0#32
  ![v587.toNat, 0, 0]
def k0_off8 (k0_t1 : Fin k0_t1_loop.trips) (k0_t2 : Fin (k0_t2_loop k0_t1).trips) : Fin 2 → Nat :=
  let c0_i32_248 : BitVec 32 := 0#32
  let c1_i32_250 : BitVec 32 := 1#32
  let arg23 : BitVec 32 := Scf.iv c0_i32_248 c1_i32_250 k0_t2
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v595 : Index := Scalar.indexCast v583
  let c64_414 : Index := 64#32
  ![v595.toNat, 64]
def k0_off9 (k0_t1 : Fin k0_t1_loop.trips) (k0_t2 : Fin (k0_t2_loop k0_t1).trips) : Fin 3 → Nat :=
  let c0_i32_248 : BitVec 32 := 0#32
  let c1_i32_250 : BitVec 32 := 1#32
  let arg23 : BitVec 32 := Scf.iv c0_i32_248 c1_i32_250 k0_t2
  let v598 : Index := Scalar.indexCast arg23
  let c0_416 : Index := 0#32
  let c64_417 : Index := 64#32
  ![v598.toNat, 0, 64]
def k0_off10 (k0_t1 : Fin k0_t1_loop.trips) (k0_t2 : Fin (k0_t2_loop k0_t1).trips) : Fin 4 → Nat :=
  let c0_420 : Index := 0#32
  let c0_i32_248 : BitVec 32 := 0#32
  let c1_i32_250 : BitVec 32 := 1#32
  let arg23 : BitVec 32 := Scf.iv c0_i32_248 c1_i32_250 k0_t2
  let v613 : Index := Scalar.indexCast arg23
  let c0_421 : Index := 0#32
  let c0_422 : Index := 0#32
  ![0, v613.toNat, 0, 0]
def k0_off11 (k0_t1 : Fin k0_t1_loop.trips) (k0_t2 : Fin (k0_t2_loop k0_t1).trips) : Fin 3 → Nat :=
  let c0_i32_248 : BitVec 32 := 0#32
  let c1_i32_250 : BitVec 32 := 1#32
  let arg23 : BitVec 32 := Scf.iv c0_i32_248 c1_i32_250 k0_t2
  let v633 : Index := Scalar.indexCast arg23
  let c0_436 : Index := 0#32
  let c0_437 : Index := 0#32
  ![v633.toNat, 0, 0]
def k0_off12 (k0_t1 : Fin k0_t1_loop.trips) (k0_t2 : Fin (k0_t2_loop k0_t1).trips) : Fin 3 → Nat :=
  let c0_441 : Index := 0#32
  let c0_i32_248 : BitVec 32 := 0#32
  let c1_i32_250 : BitVec 32 := 1#32
  let arg23 : BitVec 32 := Scf.iv c0_i32_248 c1_i32_250 k0_t2
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v641 : Index := Scalar.indexCast v583
  let c0_442 : Index := 0#32
  ![0, v641.toNat, 0]
def k0_off13 (k0_t1 : Fin k0_t1_loop.trips) (k0_t2 : Fin (k0_t2_loop k0_t1).trips) : Fin 4 → Nat :=
  let c1_447 : Index := 1#32
  let c0_i32_248 : BitVec 32 := 0#32
  let c1_i32_250 : BitVec 32 := 1#32
  let arg23 : BitVec 32 := Scf.iv c0_i32_248 c1_i32_250 k0_t2
  let v661 : Index := Scalar.indexCast arg23
  let c0_448 : Index := 0#32
  let c0_449 : Index := 0#32
  ![1, v661.toNat, 0, 0]
def k0_off14 (k0_t1 : Fin k0_t1_loop.trips) (k0_t2 : Fin (k0_t2_loop k0_t1).trips) : Fin 3 → Nat :=
  let c0_i32_248 : BitVec 32 := 0#32
  let c1_i32_250 : BitVec 32 := 1#32
  let arg23 : BitVec 32 := Scf.iv c0_i32_248 c1_i32_250 k0_t2
  let v681 : Index := Scalar.indexCast arg23
  let c64_463 : Index := 64#32
  let c0_464 : Index := 0#32
  ![v681.toNat, 64, 0]
def k0_off15 (k0_t1 : Fin k0_t1_loop.trips) (k0_t2 : Fin (k0_t2_loop k0_t1).trips) : Fin 3 → Nat :=
  let c1_468 : Index := 1#32
  let c0_i32_248 : BitVec 32 := 0#32
  let c1_i32_250 : BitVec 32 := 1#32
  let arg23 : BitVec 32 := Scf.iv c0_i32_248 c1_i32_250 k0_t2
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v689 : Index := Scalar.indexCast v583
  let c0_469 : Index := 0#32
  ![1, v689.toNat, 0]
@[reducible] def k0_t3_loop (k0_t1 : Fin k0_t1_loop.trips) : Scf.Loop 32 :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let v290 : BitVec 32 := Scalar.addi c0_i32_248 v289
  let c1_i32_251 : BitVec 32 := 1#32
  ⟨v293, v290, c1_i32_251⟩
def k0_mult3 (k0_t1 : Fin k0_t1_loop.trips) (k0_t3 : Fin (k0_t3_loop k0_t1).trips) : BitVec 32 :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let c512_i32_406 : BitVec 32 := 512#32
  let v581 : BitVec 32 := Scalar.muli arg23 c512_i32_406
  let c0_i32_407 : BitVec 32 := 0#32
  let v582 : BitVec 32 := Scalar.addi v581 c0_i32_407
  v582
def k0_off16 (k0_t1 : Fin k0_t1_loop.trips) (k0_t3 : Fin (k0_t3_loop k0_t1).trips) : Fin 2 → Nat :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v584 : Index := Scalar.indexCast v583
  let c0_408 : Index := 0#32
  ![v584.toNat, 0]
def k0_off17 (k0_t1 : Fin k0_t1_loop.trips) (k0_t3 : Fin (k0_t3_loop k0_t1).trips) : Fin 3 → Nat :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let v587 : Index := Scalar.indexCast arg23
  let c0_410 : Index := 0#32
  let c0_411 : Index := 0#32
  ![v587.toNat, 0, 0]
def k0_off18 (k0_t1 : Fin k0_t1_loop.trips) (k0_t3 : Fin (k0_t3_loop k0_t1).trips) : Fin 2 → Nat :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v595 : Index := Scalar.indexCast v583
  let c64_414 : Index := 64#32
  ![v595.toNat, 64]
def k0_off19 (k0_t1 : Fin k0_t1_loop.trips) (k0_t3 : Fin (k0_t3_loop k0_t1).trips) : Fin 3 → Nat :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let v598 : Index := Scalar.indexCast arg23
  let c0_416 : Index := 0#32
  let c64_417 : Index := 64#32
  ![v598.toNat, 0, 64]
def k0_off20 (k0_t1 : Fin k0_t1_loop.trips) (k0_t3 : Fin (k0_t3_loop k0_t1).trips) : Fin 4 → Nat :=
  let c0_420 : Index := 0#32
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let v613 : Index := Scalar.indexCast arg23
  let c0_421 : Index := 0#32
  let c0_422 : Index := 0#32
  ![0, v613.toNat, 0, 0]
def k0_off21 (k0_t1 : Fin k0_t1_loop.trips) (k0_t3 : Fin (k0_t3_loop k0_t1).trips) : Fin 3 → Nat :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let v633 : Index := Scalar.indexCast arg23
  let c0_436 : Index := 0#32
  let c0_437 : Index := 0#32
  ![v633.toNat, 0, 0]
def k0_off22 (k0_t1 : Fin k0_t1_loop.trips) (k0_t3 : Fin (k0_t3_loop k0_t1).trips) : Fin 3 → Nat :=
  let c0_441 : Index := 0#32
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v641 : Index := Scalar.indexCast v583
  let c0_442 : Index := 0#32
  ![0, v641.toNat, 0]
def k0_off23 (k0_t1 : Fin k0_t1_loop.trips) (k0_t3 : Fin (k0_t3_loop k0_t1).trips) : Fin 4 → Nat :=
  let c1_447 : Index := 1#32
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let v661 : Index := Scalar.indexCast arg23
  let c0_448 : Index := 0#32
  let c0_449 : Index := 0#32
  ![1, v661.toNat, 0, 0]
def k0_off24 (k0_t1 : Fin k0_t1_loop.trips) (k0_t3 : Fin (k0_t3_loop k0_t1).trips) : Fin 3 → Nat :=
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let v681 : Index := Scalar.indexCast arg23
  let c64_463 : Index := 64#32
  let c0_464 : Index := 0#32
  ![v681.toNat, 64, 0]
def k0_off25 (k0_t1 : Fin k0_t1_loop.trips) (k0_t3 : Fin (k0_t3_loop k0_t1).trips) : Fin 3 → Nat :=
  let c1_468 : Index := 1#32
  let c0_i32_248 : BitVec 32 := 0#32
  let c0_i32 : BitVec 32 := 0#32
  let c1_i32 : BitVec 32 := 1#32
  let arg22 : BitVec 32 := Scf.iv c0_i32 c1_i32 k0_t1
  let v289 : BitVec 32 := Scalar.subi arg22 c0_i32_248
  let c1_i32_249 : BitVec 32 := 1#32
  let v291 : BitVec 32 := Scalar.divsi v289 c1_i32_249
  let v292 : BitVec 32 := Scalar.muli v291 c1_i32_249
  let v293 : BitVec 32 := Scalar.addi c0_i32_248 v292
  let c1_i32_251 : BitVec 32 := 1#32
  let arg23 : BitVec 32 := Scf.iv v293 c1_i32_251 k0_t3
  let c512_i32_406 : BitVec 32 := 512#32
  let v581 : BitVec 32 := Scalar.muli arg23 c512_i32_406
  let c0_i32_407 : BitVec 32 := 0#32
  let v582 : BitVec 32 := Scalar.addi v581 c0_i32_407
  let v583 : BitVec 32 := v582
  let v689 : Index := Scalar.indexCast v583
  let c0_469 : Index := 0#32
  ![1, v689.toNat, 0]
def k0_mult4 (k0_t1 : Fin k0_t1_loop.trips) : BitVec 32 :=
  let c0_i32 : BitVec 32 := 0#32
  let c1_i32 : BitVec 32 := 1#32
  let arg22 : BitVec 32 := Scf.iv c0_i32 c1_i32 k0_t1
  let c512_i32_255 : BitVec 32 := 512#32
  let v298 : BitVec 32 := Scalar.muli arg22 c512_i32_255
  let c0_i32_256 : BitVec 32 := 0#32
  let v299 : BitVec 32 := Scalar.addi v298 c0_i32_256
  v299
def k0_off26 (k0_t1 : Fin k0_t1_loop.trips) (c0_i32_256 : BitVec 32) : Fin 2 → Nat :=
  let c0_i32 : BitVec 32 := 0#32
  let c1_i32 : BitVec 32 := 1#32
  let arg22 : BitVec 32 := Scf.iv c0_i32 c1_i32 k0_t1
  let c512_i32_255 : BitVec 32 := 512#32
  let v298 : BitVec 32 := Scalar.muli arg22 c512_i32_255
  let v299 : BitVec 32 := Scalar.addi v298 c0_i32_256
  let v300 : BitVec 32 := v299
  let v301 : Index := Scalar.indexCast v300
  let c0_257 : Index := 0#32
  ![v301.toNat, 0]
def k0_off27 (k0_t1 : Fin k0_t1_loop.trips) : Fin 3 → Nat :=
  let c0_i32 : BitVec 32 := 0#32
  let c1_i32 : BitVec 32 := 1#32
  let arg22 : BitVec 32 := Scf.iv c0_i32 c1_i32 k0_t1
  let v305 : Index := Scalar.indexCast arg22
  let c0_259 : Index := 0#32
  let c0_260 : Index := 0#32
  ![v305.toNat, 0, 0]
def k0_off28 (k0_t1 : Fin k0_t1_loop.trips) (c0_i32_256 : BitVec 32) : Fin 2 → Nat :=
  let c0_i32 : BitVec 32 := 0#32
  let c1_i32 : BitVec 32 := 1#32
  let arg22 : BitVec 32 := Scf.iv c0_i32 c1_i32 k0_t1
  let c512_i32_255 : BitVec 32 := 512#32
  let v298 : BitVec 32 := Scalar.muli arg22 c512_i32_255
  let v299 : BitVec 32 := Scalar.addi v298 c0_i32_256
  let v300 : BitVec 32 := v299
  let v313 : Index := Scalar.indexCast v300
  let c64_263 : Index := 64#32
  ![v313.toNat, 64]
def k0_off29 (k0_t1 : Fin k0_t1_loop.trips) : Fin 3 → Nat :=
  let c0_i32 : BitVec 32 := 0#32
  let c1_i32 : BitVec 32 := 1#32
  let arg22 : BitVec 32 := Scf.iv c0_i32 c1_i32 k0_t1
  let v317 : Index := Scalar.indexCast arg22
  let c0_265 : Index := 0#32
  let c64_266 : Index := 64#32
  ![v317.toNat, 0, 64]
def k0_off30 (k0_t1 : Fin k0_t1_loop.trips) : Fin 4 → Nat :=
  let c0_269 : Index := 0#32
  let c0_i32 : BitVec 32 := 0#32
  let c1_i32 : BitVec 32 := 1#32
  let arg22 : BitVec 32 := Scf.iv c0_i32 c1_i32 k0_t1
  let v332 : Index := Scalar.indexCast arg22
  let c0_270 : Index := 0#32
  let c0_271 : Index := 0#32
  ![0, v332.toNat, 0, 0]
def k0_off31 (k0_t1 : Fin k0_t1_loop.trips) : Fin 3 → Nat :=
  let c0_i32 : BitVec 32 := 0#32
  let c1_i32 : BitVec 32 := 1#32
  let arg22 : BitVec 32 := Scf.iv c0_i32 c1_i32 k0_t1
  let v352 : Index := Scalar.indexCast arg22
  let c0_285 : Index := 0#32
  let c0_286 : Index := 0#32
  ![v352.toNat, 0, 0]
def k0_off32 (k0_t1 : Fin k0_t1_loop.trips) (c0_i32_256 : BitVec 32) : Fin 3 → Nat :=
  let c0_290 : Index := 0#32
  let c0_i32 : BitVec 32 := 0#32
  let c1_i32 : BitVec 32 := 1#32
  let arg22 : BitVec 32 := Scf.iv c0_i32 c1_i32 k0_t1
  let c512_i32_255 : BitVec 32 := 512#32
  let v298 : BitVec 32 := Scalar.muli arg22 c512_i32_255
  let v299 : BitVec 32 := Scalar.addi v298 c0_i32_256
  let v300 : BitVec 32 := v299
  let v360 : Index := Scalar.indexCast v300
  let c0_291 : Index := 0#32
  ![0, v360.toNat, 0]
def k0_off33 (k0_t1 : Fin k0_t1_loop.trips) : Fin 4 → Nat :=
  let c1_296 : Index := 1#32
  let c0_i32 : BitVec 32 := 0#32
  let c1_i32 : BitVec 32 := 1#32
  let arg22 : BitVec 32 := Scf.iv c0_i32 c1_i32 k0_t1
  let v380 : Index := Scalar.indexCast arg22
  let c0_297 : Index := 0#32
  let c0_298 : Index := 0#32
  ![1, v380.toNat, 0, 0]
def k0_off34 (k0_t1 : Fin k0_t1_loop.trips) : Fin 3 → Nat :=
  let c0_i32 : BitVec 32 := 0#32
  let c1_i32 : BitVec 32 := 1#32
  let arg22 : BitVec 32 := Scf.iv c0_i32 c1_i32 k0_t1
  let v400 : Index := Scalar.indexCast arg22
  let c64_312 : Index := 64#32
  let c0_313 : Index := 0#32
  ![v400.toNat, 64, 0]
def k0_off35 (k0_t1 : Fin k0_t1_loop.trips) (c0_i32_256 : BitVec 32) : Fin 3 → Nat :=
  let c1_317 : Index := 1#32
  let c0_i32 : BitVec 32 := 0#32
  let c1_i32 : BitVec 32 := 1#32
  let arg22 : BitVec 32 := Scf.iv c0_i32 c1_i32 k0_t1
  let c512_i32_255 : BitVec 32 := 512#32
  let v298 : BitVec 32 := Scalar.muli arg22 c512_i32_255
  let v299 : BitVec 32 := Scalar.addi v298 c0_i32_256
  let v300 : BitVec 32 := v299
  let v408 : Index := Scalar.indexCast v300
  let c0_318 : Index := 0#32
  ![1, v408.toNat, 0]
def k0_mult5 (k0_t1 : Fin k0_t1_loop.trips) : BitVec 32 :=
  let c0_i32 : BitVec 32 := 0#32
  let c1_i32 : BitVec 32 := 1#32
  let arg22 : BitVec 32 := Scf.iv c0_i32 c1_i32 k0_t1
  let c512_i32_325 : BitVec 32 := 512#32
  let v423 : BitVec 32 := Scalar.muli arg22 c512_i32_325
  let c256_i32 : BitVec 32 := 256#32
  let v424 : BitVec 32 := Scalar.addi v423 c256_i32
  v424
def k0_off36 (k0_t1 : Fin k0_t1_loop.trips) : Fin 3 → Nat :=
  let c0_i32 : BitVec 32 := 0#32
  let c1_i32 : BitVec 32 := 1#32
  let arg22 : BitVec 32 := Scf.iv c0_i32 c1_i32 k0_t1
  let v431 : Index := Scalar.indexCast arg22
  let c256_328 : Index := 256#32
  let c0_329 : Index := 0#32
  ![v431.toNat, 256, 0]
def k0_off37 (k0_t1 : Fin k0_t1_loop.trips) : Fin 3 → Nat :=
  let c0_i32 : BitVec 32 := 0#32
  let c1_i32 : BitVec 32 := 1#32
  let arg22 : BitVec 32 := Scf.iv c0_i32 c1_i32 k0_t1
  let v445 : Index := Scalar.indexCast arg22
  let c256_334 : Index := 256#32
  let c64_335 : Index := 64#32
  ![v445.toNat, 256, 64]
def k0_off38 (k0_t1 : Fin k0_t1_loop.trips) : Fin 4 → Nat :=
  let c0_338 : Index := 0#32
  let c0_i32 : BitVec 32 := 0#32
  let c1_i32 : BitVec 32 := 1#32
  let arg22 : BitVec 32 := Scf.iv c0_i32 c1_i32 k0_t1
  let v463 : Index := Scalar.indexCast arg22
  let c0_339 : Index := 0#32
  let c256_340 : Index := 256#32
  ![0, v463.toNat, 0, 256]
def k0_off39 (k0_t1 : Fin k0_t1_loop.trips) : Fin 3 → Nat :=
  let c0_i32 : BitVec 32 := 0#32
  let c1_i32 : BitVec 32 := 1#32
  let arg22 : BitVec 32 := Scf.iv c0_i32 c1_i32 k0_t1
  let v485 : Index := Scalar.indexCast arg22
  let c0_354 : Index := 0#32
  let c256_355 : Index := 256#32
  ![v485.toNat, 0, 256]
def k0_off40 (k0_t1 : Fin k0_t1_loop.trips) : Fin 4 → Nat :=
  let c1_365 : Index := 1#32
  let c0_i32 : BitVec 32 := 0#32
  let c1_i32 : BitVec 32 := 1#32
  let arg22 : BitVec 32 := Scf.iv c0_i32 c1_i32 k0_t1
  let v518 : Index := Scalar.indexCast arg22
  let c0_366 : Index := 0#32
  let c256_367 : Index := 256#32
  ![1, v518.toNat, 0, 256]
def k0_off41 (k0_t1 : Fin k0_t1_loop.trips) : Fin 3 → Nat :=
  let c0_i32 : BitVec 32 := 0#32
  let c1_i32 : BitVec 32 := 1#32
  let arg22 : BitVec 32 := Scf.iv c0_i32 c1_i32 k0_t1
  let v540 : Index := Scalar.indexCast arg22
  let c64_381 : Index := 64#32
  let c256_382 : Index := 256#32
  ![v540.toNat, 64, 256]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x4x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x4x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8192x3072 : Shape := ⟨2, ![8192, 3072]⟩
abbrev S4x8x2048 : Shape := ⟨3, ![4, 8, 2048]⟩
abbrev S8192x512 : Shape := ⟨2, ![8192, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩
abbrev S4x8x4x1x512 : Shape := ⟨5, ![4, 8, 4, 1, 512]⟩

abbrev nBuf : Space → Nat
  | .hbm => 129
  | .vmem => 0
  | .smem => 0
  | _ => 0

abbrev hbmTy0_0 (i : Nat) : BufTy := match i % 128 with
  | 0 => ⟨S8192x3072, .bf16⟩
  | 1 => ⟨S4x8x2048, .f32⟩
  | 2 => ⟨S8192x512, .f32⟩
  | 3 => ⟨S8192x512, .bf16⟩
  | 4 => ⟨S8192x512, .f32⟩
  | 5 => ⟨S8192x512, .bf16⟩
  | 6 => ⟨S8192x512, .f32⟩
  | 7 => ⟨S8192x512, .bf16⟩
  | 8 => ⟨S8192x512, .f32⟩
  | 9 => ⟨S4x8x2048, .f32⟩
  | 10 => ⟨S4x2048x8x64, .f32⟩
  | 11 => ⟨S4x8x2048x64, .f32⟩
  | 12 => ⟨S4x2048x8x64, .f32⟩
  | 13 => ⟨S4x8x2048x64, .f32⟩
  | 14 => ⟨S4x2048x8x64, .f32⟩
  | 15 => ⟨S4x8x2048x64, .f32⟩
  | 16 => ⟨S4x8x2048x2048, .f32⟩
  | 17 => ⟨S_, .f32⟩
  | 18 => ⟨S4x8x2048x2048, .f32⟩
  | 19 => ⟨S4x8x2048x2048, .f32⟩
  | 20 => ⟨S4x8x2048x1, .f32⟩
  | 21 => ⟨S4x8x2048x2048, .f32⟩
  | 22 => ⟨S4x8x2048x2048, .f32⟩
  | 23 => ⟨S4x8x1x2048, .f32⟩
  | 24 => ⟨S4x8x2048x2048, .f32⟩
  | 25 => ⟨S4x8x2048x2048, .f32⟩
  | 26 => ⟨S2048, .i32⟩
  | 27 => ⟨S2048x1, .i32⟩
  | 28 => ⟨S2048, .i32⟩
  | 29 => ⟨S1x2048, .i32⟩
  | 30 => ⟨S2048x2048, .i32⟩
  | 31 => ⟨S2048x2048, .i32⟩
  | 32 => ⟨S2048x2048, .i1⟩
  | 33 => ⟨S_, .f32⟩
  | 34 => ⟨S_, .f32⟩
  | 35 => ⟨S4x8x2048x2048, .i1⟩
  | 36 => ⟨S4x8x2048x2048, .f32⟩
  | 37 => ⟨S4x8x2048x2048, .f32⟩
  | 38 => ⟨S_, .f32⟩
  | 39 => ⟨S4x8x2048x2048, .f32⟩
  | 40 => ⟨S_, .f32⟩
  | 41 => ⟨S4x8x2048, .f32⟩
  | 42 => ⟨S4x8x2048x1, .f32⟩
  | 43 => ⟨S4x8x2048x2048, .f32⟩
  | 44 => ⟨S4x8x2048x2048, .i1⟩
  | 45 => ⟨S4x8x2048x2048, .f32⟩
  | 46 => ⟨S_, .f32⟩
  | 47 => ⟨S4x8x2048, .f32⟩
  | 48 => ⟨S_, .f32⟩
  | 49 => ⟨S4x8x2048, .f32⟩
  | 50 => ⟨S4x8x2048, .f32⟩
  | 51 => ⟨S_, .f32⟩
  | 52 => ⟨S4x8x2048, .f32⟩
  | 53 => ⟨S4x8x2048, .i1⟩
  | 54 => ⟨S_, .f32⟩
  | 55 => ⟨S4x8x2048, .f32⟩
  | 56 => ⟨S4x8x2048, .i1⟩
  | 57 => ⟨S_, .f32⟩
  | 58 => ⟨S4x8x2048, .f32⟩
  | 59 => ⟨S_, .f32⟩
  | 60 => ⟨S4x8x2048, .f32⟩
  | 61 => ⟨S_, .f32⟩
  | 62 => ⟨S4x8x2048, .f32⟩
  | 63 => ⟨S4x8x2048, .f32⟩
  | 64 => ⟨S4x8x2048, .f32⟩
  | 65 => ⟨S4x8x2048x1, .f32⟩
  | 66 => ⟨S4x8x2048x2048, .f32⟩
  | 67 => ⟨S4x8x2048x2048, .f32⟩
  | 68 => ⟨S4x8x2048x2048, .f32⟩
  | 69 => ⟨S_, .f32⟩
  | 70 => ⟨S4x8x2048, .f32⟩
  | 71 => ⟨S4x8x2048x1, .f32⟩
  | 72 => ⟨S4x8x2048x2048, .f32⟩
  | 73 => ⟨S4x8x2048x2048, .f32⟩
  | 74 => ⟨S4x8x2048x1, .f32⟩
  | 75 => ⟨S_, .f32⟩
  | 76 => ⟨S4x8x2048x1, .f32⟩
  | 77 => ⟨S4x8x2048x1, .f32⟩
  | 78 => ⟨S4x8x2048x64, .f32⟩
  | 79 => ⟨S4x2048x8x64, .f32⟩
  | 80 => ⟨S8192x512, .f32⟩
  | 81 => ⟨S4x2048x8x64, .f32⟩
  | 82 => ⟨S4x8x2048x64, .f32⟩
  | 83 => ⟨S4x8x64x2048, .f32⟩
  | 84 => ⟨S4x8x2048x64, .f32⟩
  | 85 => ⟨S4x8x2048x2048, .f32⟩
  | 86 => ⟨S4x8x2048x2048, .f32⟩
  | 87 => ⟨S4x8x2048x2048, .f32⟩
  | 88 => ⟨S4x8x2048x2048, .f32⟩
  | 89 => ⟨S_, .f32⟩
  | 90 => ⟨S4x8x2048, .f32⟩
  | 91 => ⟨S4x8x2048x1, .f32⟩
  | 92 => ⟨S4x8x2048x1, .f32⟩
  | 93 => ⟨S4x8x2048x2048, .f32⟩
  | 94 => ⟨S4x8x2048x2048, .f32⟩
  | 95 => ⟨S_, .f32⟩
  | 96 => ⟨S4x8x2048, .f32⟩
  | 97 => ⟨S4x8x2048x2048, .f32⟩
  | 98 => ⟨S4x8x2048x2048, .f32⟩
  | 99 => ⟨S4x8x2048x2048, .f32⟩
  | 100 => ⟨S_, .f32⟩
  | 101 => ⟨S4x8x2048x2048, .f32⟩
  | 102 => ⟨S4x8x2048x2048, .f32⟩
  | 103 => ⟨S_, .f32⟩
  | 104 => ⟨S4x8x2048, .f32⟩
  | 105 => ⟨S4x8x1x2048, .f32⟩
  | 106 => ⟨S_, .f32⟩
  | 107 => ⟨S4x8x2048, .f32⟩
  | 108 => ⟨S_, .f32⟩
  | 109 => ⟨S4x8x2048, .f32⟩
  | 110 => ⟨S4x8x2048x1, .f32⟩
  | 111 => ⟨S_, .f32⟩
  | 112 => ⟨S4x8x2048, .f32⟩
  | 113 => ⟨S_, .f32⟩
  | 114 => ⟨S4x8x2048x2048, .f32⟩
  | 115 => ⟨S4x8x2048x2048, .f32⟩
  | 116 => ⟨S4x8x2048x64, .f32⟩
  | 117 => ⟨S4x8x2048x64, .f32⟩
  | 118 => ⟨S4x2048x8x64, .f32⟩
  | 119 => ⟨S8192x512, .f32⟩
  | 120 => ⟨S4x2048x8x64, .f32⟩
  | 121 => ⟨S8192x512, .f32⟩
  | 122 => ⟨S4x2048x8x64, .f32⟩
  | 123 => ⟨S8192x512, .f32⟩
  | 124 => ⟨S8192x512, .bf16⟩
  | 125 => ⟨S8192x512, .bf16⟩
  | 126 => ⟨S8192x512, .bf16⟩
  | 127 => ⟨S4x8x4x1x512, .f32⟩
  | _ => ⟨S8192x3072, .bf16⟩

abbrev hbmTy0_1 (i : Nat) : BufTy := match i % 128 with
  | 0 => ⟨S4x8x4x1x512, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== KernelUp.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S512x1024 : Shape := ⟨2, ![512, 1024]⟩
abbrev S256x512 : Shape := ⟨2, ![256, 512]⟩
abbrev S256x256 : Shape := ⟨2, ![256, 256]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S8192x2816, .bf16⟩
  | .hbm, ⟨10, _⟩ => ⟨S8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== KernelDown.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S512x1024 : Shape := ⟨2, ![512, 1024]⟩
abbrev S256x512 : Shape := ⟨2, ![256, 512]⟩
abbrev S256x256 : Shape := ⟨2, ![256, 256]⟩

abbrev nBuf : Space → Nat
  | .hbm => 15
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .bf16⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S8192x2816, .bf16⟩
  | .hbm, ⟨9, _⟩ => ⟨S8192x1024, .f32⟩
  | .hbm, ⟨10, _⟩ => ⟨S1024x2816, .f32⟩
  | .hbm, ⟨11, _⟩ => ⟨S8192x2816, .f32⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceDownIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .bf16⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S8192x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S2816x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== KernelDwd.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S2752x1024 : Shape := ⟨2, ![2752, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .bf16⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x1024, .f32⟩
  | .hbm, ⟨17, _⟩ => ⟨S1024x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | .hbm, ⟨21, _⟩ => ⟨S2752x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdIdeal.lean ====
abbrev S8192x1024 : Shape := ⟨2, ![8192, 1024]⟩
abbrev S1024x2816 : Shape := ⟨2, ![1024, 2816]⟩
abbrev S_ : Shape := ⟨0, ![]⟩
abbrev S2816x1024 : Shape := ⟨2, ![2816, 1024]⟩
abbrev S8192x2816 : Shape := ⟨2, ![8192, 2816]⟩
abbrev S2752x1024 : Shape := ⟨2, ![2752, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .bf16⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S1024x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S1024x2816, .f32⟩
  | .hbm, ⟨25, _⟩ => ⟨S2816x1024, .f32⟩
  | .hbm, ⟨26, _⟩ => ⟨S2752x1024, .f32⟩
  | .hbm, ⟨27, _⟩ => ⟨S2752x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== KernelDw.lean ====
abbrev S8192x1024 : Shape := ⟨2, ![8192, 1024]⟩
abbrev S8192x2816 : Shape := ⟨2, ![8192, 2816]⟩
abbrev S2752x1024 : Shape := ⟨2, ![2752, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2752x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S2752x1024 : Shape := ⟨2, ![2752, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2752x1024, .f32⟩
  | .hbm, ⟨11, _⟩ => ⟨S2752x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwo.lean ====
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond5 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceDwoIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelDwin.lean ====
abbrev S8192x1024 : Shape := ⟨2, ![8192, 1024]⟩
abbrev S8192x512 : Shape := ⟨2, ![8192, 512]⟩
abbrev S8192x8 : Shape := ⟨2, ![8192, 8]⟩
abbrev S_ : Shape := ⟨0, ![]⟩
abbrev S8192x128 : Shape := ⟨2, ![8192, 128]⟩
abbrev S3080x1024 : Shape := ⟨2, ![3080, 1024]⟩
abbrev S1024x512 : Shape := ⟨2, ![1024, 512]⟩
abbrev S1024x128 : Shape := ⟨2, ![1024, 128]⟩
abbrev S1024x1024 : Shape := ⟨2, ![1024, 1024]⟩
abbrev S512x1024 : Shape := ⟨2, ![512, 1024]⟩
abbrev S128x1024 : Shape := ⟨2, ![128, 1024]⟩
abbrev S8x1024 : Shape := ⟨2, ![8, 1024]⟩

abbrev nBuf : Space → Nat
  | .hbm => 12
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x8, .bf16⟩
  | .hbm, ⟨8, _⟩ => ⟨S_, .i32⟩
  | .hbm, ⟨9, _⟩ => ⟨S_, .bf16⟩
  | .hbm, ⟨10, _⟩ => ⟨S8192x128, .bf16⟩
  | .hbm, ⟨11, _⟩ => ⟨S3080x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x1024, .bf16⟩
  | .local _ .vmem, ⟨15, _⟩ => ⟨S1024x1024, .bf16⟩
  | .local _ .vmem, ⟨16, _⟩ => ⟨S3080x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S128x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond15 (i : grid0.Coords) : BitVec 1 :=
  let arg0 : BitVec 32 := BitVec.ofNat 32 (i 0).val
  let c7_i32 : BitVec 32 := 7#32
  let v58 : BitVec 1 := Scalar.cmpi .eq arg0 c7_i32
  let v59 : BitVec 32 := Scalar.extui v58
  let c0_i32_48 : BitVec 32 := 0#32
  let v60 : BitVec 1 := Scalar.cmpi .ne v59 c0_i32_48
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3080x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDwinIdeal.lean ====
abbrev S8192x1024 : Shape := ⟨2, ![8192, 1024]⟩
abbrev S8192x512 : Shape := ⟨2, ![8192, 512]⟩
abbrev S8192x8 : Shape := ⟨2, ![8192, 8]⟩
abbrev S8192x3080 : Shape := ⟨2, ![8192, 3080]⟩
abbrev S_ : Shape := ⟨0, ![]⟩
abbrev S1024x3080 : Shape := ⟨2, ![1024, 3080]⟩
abbrev S3080x1024 : Shape := ⟨2, ![3080, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x8, .bf16⟩
  | .hbm, ⟨8, _⟩ => ⟨S8192x3080, .bf16⟩
  | .hbm, ⟨9, _⟩ => ⟨S8192x3080, .f32⟩
  | .hbm, ⟨10, _⟩ => ⟨S_, .f32⟩
  | .hbm, ⟨11, _⟩ => ⟨S1024x3080, .f32⟩
  | .hbm, ⟨12, _⟩ => ⟨S8192x1024, .f32⟩
  | .hbm, ⟨13, _⟩ => ⟨S8192x3080, .f32⟩
  | .hbm, ⟨14, _⟩ => ⟨S3080x1024, .f32⟩
  | .hbm, ⟨15, _⟩ => ⟨S1024x3080, .f32⟩
  | .hbm, ⟨16, _⟩ => ⟨S3080x1024, .f32⟩
  | .hbm, ⟨17, _⟩ => ⟨S3080x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== KernelDh.lean ====
abbrev S8192x1024 : Shape := ⟨2, ![8192, 1024]⟩
abbrev S1x1024 : Shape := ⟨2, ![1, 1024]⟩
abbrev S4x9x1024 : Shape := ⟨3, ![4, 9, 1024]⟩
abbrev S1024x2816 : Shape := ⟨2, ![1024, 2816]⟩
abbrev S8192x2816 : Shape := ⟨2, ![8192, 2816]⟩
abbrev S2816x1024 : Shape := ⟨2, ![2816, 1024]⟩
abbrev S4x1x1024 : Shape := ⟨3, ![4, 1, 1024]⟩
abbrev S256x2816 : Shape := ⟨2, ![256, 2816]⟩
abbrev S256x1024 : Shape := ⟨2, ![256, 1024]⟩
abbrev S1x9x1024 : Shape := ⟨3, ![1, 9, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x9x1024, .f32⟩
  | .hbm, ⟨3, _⟩ => ⟨S1024x2816, .bf16⟩
  | .hbm, ⟨4, _⟩ => ⟨S1024x2816, .bf16⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S2816x1024, .bf16⟩
  | .hbm, ⟨9, _⟩ => ⟨S2816x1024, .bf16⟩
  | .hbm, ⟨10, _⟩ => ⟨S8192x1024, .f32⟩
  | .hbm, ⟨11, _⟩ => ⟨S1x1024, .f32⟩
  | .hbm, ⟨12, _⟩ => ⟨S4x1x1024, .f32⟩
  | .hbm, ⟨13, _⟩ => ⟨S4x1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x9x1024, .f32⟩
  | .local _ .vmem, ⟨10, _⟩ => ⟨S1x9x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg0 : BitVec 32 := BitVec.ofNat 32 (i 0).val
  let c0_i32_24 : BitVec 32 := 0#32
  let v45 : BitVec 1 := Scalar.cmpi .eq arg0 c0_i32_24
  let arg1 : BitVec 32 := BitVec.ofNat 32 (i 1).val
  let c0_i32_25 : BitVec 32 := 0#32
  let v46 : BitVec 1 := Scalar.cmpi .eq arg1 c0_i32_25
  let v47 : BitVec 1 := Scalar.andi v45 v46
  let v48 : BitVec 32 := Scalar.extui v47
  let c0_i32_26 : BitVec 32 := 0#32
  let v49 : BitVec 1 := Scalar.cmpi .ne v48 c0_i32_26
  v49

def k0_cond4 (i : grid0.Coords) : BitVec 1 :=
  let arg0 : BitVec 32 := BitVec.ofNat 32 (i 0).val
  let c0_i32_24 : BitVec 32 := 0#32
  let v45 : BitVec 1 := Scalar.cmpi .eq arg0 c0_i32_24
  let arg1 : BitVec 32 := BitVec.ofNat 32 (i 1).val
  let c0_i32_25 : BitVec 32 := 0#32
  let v46 : BitVec 1 := Scalar.cmpi .eq arg1 c0_i32_25
  let v47 : BitVec 1 := Scalar.andi v45 v46
  let v_true : BitVec 1 := 1#1
  let v50 : BitVec 1 := Scalar.xori v47 v_true
  let v51 : BitVec 32 := Scalar.extui v50
  let c0_i32_27 : BitVec 32 := 0#32
  let v52 : BitVec 1 := Scalar.cmpi .ne v51 c0_i32_27
  v52

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_20 : BitVec 32 := 0#32
  let v38 : BitVec 1 := Scalar.cmpi .ne v37 c0_i32_20
  v38

def k0_cond2 (i : grid0.Coords) : BitVec 1 :=
  let arg1 : BitVec 32 := BitVec.ofNat 32 (i 1).val
  let c0_i32_21 : BitVec 32 := 0#32
  let v39 : BitVec 1 := Scalar.cmpi .sgt arg1 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceDhIdeal.lean ====
abbrev S8192x1024 : Shape := ⟨2, ![8192, 1024]⟩
abbrev S1x1024 : Shape := ⟨2, ![1, 1024]⟩
abbrev S4x9x1024 : Shape := ⟨3, ![4, 9, 1024]⟩
abbrev S1024x2816 : Shape := ⟨2, ![1024, 2816]⟩
abbrev S8192x2816 : Shape := ⟨2, ![8192, 2816]⟩
abbrev S4x1x1024 : Shape := ⟨3, ![4, 1, 1024]⟩
abbrev S4x1024 : Shape := ⟨2, ![4, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x9x1024, .f32⟩
  | .hbm, ⟨3, _⟩ => ⟨S1024x2816, .bf16⟩
  | .hbm, ⟨4, _⟩ => ⟨S1024x2816, .bf16⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S1024x2816, .f32⟩
  | .hbm, ⟨44, _⟩ => ⟨S8192x2816, .f32⟩
  | .hbm, ⟨45, _⟩ => ⟨S1024x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S4x2048x1024, .f32⟩
  | .hbm, ⟨53, _⟩ => ⟨S_, .f32⟩
  | .hbm, ⟨54, _⟩ => ⟨S4x1024, .f32⟩
  | .hbm, ⟨55, _⟩ => ⟨S4x1x1024, .f32⟩
  | .hbm, ⟨56, _⟩ => ⟨S4x2048x1024, .f32⟩
  | .hbm, ⟨57, _⟩ => ⟨S_, .f32⟩
  | .hbm, ⟨58, _⟩ => ⟨S4x1024, .f32⟩
  | .hbm, ⟨59, _⟩ => ⟨S4x1x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S4x2048x1024, .f32⟩
  | .hbm, ⟨67, _⟩ => ⟨S4x2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4x2048x1024, .f32⟩
  | .hbm, ⟨72, _⟩ => ⟨S_, .f32⟩
  | .hbm, ⟨73, _⟩ => ⟨S4x2048, .f32⟩
  | .hbm, ⟨74, _⟩ => ⟨S4x2048x1, .f32⟩
  | .hbm, ⟨75, _⟩ => ⟨S4x2048x1024, .f32⟩
  | .hbm, ⟨76, _⟩ => ⟨S4x2048x1024, .f32⟩
  | .hbm, ⟨77, _⟩ => ⟨S4x2048x1, .f32⟩
  | .hbm, ⟨78, _⟩ => ⟨S_, .f32⟩
  | .hbm, ⟨79, _⟩ => ⟨S4x2048x1, .f32⟩
  | .hbm, ⟨80, _⟩ => ⟨S4x2048x1, .f32⟩
  | .hbm, ⟨81, _⟩ => ⟨S_, .f32⟩
  | .hbm, ⟨82, _⟩ => ⟨S4x2048, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S8192x1024, .f32⟩
  | .hbm, ⟨89, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== KernelPn.lean ====
abbrev S8192x1024 : Shape := ⟨2, ![8192, 1024]⟩
abbrev S1x1024 : Shape := ⟨2, ![1, 1024]⟩
abbrev S4x9x1024 : Shape := ⟨3, ![4, 9, 1024]⟩
abbrev S4x1x1024 : Shape := ⟨3, ![4, 1, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S4x9x1024, .f32⟩
  | .hbm, ⟨4, _⟩ => ⟨S8192x1024, .bf16⟩
  | .hbm, ⟨5, _⟩ => ⟨S1x1024, .f32⟩
  | .hbm, ⟨6, _⟩ => ⟨S4x1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg0 : BitVec 32 := BitVec.ofNat 32 (i 0).val
  let c0_i32_20 : BitVec 32 := 0#32
  let v51 : BitVec 1 := Scalar.cmpi .eq arg0 c0_i32_20
  let arg1 : BitVec 32 := BitVec.ofNat 32 (i 1).val
  let c0_i32_21 : BitVec 32 := 0#32
  let v52 : BitVec 1 := Scalar.cmpi .eq arg1 c0_i32_21
  let v53 : BitVec 1 := Scalar.andi v51 v52
  let v54 : BitVec 32 := Scalar.extui v53
  let c0_i32_22 : BitVec 32 := 0#32
  let v55 : BitVec 1 := Scalar.cmpi .ne v54 c0_i32_22
  v55

def k0_cond4 (i : grid0.Coords) : BitVec 1 :=
  let arg0 : BitVec 32 := BitVec.ofNat 32 (i 0).val
  let c0_i32_20 : BitVec 32 := 0#32
  let v51 : BitVec 1 := Scalar.cmpi .eq arg0 c0_i32_20
  let arg1 : BitVec 32 := BitVec.ofNat 32 (i 1).val
  let c0_i32_21 : BitVec 32 := 0#32
  let v52 : BitVec 1 := Scalar.cmpi .eq arg1 c0_i32_21
  let v53 : BitVec 1 := Scalar.andi v51 v52
  let v_true : BitVec 1 := 1#1
  let v56 : BitVec 1 := Scalar.xori v53 v_true
  let v57 : BitVec 32 := Scalar.extui v56
  let c0_i32_23 : BitVec 32 := 0#32
  let v58 : BitVec 1 := Scalar.cmpi .ne v57 c0_i32_23
  v58

def k0_cond1 (i : grid0.Coords) : BitVec 1 :=
  let arg1 : BitVec 32 := BitVec.ofNat 32 (i 1).val
  let c0_i32 : BitVec 32 := 0#32
  let v45 : BitVec 1 := Scalar.cmpi .eq arg1 c0_i32
  let v46 : BitVec 32 := Scalar.extui v45
  let c0_i32_17 : BitVec 32 := 0#32
  let v47 : BitVec 1 := Scalar.cmpi .ne v46 c0_i32_17
  v47

def k0_cond2 (i : grid0.Coords) : BitVec 1 :=
  let arg1 : BitVec 32 := BitVec.ofNat 32 (i 1).val
  let c0_i32_18 : BitVec 32 := 0#32
  let v48 : BitVec 1 := Scalar.cmpi .sgt arg1 c0_i32_18
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferencePnIdeal.lean ====
abbrev S8192x1024 : Shape := ⟨2, ![8192, 1024]⟩
abbrev S1x1024 : Shape := ⟨2, ![1, 1024]⟩
abbrev S4x9x1024 : Shape := ⟨3, ![4, 9, 1024]⟩
abbrev S4x1x1024 : Shape := ⟨3, ![4, 1, 1024]⟩
abbrev S4x1024 : Shape := ⟨2, ![4, 1024]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S4x9x1024, .f32⟩
  | .hbm, ⟨4, _⟩ => ⟨S4x1x1024, .f32⟩
  | .hbm, ⟨5, _⟩ => ⟨S4x1024, .f32⟩
  | .hbm, ⟨6, _⟩ => ⟨S4x1x1024, .f32⟩
  | .hbm, ⟨7, _⟩ => ⟨S8192x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S8192x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x1024, .f32⟩
  | .hbm, ⟨41, _⟩ => ⟨S4x1x1024, .f32⟩
  | .hbm, ⟨42, _⟩ => ⟨S4x2048x1024, .f32⟩
  | .hbm, ⟨43, _⟩ => ⟨S_, .f32⟩
  | .hbm, ⟨44, _⟩ => ⟨S1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4x2048x1024, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S4x2048x1024, .f32⟩
  | .hbm, ⟨56, _⟩ => ⟨S4x2048x1024, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S8192x1024, .f32⟩
  | .hbm, ⟨69, _⟩ => ⟨S_, .f32⟩
  | .hbm, ⟨70, _⟩ => ⟨S4x1x1024, .f32⟩
  | .hbm, ⟨71, _⟩ => ⟨S4x1x1024, .f32⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== KernelDn.lean ====
abbrev S8192x1024 : Shape := ⟨2, ![8192, 1024]⟩
abbrev S512x1024 : Shape := ⟨2, ![512, 1024]⟩
abbrev S8192x512 : Shape := ⟨2, ![8192, 512]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .hbm, ⟨3, _⟩ => ⟨S1x512, .f32⟩
  | .hbm, ⟨4, _⟩ => ⟨S1024x512, .bf16⟩
  | .hbm, ⟨5, _⟩ => ⟨S8192x512, .f32⟩
  | .hbm, ⟨6, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let arg1 : BitVec 32 := BitVec.ofNat 32 (i 1).val
  let c0_i32_11 : BitVec 32 := 0#32
  let v20 : BitVec 1 := Scalar.cmpi .eq arg1 c0_i32_11
  let v21 : BitVec 1 := Scalar.andi v19 v20
  let v22 : BitVec 32 := Scalar.extui v21
  let c0_i32_12 : BitVec 32 := 0#32
  let v23 : BitVec 1 := Scalar.cmpi .ne v22 c0_i32_12
  v23

def k0_cond2 (i : grid0.Coords) : BitVec 1 :=
  let arg0 : BitVec 32 := BitVec.ofNat 32 (i 0).val
  let c0_i32 : BitVec 32 := 0#32
  let v19 : BitVec 1 := Scalar.cmpi .eq arg0 c0_i32
  let arg1 : BitVec 32 := BitVec.ofNat 32 (i 1).val
  let c0_i32_11 : BitVec 32 := 0#32
  let v20 : BitVec 1 := Scalar.cmpi .eq arg1 c0_i32_11
  let v21 : BitVec 1 := Scalar.andi v19 v20
  let v_true : BitVec 1 := 1#1
  let v24 : BitVec 1 := Scalar.xori v21 v_true
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceDnIdeal.lean ====
abbrev S8192x1024 : Shape := ⟨2, ![8192, 1024]⟩
abbrev S512x1024 : Shape := ⟨2, ![512, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .hbm, ⟨3, _⟩ => ⟨S1x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S512x1024, .f32⟩
  | .hbm, ⟨24, _⟩ => ⟨S8192x1024, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== KernelDp.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S4x9x1024 : Shape := ⟨3, ![4, 9, 1024]⟩
abbrev S1x1 : Shape := ⟨2, ![1, 1]⟩
abbrev S512x2816 : Shape := ⟨2, ![512, 2816]⟩
abbrev S512x1024 : Shape := ⟨2, ![512, 1024]⟩
abbrev S1x9x1024 : Shape := ⟨3, ![1, 9, 1024]⟩
abbrev S512 : Shape := ⟨1, ![512]⟩
abbrev S512x1 : Shape := ⟨2, ![512, 1]⟩
abbrev S1x1x1024 : Shape := ⟨3, ![1, 1, 1024]⟩
abbrev S1 : Shape := ⟨1, ![1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S1x1024, .f32⟩
  | .hbm, ⟨4, _⟩ => ⟨S4x9x1024, .f32⟩
  | .hbm, ⟨5, _⟩ => ⟨S8192x1024, .f32⟩
  | .hbm, ⟨6, _⟩ => ⟨S8192x1024, .f32⟩
  | .hbm, ⟨7, _⟩ => ⟨S1x1, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x9x1024, .f32⟩
  | .local _ .vmem, ⟨7, _⟩ => ⟨S1x9x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let arg1 : BitVec 32 := BitVec.ofNat 32 (i 1).val
  let c0_i32_23 : BitVec 32 := 0#32
  let v39 : BitVec 1 := Scalar.cmpi .eq arg1 c0_i32_23
  let v40 : BitVec 1 := Scalar.andi v38 v39
  let v41 : BitVec 32 := Scalar.extui v40
  let c0_i32_24 : BitVec 32 := 0#32
  let v42 : BitVec 1 := Scalar.cmpi .ne v41 c0_i32_24
  v42

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let arg1 : BitVec 32 := BitVec.ofNat 32 (i 1).val
  let c0_i32_23 : BitVec 32 := 0#32
  let v39 : BitVec 1 := Scalar.cmpi .eq arg1 c0_i32_23
  let v40 : BitVec 1 := Scalar.andi v38 v39
  let v_true : BitVec 1 := 1#1
  let v43 : BitVec 1 := Scalar.xori v40 v_true
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceDpIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S4x9x1024 : Shape := ⟨3, ![4, 9, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x1024 : Shape := ⟨2, ![4, 1024]⟩
abbrev S8192 : Shape := ⟨1, ![8192]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S1x1024, .f32⟩
  | .hbm, ⟨4, _⟩ => ⟨S4x9x1024, .f32⟩
  | .hbm, ⟨5, _⟩ => ⟨S8192x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S1x1, .f32⟩
  | .hbm, ⟨60, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== KernelPm.lean ====
abbrev S8192x1024 : Shape := ⟨2, ![8192, 1024]⟩
abbrev S1x1024 : Shape := ⟨2, ![1, 1024]⟩
abbrev S4x9x1024 : Shape := ⟨3, ![4, 9, 1024]⟩
abbrev S4x1x1024 : Shape := ⟨3, ![4, 1, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S4x9x1024, .f32⟩
  | .hbm, ⟨4, _⟩ => ⟨S8192x1024, .bf16⟩
  | .hbm, ⟨5, _⟩ => ⟨S1x1024, .f32⟩
  | .hbm, ⟨6, _⟩ => ⟨S4x1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg0 : BitVec 32 := BitVec.ofNat 32 (i 0).val
  let c0_i32_20 : BitVec 32 := 0#32
  let v51 : BitVec 1 := Scalar.cmpi .eq arg0 c0_i32_20
  let arg1 : BitVec 32 := BitVec.ofNat 32 (i 1).val
  let c0_i32_21 : BitVec 32 := 0#32
  let v52 : BitVec 1 := Scalar.cmpi .eq arg1 c0_i32_21
  let v53 : BitVec 1 := Scalar.andi v51 v52
  let v54 : BitVec 32 := Scalar.extui v53
  let c0_i32_22 : BitVec 32 := 0#32
  let v55 : BitVec 1 := Scalar.cmpi .ne v54 c0_i32_22
  v55

def k0_cond4 (i : grid0.Coords) : BitVec 1 :=
  let arg0 : BitVec 32 := BitVec.ofNat 32 (i 0).val
  let c0_i32_20 : BitVec 32 := 0#32
  let v51 : BitVec 1 := Scalar.cmpi .eq arg0 c0_i32_20
  let arg1 : BitVec 32 := BitVec.ofNat 32 (i 1).val
  let c0_i32_21 : BitVec 32 := 0#32
  let v52 : BitVec 1 := Scalar.cmpi .eq arg1 c0_i32_21
  let v53 : BitVec 1 := Scalar.andi v51 v52
  let v_true : BitVec 1 := 1#1
  let v56 : BitVec 1 := Scalar.xori v53 v_true
  let v57 : BitVec 32 := Scalar.extui v56
  let c0_i32_23 : BitVec 32 := 0#32
  let v58 : BitVec 1 := Scalar.cmpi .ne v57 c0_i32_23
  v58

def k0_cond1 (i : grid0.Coords) : BitVec 1 :=
  let arg1 : BitVec 32 := BitVec.ofNat 32 (i 1).val
  let c0_i32 : BitVec 32 := 0#32
  let v45 : BitVec 1 := Scalar.cmpi .eq arg1 c0_i32
  let v46 : BitVec 32 := Scalar.extui v45
  let c0_i32_17 : BitVec 32 := 0#32
  let v47 : BitVec 1 := Scalar.cmpi .ne v46 c0_i32_17
  v47

def k0_cond2 (i : grid0.Coords) : BitVec 1 :=
  let arg1 : BitVec 32 := BitVec.ofNat 32 (i 1).val
  let c0_i32_18 : BitVec 32 := 0#32
  let v48 : BitVec 1 := Scalar.cmpi .sgt arg1 c0_i32_18
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferencePmIdeal.lean ====
abbrev S8192x1024 : Shape := ⟨2, ![8192, 1024]⟩
abbrev S1x1024 : Shape := ⟨2, ![1, 1024]⟩
abbrev S4x9x1024 : Shape := ⟨3, ![4, 9, 1024]⟩
abbrev S4x1x1024 : Shape := ⟨3, ![4, 1, 1024]⟩
abbrev S4x1024 : Shape := ⟨2, ![4, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S4x9x1024, .f32⟩
  | .hbm, ⟨4, _⟩ => ⟨S4x1x1024, .f32⟩
  | .hbm, ⟨5, _⟩ => ⟨S4x1024, .f32⟩
  | .hbm, ⟨6, _⟩ => ⟨S4x1x1024, .f32⟩
  | .hbm, ⟨7, _⟩ => ⟨S8192x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S8192x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x1024, .f32⟩
  | .hbm, ⟨38, _⟩ => ⟨S4x1x1024, .f32⟩
  | .hbm, ⟨39, _⟩ => ⟨S4x2048x1024, .f32⟩
  | .hbm, ⟨40, _⟩ => ⟨S_, .f32⟩
  | .hbm, ⟨41, _⟩ => ⟨S1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4x2048x1024, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S4x2048x1024, .f32⟩
  | .hbm, ⟨53, _⟩ => ⟨S4x2048x1024, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S_, .f32⟩
  | .hbm, ⟨59, _⟩ => ⟨S4x2048, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S8192x1024, .f32⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== KernelMo.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S4x9x1024 : Shape := ⟨3, ![4, 9, 1024]⟩
abbrev S512x1024 : Shape := ⟨2, ![512, 1024]⟩
abbrev S512x512 : Shape := ⟨2, ![512, 512]⟩
abbrev S1x9x1024 : Shape := ⟨3, ![1, 9, 1024]⟩
abbrev S512 : Shape := ⟨1, ![512]⟩
abbrev S512x1 : Shape := ⟨2, ![512, 1]⟩
abbrev S1x1x1024 : Shape := ⟨3, ![1, 1, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S1x1024, .f32⟩
  | .hbm, ⟨5, _⟩ => ⟨S4x9x1024, .f32⟩
  | .hbm, ⟨6, _⟩ => ⟨S512x1024, .bf16⟩
  | .hbm, ⟨7, _⟩ => ⟨S512x1024, .bf16⟩
  | .hbm, ⟨8, _⟩ => ⟨S8192x1024, .f32⟩
  | .hbm, ⟨9, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x9x1024, .f32⟩
  | .local _ .vmem, ⟨10, _⟩ => ⟨S1x9x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMoIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S4x9x1024 : Shape := ⟨3, ![4, 9, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x1024 : Shape := ⟨2, ![4, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S1x1024, .f32⟩
  | .hbm, ⟨5, _⟩ => ⟨S4x9x1024, .f32⟩
  | .hbm, ⟨6, _⟩ => ⟨S8192x1024, .bf16⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S4x2048x1024, .f32⟩
  | .hbm, ⟨31, _⟩ => ⟨S4x2048x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelPr.lean ====
abbrev S8192x1024 : Shape := ⟨2, ![8192, 1024]⟩
abbrev S1024x3072 : Shape := ⟨2, ![1024, 3072]⟩
abbrev S4x2048 : Shape := ⟨2, ![4, 2048]⟩
abbrev S3072x1024 : Shape := ⟨2, ![3072, 1024]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x3072 : Shape := ⟨2, ![8192, 3072]⟩
abbrev S512x1024 : Shape := ⟨2, ![512, 1024]⟩
abbrev S512x128 : Shape := ⟨2, ![512, 128]⟩
abbrev S512x3072 : Shape := ⟨2, ![512, 3072]⟩
abbrev S512x2048 : Shape := ⟨2, ![512, 2048]⟩

abbrev nBuf : Space → Nat
  | .hbm => 48
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S4x2048, .i32⟩
  | .hbm, ⟨3, _⟩ => ⟨S3072x1024, .bf16⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4x2048, .f32⟩
  | .hbm, ⟨19, _⟩ => ⟨S8192x1, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192x48, .f32⟩
  | .hbm, ⟨28, _⟩ => ⟨S8192x64, .f32⟩
  | .hbm, ⟨29, _⟩ => ⟨S_, .f32⟩
  | .hbm, ⟨30, _⟩ => ⟨S8192x8, .f32⟩
  | .hbm, ⟨31, _⟩ => ⟨S_, .f32⟩
  | .hbm, ⟨32, _⟩ => ⟨S8192x48, .f32⟩
  | .hbm, ⟨33, _⟩ => ⟨S8192x64, .f32⟩
  | .hbm, ⟨34, _⟩ => ⟨S8192x8, .f32⟩
  | .hbm, ⟨35, _⟩ => ⟨S_, .f32⟩
  | .hbm, ⟨36, _⟩ => ⟨S8192x56, .f32⟩
  | .hbm, ⟨37, _⟩ => ⟨S8192x64, .f32⟩
  | .hbm, ⟨38, _⟩ => ⟨S1x8192x1x64, .f32⟩
  | .hbm, ⟨39, _⟩ => ⟨S1x8192x2x64, .f32⟩
  | .hbm, ⟨40, _⟩ => ⟨S8192x128, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x3072, .bf16⟩
  | .local _ .vmem, ⟨10, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePrIdeal.lean ====
abbrev S8192x1024 : Shape := ⟨2, ![8192, 1024]⟩
abbrev S1024x3072 : Shape := ⟨2, ![1024, 3072]⟩
abbrev S4x2048 : Shape := ⟨2, ![4, 2048]⟩
abbrev S8192x3072 : Shape := ⟨2, ![8192, 3072]⟩
abbrev S8192x512 : Shape := ⟨2, ![8192, 512]⟩
abbrev S4x2048x8x64 : Shape := ⟨4, ![4, 2048, 8, 64]⟩
abbrev S4x8x2048x64 : Shape := ⟨4, ![4, 8, 2048, 64]⟩
abbrev S8 : Shape := ⟨1, ![8]⟩
abbrev S_ : Shape := ⟨0, ![]⟩
abbrev S4x1x2048x1 : Shape := ⟨4, ![4, 1, 2048, 1]⟩
abbrev S1x1x1x8 : Shape := ⟨4, ![1, 1, 1, 8]⟩
abbrev S4x1x2048x8 : Shape := ⟨4, ![4, 1, 2048, 8]⟩
abbrev S4x8x2048x8 : Shape := ⟨4, ![4, 8, 2048, 8]⟩
abbrev S4x8x2048x48 : Shape := ⟨4, ![4, 8, 2048, 48]⟩
abbrev S8192x2048 : Shape := ⟨2, ![8192, 2048]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S4x2048, .i32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x512, .f32⟩
  | .hbm, ⟨7, _⟩ => ⟨S4x2048x8x64, .f32⟩
  | .hbm, ⟨8, _⟩ => ⟨S4x8x2048x64, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S4x2048, .f32⟩
  | .hbm, ⟨24, _⟩ => ⟨S4x1x2048x1, .f32⟩
  | .hbm, ⟨25, _⟩ => ⟨S1x1x1x8, .f32⟩
  | .hbm, ⟨26, _⟩ => ⟨S4x1x2048x8, .f32⟩
  | .hbm, ⟨27, _⟩ => ⟨S4x1x2048x8, .f32⟩
  | .hbm, ⟨28, _⟩ => ⟨S4x1x2048x8, .f32⟩
  | .hbm, ⟨29, _⟩ => ⟨S4x1x2048x8, .f32⟩
  | .hbm, ⟨30, _⟩ => ⟨S4x1x2048x8, .f32⟩
  | .hbm, ⟨31, _⟩ => ⟨S4x8x2048x8, .f32⟩
  | .hbm, ⟨32, _⟩ => ⟨S4x8x2048x8, .f32⟩
  | .hbm, ⟨33, _⟩ => ⟨S4x8x2048x8, .f32⟩
  | .hbm, ⟨34, _⟩ => ⟨S4x8x2048x8, .f32⟩
  | .hbm, ⟨35, _⟩ => ⟨S4x8x2048x8, .f32⟩
  | .hbm, ⟨36, _⟩ => ⟨S4x8x2048x8, .f32⟩
  | .hbm, ⟨37, _⟩ => ⟨S4x8x2048x8, .f32⟩
  | .hbm, ⟨38, _⟩ => ⟨S4x8x2048x8, .f32⟩
  | .hbm, ⟨39, _⟩ => ⟨S4x8x2048x8, .f32⟩
  | .hbm, ⟨40, _⟩ => ⟨S4x8x2048x8, .f32⟩
  | .hbm, ⟨41, _⟩ => ⟨S4x8x2048x8, .f32⟩
  | .hbm, ⟨42, _⟩ => ⟨S4x8x2048x8, .f32⟩
  | .hbm, ⟨43, _⟩ => ⟨S4x8x2048x48, .f32⟩
  | .hbm, ⟨44, _⟩ => ⟨S4x8x2048x64, .f32⟩
  | .hbm, ⟨45, _⟩ => ⟨S4x2048x8x64, .f32⟩
  | .hbm, ⟨46, _⟩ => ⟨S8192x512, .f32⟩
  | .hbm, ⟨47, _⟩ => ⟨S8192x512, .f32⟩
  | .hbm, ⟨48, _⟩ => ⟨S4x2048x8x64, .f32⟩
  | .hbm, ⟨49, _⟩ => ⟨S4x8x2048x64, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S4x2048, .f32⟩
  | .hbm, ⟨65, _⟩ => ⟨S4x1x2048x1, .f32⟩
  | .hbm, ⟨66, _⟩ => ⟨S1x1x1x8, .f32⟩
  | .hbm, ⟨67, _⟩ => ⟨S4x1x2048x8, .f32⟩
  | .hbm, ⟨68, _⟩ => ⟨S4x1x2048x8, .f32⟩
  | .hbm, ⟨69, _⟩ => ⟨S4x1x2048x8, .f32⟩
  | .hbm, ⟨70, _⟩ => ⟨S4x1x2048x8, .f32⟩
  | .hbm, ⟨71, _⟩ => ⟨S4x1x2048x8, .f32⟩
  | .hbm, ⟨72, _⟩ => ⟨S4x8x2048x8, .f32⟩
  | .hbm, ⟨73, _⟩ => ⟨S4x8x2048x8, .f32⟩
  | .hbm, ⟨74, _⟩ => ⟨S4x8x2048x8, .f32⟩
  | .hbm, ⟨75, _⟩ => ⟨S4x8x2048x8, .f32⟩
  | .hbm, ⟨76, _⟩ => ⟨S4x8x2048x8, .f32⟩
  | .hbm, ⟨77, _⟩ => ⟨S4x8x2048x8, .f32⟩
  | .hbm, ⟨78, _⟩ => ⟨S4x8x2048x8, .f32⟩
  | .hbm, ⟨79, _⟩ => ⟨S4x8x2048x8, .f32⟩
  | .hbm, ⟨80, _⟩ => ⟨S4x8x2048x8, .f32⟩
  | .hbm, ⟨81, _⟩ => ⟨S4x8x2048x8, .f32⟩
  | .hbm, ⟨82, _⟩ => ⟨S4x8x2048x8, .f32⟩
  | .hbm, ⟨83, _⟩ => ⟨S4x8x2048x8, .f32⟩
  | .hbm, ⟨84, _⟩ => ⟨S4x8x2048x48, .f32⟩
  | .hbm, ⟨85, _⟩ => ⟨S4x8x2048x64, .f32⟩
  | .hbm, ⟨86, _⟩ => ⟨S4x2048x8x64, .f32⟩
  | .hbm, ⟨87, _⟩ => ⟨S8192x512, .f32⟩
  | .hbm, ⟨88, _⟩ => ⟨S8192x2048, .f32⟩
  | .hbm, ⟨89, _⟩ => ⟨S8192x3072, .f32⟩
  | .hbm, ⟨90, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩

abbrev nD : Nat := 1
abbrev τ : Topo := Topo.v7x

variable {F : FTy → Type} [FloatOps F]
-- ==== Proof.Outer.lean ====
/-
  The outer loop of the backward kernel (`attn_b_bwd`): one trip per block of 512 queries. A trip is run once at a symbolic
  trip number; what it writes is found by the run, as functions of the contents it meets.
-/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 8000000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the run. -/
local notation "𝕄G" => MT nD τ sig Unit (Elt F) ℕ (UR sig nD τ) ℕ

/-- What one trip holds: the blocks it reads at their contents, the blocks it writes at any. -/
abbrev Outer (c : Dev nD) (arg2 : Memref sig .tc .vmem S2048x128 .bf16) (arg3 : Memref sig .tc .vmem S2048x128 .bf16) (arg4 : Memref sig .tc .vmem S2048x128 .bf16) (arg5 : Memref sig .tc .vmem S2048x128 .f32) (arg6 : Memref sig .tc .vmem S1x2x4x1x512 .f32) (arg7 : Memref sig .tc .vmem S2048x128 .f32) (arg8 : Memref sig .tc .vmem S4x512x512 .f32) (arg15 : Memref sig .tc .vmem S4x128x512 .bf16) (arg21 : Memref sig .tc .vmem S4x512x128 .f32) (arg10 : Memref sig .tc .vmem S2048x128 .bf16) (arg14 : Memref sig .tc .vmem S1x2x4x1x512 .f32) (arg16 : Memref sig .tc .vmem S2x4x64x512 .f32) (arg17 : Memref sig .tc .vmem S2x4x64x512 .f32) (arg18 : Memref sig .tc .vmem S64x512 .f32) (arg19 : Memref sig .tc .vmem S64x512 .f32) (arg20 : Memref sig .tc .vmem S2x2048x1 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (f_arg10 : BufTy.Contents (Elt F) arg10.view.ty) (f_arg14 : BufTy.Contents (Elt F) arg14.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg15.view.loc (c : Thread nD τ) ↦[arg15.view.set]{fullShare} X_arg15) ∗ (arg21.view.loc (c : Thread nD τ) ↦[arg21.view.set]{fullShare} X_arg21) ∗ (arg10.view.loc (c : Thread nD τ) ↦[arg10.view.set]{fullShare} f_arg10) ∗ (arg14.view.loc (c : Thread nD τ) ↦[arg14.view.set]{fullShare} f_arg14) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20))

/-- One trip of the outer loop at a symbolic `k`: the contents it leaves, as functions of the contents it meets. -/
@[irreducible] def outer (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (k : Fin k0_t1_loop.trips) :
    Σ' (N_arg10 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg10.view.ty) (N_arg14 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg14.view.ty) (N_arg16 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg16.view.ty) (N_arg17 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg17.view.ty) (N_arg18 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg18.view.ty) (N_arg19 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg19.view.ty), { N_arg20 : BufTy.Contents (Elt F) arg10.view.ty → BufTy.Contents (Elt F) arg14.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg20.view.ty // ∀ (E : Set ℕ) (f_arg10 : BufTy.Contents (Elt F) arg10.view.ty) (f_arg14 : BufTy.Contents (Elt F) arg14.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty),
      Outer (F := F) c arg2 arg3 arg4 arg5 arg6 arg7 arg8 arg15 arg21 arg10 arg14 arg16 arg17 arg18 arg19 arg20 X_arg2 X_arg3 X_arg4 X_arg5 X_arg6 X_arg7 X_arg8 X_arg15 X_arg21 f_arg10 f_arg14 f_arg16 f_arg17 f_arg18 f_arg19 f_arg20
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 k ⟨⟩)
          (fun _ => Outer (F := F) c arg2 arg3 arg4 arg5 arg6 arg7 arg8 arg15 arg21 arg10 arg14 arg16 arg17 arg18 arg19 arg20 X_arg2 X_arg3 X_arg4 X_arg5 X_arg6 X_arg7 X_arg8 X_arg15 X_arg21 (N_arg10 f_arg10 f_arg14 f_arg16 f_arg17 f_arg18 f_arg19 f_arg20) (N_arg14 f_arg10 f_arg14 f_arg16 f_arg17 f_arg18 f_arg19 f_arg20) (N_arg16 f_arg10 f_arg14 f_arg16 f_arg17 f_arg18 f_arg19 f_arg20) (N_arg17 f_arg10 f_arg14 f_arg16 f_arg17 f_arg18 f_arg19 f_arg20) (N_arg18 f_arg10 f_arg14 f_arg16 f_arg17 f_arg18 f_arg19 f_arg20) (N_arg19 f_arg10 f_arg14 f_arg16 f_arg17 f_arg18 f_arg19 f_arg20) (N_arg20 f_arg10 f_arg14 f_arg16 f_arg17 f_arg18 f_arg19 f_arg20)) } := by
  refine ⟨?_, ?_, ?_, ?_, ?_, ?_, ?_, fun E f_arg10 f_arg14 f_arg16 f_arg17 f_arg18 f_arg19 f_arg20 => ?run⟩
  case run =>
    unfold k0_t1_body
    iintro ⟨HR_arg2, HR_arg3, HR_arg4, HR_arg5, HR_arg6, HR_arg7, HR_arg8, HR_arg15, HR_arg21, HW_arg10, HW_arg14, HW_arg16, HW_arg17, HW_arg18, HW_arg19, HW_arg20⟩
    sl_exec_parts
    sl_step
    sl_close

end Cert.KernelIdeal.Own

end
-- ==== Proof.OuterInv.lean ====
/-
  The outer loop of the backward kernel by its invariant: what the written blocks hold before each trip.
-/
module

public import proofs.«01_k».proof.Proof.Outer
public import Idealize.ShloMosaic.Lib.Exec
public import Idealize.ShloMosaic.Lib.Tactic
public import Idealize.ShloMosaic.Lib.Pipeline.Kit

@[expose] public section

set_option maxRecDepth 8192
set_option maxHeartbeats 8000000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the run. -/
local notation "𝕄G" => MT nD τ sig Unit (Elt F) ℕ (UR sig nD τ) ℕ

/-- A sequence read at `k`, its first term named. -/
abbrev pick {α : Type} (G : α) (x : ℕ → α) (k : ℕ) : α := @Nat.rec (fun _ => α) G (fun j _ => x (j + 1)) k

theorem pick_eq {α : Type} {G : α} {x : ℕ → α} (h : x 0 = G) (k : ℕ) : pick G x k = x k := by
  cases k with
  | zero => exact h.symm
  | succ j => rfl

/-- What one trip makes of the written blocks. -/
def stepO (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (k : Fin k0_t1_loop.trips) (s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty) : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty :=
  ((outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).1 (s.1) (s.2.1) (s.2.2.1) (s.2.2.2.1) (s.2.2.2.2.1) (s.2.2.2.2.2.1) (s.2.2.2.2.2.2), (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.1 (s.1) (s.2.1) (s.2.2.1) (s.2.2.2.1) (s.2.2.2.2.1) (s.2.2.2.2.2.1) (s.2.2.2.2.2.2), (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.1 (s.1) (s.2.1) (s.2.2.1) (s.2.2.2.1) (s.2.2.2.2.1) (s.2.2.2.2.2.1) (s.2.2.2.2.2.2), (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.1 (s.1) (s.2.1) (s.2.2.1) (s.2.2.2.1) (s.2.2.2.2.1) (s.2.2.2.2.2.1) (s.2.2.2.2.2.2), (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.2.1 (s.1) (s.2.1) (s.2.2.1) (s.2.2.2.1) (s.2.2.2.2.1) (s.2.2.2.2.2.1) (s.2.2.2.2.2.2), (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.2.2.1 (s.1) (s.2.1) (s.2.2.1) (s.2.2.2.1) (s.2.2.2.2.1) (s.2.2.2.2.2.1) (s.2.2.2.2.2.2), (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.2.2.2.1 (s.1) (s.2.1) (s.2.2.1) (s.2.2.2.1) (s.2.2.2.2.1) (s.2.2.2.2.2.1) (s.2.2.2.2.2.2))

/-- What the written blocks hold before trip `k`, from what they held at the loop's entry. -/
def stO (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (G_arg10 : BufTy.Contents (Elt F) arg10.view.ty) (G_arg14 : BufTy.Contents (Elt F) arg14.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) : ℕ → BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty
  | 0 => (G_arg10, G_arg14, G_arg16, G_arg17, G_arg18, G_arg19, G_arg20)
  | k + 1 => if h : k < k0_t1_loop.trips then stepO 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 ⟨k, h⟩ (stO 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k) else stO 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k

theorem stO_succ {𝒱 : Variants} {c : Dev nD} {bd : Option 𝒱.V} {i : grid0.Coords} {arg2 : Memref sig .tc .vmem S2048x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S2048x128 .f32} {harg5 : arg5.IsWhole} {arg6 : Memref sig .tc .vmem S1x2x4x1x512 .f32} {harg6 : arg6.IsWhole} {arg7 : Memref sig .tc .vmem S2048x128 .f32} {harg7 : arg7.IsWhole} {arg8 : Memref sig .tc .vmem S4x512x512 .f32} {harg8 : arg8.IsWhole} {arg9 : Memref sig .tc .vmem S1x2x4x1x512 .f32} {harg9 : arg9.IsWhole} {arg10 : Memref sig .tc .vmem S2048x128 .bf16} {harg10 : arg10.IsWhole} {arg11 : Memref sig .tc .vmem S2048x128 .bf16} {harg11 : arg11.IsWhole} {arg12 : Memref sig .tc .vmem S2048x128 .bf16} {harg12 : arg12.IsWhole} {arg13 : Memref sig .tc .vmem S1x2x4x1x512 .f32} {harg13 : arg13.IsWhole} {arg14 : Memref sig .tc .vmem S1x2x4x1x512 .f32} {harg14 : arg14.IsWhole} {arg15 : Memref sig .tc .vmem S4x128x512 .bf16} {harg15 : arg15.IsWhole} {arg16 : Memref sig .tc .vmem S2x4x64x512 .f32} {harg16 : arg16.IsWhole} {arg17 : Memref sig .tc .vmem S2x4x64x512 .f32} {harg17 : arg17.IsWhole} {arg18 : Memref sig .tc .vmem S64x512 .f32} {harg18 : arg18.IsWhole} {arg19 : Memref sig .tc .vmem S64x512 .f32} {harg19 : arg19.IsWhole} {arg20 : Memref sig .tc .vmem S2x2048x1 .f32} {harg20 : arg20.IsWhole} {arg21 : Memref sig .tc .vmem S4x512x128 .f32} {harg21 : arg21.IsWhole} {v82 : FVec F S1x512 .f32} {v84 : FVec F S64x512 .f32} {X_arg2 : BufTy.Contents (Elt F) arg2.view.ty} {X_arg3 : BufTy.Contents (Elt F) arg3.view.ty} {X_arg4 : BufTy.Contents (Elt F) arg4.view.ty} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg15 : BufTy.Contents (Elt F) arg15.view.ty} {X_arg21 : BufTy.Contents (Elt F) arg21.view.ty} {G_arg10 : BufTy.Contents (Elt F) arg10.view.ty} {G_arg14 : BufTy.Contents (Elt F) arg14.view.ty} {G_arg16 : BufTy.Contents (Elt F) arg16.view.ty} {G_arg17 : BufTy.Contents (Elt F) arg17.view.ty} {G_arg18 : BufTy.Contents (Elt F) arg18.view.ty} {G_arg19 : BufTy.Contents (Elt F) arg19.view.ty} {G_arg20 : BufTy.Contents (Elt F) arg20.view.ty} (k : Fin k0_t1_loop.trips) :
    stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 (k.val + 1) = stepO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val) := by
  rw [stO]; exact dif_pos k.isLt

/-- The outer loop's invariant before trip `k`: the blocks read at their contents, the blocks written at `stO`. -/
abbrev invO (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (G_arg10 : BufTy.Contents (Elt F) arg10.view.ty) (G_arg14 : BufTy.Contents (Elt F) arg14.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : ℕ) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg15.view.loc (c : Thread nD τ) ↦[arg15.view.set]{fullShare} X_arg15) ∗ (arg21.view.loc (c : Thread nD τ) ↦[arg21.view.set]{fullShare} X_arg21) ∗ (∃ f, (arg10.view.loc (c : Thread nD τ) ↦[arg10.view.set]{fullShare} f) ∗ ⌜f = pick G_arg10 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).1) k⌝) ∗ (∃ f, (arg14.view.loc (c : Thread nD τ) ↦[arg14.view.set]{fullShare} f) ∗ ⌜f = pick G_arg14 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.1) k⌝) ∗ (∃ f, (arg16.view.loc (c : Thread nD τ) ↦[arg16.view.set]{fullShare} f) ∗ ⌜f = pick G_arg16 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.1) k⌝) ∗ (∃ f, (arg17.view.loc (c : Thread nD τ) ↦[arg17.view.set]{fullShare} f) ∗ ⌜f = pick G_arg17 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.1) k⌝) ∗ (∃ f, (arg18.view.loc (c : Thread nD τ) ↦[arg18.view.set]{fullShare} f) ∗ ⌜f = pick G_arg18 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.1) k⌝) ∗ (∃ f, (arg19.view.loc (c : Thread nD τ) ↦[arg19.view.set]{fullShare} f) ∗ ⌜f = pick G_arg19 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.2.1) k⌝) ∗ (∃ f, (arg20.view.loc (c : Thread nD τ) ↦[arg20.view.set]{fullShare} f) ∗ ⌜f = pick G_arg20 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.2.2) k⌝))

set_option warn.classDefReducibility false in
/-- The outer loop by its invariant. -/
@[sl_loop] def loopInv_k0_t1 (𝒱 : Variants) (c : Dev nD) (bd : Option 𝒱.V) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (G_arg10 : BufTy.Contents (Elt F) arg10.view.ty) (G_arg14 : BufTy.Contents (Elt F) arg14.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 where
  inv k _ := invO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k
  step k acc := by
    have hS : stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 (k.val + 1) = stepO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val) := stO_succ k
    iintro ⟨HR_arg2, HR_arg3, HR_arg4, HR_arg5, HR_arg6, HR_arg7, HR_arg8, HR_arg15, HR_arg21, ⟨%f_arg10, HW_arg10, %h_arg10⟩, ⟨%f_arg14, HW_arg14, %h_arg14⟩, ⟨%f_arg16, HW_arg16, %h_arg16⟩, ⟨%f_arg17, HW_arg17, %h_arg17⟩, ⟨%f_arg18, HW_arg18, %h_arg18⟩, ⟨%f_arg19, HW_arg19, %h_arg19⟩, ⟨%f_arg20, HW_arg20, %h_arg20⟩⟩
    replace h_arg10 := h_arg10.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).1) rfl k.val)
    replace h_arg14 := h_arg14.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.1) rfl k.val)
    replace h_arg16 := h_arg16.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.1) rfl k.val)
    replace h_arg17 := h_arg17.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.1) rfl k.val)
    replace h_arg18 := h_arg18.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.1) rfl k.val)
    replace h_arg19 := h_arg19.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.2.1) rfl k.val)
    replace h_arg20 := h_arg20.trans (pick_eq (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.2.2) rfl k.val)
    subst h_arg10 h_arg14 h_arg16 h_arg17 h_arg18 h_arg19 h_arg20
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg15 HR_arg21 HW_arg10 HW_arg14 HW_arg16 HW_arg17 HW_arg18 HW_arg19 HW_arg20]
    · iapply ((outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.2.2.2.2 E ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).1) ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).2.1) ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).2.2.1) ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).2.2.2.1) ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).2.2.2.2.1) ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).2.2.2.2.2.1) ((stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k.val).2.2.2.2.2.2))
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg15]; · iexact HR_arg15
      isplitl [HR_arg21]; · iexact HR_arg21
      isplitl [HW_arg10]; · iexact HW_arg10
      isplitl [HW_arg14]; · iexact HW_arg14
      isplitl [HW_arg16]; · iexact HW_arg16
      isplitl [HW_arg17]; · iexact HW_arg17
      isplitl [HW_arg18]; · iexact HW_arg18
      isplitl [HW_arg19]; · iexact HW_arg19
      iexact HW_arg20
    · iintro %yld ⟨HR_arg2, HR_arg3, HR_arg4, HR_arg5, HR_arg6, HR_arg7, HR_arg8, HR_arg15, HR_arg21, HW_arg10, HW_arg14, HW_arg16, HW_arg17, HW_arg18, HW_arg19, HW_arg20⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg15]; · iexact HR_arg15
      isplitl [HR_arg21]; · iexact HR_arg21
      isplitl [HW_arg10]
      · iexists _; isplitl [HW_arg10]; · iexact HW_arg10
        ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.1) hS).symm
      isplitl [HW_arg14]
      · iexists _; isplitl [HW_arg14]; · iexact HW_arg14
        ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.2.1) hS).symm
      isplitl [HW_arg16]
      · iexists _; isplitl [HW_arg16]; · iexact HW_arg16
        ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.2.2.1) hS).symm
      isplitl [HW_arg17]
      · iexists _; isplitl [HW_arg17]; · iexact HW_arg17
        ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.2.2.2.1) hS).symm
      isplitl [HW_arg18]
      · iexists _; isplitl [HW_arg18]; · iexact HW_arg18
        ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.2.2.2.2.1) hS).symm
      isplitl [HW_arg19]
      · iexists _; isplitl [HW_arg19]; · iexact HW_arg19
        ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.2.2.2.2.2.1) hS).symm
      iexists _; isplitl [HW_arg20]; · iexact HW_arg20
      ipureintro; exact (congrArg (fun s : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty => s.2.2.2.2.2.2) hS).symm

end Cert.KernelIdeal.Own

end
-- ==== Proof.BodyRun.lean ====
/-
  The whole body of the backward kernel at one grid point, run once: the copies of its blocks, the outer loop, the last stores.
-/
module

public import proofs.«01_k».proof.Proof.OuterInv
public import Idealize.ShloMosaic.Lib.Exec
public import Idealize.ShloMosaic.Lib.Tactic
public import Idealize.ShloMosaic.Lib.Pipeline.Kit

@[expose] public section

set_option maxRecDepth 8192
set_option maxHeartbeats 8000000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the run. -/
local notation "𝕄G" => MT nD τ sig Unit (Elt F) ℕ (UR sig nD τ) ℕ

/-- What one grid point holds. -/
abbrev Body (c : Dev nD) (arg2 : Memref sig .tc .vmem S2048x128 .bf16) (arg3 : Memref sig .tc .vmem S2048x128 .bf16) (arg4 : Memref sig .tc .vmem S2048x128 .bf16) (arg5 : Memref sig .tc .vmem S2048x128 .f32) (arg6 : Memref sig .tc .vmem S1x2x4x1x512 .f32) (arg7 : Memref sig .tc .vmem S2048x128 .f32) (arg8 : Memref sig .tc .vmem S4x512x512 .f32) (arg9 : Memref sig .tc .vmem S1x2x4x1x512 .f32) (arg10 : Memref sig .tc .vmem S2048x128 .bf16) (arg11 : Memref sig .tc .vmem S2048x128 .bf16) (arg12 : Memref sig .tc .vmem S2048x128 .bf16) (arg13 : Memref sig .tc .vmem S1x2x4x1x512 .f32) (arg14 : Memref sig .tc .vmem S1x2x4x1x512 .f32) (arg15 : Memref sig .tc .vmem S4x128x512 .bf16) (arg16 : Memref sig .tc .vmem S2x4x64x512 .f32) (arg17 : Memref sig .tc .vmem S2x4x64x512 .f32) (arg18 : Memref sig .tc .vmem S64x512 .f32) (arg19 : Memref sig .tc .vmem S64x512 .f32) (arg20 : Memref sig .tc .vmem S2x2048x1 .f32) (arg21 : Memref sig .tc .vmem S4x512x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21))

/-- One grid point: the contents it leaves, as functions of the contents it meets. -/
@[irreducible] def body (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) :
    Σ' (N_arg10 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg10.view.ty) (N_arg11 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg11.view.ty) (N_arg12 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg12.view.ty) (N_arg13 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg13.view.ty) (N_arg14 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg14.view.ty) (N_arg15 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg15.view.ty) (N_arg16 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg16.view.ty) (N_arg17 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg17.view.ty) (N_arg18 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg18.view.ty) (N_arg19 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg19.view.ty) (N_arg20 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg20.view.ty), { N_arg21 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg21.view.ty // ∀ (E : Set ℕ) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      Body (F := F) c arg2 arg3 arg4 arg5 arg6 arg7 arg8 arg9 arg10 arg11 arg12 arg13 arg14 arg15 arg16 arg17 arg18 arg19 arg20 arg21 X_arg2 X_arg3 X_arg4 X_arg5 X_arg6 X_arg7 X_arg8 X_arg9 f_arg10 f_arg11 f_arg12 f_arg13 f_arg14 f_arg15 f_arg16 f_arg17 f_arg18 f_arg19 f_arg20 f_arg21
      ⊢ wp frame (wpE (defs₀ (F := F)) 𝒱 (c : Thread nD τ) bd) E (cc0_attn_b_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => Body (F := F) c arg2 arg3 arg4 arg5 arg6 arg7 arg8 arg9 arg10 arg11 arg12 arg13 arg14 arg15 arg16 arg17 arg18 arg19 arg20 arg21 X_arg2 X_arg3 X_arg4 X_arg5 X_arg6 X_arg7 X_arg8 X_arg9 (N_arg10 f_arg10 f_arg11 f_arg12 f_arg13 f_arg14 f_arg15 f_arg16 f_arg17 f_arg18 f_arg19 f_arg20 f_arg21) (N_arg11 f_arg10 f_arg11 f_arg12 f_arg13 f_arg14 f_arg15 f_arg16 f_arg17 f_arg18 f_arg19 f_arg20 f_arg21) (N_arg12 f_arg10 f_arg11 f_arg12 f_arg13 f_arg14 f_arg15 f_arg16 f_arg17 f_arg18 f_arg19 f_arg20 f_arg21) (N_arg13 f_arg10 f_arg11 f_arg12 f_arg13 f_arg14 f_arg15 f_arg16 f_arg17 f_arg18 f_arg19 f_arg20 f_arg21) (N_arg14 f_arg10 f_arg11 f_arg12 f_arg13 f_arg14 f_arg15 f_arg16 f_arg17 f_arg18 f_arg19 f_arg20 f_arg21) (N_arg15 f_arg10 f_arg11 f_arg12 f_arg13 f_arg14 f_arg15 f_arg16 f_arg17 f_arg18 f_arg19 f_arg20 f_arg21) (N_arg16 f_arg10 f_arg11 f_arg12 f_arg13 f_arg14 f_arg15 f_arg16 f_arg17 f_arg18 f_arg19 f_arg20 f_arg21) (N_arg17 f_arg10 f_arg11 f_arg12 f_arg13 f_arg14 f_arg15 f_arg16 f_arg17 f_arg18 f_arg19 f_arg20 f_arg21) (N_arg18 f_arg10 f_arg11 f_arg12 f_arg13 f_arg14 f_arg15 f_arg16 f_arg17 f_arg18 f_arg19 f_arg20 f_arg21) (N_arg19 f_arg10 f_arg11 f_arg12 f_arg13 f_arg14 f_arg15 f_arg16 f_arg17 f_arg18 f_arg19 f_arg20 f_arg21) (N_arg20 f_arg10 f_arg11 f_arg12 f_arg13 f_arg14 f_arg15 f_arg16 f_arg17 f_arg18 f_arg19 f_arg20 f_arg21) (N_arg21 f_arg10 f_arg11 f_arg12 f_arg13 f_arg14 f_arg15 f_arg16 f_arg17 f_arg18 f_arg19 f_arg20 f_arg21)) } := by
  refine ⟨?_, ?_, ?_, ?_, ?_, ?_, ?_, ?_, ?_, ?_, ?_, ?_, fun E f_arg10 f_arg11 f_arg12 f_arg13 f_arg14 f_arg15 f_arg16 f_arg17 f_arg18 f_arg19 f_arg20 f_arg21 => ?run⟩
  case run =>
    simp only [cc0_attn_b_bwd_eq_skeleton]; unfold cc0_attn_b_bwd_skel
    iintro ⟨HR_arg2, HR_arg3, HR_arg4, HR_arg5, HR_arg6, HR_arg7, HR_arg8, HR_arg9, HW_arg10, HW_arg11, HW_arg12, HW_arg13, HW_arg14, HW_arg15, HW_arg16, HW_arg17, HW_arg18, HW_arg19, HW_arg20, HW_arg21⟩
    sl_exec_parts
    sl_step
    sl_close

end Cert.KernelIdeal.Own

end
-- ==== Proof.Indep.lean ====
/-
  What the loop leaves does not depend on what the result blocks and the two accumulators held before it.
-/
module

public import proofs.«01_k».proof.Proof.BodyRun
public import Idealize.ShloMosaic.Lib.Exec
public import Idealize.ShloMosaic.Lib.VecWindow
public import Idealize.ShloMosaic.Lib.Writes
public import Idealize.ShloMosaic.Lib.Tactic
public import Idealize.ShloMosaic.Lib.Pipeline.Kit

@[expose] public section

set_option maxRecDepth 8192
set_option maxHeartbeats 800000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the run. -/
local notation "𝕄G" => MT nD τ sig Unit (Elt F) ℕ (UR sig nD τ) ℕ

theorem k0_off1_val (k : Fin k0_t1_loop.trips) : k0_off1 k = ![512 * k.val, 0] := by revert k; decide

theorem k0_off2_val (k : Fin k0_t1_loop.trips) : k0_off2 k = ![0, 0, k.val, 0, 0] := by revert k; decide

theorem k0_off4_val (k : Fin k0_t1_loop.trips) : k0_off4 k = ![0, 1, k.val, 0, 0] := by revert k; decide

/-- The two contents of the query gradient's block agree on the rows of the first `n` trips. -/
def Ag10 (arg10 : Memref sig .tc .vmem S2048x128 .bf16) (n : ℕ) (f h : BufTy.Contents (Elt F) arg10.view.ty) : Prop :=
  ∀ y : S2048x128.Idx, (y 0).val < 512 * n → arg10.view.read (Elt F) f y = arg10.view.read (Elt F) h y

/-- The two contents of the row sums' block agree on the rows of the first `n` trips. -/
def Ag14 (arg14 : Memref sig .tc .vmem S1x2x4x1x512 .f32) (n : ℕ) (f h : BufTy.Contents (Elt F) arg14.view.ty) : Prop :=
  ∀ y : S1x2x4x1x512.Idx, (y 2).val < n → arg14.view.read (Elt F) f y = arg14.view.read (Elt F) h y

theorem Ag10.step (arg10 : Memref sig .tc .vmem S2048x128 .bf16) (k : Fin k0_t1_loop.trips) {f h : BufTy.Contents (Elt F) arg10.view.ty} (H : Ag10 (F := F) arg10 k.val f h) (inb : ∀ a, k0_off1 k a + S512x128.size a ≤ S2048x128.size a) (w : (Rect.unit (s := S2048x128) (k0_off1 k) S512x128.size inb).shape.Idx → Elt F .bf16) :
    Ag10 (F := F) arg10 (k.val + 1) (arg10.view.writes (Elt F) f [⟨Rect.unit (s := S2048x128) (k0_off1 k) S512x128.size inb, w⟩]) (arg10.view.writes (Elt F) h [⟨Rect.unit (s := S2048x128) (k0_off1 k) S512x128.size inb, w⟩]) := by
  intro y hy
  rw [View.read_writes_cons_put _ _ _ _ _ rfl, View.read_writes_cons_put _ _ _ _ _ rfl]
  unfold VecWindow.put
  split
  · rfl
  · rename_i hn
    refine H y ?_
    by_contra hge
    refine hn fun a => ?_
    rw [k0_off1_val]
    have h0 : (y 1).val < 128 := (y 1).isLt
    fin_cases a
    · show 512 * k.val ≤ (y 0).val ∧ (y 0).val < 512 * k.val + 512; omega
    · show 0 ≤ (y 1).val ∧ (y 1).val < 0 + 128; omega

theorem Ag14.step (arg14 : Memref sig .tc .vmem S1x2x4x1x512 .f32) (k : Fin k0_t1_loop.trips) {f h : BufTy.Contents (Elt F) arg14.view.ty} (H : Ag14 (F := F) arg14 k.val f h) (inb2 : ∀ a, k0_off2 k a + S1x1x1x1x512.size a ≤ S1x2x4x1x512.size a) (inb4 : ∀ a, k0_off4 k a + S1x1x1x1x512.size a ≤ S1x2x4x1x512.size a)
    (w : (Rect.unit (s := S1x2x4x1x512) (k0_off4 k) S1x1x1x1x512.size inb4).shape.Idx → Elt F .f32) (w' : (Rect.unit (s := S1x2x4x1x512) (k0_off2 k) S1x1x1x1x512.size inb2).shape.Idx → Elt F .f32) :
    Ag14 (F := F) arg14 (k.val + 1) (arg14.view.writes (Elt F) f [⟨Rect.unit (s := S1x2x4x1x512) (k0_off4 k) S1x1x1x1x512.size inb4, w⟩, ⟨Rect.unit (s := S1x2x4x1x512) (k0_off2 k) S1x1x1x1x512.size inb2, w'⟩]) (arg14.view.writes (Elt F) h [⟨Rect.unit (s := S1x2x4x1x512) (k0_off4 k) S1x1x1x1x512.size inb4, w⟩, ⟨Rect.unit (s := S1x2x4x1x512) (k0_off2 k) S1x1x1x1x512.size inb2, w'⟩]) := by
  intro y hy
  rw [View.read_writes_cons_put _ _ _ _ _ rfl, View.read_writes_cons_put _ _ _ _ _ rfl, View.read_writes_cons_put _ _ _ _ _ rfl, View.read_writes_cons_put _ _ _ _ _ rfl]
  unfold VecWindow.put
  split
  · rfl
  · rename_i hn
    split
    · rfl
    · rename_i hn'
      refine H y ?_
      by_contra hge
      have e0 : (y 0).val < 1 := (y 0).isLt
      have e1 : (y 1).val < 2 := (y 1).isLt
      have e3 : (y 3).val < 1 := (y 3).isLt
      have e4 : (y 4).val < 512 := (y 4).isLt
      by_cases hh : (y 1).val = 0
      · refine hn' fun a => ?_
        rw [k0_off2_val]
        fin_cases a
        · show 0 ≤ (y 0).val ∧ (y 0).val < 0 + 1; omega
        · show 0 ≤ (y 1).val ∧ (y 1).val < 0 + 1; omega
        · show k.val ≤ (y 2).val ∧ (y 2).val < k.val + 1; omega
        · show 0 ≤ (y 3).val ∧ (y 3).val < 0 + 1; omega
        · show 0 ≤ (y 4).val ∧ (y 4).val < 0 + 512; omega
      · refine hn fun a => ?_
        rw [k0_off4_val]
        fin_cases a
        · show 0 ≤ (y 0).val ∧ (y 0).val < 0 + 1; omega
        · show 1 ≤ (y 1).val ∧ (y 1).val < 1 + 1; omega
        · show k.val ≤ (y 2).val ∧ (y 2).val < k.val + 1; omega
        · show 0 ≤ (y 3).val ∧ (y 3).val < 0 + 1; omega
        · show 0 ≤ (y 4).val ∧ (y 4).val < 0 + 512; omega

/-- Two states of the loop that differ only where the loop has not yet written. -/
def Same (arg10 : Memref sig .tc .vmem S2048x128 .bf16) (arg14 : Memref sig .tc .vmem S1x2x4x1x512 .f32) (arg16 : Memref sig .tc .vmem S2x4x64x512 .f32) (arg17 : Memref sig .tc .vmem S2x4x64x512 .f32) (arg18 : Memref sig .tc .vmem S64x512 .f32) (arg19 : Memref sig .tc .vmem S64x512 .f32) (arg20 : Memref sig .tc .vmem S2x2048x1 .f32) (n : ℕ) (s t : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty) : Prop :=
  Ag10 (F := F) arg10 n s.1 t.1 ∧ Ag14 (F := F) arg14 n s.2.1 t.2.1 ∧ s.2.2.1 = t.2.2.1 ∧ s.2.2.2.1 = t.2.2.2.1 ∧ s.2.2.2.2.2.2 = t.2.2.2.2.2.2

set_option backward.isDefEq.respectTransparency.types false in
theorem outer_same (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (k : Fin k0_t1_loop.trips) {f10 : BufTy.Contents (Elt F) arg10.view.ty} {f14 : BufTy.Contents (Elt F) arg14.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {h10 : BufTy.Contents (Elt F) arg10.view.ty} {h14 : BufTy.Contents (Elt F) arg14.view.ty} {h18 : BufTy.Contents (Elt F) arg18.view.ty} {h19 : BufTy.Contents (Elt F) arg19.view.ty} :
    (Ag10 (F := F) arg10 k.val f10 h10 → Ag10 (F := F) arg10 (k.val + 1) ((outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).1 f10 f14 f16 f17 f18 f19 f20) ((outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).1 h10 h14 f16 f17 h18 h19 f20))
    ∧ (Ag14 (F := F) arg14 k.val f14 h14 → Ag14 (F := F) arg14 (k.val + 1) ((outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.1 f10 f14 f16 f17 f18 f19 f20) ((outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.1 h10 h14 f16 f17 h18 h19 f20))
    ∧ (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.1 f10 f14 f16 f17 f18 f19 f20 = (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.1 h10 h14 f16 f17 h18 h19 f20
    ∧ (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.1 f10 f14 f16 f17 f18 f19 f20 = (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.1 h10 h14 f16 f17 h18 h19 f20
    ∧ (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.2.2.2.1 f10 f14 f16 f17 f18 f19 f20 = (outer (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k).2.2.2.2.2.2.1 h10 h14 f16 f17 h18 h19 f20 := by
  unfold outer
  dsimp only
  refine ⟨fun i0 => ?_, fun i1 => ?_, rfl, rfl, rfl⟩
  · exact Ag10.step arg10 k i0 _ _
  · exact Ag14.step arg14 k i1 _ _ _ _

theorem Same.step (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (k : Fin k0_t1_loop.trips) {s t : BufTy.Contents (Elt F) arg10.view.ty × BufTy.Contents (Elt F) arg14.view.ty × BufTy.Contents (Elt F) arg16.view.ty × BufTy.Contents (Elt F) arg17.view.ty × BufTy.Contents (Elt F) arg18.view.ty × BufTy.Contents (Elt F) arg19.view.ty × BufTy.Contents (Elt F) arg20.view.ty} (H : Same (F := F) arg10 arg14 arg16 arg17 arg18 arg19 arg20 k.val s t) :
    Same (F := F) arg10 arg14 arg16 arg17 arg18 arg19 arg20 (k.val + 1) (stepO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k s) (stepO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k t) := by
  obtain ⟨s0, s1, s2, s3, s4, s5, s6⟩ := s
  obtain ⟨t0, t1, t2, t3, t4, t5, t6⟩ := t
  obtain ⟨i0, i1, i2, i3, i6⟩ := H
  dsimp only at i0 i1 i2 i3 i6
  subst i2 i3 i6
  obtain ⟨j0, j1, j2, j3, j6⟩ := outer_same (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 k (f10 := s0) (f14 := s1) (f16 := s2) (f17 := s3) (f18 := s4) (f19 := s5) (f20 := s6) (h10 := t0) (h14 := t1) (h18 := t4) (h19 := t5)
  exact ⟨j0 i0, j1 i1, j2, j3, j6⟩

theorem stO_same (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (G_arg10 : BufTy.Contents (Elt F) arg10.view.ty) (G_arg14 : BufTy.Contents (Elt F) arg14.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (K_arg10 : BufTy.Contents (Elt F) arg10.view.ty) (K_arg14 : BufTy.Contents (Elt F) arg14.view.ty) (K_arg18 : BufTy.Contents (Elt F) arg18.view.ty) (K_arg19 : BufTy.Contents (Elt F) arg19.view.ty) (k : ℕ) (hk : k ≤ k0_t1_loop.trips) :
    Same (F := F) arg10 arg14 arg16 arg17 arg18 arg19 arg20 k (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k) (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k) := by
  induction k with
  | zero =>
    rw [stO, stO]
    exact ⟨fun y hy => absurd hy (by omega), fun y hy => absurd hy (by omega), rfl, rfl, rfl⟩
  | succ k ih =>
    have hs := Same.step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 ⟨k, hk⟩ (ih (by omega))
    rw [stO, dif_pos (show k < k0_t1_loop.trips from hk), stO, dif_pos (show k < k0_t1_loop.trips from hk)]
    exact hs

end Cert.KernelIdeal.Own

end
-- ==== Proof.Outs.lean ====
/-
  What one grid point leaves in the result blocks does not depend on what the buffers held before.
-/
module

public import proofs.«01_k».proof.Proof.Indep
public import Idealize.ShloMosaic.Lib.Exec
public import Idealize.ShloMosaic.Lib.Ring
public import Idealize.ShloMosaic.Lib.Writes
public import Idealize.ShloMosaic.Lib.Tactic
public import Idealize.ShloMosaic.Lib.Pipeline.Kit

@[expose] public section

set_option maxRecDepth 8192
set_option maxHeartbeats 1000000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the run. -/
local notation "𝕄G" => MT nD τ sig Unit (Elt F) ℕ (UR sig nD τ) ℕ

theorem pick_read {α β : Type} {G H : α} {x y : ℕ → α} (hx : x 0 = G) (hy : y 0 = H) (k : ℕ) (r : α → β) (h : r (x k) = r (y k)) : r (pick G x k) = r (pick H y k) :=
  (congrArg r (pick_eq hx k)).trans (h.trans (congrArg r (pick_eq hy k)).symm)

theorem pick_same (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (v82 : FVec F S1x512 .f32) (v84 : FVec F S64x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg15 : BufTy.Contents (Elt F) arg15.view.ty) (X_arg21 : BufTy.Contents (Elt F) arg21.view.ty) (G_arg10 : BufTy.Contents (Elt F) arg10.view.ty) (G_arg14 : BufTy.Contents (Elt F) arg14.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (K_arg10 : BufTy.Contents (Elt F) arg10.view.ty) (K_arg14 : BufTy.Contents (Elt F) arg14.view.ty) (K_arg18 : BufTy.Contents (Elt F) arg18.view.ty) (K_arg19 : BufTy.Contents (Elt F) arg19.view.ty) :
    (arg10.view.read (Elt F) (pick G_arg10 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).1) (Scf.trips k0_t1_loop.lb k0_t1_loop.ub k0_t1_loop.st)) = arg10.view.read (Elt F) (pick K_arg10 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).1) (Scf.trips k0_t1_loop.lb k0_t1_loop.ub k0_t1_loop.st))) ∧ (arg14.view.read (Elt F) (pick G_arg14 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.1) (Scf.trips k0_t1_loop.lb k0_t1_loop.ub k0_t1_loop.st)) = arg14.view.read (Elt F) (pick K_arg14 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.1) (Scf.trips k0_t1_loop.lb k0_t1_loop.ub k0_t1_loop.st))) ∧ (pick G_arg16 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.1) (Scf.trips k0_t1_loop.lb k0_t1_loop.ub k0_t1_loop.st) = pick G_arg16 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.2.1) (Scf.trips k0_t1_loop.lb k0_t1_loop.ub k0_t1_loop.st)) ∧ (pick G_arg17 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.1) (Scf.trips k0_t1_loop.lb k0_t1_loop.ub k0_t1_loop.st) = pick G_arg17 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.2.2.1) (Scf.trips k0_t1_loop.lb k0_t1_loop.ub k0_t1_loop.st)) ∧ (pick G_arg20 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.2.2) (Scf.trips k0_t1_loop.lb k0_t1_loop.ub k0_t1_loop.st) = pick G_arg20 (fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.2.2.2.2.2) (Scf.trips k0_t1_loop.lb k0_t1_loop.ub k0_t1_loop.st)) := by
  obtain ⟨k10, k14, k16, k17, k20⟩ := stO_same (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 K_arg10 K_arg14 K_arg18 K_arg19 (Scf.trips k0_t1_loop.lb k0_t1_loop.ub k0_t1_loop.st) (le_of_eq rfl)
  have e10 := pick_read (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).1) (y := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).1) rfl rfl (Scf.trips k0_t1_loop.lb k0_t1_loop.ub k0_t1_loop.st) (arg10.view.read (Elt F)) (funext fun y => k10 y (show (y 0).val < 2048 from (y 0).isLt))
  have e14 := pick_read (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.1) (y := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.1) rfl rfl (Scf.trips k0_t1_loop.lb k0_t1_loop.ub k0_t1_loop.st) (arg14.view.read (Elt F)) (funext fun y => k14 y (show (y 2).val < 4 from (y 2).isLt))
  have e16 := pick_read (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.1) (y := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.2.1) rfl rfl (Scf.trips k0_t1_loop.lb k0_t1_loop.ub k0_t1_loop.st) id (k16)
  have e17 := pick_read (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.1) (y := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.2.2.1) rfl rfl (Scf.trips k0_t1_loop.lb k0_t1_loop.ub k0_t1_loop.st) id (k17)
  have e20 := pick_read (x := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 G_arg10 G_arg14 G_arg16 G_arg17 G_arg18 G_arg19 G_arg20 k).2.2.2.2.2.2) (y := fun k => (stO (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v82 v84 X_arg2 X_arg3 X_arg4 X_arg5 X_arg6 X_arg7 X_arg8 X_arg15 X_arg21 K_arg10 K_arg14 G_arg16 G_arg17 K_arg18 K_arg19 G_arg20 k).2.2.2.2.2.2) rfl rfl (Scf.trips k0_t1_loop.lb k0_t1_loop.ub k0_t1_loop.st) id (k20)
  exact ⟨e10, e14, e16, e17, e20⟩

set_option backward.isDefEq.respectTransparency.types false in
theorem body_same (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (h_arg10 : BufTy.Contents (Elt F) arg10.view.ty) (h_arg11 : BufTy.Contents (Elt F) arg11.view.ty) (h_arg12 : BufTy.Contents (Elt F) arg12.view.ty) (h_arg13 : BufTy.Contents (Elt F) arg13.view.ty) (h_arg14 : BufTy.Contents (Elt F) arg14.view.ty) (h_arg15 : BufTy.Contents (Elt F) arg15.view.ty) (h_arg16 : BufTy.Contents (Elt F) arg16.view.ty) (h_arg17 : BufTy.Contents (Elt F) arg17.view.ty) (h_arg18 : BufTy.Contents (Elt F) arg18.view.ty) (h_arg19 : BufTy.Contents (Elt F) arg19.view.ty) (h_arg20 : BufTy.Contents (Elt F) arg20.view.ty) (h_arg21 : BufTy.Contents (Elt F) arg21.view.ty) :
    arg10.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).1 f_arg10 f_arg11 f_arg12 f_arg13 f_arg14 f_arg15 f_arg16 f_arg17 f_arg18 f_arg19 f_arg20 f_arg21) = arg10.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).1 h_arg10 h_arg11 h_arg12 h_arg13 h_arg14 h_arg15 h_arg16 h_arg17 h_arg18 h_arg19 h_arg20 h_arg21) ∧ arg11.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.1 f_arg10 f_arg11 f_arg12 f_arg13 f_arg14 f_arg15 f_arg16 f_arg17 f_arg18 f_arg19 f_arg20 f_arg21) = arg11.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.1 h_arg10 h_arg11 h_arg12 h_arg13 h_arg14 h_arg15 h_arg16 h_arg17 h_arg18 h_arg19 h_arg20 h_arg21) ∧ arg12.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.2.1 f_arg10 f_arg11 f_arg12 f_arg13 f_arg14 f_arg15 f_arg16 f_arg17 f_arg18 f_arg19 f_arg20 f_arg21) = arg12.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.2.1 h_arg10 h_arg11 h_arg12 h_arg13 h_arg14 h_arg15 h_arg16 h_arg17 h_arg18 h_arg19 h_arg20 h_arg21) ∧ arg13.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.2.2.1 f_arg10 f_arg11 f_arg12 f_arg13 f_arg14 f_arg15 f_arg16 f_arg17 f_arg18 f_arg19 f_arg20 f_arg21) = arg13.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.2.2.1 h_arg10 h_arg11 h_arg12 h_arg13 h_arg14 h_arg15 h_arg16 h_arg17 h_arg18 h_arg19 h_arg20 h_arg21) ∧ arg14.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.2.2.2.1 f_arg10 f_arg11 f_arg12 f_arg13 f_arg14 f_arg15 f_arg16 f_arg17 f_arg18 f_arg19 f_arg20 f_arg21) = arg14.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9).2.2.2.2.1 h_arg10 h_arg11 h_arg12 h_arg13 h_arg14 h_arg15 h_arg16 h_arg17 h_arg18 h_arg19 h_arg20 h_arg21) := by
  obtain ⟨e10, e14, e16, e17, e20⟩ := pick_same (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body.sl.v82 (F := F) arg9 X_arg9) (body.sl.v84 (F := F) arg9 X_arg9) X_arg2 X_arg3 X_arg4 X_arg5 X_arg6 X_arg7 X_arg8 (arg15.view.writes (Elt F) arg15.view.junk (body.sl.HW_arg15_4 (F := F) arg3 X_arg3)) (arg21.view.writes (Elt F) arg21.view.junk (body.sl.HW_arg21_4 (F := F) arg9 X_arg9)) f_arg10 f_arg14 (arg16.view.writes (Elt F) arg16.view.junk (body.sl.HW_arg16_1 (F := F))) (arg17.view.writes (Elt F) arg17.view.junk (body.sl.HW_arg17_1 (F := F))) f_arg18 f_arg19 (arg20.view.writes (Elt F) arg20.view.junk (body.sl.HW_arg20_1 (F := F))) h_arg10 h_arg14 h_arg18 h_arg19
  have qv170 : body.sl.v170 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v170 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![0, 2, 0, 0] S1x1x64x512.size inb_S2x4x64x512_S1x1x64x512_0_2_0_0).toLoadRect q) e17
  have qv172 : body.sl.v172 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v172 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![1, 2, 0, 0] S1x1x64x512.size inb_S2x4x64x512_S1x1x64x512_1_2_0_0).toLoadRect q) e17
  have qv136 : body.sl.v136 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v136 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![0, 1, 0, 0] S1x1x64x512.size inb_S2x4x64x512_S1x1x64x512_0_1_0_0).toLoadRect q) e17
  have qr_1 : body.sl.r_1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.r_1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.r_1
    rw [qv136]
  have qv138 : body.sl.v138 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v138 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![1, 1, 0, 0] S1x1x64x512.size inb_S2x4x64x512_S1x1x64x512_1_1_0_0).toLoadRect q) e17
  have qv102 : body.sl.v102 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v102 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![0, 0, 0, 0] S1x1x64x512.size inb_S2x4x64x512_S1x1x64x512_0_0_0_0).toLoadRect q) e17
  have qv104 : body.sl.v104 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v104 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![1, 0, 0, 0] S1x1x64x512.size inb_S2x4x64x512_S1x1x64x512_1_0_0_0).toLoadRect q) e17
  have qHW_arg12_1 : body.sl.HW_arg12_1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg12_1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg12_1
    rw [qv102, qv104]
  have qHW_arg12_2 : body.sl.HW_arg12_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg12_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg12_2
    rw [qr_1, qv138, qHW_arg12_1]
  have qHW_arg12_3 : body.sl.HW_arg12_3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg12_3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg12_3
    rw [qv170, qv172, qHW_arg12_2]
  have qv153 : body.sl.v153 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v153 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![1, 512, 0] S1x512x1.size inb_S2x2048x1_S1x512x1_1_512_0).toLoadRect q) e20
  have qv144 : body.sl.v144 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v144 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![0, 512, 0] S1x512x1.size inb_S2x2048x1_S1x512x1_0_512_0).toLoadRect q) e20
  have qv119 : body.sl.v119 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v119 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![1, 0, 0] S1x512x1.size inb_S2x2048x1_S1x512x1_1_0_0).toLoadRect q) e20
  have qv110 : body.sl.v110 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v110 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![0, 0, 0] S1x512x1.size inb_S2x2048x1_S1x512x1_0_0_0).toLoadRect q) e20
  have qHW_arg13_2 : body.sl.HW_arg13_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg13_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg13_2
    rw [qv119, qv110]
  have qHW_arg13_4 : body.sl.HW_arg13_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg13_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg13_4
    rw [qv153, qv144, qHW_arg13_2]
  have qv187 : body.sl.v187 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v187 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![1, 1024, 0] S1x512x1.size inb_S2x2048x1_S1x512x1_1_1024_0).toLoadRect q) e20
  have qv164 : body.sl.v164 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v164 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![1, 2, 0, 0] S1x1x64x512.size inb_S2x4x64x512_S1x1x64x512_1_2_0_0).toLoadRect q) e16
  have qr_3 : body.sl.r_3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.r_3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.r_3
    rw [qv187]
  have qv162 : body.sl.v162 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v162 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![0, 2, 0, 0] S1x1x64x512.size inb_S2x4x64x512_S1x1x64x512_0_2_0_0).toLoadRect q) e16
  have qr_2 : body.sl.r_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.r_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.r_2
    rw [qv162, qv164]
  have qv178 : body.sl.v178 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v178 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![0, 1024, 0] S1x512x1.size inb_S2x2048x1_S1x512x1_0_1024_0).toLoadRect q) e20
  have qHW_arg13_5 : body.sl.HW_arg13_5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg13_5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg13_5
    rw [qv178, qHW_arg13_4]
  have qv130 : body.sl.v130 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v130 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![1, 1, 0, 0] S1x1x64x512.size inb_S2x4x64x512_S1x1x64x512_1_1_0_0).toLoadRect q) e16
  have qv198 : body.sl.v198 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v198 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![1, 3, 0, 0] S1x1x64x512.size inb_S2x4x64x512_S1x1x64x512_1_3_0_0).toLoadRect q) e16
  have qv196 : body.sl.v196 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v196 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![0, 3, 0, 0] S1x1x64x512.size inb_S2x4x64x512_S1x1x64x512_0_3_0_0).toLoadRect q) e16
  have qv128 : body.sl.v128 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v128 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![0, 1, 0, 0] S1x1x64x512.size inb_S2x4x64x512_S1x1x64x512_0_1_0_0).toLoadRect q) e16
  have qv212 : body.sl.v212 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v212 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![0, 1536, 0] S1x512x1.size inb_S2x2048x1_S1x512x1_0_1536_0).toLoadRect q) e20
  have qv94 : body.sl.v94 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v94 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![0, 0, 0, 0] S1x1x64x512.size inb_S2x4x64x512_S1x1x64x512_0_0_0_0).toLoadRect q) e16
  have qv96 : body.sl.v96 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v96 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg16.view (Rect.unit (s := S2x4x64x512) ![1, 0, 0, 0] S1x1x64x512.size inb_S2x4x64x512_S1x1x64x512_1_0_0_0).toLoadRect q) e16
  have qHW_arg11_1 : body.sl.HW_arg11_1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg11_1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg11_1
    rw [qv94, qv96]
  have qHW_arg11_2 : body.sl.HW_arg11_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg11_2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg11_2
    rw [qv128, qv130, qHW_arg11_1]
  have qHW_arg11_3 : body.sl.HW_arg11_3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.HW_arg11_3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := by
    unfold body.sl.HW_arg11_3
    rw [qr_2, qHW_arg11_2]
  have qv221 : body.sl.v221 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v221 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg20.view (Rect.unit (s := S2x2048x1) ![1, 1536, 0] S1x512x1.size inb_S2x2048x1_S1x512x1_1_1536_0).toLoadRect q) e20
  have qv204 : body.sl.v204 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v204 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![0, 3, 0, 0] S1x1x64x512.size inb_S2x4x64x512_S1x1x64x512_0_3_0_0).toLoadRect q) e17
  have qv206 : body.sl.v206 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 f_arg10 f_arg14 f_arg18 f_arg19 = body.sl.v206 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 h_arg10 h_arg14 h_arg18 h_arg19 := congrArg (fun q => View.readAt (Elt F) arg17.view (Rect.unit (s := S2x4x64x512) ![1, 3, 0, 0] S1x1x64x512.size inb_S2x4x64x512_S1x1x64x512_1_3_0_0).toLoadRect q) e17
  unfold body
  dsimp only
  refine ⟨e10, ?_, ?_, ?_, e14⟩
  · rw [qv196, qv198, qHW_arg11_3]
    exact View.read_writes_of_cover _ _ _ _ _ (View.cover_of_tiledL _ S512x128.size (by sl_kernel_rfl))
  · rw [qv204, qv206, qHW_arg12_3]
    exact View.read_writes_of_cover _ _ _ _ _ (View.cover_of_tiledL _ S512x128.size (by sl_kernel_rfl))
  · rw [qv221, qv212, qr_3, qHW_arg13_5]
    exact View.read_writes_of_cover _ _ _ _ _ (View.cover_of_tiledL _ S1x1x1x1x512.size (by sl_kernel_rfl))

end Cert.KernelIdeal.Own

end
-- ==== Proof.Frame.lean ====
/-
  The frame of the kernel: every block a grid point is handed comes back, the results at contents that depend on the inputs only.
-/
module

public import proofs.«01_k».proof.Proof.Outs
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Pipeline.Kit

@[expose] public section

set_option maxRecDepth 8192
set_option maxHeartbeats 2000000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat Cfg Window BodyObligation cellOf)

variable {F : FTy → Type} [FloatOps F]

/-- The resource algebra of the run. -/
local notation "𝕄G" => MT nD τ sig Unit (Elt F) ℕ (UR sig nD τ) ℕ

/-- What one grid point leaves in result block 0. -/
def out10 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (x2 : (S2048x128.Idx → Elt F .bf16)) (x3 : (S2048x128.Idx → Elt F .bf16)) (x4 : (S2048x128.Idx → Elt F .bf16)) (x5 : (S2048x128.Idx → Elt F .f32)) (x6 : (S1x2x4x1x512.Idx → Elt F .f32)) (x7 : (S2048x128.Idx → Elt F .f32)) (x8 : (S4x512x512.Idx → Elt F .f32)) (x9 : (S1x2x4x1x512.Idx → Elt F .f32)) : (S2048x128.Idx → Elt F .bf16) :=
  arg10.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9)).1 arg10.view.junk arg11.view.junk arg12.view.junk arg13.view.junk arg14.view.junk arg15.view.junk arg16.view.junk arg17.view.junk arg18.view.junk arg19.view.junk arg20.view.junk arg21.view.junk)

/-- What one grid point leaves in result block 1. -/
def out11 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (x2 : (S2048x128.Idx → Elt F .bf16)) (x3 : (S2048x128.Idx → Elt F .bf16)) (x4 : (S2048x128.Idx → Elt F .bf16)) (x5 : (S2048x128.Idx → Elt F .f32)) (x6 : (S1x2x4x1x512.Idx → Elt F .f32)) (x7 : (S2048x128.Idx → Elt F .f32)) (x8 : (S4x512x512.Idx → Elt F .f32)) (x9 : (S1x2x4x1x512.Idx → Elt F .f32)) : (S2048x128.Idx → Elt F .bf16) :=
  arg11.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9)).2.1 arg10.view.junk arg11.view.junk arg12.view.junk arg13.view.junk arg14.view.junk arg15.view.junk arg16.view.junk arg17.view.junk arg18.view.junk arg19.view.junk arg20.view.junk arg21.view.junk)

/-- What one grid point leaves in result block 2. -/
def out12 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (x2 : (S2048x128.Idx → Elt F .bf16)) (x3 : (S2048x128.Idx → Elt F .bf16)) (x4 : (S2048x128.Idx → Elt F .bf16)) (x5 : (S2048x128.Idx → Elt F .f32)) (x6 : (S1x2x4x1x512.Idx → Elt F .f32)) (x7 : (S2048x128.Idx → Elt F .f32)) (x8 : (S4x512x512.Idx → Elt F .f32)) (x9 : (S1x2x4x1x512.Idx → Elt F .f32)) : (S2048x128.Idx → Elt F .bf16) :=
  arg12.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9)).2.2.1 arg10.view.junk arg11.view.junk arg12.view.junk arg13.view.junk arg14.view.junk arg15.view.junk arg16.view.junk arg17.view.junk arg18.view.junk arg19.view.junk arg20.view.junk arg21.view.junk)

/-- What one grid point leaves in result block 3. -/
def out13 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (x2 : (S2048x128.Idx → Elt F .bf16)) (x3 : (S2048x128.Idx → Elt F .bf16)) (x4 : (S2048x128.Idx → Elt F .bf16)) (x5 : (S2048x128.Idx → Elt F .f32)) (x6 : (S1x2x4x1x512.Idx → Elt F .f32)) (x7 : (S2048x128.Idx → Elt F .f32)) (x8 : (S4x512x512.Idx → Elt F .f32)) (x9 : (S1x2x4x1x512.Idx → Elt F .f32)) : (S1x2x4x1x512.Idx → Elt F .f32) :=
  arg13.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9)).2.2.2.1 arg10.view.junk arg11.view.junk arg12.view.junk arg13.view.junk arg14.view.junk arg15.view.junk arg16.view.junk arg17.view.junk arg18.view.junk arg19.view.junk arg20.view.junk arg21.view.junk)

/-- What one grid point leaves in result block 4. -/
def out14 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (x2 : (S2048x128.Idx → Elt F .bf16)) (x3 : (S2048x128.Idx → Elt F .bf16)) (x4 : (S2048x128.Idx → Elt F .bf16)) (x5 : (S2048x128.Idx → Elt F .f32)) (x6 : (S1x2x4x1x512.Idx → Elt F .f32)) (x7 : (S2048x128.Idx → Elt F .f32)) (x8 : (S4x512x512.Idx → Elt F .f32)) (x9 : (S1x2x4x1x512.Idx → Elt F .f32)) : (S1x2x4x1x512.Idx → Elt F .f32) :=
  arg14.view.read (Elt F) ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9)).2.2.2.2.1 arg10.view.junk arg11.view.junk arg12.view.junk arg13.view.junk arg14.view.junk arg15.view.junk arg16.view.junk arg17.view.junk arg18.view.junk arg19.view.junk arg20.view.junk arg21.view.junk)

/-- One grid point, its blocks held by what they read. -/
theorem body_owns (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2x4x1x512 .f32) (harg6 : arg6.IsWhole) (arg7 : Memref sig .tc .vmem S2048x128 .f32) (harg7 : arg7.IsWhole) (arg8 : Memref sig .tc .vmem S4x512x512 .f32) (harg8 : arg8.IsWhole) (arg9 : Memref sig .tc .vmem S1x2x4x1x512 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x2x4x1x512 .f32) (harg13 : arg13.IsWhole) (arg14 : Memref sig .tc .vmem S1x2x4x1x512 .f32) (harg14 : arg14.IsWhole) (arg15 : Memref sig .tc .vmem S4x128x512 .bf16) (harg15 : arg15.IsWhole) (arg16 : Memref sig .tc .vmem S2x4x64x512 .f32) (harg16 : arg16.IsWhole) (arg17 : Memref sig .tc .vmem S2x4x64x512 .f32) (harg17 : arg17.IsWhole) (arg18 : Memref sig .tc .vmem S64x512 .f32) (harg18 : arg18.IsWhole) (arg19 : Memref sig .tc .vmem S64x512 .f32) (harg19 : arg19.IsWhole) (arg20 : Memref sig .tc .vmem S2x2048x1 .f32) (harg20 : arg20.IsWhole) (arg21 : Memref sig .tc .vmem S4x512x128 .f32) (harg21 : arg21.IsWhole) (E : Set ℕ) (x2 : (S2048x128.Idx → Elt F .bf16)) (x3 : (S2048x128.Idx → Elt F .bf16)) (x4 : (S2048x128.Idx → Elt F .bf16)) (x5 : (S2048x128.Idx → Elt F .f32)) (x6 : (S1x2x4x1x512.Idx → Elt F .f32)) (x7 : (S2048x128.Idx → Elt F .f32)) (x8 : (S4x512x512.Idx → Elt F .f32)) (x9 : (S1x2x4x1x512.Idx → Elt F .f32)) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) : sProp 𝕄G)
      ⊢ wp frame (wpE (defs₀ (F := F)) 𝒱 (c : Thread nD τ) bd) E (cc0_attn_b_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9) ∗ owns (c : Thread nD τ) arg11 fullShare (out11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9) ∗ owns (c : Thread nD τ) arg12 fullShare (out12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9) ∗ owns (c : Thread nD τ) arg13 fullShare (out13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9) ∗ owns (c : Thread nD τ) arg14 fullShare (out14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))) := by
  iintro ⟨H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  ihave H2 := (rep_of_owns (c : Thread nD τ) arg2 fullShare x2) $$ H2
  ihave H3 := (rep_of_owns (c : Thread nD τ) arg3 fullShare x3) $$ H3
  ihave H4 := (rep_of_owns (c : Thread nD τ) arg4 fullShare x4) $$ H4
  ihave H5 := (rep_of_owns (c : Thread nD τ) arg5 fullShare x5) $$ H5
  ihave H6 := (rep_of_owns (c : Thread nD τ) arg6 fullShare x6) $$ H6
  ihave H7 := (rep_of_owns (c : Thread nD τ) arg7 fullShare x7) $$ H7
  ihave H8 := (rep_of_owns (c : Thread nD τ) arg8 fullShare x8) $$ H8
  ihave H9 := (rep_of_owns (c : Thread nD τ) arg9 fullShare x9) $$ H9
  ihave H10 := (rep_of_owns (c : Thread nD τ) arg10 fullShare d10) $$ H10
  ihave H11 := (rep_of_owns (c : Thread nD τ) arg11 fullShare d11) $$ H11
  ihave H12 := (rep_of_owns (c : Thread nD τ) arg12 fullShare d12) $$ H12
  ihave H13 := (rep_of_owns (c : Thread nD τ) arg13 fullShare d13) $$ H13
  ihave H14 := (rep_of_owns (c : Thread nD τ) arg14 fullShare d14) $$ H14
  ihave H15 := (rep_of_owns (c : Thread nD τ) arg15 fullShare d15) $$ H15
  ihave H16 := (rep_of_owns (c : Thread nD τ) arg16 fullShare d16) $$ H16
  ihave H17 := (rep_of_owns (c : Thread nD τ) arg17 fullShare d17) $$ H17
  ihave H18 := (rep_of_owns (c : Thread nD τ) arg18 fullShare d18) $$ H18
  ihave H19 := (rep_of_owns (c : Thread nD τ) arg19 fullShare d19) $$ H19
  ihave H20 := (rep_of_owns (c : Thread nD τ) arg20 fullShare d20) $$ H20
  ihave H21 := (rep_of_owns (c : Thread nD τ) arg21 fullShare d21) $$ H21
  iapply (wp_wand_r Idealize.ShloMosaic.frame (wpE (defs₀ (F := F)) 𝒱 (c : Thread nD τ) bd) E)
  isplitl [H2 H3 H4 H5 H6 H7 H8 H9 H10 H11 H12 H13 H14 H15 H16 H17 H18 H19 H20 H21]
  · iapply ((body (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9)).2.2.2.2.2.2.2.2.2.2.2.2 E (arg10.view.rep d10) (arg11.view.rep d11) (arg12.view.rep d12) (arg13.view.rep d13) (arg14.view.rep d14) (arg15.view.rep d15) (arg16.view.rep d16) (arg17.view.rep d17) (arg18.view.rep d18) (arg19.view.rep d19) (arg20.view.rep d20) (arg21.view.rep d21))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iintro %yld ⟨H2, H3, H4, H5, H6, H7, H8, H9, H10, H11, H12, H13, H14, H15, H16, H17, H18, H19, H20, H21⟩
    have hs := body_same (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg2.view.rep x2) (arg3.view.rep x3) (arg4.view.rep x4) (arg5.view.rep x5) (arg6.view.rep x6) (arg7.view.rep x7) (arg8.view.rep x8) (arg9.view.rep x9) (arg10.view.rep d10) (arg11.view.rep d11) (arg12.view.rep d12) (arg13.view.rep d13) (arg14.view.rep d14) (arg15.view.rep d15) (arg16.view.rep d16) (arg17.view.rep d17) (arg18.view.rep d18) (arg19.view.rep d19) (arg20.view.rep d20) (arg21.view.rep d21) arg10.view.junk arg11.view.junk arg12.view.junk arg13.view.junk arg14.view.junk arg15.view.junk arg16.view.junk arg17.view.junk arg18.view.junk arg19.view.junk arg20.view.junk arg21.view.junk
    isplitl [H2]; · iapply (owns_of_rep (c : Thread nD τ) arg2 fullShare x2) $$ H2
    isplitl [H3]; · iapply (owns_of_rep (c : Thread nD τ) arg3 fullShare x3) $$ H3
    isplitl [H4]; · iapply (owns_of_rep (c : Thread nD τ) arg4 fullShare x4) $$ H4
    isplitl [H5]; · iapply (owns_of_rep (c : Thread nD τ) arg5 fullShare x5) $$ H5
    isplitl [H6]; · iapply (owns_of_rep (c : Thread nD τ) arg6 fullShare x6) $$ H6
    isplitl [H7]; · iapply (owns_of_rep (c : Thread nD τ) arg7 fullShare x7) $$ H7
    isplitl [H8]; · iapply (owns_of_rep (c : Thread nD τ) arg8 fullShare x8) $$ H8
    isplitl [H9]; · iapply (owns_of_rep (c : Thread nD τ) arg9 fullShare x9) $$ H9
    isplitl [H10]
    · unfold owns; iexists _; isplitr
      swap; · iexact H10
      ipureintro; exact hs.1
    isplitl [H11]
    · unfold owns; iexists _; isplitr
      swap; · iexact H11
      ipureintro; exact hs.2.1
    isplitl [H12]
    · unfold owns; iexists _; isplitr
      swap; · iexact H12
      ipureintro; exact hs.2.2.1
    isplitl [H13]
    · unfold owns; iexists _; isplitr
      swap; · iexact H13
      ipureintro; exact hs.2.2.2.1
    isplitl [H14]
    · unfold owns; iexists _; isplitr
      swap; · iexact H14
      ipureintro; exact hs.2.2.2.2
    isplitl [H15]
    · unfold owns; iexists _; iexists _; isplitr
      swap; · iexact H15
      ipureintro; rfl
    isplitl [H16]
    · unfold owns; iexists _; iexists _; isplitr
      swap; · iexact H16
      ipureintro; rfl
    isplitl [H17]
    · unfold owns; iexists _; iexists _; isplitr
      swap; · iexact H17
      ipureintro; rfl
    isplitl [H18]
    · unfold owns; iexists _; iexists _; isplitr
      swap; · iexact H18
      ipureintro; rfl
    isplitl [H19]
    · unfold owns; iexists _; iexists _; isplitr
      swap; · iexact H19
      ipureintro; rfl
    isplitl [H20]
    · unfold owns; iexists _; iexists _; isplitr
      swap; · iexact H20
      ipureintro; rfl
    unfold owns; iexists _; iexists _; isplitr
    swap; · iexact H21
    ipureintro; rfl

variable (m : (ℓ : Loc nD τ sig) → Buf (Elt F) ℓ) (ρ : Dev nD → PrngReg)

/-- Result block 0 after grid point `t`. -/
def after10 (c : Dev nD) (t : Fin cfg0.N) : (S2048x128.Idx → Elt F .bf16) :=
  out10 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t)

/-- Result block 1 after grid point `t`. -/
def after11 (c : Dev nD) (t : Fin cfg0.N) : (S2048x128.Idx → Elt F .bf16) :=
  out11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t)

/-- Result block 2 after grid point `t`. -/
def after12 (c : Dev nD) (t : Fin cfg0.N) : (S2048x128.Idx → Elt F .bf16) :=
  out12 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t)

/-- Result block 3 after grid point `t`. -/
def after13 (c : Dev nD) (t : Fin cfg0.N) : (S1x2x4x1x512.Idx → Elt F .f32) :=
  out13 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t)

/-- Result block 4 after grid point `t`. -/
def after14 (c : Dev nD) (t : Fin cfg0.N) : (S1x2x4x1x512.Idx → Elt F .f32) :=
  out14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => after10 m c t
    | ⟨9, _⟩ => after11 m c t
    | ⟨10, _⟩ => after12 m c t
    | ⟨11, _⟩ => after13 m c t
    | ⟨12, _⟩ => after14 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem dafter_0 (c : Dev nD) (t : Fin cfg0.N) : (dats m 0 c).after 0 t = iblk m c 0 t := by dsimp only [dats]
theorem dbefore_0 (c : Dev nD) (t : Fin cfg0.N) (d) : (dats m 0 c).before 0 t d = iblk m c 0 t := before0_0_of m (dats m 0 c) (A_eq m c 0) (dafter_0 m c) t d
theorem dafter_1 (c : Dev nD) (t : Fin cfg0.N) : (dats m 0 c).after 1 t = iblk m c 1 t := by dsimp only [dats]
theorem dbefore_1 (c : Dev nD) (t : Fin cfg0.N) (d) : (dats m 0 c).before 1 t d = iblk m c 1 t := before0_1_of m (dats m 0 c) (A_eq m c 1) (dafter_1 m c) t d
theorem dafter_2 (c : Dev nD) (t : Fin cfg0.N) : (dats m 0 c).after 2 t = iblk m c 2 t := by dsimp only [dats]
theorem dbefore_2 (c : Dev nD) (t : Fin cfg0.N) (d) : (dats m 0 c).before 2 t d = iblk m c 2 t := before0_2_of m (dats m 0 c) (A_eq m c 2) (dafter_2 m c) t d
theorem dafter_3 (c : Dev nD) (t : Fin cfg0.N) : (dats m 0 c).after 3 t = iblk m c 3 t := by dsimp only [dats]
theorem dbefore_3 (c : Dev nD) (t : Fin cfg0.N) (d) : (dats m 0 c).before 3 t d = iblk m c 3 t := before0_3_of m (dats m 0 c) (A_eq m c 3) (dafter_3 m c) t d
theorem dafter_4 (c : Dev nD) (t : Fin cfg0.N) : (dats m 0 c).after 4 t = iblk m c 4 t := by dsimp only [dats]
theorem dbefore_4 (c : Dev nD) (t : Fin cfg0.N) (d) : (dats m 0 c).before 4 t d = iblk m c 4 t := before0_4_of m (dats m 0 c) (A_eq m c 4) (dafter_4 m c) t d
theorem dafter_5 (c : Dev nD) (t : Fin cfg0.N) : (dats m 0 c).after 5 t = iblk m c 5 t := by dsimp only [dats]
theorem dbefore_5 (c : Dev nD) (t : Fin cfg0.N) (d) : (dats m 0 c).before 5 t d = iblk m c 5 t := before0_5_of m (dats m 0 c) (A_eq m c 5) (dafter_5 m c) t d
theorem dafter_6 (c : Dev nD) (t : Fin cfg0.N) : (dats m 0 c).after 6 t = iblk m c 6 t := by dsimp only [dats]
theorem dbefore_6 (c : Dev nD) (t : Fin cfg0.N) (d) : (dats m 0 c).before 6 t d = iblk m c 6 t := before0_6_of m (dats m 0 c) (A_eq m c 6) (dafter_6 m c) t d
theorem dafter_7 (c : Dev nD) (t : Fin cfg0.N) : (dats m 0 c).after 7 t = iblk m c 7 t := by dsimp only [dats]
theorem dbefore_7 (c : Dev nD) (t : Fin cfg0.N) (d) : (dats m 0 c).before 7 t d = iblk m c 7 t := before0_7_of m (dats m 0 c) (A_eq m c 7) (dafter_7 m c) t d
theorem dafter_8 (c : Dev nD) (t : Fin cfg0.N) : (dats m 0 c).after 8 t = after10 m c t := by dsimp only [dats]
theorem dafter_9 (c : Dev nD) (t : Fin cfg0.N) : (dats m 0 c).after 9 t = after11 m c t := by dsimp only [dats]
theorem dafter_10 (c : Dev nD) (t : Fin cfg0.N) : (dats m 0 c).after 10 t = after12 m c t := by dsimp only [dats]
theorem dafter_11 (c : Dev nD) (t : Fin cfg0.N) : (dats m 0 c).after 11 t = after13 m c t := by dsimp only [dats]
theorem dafter_12 (c : Dev nD) (t : Fin cfg0.N) : (dats m 0 c).after 12 t = after14 m c t := by dsimp only [dats]

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [dafter_0, dafter_1, dafter_2, dafter_3, dafter_4, dafter_5, dafter_6, dafter_7, dafter_8, dafter_9, dafter_10, dafter_11, dafter_12]
  simp only [dbefore_0, dbefore_1, dbefore_2, dbefore_3, dbefore_4, dbefore_5, dbefore_6, dbefore_7]
  rw [show (dats m 0 c).Φ t.succ = Pipeline.ΦA spec0 c from rfl, show (dats m 0 c).Φ t.castSucc = Pipeline.ΦA spec0 c from rfl]
  unfold Pipeline.ΦA Dat.owesAt Pipeline.owesWithin
  rw [scopedRest0_eq, show (dats m 0 c).owed t.castSucc = 0 from rfl, show (dats m 0 c).owed t.succ = 0 from rfl]
  simp only [← owns_whole]
  iintro ⟨⟨⟨H15, H16, H17, H18, H19, H20, H21⟩, Hg⟩, ⟨%W, -, HW⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21]
  · iapply (body_owns (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) Set.univ (iblk m c 0 t) (iblk m c 1 t) (iblk m c 2 t) (iblk m c 3 t) (iblk m c 4 t) (iblk m c 5 t) (iblk m c 6 t) (iblk m c 7 t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [H17]; · iexact H17
    isplitl [H18]; · iexact H18
    isplitl [H19]; · iexact H19
    isplitl [H20]; · iexact H20
    iexact H21
  · iintro %yld ⟨H2, H3, H4, H5, H6, H7, H8, H9, H10, H11, H12, H13, H14, H15, H16, H17, H18, H19, H20, H21⟩
    isplitl [H15 H16 H17 H18 H19 H20 H21 Hg]
    · isplitl [H15 H16 H17 H18 H19 H20 H21]
      · isplitl [H15]; · iexact H15
        isplitl [H16]; · iexact H16
        isplitl [H17]; · iexact H17
        isplitl [H18]; · iexact H18
        isplitl [H19]; · iexact H19
        isplitl [H20]; · iexact H20
        iexact H21
      iexact Hg
    isplitl [HW]
    · iexists W; isplitr; · ipureintro; exact fun _ _ => Or.inl trivial
      iexact HW
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame_own : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).1 5).trans (((dats m 0 c).arrAt_in 5 rfl _).trans ((A_eq m c 5).trans (V_main_arg2 m c)))⟩, h.2⟩) (run_main m ρ)

end Cert.KernelIdeal.Own

end
-- ==== Proof.Up.lean ====
module
public import proofs.«01_k».proof.Proof.Gen.KernelUpIdeal.Value
public import proofs.«01_k».proof.Proof.Gen.ReferenceUpIdeal.Run
public import proofs.«01_k».proof.Defs
public import Idealize.ShloMosaic.Lib.MatmulPlain
public import Idealize.ShloMosaic.Lib.Pipeline.ValueKit.Geometry
public import Idealize.ShloMosaic.Lib.KernelVsHost
public import Idealize.ShloMosaic.Lib.StackMember
public import Idealize.ShloMosaic.Lib.IdealHost
@[expose] public section
set_option maxRecDepth 16384
noncomputable section
namespace Cert.KernelUpIdeal.Own
open Cert.KernelUpIdeal Cert.KernelUpIdeal.Gen Idealize.ShloMosaic Idealize.ShloMosaic.TcCoe Idealize.SL.Sem
open Idealize.ShloMosaic.Tactic Idealize.ShloMosaic.ValueIdx
open scoped BigOperators

/-- Row `y 0` of the activations times row `y 1` of a transposed weight. -/
def rowProd {R C : ℕ} (x : (⟨2, ![R, 1024]⟩ : Shape).Idx → EReal) (w : (⟨2, ![C, 1024]⟩ : Shape).Idx → EReal)
    (y : (⟨2, ![R, C]⟩ : Shape).Idx) : EReal := ∑ k : Fin 1024, x (ix2 (y 0) k) * w (ix2 (y 1) k)

/-- `silu(g) · u` on one pair of values. -/
def gated (g u : EReal) : EReal := g * Ideal.div 1 (1 + Ideal.exp (-g)) * u

/-- One column chunk of a product is the product's own entries at those columns. -/
theorem chunk_rowProd (N col : ℕ) (i0 : ∀ a, (![0, 0] : Fin 2 → ℕ) a + (![256, 1024] : Fin 2 → ℕ) a ≤ S256x1024.size a)
    (i1 : ∀ a, (![col, 0] : Fin 2 → ℕ) a + (![N, 1024] : Fin 2 → ℕ) a ≤ S2816x1024.size a)
    (i2 : ∀ a, (![0, col] : Fin 2 → ℕ) a + (![256, N] : Fin 2 → ℕ) a ≤ S256x2816.size a)
    (x0 : Vec Ideal S256x1024 .bf16) (x1 : Vec Ideal S2816x1024 .bf16) (z : (⟨2, ![256, N]⟩ : Shape).Idx) :
    rowProd (R := 256) (C := N) (View.ld x0 (Rect.unit (s := S256x1024) ![0, 0] ![256, 1024] i0)) (View.ld x1 (Rect.unit (s := S2816x1024) ![col, 0] ![N, 1024] i1)) z
      = rowProd (R := 256) (C := 2816) x0 x1 ((Rect.unit (s := S256x2816) ![0, col] ![256, N] i2).emb z) := by
  unfold rowProd
  refine Finset.sum_congr rfl fun k _ => ?_
  refine congrArg₂ (· * ·) (congrArg x0 (funext fun a => Fin.ext ?_)) (congrArg x1 (funext fun a => Fin.ext ?_)) <;> fin_cases a <;> simp [ix2, Rect.emb, Rect.unit]

theorem mm512 (X : FVec Ideal S256x1024 .bf16) (W : FVec Ideal S512x1024 .bf16) (z : S256x512.Idx) :
    (matmul dot_S256x1024_S512x1024_S256x512_1_1_0_0_n_n none X W (constant S256x512 .f32 0x00000000#32) : FVec Ideal S256x512 .f32) z = rowProd (R := 256) (C := 512) X W z := by
  obtain ⟨r, c, rfl⟩ : ∃ r c, z = ix2 r c := ⟨z 0, z 1, eq_ix2 z⟩
  rw [show dot_S256x1024_S512x1024_S256x512_1_1_0_0_n_n = DotDims.transposedRhs 256 1024 512 from rfl]
  refine (Ideal.matmul_transposedRhs_apply none X W _ r c).trans ?_
  show (constant S256x512 .f32 0x00000000#32 (ix2 r c) : Ideal .f32) + _ = _
  simp [rowProd, constant, Ideal.ofBits_def]

theorem mm256 (X : FVec Ideal S256x1024 .bf16) (W : FVec Ideal S256x1024 .bf16) (z : S256x256.Idx) :
    (matmul dot_S256x1024_S256x1024_S256x256_1_1_0_0_n_n none X W (constant S256x256 .f32 0x00000000#32) : FVec Ideal S256x256 .f32) z = rowProd (R := 256) (C := 256) X W z := by
  obtain ⟨r, c, rfl⟩ : ∃ r c, z = ix2 r c := ⟨z 0, z 1, eq_ix2 z⟩
  rw [show dot_S256x1024_S256x1024_S256x256_1_1_0_0_n_n = DotDims.transposedRhs 256 1024 256 from rfl]
  refine (Ideal.matmul_transposedRhs_apply none X W _ r c).trans ?_
  show (constant S256x256 .f32 0x00000000#32 (ix2 r c) : Ideal .f32) + _ = _
  simp [rowProd, constant, Ideal.ofBits_def]

/-- The written form of the gated product on a chunk. -/
theorem gated_chunk {s : Shape} (v w : FVec Ideal s .f32) (z : s.Idx) :
    mulf (mulf v (divf (broadcast s (Scalar.ofBits .f32 0x3F800000#32 : Ideal .f32)) (addf (broadcast s (Scalar.ofBits .f32 0x3F800000#32 : Ideal .f32)) (exp (subf (broadcast s (Scalar.ofBits .f32 0x00000000#32 : Ideal .f32)) v))))) w z
      = gated (v z) (w z) := by
  show v z * Ideal.div (Ideal.ofBits .f32 0x3F800000#32) (Ideal.ofBits .f32 0x3F800000#32 + Ideal.exp (Ideal.ofBits .f32 0x00000000#32 - v z)) * w z = gated (v z) (w z)
  rw [Ideal.ofBits_one_f32, show Ideal.ofBits .f32 0x00000000#32 = 0 from Ideal.ofBits_zero_f32, zero_sub]; rfl

/-- What one grid point leaves in output 3. -/
theorem out3  (c : Dev nD) (i : grid0.Coords) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S256x2816 .bf16) (harg7 : arg7.IsWhole)
    (x0 : Vec Ideal S256x1024 .bf16) (x1 : Vec Ideal S2816x1024 .bf16) (x2 : Vec Ideal S2816x1024 .bf16)  : out0_A_3 c i arg2 harg2 arg3 harg3 arg4 harg4 arg5 harg5 arg6 harg6 arg7 harg7 x0 x1 x2 = rowProd (R := 256) (C := 2816) x0 x1 := by
  funext y
  unfold out0_A_3
  rw [View.read_writes_eq_canon _ _ _ (cover0_A_3 c i arg2 harg2 arg3 harg3 arg4 harg4 arg5 harg5 arg6 harg6 arg7 harg7 x0 x1 x2)]
  refine View.canon_apply_of_pieces (rowProd (R := 256) (C := 2816) x0 x1) _ ?_ y (cover0_A_3 c i arg2 harg2 arg3 harg3 arg4 harg4 arg5 harg5 arg6 harg6 arg7 harg7 x0 x1 x2 y)
  unfold kernelRun0_A
  dsimp only
  sl_unfold_words
  simp only [View.readAt_eq_ld, harg2.read_unread, harg3.read_unread, harg4.read_unread, List.forall_mem_cons, List.not_mem_nil, false_imp_iff, implies_true, and_true]
  simp only [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32, shapeCast_self]
  refine ⟨fun z => ?_, fun z => ?_, fun z => ?_, fun z => ?_, fun z => ?_, fun z => ?_⟩
  · exact (mm256 _ _ z).trans (chunk_rowProd 256 2560 _ _ _ x0 x1 z)
  · exact (mm512 _ _ z).trans (chunk_rowProd 512 2048 _ _ _ x0 x1 z)
  · exact (mm512 _ _ z).trans (chunk_rowProd 512 1536 _ _ _ x0 x1 z)
  · exact (mm512 _ _ z).trans (chunk_rowProd 512 1024 _ _ _ x0 x1 z)
  · exact (mm512 _ _ z).trans (chunk_rowProd 512 512 _ _ _ x0 x1 z)
  · exact (mm512 _ _ z).trans (chunk_rowProd 512 0 _ _ _ x0 x1 z)

/-- What one grid point leaves in output 4. -/
theorem out4  (c : Dev nD) (i : grid0.Coords) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S256x2816 .bf16) (harg7 : arg7.IsWhole)
    (x0 : Vec Ideal S256x1024 .bf16) (x1 : Vec Ideal S2816x1024 .bf16) (x2 : Vec Ideal S2816x1024 .bf16)  : out0_A_4 c i arg2 harg2 arg3 harg3 arg4 harg4 arg5 harg5 arg6 harg6 arg7 harg7 x0 x1 x2 = rowProd (R := 256) (C := 2816) x0 x2 := by
  funext y
  unfold out0_A_4
  rw [View.read_writes_eq_canon _ _ _ (cover0_A_4 c i arg2 harg2 arg3 harg3 arg4 harg4 arg5 harg5 arg6 harg6 arg7 harg7 x0 x1 x2)]
  refine View.canon_apply_of_pieces (rowProd (R := 256) (C := 2816) x0 x2) _ ?_ y (cover0_A_4 c i arg2 harg2 arg3 harg3 arg4 harg4 arg5 harg5 arg6 harg6 arg7 harg7 x0 x1 x2 y)
  unfold kernelRun0_A
  dsimp only
  sl_unfold_words
  simp only [View.readAt_eq_ld, harg2.read_unread, harg3.read_unread, harg4.read_unread, List.forall_mem_cons, List.not_mem_nil, false_imp_iff, implies_true, and_true]
  simp only [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32, shapeCast_self]
  refine ⟨fun z => ?_, fun z => ?_, fun z => ?_, fun z => ?_, fun z => ?_, fun z => ?_⟩
  · exact (mm256 _ _ z).trans (chunk_rowProd 256 2560 _ _ _ x0 x2 z)
  · exact (mm512 _ _ z).trans (chunk_rowProd 512 2048 _ _ _ x0 x2 z)
  · exact (mm512 _ _ z).trans (chunk_rowProd 512 1536 _ _ _ x0 x2 z)
  · exact (mm512 _ _ z).trans (chunk_rowProd 512 1024 _ _ _ x0 x2 z)
  · exact (mm512 _ _ z).trans (chunk_rowProd 512 512 _ _ _ x0 x2 z)
  · exact (mm512 _ _ z).trans (chunk_rowProd 512 0 _ _ _ x0 x2 z)

/-- What one grid point leaves in output 5. -/
theorem out5  (c : Dev nD) (i : grid0.Coords) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S256x2816 .bf16) (harg7 : arg7.IsWhole)
    (x0 : Vec Ideal S256x1024 .bf16) (x1 : Vec Ideal S2816x1024 .bf16) (x2 : Vec Ideal S2816x1024 .bf16)  : out0_A_5 c i arg2 harg2 arg3 harg3 arg4 harg4 arg5 harg5 arg6 harg6 arg7 harg7 x0 x1 x2 = fun y => gated (rowProd (R := 256) (C := 2816) x0 x1 y) (rowProd (R := 256) (C := 2816) x0 x2 y) := by
  funext y
  unfold out0_A_5
  rw [View.read_writes_eq_canon _ _ _ (cover0_A_5 c i arg2 harg2 arg3 harg3 arg4 harg4 arg5 harg5 arg6 harg6 arg7 harg7 x0 x1 x2)]
  refine View.canon_apply_of_pieces (fun y => gated (rowProd (R := 256) (C := 2816) x0 x1 y) (rowProd (R := 256) (C := 2816) x0 x2 y)) _ ?_ y (cover0_A_5 c i arg2 harg2 arg3 harg3 arg4 harg4 arg5 harg5 arg6 harg6 arg7 harg7 x0 x1 x2 y)
  unfold kernelRun0_A
  dsimp only
  sl_unfold_words
  simp only [View.readAt_eq_ld, harg2.read_unread, harg3.read_unread, harg4.read_unread, List.forall_mem_cons, List.not_mem_nil, false_imp_iff, implies_true, and_true]
  simp only [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32, shapeCast_self]
  refine ⟨fun z => ?_, fun z => ?_, fun z => ?_, fun z => ?_, fun z => ?_, fun z => ?_⟩
  · exact (gated_chunk _ _ z).trans (congrArg₂ gated ((mm256 _ _ z).trans (chunk_rowProd 256 2560 _ _ _ x0 x1 z)) ((mm256 _ _ z).trans (chunk_rowProd 256 2560 _ _ _ x0 x2 z)))
  · exact (gated_chunk _ _ z).trans (congrArg₂ gated ((mm512 _ _ z).trans (chunk_rowProd 512 2048 _ _ _ x0 x1 z)) ((mm512 _ _ z).trans (chunk_rowProd 512 2048 _ _ _ x0 x2 z)))
  · exact (gated_chunk _ _ z).trans (congrArg₂ gated ((mm512 _ _ z).trans (chunk_rowProd 512 1536 _ _ _ x0 x1 z)) ((mm512 _ _ z).trans (chunk_rowProd 512 1536 _ _ _ x0 x2 z)))
  · exact (gated_chunk _ _ z).trans (congrArg₂ gated ((mm512 _ _ z).trans (chunk_rowProd 512 1024 _ _ _ x0 x1 z)) ((mm512 _ _ z).trans (chunk_rowProd 512 1024 _ _ _ x0 x2 z)))
  · exact (gated_chunk _ _ z).trans (congrArg₂ gated ((mm512 _ _ z).trans (chunk_rowProd 512 512 _ _ _ x0 x1 z)) ((mm512 _ _ z).trans (chunk_rowProd 512 512 _ _ _ x0 x2 z)))
  · exact (gated_chunk _ _ z).trans (congrArg₂ gated ((mm512 _ _ z).trans (chunk_rowProd 512 0 _ _ _ x0 x1 z)) ((mm512 _ _ z).trans (chunk_rowProd 512 0 _ _ _ x0 x2 z)))

variable (m : (ℓ : Loc nD τ sig) → Buf (Elt Ideal) ℓ)

theorem index0 : ∀ t : Fin cfg0.N, win0_0.index t = ![(grid0.coords t 1).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 1).val, 0] := (by decide +kernel : ∀ t : Fin grid0.N, _)
theorem index4 : ∀ t : Fin cfg0.N, win0_4.index t = ![(grid0.coords t 1).val, 0] := (by decide +kernel : ∀ t : Fin grid0.N, _)
theorem index5 : ∀ t : Fin cfg0.N, win0_5.index t = ![(grid0.coords t 1).val, 0] := (by decide +kernel : ∀ t : Fin grid0.N, _)

/-- A row block of the activations against the whole weight, read at output 3's block. -/
theorem blk3_1 (c : Dev nD) (t : Fin cfg0.N) (y : S256x2816.Idx) :
    rowProd (R := 256) (C := 2816) (iblk m c 0 t) (iblk m c 1 t) y = rowProd (R := 8192) (C := 2816) (V m c main_arg0) (V m c main_v0) (((cfg0.win 3).blk t).view.emb y) := by
  unfold rowProd
  refine Finset.sum_congr rfl fun q _ => ?_
  refine congrArg₂ (· * ·) ?_ ?_
  · blk_simp [iblk]
    refine congrArg (V m c main_arg0) ?_
    blk_ext [index0, index3, ix2]
  · blk_simp [iblk]
    refine congrArg (V m c main_v0) ?_
    blk_ext [index1, index3, ix2]

/-- A row block of the activations against the whole weight, read at output 4's block. -/
theorem blk4_2 (c : Dev nD) (t : Fin cfg0.N) (y : S256x2816.Idx) :
    rowProd (R := 256) (C := 2816) (iblk m c 0 t) (iblk m c 2 t) y = rowProd (R := 8192) (C := 2816) (V m c main_arg0) (V m c main_v1) (((cfg0.win 4).blk t).view.emb y) := by
  unfold rowProd
  refine Finset.sum_congr rfl fun q _ => ?_
  refine congrArg₂ (· * ·) ?_ ?_
  · blk_simp [iblk]
    refine congrArg (V m c main_arg0) ?_
    blk_ext [index0, index4, ix2]
  · blk_simp [iblk]
    refine congrArg (V m c main_v1) ?_
    blk_ext [index2, index4, ix2]

/-- A row block of the activations against the whole weight, read at output 5's block. -/
theorem blk5_1 (c : Dev nD) (t : Fin cfg0.N) (y : S256x2816.Idx) :
    rowProd (R := 256) (C := 2816) (iblk m c 0 t) (iblk m c 1 t) y = rowProd (R := 8192) (C := 2816) (V m c main_arg0) (V m c main_v0) (((cfg0.win 5).blk t).view.emb y) := by
  unfold rowProd
  refine Finset.sum_congr rfl fun q _ => ?_
  refine congrArg₂ (· * ·) ?_ ?_
  · blk_simp [iblk]
    refine congrArg (V m c main_arg0) ?_
    blk_ext [index0, index5, ix2]
  · blk_simp [iblk]
    refine congrArg (V m c main_v0) ?_
    blk_ext [index1, index5, ix2]

/-- A row block of the activations against the whole weight, read at output 5's block. -/
theorem blk5_2 (c : Dev nD) (t : Fin cfg0.N) (y : S256x2816.Idx) :
    rowProd (R := 256) (C := 2816) (iblk m c 0 t) (iblk m c 2 t) y = rowProd (R := 8192) (C := 2816) (V m c main_arg0) (V m c main_v1) (((cfg0.win 5).blk t).view.emb y) := by
  unfold rowProd
  refine Finset.sum_congr rfl fun q _ => ?_
  refine congrArg₂ (· * ·) ?_ ?_
  · blk_simp [iblk]
    refine congrArg (V m c main_arg0) ?_
    blk_ext [index0, index5, ix2]
  · blk_simp [iblk]
    refine congrArg (V m c main_v1) ?_
    blk_ext [index2, index5, ix2]

/-- Output 3's array after the run. -/
theorem arr3 (c : Dev nD) : (dats m 0 c).arrAt 3 cfg0.N = (rowProd (R := 8192) (C := 2816) (V m c main_arg0) (V m c main_v0)) := by
  refine (dats m 0 c).arrAt_eq_of_covers 3 _ (by decide +kernel) fun t hf y => ?_
  blk_simp
  rw [after0_3]
  simp only [outsAt0]
  rw [out3]
  exact blk3_1 m c t y

/-- Output 4's array after the run. -/
theorem arr4 (c : Dev nD) : (dats m 0 c).arrAt 4 cfg0.N = (rowProd (R := 8192) (C := 2816) (V m c main_arg0) (V m c main_v1)) := by
  refine (dats m 0 c).arrAt_eq_of_covers 4 _ (by decide +kernel) fun t hf y => ?_
  blk_simp
  rw [after0_4]
  simp only [outsAt0]
  rw [out4]
  exact blk4_2 m c t y

/-- Output 5's array after the run. -/
theorem arr5 (c : Dev nD) : (dats m 0 c).arrAt 5 cfg0.N = (fun y => gated (rowProd (R := 8192) (C := 2816) (V m c main_arg0) (V m c main_v0) y) (rowProd (R := 8192) (C := 2816) (V m c main_arg0) (V m c main_v1) y)) := by
  refine (dats m 0 c).arrAt_eq_of_covers 5 _ (by decide +kernel) fun t hf y => ?_
  blk_simp
  rw [after0_5]
  simp only [outsAt0]
  rw [out5]
  exact congrArg₂ gated (blk5_1 m c t y) (blk5_2 m c t y)

/-- The transposed weights the kernel's windows read. -/
theorem V_v0 (c : Dev nD) : V m c main_v0 = transpose S2816x1024 [1, 0] (m ((c : Thread nD τ).loc main_arg1)) transposes_S1024x2816_S2816x1024_1_0 := by
  simp only [V, hostOps0]; after_results
theorem V_v1 (c : Dev nD) : V m c main_v1 = transpose S2816x1024 [1, 0] (m ((c : Thread nD τ).loc main_arg2)) transposes_S1024x2816_S2816x1024_1_0 := by
  simp only [V, hostOps0]; after_results

/-- A product with a transposed weight is the host's product. -/
theorem rowProd_transpose (h : FVec Ideal S8192x1024 .bf16) (w : FVec Ideal S1024x2816 .bf16) :
    rowProd (R := 8192) (C := 2816) h (transpose S2816x1024 [1, 0] w transposes_S1024x2816_S2816x1024_1_0)
      = Host.dotGeneral Cert.ReferenceUpIdeal.dot_S8192x1024_S1024x2816_S8192x2816_1_0_0_1_n_n none (extf .f32 h (Cert.ReferenceUpIdeal.Facts₀.bitsLt_bf16_f32)) (extf .f32 w (Cert.ReferenceUpIdeal.Facts₀.bitsLt_bf16_f32)) := by
  funext z
  obtain ⟨r, q, rfl⟩ : ∃ r q, z = ix2 r q := ⟨z 0, z 1, eq_ix2 z⟩
  rw [show Cert.ReferenceUpIdeal.dot_S8192x1024_S1024x2816_S8192x2816_1_0_0_1_n_n = DotDims.plain 8192 1024 2816 from rfl]
  refine Eq.trans ?_ (StackMember.dotGeneral_plain_apply none _ _ r q).symm
  unfold rowProd
  refine Finset.sum_congr rfl fun k _ => congrArg₂ (· * ·) rfl (congrArg w (funext fun a => Fin.ext ?_))
  fin_cases a <;> simp [Shape.Transposes.src] <;> rfl

/-- The host's gated product, entry by entry. -/
theorem gated_host (a b : FVec Ideal Cert.ReferenceUpIdeal.S8192x2816 .f32) :
    (truncf .bf16 (mulf (mulf a (Host.divf (broadcastInDim Cert.ReferenceUpIdeal.S8192x2816 ![] Cert.ReferenceUpIdeal.Facts₀.bcast_S_S8192x2816 (constant Cert.ReferenceUpIdeal.S_ .f32 0x3F800000#32))
      (addf (broadcastInDim Cert.ReferenceUpIdeal.S8192x2816 ![] Cert.ReferenceUpIdeal.Facts₀.bcast_S_S8192x2816 (constant Cert.ReferenceUpIdeal.S_ .f32 0x3F800000#32)) (Host.exp (Host.negf a))))) b)
        Cert.ReferenceUpIdeal.Facts₀.bitsLt_bf16_f32 : FVec Ideal Cert.ReferenceUpIdeal.S8192x2816 .bf16) = fun y => gated (a y) (b y) := by
  funext y
  show a y * Ideal.div (Ideal.ofBits .f32 0x3F800000#32) (Ideal.ofBits .f32 0x3F800000#32 + Ideal.exp (-(a y))) * b y = _
  rw [Ideal.ofBits_one_f32]; rfl

/-- The kernel call and the reference compute the same gate, up and activation over the reals. -/
theorem algebraic_up : Cert.algebraic_KernelUpIdeal_ReferenceUpIdeal (hKernelUpIdeal := Cert.KernelUpIdeal.Gen.facts) (hReferenceUpIdeal := Cert.ReferenceUpIdeal.Gen.facts) := by
  intro m g m' g' _ harg
  refine ⟨fun c => (dats m 0 c).arrAt 3 cfg0.N, fun c => (dats m 0 c).arrAt 4 cfg0.N, fun c => (dats m 0 c).arrAt 5 cfg0.N, Value.run_blocks m g, ?_⟩
  refine (θ_run Cert.ReferenceUpIdeal.defs _ _).mono (fun r h c => ?_) (Cert.ReferenceUpIdeal.Value.run (F := Ideal) m' g')
  obtain ⟨h6, h7, h10, h0, h1, h2⟩ := h c
  obtain ⟨e0, e1, e2⟩ := harg c
  refine ⟨h6.trans ?_, h7.trans ?_, h10.trans ?_, h0, h1, h2⟩
  · refine Eq.trans ?_ (arr3 m c).symm
    rw [e0, e1, V_main_arg0, V_v0, rowProd_transpose]; rfl
  · refine Eq.trans ?_ (arr4 m c).symm
    rw [e0, e2, V_main_arg0, V_v1, rowProd_transpose]; rfl
  · refine Eq.trans ?_ (arr5 m c).symm
    rw [e0, e1, e2, V_main_arg0, V_v0, V_v1, rowProd_transpose, rowProd_transpose]
    exact gated_host _ _

end Cert.KernelUpIdeal.Own
end
-- ==== Proof.Dw.lean ====
module
public import proofs.«01_k».proof.Proof.Gen.KernelDwIdeal.Value
public import proofs.«01_k».proof.Proof.Gen.ReferenceDwIdeal.Run
public import proofs.«01_k».proof.Defs
public import Idealize.ShloMosaic.Lib.Pipeline.ValueKit.Geometry
public import Idealize.ShloMosaic.Lib.Pipeline.ValueKit.Acc
public import Idealize.ShloMosaic.Lib.MatmulPlain
public import Idealize.ShloMosaic.Lib.IdealHost
@[expose] public section
set_option maxRecDepth 16384
noncomputable section
namespace Cert.KernelDwIdeal.Own
open Cert.KernelDwIdeal Cert.KernelDwIdeal.Gen Idealize.ShloMosaic Idealize.ShloMosaic.TcCoe Idealize.SL.Sem
open Idealize.ShloMosaic.Tactic Idealize.ShloMosaic.ValueIdx
open scoped BigOperators

/-- Column `y 0` of the one matrix times column `y 1` of the other. -/
def colProd {K R C : ℕ} (x : (⟨2, ![K, R]⟩ : Shape).Idx → EReal) (w : (⟨2, ![K, C]⟩ : Shape).Idx → EReal)
    (y : (⟨2, ![R, C]⟩ : Shape).Idx) : EReal := ∑ k : Fin K, x (ix2 k (y 0)) * w (ix2 k (y 1))

/-- The kernel's product over one block of 2048 rows. -/
theorem pay1_apply (X : FVec Ideal S2048x1408 .bf16) (W : FVec Ideal S2048x1024 .bf16) (z : S1408x1024.Idx) :
    (k0_pay1 X W : FVec Ideal S1408x1024 .f32) z = colProd (K := 2048) (R := 1408) (C := 1024) X W z := by
  obtain ⟨r, c, rfl⟩ : ∃ r c, z = ix2 r c := ⟨z 0, z 1, eq_ix2 z⟩
  show FloatOps.matmul (F := Ideal) _ none X W _ _ = _
  rw [Ideal.matmul_apply, ← Equiv.sum_comp (contrEquiv1 dot_S2048x1408_S2048x1024_S1408x1024_0_0_1_1_n_n 2048 rfl rfl).symm]
  refine (congrArg₂ (· + ·) (show _ = (0 : EReal) from Ideal.ofBits_zero_f32) rfl).trans ((zero_add _).trans (Finset.sum_congr rfl fun k _ => ?_))
  have hk := contrEquiv1_symm_val dot_S2048x1408_S2048x1024_S1408x1024_0_0_1_1_n_n 2048 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

/-- The host's product over all 8192 rows. -/
theorem host_apply (X : FVec Ideal S8192x2816 .f32) (W : FVec Ideal S8192x1024 .f32) (r : Fin 2816) (c : Fin 1024) :
    Host.dotGeneral Cert.ReferenceDwIdeal.dot_S8192x2816_S8192x1024_S2816x1024_0_0_1_1_n_n none X W (ix2 r c) = colProd (K := 8192) (R := 2816) (C := 1024) X W (ix2 r c) := by
  show FloatOps.dotGeneral (F := Ideal) _ none _ X W _ = _
  rw [Ideal.dotGeneral_apply, ← Equiv.sum_comp (contrEquiv1 Cert.ReferenceDwIdeal.dot_S8192x2816_S8192x1024_S2816x1024_0_0_1_1_n_n 8192 rfl rfl).symm]
  refine Finset.sum_congr rfl fun k _ => ?_
  have hk := contrEquiv1_symm_val Cert.ReferenceDwIdeal.dot_S8192x2816_S8192x1024_S2816x1024_0_0_1_1_n_n 8192 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

variable (m : (ℓ : Loc nD τ sig) → Buf (Elt Ideal) ℓ)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- One point's addend. -/
def term (c : Dev nD) (t : Fin cfg0.N) (y : S1408x1024.Idx) : EReal :=
  colProd (K := 2048) (R := 1408) (C := 1024) (iblk m c 0 t) (iblk m c 1 t) y

theorem pay2_apply (X : FVec Ideal S2048x1408 .bf16) (W : FVec Ideal S2048x1024 .bf16) (z : S1408x1024.Idx) :
    (k0_pay2 X W : FVec Ideal S1408x1024 .f32) z = colProd (K := 2048) (R := 1408) (C := 1024) X W z := by
  simp only [k0_pay2, shapeCast_self, pay1_apply]
theorem pay3_apply (X : FVec Ideal S2048x1408 .bf16) (W : FVec Ideal S2048x1024 .bf16) (v : FVec Ideal S1408x1024 .f32) (z : S1408x1024.Idx) :
    k0_pay3 X W v z = (v z + colProd (K := 2048) (R := 1408) (C := 1024) X W z : EReal) := by
  simp only [k0_pay3, shapeCast_self]
  exact congrArg (v z + ·) (pay1_apply X W z)

/-- The accumulator at a row block's last point. -/
theorem acc_last (c : Dev nD) (t : Fin cfg0.N) (ht : t.val % 4 = 3) (y : S1408x1024.Idx) :
    (outsAt0 m c t.val t.isLt).2 y = (0 : EReal) + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h y => ?_) (fun t h y => ?_) t ht y
  · have h1 : ¬1 ≤ t.val % 4 := by omega
    have h2 : ¬t.val % 4 = 3 := by omega
    rw [outsAt0_A m c t h h1 h2]
    frame_out
    rw [pay2_apply, zero_add]; rfl
  · have h1 : 1 ≤ t.val % 4 := by omega
    by_cases h2 : t.val % 4 = 3
    · rw [outsAt0_C m c t h h1 h2]
      frame_out
      exact (pay3_apply _ _ _ y).trans (congrArg (· + _) (congrFun ((Memref.isWhole_whole cc0_scratch0).read_unread _) y))
    · rw [outsAt0_B m c t h h1 h2]
      frame_out
      exact (pay3_apply _ _ _ y).trans (congrArg (· + _) (congrFun ((Memref.isWhole_whole cc0_scratch0).read_unread _) y))

/-- The block written back is the accumulator. -/
theorem out_last (c : Dev nD) (t : Fin cfg0.N) (ht : t.val % 4 = 3) (y : S1408x1024.Idx) :
    (outsAt0 m c t.val t.isLt).1 y = (outsAt0 m c t.val t.isLt).2 y := by
  have h : ¬t.val % 4 = 0 := by omega
  have h1 : 1 ≤ t.val % 4 := by omega
  rw [outsAt0_C m c t h h1 ht]
  frame_out
  rfl

/-- The result array after the run. -/
theorem arr2 (c : Dev nD) : (dats m 0 c).arrAt 2 cfg0.N
    = (fun i : S2752x1024.Idx => colProd (K := 8192) (R := 2816) (C := 1024) (V m c main_arg1) (V m c main_arg0) (ix2 (Fin.castLE (by decide) (i 0)) (i 1))) := by
  refine (dats m 0 c).arrAt_eq_of_covers 2 _ (by decide +kernel) fun t hf y => ?_
  have ht := (flush0_2 t).mp hf
  blk_simp
  rw [after0_2, out_last m c t ht, acc_last m c t ht, zero_add]
  unfold term colProd
  refine Fin.sum_mul_add_congr (S := 4) (n := 2048) fun s k hl => ?_
  blk_simp [iblk]
  have h4 : t.val / 4 < 2 := by have := t.isLt; have : cfg0.grid.N = 8 := N_0; omega
  refine congrArg₂ (· * ·) (congrArg (V m c main_arg1) ?_) (congrArg (V m c main_arg0) ?_)
  · blk_ext [index0, index2, ix2, Fin.val_castLE]
  · blk_ext [index1, index2, ix2]

/-- The kernel call and the reference compute the same weight gradient over the reals. -/
theorem algebraic_dw : Cert.algebraic_KernelDwIdeal_ReferenceDwIdeal (hKernelDwIdeal := Cert.KernelDwIdeal.Gen.facts) (hReferenceDwIdeal := Cert.ReferenceDwIdeal.Gen.facts) := by
  intro m g m' g' _ harg
  refine ⟨fun c => (dats m 0 c).arrAt 2 cfg0.N, Value.run_blocks m g, ?_⟩
  refine (θ_run Cert.ReferenceDwIdeal.defs _ _).mono (fun r h c => ?_) (Cert.ReferenceDwIdeal.Value.run (F := Ideal) m' g')
  obtain ⟨h8, h0, h1⟩ := h c
  obtain ⟨e0, e1⟩ := harg c
  refine ⟨h8.trans ?_, h0, h1⟩
  refine Eq.trans ?_ (arr2 m c).symm
  rw [e0, e1, V_main_arg0, V_main_arg1]
  funext i
  refine Eq.trans ?_ (host_apply _ _ (Fin.castLE (by decide) (i 0)) (i 1))
  refine congrArg (Host.dotGeneral (F := Ideal) Cert.ReferenceDwIdeal.dot_S8192x2816_S8192x1024_S2816x1024_0_0_1_1_n_n none _ _) (funext fun a => Fin.ext ?_)
  fin_cases a <;> simp [Shape.Transposes.src, ix2] <;> rfl

end Cert.KernelDwIdeal.Own
end
-- ==== Proof.Dwd.lean ====
module
public import proofs.«01_k».proof.Proof.Gen.KernelDwdIdeal.Value
public import proofs.«01_k».proof.Proof.Gen.ReferenceDwdIdeal.Run
public import proofs.«01_k».proof.Defs
public import Idealize.ShloMosaic.Lib.Pipeline.ValueKit.Geometry
public import Idealize.ShloMosaic.Lib.Pipeline.ValueKit.Acc
public import Idealize.ShloMosaic.Lib.MatmulPlain
public import Idealize.ShloMosaic.Lib.IdealHost
@[expose] public section
set_option maxRecDepth 16384
noncomputable section
namespace Cert.KernelDwdIdeal.Own
open Cert.KernelDwdIdeal Cert.KernelDwdIdeal.Gen Idealize.ShloMosaic Idealize.ShloMosaic.TcCoe Idealize.SL.Sem
open Idealize.ShloMosaic.Tactic Idealize.ShloMosaic.ValueIdx
open scoped BigOperators

/-- Column `y 0` of the one matrix times column `y 1` of the other. -/
def colProd {K R C : ℕ} (x : (⟨2, ![K, R]⟩ : Shape).Idx → EReal) (w : (⟨2, ![K, C]⟩ : Shape).Idx → EReal)
    (y : (⟨2, ![R, C]⟩ : Shape).Idx) : EReal := ∑ k : Fin K, x (ix2 k (y 0)) * w (ix2 k (y 1))

/-- The kernel's product over one block of 2048 rows. -/
theorem pay1_apply (X : FVec Ideal S2048x1408 .bf16) (W : FVec Ideal S2048x1024 .bf16) (z : S1408x1024.Idx) :
    (k0_pay1 X W : FVec Ideal S1408x1024 .f32) z = colProd (K := 2048) (R := 1408) (C := 1024) X W z := by
  obtain ⟨r, c, rfl⟩ : ∃ r c, z = ix2 r c := ⟨z 0, z 1, eq_ix2 z⟩
  simp only [k0_pay1, shapeCast_self]
  show FloatOps.matmul (F := Ideal) _ none X W _ _ = _
  rw [Ideal.matmul_apply, ← Equiv.sum_comp (contrEquiv1 dot_S2048x1408_S2048x1024_S1408x1024_0_0_1_1_n_n 2048 rfl rfl).symm]
  refine (congrArg₂ (· + ·) (show _ = (0 : EReal) from Ideal.ofBits_zero_f32) rfl).trans ((zero_add _).trans (Finset.sum_congr rfl fun k _ => ?_))
  have hk := contrEquiv1_symm_val dot_S2048x1408_S2048x1024_S1408x1024_0_0_1_1_n_n 2048 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

/-- The host's product over all 8192 rows. -/
theorem host_apply (X : FVec Ideal S8192x1024 .f32) (W : FVec Ideal S8192x2816 .f32) (r : Fin 2816) (c : Fin 1024) :
    Host.dotGeneral Cert.ReferenceDwdIdeal.dot_S8192x1024_S8192x2816_S1024x2816_0_0_1_1_n_n none X W (ix2 c r) = colProd (K := 8192) (R := 2816) (C := 1024) W X (ix2 r c) := by
  show FloatOps.dotGeneral (F := Ideal) _ none _ X W _ = _
  rw [Ideal.dotGeneral_apply, ← Equiv.sum_comp (contrEquiv1 Cert.ReferenceDwdIdeal.dot_S8192x1024_S8192x2816_S1024x2816_0_0_1_1_n_n 8192 rfl rfl).symm]
  refine Finset.sum_congr rfl fun k _ => ?_
  have hk := contrEquiv1_symm_val Cert.ReferenceDwdIdeal.dot_S8192x1024_S8192x2816_S1024x2816_0_0_1_1_n_n 8192 rfl rfl k
  refine (mul_comm _ _).trans (congrArg₂ (· * ·) (congrArg W (funext fun a => Fin.ext ?_)) (congrArg X (funext fun a => Fin.ext ?_)))
  · match a with
    | ⟨0, _⟩ => exact hk
    | ⟨1, _⟩ => rfl
  · match a with
    | ⟨0, _⟩ => exact hk
    | ⟨1, _⟩ => rfl

/-- The activation the host prepares. -/
def act (h : FVec Ideal S8192x1024 .bf16) (wg wu : FVec Ideal S1024x2816 .bf16) : FVec Ideal S8192x2816 .f32 :=
  let g : FVec Ideal S8192x2816 .f32 := Host.dotGeneral dot_S8192x1024_S1024x2816_S8192x2816_1_0_0_1_n_n none (extf .f32 h bitsLt_bf16_f32) (extf .f32 wg bitsLt_bf16_f32)
  mulf (mulf g (Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))))
    (Host.dotGeneral dot_S8192x1024_S1024x2816_S8192x2816_1_0_0_1_n_n none (extf .f32 h bitsLt_bf16_f32) (extf .f32 wu bitsLt_bf16_f32))

variable (m : (ℓ : Loc nD τ sig) → Buf (Elt Ideal) ℓ)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- One point's addend. -/
def term (c : Dev nD) (t : Fin cfg0.N) (y : S1408x1024.Idx) : EReal :=
  colProd (K := 2048) (R := 1408) (C := 1024) (iblk m c 0 t) (iblk m c 1 t) y

theorem pay2_apply (X : FVec Ideal S2048x1408 .bf16) (W : FVec Ideal S2048x1024 .bf16) (z : S1408x1024.Idx) :
    (k0_pay2 X W : FVec Ideal S1408x1024 .f32) z = colProd (K := 2048) (R := 1408) (C := 1024) X W z := by
  simp only [k0_pay2, shapeCast_self, pay1_apply]
theorem pay3_apply (X : FVec Ideal S2048x1408 .bf16) (W : FVec Ideal S2048x1024 .bf16) (v : FVec Ideal S1408x1024 .f32) (z : S1408x1024.Idx) :
    k0_pay3 X W v z = (v z + colProd (K := 2048) (R := 1408) (C := 1024) X W z : EReal) := by
  simp only [k0_pay3, shapeCast_self]
  exact congrArg (v z + ·) (pay1_apply X W z)

/-- The accumulator at a row block's last point. -/
theorem acc_last (c : Dev nD) (t : Fin cfg0.N) (ht : t.val % 4 = 3) (y : S1408x1024.Idx) :
    (outsAt0 m c t.val t.isLt).2 y = (0 : EReal) + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h y => ?_) (fun t h y => ?_) t ht y
  · have h1 : ¬1 ≤ t.val % 4 := by omega
    have h2 : ¬t.val % 4 = 3 := by omega
    rw [outsAt0_A m c t h h1 h2]
    frame_out
    rw [pay2_apply, zero_add]; rfl
  · have h1 : 1 ≤ t.val % 4 := by omega
    by_cases h2 : t.val % 4 = 3
    · rw [outsAt0_C m c t h h1 h2]
      frame_out
      exact (pay3_apply _ _ _ y).trans (congrArg (· + _) (congrFun ((Memref.isWhole_whole cc0_scratch0).read_unread _) y))
    · rw [outsAt0_B m c t h h1 h2]
      frame_out
      exact (pay3_apply _ _ _ y).trans (congrArg (· + _) (congrFun ((Memref.isWhole_whole cc0_scratch0).read_unread _) y))

/-- The block written back is the accumulator. -/
theorem out_last (c : Dev nD) (t : Fin cfg0.N) (ht : t.val % 4 = 3) (y : S1408x1024.Idx) :
    (outsAt0 m c t.val t.isLt).1 y = (outsAt0 m c t.val t.isLt).2 y := by
  have h : ¬t.val % 4 = 0 := by omega
  have h1 : 1 ≤ t.val % 4 := by omega
  rw [outsAt0_C m c t h h1 ht]
  frame_out
  rfl

/-- The result array after the run. -/
theorem arr2 (c : Dev nD) : (dats m 0 c).arrAt 2 cfg0.N
    = (fun i : S2752x1024.Idx => colProd (K := 8192) (R := 2816) (C := 1024) (V m c main_v8) (V m c main_arg3) (ix2 (Fin.castLE (by decide) (i 0)) (i 1))) := by
  refine (dats m 0 c).arrAt_eq_of_covers 2 _ (by decide +kernel) fun t hf y => ?_
  have ht := (flush0_2 t).mp hf
  blk_simp
  rw [after0_2, out_last m c t ht, acc_last m c t ht, zero_add]
  unfold term colProd
  refine Fin.sum_mul_add_congr (S := 4) (n := 2048) fun s k hl => ?_
  blk_simp [iblk]
  have h4 : t.val / 4 < 2 := by have := t.isLt; have : cfg0.grid.N = 8 := N_0; omega
  refine congrArg₂ (· * ·) (congrArg (V m c main_v8) ?_) (congrArg (V m c main_arg3) ?_)
  · blk_ext [index0, index2, ix2, Fin.val_castLE]
  · blk_ext [index1, index2, ix2]

theorem V_v8 (c : Dev nD) : V m c main_v8 = truncf .bf16 (act (m ((c : Thread nD τ).loc main_arg0)) (m ((c : Thread nD τ).loc main_arg1)) (m ((c : Thread nD τ).loc main_arg2))) bitsLt_bf16_f32 := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The kernel call and the reference compute the same weight gradient over the reals. -/
theorem algebraic_dwd : Cert.algebraic_KernelDwdIdeal_ReferenceDwdIdeal (hKernelDwdIdeal := Cert.KernelDwdIdeal.Gen.facts) (hReferenceDwdIdeal := Cert.ReferenceDwdIdeal.Gen.facts) := by
  intro m g m' g' _ harg
  refine ⟨fun c => (dats m 0 c).arrAt 2 cfg0.N, Value.run_blocks m g, ?_⟩
  refine (θ_run Cert.ReferenceDwdIdeal.defs _ _).mono (fun r h c => ?_) (Cert.ReferenceDwdIdeal.Value.run (F := Ideal) m' g')
  obtain ⟨h8, h0⟩ := h c
  obtain ⟨e0, e1, e2, e3⟩ := harg c
  refine ⟨h8.trans ?_, h0⟩
  refine Eq.trans ?_ (arr2 m c).symm
  rw [e0, e1, e2, e3, V_main_arg3, V_v8]
  funext i
  refine Eq.trans ?_ (host_apply (extf .f32 (m ((c : Thread nD τ).loc main_arg3)) bitsLt_bf16_f32) _ (Fin.castLE (by decide) (i 0)) (i 1))
  refine congrArg (Host.dotGeneral (F := Ideal) Cert.ReferenceDwdIdeal.dot_S8192x1024_S8192x2816_S1024x2816_0_0_1_1_n_n none _ _) (funext fun a => Fin.ext ?_)
  fin_cases a <;> simp [Shape.Transposes.src, ix2] <;> rfl

end Cert.KernelDwdIdeal.Own
end
-- ==== Proof.Down.lean ====
module
public import proofs.«01_k».proof.Proof.Gen.KernelDownIdeal.Value
public import proofs.«01_k».proof.Proof.Gen.ReferenceDownIdeal.Run
public import proofs.«01_k».proof.Proof.Gen.Pre_finite_down
public import proofs.«01_k».proof.Defs
public import Idealize.ShloMosaic.Lib.MatmulPlain
public import Idealize.ShloMosaic.Lib.Pipeline.ValueKit.Geometry
public import Idealize.ShloMosaic.Lib.ReduceAll
public import Idealize.ShloMosaic.Lib.StackMember
public import Idealize.ShloMosaic.Lib.IdealHost
@[expose] public section
set_option maxRecDepth 16384
noncomputable section
namespace Cert.KernelDownIdeal.Own
open Cert.KernelDownIdeal Cert.KernelDownIdeal.Gen Idealize.ShloMosaic Idealize.ShloMosaic.TcCoe Idealize.SL.Sem
open Idealize.ShloMosaic.Tactic Idealize.ShloMosaic.ValueIdx
open scoped BigOperators

/-- Row `y 0` of the upstream gradient times row `y 1` of the weight. -/
def rowProd {R C : ℕ} (x : (⟨2, ![R, 1024]⟩ : Shape).Idx → EReal) (w : (⟨2, ![C, 1024]⟩ : Shape).Idx → EReal)
    (y : (⟨2, ![R, C]⟩ : Shape).Idx) : EReal := ∑ k : Fin 1024, x (ix2 (y 0) k) * w (ix2 (y 1) k)

/-- The logistic function as both programs spell it. -/
def sg (g : EReal) : EReal := Ideal.div 1 (1 + Ideal.exp (-g))

/-- The gradient by the gate, from the gradient `d` of the hidden layer. -/
def dgate (d g u : EReal) : EReal := d * u * (sg g + g * sg g * (1 - sg g))

/-- The gradient by the up projection. -/
def dup (d g : EReal) : EReal := d * (g * sg g)

/-! ## Finite numbers -/

/-- A number, not an infinity. -/
def Finite (x : EReal) : Prop := ∃ r : ℝ, x = (r : EReal)

theorem Finite.mul {x y : EReal} (hx : Finite x) (hy : Finite y) : Finite (x * y) := by
  obtain ⟨r, rfl⟩ := hx; obtain ⟨s, rfl⟩ := hy; exact ⟨r * s, (EReal.coe_mul r s).symm⟩

theorem Finite.sum {ι : Type} (s : Finset ι) (f : ι → EReal) (h : ∀ i, Finite (f i)) : Finite (∑ i ∈ s, f i) := by
  classical
  induction s using Finset.induction_on with
  | empty => exact ⟨0, by simp⟩
  | insert a s ha ih =>
    rw [Finset.sum_insert ha]
    obtain ⟨r, hr⟩ := h a; obtain ⟨q, hq⟩ := ih
    exact ⟨r + q, by rw [hr, hq, EReal.coe_add]⟩

theorem sg_fin {g : EReal} (h : Finite g) : Finite (sg g) := by
  obtain ⟨r, rfl⟩ := h
  have hp : (1 + Real.exp (-r)) ≠ 0 := (by positivity : (0 : ℝ) < 1 + Real.exp (-r)).ne'
  have e : (1 : EReal) + Ideal.exp (-(r : EReal)) = ((1 + Real.exp (-r) : ℝ) : EReal) := by
    rw [← EReal.coe_neg, Ideal.exp_coe, ← EReal.coe_one, ← EReal.coe_add]
  refine ⟨(1 + Real.exp (-r))⁻¹, ?_⟩
  unfold sg Ideal.div
  rw [e, if_neg (by exact_mod_cast hp), one_mul, EReal.coe_inv]

/-- On finite numbers the two spellings of the gate's gradient agree. -/
theorem dgate_eq {d g u : EReal} (hd : Finite d) (hg : Finite g) (hu : Finite u) :
    d * u * sg g + g * (d * u) * (sg g * (1 - sg g)) = dgate d g u := by
  obtain ⟨s, hs⟩ := sg_fin hg
  unfold dgate
  rw [hs]
  obtain ⟨d, rfl⟩ := hd; obtain ⟨g, rfl⟩ := hg; obtain ⟨u, rfl⟩ := hu
  norm_cast
  ring

/-- Where the test that every absolute value is below the infinity holds, every entry is finite. -/
theorem fin_of_all {s : Shape} {axes : List (Fin s.rank)} (x : FVec Ideal s .bf16)
    (hb : Cert.Pre_finite_down.S_.BroadcastsInDim s (![] : Fin 0 → Fin s.rank)) (hr : s.ReducesTo axes Cert.Pre_finite_down.S_) (hu : 0 < Cert.Pre_finite_down.S_.numel) (j : Cert.Pre_finite_down.S_.Idx)
    (e : Host.reduce IntOp.andi (cmpf .olt (Host.absf x) (broadcastInDim s ![] hb (constant Cert.Pre_finite_down.S_ .bf16 0x7F80#16))) (constantI Cert.Pre_finite_down.S_ 1 1#1) hr hu j = 1#1)
    (i : s.Idx) : Finite (x i) := by
  haveI : Subsingleton Cert.Pre_finite_down.S_.Idx := ⟨fun a b => funext fun k => k.elim0⟩
  have h : BitVec.ofBool (decide (max (x i) (-(x i)) < Ideal.ofBits .bf16 0x7F80#16)) = 1#1 := Host.reduce_andi_all _ _ hr hu j e i
  have ht : Ideal.ofBits .bf16 0x7F80#16 = (⊤ : EReal) := by simp [Ideal.ofBits, Ideal.ieee]
  rw [ht] at h
  have h' : max (x i) (-(x i)) < (⊤ : EReal) := by
    by_contra hn
    rw [decide_eq_false hn] at h
    exact absurd h (by decide)
  obtain ⟨h1, h2⟩ := max_lt_iff.mp h'
  have hbot : x i ≠ (⊥ : EReal) := fun hx => by rw [hx] at h2; simp at h2
  exact ⟨(x i : EReal).toReal, (EReal.coe_toReal h1.ne hbot).symm⟩

/-! ## The kernel's arithmetic -/

/-- One column chunk of a product is the product's own entries at those columns. -/
theorem chunk_rowProd (N col : ℕ) (i0 : ∀ a, (![0, 0] : Fin 2 → ℕ) a + (![256, 1024] : Fin 2 → ℕ) a ≤ S256x1024.size a)
    (i1 : ∀ a, (![col, 0] : Fin 2 → ℕ) a + (![N, 1024] : Fin 2 → ℕ) a ≤ S2816x1024.size a)
    (i2 : ∀ a, (![0, col] : Fin 2 → ℕ) a + (![256, N] : Fin 2 → ℕ) a ≤ S256x2816.size a)
    (x0 : Vec Ideal S256x1024 .bf16) (x1 : Vec Ideal S2816x1024 .bf16) (z : (⟨2, ![256, N]⟩ : Shape).Idx) :
    rowProd (R := 256) (C := N) (View.ld x0 (Rect.unit (s := S256x1024) ![0, 0] ![256, 1024] i0)) (View.ld x1 (Rect.unit (s := S2816x1024) ![col, 0] ![N, 1024] i1)) z
      = rowProd (R := 256) (C := 2816) x0 x1 ((Rect.unit (s := S256x2816) ![0, col] ![256, N] i2).emb z) := by
  unfold rowProd
  refine Finset.sum_congr rfl fun k _ => ?_
  refine congrArg₂ (· * ·) (congrArg x0 (funext fun a => Fin.ext ?_)) (congrArg x1 (funext fun a => Fin.ext ?_)) <;> fin_cases a <;> simp [ix2, Rect.emb, Rect.unit]

theorem mm512 (X : FVec Ideal S256x1024 .bf16) (W : FVec Ideal S512x1024 .bf16) (z : S256x512.Idx) :
    (matmul dot_S256x1024_S512x1024_S256x512_1_1_0_0_n_n none X W (constant S256x512 .f32 0x00000000#32) : FVec Ideal S256x512 .f32) z = rowProd (R := 256) (C := 512) X W z := by
  obtain ⟨r, c, rfl⟩ : ∃ r c, z = ix2 r c := ⟨z 0, z 1, eq_ix2 z⟩
  rw [show dot_S256x1024_S512x1024_S256x512_1_1_0_0_n_n = DotDims.transposedRhs 256 1024 512 from rfl]
  refine (Ideal.matmul_transposedRhs_apply none X W _ r c).trans ?_
  show (constant S256x512 .f32 0x00000000#32 (ix2 r c) : Ideal .f32) + _ = _
  simp [rowProd, constant, Ideal.ofBits_def]

theorem mm256 (X : FVec Ideal S256x1024 .bf16) (W : FVec Ideal S256x1024 .bf16) (z : S256x256.Idx) :
    (matmul dot_S256x1024_S256x1024_S256x256_1_1_0_0_n_n none X W (constant S256x256 .f32 0x00000000#32) : FVec Ideal S256x256 .f32) z = rowProd (R := 256) (C := 256) X W z := by
  obtain ⟨r, c, rfl⟩ : ∃ r c, z = ix2 r c := ⟨z 0, z 1, eq_ix2 z⟩
  rw [show dot_S256x1024_S256x1024_S256x256_1_1_0_0_n_n = DotDims.transposedRhs 256 1024 256 from rfl]
  refine (Ideal.matmul_transposedRhs_apply none X W _ r c).trans ?_
  show (constant S256x256 .f32 0x00000000#32 (ix2 r c) : Ideal .f32) + _ = _
  simp [rowProd, constant, Ideal.ofBits_def]

/-- The logistic of a chunk, as the kernel writes it. -/
abbrev sgV {s : Shape} (v : FVec Ideal s .f32) : FVec Ideal s .f32 :=
  divf (broadcast s (Scalar.ofBits .f32 0x3F800000#32 : Ideal .f32)) (addf (broadcast s (Scalar.ofBits .f32 0x3F800000#32 : Ideal .f32)) (exp (subf (broadcast s (Scalar.ofBits .f32 0x00000000#32 : Ideal .f32)) v)))

theorem sgV_apply {s : Shape} (v : FVec Ideal s .f32) (z : s.Idx) : sgV v z = sg (v z) := by
  show Ideal.div (Ideal.ofBits .f32 0x3F800000#32) (Ideal.ofBits .f32 0x3F800000#32 + Ideal.exp (Ideal.ofBits .f32 0x00000000#32 - v z)) = sg (v z)
  rw [Ideal.ofBits_one_f32, show Ideal.ofBits .f32 0x00000000#32 = 0 from Ideal.ofBits_zero_f32, zero_sub]; rfl

theorem dup_chunk {s : Shape} (d v : FVec Ideal s .f32) (z : s.Idx) : mulf d (mulf v (sgV v)) z = dup (d z) (v z) := by
  show d z * (v z * sgV v z) = _
  rw [sgV_apply]; rfl

theorem dgate_chunk {s : Shape} (d v w : FVec Ideal s .f32) (z : s.Idx) :
    mulf (mulf d w) (addf (sgV v) (mulf (mulf v (sgV v)) (subf (broadcast s (Scalar.ofBits .f32 0x3F800000#32 : Ideal .f32)) (sgV v)))) z = dgate (d z) (v z) (w z) := by
  show d z * w z * (sgV v z + v z * sgV v z * (Ideal.ofBits .f32 0x3F800000#32 - sgV v z)) = _
  rw [sgV_apply, Ideal.ofBits_one_f32]; rfl

set_option maxHeartbeats 1000000 in
/-- What one grid point leaves in output 4. -/
theorem out4  (c : Dev nD) (i : grid0.Coords) (arg2 : Memref sig .tc .vmem S256x1024 .bf16) (harg2 : arg2.IsWhole) (arg3 : Memref sig .tc .vmem S2816x1024 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S256x2816 .bf16) (harg7 : arg7.IsWhole)
    (x0 : Vec Ideal S256x1024 .bf16) (x1 : Vec Ideal S2816x1024 .bf16) (x2 : Vec Ideal S256x2816 .bf16) (x3 : Vec Ideal S256x2816 .bf16)  : out0_A_4 c i arg2 harg2 arg3 harg3 arg4 harg4 arg5 harg5 arg6 harg6 arg7 harg7 x0 x1 x2 x3 = fun y => dgate (rowProd (R := 256) (C := 2816) x0 x1 y) (x2 y) (x3 y) := by
  funext y
  unfold out0_A_4
  rw [View.read_writes_eq_canon _ _ _ (cover0_A_4 c i arg2 harg2 arg3 harg3 arg4 harg4 arg5 harg5 arg6 harg6 arg7 harg7 x0 x1 x2 x3)]
  refine View.canon_apply_of_pieces (fun y => dgate (rowProd (R := 256) (C := 2816) x0 x1 y) (x2 y) (x3 y)) _ ?_ y (cover0_A_4 c i arg2 harg2 arg3 harg3 arg4 harg4 arg5 harg5 arg6 harg6 arg7 harg7 x0 x1 x2 x3 y)
  unfold kernelRun0_A
  dsimp only
  sl_unfold_words
  simp only [View.readAt_eq_ld, harg2.read_unread, harg3.read_unread, harg4.read_unread, harg5.read_unread, List.forall_mem_cons, List.not_mem_nil, false_imp_iff, implies_true, and_true]
  simp only [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41, shapeCast_self]
  refine ⟨fun z => ?_, fun z => ?_, fun z => ?_, fun z => ?_, fun z => ?_, fun z => ?_⟩
  · exact (dgate_chunk _ _ _ z).trans (congrArg (fun d => dgate d _ _) ((mm256 _ _ z).trans (chunk_rowProd 256 2560 _ _ _ x0 x1 z)))
  · exact (dgate_chunk _ _ _ z).trans (congrArg (fun d => dgate d _ _) ((mm512 _ _ z).trans (chunk_rowProd 512 2048 _ _ _ x0 x1 z)))
  · exact (dgate_chunk _ _ _ z).trans (congrArg (fun d => dgate d _ _) ((mm512 _ _ z).trans (chunk_rowProd 512 1536 _ _ _ x0 x1 z)))
  · exact (dgate_chunk _ _ _ z).trans (congrArg (fun d => dgate d _ _) ((mm512 _ _ z).trans (chunk_rowProd 512 1024 _ _ _ x0 x1 z)))
  · exact (dgate_chunk _ _ _ z).trans (congrArg (fun d => dgate d _ _) ((mm512 _ _ z).trans (chunk_rowProd 512 512 _ _ _ x0 x1 z)))
  · exact (dgate_chunk _ _ _ z).trans (congrArg (fun d => dgate d _ _) ((mm512 _ _ z).trans (chunk_rowProd 512 0 _ _ _ x0 x1 z)))

set_option maxHeartbeats 1000000 in
/-- What one grid point leaves in output 5. -/
theorem out5  (c : Dev nD) (i : grid0.Coords) (arg2 : Memref sig .tc .vmem S256x1024 .bf16) (harg2 : arg2.IsWhole) (arg3 : Memref sig .tc .vmem S2816x1024 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S256x2816 .bf16) (harg7 : arg7.IsWhole)
    (x0 : Vec Ideal S256x1024 .bf16) (x1 : Vec Ideal S2816x1024 .bf16) (x2 : Vec Ideal S256x2816 .bf16) (x3 : Vec Ideal S256x2816 .bf16)  : out0_A_5 c i arg2 harg2 arg3 harg3 arg4 harg4 arg5 harg5 arg6 harg6 arg7 harg7 x0 x1 x2 x3 = fun y => dup (rowProd (R := 256) (C := 2816) x0 x1 y) (x2 y) := by
  funext y
  unfold out0_A_5
  rw [View.read_writes_eq_canon _ _ _ (cover0_A_5 c i arg2 harg2 arg3 harg3 arg4 harg4 arg5 harg5 arg6 harg6 arg7 harg7 x0 x1 x2 x3)]
  refine View.canon_apply_of_pieces (fun y => dup (rowProd (R := 256) (C := 2816) x0 x1 y) (x2 y)) _ ?_ y (cover0_A_5 c i arg2 harg2 arg3 harg3 arg4 harg4 arg5 harg5 arg6 harg6 arg7 harg7 x0 x1 x2 x3 y)
  unfold kernelRun0_A
  dsimp only
  sl_unfold_words
  simp only [View.readAt_eq_ld, harg2.read_unread, harg3.read_unread, harg4.read_unread, harg5.read_unread, List.forall_mem_cons, List.not_mem_nil, false_imp_iff, implies_true, and_true]
  simp only [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41, shapeCast_self]
  refine ⟨fun z => ?_, fun z => ?_, fun z => ?_, fun z => ?_, fun z => ?_, fun z => ?_⟩
  · exact (dup_chunk _ _ z).trans (congrArg (fun d => dup d _) ((mm256 _ _ z).trans (chunk_rowProd 256 2560 _ _ _ x0 x1 z)))
  · exact (dup_chunk _ _ z).trans (congrArg (fun d => dup d _) ((mm512 _ _ z).trans (chunk_rowProd 512 2048 _ _ _ x0 x1 z)))
  · exact (dup_chunk _ _ z).trans (congrArg (fun d => dup d _) ((mm512 _ _ z).trans (chunk_rowProd 512 1536 _ _ _ x0 x1 z)))
  · exact (dup_chunk _ _ z).trans (congrArg (fun d => dup d _) ((mm512 _ _ z).trans (chunk_rowProd 512 1024 _ _ _ x0 x1 z)))
  · exact (dup_chunk _ _ z).trans (congrArg (fun d => dup d _) ((mm512 _ _ z).trans (chunk_rowProd 512 512 _ _ _ x0 x1 z)))
  · exact (dup_chunk _ _ z).trans (congrArg (fun d => dup d _) ((mm512 _ _ z).trans (chunk_rowProd 512 0 _ _ _ x0 x1 z)))

variable (m : (ℓ : Loc nD τ sig) → Buf (Elt Ideal) ℓ)

theorem index0 : ∀ t : Fin cfg0.N, win0_0.index t = ![(grid0.coords t 1).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![(grid0.coords t 1).val, 0] := (by decide +kernel : ∀ t : Fin grid0.N, _)
theorem index3 : ∀ t : Fin cfg0.N, win0_3.index t = ![(grid0.coords t 1).val, 0] := (by decide +kernel : ∀ t : Fin grid0.N, _)
theorem index4 : ∀ t : Fin cfg0.N, win0_4.index t = ![(grid0.coords t 1).val, 0] := (by decide +kernel : ∀ t : Fin grid0.N, _)
theorem index5 : ∀ t : Fin cfg0.N, win0_5.index t = ![(grid0.coords t 1).val, 0] := (by decide +kernel : ∀ t : Fin grid0.N, _)

/-- A row block of the upstream gradient against the whole weight, read at output 4's block. -/
theorem blk4 (c : Dev nD) (t : Fin cfg0.N) (y : S256x2816.Idx) :
    rowProd (R := 256) (C := 2816) (iblk m c 0 t) (iblk m c 1 t) y = rowProd (R := 8192) (C := 2816) (V m c main_arg4) (V m c main_arg3) (((cfg0.win 4).blk t).view.emb y) := by
  unfold rowProd
  refine Finset.sum_congr rfl fun q _ => ?_
  refine congrArg₂ (· * ·) ?_ ?_
  · blk_simp [iblk]
    refine congrArg (V m c main_arg4) ?_
    blk_ext [index0, index4, ix2]
  · blk_simp [iblk]
    refine congrArg (V m c main_arg3) ?_
    blk_ext [index1, index4, ix2]

theorem side4_2 (c : Dev nD) (t : Fin cfg0.N) (y : S256x2816.Idx) :
    (iblk m c 2 t : Vec Ideal S256x2816 .bf16) y = V m c main_v3 (((cfg0.win 4).blk t).view.emb y) := by
  blk_simp [iblk]
  refine congrArg (V m c main_v3) ?_
  blk_ext [index2, index4, ix2]

theorem side4_3 (c : Dev nD) (t : Fin cfg0.N) (y : S256x2816.Idx) :
    (iblk m c 3 t : Vec Ideal S256x2816 .bf16) y = V m c main_v7 (((cfg0.win 4).blk t).view.emb y) := by
  blk_simp [iblk]
  refine congrArg (V m c main_v7) ?_
  blk_ext [index3, index4, ix2]

/-- A row block of the upstream gradient against the whole weight, read at output 5's block. -/
theorem blk5 (c : Dev nD) (t : Fin cfg0.N) (y : S256x2816.Idx) :
    rowProd (R := 256) (C := 2816) (iblk m c 0 t) (iblk m c 1 t) y = rowProd (R := 8192) (C := 2816) (V m c main_arg4) (V m c main_arg3) (((cfg0.win 5).blk t).view.emb y) := by
  unfold rowProd
  refine Finset.sum_congr rfl fun q _ => ?_
  refine congrArg₂ (· * ·) ?_ ?_
  · blk_simp [iblk]
    refine congrArg (V m c main_arg4) ?_
    blk_ext [index0, index5, ix2]
  · blk_simp [iblk]
    refine congrArg (V m c main_arg3) ?_
    blk_ext [index1, index5, ix2]

theorem side5_2 (c : Dev nD) (t : Fin cfg0.N) (y : S256x2816.Idx) :
    (iblk m c 2 t : Vec Ideal S256x2816 .bf16) y = V m c main_v3 (((cfg0.win 5).blk t).view.emb y) := by
  blk_simp [iblk]
  refine congrArg (V m c main_v3) ?_
  blk_ext [index2, index5, ix2]

/-- Output 4's array after the run. -/
theorem arr4 (c : Dev nD) : (dats m 0 c).arrAt 4 cfg0.N = (fun y => dgate (rowProd (R := 8192) (C := 2816) (V m c main_arg4) (V m c main_arg3) y) (V m c main_v3 y) (V m c main_v7 y)) := by
  refine (dats m 0 c).arrAt_eq_of_covers 4 _ (by decide +kernel) fun t hf y => ?_
  blk_simp
  rw [after0_4]
  simp only [outsAt0]
  rw [out4]
  exact congr (congrArg₂ dgate (blk4 m c t y) (side4_2 m c t y)) (side4_3 m c t y)

/-- Output 5's array after the run. -/
theorem arr5 (c : Dev nD) : (dats m 0 c).arrAt 5 cfg0.N = (fun y => dup (rowProd (R := 8192) (C := 2816) (V m c main_arg4) (V m c main_arg3) y) (V m c main_v3 y)) := by
  refine (dats m 0 c).arrAt_eq_of_covers 5 _ (by decide +kernel) fun t hf y => ?_
  blk_simp
  rw [after0_5]
  simp only [outsAt0]
  rw [out5]
  exact congrArg₂ dup (blk5 m c t y) (side5_2 m c t y)

/-- A pre-activation as the host computes it. -/
def pre (h : FVec Ideal Cert.ReferenceDownIdeal.S8192x1024 .bf16) (w : FVec Ideal Cert.ReferenceDownIdeal.S1024x2816 .bf16) : FVec Ideal Cert.ReferenceDownIdeal.S8192x2816 .f32 :=
  Host.dotGeneral Cert.ReferenceDownIdeal.dot_S8192x1024_S1024x2816_S8192x2816_1_0_0_1_n_n none (extf .f32 h Cert.ReferenceDownIdeal.Facts₀.bitsLt_bf16_f32) (extf .f32 w Cert.ReferenceDownIdeal.Facts₀.bitsLt_bf16_f32)

/-- The gradient of the hidden layer as the host computes it. -/
def hid (dy : FVec Ideal Cert.ReferenceDownIdeal.S8192x1024 .bf16) (w : FVec Ideal Cert.ReferenceDownIdeal.S2816x1024 .bf16) : FVec Ideal Cert.ReferenceDownIdeal.S8192x2816 .f32 :=
  Host.dotGeneral Cert.ReferenceDownIdeal.dot_S8192x1024_S2816x1024_S8192x2816_1_1_0_0_n_n none (extf .f32 dy Cert.ReferenceDownIdeal.Facts₀.bitsLt_bf16_f32) (extf .f32 w Cert.ReferenceDownIdeal.Facts₀.bitsLt_bf16_f32)

theorem pre_fin {h : FVec Ideal Cert.ReferenceDownIdeal.S8192x1024 .bf16} {w : FVec Ideal Cert.ReferenceDownIdeal.S1024x2816 .bf16} (hh : ∀ i, Finite (h i)) (hw : ∀ i, Finite (w i)) (y : Cert.ReferenceDownIdeal.S8192x2816.Idx) :
    Finite (pre h w y) := by
  obtain ⟨r, q, rfl⟩ : ∃ r q, y = ix2 r q := ⟨y 0, y 1, eq_ix2 y⟩
  unfold pre
  rw [show Cert.ReferenceDownIdeal.dot_S8192x1024_S1024x2816_S8192x2816_1_0_0_1_n_n = DotDims.plain 8192 1024 2816 from rfl]
  rw [StackMember.dotGeneral_plain_apply none _ _ r q]
  exact Finite.sum _ _ fun k => (hh _).mul (hw _)

theorem hid_eq (dy : FVec Ideal Cert.ReferenceDownIdeal.S8192x1024 .bf16) (w : FVec Ideal Cert.ReferenceDownIdeal.S2816x1024 .bf16) (y : Cert.ReferenceDownIdeal.S8192x2816.Idx) :
    hid dy w y = rowProd (R := 8192) (C := 2816) dy w y := by
  obtain ⟨r, q, rfl⟩ : ∃ r q, y = ix2 r q := ⟨y 0, y 1, eq_ix2 y⟩
  show FloatOps.dotGeneral (F := Ideal) _ none _ _ _ _ = _
  rw [Ideal.dotGeneral_apply, ← Equiv.sum_comp (contrEquiv1 Cert.ReferenceDownIdeal.dot_S8192x1024_S2816x1024_S8192x2816_1_1_0_0_n_n 1024 rfl rfl).symm]
  refine Finset.sum_congr rfl fun k _ => ?_
  have hk := contrEquiv1_symm_val Cert.ReferenceDownIdeal.dot_S8192x1024_S2816x1024_S8192x2816_1_1_0_0_n_n 1024 rfl rfl k
  refine congrArg₂ (· * ·) (congrArg dy (funext fun a => Fin.ext ?_)) (congrArg w (funext fun a => Fin.ext ?_))
  · match a with
    | ⟨0, _⟩ => rfl
    | ⟨1, _⟩ => exact hk
  · match a with
    | ⟨0, _⟩ => rfl
    | ⟨1, _⟩ => exact hk

theorem hid_fin {dy : FVec Ideal Cert.ReferenceDownIdeal.S8192x1024 .bf16} {w : FVec Ideal Cert.ReferenceDownIdeal.S2816x1024 .bf16} (hd : ∀ i, Finite (dy i)) (hw : ∀ i, Finite (w i)) (y : Cert.ReferenceDownIdeal.S8192x2816.Idx) :
    Finite (hid dy w y) := by
  rw [hid_eq]
  exact Finite.sum _ _ fun k => (hd _).mul (hw _)

/-- The saved gate and up values the kernel's windows read. -/
theorem V_v3 (c : Dev nD) : V m c main_v3 = (pre (m ((c : Thread nD τ).loc main_arg0)) (m ((c : Thread nD τ).loc main_arg1)) : Cert.ReferenceDownIdeal.S8192x2816.Idx → EReal) := by
  simp only [V, hostOps0]
  after_results
  rfl
theorem V_v7 (c : Dev nD) : V m c main_v7 = (pre (m ((c : Thread nD τ).loc main_arg0)) (m ((c : Thread nD τ).loc main_arg2)) : Cert.ReferenceDownIdeal.S8192x2816.Idx → EReal) := by
  simp only [V, hostOps0]
  after_results
  rfl

/-- The host's logistic. -/
abbrev sgH (v : FVec Ideal Cert.ReferenceDownIdeal.S8192x2816 .f32) : FVec Ideal Cert.ReferenceDownIdeal.S8192x2816 .f32 :=
  Host.divf (broadcastInDim Cert.ReferenceDownIdeal.S8192x2816 ![] Cert.ReferenceDownIdeal.Facts₀.bcast_S_S8192x2816 (constant Cert.ReferenceDownIdeal.S_ .f32 0x3F800000#32))
    (addf (broadcastInDim Cert.ReferenceDownIdeal.S8192x2816 ![] Cert.ReferenceDownIdeal.Facts₀.bcast_S_S8192x2816 (constant Cert.ReferenceDownIdeal.S_ .f32 0x3F800000#32)) (Host.exp (Host.negf v)))

theorem sgH_apply (v : FVec Ideal Cert.ReferenceDownIdeal.S8192x2816 .f32) (y : Cert.ReferenceDownIdeal.S8192x2816.Idx) : sgH v y = sg (v y) := by
  show Ideal.div (Ideal.ofBits .f32 0x3F800000#32) (Ideal.ofBits .f32 0x3F800000#32 + Ideal.exp (-(v y))) = sg (v y)
  rw [Ideal.ofBits_one_f32]; rfl

theorem dup_host (d v : FVec Ideal Cert.ReferenceDownIdeal.S8192x2816 .f32) (y : Cert.ReferenceDownIdeal.S8192x2816.Idx) :
    (truncf .bf16 (mulf (mulf v (sgH v)) d) Cert.ReferenceDownIdeal.Facts₀.bitsLt_bf16_f32 : FVec Ideal Cert.ReferenceDownIdeal.S8192x2816 .bf16) y = dup (d y) (v y) := by
  show v y * sgH v y * d y = _
  rw [sgH_apply, mul_comm]; rfl

theorem dgate_host (d v u : FVec Ideal Cert.ReferenceDownIdeal.S8192x2816 .f32) (y : Cert.ReferenceDownIdeal.S8192x2816.Idx) (hd : Finite (d y)) (hv : Finite (v y)) (hu : Finite (u y)) :
    (truncf .bf16 (addf (mulf (mulf d u) (sgH v)) (mulf (mulf v (mulf d u)) (mulf (sgH v) (subf (broadcastInDim Cert.ReferenceDownIdeal.S8192x2816 ![] Cert.ReferenceDownIdeal.Facts₀.bcast_S_S8192x2816 (constant Cert.ReferenceDownIdeal.S_ .f32 0x3F800000#32)) (sgH v))))) Cert.ReferenceDownIdeal.Facts₀.bitsLt_bf16_f32 : FVec Ideal Cert.ReferenceDownIdeal.S8192x2816 .bf16) y = dgate (d y) (v y) (u y) := by
  show d y * u y * sgH v y + v y * (d y * u y) * (sgH v y * (Ideal.ofBits .f32 0x3F800000#32 - sgH v y)) = _
  rw [sgH_apply, Ideal.ofBits_one_f32]
  exact dgate_eq hd hv hu

/-- The precondition read back: every entry of every argument is finite. -/
theorem fin_args (a0 : FVec Ideal Cert.Pre_finite_down.S8192x1024 .bf16) (a1 a2 : FVec Ideal Cert.Pre_finite_down.S1024x2816 .bf16) (a3 : FVec Ideal Cert.Pre_finite_down.S2816x1024 .bf16) (a4 : FVec Ideal Cert.Pre_finite_down.S8192x1024 .bf16)
    (h : Cert.Pre_finite_down.fn (F := Ideal) a0 a1 a2 a3 a4 = fun _ => 1#1) :
    (∀ i, Finite (a0 i)) ∧ (∀ i, Finite (a1 i)) ∧ (∀ i, Finite (a2 i)) ∧ (∀ i, Finite (a3 i)) ∧ ∀ i, Finite (a4 i) := by
  have h0 := congrFun h (fun k => k.elim0)
  unfold Cert.Pre_finite_down.fn at h0
  dsimp only at h0
  unfold Cert.Pre_finite_down.fn_part1 at h0
  dsimp only at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fin_of_all _ _ _ _ _ e0, fin_of_all _ _ _ _ _ e1, fin_of_all _ _ _ _ _ e2, fin_of_all _ _ _ _ _ e3, fin_of_all _ _ _ _ _ e4⟩

/-- The kernel call and the reference compute the same gradients of gate and up over the reals, at finite arguments. -/
theorem algebraic_down : Cert.algebraic_KernelDownIdeal_ReferenceDownIdeal_pre_finite_down (hKernelDownIdeal := Cert.KernelDownIdeal.Gen.facts) (hReferenceDownIdeal := Cert.ReferenceDownIdeal.Gen.facts) (hPre_finite_down := Cert.Pre_finite_down.Gen.facts) := by
  intro m g m' g' hpre harg
  refine ⟨fun c => (dats m 0 c).arrAt 4 cfg0.N, fun c => (dats m 0 c).arrAt 5 cfg0.N, Value.run_blocks m g, ?_⟩
  refine (θ_run Cert.ReferenceDownIdeal.defs _ _).mono (fun r h c => ?_) (Cert.ReferenceDownIdeal.Value.run (F := Ideal) m' g')
  obtain ⟨h15, h16, h0⟩ := h c
  obtain ⟨e0, e1, e2, e3, e4⟩ := harg c
  obtain ⟨f0, f1, f2, f3, f4⟩ := fin_args _ _ _ _ _ (hpre c)
  refine ⟨h15.trans ?_, h16.trans ?_, h0⟩
  · refine Eq.trans ?_ (arr4 m c).symm
    rw [e0, e1, e2, e3, e4, V_main_arg3, V_main_arg4, V_v3, V_v7]
    funext y
    refine (dgate_host (hid (m ((c : Thread nD τ).loc main_arg4)) (m ((c : Thread nD τ).loc main_arg3))) (pre (m ((c : Thread nD τ).loc main_arg0)) (m ((c : Thread nD τ).loc main_arg1))) (pre (m ((c : Thread nD τ).loc main_arg0)) (m ((c : Thread nD τ).loc main_arg2))) y (hid_fin f4 f3 y) (pre_fin f0 f1 y) (pre_fin f0 f2 y)).trans ?_
    rw [hid_eq]
  · refine Eq.trans ?_ (arr5 m c).symm
    rw [e0, e1, e3, e4, V_main_arg3, V_main_arg4, V_v3]
    funext y
    refine (dup_host (hid (m ((c : Thread nD τ).loc main_arg4)) (m ((c : Thread nD τ).loc main_arg3))) (pre (m ((c : Thread nD τ).loc main_arg0)) (m ((c : Thread nD τ).loc main_arg1))) y).trans ?_
    rw [hid_eq]

end Cert.KernelDownIdeal.Own
end
-- ==== Proof.Dwo.lean ====
module
public import proofs.«01_k».proof.Proof.Gen.KernelDwoIdeal.Value
public import proofs.«01_k».proof.Proof.Gen.ReferenceDwoIdeal.Run
public import proofs.«01_k».proof.Defs
public import Idealize.ShloMosaic.Lib.Pipeline.ValueKit.Geometry
public import Idealize.ShloMosaic.Lib.Pipeline.ValueKit.Acc
public import Idealize.ShloMosaic.Lib.MatmulPlain
public import Idealize.ShloMosaic.Lib.IdealHost
public import Idealize.ShloMosaic.Lib.KernelVsHost
@[expose] public section
set_option maxRecDepth 16384
noncomputable section
namespace Cert.KernelDwoIdeal.Own
open Cert.KernelDwoIdeal Cert.KernelDwoIdeal.Gen Idealize.ShloMosaic Idealize.ShloMosaic.TcCoe Idealize.SL.Sem
open Idealize.ShloMosaic.Tactic Idealize.ShloMosaic.ValueIdx
open scoped BigOperators

/-- Column `y 0` of the one matrix times column `y 1` of the other. -/
def colProd {K R C : ℕ} (x : (⟨2, ![K, R]⟩ : Shape).Idx → EReal) (w : (⟨2, ![K, C]⟩ : Shape).Idx → EReal)
    (y : (⟨2, ![R, C]⟩ : Shape).Idx) : EReal := ∑ k : Fin K, x (ix2 k (y 0)) * w (ix2 k (y 1))

/-- The kernel's product over one block of 1024 rows, 512 columns of the first matrix. -/
theorem mm512_apply (X : FVec Ideal S1024x512 .bf16) (W : FVec Ideal S1024x1024 .bf16) (z : S512x1024.Idx) :
    (matmul dot_S1024x512_S1024x1024_S512x1024_0_0_1_1_n_n none X W (constant S512x1024 .f32 0x00000000#32) : FVec Ideal S512x1024 .f32) z = colProd (K := 1024) (R := 512) (C := 1024) X W z := by
  obtain ⟨r, c, rfl⟩ : ∃ r c, z = ix2 r c := ⟨z 0, z 1, eq_ix2 z⟩
  show FloatOps.matmul (F := Ideal) _ none X W _ _ = _
  rw [Ideal.matmul_apply, ← Equiv.sum_comp (contrEquiv1 dot_S1024x512_S1024x1024_S512x1024_0_0_1_1_n_n 1024 rfl rfl).symm]
  refine (congrArg₂ (· + ·) (show _ = (0 : EReal) from Ideal.ofBits_zero_f32) rfl).trans ((zero_add _).trans (Finset.sum_congr rfl fun k _ => ?_))
  have hk := contrEquiv1_symm_val dot_S1024x512_S1024x1024_S512x1024_0_0_1_1_n_n 1024 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

/-- The host's product over all 8192 rows. -/
theorem host_apply (X : FVec Ideal S8192x1024 .f32) (W : FVec Ideal S8192x1024 .f32) (r : Fin 1024) (c : Fin 1024) :
    Host.dotGeneral Cert.ReferenceDwoIdeal.dot_S8192x1024_S8192x1024_S1024x1024_0_0_1_1_n_n none X W (ix2 r c) = colProd (K := 8192) (R := 1024) (C := 1024) X W (ix2 r c) := by
  show FloatOps.dotGeneral (F := Ideal) _ none _ X W _ = _
  rw [Ideal.dotGeneral_apply, ← Equiv.sum_comp (contrEquiv1 Cert.ReferenceDwoIdeal.dot_S8192x1024_S8192x1024_S1024x1024_0_0_1_1_n_n 8192 rfl rfl).symm]
  refine Finset.sum_congr rfl fun k _ => ?_
  have hk := contrEquiv1_symm_val Cert.ReferenceDwoIdeal.dot_S8192x1024_S8192x1024_S1024x1024_0_0_1_1_n_n 8192 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)

/-- The matrices to stand side by side. -/
def pieces (c : Dev nD) : List ((s : Shape) × (s.Idx → EReal)) := [⟨Cert.ReferenceDwoIdeal.S8192x512, (V m c main_arg0 : Cert.ReferenceDwoIdeal.S8192x512.Idx → EReal)⟩, ⟨Cert.ReferenceDwoIdeal.S8192x512, (V m c main_arg1 : Cert.ReferenceDwoIdeal.S8192x512.Idx → EReal)⟩]

/-- The matrices side by side. -/
def side (c : Dev nD) : Cert.ReferenceDwoIdeal.S8192x1024.Idx → EReal :=
  concatenate Cert.ReferenceDwoIdeal.S8192x1024 1 (pieces m c) Cert.ReferenceDwoIdeal.Facts₀.concatenates_S8192x512_S8192x512_S8192x1024_d1

theorem side_0 (c : Dev nD) (k : Fin 8192) (r : Fin 512) :
    side m c (ix2 k ⟨0 + r.val, by omega⟩) = V m c main_arg0 (ix2 k r) := by
  unfold side
  refine concatenate_apply_piece (t := Cert.ReferenceDwoIdeal.S8192x1024) 1 (pieces m c) _ (ix2 (n0 := 8192) (n1 := 1024) k ⟨0 + r.val, by omega⟩) 0 (show 0 < 2 by decide) Cert.ReferenceDwoIdeal.S8192x512 _ rfl rfl 0 rfl (ix2 k r) (fun b hb => ?_) (by rfl)
  match b with
  | ⟨0, _⟩ => rfl
  | ⟨1, _⟩ => exact absurd rfl hb

theorem side_1 (c : Dev nD) (k : Fin 8192) (r : Fin 512) :
    side m c (ix2 k ⟨512 + r.val, by omega⟩) = V m c main_arg1 (ix2 k r) := by
  unfold side
  refine concatenate_apply_piece (t := Cert.ReferenceDwoIdeal.S8192x1024) 1 (pieces m c) _ (ix2 (n0 := 8192) (n1 := 1024) k ⟨512 + r.val, by omega⟩) 1 (show 1 < 2 by decide) Cert.ReferenceDwoIdeal.S8192x512 _ rfl rfl 512 rfl (ix2 k r) (fun b hb => ?_) (by rfl)
  match b with
  | ⟨0, _⟩ => rfl
  | ⟨1, _⟩ => exact absurd rfl hb

/-- One point's addend to accumulator 0. -/
def term0 (c : Dev nD) (t : Fin cfg0.N) (y : S512x1024.Idx) : EReal :=
  colProd (K := 1024) (R := 512) (C := 1024) (iblk m c 0 t) (iblk m c 2 t) y

/-- Accumulator 0 at the last point. -/
theorem acc_last0 (c : Dev nD) (t : Fin cfg0.N) (ht : t.val % 8 = 7) (y : S512x1024.Idx) :
    (outsAt0 m c t.val t.isLt).2.1 y = (0 : EReal) + ∑ s : Fin 8, term0 m c ⟨8 * (t.val / 8) + s.val, Pipeline.run_point_lt_of_flush t ht s⟩ y := by
  refine Pipeline.eq_sum_fin_of_reset_step_apply_of_flush (fun n h => (outsAt0 m c n h).2.1) 8 (fun _ => (0 : EReal)) (term0 m c) (fun t h y => ?_) (fun t h y => ?_) t ht y
  · have hN : t.val < 8 := lt_of_lt_of_eq t.isLt N_0
    rw [outsAt0_A m c t (by omega) (by omega) (by omega) (by omega) (by omega)]
    frame_out
    simp only [k0_pay1, k0_pay2, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega)  h2]
      frame_out
      simp only [k0_pay1, k0_pay3, shapeCast_self]
      exact congrArg₂ (· + ·) (congrFun ((Memref.isWhole_whole cc0_scratch0).read_unread _) y) (mm512_apply _ _ y)
    · rw [outsAt0_B m c t (by omega) (by omega) (by omega) (by omega)  h2]
      frame_out
      simp only [k0_pay1, k0_pay3, shapeCast_self]
      exact congrArg₂ (· + ·) (congrFun ((Memref.isWhole_whole cc0_scratch0).read_unread _) y) (mm512_apply _ _ y)

/-- Accumulator 0 ends as a block of rows of the whole product. -/
theorem acc_side0 (c : Dev nD) (t : Fin cfg0.N) (ht : t.val % 8 = 7) (z : S512x1024.Idx) (hz : (z 0).val < 512) :
    (outsAt0 m c t.val t.isLt).2.1 z = colProd (K := 8192) (R := 1024) (C := 1024) (side m c) (V m c main_arg2) (ix2 ⟨0 + (z 0).val, by omega⟩ (z 1)) := by
  have hN : t.val < 8 := lt_of_lt_of_eq t.isLt N_0
  rw [acc_last0 m c t ht, zero_add]
  unfold term0 colProd
  refine Fin.sum_mul_add_congr (S := 8) (n := 1024) fun s k hl => ?_
  refine congrArg₂ (· * ·) ?_ ?_
  · refine Eq.trans ?_ (side_0 m c ⟨s.val * 1024 + k.val, hl⟩ ⟨(z 0).val, hz⟩).symm
    blk_simp [iblk]
    refine congrArg (V m c main_arg0) ?_
    blk_ext [index0, ix2]
  · blk_simp [iblk]
    refine congrArg (V m c main_arg2) ?_
    blk_ext [index2, ix2]

/-- One point's addend to accumulator 1. -/
def term1 (c : Dev nD) (t : Fin cfg0.N) (y : S512x1024.Idx) : EReal :=
  colProd (K := 1024) (R := 512) (C := 1024) (iblk m c 1 t) (iblk m c 2 t) y

/-- Accumulator 1 at the last point. -/
theorem acc_last1 (c : Dev nD) (t : Fin cfg0.N) (ht : t.val % 8 = 7) (y : S512x1024.Idx) :
    (outsAt0 m c t.val t.isLt).2.2 y = (0 : EReal) + ∑ s : Fin 8, term1 m c ⟨8 * (t.val / 8) + s.val, Pipeline.run_point_lt_of_flush t ht s⟩ y := by
  refine Pipeline.eq_sum_fin_of_reset_step_apply_of_flush (fun n h => (outsAt0 m c n h).2.2) 8 (fun _ => (0 : EReal)) (term1 m c) (fun t h y => ?_) (fun t h y => ?_) t ht y
  · have hN : t.val < 8 := lt_of_lt_of_eq t.isLt N_0
    rw [outsAt0_A m c t (by omega) (by omega) (by omega) (by omega) (by omega)]
    frame_out
    simp only [k0_pay4, k0_pay5, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega)  h2]
      frame_out
      simp only [k0_pay4, k0_pay6, shapeCast_self]
      exact congrArg₂ (· + ·) (congrFun ((Memref.isWhole_whole cc0_scratch1).read_unread _) y) (mm512_apply _ _ y)
    · rw [outsAt0_B m c t (by omega) (by omega) (by omega) (by omega)  h2]
      frame_out
      simp only [k0_pay4, k0_pay6, shapeCast_self]
      exact congrArg₂ (· + ·) (congrFun ((Memref.isWhole_whole cc0_scratch1).read_unread _) y) (mm512_apply _ _ y)

/-- Accumulator 1 ends as a block of rows of the whole product. -/
theorem acc_side1 (c : Dev nD) (t : Fin cfg0.N) (ht : t.val % 8 = 7) (z : S512x1024.Idx) (hz : (z 0).val < 512) :
    (outsAt0 m c t.val t.isLt).2.2 z = colProd (K := 8192) (R := 1024) (C := 1024) (side m c) (V m c main_arg2) (ix2 ⟨512 + (z 0).val, by omega⟩ (z 1)) := by
  have hN : t.val < 8 := lt_of_lt_of_eq t.isLt N_0
  rw [acc_last1 m c t ht, zero_add]
  unfold term1 colProd
  refine Fin.sum_mul_add_congr (S := 8) (n := 1024) fun s k hl => ?_
  refine congrArg₂ (· * ·) ?_ ?_
  · refine Eq.trans ?_ (side_1 m c ⟨s.val * 1024 + k.val, hl⟩ ⟨(z 0).val, hz⟩).symm
    blk_simp [iblk]
    refine congrArg (V m c main_arg1) ?_
    blk_ext [index1, ix2]
  · blk_simp [iblk]
    refine congrArg (V m c main_arg2) ?_
    blk_ext [index2, ix2]

set_option maxHeartbeats 4000000 in
/-- The block written back at the last point. -/
theorem out_last (c : Dev nD) (t : Fin cfg0.N) (ht : t.val % 8 = 7) (y : S1024x1024.Idx) :
    (outsAt0 m c t.val t.isLt).1 y = colProd (K := 8192) (R := 1024) (C := 1024) (side m c) (V m c main_arg2) y := by
  have hN : t.val < 8 := lt_of_lt_of_eq t.isLt N_0
  have a0 := acc_side0 m c t ht
  have a1 := acc_side1 m c t ht
  rw [outsAt0_C m c t (by omega) (by omega) (by omega) (by omega) ht] at a0 a1 ⊢
  dsimp only at a0 a1 ⊢
  unfold out0_C_3
  rw [View.read_writes_eq_canon _ _ _ (fun y => cover0_C_3 ..)]
  refine View.canon_apply_of_pieces (Val := Elt Ideal) (colProd (K := 8192) (R := 1024) (C := 1024) (side m c) (V m c main_arg2)) _ ?_ y (cover0_C_3 ..)
  unfold kernelRun0_C
  dsimp only
  sl_unfold_words
  simp only [List.forall_mem_cons, List.not_mem_nil, false_imp_iff, implies_true, and_true]
  refine ⟨fun z => ?_, fun z => ?_⟩
  · refine Eq.trans ?_ ((a1 z (z 0).isLt).trans ?_)
    · frame_out
      rfl
    · refine congrArg (colProd (K := 8192) (R := 1024) (C := 1024) (side m c) (V m c main_arg2)) (funext fun a => Fin.ext ?_)
      match a with
      | ⟨0, _⟩ => simp [Rect.emb, Rect.unit, ix2]
      | ⟨1, _⟩ => simp [Rect.emb, Rect.unit, ix2]
  · refine Eq.trans ?_ ((a0 z (z 0).isLt).trans ?_)
    · frame_out
      rfl
    · refine congrArg (colProd (K := 8192) (R := 1024) (C := 1024) (side m c) (V m c main_arg2)) (funext fun a => Fin.ext ?_)
      match a with
      | ⟨0, _⟩ => simp [Rect.emb, Rect.unit, ix2]
      | ⟨1, _⟩ => simp [Rect.emb, Rect.unit, ix2]

/-- The result array after the run. -/
theorem arr3 (c : Dev nD) : (dats m 0 c).arrAt 3 cfg0.N
    = (fun i : S1024x1024.Idx => colProd (K := 8192) (R := 1024) (C := 1024) (side m c) (V m c main_arg2) i) := by
  refine (dats m 0 c).arrAt_eq_of_covers 3 _ (by decide +kernel) fun t hf y => ?_
  have ht := (flush0_3 t).mp hf
  blk_simp
  rw [after0_3, out_last m c t ht]
  refine congrArg (colProd (K := 8192) (R := 1024) (C := 1024) (side m c) (V m c main_arg2)) ?_
  blk_ext [index3, ix2]

theorem trans_apply {a b : ℕ} (X : FVec Ideal ⟨2, ![a, b]⟩ .f32) (h : (⟨2, ![a, b]⟩ : Shape).Transposes [1, 0] ⟨2, ![b, a]⟩) (p : Fin b) (q : Fin a) :
    (transpose ⟨2, ![b, a]⟩ [1, 0] X h : FVec Ideal ⟨2, ![b, a]⟩ .f32) (ix2 p q) = X (ix2 q p) :=
  transpose_apply (s := ⟨2, ![a, b]⟩) (t := ⟨2, ![b, a]⟩) [1, 0] X h (ix2 p q) (ix2 q p) (fun b => by fin_cases b <;> rfl)

theorem trunc_apply {s : Shape} (X : FVec Ideal s .f32) (h : (FTy.bf16).bits < (FTy.f32).bits) (i : s.Idx) :
    (truncf .bf16 X h : FVec Ideal s .bf16) i = X i := rfl

/-- The kernel call and the reference compute the same weight gradient over the reals. -/
theorem algebraic_dwo : Cert.algebraic_KernelDwoIdeal_ReferenceDwoIdeal (hKernelDwoIdeal := Cert.KernelDwoIdeal.Gen.facts) (hReferenceDwoIdeal := Cert.ReferenceDwoIdeal.Gen.facts) := by
  intro m g m' g' _ harg
  refine ⟨fun c => (dats m 0 c).arrAt 3 cfg0.N, Value.run_blocks m g, ?_⟩
  refine (θ_run Cert.ReferenceDwoIdeal.defs _ _).mono (fun r h c => ?_) (Cert.ReferenceDwoIdeal.Value.run (F := Ideal) m' g')
  obtain ⟨hr, h0, h1, h2⟩ := h c
  obtain ⟨e0, e1, e2⟩ := harg c
  refine ⟨hr.trans ?_, h0, h1, h2⟩
  refine Eq.trans ?_ (arr3 m c).symm
  rw [e0, e1, e2]
  funext i
  obtain ⟨p, q, rfl⟩ : ∃ p q, i = ix2 p q := ⟨i 0, i 1, eq_ix2 i⟩
  refine (trunc_apply _ _ _).trans ((trans_apply (a := 1024) (b := 1024) _ _ p q).trans ?_)
  refine (host_apply _ _ q p).trans (Finset.sum_congr rfl fun k _ => (mul_comm _ _).trans ?_)
  unfold side pieces
  rw [V_main_arg0, V_main_arg1, V_main_arg2]
  rfl

end Cert.KernelDwoIdeal.Own
end
-- ==== Proof.Dwin.lean ====
module
public import proofs.«01_k».proof.Proof.Gen.KernelDwinIdeal.Value
public import proofs.«01_k».proof.Proof.Gen.ReferenceDwinIdeal.Run
public import proofs.«01_k».proof.Defs
public import Idealize.ShloMosaic.Lib.Pipeline.ReadBack
public import Idealize.ShloMosaic.Lib.Pipeline.ValueKit.Geometry
public import Idealize.ShloMosaic.Lib.Pipeline.ValueKit.Acc
public import Idealize.ShloMosaic.Lib.MatmulPlain
public import Idealize.ShloMosaic.Lib.IdealHost
public import Idealize.ShloMosaic.Lib.KernelVsHost
@[expose] public section
set_option maxRecDepth 16384
noncomputable section
namespace Cert.KernelDwinIdeal.Own
open Cert.KernelDwinIdeal Cert.KernelDwinIdeal.Gen Idealize.ShloMosaic Idealize.ShloMosaic.TcCoe Idealize.SL.Sem
open Idealize.ShloMosaic.Tactic Idealize.ShloMosaic.ValueIdx
open scoped BigOperators

/-- Column `y 0` of the one matrix times column `y 1` of the other. -/
def colProd {K R C : ℕ} (x : (⟨2, ![K, R]⟩ : Shape).Idx → EReal) (w : (⟨2, ![K, C]⟩ : Shape).Idx → EReal)
    (y : (⟨2, ![R, C]⟩ : Shape).Idx) : EReal := ∑ k : Fin K, x (ix2 k (y 0)) * w (ix2 k (y 1))

/-- The kernel's product over one block of 1024 rows, 128 columns of the first matrix. -/
theorem mm128_apply (X : FVec Ideal S1024x128 .bf16) (W : FVec Ideal S1024x1024 .bf16) (z : S128x1024.Idx) :
    (matmul dot_S1024x128_S1024x1024_S128x1024_0_0_1_1_n_n none X W (constant S128x1024 .f32 0x00000000#32) : FVec Ideal S128x1024 .f32) z = colProd (K := 1024) (R := 128) (C := 1024) X W z := by
  obtain ⟨r, c, rfl⟩ : ∃ r c, z = ix2 r c := ⟨z 0, z 1, eq_ix2 z⟩
  show FloatOps.matmul (F := Ideal) _ none X W _ _ = _
  rw [Ideal.matmul_apply, ← Equiv.sum_comp (contrEquiv1 dot_S1024x128_S1024x1024_S128x1024_0_0_1_1_n_n 1024 rfl rfl).symm]
  refine (congrArg₂ (· + ·) (show _ = (0 : EReal) from Ideal.ofBits_zero_f32) rfl).trans ((zero_add _).trans (Finset.sum_congr rfl fun k _ => ?_))
  have hk := contrEquiv1_symm_val dot_S1024x128_S1024x1024_S128x1024_0_0_1_1_n_n 1024 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

/-- The kernel's product over one block of 1024 rows, 512 columns of the first matrix. -/
theorem mm512_apply (X : FVec Ideal S1024x512 .bf16) (W : FVec Ideal S1024x1024 .bf16) (z : S512x1024.Idx) :
    (matmul dot_S1024x512_S1024x1024_S512x1024_0_0_1_1_n_n none X W (constant S512x1024 .f32 0x00000000#32) : FVec Ideal S512x1024 .f32) z = colProd (K := 1024) (R := 512) (C := 1024) X W z := by
  obtain ⟨r, c, rfl⟩ : ∃ r c, z = ix2 r c := ⟨z 0, z 1, eq_ix2 z⟩
  show FloatOps.matmul (F := Ideal) _ none X W _ _ = _
  rw [Ideal.matmul_apply, ← Equiv.sum_comp (contrEquiv1 dot_S1024x512_S1024x1024_S512x1024_0_0_1_1_n_n 1024 rfl rfl).symm]
  refine (congrArg₂ (· + ·) (show _ = (0 : EReal) from Ideal.ofBits_zero_f32) rfl).trans ((zero_add _).trans (Finset.sum_congr rfl fun k _ => ?_))
  have hk := contrEquiv1_symm_val dot_S1024x512_S1024x1024_S512x1024_0_0_1_1_n_n 1024 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

/-- The host's product over all 8192 rows. -/
theorem host_apply (X : FVec Ideal Cert.ReferenceDwinIdeal.S8192x3080 .f32) (W : FVec Ideal S8192x1024 .f32) (r : Fin 3080) (c : Fin 1024) :
    Host.dotGeneral Cert.ReferenceDwinIdeal.dot_S8192x3080_S8192x1024_S3080x1024_0_0_1_1_n_n none X W (ix2 r c) = colProd (K := 8192) (R := 3080) (C := 1024) X W (ix2 r c) := by
  show FloatOps.dotGeneral (F := Ideal) _ none _ X W _ = _
  rw [Ideal.dotGeneral_apply, ← Equiv.sum_comp (contrEquiv1 Cert.ReferenceDwinIdeal.dot_S8192x3080_S8192x1024_S3080x1024_0_0_1_1_n_n 8192 rfl rfl).symm]
  refine Finset.sum_congr rfl fun k _ => ?_
  have hk := contrEquiv1_symm_val Cert.ReferenceDwinIdeal.dot_S8192x3080_S8192x1024_S3080x1024_0_0_1_1_n_n 8192 rfl rfl k
  refine congrArg₂ (· * ·) (congrArg X (funext fun a => Fin.ext ?_)) (congrArg W (funext fun a => Fin.ext ?_))
  · match a with
    | ⟨0, _⟩ => exact hk
    | ⟨1, _⟩ => rfl
  · match a with
    | ⟨0, _⟩ => exact hk
    | ⟨1, _⟩ => rfl

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

/-- The matrices to stand side by side. -/
def pieces (c : Dev nD) : List ((s : Shape) × (s.Idx → EReal)) := [⟨Cert.ReferenceDwinIdeal.S8192x512, (V m c main_arg1 : Cert.ReferenceDwinIdeal.S8192x512.Idx → EReal)⟩, ⟨Cert.ReferenceDwinIdeal.S8192x512, (V m c main_arg2 : Cert.ReferenceDwinIdeal.S8192x512.Idx → EReal)⟩, ⟨Cert.ReferenceDwinIdeal.S8192x512, (V m c main_arg3 : Cert.ReferenceDwinIdeal.S8192x512.Idx → EReal)⟩, ⟨Cert.ReferenceDwinIdeal.S8192x512, (V m c main_arg4 : Cert.ReferenceDwinIdeal.S8192x512.Idx → EReal)⟩, ⟨Cert.ReferenceDwinIdeal.S8192x512, (V m c main_arg5 : Cert.ReferenceDwinIdeal.S8192x512.Idx → EReal)⟩, ⟨Cert.ReferenceDwinIdeal.S8192x512, (V m c main_arg6 : Cert.ReferenceDwinIdeal.S8192x512.Idx → EReal)⟩, ⟨Cert.ReferenceDwinIdeal.S8192x8, (V m c main_arg7 : Cert.ReferenceDwinIdeal.S8192x8.Idx → EReal)⟩]

/-- The matrices side by side. -/
def side (c : Dev nD) : Cert.ReferenceDwinIdeal.S8192x3080.Idx → EReal :=
  concatenate Cert.ReferenceDwinIdeal.S8192x3080 1 (pieces m c) Cert.ReferenceDwinIdeal.Facts₀.concatenates_S8192x512_S8192x512_S8192x512_S8192x512_S8192x512_S8192x512_S8192x8_S8192x3080_d1

theorem side_0 (c : Dev nD) (k : Fin 8192) (r : Fin 512) :
    side m c (ix2 k ⟨0 + r.val, by omega⟩) = V m c main_arg1 (ix2 k r) := by
  unfold side
  refine concatenate_apply_piece (t := Cert.ReferenceDwinIdeal.S8192x3080) 1 (pieces m c) _ (ix2 (n0 := 8192) (n1 := 3080) k ⟨0 + r.val, by omega⟩) 0 (show 0 < 7 by decide) Cert.ReferenceDwinIdeal.S8192x512 _ rfl rfl 0 rfl (ix2 k r) (fun b hb => ?_) (by rfl)
  match b with
  | ⟨0, _⟩ => rfl
  | ⟨1, _⟩ => exact absurd rfl hb

theorem side_1 (c : Dev nD) (k : Fin 8192) (r : Fin 512) :
    side m c (ix2 k ⟨512 + r.val, by omega⟩) = V m c main_arg2 (ix2 k r) := by
  unfold side
  refine concatenate_apply_piece (t := Cert.ReferenceDwinIdeal.S8192x3080) 1 (pieces m c) _ (ix2 (n0 := 8192) (n1 := 3080) k ⟨512 + r.val, by omega⟩) 1 (show 1 < 7 by decide) Cert.ReferenceDwinIdeal.S8192x512 _ rfl rfl 512 rfl (ix2 k r) (fun b hb => ?_) (by rfl)
  match b with
  | ⟨0, _⟩ => rfl
  | ⟨1, _⟩ => exact absurd rfl hb

theorem side_2 (c : Dev nD) (k : Fin 8192) (r : Fin 512) :
    side m c (ix2 k ⟨1024 + r.val, by omega⟩) = V m c main_arg3 (ix2 k r) := by
  unfold side
  refine concatenate_apply_piece (t := Cert.ReferenceDwinIdeal.S8192x3080) 1 (pieces m c) _ (ix2 (n0 := 8192) (n1 := 3080) k ⟨1024 + r.val, by omega⟩) 2 (show 2 < 7 by decide) Cert.ReferenceDwinIdeal.S8192x512 _ rfl rfl 1024 rfl (ix2 k r) (fun b hb => ?_) (by rfl)
  match b with
  | ⟨0, _⟩ => rfl
  | ⟨1, _⟩ => exact absurd rfl hb

theorem side_3 (c : Dev nD) (k : Fin 8192) (r : Fin 512) :
    side m c (ix2 k ⟨1536 + r.val, by omega⟩) = V m c main_arg4 (ix2 k r) := by
  unfold side
  refine concatenate_apply_piece (t := Cert.ReferenceDwinIdeal.S8192x3080) 1 (pieces m c) _ (ix2 (n0 := 8192) (n1 := 3080) k ⟨1536 + r.val, by omega⟩) 3 (show 3 < 7 by decide) Cert.ReferenceDwinIdeal.S8192x512 _ rfl rfl 1536 rfl (ix2 k r) (fun b hb => ?_) (by rfl)
  match b with
  | ⟨0, _⟩ => rfl
  | ⟨1, _⟩ => exact absurd rfl hb

theorem side_4 (c : Dev nD) (k : Fin 8192) (r : Fin 512) :
    side m c (ix2 k ⟨2048 + r.val, by omega⟩) = V m c main_arg5 (ix2 k r) := by
  unfold side
  refine concatenate_apply_piece (t := Cert.ReferenceDwinIdeal.S8192x3080) 1 (pieces m c) _ (ix2 (n0 := 8192) (n1 := 3080) k ⟨2048 + r.val, by omega⟩) 4 (show 4 < 7 by decide) Cert.ReferenceDwinIdeal.S8192x512 _ rfl rfl 2048 rfl (ix2 k r) (fun b hb => ?_) (by rfl)
  match b with
  | ⟨0, _⟩ => rfl
  | ⟨1, _⟩ => exact absurd rfl hb

theorem side_5 (c : Dev nD) (k : Fin 8192) (r : Fin 512) :
    side m c (ix2 k ⟨2560 + r.val, by omega⟩) = V m c main_arg6 (ix2 k r) := by
  unfold side
  refine concatenate_apply_piece (t := Cert.ReferenceDwinIdeal.S8192x3080) 1 (pieces m c) _ (ix2 (n0 := 8192) (n1 := 3080) k ⟨2560 + r.val, by omega⟩) 5 (show 5 < 7 by decide) Cert.ReferenceDwinIdeal.S8192x512 _ rfl rfl 2560 rfl (ix2 k r) (fun b hb => ?_) (by rfl)
  match b with
  | ⟨0, _⟩ => rfl
  | ⟨1, _⟩ => exact absurd rfl hb

theorem side_6 (c : Dev nD) (k : Fin 8192) (r : Fin 8) :
    side m c (ix2 k ⟨3072 + r.val, by omega⟩) = V m c main_arg7 (ix2 k r) := by
  unfold side
  refine concatenate_apply_piece (t := Cert.ReferenceDwinIdeal.S8192x3080) 1 (pieces m c) _ (ix2 (n0 := 8192) (n1 := 3080) k ⟨3072 + r.val, by omega⟩) 6 (show 6 < 7 by decide) Cert.ReferenceDwinIdeal.S8192x8 _ rfl rfl 3072 rfl (ix2 k r) (fun b hb => ?_) (by rfl)
  match b with
  | ⟨0, _⟩ => rfl
  | ⟨1, _⟩ => exact absurd rfl hb

/-- The forget gate's eight columns, padded to 128. -/
theorem V_v0 (c : Dev nD) (k : Fin 8192) (r : Fin 8) : V m c main_v0 (ix2 k ⟨r.val, by omega⟩) = V m c main_arg7 (ix2 k r) := by
  have h : V m c main_v0 = (pad S8192x128 ![0, 0] ![0, 120] ![0, 0] (m ((c : Thread nD τ).loc main_arg7) : FVec Ideal S8192x8 .bf16) (sitofp (F := Ideal) .bf16 (constantI S_ 32 0#32) : FVec Ideal S_ .bf16) pads_S8192x8_S8192x128_000_01200 h_S_ : FVec Ideal S8192x128 .bf16) := by
    simp only [V, hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
    after_results
  rw [h, V_main_arg7]
  refine pad_apply_of_inside (s := S8192x8) (t := S8192x128) _ _ _ _ _ _ _ _ (ix2 k r) (fun a => ?_)
  fin_cases a <;> simp [ix2]

/-- The first rows of what one store of the whole buffer left. -/
theorem pay8_fill (Z : FVec Ideal S128x1024 .f32) (z : S8x1024.Idx) :
    k0_pay8 ((View.whole cc0_scratch6).readCov (Val := Elt Ideal) [⟨Rect.unit ![0, 0] ![128, 1024] inb_S128x1024_S128x1024_0_0, Z⟩] (Rect.unit ![0, 0] ![8, 1024] inb_S128x1024_S8x1024_0_0).toLoadRect) z
      = Z (ix2 (Fin.castLE (by decide) (z 0)) (z 1)) := by
  have h := View.readCov_fill (Val := Elt Ideal) (View.whole cc0_scratch6) inb_S128x1024_S128x1024_0_0 Z [] (Rect.unit ![0, 0] ![8, 1024] inb_S128x1024_S8x1024_0_0) (fun a => by fin_cases a <;> rfl)
  refine (congrFun (congrArg k0_pay8 h) z).trans ?_
  show Z _ = Z _
  refine congrArg Z (funext fun a => Fin.ext ?_)
  match a with
  | ⟨0, _⟩ => simp [Rect.emb, Rect.unit, ix2] <;> rfl
  | ⟨1, _⟩ => simp [Rect.emb, Rect.unit, ix2] <;> rfl

/-- One point's addend to accumulator 0. -/
def term0 (c : Dev nD) (t : Fin cfg0.N) (y : S512x1024.Idx) : EReal :=
  colProd (K := 1024) (R := 512) (C := 1024) (iblk m c 0 t) (iblk m c 7 t) y

/-- Accumulator 0 at the last point. -/
theorem acc_last0 (c : Dev nD) (t : Fin cfg0.N) (ht : t.val % 8 = 7) (y : S512x1024.Idx) :
    (outsAt0 m c t.val t.isLt).2.1 y = (0 : EReal) + ∑ s : Fin 8, term0 m c ⟨8 * (t.val / 8) + s.val, Pipeline.run_point_lt_of_flush t ht s⟩ y := by
  refine Pipeline.eq_sum_fin_of_reset_step_apply_of_flush (fun n h => (outsAt0 m c n h).2.1) 8 (fun _ => (0 : EReal)) (term0 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay9, k0_pay10, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay9, k0_pay11, shapeCast_self]
      exact congrArg₂ (· + ·) (congrFun ((Memref.isWhole_whole cc0_scratch0).read_unread _) y) (mm512_apply _ _ y)
    · rw [outsAt0_B m c t (by omega) (by omega) (by omega) (by omega) (by omega) (by omega) (by omega) (by omega) (by omega) (by omega) (by omega) (by omega) (by omega) (by omega)  h2]
      frame_out
      simp only [k0_pay9, k0_pay11, shapeCast_self]
      exact congrArg₂ (· + ·) (congrFun ((Memref.isWhole_whole cc0_scratch0).read_unread _) y) (mm512_apply _ _ y)

/-- Accumulator 0 ends as a block of rows of the whole product. -/
theorem acc_side0 (c : Dev nD) (t : Fin cfg0.N) (ht : t.val % 8 = 7) (z : S512x1024.Idx) (hz : (z 0).val < 512) :
    (outsAt0 m c t.val t.isLt).2.1 z = colProd (K := 8192) (R := 3080) (C := 1024) (side m c) (V m c main_arg0) (ix2 ⟨0 + (z 0).val, by omega⟩ (z 1)) := by
  have hN : t.val < 8 := lt_of_lt_of_eq t.isLt N_0
  rw [acc_last0 m c t ht, zero_add]
  unfold term0 colProd
  refine Fin.sum_mul_add_congr (S := 8) (n := 1024) fun s k hl => ?_
  refine congrArg₂ (· * ·) ?_ ?_
  · refine Eq.trans ?_ (side_0 m c ⟨s.val * 1024 + k.val, hl⟩ ⟨(z 0).val, hz⟩).symm
    blk_simp [iblk]
    refine congrArg (V m c main_arg1) ?_
    blk_ext [index0, ix2]
  · blk_simp [iblk]
    refine congrArg (V m c main_arg0) ?_
    blk_ext [index7, ix2]

/-- One point's addend to accumulator 1. -/
def term1 (c : Dev nD) (t : Fin cfg0.N) (y : S512x1024.Idx) : EReal :=
  colProd (K := 1024) (R := 512) (C := 1024) (iblk m c 1 t) (iblk m c 7 t) y

/-- Accumulator 1 at the last point. -/
theorem acc_last1 (c : Dev nD) (t : Fin cfg0.N) (ht : t.val % 8 = 7) (y : S512x1024.Idx) :
    (outsAt0 m c t.val t.isLt).2.2.1 y = (0 : EReal) + ∑ s : Fin 8, term1 m c ⟨8 * (t.val / 8) + s.val, Pipeline.run_point_lt_of_flush t ht s⟩ y := by
  refine Pipeline.eq_sum_fin_of_reset_step_apply_of_flush (fun n h => (outsAt0 m c n h).2.2.1) 8 (fun _ => (0 : EReal)) (term1 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay12, k0_pay13, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay12, k0_pay14, shapeCast_self]
      exact congrArg₂ (· + ·) (congrFun ((Memref.isWhole_whole cc0_scratch1).read_unread _) y) (mm512_apply _ _ y)
    · rw [outsAt0_B m c t (by omega) (by omega) (by omega) (by omega) (by omega) (by omega) (by omega) (by omega) (by omega) (by omega) (by omega) (by omega) (by omega) (by omega)  h2]
      frame_out
      simp only [k0_pay12, k0_pay14, shapeCast_self]
      exact congrArg₂ (· + ·) (congrFun ((Memref.isWhole_whole cc0_scratch1).read_unread _) y) (mm512_apply _ _ y)

/-- Accumulator 1 ends as a block of rows of the whole product. -/
theorem acc_side1 (c : Dev nD) (t : Fin cfg0.N) (ht : t.val % 8 = 7) (z : S512x1024.Idx) (hz : (z 0).val < 512) :
    (outsAt0 m c t.val t.isLt).2.2.1 z = colProd (K := 8192) (R := 3080) (C := 1024) (side m c) (V m c main_arg0) (ix2 ⟨512 + (z 0).val, by omega⟩ (z 1)) := by
  have hN : t.val < 8 := lt_of_lt_of_eq t.isLt N_0
  rw [acc_last1 m c t ht, zero_add]
  unfold term1 colProd
  refine Fin.sum_mul_add_congr (S := 8) (n := 1024) fun s k hl => ?_
  refine congrArg₂ (· * ·) ?_ ?_
  · refine Eq.trans ?_ (side_1 m c ⟨s.val * 1024 + k.val, hl⟩ ⟨(z 0).val, hz⟩).symm
    blk_simp [iblk]
    refine congrArg (V m c main_arg2) ?_
    blk_ext [index1, ix2]
  · blk_simp [iblk]
    refine congrArg (V m c main_arg0) ?_
    blk_ext [index7, ix2]

/-- One point's addend to accumulator 2. -/
def term2 (c : Dev nD) (t : Fin cfg0.N) (y : S512x1024.Idx) : EReal :=
  colProd (K := 1024) (R := 512) (C := 1024) (iblk m c 2 t) (iblk m c 7 t) y

/-- Accumulator 2 at the last point. -/
theorem acc_last2 (c : Dev nD) (t : Fin cfg0.N) (ht : t.val % 8 = 7) (y : S512x1024.Idx) :
    (outsAt0 m c t.val t.isLt).2.2.2.1 y = (0 : EReal) + ∑ s : Fin 8, term2 m c ⟨8 * (t.val / 8) + s.val, Pipeline.run_point_lt_of_flush t ht s⟩ y := by
  refine Pipeline.eq_sum_fin_of_reset_step_apply_of_flush (fun n h => (outsAt0 m c n h).2.2.2.1) 8 (fun _ => (0 : EReal)) (term2 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay15, k0_pay16, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay15, k0_pay17, shapeCast_self]
      exact congrArg₂ (· + ·) (congrFun ((Memref.isWhole_whole cc0_scratch2).read_unread _) y) (mm512_apply _ _ y)
    · rw [outsAt0_B m c t (by omega) (by omega) (by omega) (by omega) (by omega) (by omega) (by omega) (by omega) (by omega) (by omega) (by omega) (by omega) (by omega) (by omega)  h2]
      frame_out
      simp only [k0_pay15, k0_pay17, shapeCast_self]
      exact congrArg₂ (· + ·) (congrFun ((Memref.isWhole_whole cc0_scratch2).read_unread _) y) (mm512_apply _ _ y)

/-- Accumulator 2 ends as a block of rows of the whole product. -/
theorem acc_side2 (c : Dev nD) (t : Fin cfg0.N) (ht : t.val % 8 = 7) (z : S512x1024.Idx) (hz : (z 0).val < 512) :
    (outsAt0 m c t.val t.isLt).2.2.2.1 z = colProd (K := 8192) (R := 3080) (C := 1024) (side m c) (V m c main_arg0) (ix2 ⟨1024 + (z 0).val, by omega⟩ (z 1)) := by
  have hN : t.val < 8 := lt_of_lt_of_eq t.isLt N_0
  rw [acc_last2 m c t ht, zero_add]
  unfold term2 colProd
  refine Fin.sum_mul_add_congr (S := 8) (n := 1024) fun s k hl => ?_
  refine congrArg₂ (· * ·) ?_ ?_
  · refine Eq.trans ?_ (side_2 m c ⟨s.val * 1024 + k.val, hl⟩ ⟨(z 0).val, hz⟩).symm
    blk_simp [iblk]
    refine congrArg (V m c main_arg3) ?_
    blk_ext [index2, ix2]
  · blk_simp [iblk]
    refine congrArg (V m c main_arg0) ?_
    blk_ext [index7, ix2]

/-- One point's addend to accumulator 3. -/
def term3 (c : Dev nD) (t : Fin cfg0.N) (y : S512x1024.Idx) : EReal :=
  colProd (K := 1024) (R := 512) (C := 1024) (iblk m c 3 t) (iblk m c 7 t) y

/-- Accumulator 3 at the last point. -/
theorem acc_last3 (c : Dev nD) (t : Fin cfg0.N) (ht : t.val % 8 = 7) (y : S512x1024.Idx) :
    (outsAt0 m c t.val t.isLt).2.2.2.2.1 y = (0 : EReal) + ∑ s : Fin 8, term3 m c ⟨8 * (t.val / 8) + s.val, Pipeline.run_point_lt_of_flush t ht s⟩ y := by
  refine Pipeline.eq_sum_fin_of_reset_step_apply_of_flush (fun n h => (outsAt0 m c n h).2.2.2.2.1) 8 (fun _ => (0 : EReal)) (term3 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay18, k0_pay19, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay18, k0_pay20, shapeCast_self]
      exact congrArg₂ (· + ·) (congrFun ((Memref.isWhole_whole cc0_scratch3).read_unread _) y) (mm512_apply _ _ y)
    · rw [outsAt0_B m c t (by omega) (by omega) (by omega) (by omega) (by omega) (by omega) (by omega) (by omega) (by omega) (by omega) (by omega) (by omega) (by omega) (by omega)  h2]
      frame_out
      simp only [k0_pay18, k0_pay20, shapeCast_self]
      exact congrArg₂ (· + ·) (congrFun ((Memref.isWhole_whole cc0_scratch3).read_unread _) y) (mm512_apply _ _ y)

/-- Accumulator 3 ends as a block of rows of the whole product. -/
theorem acc_side3 (c : Dev nD) (t : Fin cfg0.N) (ht : t.val % 8 = 7) (z : S512x1024.Idx) (hz : (z 0).val < 512) :
    (outsAt0 m c t.val t.isLt).2.2.2.2.1 z = colProd (K := 8192) (R := 3080) (C := 1024) (side m c) (V m c main_arg0) (ix2 ⟨1536 + (z 0).val, by omega⟩ (z 1)) := by
  have hN : t.val < 8 := lt_of_lt_of_eq t.isLt N_0
  rw [acc_last3 m c t ht, zero_add]
  unfold term3 colProd
  refine Fin.sum_mul_add_congr (S := 8) (n := 1024) fun s k hl => ?_
  refine congrArg₂ (· * ·) ?_ ?_
  · refine Eq.trans ?_ (side_3 m c ⟨s.val * 1024 + k.val, hl⟩ ⟨(z 0).val, hz⟩).symm
    blk_simp [iblk]
    refine congrArg (V m c main_arg4) ?_
    blk_ext [index3, ix2]
  · blk_simp [iblk]
    refine congrArg (V m c main_arg0) ?_
    blk_ext [index7, ix2]

/-- One point's addend to accumulator 4. -/
def term4 (c : Dev nD) (t : Fin cfg0.N) (y : S512x1024.Idx) : EReal :=
  colProd (K := 1024) (R := 512) (C := 1024) (iblk m c 4 t) (iblk m c 7 t) y

/-- Accumulator 4 at the last point. -/
theorem acc_last4 (c : Dev nD) (t : Fin cfg0.N) (ht : t.val % 8 = 7) (y : S512x1024.Idx) :
    (outsAt0 m c t.val t.isLt).2.2.2.2.2.1 y = (0 : EReal) + ∑ s : Fin 8, term4 m c ⟨8 * (t.val / 8) + s.val, Pipeline.run_point_lt_of_flush t ht s⟩ y := by
  refine Pipeline.eq_sum_fin_of_reset_step_apply_of_flush (fun n h => (outsAt0 m c n h).2.2.2.2.2.1) 8 (fun _ => (0 : EReal)) (term4 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay21, k0_pay22, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay21, k0_pay23, shapeCast_self]
      exact congrArg₂ (· + ·) (congrFun ((Memref.isWhole_whole cc0_scratch4).read_unread _) y) (mm512_apply _ _ y)
    · rw [outsAt0_B m c t (by omega) (by omega) (by omega) (by omega) (by omega) (by omega) (by omega) (by omega) (by omega) (by omega) (by omega) (by omega) (by omega) (by omega)  h2]
      frame_out
      simp only [k0_pay21, k0_pay23, shapeCast_self]
      exact congrArg₂ (· + ·) (congrFun ((Memref.isWhole_whole cc0_scratch4).read_unread _) y) (mm512_apply _ _ y)

/-- Accumulator 4 ends as a block of rows of the whole product. -/
theorem acc_side4 (c : Dev nD) (t : Fin cfg0.N) (ht : t.val % 8 = 7) (z : S512x1024.Idx) (hz : (z 0).val < 512) :
    (outsAt0 m c t.val t.isLt).2.2.2.2.2.1 z = colProd (K := 8192) (R := 3080) (C := 1024) (side m c) (V m c main_arg0) (ix2 ⟨2048 + (z 0).val, by omega⟩ (z 1)) := by
  have hN : t.val < 8 := lt_of_lt_of_eq t.isLt N_0
  rw [acc_last4 m c t ht, zero_add]
  unfold term4 colProd
  refine Fin.sum_mul_add_congr (S := 8) (n := 1024) fun s k hl => ?_
  refine congrArg₂ (· * ·) ?_ ?_
  · refine Eq.trans ?_ (side_4 m c ⟨s.val * 1024 + k.val, hl⟩ ⟨(z 0).val, hz⟩).symm
    blk_simp [iblk]
    refine congrArg (V m c main_arg5) ?_
    blk_ext [index4, ix2]
  · blk_simp [iblk]
    refine congrArg (V m c main_arg0) ?_
    blk_ext [index7, ix2]

/-- One point's addend to accumulator 5. -/
def term5 (c : Dev nD) (t : Fin cfg0.N) (y : S512x1024.Idx) : EReal :=
  colProd (K := 1024) (R := 512) (C := 1024) (iblk m c 5 t) (iblk m c 7 t) y

/-- Accumulator 5 at the last point. -/
theorem acc_last5 (c : Dev nD) (t : Fin cfg0.N) (ht : t.val % 8 = 7) (y : S512x1024.Idx) :
    (outsAt0 m c t.val t.isLt).2.2.2.2.2.2.1 y = (0 : EReal) + ∑ s : Fin 8, term5 m c ⟨8 * (t.val / 8) + s.val, Pipeline.run_point_lt_of_flush t ht s⟩ y := by
  refine Pipeline.eq_sum_fin_of_reset_step_apply_of_flush (fun n h => (outsAt0 m c n h).2.2.2.2.2.2.1) 8 (fun _ => (0 : EReal)) (term5 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay24, k0_pay25, shapeCast_self]
    exact (mm512_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay24, k0_pay26, shapeCast_self]
      exact congrArg₂ (· + ·) (congrFun ((Memref.isWhole_whole cc0_scratch5).read_unread _) y) (mm512_apply _ _ y)
    · rw [outsAt0_B m c t (by omega) (by omega) (by omega) (by omega) (by omega) (by omega) (by omega) (by omega) (by omega) (by omega) (by omega) (by omega) (by omega) (by omega)  h2]
      frame_out
      simp only [k0_pay24, k0_pay26, shapeCast_self]
      exact congrArg₂ (· + ·) (congrFun ((Memref.isWhole_whole cc0_scratch5).read_unread _) y) (mm512_apply _ _ y)

/-- Accumulator 5 ends as a block of rows of the whole product. -/
theorem acc_side5 (c : Dev nD) (t : Fin cfg0.N) (ht : t.val % 8 = 7) (z : S512x1024.Idx) (hz : (z 0).val < 512) :
    (outsAt0 m c t.val t.isLt).2.2.2.2.2.2.1 z = colProd (K := 8192) (R := 3080) (C := 1024) (side m c) (V m c main_arg0) (ix2 ⟨2560 + (z 0).val, by omega⟩ (z 1)) := by
  have hN : t.val < 8 := lt_of_lt_of_eq t.isLt N_0
  rw [acc_last5 m c t ht, zero_add]
  unfold term5 colProd
  refine Fin.sum_mul_add_congr (S := 8) (n := 1024) fun s k hl => ?_
  refine congrArg₂ (· * ·) ?_ ?_
  · refine Eq.trans ?_ (side_5 m c ⟨s.val * 1024 + k.val, hl⟩ ⟨(z 0).val, hz⟩).symm
    blk_simp [iblk]
    refine congrArg (V m c main_arg6) ?_
    blk_ext [index5, ix2]
  · blk_simp [iblk]
    refine congrArg (V m c main_arg0) ?_
    blk_ext [index7, ix2]

/-- One point's addend to accumulator 6. -/
def term6 (c : Dev nD) (t : Fin cfg0.N) (y : S128x1024.Idx) : EReal :=
  colProd (K := 1024) (R := 128) (C := 1024) (iblk m c 6 t) (iblk m c 7 t) y

/-- Accumulator 6 at the last point. -/
theorem acc_last6 (c : Dev nD) (t : Fin cfg0.N) (ht : t.val % 8 = 7) (y : S128x1024.Idx) :
    (outsAt0 m c t.val t.isLt).2.2.2.2.2.2.2 y = (0 : EReal) + ∑ s : Fin 8, term6 m c ⟨8 * (t.val / 8) + s.val, Pipeline.run_point_lt_of_flush t ht s⟩ y := by
  refine Pipeline.eq_sum_fin_of_reset_step_apply_of_flush (fun n h => (outsAt0 m c n h).2.2.2.2.2.2.2) 8 (fun _ => (0 : EReal)) (term6 m c) (fun t h y => ?_) (fun t h y => ?_) t ht y
  · have hN : t.val < 8 := lt_of_lt_of_eq t.isLt N_0
    rw [outsAt0_A m c t (by omega) (by omega) (by omega) (by omega) (by omega) (by omega) (by omega) (by omega) (by omega) (by omega) (by omega) (by omega) (by omega) (by omega) (by omega)]
    frame_out
    simp only [k0_pay27, k0_pay28, shapeCast_self]
    exact (mm128_apply _ _ y).trans (zero_add _).symm
  · have hN : t.val < 8 := lt_of_lt_of_eq t.isLt N_0
    by_cases h2 : t.val % 8 = 7
    · rw [outsAt0_C m c t (by omega) (by omega) (by omega) (by omega) (by omega) (by omega) (by omega) (by omega) (by omega) (by omega) (by omega) (by omega) (by omega) (by omega)  h2]
      frame_out
      simp only [k0_pay27, k0_pay1, shapeCast_self]
      exact congrArg₂ (· + ·) (congrFun ((Memref.isWhole_whole cc0_scratch6).read_unread _) y) (mm128_apply _ _ y)
    · rw [outsAt0_B m c t (by omega) (by omega) (by omega) (by omega) (by omega) (by omega) (by omega) (by omega) (by omega) (by omega) (by omega) (by omega) (by omega) (by omega)  h2]
      frame_out
      simp only [k0_pay27, k0_pay1, shapeCast_self]
      exact congrArg₂ (· + ·) (congrFun ((Memref.isWhole_whole cc0_scratch6).read_unread _) y) (mm128_apply _ _ y)

/-- Accumulator 6 ends as a block of rows of the whole product. -/
theorem acc_side6 (c : Dev nD) (t : Fin cfg0.N) (ht : t.val % 8 = 7) (z : S128x1024.Idx) (hz : (z 0).val < 8) :
    (outsAt0 m c t.val t.isLt).2.2.2.2.2.2.2 z = colProd (K := 8192) (R := 3080) (C := 1024) (side m c) (V m c main_arg0) (ix2 ⟨3072 + (z 0).val, by omega⟩ (z 1)) := by
  have hN : t.val < 8 := lt_of_lt_of_eq t.isLt N_0
  rw [acc_last6 m c t ht, zero_add]
  unfold term6 colProd
  refine Fin.sum_mul_add_congr (S := 8) (n := 1024) fun s k hl => ?_
  refine congrArg₂ (· * ·) ?_ ?_
  · refine Eq.trans ?_ (side_6 m c ⟨s.val * 1024 + k.val, hl⟩ ⟨(z 0).val, hz⟩).symm
    rw [← V_v0 m c]
    blk_simp [iblk]
    refine congrArg (V m c main_v0) ?_
    blk_ext [index6, ix2]
  · blk_simp [iblk]
    refine congrArg (V m c main_arg0) ?_
    blk_ext [index7, ix2]

set_option maxHeartbeats 4000000 in
/-- The block written back at the last point. -/
theorem out_last (c : Dev nD) (t : Fin cfg0.N) (ht : t.val % 8 = 7) (y : S3080x1024.Idx) :
    (outsAt0 m c t.val t.isLt).1 y = colProd (K := 8192) (R := 3080) (C := 1024) (side m c) (V m c main_arg0) y := by
  have hN : t.val < 8 := lt_of_lt_of_eq t.isLt N_0
  have a0 := acc_side0 m c t ht
  have a1 := acc_side1 m c t ht
  have a2 := acc_side2 m c t ht
  have a3 := acc_side3 m c t ht
  have a4 := acc_side4 m c t ht
  have a5 := acc_side5 m c t ht
  have a6 := acc_side6 m c t ht
  rw [outsAt0_C m c t (by omega) (by omega) (by omega) (by omega) (by omega) (by omega) (by omega) (by omega) (by omega) (by omega) (by omega) (by omega) (by omega) (by omega) ht] at a0 a1 a2 a3 a4 a5 a6 ⊢
  dsimp only at a0 a1 a2 a3 a4 a5 a6 ⊢
  unfold out0_C_8
  rw [View.read_writes_eq_canon _ _ _ (fun y => cover0_C_8 ..)]
  refine View.canon_apply_of_pieces (Val := Elt Ideal) (colProd (K := 8192) (R := 3080) (C := 1024) (side m c) (V m c main_arg0)) _ ?_ y (cover0_C_8 ..)
  unfold kernelRun0_C
  dsimp only
  sl_unfold_words
  simp only [List.forall_mem_cons, List.not_mem_nil, false_imp_iff, implies_true, and_true]
  refine ⟨fun z => ?_, fun z => ?_, fun z => ?_, fun z => ?_, fun z => ?_, fun z => ?_, fun z => ?_⟩
  · refine Eq.trans ?_ ((a6 (ix2 (Fin.castLE (by decide) (z 0)) (z 1)) (z 0).isLt).trans ?_)
    · frame_out
      exact pay8_fill _ z
    · refine congrArg (colProd (K := 8192) (R := 3080) (C := 1024) (side m c) (V m c main_arg0)) (funext fun a => Fin.ext ?_)
      match a with
      | ⟨0, _⟩ => simp [Rect.emb, Rect.unit, ix2] <;> rfl
      | ⟨1, _⟩ => simp [Rect.emb, Rect.unit, ix2]
  · refine Eq.trans ?_ ((a5 z (z 0).isLt).trans ?_)
    · frame_out
      rfl
    · refine congrArg (colProd (K := 8192) (R := 3080) (C := 1024) (side m c) (V m c main_arg0)) (funext fun a => Fin.ext ?_)
      match a with
      | ⟨0, _⟩ => simp [Rect.emb, Rect.unit, ix2]
      | ⟨1, _⟩ => simp [Rect.emb, Rect.unit, ix2]
  · refine Eq.trans ?_ ((a4 z (z 0).isLt).trans ?_)
    · frame_out
      rfl
    · refine congrArg (colProd (K := 8192) (R := 3080) (C := 1024) (side m c) (V m c main_arg0)) (funext fun a => Fin.ext ?_)
      match a with
      | ⟨0, _⟩ => simp [Rect.emb, Rect.unit, ix2]
      | ⟨1, _⟩ => simp [Rect.emb, Rect.unit, ix2]
  · refine Eq.trans ?_ ((a3 z (z 0).isLt).trans ?_)
    · frame_out
      rfl
    · refine congrArg (colProd (K := 8192) (R := 3080) (C := 1024) (side m c) (V m c main_arg0)) (funext fun a => Fin.ext ?_)
      match a with
      | ⟨0, _⟩ => simp [Rect.emb, Rect.unit, ix2]
      | ⟨1, _⟩ => simp [Rect.emb, Rect.unit, ix2]
  · refine Eq.trans ?_ ((a2 z (z 0).isLt).trans ?_)
    · frame_out
      rfl
    · refine congrArg (colProd (K := 8192) (R := 3080) (C := 1024) (side m c) (V m c main_arg0)) (funext fun a => Fin.ext ?_)
      match a with
      | ⟨0, _⟩ => simp [Rect.emb, Rect.unit, ix2]
      | ⟨1, _⟩ => simp [Rect.emb, Rect.unit, ix2]
  · refine Eq.trans ?_ ((a1 z (z 0).isLt).trans ?_)
    · frame_out
      rfl
    · refine congrArg (colProd (K := 8192) (R := 3080) (C := 1024) (side m c) (V m c main_arg0)) (funext fun a => Fin.ext ?_)
      match a with
      | ⟨0, _⟩ => simp [Rect.emb, Rect.unit, ix2]
      | ⟨1, _⟩ => simp [Rect.emb, Rect.unit, ix2]
  · refine Eq.trans ?_ ((a0 z (z 0).isLt).trans ?_)
    · frame_out
      rfl
    · refine congrArg (colProd (K := 8192) (R := 3080) (C := 1024) (side m c) (V m c main_arg0)) (funext fun a => Fin.ext ?_)
      match a with
      | ⟨0, _⟩ => simp [Rect.emb, Rect.unit, ix2]
      | ⟨1, _⟩ => simp [Rect.emb, Rect.unit, ix2]

/-- The result array after the run. -/
theorem arr8 (c : Dev nD) : (dats m 0 c).arrAt 8 cfg0.N
    = (fun i : S3080x1024.Idx => colProd (K := 8192) (R := 3080) (C := 1024) (side m c) (V m c main_arg0) i) := by
  refine (dats m 0 c).arrAt_eq_of_covers 8 _ (by decide +kernel) fun t hf y => ?_
  have ht := (flush0_8 t).mp hf
  blk_simp
  rw [after0_8, out_last m c t ht]
  refine congrArg (colProd (K := 8192) (R := 3080) (C := 1024) (side m c) (V m c main_arg0)) ?_
  blk_ext [index8, ix2]

theorem trans_apply {a b : ℕ} (X : FVec Ideal ⟨2, ![a, b]⟩ .f32) (h : (⟨2, ![a, b]⟩ : Shape).Transposes [1, 0] ⟨2, ![b, a]⟩) (p : Fin b) (q : Fin a) :
    (transpose ⟨2, ![b, a]⟩ [1, 0] X h : FVec Ideal ⟨2, ![b, a]⟩ .f32) (ix2 p q) = X (ix2 q p) :=
  transpose_apply (s := ⟨2, ![a, b]⟩) (t := ⟨2, ![b, a]⟩) [1, 0] X h (ix2 p q) (ix2 q p) (fun b => by fin_cases b <;> rfl)

theorem trunc_apply {s : Shape} (X : FVec Ideal s .f32) (h : (FTy.bf16).bits < (FTy.f32).bits) (i : s.Idx) :
    (truncf .bf16 X h : FVec Ideal s .bf16) i = X i := rfl

/-- The kernel call and the reference compute the same weight gradient over the reals. -/
theorem algebraic_dwin : Cert.algebraic_KernelDwinIdeal_ReferenceDwinIdeal (hKernelDwinIdeal := Cert.KernelDwinIdeal.Gen.facts) (hReferenceDwinIdeal := Cert.ReferenceDwinIdeal.Gen.facts) := by
  intro m g m' g' _ harg
  refine ⟨fun c => (dats m 0 c).arrAt 8 cfg0.N, Value.run_blocks m g, ?_⟩
  refine (θ_run Cert.ReferenceDwinIdeal.defs _ _).mono (fun r h c => ?_) (Cert.ReferenceDwinIdeal.Value.run (F := Ideal) m' g')
  obtain ⟨hr, h0, h1, h2, h3, h4, h5, h6, h7⟩ := h c
  obtain ⟨e0, e1, e2, e3, e4, e5, e6, e7⟩ := harg c
  refine ⟨hr.trans ?_, h0, h1, h2, h3, h4, h5, h6, h7⟩
  refine Eq.trans ?_ (arr8 m c).symm
  rw [e0, e1, e2, e3, e4, e5, e6, e7]
  funext i
  obtain ⟨p, q, rfl⟩ : ∃ p q, i = ix2 p q := ⟨i 0, i 1, eq_ix2 i⟩
  refine (trunc_apply _ _ _).trans ((trans_apply (a := 1024) (b := 3080) _ _ p q).trans ?_)
  refine (trans_apply (a := 3080) (b := 1024) _ _ q p).trans ?_
  refine (host_apply _ _ p q).trans ?_
  unfold side pieces
  rw [V_main_arg0, V_main_arg1, V_main_arg2, V_main_arg3, V_main_arg4, V_main_arg5, V_main_arg6, V_main_arg7]
  rfl

end Cert.KernelDwinIdeal.Own
end
-- ==== Proof.NormGrad.lean ====
module
public import Idealize.ShloMosaic.Lib.MatmulPlain
public import Idealize.ShloMosaic.Lib.Pipeline.ValueKit.Geometry
public import Idealize.ShloMosaic.Lib.IdealHost
public import Idealize.ShloMosaic.Lib.ReduceAll
@[expose] public section
set_option maxRecDepth 16384
noncomputable section
namespace Cert.NormGrad.Own
open Idealize.ShloMosaic Idealize.ShloMosaic.TcCoe Idealize.SL.Sem
open Idealize.ShloMosaic.Tactic Idealize.ShloMosaic.ValueIdx
open scoped BigOperators

/-! ## The gradient of a scaled, normalised row of `n` numbers -/

/-- The constant added under the root. -/
def cEps : EReal := Ideal.ofBits .f32 0x358637BD#32

/-- Minus one half. -/
def cHalf : EReal := Ideal.ofBits .f32 0xBF000000#32

section
variable {n : ℕ} (L : EReal)

/-- The mean square of a row, and the constant; `L` is the length as the programs write it. -/
def ms (x : Fin n → EReal) : EReal := Ideal.div (∑ k : Fin n, x k * x k) L + cEps

/-- The factor that normalises a row. -/
def rr (x : Fin n → EReal) : EReal := Ideal.rsqrt (ms L x)

/-- The gradient by a row `x`, as the kernels write it: `a` the gradient of the normalised row. -/
def dxK (a x : Fin n → EReal) (j : Fin n) : EReal :=
  rr L x * (a j - x j * rr L x * Ideal.div (∑ k : Fin n, a k * (x k * rr L x)) L)

/-- The part of that gradient that comes through the mean square. -/
def dms (a x : Fin n → EReal) : EReal :=
  Ideal.div ((∑ k : Fin n, x k * a k) * (cHalf * Ideal.div (rr L x) (ms L x))) L

/-- The gradient by a row as the chain rule gives it. -/
def dxR (a x : Fin n → EReal) (j : Fin n) : EReal :=
  a j * rr L x + x j * dms L a x + dms L a x * x j

end

theorem cHalf_eq : cHalf = ((-(1 / 2) : ℝ) : EReal) := by
  unfold cHalf
  simp [Ideal.ofBits, Ideal.ieee, -EReal.coe_mul, -EReal.coe_neg]; norm_num

theorem cEps_pos : ∃ e : ℝ, 0 < e ∧ cEps = (e : EReal) := by
  unfold cEps
  refine ⟨(8796093 : ℝ) * (2 : ℝ) ^ (-43 : ℤ), by positivity, ?_⟩
  simp [Ideal.ofBits, Ideal.ieee, -EReal.coe_mul]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- On finite numbers the two spellings agree. -/
theorem dx_eq {n : ℕ} {L : EReal} {l : ℝ} (hL : L = (l : EReal)) (hl : 0 < l) {a x : Fin n → EReal} (ha : ∀ k, ∃ r : ℝ, a k = r)
    (hx : ∀ k, ∃ r : ℝ, x k = r) (j : Fin n) : dxR L a x j = dxK L a x j := by
  choose a' ha using ha
  choose x' hx using hx
  obtain ⟨e, he, hE⟩ := cEps_pos
  have hV : (0 : ℝ) < (∑ k : Fin n, x' k * x' k) * (1 / l) + e :=
    add_pos_of_nonneg_of_pos (mul_nonneg (Finset.sum_nonneg fun k _ => mul_self_nonneg (x' k)) (by positivity)) he
  have hms : ms L x = (((∑ k : Fin n, x' k * x' k) * (1 / l) + e : ℝ) : EReal) := by
    unfold ms
    rw [hE, hL, Ideal.div_coe hl.ne', EReal.coe_add, EReal.coe_mul, ← coe_sum]
    simp only [hx, EReal.coe_mul]
  generalize (∑ k : Fin n, x' k * x' k) * (1 / l) + e = V at hV hms
  have hr : rr L x = (((Real.sqrt V)⁻¹ : ℝ) : EReal) := by
    unfold rr
    rw [hms, Ideal.rsqrt_coe, if_neg (not_lt.mpr hV.le), if_neg hV.ne']
  have hq : (Real.sqrt V)⁻¹ * (Real.sqrt V)⁻¹ = V⁻¹ := by rw [← mul_inv, Real.mul_self_sqrt hV.le]
  generalize (Real.sqrt V)⁻¹ = ρ at hr hq
  have hS1 : ∑ k : Fin n, x k * a k = ((∑ k : Fin n, x' k * a' k : ℝ) : EReal) := by
    rw [← coe_sum]; refine Finset.sum_congr rfl fun k _ => ?_
    rw [hx, ha]; norm_cast
  have hS2 : ∑ k : Fin n, a k * (x k * rr L x) = ((ρ * ∑ k : Fin n, x' k * a' k : ℝ) : EReal) := by
    rw [Finset.mul_sum, ← coe_sum]; refine Finset.sum_congr rfl fun k _ => ?_
    rw [hx, ha, hr]; norm_cast; ring
  unfold dxR dxK dms
  rw [hS1, hS2, hr, hms, cHalf_eq, hL, Ideal.div_coe hV.ne', Ideal.div_coe hl.ne', Ideal.div_coe hl.ne', hx, ha]
  generalize ∑ k : Fin n, x' k * a' k = S
  norm_cast
  rw [one_div V, ← hq]
  ring

/-! ## Sums of the host -/

/-- A sum over the last axis of three. -/
theorem red2 {A B C : ℕ} (hu : 0 < (⟨0, ![]⟩ : Shape).numel) (h' : Shape.ReducesTo ⟨3, ![A, B, C]⟩ [2] ⟨2, ![A, B]⟩) (h : Shape.Reduces ⟨3, ![A, B, C]⟩ [2] ⟨2, ![A, B]⟩)
    (x : FVec Ideal ⟨3, ![A, B, C]⟩ .f32) (a : Fin A) (b : Fin B) :
    Host.reduceAdd x (constant ⟨0, ![]⟩ .f32 0x00000000#32 : FVec Ideal ⟨0, ![]⟩ .f32) h' hu (ix2 a b) = ∑ k : Fin C, x (ix3 a b k) := by
  show Ideal.hostReduceAdd h' x (Ideal.ofBits .f32 0x00000000#32) (ix2 a b) = _
  rw [Ideal.hostReduceAdd_single h' h, show Ideal.ofBits .f32 0x00000000#32 = 0 from Ideal.ofBits_zero_f32, zero_add]
  refine Finset.sum_congr rfl fun k _ => congrArg x (funext fun d => Fin.ext ?_)
  match d with
  | ⟨0, _⟩ => rfl
  | ⟨1, _⟩ => rfl
  | ⟨2, _⟩ => rfl

/-- A sum over the middle axis of three. -/
theorem red1 {A B C : ℕ} (hu : 0 < (⟨0, ![]⟩ : Shape).numel) (h' : Shape.ReducesTo ⟨3, ![A, B, C]⟩ [1] ⟨2, ![A, C]⟩) (h : Shape.Reduces ⟨3, ![A, B, C]⟩ [1] ⟨2, ![A, C]⟩)
    (x : FVec Ideal ⟨3, ![A, B, C]⟩ .f32) (a : Fin A) (c : Fin C) :
    Host.reduceAdd x (constant ⟨0, ![]⟩ .f32 0x00000000#32 : FVec Ideal ⟨0, ![]⟩ .f32) h' hu (ix2 a c) = ∑ k : Fin B, x (ix3 a k c) := by
  show Ideal.hostReduceAdd h' x (Ideal.ofBits .f32 0x00000000#32) (ix2 a c) = _
  rw [Ideal.hostReduceAdd_single h' h, show Ideal.ofBits .f32 0x00000000#32 = 0 from Ideal.ofBits_zero_f32, zero_add]
  refine Finset.sum_congr rfl fun k _ => congrArg x (funext fun d => Fin.ext ?_)
  match d with
  | ⟨0, _⟩ => rfl
  | ⟨1, _⟩ => rfl
  | ⟨2, _⟩ => rfl

/-- A sum over the first two axes of three. -/
theorem red01 {A B C : ℕ} (hu : 0 < (⟨0, ![]⟩ : Shape).numel) (h' : Shape.ReducesTo ⟨3, ![A, B, C]⟩ [0, 1] ⟨1, ![C]⟩)
    (x : FVec Ideal ⟨3, ![A, B, C]⟩ .f32) (c : Fin C) :
    Host.reduceAdd x (constant ⟨0, ![]⟩ .f32 0x00000000#32 : FVec Ideal ⟨0, ![]⟩ .f32) h' hu (ix1 c) = ∑ a : Fin A, ∑ b : Fin B, x (ix3 a b c) := by
  show Ideal.hostReduceAdd h' x (Ideal.ofBits .f32 0x00000000#32) (ix1 c) = _
  unfold Ideal.hostReduceAdd
  rw [show Ideal.ofBits .f32 0x00000000#32 = 0 from Ideal.ofBits_zero_f32, zero_add, ← Fintype.sum_prod_type']
  symm
  refine Finset.sum_bij (fun p _ => ix3 p.1 p.2 c) ?_ ?_ ?_ ?_
  · intro p _
    refine Finset.mem_filter.mpr ⟨Finset.mem_univ _, funext fun d => Fin.ext ?_⟩
    match d with
    | ⟨0, _⟩ => rfl
  · intro p _ q _ e
    exact Prod.ext (congrFun e 0) (congrFun e 1)
  · intro i hi
    have e := congrArg Fin.val (congrFun (Finset.mem_filter.mp hi).2 0)
    refine ⟨(i 0, i 1), Finset.mem_univ _, ?_⟩
    refine (funext fun d => ?_ : ix3 (i 0) (i 1) c = i)
    match d with
    | ⟨0, _⟩ => rfl
    | ⟨1, _⟩ => rfl
    | ⟨2, _⟩ => exact Fin.ext e.symm
  · intro p _; rfl

/-- A sum over the last axis of two. -/
theorem redLast (hu : 0 < (⟨0, ![]⟩ : Shape).numel) {A B : ℕ} (h' : Shape.ReducesTo ⟨2, ![A, B]⟩ [1] ⟨1, ![A]⟩) (h : Shape.Reduces ⟨2, ![A, B]⟩ [1] ⟨1, ![A]⟩)
    (x : FVec Ideal ⟨2, ![A, B]⟩ .f32) (a : Fin A) :
    Host.reduceAdd x (constant ⟨0, ![]⟩ .f32 0x00000000#32 : FVec Ideal ⟨0, ![]⟩ .f32) h' hu (ix1 a) = ∑ k : Fin B, x (ix2 a k) := by
  show Ideal.hostReduceAdd h' x (Ideal.ofBits .f32 0x00000000#32) (ix1 a) = _
  rw [Ideal.hostReduceAdd_single h' h, show Ideal.ofBits .f32 0x00000000#32 = 0 from Ideal.ofBits_zero_f32, zero_add]
  refine Finset.sum_congr rfl fun k _ => congrArg x (funext fun d => Fin.ext ?_)
  match d with
  | ⟨0, _⟩ => rfl
  | ⟨1, _⟩ => rfl

/-- A sum over the first axis of two. -/
theorem redFirst (hu : 0 < (⟨0, ![]⟩ : Shape).numel) {A B : ℕ} (h' : Shape.ReducesTo ⟨2, ![A, B]⟩ [0] ⟨1, ![B]⟩) (h : Shape.Reduces ⟨2, ![A, B]⟩ [0] ⟨1, ![B]⟩)
    (x : FVec Ideal ⟨2, ![A, B]⟩ .f32) (b : Fin B) :
    Host.reduceAdd x (constant ⟨0, ![]⟩ .f32 0x00000000#32 : FVec Ideal ⟨0, ![]⟩ .f32) h' hu (ix1 b) = ∑ k : Fin A, x (ix2 k b) := by
  show Ideal.hostReduceAdd h' x (Ideal.ofBits .f32 0x00000000#32) (ix1 b) = _
  rw [Ideal.hostReduceAdd_single h' h, show Ideal.ofBits .f32 0x00000000#32 = 0 from Ideal.ofBits_zero_f32, zero_add]
  refine Finset.sum_congr rfl fun k _ => congrArg x (funext fun d => Fin.ext ?_)
  match d with
  | ⟨0, _⟩ => rfl
  | ⟨1, _⟩ => rfl

/-- A sum over the one axis there is. -/
theorem redAll (hu : 0 < (⟨0, ![]⟩ : Shape).numel) {A : ℕ} (h' : Shape.ReducesTo ⟨1, ![A]⟩ [0] ⟨0, ![]⟩)
    (x : FVec Ideal ⟨1, ![A]⟩ .f32) (j : (⟨0, ![]⟩ : Shape).Idx) :
    Host.reduceAdd x (constant ⟨0, ![]⟩ .f32 0x00000000#32 : FVec Ideal ⟨0, ![]⟩ .f32) h' hu j = ∑ k : Fin A, x (ix1 k) := by
  show Ideal.hostReduceAdd h' x (Ideal.ofBits .f32 0x00000000#32) j = _
  unfold Ideal.hostReduceAdd
  rw [show Ideal.ofBits .f32 0x00000000#32 = 0 from Ideal.ofBits_zero_f32, zero_add]
  symm
  refine Finset.sum_bij (fun k _ => ix1 k) ?_ ?_ ?_ ?_
  · intro k _
    exact Finset.mem_filter.mpr ⟨Finset.mem_univ _, funext fun d => d.elim0⟩
  · intro p _ q _ e
    exact congrFun e 0
  · intro i _
    refine ⟨i 0, Finset.mem_univ _, (funext fun d => ?_ : ix1 (i 0) = i)⟩
    match d with
    | ⟨0, _⟩ => rfl
  · intro k _; rfl

/-! ## Sums of squares -/

theorem sq_nonneg' (e : EReal) : 0 ≤ e * e := by
  rcases le_total 0 e with h | h
  · exact EReal.mul_nonneg_iff.mpr (Or.inl ⟨h, h⟩)
  · exact EReal.mul_nonneg_iff.mpr (Or.inr ⟨h, h⟩)

/-- A factor distributes over a sum of numbers none of which is negative. -/
theorem mul_sum_nonneg {ι : Type} (s : Finset ι) (f : ι → EReal) (hf : ∀ i, 0 ≤ f i) (c : EReal) : c * ∑ i ∈ s, f i = ∑ i ∈ s, c * f i := by
  classical
  induction s using Finset.induction_on with
  | empty => simp
  | insert a s ha ih => rw [Finset.sum_insert ha, Finset.sum_insert ha, EReal.left_distrib_of_nonneg (hf a) (Finset.sum_nonneg fun i _ => hf i), ih]

/-- A number that is not negative distributes over any sum. -/
theorem real_mul_sum {ι : Type} (s : Finset ι) (f : ι → EReal) {r : ℝ} (hr : 0 ≤ r) : (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-! ## Finite numbers -/

/-- A number, not an infinity. -/
abbrev IsReal (x : EReal) : Prop := ∃ r : ℝ, x = r

theorem IsReal.add' {x y : EReal} (hx : IsReal x) (hy : IsReal y) : IsReal (x + y) := by
  obtain ⟨a, rfl⟩ := hx; obtain ⟨b, rfl⟩ := hy; exact ⟨a + b, (EReal.coe_add a b).symm⟩

theorem isReal_dot {n : ℕ} (f g : Fin n → EReal) (hf : ∀ k, IsReal (f k)) (hg : ∀ k, IsReal (g k)) : IsReal (∑ k : Fin n, f k * g k) := by
  choose f' hf using hf
  choose g' hg using hg
  refine ⟨∑ k, f' k * g' k, ?_⟩
  rw [← coe_sum]
  exact Finset.sum_congr rfl fun k _ => by rw [hf, hg, EReal.coe_mul]

/-- Where the test that every absolute value is below the infinity holds, no entry is an infinity. -/
theorem real_of_test {φ : FTy} (w : BitVec φ.bits) (hw : Ideal.ofBits φ w = (⊤ : EReal)) {s : Shape} {axes : List (Fin s.rank)} (x : FVec Ideal s φ)
    (hb : (⟨0, ![]⟩ : Shape).BroadcastsInDim s (![] : Fin 0 → Fin s.rank)) (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ φ w))) (constantI ⟨0, ![]⟩ 1 1#1) hr hu j = 1#1)
    (i : s.Idx) : IsReal (x i) := by
  haveI : Subsingleton (⟨0, ![]⟩ : Shape).Idx := ⟨fun a b => funext fun k => k.elim0⟩
  have h : BitVec.ofBool (decide (max (x i) (-(x i)) < Ideal.ofBits φ w)) = 1#1 := Host.reduce_andi_all _ _ hr hu j e i
  rw [hw] at h
  have h' : max (x i) (-(x i)) < (⊤ : EReal) := by
    by_contra hn
    rw [decide_eq_false hn] at h
    exact absurd h (by decide)
  obtain ⟨h1, h2⟩ := max_lt_iff.mp h'
  have hbot : x i ≠ (⊥ : EReal) := fun hx => by rw [hx] at h2; simp at h2
  exact ⟨(x i : EReal).toReal, (EReal.coe_toReal h1.ne hbot).symm⟩

theorem top16 : Ideal.ofBits .bf16 0x7F80#16 = (⊤ : EReal) := by simp [Ideal.ofBits, Ideal.ieee]
theorem top32 : Ideal.ofBits .f32 0x7F800000#32 = (⊤ : EReal) := by simp [Ideal.ofBits, Ideal.ieee]

theorem IsReal.mul' {x y : EReal} (hx : IsReal x) (hy : IsReal y) : IsReal (x * y) := by
  obtain ⟨a, rfl⟩ := hx; obtain ⟨b, rfl⟩ := hy; exact ⟨a * b, (EReal.coe_mul a b).symm⟩

end Cert.NormGrad.Own
end
-- ==== Proof.DhHost.lean ====
module
public import proofs.«01_k».proof.Proof.Gen.ReferenceDhIdeal.Run
public import proofs.«01_k».proof.Proof.NormGrad
public import Idealize.ShloMosaic.Lib.MatmulPlain
public import Idealize.ShloMosaic.Lib.Pipeline.ValueKit.Geometry
public import Idealize.ShloMosaic.Lib.StackMember
public import Idealize.ShloMosaic.Lib.IdealHost
@[expose] public section
set_option maxRecDepth 16384
noncomputable section
namespace Cert.ReferenceDhIdeal.Own
open Cert.ReferenceDhIdeal Cert.ReferenceDhIdeal.Gen Idealize.ShloMosaic Idealize.ShloMosaic.TcCoe Idealize.SL.Sem
open Idealize.ShloMosaic.Tactic Idealize.ShloMosaic.ValueIdx
open Cert.NormGrad.Own (cEps red1 red2 red01 coe_sum)
open scoped BigOperators

/-! ## The gradient of a scaled, normalised row -/

/-- The row length as both programs write it. -/
def cLen : EReal := Ideal.ofBits .f32 0x44800000#32

theorem cLen_eq : cLen = ((1024 : ℝ) : EReal) := by
  unfold cLen
  simp [Ideal.ofBits, Ideal.ieee, -EReal.coe_mul]; norm_num

/-- The mean square of a row, and the constant. -/
abbrev ms (x : Fin 1024 → EReal) : EReal := Cert.NormGrad.Own.ms cLen x
/-- The factor that normalises a row. -/
abbrev rr (x : Fin 1024 → EReal) : EReal := Cert.NormGrad.Own.rr cLen x
/-- The gradient by a row `x`, as the kernel writes it: `d` the gradient of the modulated row, `s` one plus the scale, `g` the gain. -/
abbrev dxK (d s g x : Fin 1024 → EReal) (j : Fin 1024) : EReal := Cert.NormGrad.Own.dxK cLen (fun k => d k * s k * g k) x j
/-- The part of that gradient that comes through the mean square. -/
abbrev dms (d s g x : Fin 1024 → EReal) : EReal := Cert.NormGrad.Own.dms cLen (fun k => d k * s k * g k) x
/-- The gradient by a row as the chain rule gives it. -/
abbrev dxR (d s g x : Fin 1024 → EReal) (j : Fin 1024) : EReal := Cert.NormGrad.Own.dxR cLen (fun k => d k * s k * g k) x j

/-! ## The reference's values, one name for each -/

section
variable (X : FVec Ideal S8192x1024 .f32) (G : FVec Ideal S1x1024 .f32) (M : FVec Ideal S4x9x1024 .f32)
  (WG WU : FVec Ideal S1024x2816 .bf16) (DG DU : FVec Ideal S8192x2816 .bf16) (DR : FVec Ideal S8192x1024 .f32)

/-- The rows, by image and position. -/
def hX : FVec Ideal S4x2048x1024 .f32 := shapeCast _ X shapeCasts_S8192x1024_S4x2048x1024
/-- The mean squares. -/
def hMs : FVec Ideal S4x2048x1 .f32 := addf (Host.divf (broadcastInDim S4x2048x1 ![0, 1] bcast_S4x2048_S4x2048x1_0_1 (Host.reduceAdd (mulf (hX X) (hX X)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
/-- The normalising factors. -/
def hR : FVec Ideal S4x2048x1 .f32 := Host.rsqrt (hMs X)
/-- The normalised rows. -/
def hN : FVec Ideal S4x2048x1024 .f32 := mulf (hX X) (broadcastInDim S4x2048x1024 ![0, 1, 2] bcast_S4x2048x1_S4x2048x1024_0_1_2 (hR X))
/-- One plus the scale. -/
def hS : FVec Ideal S4x2048x1024 .f32 := broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 7, 0] M slices_S4x9x1024_S4x1x1024_0_7_0) shapeCasts_S4x1x1024_S4x1024)))
/-- The gain. -/
def hG : FVec Ideal S4x2048x1024 .f32 := broadcastInDim S4x2048x1024 ![0, 1, 2] bcast_S1x1x1024_S4x2048x1024_0_1_2 (broadcastInDim S1x1x1024 ![1, 2] bcast_S1x1024_S1x1x1024_1_2 G)
/-- The gradient of the modulated rows. -/
def hD : FVec Ideal S4x2048x1024 .f32 := shapeCast _ (addf (Host.dotGeneral dot_S8192x2816_S1024x2816_S8192x1024_1_1_0_0_n_n none (extf .f32 DU bitsLt_bf16_f32) (extf .f32 WU bitsLt_bf16_f32)) (Host.dotGeneral dot_S8192x2816_S1024x2816_S8192x1024_1_1_0_0_n_n none (extf .f32 DG bitsLt_bf16_f32) (extf .f32 WG bitsLt_bf16_f32))) shapeCasts_S8192x1024_S4x2048x1024
/-- The gradient of the rows after the gain. -/
def hA : FVec Ideal S4x2048x1024 .f32 := mulf (mulf (hD WG WU DG DU) (hS M)) (hG G)
/-- The gradient through the mean square. -/
def hQ : FVec Ideal S4x2048x1024 .f32 := broadcastInDim S4x2048x1024 ![0, 1] bcast_S4x2048_S4x2048x1024_0_1 (Host.reduceAdd (Host.divf (mulf (shapeCast _ (Host.reduceAdd (mulf (hX X) (hA G M WG WU DG DU)) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (hR X) (hMs X)))) (broadcastInDim S4x2048x1 ![] bcast_S_S4x2048x1 (constant S_ .f32 0x44800000#32))) (constant S_ .f32 0x00000000#32) reducesTo_S4x2048x1_S4x2048_d2 h_S_)

/-- The gradient by the rows. -/
def oX : FVec Ideal S8192x1024 .f32 := addf DR (shapeCast _ (addf (addf (mulf (hA G M WG WU DG DU) (broadcastInDim S4x2048x1024 ![0, 1, 2] bcast_S4x2048x1_S4x2048x1024_0_1_2 (hR X))) (mulf (hX X) (hQ X G M WG WU DG DU))) (mulf (hQ X G M WG WU DG DU) (hX X))) shapeCasts_S4x2048x1024_S8192x1024)
/-- The gradient by the gain. -/
def oG : FVec Ideal S1x1024 .f32 := broadcastInDim S1x1024 ![1] bcast_S1024_S1x1024_1 (Host.reduceAdd (shapeCast _ (Host.reduceAdd (mulf (hN X) (mulf (hD WG WU DG DU) (hS M))) (constant S_ .f32 0x00000000#32) reducesTo_S4x2048x1024_S1024_d0_1 h_S_) shapeCasts_S1024_S1x1x1024) (constant S_ .f32 0x00000000#32) reducesTo_S1x1x1024_S1024_d0_1 h_S_)
/-- The gradient by the scale. -/
def oS : FVec Ideal S4x1x1024 .f32 := shapeCast _ (Host.reduceAdd (mulf (mulf (hN X) (hG G)) (hD WG WU DG DU)) (constant S_ .f32 0x00000000#32) reducesTo_S4x2048x1024_S4x1024_d1 h_S_) shapeCasts_S4x1024_S4x1x1024
/-- The gradient by the shift. -/
def oB : FVec Ideal S4x1x1024 .f32 := shapeCast _ (Host.reduceAdd (hD WG WU DG DU) (constant S_ .f32 0x00000000#32) reducesTo_S4x2048x1024_S4x1024_d1 h_S_) shapeCasts_S4x1024_S4x1x1024

/-! ## The arrays by coordinates -/

/-- The row of position `s` of image `b`. -/
def rowOf (b : Fin 4) (s : Fin 2048) : Fin 8192 := ⟨b.val * 2048 + s.val, by omega⟩

/-- Row `i` of the rows. -/
def xRow (i : Fin 8192) (j : Fin 1024) : EReal := X (ix2 i j)
/-- The gain. -/
def gRow (j : Fin 1024) : EReal := G (ix2 0 j)
/-- One plus the scale of image `b`. -/
def sRow (b : Fin 4) (j : Fin 1024) : EReal := 1 + M (ix3 b 7 j)
/-- Row `i` of the gradient of the modulated rows. -/
def dRow (i : Fin 8192) (j : Fin 1024) : EReal :=
  (∑ k : Fin 2816, DG (ix2 i k) * WG (ix2 j k)) + ∑ k : Fin 2816, DU (ix2 i k) * WU (ix2 j k)

theorem hX_apply (b : Fin 4) (s : Fin 2048) (j : Fin 1024) : hX X (ix3 b s j) = xRow X (rowOf b s) j :=
  shapeCast_apply X _ _ (ix2 (rowOf b s) j) (by
    rw [Shape.rowMajor_val_three, Shape.rowMajor_val_two]
    show (b.val * 2048 + s.val) * 1024 + j.val = (b.val * 2048 + s.val) * 1024 + j.val
    rfl)

theorem splat_apply (c : BitVec 32) (i : S4x2048x1.Idx) :
    (broadcastInDim S4x2048x1 ![] bcast_S_S4x2048x1 (constant S_ .f32 c : FVec Ideal S_ .f32)) i = Ideal.ofBits .f32 c := rfl

theorem hMs_apply (b : Fin 4) (s : Fin 2048) : hMs X (ix3 b s 0) = ms (xRow X (rowOf b s)) := by
  have e : (broadcastInDim S4x2048x1 ![0, 1] bcast_S4x2048_S4x2048x1_0_1 (Host.reduceAdd (mulf (hX X) (hX X)) (constant S_ .f32 0x00000000#32) reducesTo_S4x2048x1024_S4x2048_d2 h_S_)) (ix3 b s 0) = ∑ k : Fin 1024, xRow X (rowOf b s) k * xRow X (rowOf b s) k := by
    refine (broadcastInDim_apply _ _ _ _ (ix2 b s) fun a => ?_).trans ?_
    · match a with
      | ⟨0, _⟩ => rfl
      | ⟨1, _⟩ => rfl
    · refine (red2 _ _ (by decide) _ b s).trans (Finset.sum_congr rfl fun k _ => ?_)
      show hX X (ix3 b s k) * hX X (ix3 b s k) = _
      rw [hX_apply]
  show Ideal.div _ (Ideal.ofBits .f32 0x44800000#32) + Ideal.ofBits .f32 0x358637BD#32 = _
  rw [e]; rfl

theorem hR_apply (b : Fin 4) (s : Fin 2048) : hR X (ix3 b s 0) = rr (xRow X (rowOf b s)) := by
  show Ideal.rsqrt (hMs X (ix3 b s 0)) = _
  rw [hMs_apply]; rfl

theorem hR_bcast (b : Fin 4) (s : Fin 2048) (j : Fin 1024) :
    (broadcastInDim S4x2048x1024 ![0, 1, 2] bcast_S4x2048x1_S4x2048x1024_0_1_2 (hR X)) (ix3 b s j) = rr (xRow X (rowOf b s)) := by
  refine (broadcastInDim_apply _ _ _ _ (ix3 b s 0) fun a => ?_).trans (hR_apply X b s)
  match a with
  | ⟨0, _⟩ => rfl
  | ⟨1, _⟩ => rfl
  | ⟨2, _⟩ => rfl

theorem hN_apply (b : Fin 4) (s : Fin 2048) (j : Fin 1024) : hN X (ix3 b s j) = xRow X (rowOf b s) j * rr (xRow X (rowOf b s)) := by
  show hX X (ix3 b s j) * _ = _
  rw [hX_apply, hR_bcast]

theorem hS_apply (b : Fin 4) (s : Fin 2048) (j : Fin 1024) : hS M (ix3 b s j) = sRow M b j := by
  refine (broadcastInDim_apply _ _ _ _ (ix3 b 0 j) fun a => ?_).trans ?_
  · match a with
    | ⟨0, _⟩ => rfl
    | ⟨1, _⟩ => rfl
    | ⟨2, _⟩ => rfl
  · show Ideal.ofBits .f32 0x3F800000#32 + _ = _
    rw [Ideal.ofBits_one_f32]
    refine congrArg (1 + ·) ?_
    refine (broadcastInDim_apply _ _ _ _ (ix2 b j) fun a => ?_).trans ?_
    · match a with
      | ⟨0, _⟩ => rfl
      | ⟨1, _⟩ => rfl
    · refine (shapeCast_apply _ _ _ (ix3 b 0 j) ?_).trans ?_
      · rw [Shape.rowMajor_val_three, Shape.rowMajor_val_two]
        show (b.val * 1 + 0) * 1024 + j.val = b.val * 1024 + j.val
        omega
      · refine extractStridedSlice_apply _ _ _ _ (ix3 b 7 j) fun a => ?_
        match a with
        | ⟨0, _⟩ => exact (Nat.zero_add _).symm
        | ⟨1, _⟩ => rfl
        | ⟨2, _⟩ => exact (Nat.zero_add _).symm

theorem hG_apply (b : Fin 4) (s : Fin 2048) (j : Fin 1024) : hG G (ix3 b s j) = gRow G j := by
  refine (broadcastInDim_apply _ _ _ _ (ix3 0 0 j) fun a => ?_).trans ?_
  · match a with
    | ⟨0, _⟩ => rfl
    | ⟨1, _⟩ => rfl
    | ⟨2, _⟩ => rfl
  · refine broadcastInDim_apply _ _ _ _ (ix2 0 j) fun a => ?_
    match a with
    | ⟨0, _⟩ => rfl
    | ⟨1, _⟩ => rfl

theorem dot_apply (x : FVec Ideal S8192x2816 .f32) (w : FVec Ideal S1024x2816 .f32) (i : Fin 8192) (j : Fin 1024) :
    (Host.dotGeneral dot_S8192x2816_S1024x2816_S8192x1024_1_1_0_0_n_n none x w : FVec Ideal S8192x1024 .f32) (ix2 i j)
      = ∑ k : Fin 2816, x (ix2 i k) * w (ix2 j k) := by
  rw [show dot_S8192x2816_S1024x2816_S8192x1024_1_1_0_0_n_n = DotDims.transposedRhs 8192 2816 1024 from rfl]
  refine (congrFun (matmul_zero_eq_dotGeneral (DotDims.transposedRhs 8192 2816 1024) none x w) (ix2 i j)).symm.trans ?_
  refine (Ideal.matmul_transposedRhs_apply none x w _ i j).trans ?_
  show (constant S8192x1024 .f32 0x00000000#32 (ix2 i j) : Ideal .f32) + _ = _
  simp [constant, Ideal.ofBits_def]

theorem hD_apply (b : Fin 4) (s : Fin 2048) (j : Fin 1024) : hD WG WU DG DU (ix3 b s j) = dRow WG WU DG DU (rowOf b s) j := by
  refine (shapeCast_apply _ _ _ (ix2 (rowOf b s) j) ?_).trans ?_
  · rw [Shape.rowMajor_val_three, Shape.rowMajor_val_two]
    show (b.val * 2048 + s.val) * 1024 + j.val = (b.val * 2048 + s.val) * 1024 + j.val
    rfl
  · refine (congrArg₂ (· + ·) (dot_apply _ _ _ _) (dot_apply _ _ _ _)).trans ?_
    exact add_comm _ _

theorem hA_apply (b : Fin 4) (s : Fin 2048) (j : Fin 1024) :
    hA G M WG WU DG DU (ix3 b s j) = dRow WG WU DG DU (rowOf b s) j * sRow M b j * gRow G j := by
  show hD WG WU DG DU (ix3 b s j) * hS M (ix3 b s j) * hG G (ix3 b s j) = _
  rw [hD_apply, hS_apply, hG_apply]

theorem hQ_apply (b : Fin 4) (s : Fin 2048) (j : Fin 1024) :
    hQ X G M WG WU DG DU (ix3 b s j) = dms (dRow WG WU DG DU (rowOf b s)) (sRow M b) (gRow G) (xRow X (rowOf b s)) := by
  refine (broadcastInDim_apply _ _ _ _ (ix2 b s) fun a => ?_).trans ?_
  · match a with
    | ⟨0, _⟩ => rfl
    | ⟨1, _⟩ => rfl
  · refine (red2 _ _ (by decide) _ b s).trans ?_
    rw [Fin.sum_univ_one]
    have e : (shapeCast _ (Host.reduceAdd (mulf (hX X) (hA G M WG WU DG DU)) (constant S_ .f32 0x00000000#32) reducesTo_S4x2048x1024_S4x2048_d2 h_S_) shapeCasts_S4x2048_S4x2048x1 : FVec Ideal S4x2048x1 .f32) (ix3 b s 0)
        = ∑ k : Fin 1024, xRow X (rowOf b s) k * (dRow WG WU DG DU (rowOf b s) k * sRow M b k * gRow G k) := by
      refine (shapeCast_apply _ _ _ (ix2 b s) ?_).trans ?_
      · rw [Shape.rowMajor_val_three, Shape.rowMajor_val_two]
        show b.val * 2048 + s.val = (b.val * 2048 + s.val) * 1 + 0
        omega
      · refine (red2 _ _ (by decide) _ b s).trans (Finset.sum_congr rfl fun k _ => ?_)
        show hX X (ix3 b s k) * hA G M WG WU DG DU (ix3 b s k) = _
        rw [hX_apply, hA_apply]
    show Ideal.div ((shapeCast _ (Host.reduceAdd (mulf (hX X) (hA G M WG WU DG DU)) (constant S_ .f32 0x00000000#32) reducesTo_S4x2048x1024_S4x2048_d2 h_S_) shapeCasts_S4x2048_S4x2048x1 : FVec Ideal S4x2048x1 .f32) (ix3 b s 0) * (Ideal.ofBits .f32 0xBF000000#32 * Ideal.div (hR X (ix3 b s 0)) (hMs X (ix3 b s 0)))) (Ideal.ofBits .f32 0x44800000#32) = _
    rw [e, hR_apply, hMs_apply]; rfl

/-- The gradient by the rows at image `b`, position `s`. -/
theorem oX_apply (b : Fin 4) (s : Fin 2048) (j : Fin 1024) :
    oX X G M WG WU DG DU DR (ix2 (rowOf b s) j) = DR (ix2 (rowOf b s) j) + dxR (dRow WG WU DG DU (rowOf b s)) (sRow M b) (gRow G) (xRow X (rowOf b s)) j := by
  refine congrArg (DR (ix2 (rowOf b s) j) + ·) ?_
  refine (shapeCast_apply _ _ _ (ix3 b s j) ?_).trans ?_
  · rw [Shape.rowMajor_val_three, Shape.rowMajor_val_two]
    show (b.val * 2048 + s.val) * 1024 + j.val = (b.val * 2048 + s.val) * 1024 + j.val
    rfl
  · show hA G M WG WU DG DU (ix3 b s j) * _ + hX X (ix3 b s j) * hQ X G M WG WU DG DU (ix3 b s j) + hQ X G M WG WU DG DU (ix3 b s j) * hX X (ix3 b s j) = _
    rw [hA_apply, hR_bcast, hX_apply, hQ_apply]; rfl

/-- The gradient by the gain. -/
theorem oG_apply (j : Fin 1024) :
    oG X M WG WU DG DU (ix2 0 j) = ∑ b : Fin 4, ∑ s : Fin 2048, xRow X (rowOf b s) j * rr (xRow X (rowOf b s)) * (dRow WG WU DG DU (rowOf b s) j * sRow M b j) := by
  refine (broadcastInDim_apply _ _ _ _ (ix1 j) fun a => ?_).trans ?_
  · match a with
    | ⟨0, _⟩ => rfl
  · refine (red01 _ _ _ j).trans ?_
    rw [Fin.sum_univ_one, Fin.sum_univ_one]
    refine (shapeCast_apply _ _ _ (ix1 j) ?_).trans ?_
    · rw [Shape.rowMajor_val_three, Shape.rowMajor_val_one]
      show j.val = (0 * 1 + 0) * 1024 + j.val
      omega
    · refine (red01 _ _ _ j).trans (Finset.sum_congr rfl fun b _ => Finset.sum_congr rfl fun s _ => ?_)
      show hN X (ix3 b s j) * (hD WG WU DG DU (ix3 b s j) * hS M (ix3 b s j)) = _
      rw [hN_apply, hD_apply, hS_apply]

theorem cast_row (x : FVec Ideal S4x1024 .f32) (b : Fin 4) (j : Fin 1024) : (shapeCast _ x shapeCasts_S4x1024_S4x1x1024 : FVec Ideal S4x1x1024 .f32) (ix3 b 0 j) = x (ix2 b j) :=
  shapeCast_apply _ _ _ (ix2 b j) (by
    rw [Shape.rowMajor_val_three, Shape.rowMajor_val_two]
    show b.val * 1024 + j.val = (b.val * 1 + 0) * 1024 + j.val
    omega)

/-- The gradient by the scale. -/
theorem oS_apply (b : Fin 4) (j : Fin 1024) :
    oS X G WG WU DG DU (ix3 b 0 j) = ∑ s : Fin 2048, xRow X (rowOf b s) j * rr (xRow X (rowOf b s)) * gRow G j * dRow WG WU DG DU (rowOf b s) j := by
  refine (cast_row _ b j).trans ((red1 _ _ (by decide) _ b j).trans (Finset.sum_congr rfl fun s _ => ?_))
  show hN X (ix3 b s j) * hG G (ix3 b s j) * hD WG WU DG DU (ix3 b s j) = _
  rw [hN_apply, hG_apply, hD_apply]

/-- The gradient by the shift. -/
theorem oB_apply (b : Fin 4) (j : Fin 1024) :
    oB WG WU DG DU (ix3 b 0 j) = ∑ s : Fin 2048, dRow WG WU DG DU (rowOf b s) j := by
  refine (cast_row _ b j).trans ((red1 _ _ (by decide) _ b j).trans (Finset.sum_congr rfl fun s _ => ?_))
  exact hD_apply WG WU DG DU b s j

end

end Cert.ReferenceDhIdeal.Own
-- ==== Proof.DhPay.lean ====
module
public import proofs.«01_k».proof.Proof.Gen.KernelDhIdeal.Skeleton
public import proofs.«01_k».proof.Proof.DhHost
public import Idealize.ShloMosaic.Lib.MatmulPlain
public import Idealize.ShloMosaic.Lib.Pipeline.ValueKit.Geometry
public import Idealize.ShloMosaic.Lib.ValueLayoutCasts
@[expose] public section
set_option maxRecDepth 16384
noncomputable section
namespace Cert.KernelDhIdeal.Own
open Cert.KernelDhIdeal Cert.KernelDhIdeal.Gen Idealize.ShloMosaic Idealize.ShloMosaic.TcCoe Idealize.SL.Sem
open Idealize.ShloMosaic.Tactic Idealize.ShloMosaic.ValueIdx
open Cert.NormGrad.Own (cEps)
open Cert.ReferenceDhIdeal.Own (cLen ms rr dxK)
open scoped BigOperators

/-! ## What the body computes from one block of 256 rows -/

/-- Row `p` of the gradient of the modulated rows, from the blocks. -/
def bD (v0 : FVec Ideal S256x2816 .bf16) (v1 : FVec Ideal S2816x1024 .bf16) (v4 : FVec Ideal S256x2816 .bf16) (v5 : FVec Ideal S2816x1024 .bf16) (p : Fin 256) (j : Fin 1024) : EReal :=
  (∑ k : Fin 2816, v0 (ix2 p k) * v1 (ix2 k j)) + ∑ k : Fin 2816, v4 (ix2 p k) * v5 (ix2 k j)

/-- Row `p` of the block of rows. -/
def bX (v9 : FVec Ideal S256x1024 .f32) (p : Fin 256) (j : Fin 1024) : EReal := v9 (ix2 p j)
/-- The gain. -/
def bG (v10 : FVec Ideal S1x1024 .f32) (j : Fin 1024) : EReal := v10 (ix2 0 j)
/-- One plus the scale. -/
def bS (v21 : FVec Ideal S1x1x1024 .f32) (j : Fin 1024) : EReal := 1 + v21 (ix3 0 0 j)

theorem mm_apply (x : FVec Ideal S256x2816 .bf16) (w : FVec Ideal S2816x1024 .bf16) (p : Fin 256) (j : Fin 1024) :
    (matmul dot_S256x2816_S2816x1024_S256x1024_1_0_0_1_n_n none x w (constant S256x1024 .f32 0x00000000#32) : FVec Ideal S256x1024 .f32) (ix2 p j) = ∑ k : Fin 2816, x (ix2 p k) * w (ix2 k j) := by
  have e : dot_S256x2816_S2816x1024_S256x1024_1_0_0_1_n_n = DotDims.plain 256 2816 1024 := rfl
  rw [e]
  refine (Ideal.matmul_plain_apply none x w _ p j).trans ?_
  show (constant S256x1024 .f32 0x00000000#32 (ix2 p j) : Ideal .f32) + _ = _
  simp [constant, Ideal.ofBits_def]

/-- The sum over the rows of a block. -/
theorem sum_rows (x : FVec Ideal S256x1024 .f32) (j : Fin 1024) :
    (shapeCast S1x1024 (multiReduction .add [0] S1024 x 0x00000000#32 reduces_S256x1024_S1024 (.inl rfl) rfl) shapeCasts_S1024_S1x1024 : FVec Ideal S1x1024 .f32) (ix2 0 j) = ∑ p : Fin 256, x (ix2 p j) := by
  refine (shapeCast_apply _ _ _ (ix1 j) ?_).trans ?_
  · rw [Shape.rowMajor_val_one, Shape.rowMajor_val_two]
    show j.val = 0 * 1024 + j.val
    omega
  · refine (Ideal.multiReduction_add_single (a := 0) x _ reduces_S256x1024_S1024 (.inl rfl) rfl (ix1 j)).trans ?_
    refine Finset.sum_congr rfl fun k _ => congrArg x (funext fun d => Fin.ext ?_)
    match d with
    | ⟨0, _⟩ => rfl
    | ⟨1, _⟩ => rfl

/-- The sum along a row of a block. -/
theorem sum_lanes (x : FVec Ideal S256x1024 .f32) (p : Fin 256) :
    (shapeCast S256x1 (multiReduction .add [1] S256 x 0x00000000#32 reduces_S256x1024_S256 (.inl rfl) rfl) shapeCasts_S256_S256x1 : FVec Ideal S256x1 .f32) (ix2 p 0) = ∑ k : Fin 1024, x (ix2 p k) := by
  refine (shapeCast_apply _ _ _ (ix1 p) ?_).trans ?_
  · rw [Shape.rowMajor_val_one, Shape.rowMajor_val_two]
    show p.val = p.val * 1 + 0
    omega
  · refine (Ideal.multiReduction_add_single (a := 1) x _ reduces_S256x1024_S256 (.inl rfl) rfl (ix1 p)).trans ?_
    refine Finset.sum_congr rfl fun k _ => congrArg x (funext fun d => Fin.ext ?_)
    match d with
    | ⟨0, _⟩ => rfl
    | ⟨1, _⟩ => rfl

theorem col_bcast (x : FVec Ideal S256x1 .f32) (p : Fin 256) (j : Fin 1024) :
    (broadcastTo S256x1024 x broadcasts_S256x1_S256x1024 : FVec Ideal S256x1024 .f32) (ix2 p j) = x (ix2 p 0) :=
  broadcastTo_apply x _ _ (ix2 p 0) fun a => match a with
    | ⟨0, _⟩ => rfl
    | ⟨1, _⟩ => rfl

theorem row_bcast (x : FVec Ideal S1x1024 .f32) (p : Fin 256) (j : Fin 1024) :
    (broadcastTo S256x1024 x broadcasts_S1x1024_S256x1024 : FVec Ideal S256x1024 .f32) (ix2 p j) = x (ix2 0 j) :=
  broadcastTo_apply x _ _ (ix2 0 j) fun a => match a with
    | ⟨0, _⟩ => rfl
    | ⟨1, _⟩ => rfl

theorem up_cast (x : FVec Ideal S1x1024 .f32) (j : Fin 1024) :
    (shapeCast S1x1x1024 x shapeCasts_S1x1024_S1x1x1024 : FVec Ideal S1x1x1024 .f32) (ix3 0 0 j) = x (ix2 0 j) :=
  shapeCast_apply _ _ _ (ix2 0 j) (by
    rw [Shape.rowMajor_val_three, Shape.rowMajor_val_two]
    show 0 * 1024 + j.val = (0 * 1 + 0) * 1024 + j.val
    omega)

theorem down_cast (x : FVec Ideal S1x1x1024 .f32) (j : Fin 1024) :
    (shapeCast S1x1024 x shapeCasts_S1x1x1024_S1x1024 : FVec Ideal S1x1024 .f32) (ix2 0 j) = x (ix3 0 0 j) :=
  shapeCast_apply _ _ _ (ix3 0 0 j) (by
    rw [Shape.rowMajor_val_three, Shape.rowMajor_val_two]
    show (0 * 1 + 0) * 1024 + j.val = 0 * 1024 + j.val
    omega)

variable (v0 : FVec Ideal S256x2816 .bf16) (v1 : FVec Ideal S2816x1024 .bf16) (v4 : FVec Ideal S256x2816 .bf16) (v5 : FVec Ideal S2816x1024 .bf16)
  (v9 : FVec Ideal S256x1024 .f32) (v10 : FVec Ideal S1x1024 .f32) (v21 : FVec Ideal S1x1x1024 .f32) (v65 : FVec Ideal S256x1024 .f32)

theorem pay7_apply (p : Fin 256) (j : Fin 1024) : k0_pay7 (F := Ideal) v0 v1 v4 v5 (ix2 p j) = bD v0 v1 v4 v5 p j := by
  unfold k0_pay7
  simp only [shapeCast_self]
  exact congrArg₂ (· + ·) (mm_apply v0 v1 p j) (mm_apply v4 v5 p j)

theorem pay8_apply (p : Fin 256) : k0_pay8 (F := Ideal) v9 (ix2 p 0) = rr (bX v9 p) :=
  congrArg (fun z : EReal => Ideal.rsqrt (Ideal.div z cLen + cEps)) (sum_lanes (mulf v9 v9) p)

theorem pay9_apply (p : Fin 256) (j : Fin 1024) : k0_pay9 (F := Ideal) v9 (ix2 p j) = bX v9 p j * rr (bX v9 p) :=
  congrArg (v9 (ix2 p j) * ·) ((col_bcast _ p j).trans (pay8_apply v9 p))

theorem pay10_apply (p : Fin 256) (j : Fin 1024) : k0_pay10 (F := Ideal) v0 v1 v4 v5 v21 (ix2 p j) = bD v0 v1 v4 v5 p j * bS v21 j := by
  refine congrArg₂ (· * ·) (pay7_apply v0 v1 v4 v5 p j) ((row_bcast _ p j).trans ?_)
  exact congrArg₂ (· + ·) Ideal.ofBits_one_f32 (down_cast v21 j)

theorem pay12_apply (j : Fin 1024) : k0_pay12 (F := Ideal) v0 v1 v4 v5 (ix2 0 j) = ∑ p : Fin 256, bD v0 v1 v4 v5 p j :=
  (sum_rows _ j).trans (Finset.sum_congr rfl fun p _ => pay7_apply v0 v1 v4 v5 p j)

theorem pay1_apply (j : Fin 1024) : k0_pay1 (F := Ideal) (k0_pay12 v0 v1 v4 v5) (ix3 0 0 j) = ∑ p : Fin 256, bD v0 v1 v4 v5 p j :=
  (up_cast _ j).trans (pay12_apply v0 v1 v4 v5 j)

theorem pay11_apply (j : Fin 1024) : k0_pay11 (F := Ideal) v0 v1 v4 v5 v9 v10 (ix3 0 0 j) = ∑ p : Fin 256, bD v0 v1 v4 v5 p j * (bX v9 p j * rr (bX v9 p)) * bG v10 j := by
  refine (up_cast _ j).trans ((sum_rows _ j).trans (Finset.sum_congr rfl fun p _ => ?_))
  exact congrArg₂ (· * ·) (congrArg₂ (· * ·) (pay7_apply v0 v1 v4 v5 p j) (pay9_apply v9 p j)) (row_bcast v10 p j)

theorem pay4_apply (j : Fin 1024) : k0_pay4 (F := Ideal) (k0_pay9 v9) (k0_pay10 v0 v1 v4 v5 v21) (ix2 0 j) = ∑ p : Fin 256, bD v0 v1 v4 v5 p j * bS v21 j * (bX v9 p j * rr (bX v9 p)) := by
  refine (sum_rows _ j).trans (Finset.sum_congr rfl fun p _ => ?_)
  exact congrArg₂ (· * ·) (pay10_apply v0 v1 v4 v5 v21 p j) (pay9_apply v9 p j)

theorem pay6_apply (p : Fin 256) (j : Fin 1024) : k0_pay6 (F := Ideal) v10 (k0_pay8 v9) (k0_pay9 v9) (k0_pay10 v0 v1 v4 v5 v21) v65 (ix2 p j) = dxK (bD v0 v1 v4 v5 p) (bS v21) (bG v10) (bX v9 p) j + v65 (ix2 p j) := by
  have a (k : Fin 1024) : (mulf (k0_pay10 (F := Ideal) v0 v1 v4 v5 v21) (broadcastTo S256x1024 v10 broadcasts_S1x1024_S256x1024) : FVec Ideal S256x1024 .f32) (ix2 p k) = bD v0 v1 v4 v5 p k * bS v21 k * bG v10 k :=
    congrArg₂ (· * ·) (pay10_apply v0 v1 v4 v5 v21 p k) (row_bcast v10 p k)
  refine congrArg (· + v65 (ix2 p j)) ?_
  refine congrArg₂ (· * ·) ((col_bcast _ p j).trans (pay8_apply v9 p)) (congrArg₂ (fun u w : EReal => u - w) (a j) ?_)
  refine congrArg₂ (· * ·) (pay9_apply v9 p j) ((col_bcast _ p j).trans ?_)
  refine congrArg (fun z : EReal => Ideal.div z cLen) ((sum_lanes _ p).trans (Finset.sum_congr rfl fun k _ => ?_))
  exact congrArg₂ (· * ·) (a k) (pay9_apply v9 p k)

end Cert.KernelDhIdeal.Own
end
-- ==== Proof.Dh.lean ====
module
public import proofs.«01_k».proof.Proof.Gen.KernelDhIdeal.Value
public import proofs.«01_k».proof.Proof.DhPay
public import proofs.«01_k».proof.Proof.Gen.Pre_finite_dh
public import proofs.«01_k».proof.Defs
public import Idealize.ShloMosaic.Lib.Pipeline.ValueKit.Geometry
public import Idealize.ShloMosaic.Lib.Pipeline.ValueKit.Acc
public import Idealize.ShloMosaic.Lib.ReduceAll
public import Idealize.ShloMosaic.Lib.IdealHost
@[expose] public section
set_option maxRecDepth 16384
noncomputable section
namespace Cert.KernelDhIdeal.Own
open Cert.KernelDhIdeal Cert.KernelDhIdeal.Gen Idealize.ShloMosaic Idealize.ShloMosaic.TcCoe Idealize.SL.Sem
open Idealize.ShloMosaic.Tactic Idealize.ShloMosaic.ValueIdx
open Cert.NormGrad.Own (IsReal IsReal.add' IsReal.mul' isReal_dot real_of_test top16 top32 dx_eq)
open Cert.ReferenceDhIdeal.Own (cLen cLen_eq ms rr dxK dxR rowOf xRow gRow sRow dRow)
open scoped BigOperators

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 8, 0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val / 8, 0, 0] := (by decide +kernel : ∀ t : Fin grid0.N, _)
theorem index11 : ∀ t : Fin cfg0.N, win0_11.index t = ![t.val / 8, 0, 0] := (by decide +kernel : ∀ t : Fin grid0.N, _)

theorem V_v0 (c : Dev nD) : V m c main_v0 = transpose S2816x1024 [1, 0] (m ((c : Thread nD τ).loc main_arg3)) transposes_S1024x2816_S2816x1024_1_0 := by
  simp only [V, hostOps0]; after_results
theorem V_v1 (c : Dev nD) : V m c main_v1 = transpose S2816x1024 [1, 0] (m ((c : Thread nD τ).loc main_arg4)) transposes_S1024x2816_S2816x1024_1_0 := by
  simp only [V, hostOps0]; after_results

theorem trans_apply {a b : ℕ} (X : FVec Ideal ⟨2, ![a, b]⟩ .bf16) (h : (⟨2, ![a, b]⟩ : Shape).Transposes [1, 0] ⟨2, ![b, a]⟩) (p : Fin b) (q : Fin a) :
    (transpose ⟨2, ![b, a]⟩ [1, 0] X h : FVec Ideal ⟨2, ![b, a]⟩ .bf16) (ix2 p q) = X (ix2 q p) :=
  transpose_apply (s := ⟨2, ![a, b]⟩) (t := ⟨2, ![b, a]⟩) [1, 0] X h (ix2 p q) (ix2 q p) (fun b => by fin_cases b <;> rfl)

/-! ## The arguments by rows -/

/-- Row `i` of the gradient of the modulated rows. -/
abbrev aD (c : Dev nD) (i : Fin 8192) (j : Fin 1024) : EReal :=
  dRow (m ((c : Thread nD τ).loc main_arg3)) (m ((c : Thread nD τ).loc main_arg4)) (m ((c : Thread nD τ).loc main_arg5)) (m ((c : Thread nD τ).loc main_arg6)) i j
/-- Row `i` of the rows. -/
abbrev aX (c : Dev nD) (i : Fin 8192) (j : Fin 1024) : EReal := xRow (m ((c : Thread nD τ).loc main_arg0)) i j
/-- The gain. -/
abbrev aG (c : Dev nD) (j : Fin 1024) : EReal := gRow (m ((c : Thread nD τ).loc main_arg1)) j
/-- One plus the scale of image `b`. -/
abbrev aS (c : Dev nD) (b : Fin 4) (j : Fin 1024) : EReal := sRow (m ((c : Thread nD τ).loc main_arg2)) b j

/-- Row `p` of the block of point `t`. -/
def rowT (t : Fin cfg0.N) (p : Fin 256) : Fin 8192 := ⟨t.val * 256 + p.val, by have := lt_of_lt_of_eq t.isLt N_0; omega⟩
/-- The image of point `t`. -/
def imgT (t : Fin cfg0.N) : Fin 4 := ⟨t.val / 8, by have := lt_of_lt_of_eq t.isLt N_0; omega⟩

theorem bX_blk (c : Dev nD) (t : Fin cfg0.N) (p : Fin 256) : bX (iblk m c 4 t) p = aX m c (rowT t p) := by
  funext j
  show iblk m c 4 t (ix2 p j) = m ((c : Thread nD τ).loc main_arg0) (ix2 (rowT t p) j)
  rw [← V_main_arg0 m c]
  blk_simp [iblk]
  refine congrArg (V m c main_arg0) ?_
  blk_ext [index4, ix2, rowT]

theorem bG_blk (c : Dev nD) (t : Fin cfg0.N) : bG (iblk m c 5 t) = aG m c := by
  funext j
  show iblk m c 5 t (ix2 0 j) = m ((c : Thread nD τ).loc main_arg1) (ix2 0 j)
  rw [← V_main_arg1 m c]
  blk_simp [iblk]
  refine congrArg (V m c main_arg1) ?_
  blk_ext [index5, ix2]

theorem bR_blk (c : Dev nD) (t : Fin cfg0.N) (p : Fin 256) (j : Fin 1024) : iblk m c 7 t (ix2 p j) = m ((c : Thread nD τ).loc main_arg7) (ix2 (rowT t p) j) := by
  rw [← V_main_arg7 m c]
  blk_simp [iblk]
  refine congrArg (V m c main_arg7) ?_
  blk_ext [index7, ix2, rowT]

theorem b0_blk (c : Dev nD) (t : Fin cfg0.N) (p : Fin 256) (k : Fin 2816) : iblk m c 0 t (ix2 p k) = m ((c : Thread nD τ).loc main_arg5) (ix2 (rowT t p) k) := by
  rw [← V_main_arg5 m c]
  blk_simp [iblk]
  refine congrArg (V m c main_arg5) ?_
  blk_ext [index0, ix2, rowT]

theorem b1_blk (c : Dev nD) (t : Fin cfg0.N) (p : Fin 256) (k : Fin 2816) : iblk m c 1 t (ix2 p k) = m ((c : Thread nD τ).loc main_arg6) (ix2 (rowT t p) k) := by
  rw [← V_main_arg6 m c]
  blk_simp [iblk]
  refine congrArg (V m c main_arg6) ?_
  blk_ext [index1, ix2, rowT]

theorem b2_blk (c : Dev nD) (t : Fin cfg0.N) (k : Fin 2816) (j : Fin 1024) : iblk m c 2 t (ix2 k j) = m ((c : Thread nD τ).loc main_arg3) (ix2 j k) := by
  refine Eq.trans ?_ ((congrFun (V_v0 m c) (ix2 k j)).trans (trans_apply (a := 1024) (b := 2816) _ _ k j))
  blk_simp [iblk]
  refine congrArg (V m c main_v0) ?_
  blk_ext [index2, ix2]

theorem b3_blk (c : Dev nD) (t : Fin cfg0.N) (k : Fin 2816) (j : Fin 1024) : iblk m c 3 t (ix2 k j) = m ((c : Thread nD τ).loc main_arg4) (ix2 j k) := by
  refine Eq.trans ?_ ((congrFun (V_v1 m c) (ix2 k j)).trans (trans_apply (a := 1024) (b := 2816) _ _ k j))
  blk_simp [iblk]
  refine congrArg (V m c main_v1) ?_
  blk_ext [index3, ix2]

theorem bD_blk (c : Dev nD) (t : Fin cfg0.N) (p : Fin 256) : bD (iblk m c 0 t) (iblk m c 2 t) (iblk m c 1 t) (iblk m c 3 t) p = aD m c (rowT t p) := by
  funext j
  refine congrArg₂ (· + ·) (Finset.sum_congr rfl fun k _ => ?_) (Finset.sum_congr rfl fun k _ => ?_)
  · exact congrArg₂ (· * ·) (b0_blk m c t p k) (b2_blk m c t k j)
  · exact congrArg₂ (· * ·) (b1_blk m c t p k) (b3_blk m c t k j)

/-- The row of the modulation the body loads. -/
abbrev modRow (c : Dev nD) (t : Fin cfg0.N) : FVec Ideal S1x1x1024 .f32 :=
  View.ld (iblk m c 6 t) (Rect.unit (s := S1x9x1024) ![0, 7, 0] S1x1x1024.size inb_S1x9x1024_S1x1x1024_0_7_0)

theorem bS_blk (c : Dev nD) (t : Fin cfg0.N) : bS (modRow m c t) = aS m c (imgT t) := by
  funext j
  refine congrArg (1 + ·) ?_
  have e : modRow m c t (ix3 0 0 j) = iblk m c 6 t (ix3 0 7 j) := congrArg (iblk m c 6 t) (funext fun a => Fin.ext (by
    match a with
    | ⟨0, _⟩ => rfl
    | ⟨1, _⟩ => rfl
    | ⟨2, _⟩ => exact (Nat.zero_add _).trans (Nat.one_mul _)))
  rw [e, ← V_main_arg2 m c]
  blk_simp [iblk]
  refine congrArg (V m c main_arg2) ?_
  blk_ext [index6, ix3, imgT]

/-! ## What the points leave -/

theorem eq_row1 (y : S1x1024.Idx) : y = ix2 0 (y 1) := by
  refine funext fun a => Fin.ext ?_
  match a with
  | ⟨0, _⟩ => have : (y 0).val < 1 := (y 0).isLt; show (y 0).val = 0; omega
  | ⟨1, _⟩ => rfl

theorem eq_row2 (y : S1x1x1024.Idx) : y = ix3 0 0 (y 2) := by
  refine funext fun a => Fin.ext ?_
  match a with
  | ⟨0, _⟩ => have : (y 0).val < 1 := (y 0).isLt; show (y 0).val = 0; omega
  | ⟨1, _⟩ => have : (y 1).val < 1 := (y 1).isLt; show (y 1).val = 0; omega
  | ⟨2, _⟩ => rfl

/-- One point's addend to the gradient by the gain. -/
def tG (c : Dev nD) (t : Fin cfg0.N) (y : S1x1024.Idx) : EReal :=
  ∑ p : Fin 256, aD m c (rowT t p) (y 1) * aS m c (imgT t) (y 1) * (aX m c (rowT t p) (y 1) * rr (aX m c (rowT t p)))
/-- One point's addend to the gradient by the scale. -/
def tS (c : Dev nD) (t : Fin cfg0.N) (y : S1x1x1024.Idx) : EReal :=
  ∑ p : Fin 256, aD m c (rowT t p) (y 2) * (aX m c (rowT t p) (y 2) * rr (aX m c (rowT t p))) * aG m c (y 2)
/-- One point's addend to the gradient by the shift. -/
def tB (c : Dev nD) (t : Fin cfg0.N) (y : S1x1x1024.Idx) : EReal := ∑ p : Fin 256, aD m c (rowT t p) (y 2)

theorem pay4_blk (c : Dev nD) (t : Fin cfg0.N) (y : S1x1024.Idx) :
    k0_pay4 (F := Ideal) (k0_pay9 (iblk m c 4 t)) (k0_pay10 (iblk m c 0 t) (iblk m c 2 t) (iblk m c 1 t) (iblk m c 3 t) (modRow m c t)) y = tG m c t y := by
  rw [eq_row1 y]
  refine (pay4_apply _ _ _ _ _ _ (y 1)).trans (Finset.sum_congr rfl fun p _ => ?_)
  rw [bD_blk, bS_blk, bX_blk]

theorem pay11_blk (c : Dev nD) (t : Fin cfg0.N) (y : S1x1x1024.Idx) :
    k0_pay11 (F := Ideal) (iblk m c 0 t) (iblk m c 2 t) (iblk m c 1 t) (iblk m c 3 t) (iblk m c 4 t) (iblk m c 5 t) y = tS m c t y := by
  rw [eq_row2 y]
  refine (pay11_apply _ _ _ _ _ _ (y 2)).trans (Finset.sum_congr rfl fun p _ => ?_)
  rw [bD_blk, bG_blk, bX_blk]

theorem pay1_blk (c : Dev nD) (t : Fin cfg0.N) (y : S1x1x1024.Idx) :
    k0_pay1 (F := Ideal) (k0_pay12 (iblk m c 0 t) (iblk m c 2 t) (iblk m c 1 t) (iblk m c 3 t)) y = tB m c t y := by
  rw [eq_row2 y]
  refine (pay1_apply _ _ _ _ (y 2)).trans (Finset.sum_congr rfl fun p _ => ?_)
  rw [bD_blk]

/-- The gradient by the rows as the kernel leaves it. -/
def oK (c : Dev nD) (i : S8192x1024.Idx) : EReal :=
  dxK (aD m c (i 0)) (aS m c ⟨(i 0).val / 2048, by have : (i 0).val < 8192 := (i 0).isLt; omega⟩) (aG m c) (aX m c (i 0)) (i 1) + m ((c : Thread nD τ).loc main_arg7) i

theorem pay6_blk (c : Dev nD) (t : Fin cfg0.N) (y : S256x1024.Idx) :
    k0_pay6 (F := Ideal) (iblk m c 5 t) (k0_pay8 (iblk m c 4 t)) (k0_pay9 (iblk m c 4 t)) (k0_pay10 (iblk m c 0 t) (iblk m c 2 t) (iblk m c 1 t) (iblk m c 3 t) (modRow m c t)) (iblk m c 7 t) y = oK m c (ix2 (rowT t (y 0)) (y 1)) := by
  obtain ⟨p, j, rfl⟩ : ∃ p j, y = ix2 p j := ⟨y 0, y 1, eq_ix2 y⟩
  refine (pay6_apply _ _ _ _ _ _ _ _ p j).trans ?_
  rw [bD_blk, bS_blk, bG_blk, bX_blk, bR_blk]
  have e : imgT t = ⟨(rowT t p).val / 2048, by have := (rowT t p).isLt; omega⟩ :=
    Fin.ext (by show t.val / 8 = (t.val * 256 + p.val) / 2048; omega)
  rw [e]; rfl

theorem out8 (c : Dev nD) (t : Fin cfg0.N) (y : S256x1024.Idx) : (outsAt0 m c t.val t.isLt).1 y = oK m c (ix2 (rowT t (y 0)) (y 1)) := by
  have hN : t.val < 32 := lt_of_lt_of_eq t.isLt N_0
  rw [← pay6_blk m c t y]
  by_cases h0 : t.val % 8 = 0
  · by_cases h2 : t.val % 32 = 0
    · rw [outsAt0_A m c t (by omega) (by omega) (by omega) (by omega)]
      frame_out
      rfl
    · rw [outsAt0_C m c t (by omega) (by omega) (by omega) (by omega)]
      frame_out
      rfl
  · rw [outsAt0_B m c t (by omega) (by omega) (by omega) (by omega)]
    frame_out
    rfl

/-- The gradient by the gain at the last point. -/
theorem last9 (c : Dev nD) (t : Fin cfg0.N) (ht : t.val % 32 = 31) (y : S1x1024.Idx) :
    (outsAt0 m c t.val t.isLt).2.1 y = (0 : EReal) + ∑ s : Fin 32, tG m c ⟨32 * (t.val / 32) + s.val, Pipeline.run_point_lt_of_flush t ht s⟩ y := by
  refine Pipeline.eq_sum_fin_of_reset_step_apply_of_flush (fun n h => (outsAt0 m c n h).2.1) 32 (fun _ => (0 : EReal)) (tG m c) (fun t h y => ?_) (fun t h y => ?_) t ht y
  · have hN : t.val < 32 := lt_of_lt_of_eq t.isLt N_0
    rw [outsAt0_A m c t (by omega) (by omega) (by omega) (by omega), zero_add, ← pay4_blk m c t y]
    frame_out
    rfl
  · have hN : t.val < 32 := lt_of_lt_of_eq t.isLt N_0
    rw [← pay4_blk m c t y]
    by_cases h0 : t.val % 8 = 0
    · rw [outsAt0_C m c t (by omega) (by omega) (by omega) (by omega)]
      frame_out
      simp only [k0_pay5, shapeCast_self]
      rfl
    · rw [outsAt0_B m c t (by omega) (by omega) (by omega) (by omega)]
      frame_out
      simp only [k0_pay5, shapeCast_self]
      rfl

/-- The gradient by the scale at an image's last point. -/
theorem last10 (c : Dev nD) (t : Fin cfg0.N) (ht : t.val % 8 = 7) (y : S1x1x1024.Idx) :
    (outsAt0 m c t.val t.isLt).2.2.1 y = (0 : EReal) + ∑ s : Fin 8, tS m c ⟨8 * (t.val / 8) + s.val, Pipeline.run_point_lt_of_flush t ht s⟩ y := by
  refine Pipeline.eq_sum_fin_of_reset_step_apply_of_flush (fun n h => (outsAt0 m c n h).2.2.1) 8 (fun _ => (0 : EReal)) (tS m c) (fun t h y => ?_) (fun t h y => ?_) t ht y
  · have hN : t.val < 32 := lt_of_lt_of_eq t.isLt N_0
    rw [zero_add, ← pay11_blk m c t y]
    by_cases h2 : t.val % 32 = 0
    · rw [outsAt0_A m c t (by omega) (by omega) (by omega) (by omega)]
      frame_out
    · rw [outsAt0_C m c t (by omega) (by omega) (by omega) (by omega)]
      frame_out
  · have hN : t.val < 32 := lt_of_lt_of_eq t.isLt N_0
    rw [← pay11_blk m c t y, outsAt0_B m c t (by omega) (by omega) (by omega) (by omega)]
    frame_out
    simp only [k0_pay2, shapeCast_self]
    rfl

/-- The gradient by the shift at an image's last point. -/
theorem last11 (c : Dev nD) (t : Fin cfg0.N) (ht : t.val % 8 = 7) (y : S1x1x1024.Idx) :
    (outsAt0 m c t.val t.isLt).2.2.2 y = (0 : EReal) + ∑ s : Fin 8, tB m c ⟨8 * (t.val / 8) + s.val, Pipeline.run_point_lt_of_flush t ht s⟩ y := by
  refine Pipeline.eq_sum_fin_of_reset_step_apply_of_flush (fun n h => (outsAt0 m c n h).2.2.2) 8 (fun _ => (0 : EReal)) (tB m c) (fun t h y => ?_) (fun t h y => ?_) t ht y
  · have hN : t.val < 32 := lt_of_lt_of_eq t.isLt N_0
    rw [zero_add, ← pay1_blk m c t y]
    by_cases h2 : t.val % 32 = 0
    · rw [outsAt0_A m c t (by omega) (by omega) (by omega) (by omega)]
      frame_out
    · rw [outsAt0_C m c t (by omega) (by omega) (by omega) (by omega)]
      frame_out
  · have hN : t.val < 32 := lt_of_lt_of_eq t.isLt N_0
    rw [← pay1_blk m c t y, outsAt0_B m c t (by omega) (by omega) (by omega) (by omega)]
    frame_out
    simp only [k0_pay3, shapeCast_self]
    rfl

/-! ## The result arrays -/

/-- One row's addend to the gradient by the gain. -/
def eG (c : Dev nD) (i : Fin 8192) (j : Fin 1024) : EReal :=
  aD m c i j * aS m c ⟨i.val / 2048, by omega⟩ j * (aX m c i j * rr (aX m c i))
/-- One row's addend to the gradient by the scale. -/
def eS (c : Dev nD) (i : Fin 8192) (j : Fin 1024) : EReal := aD m c i j * (aX m c i j * rr (aX m c i)) * aG m c j

theorem rowT_img {t : Fin cfg0.N} (ht : t.val % 8 = 7) (s : Fin 8) (p : Fin 256) (hl : s.val * 256 + p.val < 2048) :
    rowT ⟨8 * (t.val / 8) + s.val, Pipeline.run_point_lt_of_flush t ht s⟩ p = rowOf (imgT t) ⟨s.val * 256 + p.val, hl⟩ :=
  Fin.ext (by show (8 * (t.val / 8) + s.val) * 256 + p.val = t.val / 8 * 2048 + (s.val * 256 + p.val); omega)

theorem out9 (c : Dev nD) (t : Fin cfg0.N) (ht : t.val % 32 = 31) (y : S1x1024.Idx) :
    (outsAt0 m c t.val t.isLt).2.1 y = ∑ i : Fin 8192, eG m c i (y 1) := by
  rw [last9 m c t ht, zero_add]
  have hN : t.val < 32 := lt_of_lt_of_eq t.isLt N_0
  refine Fin.sum_mul_add_congr (S := 32) (n := 256) fun s p hl => ?_
  have e : rowT ⟨32 * (t.val / 32) + s.val, Pipeline.run_point_lt_of_flush t ht s⟩ p = ⟨s.val * 256 + p.val, hl⟩ :=
    Fin.ext (by show (32 * (t.val / 32) + s.val) * 256 + p.val = s.val * 256 + p.val; omega)
  have e' : imgT ⟨32 * (t.val / 32) + s.val, Pipeline.run_point_lt_of_flush t ht s⟩ = ⟨(s.val * 256 + p.val) / 2048, by omega⟩ :=
    Fin.ext (by show (32 * (t.val / 32) + s.val) / 8 = (s.val * 256 + p.val) / 2048; omega)
  rw [e, e']; rfl

/-- The gradient by the scale as the kernel leaves it. -/
def kS (c : Dev nD) (z : S4x1x1024.Idx) : EReal := ∑ s : Fin 2048, eS m c (rowOf (z 0) s) (z 2)
/-- The gradient by the shift as the kernel leaves it. -/
def kB (c : Dev nD) (z : S4x1x1024.Idx) : EReal := ∑ s : Fin 2048, aD m c (rowOf (z 0) s) (z 2)

theorem out10 (c : Dev nD) (t : Fin cfg0.N) (ht : t.val % 8 = 7) (y : S1x1x1024.Idx) :
    (outsAt0 m c t.val t.isLt).2.2.1 y = kS m c (ix3 (imgT t) 0 (y 2)) := by
  rw [last10 m c t ht, zero_add]
  refine Fin.sum_mul_add_congr (S := 8) (n := 256) fun s p hl => ?_
  rw [rowT_img ht s p hl]; rfl

theorem out11 (c : Dev nD) (t : Fin cfg0.N) (ht : t.val % 8 = 7) (y : S1x1x1024.Idx) :
    (outsAt0 m c t.val t.isLt).2.2.2 y = kB m c (ix3 (imgT t) 0 (y 2)) := by
  rw [last11 m c t ht, zero_add]
  refine Fin.sum_mul_add_congr (S := 8) (n := 256) fun s p hl => ?_
  rw [rowT_img ht s p hl]

theorem arr8 (c : Dev nD) : (dats m 0 c).arrAt 8 cfg0.N = (fun i : S8192x1024.Idx => oK m c i) := by
  refine (dats m 0 c).arrAt_eq_of_covers 8 _ (by decide +kernel) fun t hf y => ?_
  blk_simp
  rw [after0_8, out8 m c t]
  refine congrArg (oK m c) ?_
  blk_ext [index8, ix2, rowT]

theorem arr9 (c : Dev nD) : (dats m 0 c).arrAt 9 cfg0.N = (fun y : S1x1024.Idx => ∑ i : Fin 8192, eG m c i (y 1)) := by
  refine (dats m 0 c).arrAt_eq_of_covers 9 _ (by decide +kernel) fun t hf y => ?_
  have ht := (flush0_9 t).mp hf
  blk_simp
  rw [after0_9, out9 m c t ht]
  refine congrArg (fun z : S1x1024.Idx => ∑ i : Fin 8192, eG m c i (z 1)) (show (y : S1x1024.Idx) = _ from ?_)
  blk_ext [index9, ix2]

theorem arr10 (c : Dev nD) : (dats m 0 c).arrAt 10 cfg0.N = kS m c := by
  refine (dats m 0 c).arrAt_eq_of_covers 10 _ (by decide +kernel) fun t hf y => ?_
  have ht := (flush0_10 t).mp hf
  blk_simp
  rw [after0_10, out10 m c t ht]
  refine congrArg (kS m c) ?_
  blk_ext [index10, ix3, imgT]

theorem arr11 (c : Dev nD) : (dats m 0 c).arrAt 11 cfg0.N = kB m c := by
  refine (dats m 0 c).arrAt_eq_of_covers 11 _ (by decide +kernel) fun t hf y => ?_
  have ht := (flush0_11 t).mp hf
  blk_simp
  rw [after0_11, out11 m c t ht]
  refine congrArg (kB m c) ?_
  blk_ext [index11, ix3, imgT]

/-! ## The precondition -/

/-- The precondition read back for the arguments the claim needs. -/
theorem real_args (a0 : FVec Ideal Cert.Pre_finite_dh.S8192x1024 .f32) (a1 : FVec Ideal Cert.Pre_finite_dh.S1x1024 .f32) (a2 : FVec Ideal Cert.Pre_finite_dh.S4x9x1024 .f32)
    (a3 a4 : FVec Ideal Cert.Pre_finite_dh.S1024x2816 .bf16) (a5 a6 : FVec Ideal Cert.Pre_finite_dh.S8192x2816 .bf16) (a7 : FVec Ideal Cert.Pre_finite_dh.S8192x1024 .f32)
    (h : Cert.Pre_finite_dh.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ ∀ i, IsReal (a6 i) := by
  have h0 := congrFun h (fun k => k.elim0)
  unfold Cert.Pre_finite_dh.fn at h0
  dsimp only at h0
  unfold Cert.Pre_finite_dh.fn_part1 at h0
  dsimp only at h0
  unfold Cert.Pre_finite_dh.fn_part2 at h0
  dsimp only at h0
  obtain ⟨h0, -⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_test _ top32 _ _ _ _ _ e0, real_of_test _ top32 _ _ _ _ _ e1, real_of_test _ top32 _ _ _ _ _ e2,
    real_of_test _ top16 _ _ _ _ _ e3, real_of_test _ top16 _ _ _ _ _ e4, real_of_test _ top16 _ _ _ _ _ e5, real_of_test _ top16 _ _ _ _ _ e6⟩

/-! ## The claim -/

/-- The kernel call and the reference compute the same gradients of rows, gain, scale and shift over the reals, at finite arguments. -/
theorem algebraic_dh : Cert.algebraic_KernelDhIdeal_ReferenceDhIdeal_pre_finite_dh (hKernelDhIdeal := Cert.KernelDhIdeal.Gen.facts) (hReferenceDhIdeal := Cert.ReferenceDhIdeal.Gen.facts) (hPre_finite_dh := Cert.Pre_finite_dh.Gen.facts) := by
  intro m g m' g' hpre harg
  refine ⟨fun c => (dats m 0 c).arrAt 8 cfg0.N, fun c => (dats m 0 c).arrAt 9 cfg0.N, fun c => (dats m 0 c).arrAt 10 cfg0.N, fun c => (dats m 0 c).arrAt 11 cfg0.N, Value.run_blocks m g, ?_⟩
  refine (θ_run Cert.ReferenceDhIdeal.defs _ _).mono (fun r h c => ?_) (Cert.ReferenceDhIdeal.Value.run (F := Ideal) m' g')
  obtain ⟨hx, hg, hs, hb, h0⟩ := h c
  obtain ⟨e0, e1, e2, e3, e4, e5, e6, e7⟩ := harg c
  obtain ⟨f0, f1, f2, f3, f4, f5, f6⟩ := real_args _ _ _ _ _ _ _ _ (hpre c)
  refine ⟨hx.trans ?_, hg.trans ?_, hs.trans ?_, hb.trans ?_, h0⟩
  · refine Eq.trans ?_ (arr8 m c).symm
    unfold Cert.ReferenceDhIdeal.Value.res_main_v69
    rw [e0, e1, e2, e3, e4, e5, e6, e7]
    funext i
    obtain ⟨r, j, rfl⟩ : ∃ r j, i = ix2 r j := ⟨i 0, i 1, eq_ix2 i⟩
    have er : r = rowOf ⟨r.val / 2048, by omega⟩ ⟨r.val % 2048, by omega⟩ := Fin.ext (by show r.val = r.val / 2048 * 2048 + r.val % 2048; omega)
    refine Eq.trans (b := Cert.ReferenceDhIdeal.Own.oX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r j)) rfl ?_
    rw [er]
    refine (Cert.ReferenceDhIdeal.Own.oX_apply _ _ _ _ _ _ _ _ _ _ j).trans ((add_comm _ _).trans ?_)
    rw [← er]
    refine congrArg (· + _) (dx_eq cLen_eq (by norm_num) (fun k => IsReal.mul' (IsReal.mul' ?_ ?_) ?_) (fun k => ?_) j)
    · exact (isReal_dot _ _ (fun _ => f5 _) (fun _ => f3 _)).add' (isReal_dot _ _ (fun _ => f6 _) (fun _ => f4 _))
    · exact IsReal.add' ⟨1, rfl⟩ (f2 _)
    · exact f1 _
    · exact f0 _
  · refine Eq.trans ?_ (arr9 m c).symm
    rw [e0, e2, e3, e4, e5, e6]
    funext y
    rw [eq_row1 y]
    refine (Cert.ReferenceDhIdeal.Own.oG_apply (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (y 1)).trans ?_
    refine Fin.sum_mul_add_congr (S := 4) (n := 2048) fun b s hl => (mul_comm _ _).trans ?_
    have eb : (⟨(b.val * 2048 + s.val) / 2048, by omega⟩ : Fin 4) = b := Fin.ext (by show (b.val * 2048 + s.val) / 2048 = b.val; omega)
    show _ = aD m c _ _ * aS m c ⟨(b.val * 2048 + s.val) / 2048, _⟩ _ * _
    rw [eb]; rfl
  · refine Eq.trans ?_ (arr10 m c).symm
    rw [e0, e1, e3, e4, e5, e6]
    funext z
    have hz : z = ix3 (z 0) 0 (z 2) := funext fun a => Fin.ext (by
      match a with
      | ⟨0, _⟩ => rfl
      | ⟨1, _⟩ => have : (z 1).val < 1 := (z 1).isLt; show (z 1).val = 0; omega
      | ⟨2, _⟩ => rfl)
    rw [hz]
    refine (Cert.ReferenceDhIdeal.Own.oS_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (z 0) (z 2)).trans ?_
    refine Finset.sum_congr rfl fun s _ => ?_
    exact (mul_comm _ _).trans (mul_assoc _ _ _).symm
  · refine Eq.trans ?_ (arr11 m c).symm
    rw [e3, e4, e5, e6]
    funext z
    have hz : z = ix3 (z 0) 0 (z 2) := funext fun a => Fin.ext (by
      match a with
      | ⟨0, _⟩ => rfl
      | ⟨1, _⟩ => have : (z 1).val < 1 := (z 1).isLt; show (z 1).val = 0; omega
      | ⟨2, _⟩ => rfl)
    rw [hz]
    exact Cert.ReferenceDhIdeal.Own.oB_apply (m ((c : Thread nD τ).loc main_arg3)) (m ((c : Thread nD τ).loc main_arg4)) (m ((c : Thread nD τ).loc main_arg5)) (m ((c : Thread nD τ).loc main_arg6)) (z 0) (z 2)

end Cert.KernelDhIdeal.Own
end
-- ==== Proof.DpHost.lean ====
module
public import proofs.«01_k».proof.Proof.Gen.ReferenceDpIdeal.Run
public import proofs.«01_k».proof.Proof.NormGrad
public import Idealize.ShloMosaic.Lib.MatmulPlain
public import Idealize.ShloMosaic.Lib.StackMember
@[expose] public section
set_option maxRecDepth 16384
noncomputable section
namespace Cert.ReferenceDpIdeal.Own
open Cert.ReferenceDpIdeal Cert.ReferenceDpIdeal.Gen Idealize.ShloMosaic Idealize.ShloMosaic.TcCoe Idealize.SL.Sem
open Idealize.ShloMosaic.Tactic Idealize.ShloMosaic.ValueIdx
open Cert.NormGrad.Own (cEps red2 redLast redAll sq_nonneg' mul_sum_nonneg)
open scoped BigOperators

/-- The row length as both programs write it. -/
def cLen : EReal := Ideal.ofBits .f32 0x44800000#32

theorem cLen_eq : cLen = ((1024 : ℝ) : EReal) := by
  unfold cLen
  simp [Ideal.ofBits, Ideal.ieee, -EReal.coe_mul]; norm_num

/-- One half. -/
def cH : EReal := Ideal.ofBits .f32 0x3F000000#32

theorem cH_eq : cH = ((1 / 2 : ℝ) : EReal) := by
  unfold cH
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem p10_eq : Ideal.ofBits .f32 0x3A800000#32 = ((1 / 1024 : ℝ) : EReal) := by
  simp [Ideal.ofBits, Ideal.ieee, -EReal.coe_mul]; norm_num

theorem p11_eq : Ideal.ofBits .f32 0x3A000000#32 = ((1 / 2048 : ℝ) : EReal) := by
  simp [Ideal.ofBits, Ideal.ieee, -EReal.coe_mul]; norm_num

/-- The factor that normalises a row. -/
abbrev rr (x : Fin 1024 → EReal) : EReal := Cert.NormGrad.Own.rr cLen x

/-- One entry of a row less its target: `x` the row the branch is added to, `y` the branch, `a` the gate, `g` the gain, `t` the target. -/
def err (x y a g t : Fin 1024 → EReal) (j : Fin 1024) : EReal := x j + cH * a j * (y j * rr y * g j) - t j

section
variable (X : FVec Ideal S8192x1024 .f32) (ACT : FVec Ideal S8192x2816 .bf16) (W : FVec Ideal S2816x1024 .bf16) (G : FVec Ideal S1x1024 .f32) (M : FVec Ideal S4x9x1024 .f32) (T : FVec Ideal S8192x1024 .f32)

/-! ## The reference's values, one name for each -/

/-- The branch's rows. -/
def hDot : FVec Ideal S8192x1024 .f32 := Host.dotGeneral dot_S8192x2816_S2816x1024_S8192x1024_1_0_0_1_n_n none (extf .f32 ACT bitsLt_bf16_f32) (extf .f32 W bitsLt_bf16_f32)
/-- The branch's rows, by image and position. -/
def hY : FVec Ideal S4x2048x1024 .f32 := shapeCast _ (hDot ACT W) shapeCasts_S8192x1024_S4x2048x1024
/-- The normalising factors. -/
def hR : FVec Ideal S4x2048x1 .f32 := Host.rsqrt (addf (Host.divf (broadcastInDim S4x2048x1 ![0, 1] bcast_S4x2048_S4x2048x1_0_1 (Host.reduceAdd (mulf (hY ACT W) (hY ACT W)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))
/-- The gate. -/
def hM : FVec Ideal S4x2048x1024 .f32 := broadcastInDim S4x2048x1024 ![0, 1, 2] bcast_S4x1x1024_S4x2048x1024_0_1_2 (mulf (broadcastInDim S4x1x1024 ![] bcast_S_S4x1x1024 (constant S_ .f32 0x3F000000#32)) (broadcastInDim S4x1x1024 ![0, 2] bcast_S4x1024_S4x1x1024_0_2 (shapeCast _ (extractStridedSlice S4x1x1024 ![0, 8, 0] M slices_S4x9x1024_S4x1x1024_0_8_0) shapeCasts_S4x1x1024_S4x1024)))
/-- The gain. -/
def hG : FVec Ideal S4x2048x1024 .f32 := broadcastInDim S4x2048x1024 ![0, 1, 2] bcast_S1x1x1024_S4x2048x1024_0_1_2 (broadcastInDim S1x1x1024 ![1, 2] bcast_S1x1024_S1x1x1024_1_2 G)
/-- The normalised and gained rows of the branch, gated. -/
def hB : FVec Ideal S4x2048x1024 .f32 := mulf (hM M) (mulf (mulf (hY ACT W) (broadcastInDim S4x2048x1024 ![0, 1, 2] bcast_S4x2048x1_S4x2048x1024_0_1_2 (hR ACT W))) (hG G))
/-- The rows less their targets. -/
def hE : FVec Ideal S8192x1024 .f32 := subf (addf X (shapeCast _ (hB ACT W G M) shapeCasts_S4x2048x1024_S8192x1024)) T
/-- The gradient of the loss by the rows. -/
def oX : FVec Ideal S8192x1024 .f32 := mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (hE X ACT W G M T))
/-- The loss. -/
def oL : FVec Ideal S1x1 .f32 := shapeCast _ (mulf (constant S_ .f32 0x3F000000#32) (Host.reduceAdd (Host.divf (Host.reduceAdd (mulf (hE X ACT W G M T) (hE X ACT W G M T)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1

/-! ## The arrays by coordinates -/

/-- Row `i` of the branch. -/
def yRow (i : Fin 8192) (j : Fin 1024) : EReal := ∑ k : Fin 2816, ACT (ix2 i k) * W (ix2 k j)
/-- The entry of row `i`, of image `b`, less its target. -/
def eRow (b : Fin 4) (i : Fin 8192) (j : Fin 1024) : EReal :=
  err (fun j => X (ix2 i j)) (yRow ACT W i) (fun j => M (ix3 b 8 j)) (fun j => G (ix2 0 j)) (fun j => T (ix2 i j)) j
/-- The image of a row. -/
def imgOf (i : Fin 8192) : Fin 4 := ⟨i.val / 2048, by omega⟩
/-- The position of a row in its image. -/
def posOf (i : Fin 8192) : Fin 2048 := ⟨i.val % 2048, by omega⟩

theorem hDot_apply (i : Fin 8192) (j : Fin 1024) : hDot ACT W (ix2 i j) = yRow ACT W i j := by
  unfold hDot
  rw [show dot_S8192x2816_S2816x1024_S8192x1024_1_0_0_1_n_n = DotDims.plain 8192 2816 1024 from rfl]
  refine (congrFun (matmul_zero_eq_dotGeneral (DotDims.plain 8192 2816 1024) none _ _) (ix2 i j)).symm.trans ?_
  refine (Ideal.matmul_plain_apply none _ _ _ i j).trans ?_
  show (constant S8192x1024 .f32 0x00000000#32 (ix2 i j) : Ideal .f32) + _ = _
  simp [constant, Ideal.ofBits_def, yRow]
  rfl

theorem hY_apply (i : Fin 8192) (j : Fin 1024) : hY ACT W (ix3 (imgOf i) (posOf i) j) = yRow ACT W i j := by
  refine (shapeCast_apply _ _ _ (ix2 i j) ?_).trans (hDot_apply ACT W i j)
  rw [Shape.rowMajor_val_three, Shape.rowMajor_val_two]
  show i.val * 1024 + j.val = (i.val / 2048 * 2048 + i.val % 2048) * 1024 + j.val
  omega

theorem hR_apply (i : Fin 8192) : hR ACT W (ix3 (imgOf i) (posOf i) 0) = rr (yRow ACT W i) := by
  have e : (broadcastInDim S4x2048x1 ![0, 1] bcast_S4x2048_S4x2048x1_0_1 (Host.reduceAdd (mulf (hY ACT W) (hY ACT W)) (constant S_ .f32 0x00000000#32) reducesTo_S4x2048x1024_S4x2048_d2 h_S_)) (ix3 (imgOf i) (posOf i) 0) = ∑ k : Fin 1024, yRow ACT W i k * yRow ACT W i k := by
    refine (broadcastInDim_apply _ _ _ _ (ix2 (imgOf i) (posOf i)) fun a => ?_).trans ?_
    · match a with
      | ⟨0, _⟩ => rfl
      | ⟨1, _⟩ => rfl
    · refine (red2 _ _ (by decide) _ _ _).trans (Finset.sum_congr rfl fun k _ => ?_)
      show hY ACT W (ix3 (imgOf i) (posOf i) k) * hY ACT W (ix3 (imgOf i) (posOf i) k) = _
      rw [hY_apply]
  show Ideal.rsqrt (Ideal.div _ (Ideal.ofBits .f32 0x44800000#32) + Ideal.ofBits .f32 0x358637BD#32) = _
  rw [e]; rfl

theorem hM_apply (b : Fin 4) (s : Fin 2048) (j : Fin 1024) : hM M (ix3 b s j) = cH * M (ix3 b 8 j) := by
  refine (broadcastInDim_apply _ _ _ _ (ix3 b 0 j) fun a => ?_).trans ?_
  · match a with
    | ⟨0, _⟩ => rfl
    | ⟨1, _⟩ => rfl
    | ⟨2, _⟩ => rfl
  · refine congrArg (cH * ·) ?_
    refine (broadcastInDim_apply _ _ _ _ (ix2 b j) fun a => ?_).trans ?_
    · match a with
      | ⟨0, _⟩ => rfl
      | ⟨1, _⟩ => rfl
    · refine (shapeCast_apply _ _ _ (ix3 b 0 j) ?_).trans ?_
      · rw [Shape.rowMajor_val_three, Shape.rowMajor_val_two]
        show (b.val * 1 + 0) * 1024 + j.val = b.val * 1024 + j.val
        omega
      · refine extractStridedSlice_apply _ _ _ _ (ix3 b 8 j) fun a => ?_
        match a with
        | ⟨0, _⟩ => exact (Nat.zero_add _).symm
        | ⟨1, _⟩ => rfl
        | ⟨2, _⟩ => exact (Nat.zero_add _).symm

theorem hG_apply (b : Fin 4) (s : Fin 2048) (j : Fin 1024) : hG G (ix3 b s j) = G (ix2 0 j) := by
  refine (broadcastInDim_apply _ _ _ _ (ix3 0 0 j) fun a => ?_).trans ?_
  · match a with
    | ⟨0, _⟩ => rfl
    | ⟨1, _⟩ => rfl
    | ⟨2, _⟩ => rfl
  · refine broadcastInDim_apply _ _ _ _ (ix2 0 j) fun a => ?_
    match a with
    | ⟨0, _⟩ => rfl
    | ⟨1, _⟩ => rfl

theorem hB_apply (i : Fin 8192) (j : Fin 1024) : hB ACT W G M (ix3 (imgOf i) (posOf i) j) = cH * M (ix3 (imgOf i) 8 j) * (yRow ACT W i j * rr (yRow ACT W i) * G (ix2 0 j)) := by
  refine congrArg₂ (· * ·) (hM_apply M _ _ j) (congrArg₂ (· * ·) (congrArg₂ (· * ·) (hY_apply ACT W i j) ?_) (hG_apply G _ _ j))
  refine (broadcastInDim_apply _ _ _ _ (ix3 (imgOf i) (posOf i) 0) fun a => ?_).trans (hR_apply ACT W i)
  match a with
  | ⟨0, _⟩ => rfl
  | ⟨1, _⟩ => rfl
  | ⟨2, _⟩ => rfl

theorem hE_apply (i : Fin 8192) (j : Fin 1024) : hE X ACT W G M T (ix2 i j) = eRow X ACT W G M T (imgOf i) i j := by
  refine congrArg (fun z : EReal => X (ix2 i j) + z - T (ix2 i j)) ?_
  refine (shapeCast_apply _ _ _ (ix3 (imgOf i) (posOf i) j) ?_).trans (hB_apply ACT W G M i j)
  rw [Shape.rowMajor_val_three, Shape.rowMajor_val_two]
  show (i.val / 2048 * 2048 + i.val % 2048) * 1024 + j.val = i.val * 1024 + j.val
  omega

/-- The gradient of the loss by one entry. -/
theorem oX_apply (i : Fin 8192) (j : Fin 1024) : oX X ACT W G M T (ix2 i j) = eRow X ACT W G M T (imgOf i) i j * Ideal.ofBits .f32 0x3A800000#32 := by
  show Ideal.div (cH * Ideal.ofBits .f32 0x3F800000#32) cLen * (Ideal.ofBits .f32 0x40000000#32 * hE X ACT W G M T (ix2 i j)) = _
  rw [hE_apply, cH_eq, cLen_eq, two_eq, p10_eq, Ideal.ofBits_one_f32, mul_one, Ideal.div_coe (by norm_num), ← mul_assoc, ← EReal.coe_mul, ← EReal.coe_mul, mul_comm]
  norm_num

/-- The loss. -/
theorem oL_apply : oL X ACT W G M T (ix2 0 0) = ∑ i : Fin 8192, Ideal.ofBits .f32 0x3A000000#32 * ∑ j : Fin 1024, eRow X ACT W G M T (imgOf i) i j * eRow X ACT W G M T (imgOf i) i j := by
  refine (shapeCast_apply _ _ _ (fun k => k.elim0) rfl).trans ?_
  refine (congrArg (cH * ·) (redAll _ _ _ _)).trans ?_
  have e (i : Fin 8192) : (Host.divf (Host.reduceAdd (mulf (hE X ACT W G M T) (hE X ACT W G M T)) (constant S_ .f32 0x00000000#32) reducesTo_S8192x1024_S8192_d1 h_S_) (broadcastInDim S8192 ![] bcast_S_S8192 (constant S_ .f32 0x44800000#32)) : FVec Ideal S8192 .f32) (ix1 i)
      = ((1 / 1024 : ℝ) : EReal) * ∑ j : Fin 1024, eRow X ACT W G M T (imgOf i) i j * eRow X ACT W G M T (imgOf i) i j := by
    show Ideal.div ((Host.reduceAdd (mulf (hE X ACT W G M T) (hE X ACT W G M T)) (constant S_ .f32 0x00000000#32) reducesTo_S8192x1024_S8192_d1 h_S_ : FVec Ideal S8192 .f32) (ix1 i)) cLen = _
    rw [cLen_eq, Ideal.div_coe (by norm_num), mul_comm]
    refine congrArg _ ((redLast _ _ (by decide) _ i).trans (Finset.sum_congr rfl fun j _ => ?_))
    show hE X ACT W G M T (ix2 i j) * hE X ACT W G M T (ix2 i j) = _
    rw [hE_apply]
  rw [Finset.sum_congr rfl fun i _ => e i, mul_sum_nonneg _ _ fun i => EReal.mul_nonneg_iff.mpr (Or.inl ⟨EReal.coe_nonneg.mpr (by norm_num), Finset.sum_nonneg fun j _ => sq_nonneg' _⟩)]
  refine Finset.sum_congr rfl fun i _ => ?_
  rw [cH_eq, p11_eq, ← mul_assoc, ← EReal.coe_mul]
  norm_num

end

end Cert.ReferenceDpIdeal.Own
end
-- ==== Proof.Dp.lean ====
module
public import proofs.«01_k».proof.Proof.Gen.KernelDpIdeal.Value
public import proofs.«01_k».proof.Proof.DpHost
public import proofs.«01_k».proof.Defs
public import Idealize.ShloMosaic.Lib.MatmulPlain
public import Idealize.ShloMosaic.Lib.ValueLayoutCasts
public import Idealize.ShloMosaic.Lib.Pipeline.ValueKit.Geometry
public import Idealize.ShloMosaic.Lib.Pipeline.ValueKit.Acc
@[expose] public section
set_option maxRecDepth 16384
noncomputable section
namespace Cert.KernelDpIdeal.Own
open Cert.KernelDpIdeal Cert.KernelDpIdeal.Gen Idealize.ShloMosaic Idealize.ShloMosaic.TcCoe Idealize.SL.Sem
open Idealize.ShloMosaic.Tactic Idealize.ShloMosaic.ValueIdx
open Cert.NormGrad.Own (cEps sq_nonneg' mul_sum_nonneg)
open Cert.ReferenceDpIdeal.Own (cLen cH rr err yRow eRow imgOf)
open scoped BigOperators

/-! ## What the body computes from one block of 512 rows -/

theorem sum_lanes (x : FVec Ideal S512x1024 .f32) (p : Fin 512) :
    (shapeCast S512x1 (multiReduction .add [1] S512 x 0x00000000#32 reduces_S512x1024_S512 (.inl rfl) rfl) shapeCasts_S512_S512x1 : FVec Ideal S512x1 .f32) (ix2 p 0) = ∑ k : Fin 1024, x (ix2 p k) := by
  refine (shapeCast_apply _ _ _ (ix1 p) ?_).trans ?_
  · rw [Shape.rowMajor_val_one, Shape.rowMajor_val_two]
    show p.val = p.val * 1 + 0
    omega
  · refine (Ideal.multiReduction_add_single (a := 1) x _ reduces_S512x1024_S512 (.inl rfl) rfl (ix1 p)).trans ?_
    refine Finset.sum_congr rfl fun k _ => congrArg x (funext fun d => Fin.ext ?_)
    match d with
    | ⟨0, _⟩ => rfl
    | ⟨1, _⟩ => rfl

theorem sum_col (x : FVec Ideal S512x1 .f32) :
    (shapeCast S1x1 (multiReduction .add [0] S1 x 0x00000000#32 reduces_S512x1_S1 (.inl rfl) rfl) shapeCasts_S1_S1x1 : FVec Ideal S1x1 .f32) (ix2 0 0) = ∑ p : Fin 512, x (ix2 p 0) := by
  refine (shapeCast_apply _ _ _ (ix1 0) ?_).trans ?_
  · rw [Shape.rowMajor_val_one, Shape.rowMajor_val_two]; rfl
  · refine (Ideal.multiReduction_add_single (a := 0) x _ reduces_S512x1_S1 (.inl rfl) rfl (ix1 0)).trans ?_
    refine Finset.sum_congr rfl fun k _ => congrArg x (funext fun d => Fin.ext ?_)
    match d with
    | ⟨0, _⟩ => rfl
    | ⟨1, _⟩ => rfl

theorem col_bcast (x : FVec Ideal S512x1 .f32) (p : Fin 512) (j : Fin 1024) :
    (broadcastTo S512x1024 x broadcasts_S512x1_S512x1024 : FVec Ideal S512x1024 .f32) (ix2 p j) = x (ix2 p 0) :=
  broadcastTo_apply x _ _ (ix2 p 0) fun a => match a with
    | ⟨0, _⟩ => rfl
    | ⟨1, _⟩ => rfl

theorem row_bcast (x : FVec Ideal S1x1024 .f32) (p : Fin 512) (j : Fin 1024) :
    (broadcastTo S512x1024 x broadcasts_S1x1024_S512x1024 : FVec Ideal S512x1024 .f32) (ix2 p j) = x (ix2 0 j) :=
  broadcastTo_apply x _ _ (ix2 0 j) fun a => match a with
    | ⟨0, _⟩ => rfl
    | ⟨1, _⟩ => rfl

theorem down_cast (x : FVec Ideal S1x1x1024 .f32) (j : Fin 1024) :
    (shapeCast S1x1024 x shapeCasts_S1x1x1024_S1x1024 : FVec Ideal S1x1024 .f32) (ix2 0 j) = x (ix3 0 0 j) :=
  shapeCast_apply _ _ _ (ix3 0 0 j) (by
    rw [Shape.rowMajor_val_three, Shape.rowMajor_val_two]
    show (0 * 1 + 0) * 1024 + j.val = 0 * 1024 + j.val
    omega)

section
variable (v0 : FVec Ideal S512x2816 .bf16) (v1 : FVec Ideal S2816x1024 .bf16) (v13 : FVec Ideal S512x1024 .f32) (v14 : FVec Ideal S1x1x1024 .f32) (v20 : FVec Ideal S1x1024 .f32) (v26 : FVec Ideal S512x1024 .f32)

/-- Row `p` of the branch, from the blocks. -/
def bY (p : Fin 512) (j : Fin 1024) : EReal := ∑ k : Fin 2816, v0 (ix2 p k) * v1 (ix2 k j)
/-- Row `p` less its target, from the blocks. -/
def bE (p : Fin 512) (j : Fin 1024) : EReal :=
  err (fun j => v13 (ix2 p j)) (bY v0 v1 p) (fun j => v14 (ix3 0 0 j)) (fun j => v20 (ix2 0 j)) (fun j => v26 (ix2 p j)) j

theorem pay3_apply (p : Fin 512) (j : Fin 1024) : k0_pay3 (F := Ideal) v0 v1 (ix2 p j) = bY v0 v1 p j := by
  unfold k0_pay3
  have e : dot_S512x2816_S2816x1024_S512x1024_1_0_0_1_n_n = DotDims.plain 512 2816 1024 := rfl
  rw [e]
  refine (Ideal.matmul_plain_apply none v0 v1 _ p j).trans ?_
  show (constant S512x1024 .f32 0x00000000#32 (ix2 p j) : Ideal .f32) + _ = _
  simp [constant, Ideal.ofBits_def, bY]

theorem pay5_apply (p : Fin 512) (j : Fin 1024) : k0_pay5 (F := Ideal) v0 v1 v13 v14 v20 v26 (ix2 p j) = bE v0 v1 v13 v14 v20 v26 p j := by
  refine congrArg (fun z : EReal => v13 (ix2 p j) + z - v26 (ix2 p j)) ?_
  refine congrArg₂ (· * ·) ((row_bcast _ p j).trans (congrArg (cH * ·) (down_cast v14 j))) ?_
  refine congrArg₂ (· * ·) (congrArg₂ (· * ·) (pay3_apply v0 v1 p j) ((col_bcast _ p j).trans ?_)) (row_bcast v20 p j)
  refine congrArg (fun z : EReal => Ideal.rsqrt (Ideal.div z cLen + cEps)) ((sum_lanes _ p).trans (Finset.sum_congr rfl fun k _ => ?_))
  exact congrArg₂ (· * ·) (pay3_apply v0 v1 p k) (pay3_apply v0 v1 p k)

theorem pay6_apply (p : Fin 512) (j : Fin 1024) : k0_pay6 (F := Ideal) v0 v1 v13 v14 v20 v26 (ix2 p j) = bE v0 v1 v13 v14 v20 v26 p j * Ideal.ofBits .f32 0x3A800000#32 :=
  congrArg (· * Ideal.ofBits .f32 0x3A800000#32) (pay5_apply v0 v1 v13 v14 v20 v26 p j)

theorem pay1_apply : k0_pay1 (F := Ideal) (k0_pay7 v0 v1 v13 v14 v20 v26) (ix2 0 0) = Ideal.ofBits .f32 0x3A000000#32 * ∑ p : Fin 512, ∑ j : Fin 1024, bE v0 v1 v13 v14 v20 v26 p j * bE v0 v1 v13 v14 v20 v26 p j := by
  refine congrArg (Ideal.ofBits .f32 0x3A000000#32 * ·) ((sum_col _).trans (Finset.sum_congr rfl fun p _ => (sum_lanes _ p).trans (Finset.sum_congr rfl fun j _ => ?_)))
  exact congrArg₂ (· * ·) (pay5_apply v0 v1 v13 v14 v20 v26 p j) (pay5_apply v0 v1 v13 v14 v20 v26 p j)
end

/-! ## The blocks -/

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)

/-- Row `p` of the block of point `t`. -/
def rowT (t : Fin cfg0.N) (p : Fin 512) : Fin 8192 := ⟨t.val * 512 + p.val, by have := lt_of_lt_of_eq t.isLt N_0; omega⟩
/-- The image of point `t`. -/
def imgT (t : Fin cfg0.N) : Fin 4 := ⟨t.val / 4, by have := lt_of_lt_of_eq t.isLt N_0; omega⟩

theorem imgT_eq (t : Fin cfg0.N) (p : Fin 512) : imgT t = imgOf (rowT t p) :=
  Fin.ext (by show t.val / 4 = (t.val * 512 + p.val) / 2048; omega)

/-- Row `i` of the branch. -/
abbrev aY (c : Dev nD) (i : Fin 8192) (j : Fin 1024) : EReal := yRow (m ((c : Thread nD τ).loc main_arg1)) (m ((c : Thread nD τ).loc main_arg2)) i j
/-- Row `i` less its target. -/
abbrev aE (c : Dev nD) (i : Fin 8192) (j : Fin 1024) : EReal :=
  eRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (imgOf i) i j

theorem b0_blk (c : Dev nD) (t : Fin cfg0.N) (p : Fin 512) (k : Fin 2816) : iblk m c 0 t (ix2 p k) = m ((c : Thread nD τ).loc main_arg1) (ix2 (rowT t p) k) := by
  rw [← V_main_arg1 m c]
  blk_simp [iblk]
  refine congrArg (V m c main_arg1) ?_
  blk_ext [index0, ix2, rowT]

theorem b1_blk (c : Dev nD) (t : Fin cfg0.N) (k : Fin 2816) (j : Fin 1024) : iblk m c 1 t (ix2 k j) = m ((c : Thread nD τ).loc main_arg2) (ix2 k j) := by
  rw [← V_main_arg2 m c]
  blk_simp [iblk]
  refine congrArg (V m c main_arg2) ?_
  blk_ext [index1, ix2]

theorem b2_blk (c : Dev nD) (t : Fin cfg0.N) (p : Fin 512) (j : Fin 1024) : iblk m c 2 t (ix2 p j) = m ((c : Thread nD τ).loc main_arg0) (ix2 (rowT t p) j) := by
  rw [← V_main_arg0 m c]
  blk_simp [iblk]
  refine congrArg (V m c main_arg0) ?_
  blk_ext [index2, ix2, rowT]

theorem b3_blk (c : Dev nD) (t : Fin cfg0.N) (j : Fin 1024) : iblk m c 3 t (ix2 0 j) = m ((c : Thread nD τ).loc main_arg3) (ix2 0 j) := by
  rw [← V_main_arg3 m c]
  blk_simp [iblk]
  refine congrArg (V m c main_arg3) ?_
  blk_ext [index3, ix2]

theorem b5_blk (c : Dev nD) (t : Fin cfg0.N) (p : Fin 512) (j : Fin 1024) : iblk m c 5 t (ix2 p j) = m ((c : Thread nD τ).loc main_arg5) (ix2 (rowT t p) j) := by
  rw [← V_main_arg5 m c]
  blk_simp [iblk]
  refine congrArg (V m c main_arg5) ?_
  blk_ext [index5, ix2, rowT]

/-- The row of the modulation the body loads. -/
abbrev modRow (c : Dev nD) (t : Fin cfg0.N) : FVec Ideal S1x1x1024 .f32 :=
  View.ld (iblk m c 4 t) (Rect.unit (s := S1x9x1024) ![0, 8, 0] S1x1x1024.size inb_S1x9x1024_S1x1x1024_0_8_0)

theorem b4_blk (c : Dev nD) (t : Fin cfg0.N) (j : Fin 1024) : modRow m c t (ix3 0 0 j) = m ((c : Thread nD τ).loc main_arg4) (ix3 (imgT t) 8 j) := by
  have e : modRow m c t (ix3 0 0 j) = iblk m c 4 t (ix3 0 8 j) := congrArg (iblk m c 4 t) (funext fun a => Fin.ext (by
    match a with
    | ⟨0, _⟩ => rfl
    | ⟨1, _⟩ => rfl
    | ⟨2, _⟩ => exact (Nat.zero_add _).trans (Nat.one_mul _)))
  rw [e, ← V_main_arg4 m c]
  blk_simp [iblk]
  refine congrArg (V m c main_arg4) ?_
  blk_ext [index4, ix3, imgT]

theorem bY_blk (c : Dev nD) (t : Fin cfg0.N) (p : Fin 512) : bY (iblk m c 0 t) (iblk m c 1 t) p = aY m c (rowT t p) := by
  funext j
  refine Finset.sum_congr rfl fun k _ => ?_
  exact congrArg₂ (· * ·) (b0_blk m c t p k) (b1_blk m c t k j)

theorem bE_blk (c : Dev nD) (t : Fin cfg0.N) (p : Fin 512) : bE (iblk m c 0 t) (iblk m c 1 t) (iblk m c 2 t) (modRow m c t) (iblk m c 3 t) (iblk m c 5 t) p = aE m c (rowT t p) := by
  funext j
  unfold bE
  simp only [b2_blk m c t p, b3_blk m c t, b4_blk m c t, b5_blk m c t p]
  rw [bY_blk m c t p, imgT_eq t p]
  rfl

/-! ## What the points leave -/

theorem eq_one (y : S1x1.Idx) : y = ix2 0 0 := by
  refine funext fun a => Fin.ext ?_
  match a with
  | ⟨0, _⟩ => have : (y 0).val < 1 := (y 0).isLt; show (y 0).val = 0; omega
  | ⟨1, _⟩ => have : (y 1).val < 1 := (y 1).isLt; show (y 1).val = 0; omega

/-- The gradient of the loss as the kernel leaves it. -/
def oK (c : Dev nD) (i : S8192x1024.Idx) : EReal := aE m c (i 0) (i 1) * Ideal.ofBits .f32 0x3A800000#32
/-- The branch as the kernel leaves it. -/
def oY (c : Dev nD) (i : S8192x1024.Idx) : EReal := aY m c (i 0) (i 1)
/-- One row's addend to the loss. -/
def eL (c : Dev nD) (i : Fin 8192) : EReal := Ideal.ofBits .f32 0x3A000000#32 * ∑ j : Fin 1024, aE m c i j * aE m c i j
/-- One point's addend to the loss. -/
def tL (c : Dev nD) (t : Fin cfg0.N) (_ : S1x1.Idx) : EReal := ∑ p : Fin 512, eL m c (rowT t p)

theorem pay6_blk (c : Dev nD) (t : Fin cfg0.N) (y : S512x1024.Idx) :
    k0_pay6 (F := Ideal) (iblk m c 0 t) (iblk m c 1 t) (iblk m c 2 t) (modRow m c t) (iblk m c 3 t) (iblk m c 5 t) y = oK m c (ix2 (rowT t (y 0)) (y 1)) := by
  obtain ⟨p, j, rfl⟩ : ∃ p j, y = ix2 p j := ⟨y 0, y 1, eq_ix2 y⟩
  refine (pay6_apply _ _ _ _ _ _ p j).trans ?_
  rw [bE_blk]; rfl

theorem pay4_blk (c : Dev nD) (t : Fin cfg0.N) (y : S512x1024.Idx) :
    k0_pay4 (F := Ideal) (iblk m c 0 t) (iblk m c 1 t) y = oY m c (ix2 (rowT t (y 0)) (y 1)) := by
  obtain ⟨p, j, rfl⟩ : ∃ p j, y = ix2 p j := ⟨y 0, y 1, eq_ix2 y⟩
  refine (pay3_apply _ _ p j).trans ?_
  rw [bY_blk]; rfl

theorem pay1_blk (c : Dev nD) (t : Fin cfg0.N) (y : S1x1.Idx) :
    k0_pay1 (F := Ideal) (k0_pay7 (iblk m c 0 t) (iblk m c 1 t) (iblk m c 2 t) (modRow m c t) (iblk m c 3 t) (iblk m c 5 t)) y = tL m c t y := by
  rw [eq_one y]
  refine (pay1_apply _ _ _ _ _ _).trans ?_
  rw [mul_sum_nonneg _ _ fun p => Finset.sum_nonneg fun j _ => sq_nonneg' _]
  refine Finset.sum_congr rfl fun p _ => ?_
  rw [bE_blk]; rfl

theorem out6 (c : Dev nD) (t : Fin cfg0.N) (y : S512x1024.Idx) : (outsAt0 m c t.val t.isLt).1 y = oK m c (ix2 (rowT t (y 0)) (y 1)) := by
  have hN : t.val < 16 := lt_of_lt_of_eq t.isLt N_0
  rw [← pay6_blk m c t y]
  by_cases h0 : t.val % 16 = 0
  · rw [outsAt0_A m c t (by omega) (by omega)]
    frame_out
    rfl
  · rw [outsAt0_B m c t (by omega) (by omega)]
    frame_out
    rfl

theorem out8 (c : Dev nD) (t : Fin cfg0.N) (y : S512x1024.Idx) : (outsAt0 m c t.val t.isLt).2.2 y = oY m c (ix2 (rowT t (y 0)) (y 1)) := by
  have hN : t.val < 16 := lt_of_lt_of_eq t.isLt N_0
  rw [← pay4_blk m c t y]
  by_cases h0 : t.val % 16 = 0
  · rw [outsAt0_A m c t (by omega) (by omega)]
    frame_out
  · rw [outsAt0_B m c t (by omega) (by omega)]
    frame_out

/-- The loss at the last point. -/
theorem last7 (c : Dev nD) (t : Fin cfg0.N) (ht : t.val % 16 = 15) (y : S1x1.Idx) :
    (outsAt0 m c t.val t.isLt).2.1 y = (0 : EReal) + ∑ s : Fin 16, tL m c ⟨16 * (t.val / 16) + s.val, Pipeline.run_point_lt_of_flush t ht s⟩ y := by
  refine Pipeline.eq_sum_fin_of_reset_step_apply_of_flush (fun n h => (outsAt0 m c n h).2.1) 16 (fun _ => (0 : EReal)) (tL m c) (fun t h y => ?_) (fun t h y => ?_) t ht y
  · have hN : t.val < 16 := lt_of_lt_of_eq t.isLt N_0
    rw [outsAt0_A m c t (by omega) (by omega), zero_add, ← pay1_blk m c t y]
    frame_out
    rfl
  · have hN : t.val < 16 := lt_of_lt_of_eq t.isLt N_0
    rw [← pay1_blk m c t y, outsAt0_B m c t (by omega) (by omega)]
    frame_out
    simp only [k0_pay2, shapeCast_self]
    rfl

theorem out7 (c : Dev nD) (t : Fin cfg0.N) (ht : t.val % 16 = 15) (y : S1x1.Idx) :
    (outsAt0 m c t.val t.isLt).2.1 y = ∑ i : Fin 8192, eL m c i := by
  rw [last7 m c t ht, zero_add]
  have hN : t.val < 16 := lt_of_lt_of_eq t.isLt N_0
  refine Fin.sum_mul_add_congr (S := 16) (n := 512) fun s p hl => ?_
  have e : rowT ⟨16 * (t.val / 16) + s.val, Pipeline.run_point_lt_of_flush t ht s⟩ p = ⟨s.val * 512 + p.val, hl⟩ :=
    Fin.ext (by show (16 * (t.val / 16) + s.val) * 512 + p.val = s.val * 512 + p.val; omega)
  rw [e]

theorem arr6 (c : Dev nD) : (dats m 0 c).arrAt 6 cfg0.N = oK m c := by
  refine (dats m 0 c).arrAt_eq_of_covers 6 _ (by decide +kernel) fun t hf y => ?_
  blk_simp
  rw [after0_6, out6 m c t]
  refine congrArg (oK m c) ?_
  blk_ext [index6, ix2, rowT]

theorem arr7 (c : Dev nD) : (dats m 0 c).arrAt 7 cfg0.N = (fun _ : S1x1.Idx => ∑ i : Fin 8192, eL m c i) := by
  refine (dats m 0 c).arrAt_eq_of_covers 7 _ (by decide +kernel) fun t hf y => ?_
  have ht := (flush0_7 t).mp hf
  blk_simp
  rw [after0_7, out7 m c t ht]

theorem arr8 (c : Dev nD) : (dats m 0 c).arrAt 8 cfg0.N = oY m c := by
  refine (dats m 0 c).arrAt_eq_of_covers 8 _ (by decide +kernel) fun t hf y => ?_
  blk_simp
  rw [after0_8, out8 m c t]
  refine congrArg (oY m c) ?_
  blk_ext [index8, ix2, rowT]

/-! ## The claim -/

/-- The kernel call and the reference compute the same gradient, loss and branch over the reals. -/
theorem algebraic_dp : Cert.algebraic_KernelDpIdeal_ReferenceDpIdeal (hKernelDpIdeal := Cert.KernelDpIdeal.Gen.facts) (hReferenceDpIdeal := Cert.ReferenceDpIdeal.Gen.facts) := by
  intro m g m' g' _ harg
  refine ⟨fun c => (dats m 0 c).arrAt 6 cfg0.N, fun c => (dats m 0 c).arrAt 7 cfg0.N, fun c => (dats m 0 c).arrAt 8 cfg0.N, Value.run_blocks m g, ?_⟩
  refine (θ_run Cert.ReferenceDpIdeal.defs _ _).mono (fun r h c => ?_) (Cert.ReferenceDpIdeal.Value.run (F := Ideal) m' g')
  obtain ⟨hx, hl, hy, h0⟩ := h c
  obtain ⟨e0, e1, e2, e3, e4, e5⟩ := harg c
  refine ⟨hx.trans ?_, hl.trans ?_, hy.trans ?_, h0⟩
  · refine Eq.trans ?_ (arr6 m c).symm
    rw [e0, e1, e2, e3, e4, e5]
    funext i
    obtain ⟨r, j, rfl⟩ : ∃ r j, i = ix2 r j := ⟨i 0, i 1, eq_ix2 i⟩
    exact Cert.ReferenceDpIdeal.Own.oX_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j
  · refine Eq.trans ?_ (arr7 m c).symm
    unfold Cert.ReferenceDpIdeal.Value.res_main_v41
    rw [e0, e1, e2, e3, e4, e5]
    funext y
    rw [eq_one y]
    exact Cert.ReferenceDpIdeal.Own.oL_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  · refine Eq.trans ?_ (arr8 m c).symm
    rw [e1, e2]
    funext i
    obtain ⟨r, j, rfl⟩ : ∃ r j, i = ix2 r j := ⟨i 0, i 1, eq_ix2 i⟩
    exact Cert.ReferenceDpIdeal.Own.hDot_apply (m ((c : Thread nD τ).loc main_arg1)) (m ((c : Thread nD τ).loc main_arg2)) r j

end Cert.KernelDpIdeal.Own
end
-- ==== Proof.DnHost.lean ====
module
public import proofs.«01_k».proof.Proof.Gen.ReferenceDnIdeal.Run
public import proofs.«01_k».proof.Proof.NormGrad
public import Idealize.ShloMosaic.Lib.MatmulPlain
public import Idealize.ShloMosaic.Lib.StackMember
@[expose] public section
set_option maxRecDepth 16384
noncomputable section
namespace Cert.ReferenceDnIdeal.Own
open Cert.ReferenceDnIdeal Cert.ReferenceDnIdeal.Gen Idealize.ShloMosaic Idealize.ShloMosaic.TcCoe Idealize.SL.Sem
open Idealize.ShloMosaic.Tactic Idealize.ShloMosaic.ValueIdx
open Cert.NormGrad.Own (cEps redLast redFirst)
open scoped BigOperators

/-- The row length as both programs write it. -/
def cLen : EReal := Ideal.ofBits .f32 0x44000000#32

theorem cLen_eq : cLen = ((512 : ℝ) : EReal) := by
  unfold cLen
  simp [Ideal.ofBits, Ideal.ieee, -EReal.coe_mul]; norm_num

/-- The mean square of a row, and the constant. -/
abbrev ms (x : Fin 512 → EReal) : EReal := Cert.NormGrad.Own.ms cLen x
/-- The factor that normalises a row. -/
abbrev rr (x : Fin 512 → EReal) : EReal := Cert.NormGrad.Own.rr cLen x
/-- The gradient by a row `x`, as the kernel writes it: `d` the gradient of the row after the gain `g`. -/
abbrev dxK (d g x : Fin 512 → EReal) (j : Fin 512) : EReal := Cert.NormGrad.Own.dxK cLen (fun k => d k * g k) x j
/-- The part of that gradient that comes through the mean square. -/
abbrev dms (d g x : Fin 512 → EReal) : EReal := Cert.NormGrad.Own.dms cLen (fun k => d k * g k) x
/-- The gradient by a row as the chain rule gives it. -/
abbrev dxR (d g x : Fin 512 → EReal) (j : Fin 512) : EReal := Cert.NormGrad.Own.dxR cLen (fun k => d k * g k) x j

section
variable (A : FVec Ideal S8192x1024 .bf16) (W : FVec Ideal S512x1024 .bf16) (X : FVec Ideal S8192x512 .f32) (G : FVec Ideal S1x512 .f32)

/-! ## The reference's values, one name for each -/

/-- The mean squares. -/
def hMs : FVec Ideal S8192x1 .f32 := addf (Host.divf (broadcastInDim S8192x1 ![0] bcast_S8192_S8192x1_0 (Host.reduceAdd (mulf X X) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32))
/-- The normalising factors. -/
def hR : FVec Ideal S8192x1 .f32 := Host.rsqrt (hMs X)
/-- The normalised rows. -/
def hN : FVec Ideal S8192x512 .f32 := mulf X (broadcastInDim S8192x512 ![0, 1] bcast_S8192x1_S8192x512_0_1 (hR X))
/-- The gain. -/
def hG : FVec Ideal S8192x512 .f32 := broadcastInDim S8192x512 ![0, 1] bcast_S1x512_S8192x512_0_1 G
/-- The gradient of the rows after the gain. -/
def hD : FVec Ideal S8192x512 .f32 := Host.dotGeneral dot_S8192x1024_S512x1024_S8192x512_1_1_0_0_n_n none (extf .f32 A bitsLt_bf16_f32) (extf .f32 W bitsLt_bf16_f32)
/-- The gradient of the normalised rows. -/
def hA : FVec Ideal S8192x512 .f32 := mulf (hD A W) (hG G)
/-- The gradient through the mean square. -/
def hQ : FVec Ideal S8192x512 .f32 := broadcastInDim S8192x512 ![0] bcast_S8192_S8192x512_0 (Host.reduceAdd (Host.divf (mulf (shapeCast _ (Host.reduceAdd (mulf X (hA A W G)) (constant S_ .f32 0x00000000#32) reducesTo_S8192x512_S8192_d1 h_S_) shapeCasts_S8192_S8192x1) (mulf (broadcastInDim S8192x1 ![] bcast_S_S8192x1 (constant S_ .f32 0xBF000000#32)) (Host.divf (hR X) (hMs X)))) (broadcastInDim S8192x1 ![] bcast_S_S8192x1 (constant S_ .f32 0x44000000#32))) (constant S_ .f32 0x00000000#32) reducesTo_S8192x1_S8192_d1 h_S_)

/-- The gradient by the rows. -/
def oX : FVec Ideal S8192x512 .f32 := addf (addf (mulf (hA A W G) (broadcastInDim S8192x512 ![0, 1] bcast_S8192x1_S8192x512_0_1 (hR X))) (mulf X (hQ A W X G))) (mulf (hQ A W X G) X)
/-- The gradient by the gain. -/
def oG : FVec Ideal S1x512 .f32 := shapeCast _ (Host.reduceAdd (mulf (hN X) (hD A W)) (constant S_ .f32 0x00000000#32) reducesTo_S8192x512_S512_d0 h_S_) shapeCasts_S512_S1x512

/-! ## The arrays by coordinates -/

/-- Row `i` of the rows. -/
def xRow (i : Fin 8192) (j : Fin 512) : EReal := X (ix2 i j)
/-- The gain. -/
def gRow (j : Fin 512) : EReal := G (ix2 0 j)
/-- Row `i` of the gradient of the rows after the gain. -/
def dRow (i : Fin 8192) (j : Fin 512) : EReal := ∑ k : Fin 1024, A (ix2 i k) * W (ix2 j k)

theorem hMs_apply (i : Fin 8192) : hMs X (ix2 i 0) = ms (xRow X i) := by
  have e : (broadcastInDim S8192x1 ![0] bcast_S8192_S8192x1_0 (Host.reduceAdd (mulf X X) (constant S_ .f32 0x00000000#32) reducesTo_S8192x512_S8192_d1 h_S_)) (ix2 i 0) = ∑ k : Fin 512, xRow X i k * xRow X i k := by
    refine (broadcastInDim_apply _ _ _ _ (ix1 i) fun a => ?_).trans ?_
    · match a with
      | ⟨0, _⟩ => rfl
    · exact redLast _ _ (by decide) _ i
  show Ideal.div _ (Ideal.ofBits .f32 0x44000000#32) + Ideal.ofBits .f32 0x358637BD#32 = _
  rw [e]; rfl

theorem hR_apply (i : Fin 8192) : hR X (ix2 i 0) = rr (xRow X i) := by
  show Ideal.rsqrt (hMs X (ix2 i 0)) = _
  rw [hMs_apply]; rfl

theorem hR_bcast (i : Fin 8192) (j : Fin 512) :
    (broadcastInDim S8192x512 ![0, 1] bcast_S8192x1_S8192x512_0_1 (hR X)) (ix2 i j) = rr (xRow X i) := by
  refine (broadcastInDim_apply _ _ _ _ (ix2 i 0) fun a => ?_).trans (hR_apply X i)
  match a with
  | ⟨0, _⟩ => rfl
  | ⟨1, _⟩ => rfl

theorem hN_apply (i : Fin 8192) (j : Fin 512) : hN X (ix2 i j) = xRow X i j * rr (xRow X i) := by
  show X (ix2 i j) * _ = _
  rw [hR_bcast]; rfl

theorem hG_apply (i : Fin 8192) (j : Fin 512) : hG G (ix2 i j) = gRow G j := by
  refine broadcastInDim_apply _ _ _ _ (ix2 0 j) fun a => ?_
  match a with
  | ⟨0, _⟩ => rfl
  | ⟨1, _⟩ => rfl

theorem hD_apply (i : Fin 8192) (j : Fin 512) : hD A W (ix2 i j) = dRow A W i j := by
  unfold hD
  rw [show dot_S8192x1024_S512x1024_S8192x512_1_1_0_0_n_n = DotDims.transposedRhs 8192 1024 512 from rfl]
  refine (congrFun (matmul_zero_eq_dotGeneral (DotDims.transposedRhs 8192 1024 512) none _ _) (ix2 i j)).symm.trans ?_
  refine (Ideal.matmul_transposedRhs_apply none _ _ _ i j).trans ?_
  show (constant S8192x512 .f32 0x00000000#32 (ix2 i j) : Ideal .f32) + _ = _
  simp [constant, Ideal.ofBits_def, dRow]
  rfl

theorem hA_apply (i : Fin 8192) (j : Fin 512) : hA A W G (ix2 i j) = dRow A W i j * gRow G j := by
  show hD A W (ix2 i j) * hG G (ix2 i j) = _
  rw [hD_apply, hG_apply]

theorem hQ_apply (i : Fin 8192) (j : Fin 512) : hQ A W X G (ix2 i j) = dms (dRow A W i) (gRow G) (xRow X i) := by
  refine (broadcastInDim_apply _ _ _ _ (ix1 i) fun a => ?_).trans ?_
  · match a with
    | ⟨0, _⟩ => rfl
  · refine (redLast _ _ (by decide) _ i).trans ?_
    rw [Fin.sum_univ_one]
    have e : (shapeCast _ (Host.reduceAdd (mulf X (hA A W G)) (constant S_ .f32 0x00000000#32) reducesTo_S8192x512_S8192_d1 h_S_) shapeCasts_S8192_S8192x1 : FVec Ideal S8192x1 .f32) (ix2 i 0)
        = ∑ k : Fin 512, xRow X i k * (dRow A W i k * gRow G k) := by
      refine (shapeCast_apply _ _ _ (ix1 i) ?_).trans ?_
      · rw [Shape.rowMajor_val_two, Shape.rowMajor_val_one]
        show i.val = i.val * 1 + 0
        omega
      · refine (redLast _ _ (by decide) _ i).trans (Finset.sum_congr rfl fun k _ => ?_)
        show X (ix2 i k) * hA A W G (ix2 i k) = _
        rw [hA_apply]; rfl
    show Ideal.div ((shapeCast _ (Host.reduceAdd (mulf X (hA A W G)) (constant S_ .f32 0x00000000#32) reducesTo_S8192x512_S8192_d1 h_S_) shapeCasts_S8192_S8192x1 : FVec Ideal S8192x1 .f32) (ix2 i 0) * (Ideal.ofBits .f32 0xBF000000#32 * Ideal.div (hR X (ix2 i 0)) (hMs X (ix2 i 0)))) (Ideal.ofBits .f32 0x44000000#32) = _
    rw [e, hR_apply, hMs_apply]; rfl

/-- The gradient by row `i`. -/
theorem oX_apply (i : Fin 8192) (j : Fin 512) : oX A W X G (ix2 i j) = dxR (dRow A W i) (gRow G) (xRow X i) j := by
  show hA A W G (ix2 i j) * _ + X (ix2 i j) * hQ A W X G (ix2 i j) + hQ A W X G (ix2 i j) * X (ix2 i j) = _
  rw [hA_apply, hR_bcast, hQ_apply]; rfl

/-- The gradient by the gain. -/
theorem oG_apply (j : Fin 512) : oG A W X (ix2 0 j) = ∑ i : Fin 8192, xRow X i j * rr (xRow X i) * dRow A W i j := by
  refine (shapeCast_apply _ _ _ (ix1 j) ?_).trans ?_
  · rw [Shape.rowMajor_val_two, Shape.rowMajor_val_one]
    show j.val = 0 * 512 + j.val
    omega
  · refine (redFirst _ _ (by decide) _ j).trans (Finset.sum_congr rfl fun i _ => ?_)
    show hN X (ix2 i j) * hD A W (ix2 i j) = _
    rw [hN_apply, hD_apply]

end

end Cert.ReferenceDnIdeal.Own
end
-- ==== Proof.Dn.lean ====
module
public import proofs.«01_k».proof.Proof.Gen.KernelDnIdeal.Value
public import proofs.«01_k».proof.Proof.DnHost
public import proofs.«01_k».proof.Proof.Gen.Pre_finite_dn
public import proofs.«01_k».proof.Defs
public import Idealize.ShloMosaic.Lib.MatmulPlain
public import Idealize.ShloMosaic.Lib.ValueLayoutCasts
public import Idealize.ShloMosaic.Lib.Pipeline.ValueKit.Geometry
public import Idealize.ShloMosaic.Lib.Pipeline.ValueKit.Acc
public import Idealize.ShloMosaic.Lib.ReduceAll
public import Idealize.ShloMosaic.Lib.IdealHost
@[expose] public section
set_option maxRecDepth 16384
noncomputable section
namespace Cert.KernelDnIdeal.Own
open Cert.KernelDnIdeal Cert.KernelDnIdeal.Gen Idealize.ShloMosaic Idealize.ShloMosaic.TcCoe Idealize.SL.Sem
open Idealize.ShloMosaic.Tactic Idealize.ShloMosaic.ValueIdx
open Cert.NormGrad.Own (cEps IsReal IsReal.add' IsReal.mul' isReal_dot real_of_test top16 top32 dx_eq)
open Cert.ReferenceDnIdeal.Own (cLen cLen_eq ms rr dxK dxR xRow gRow dRow)
open scoped BigOperators

/-! ## What the body computes from one block of 512 rows -/

/-- Row `p` of the gradient of the rows after the gain, from the blocks. -/
def bD (v0 : FVec Ideal S512x1024 .bf16) (v1 : FVec Ideal S1024x512 .bf16) (p : Fin 512) (j : Fin 512) : EReal :=
  ∑ k : Fin 1024, v0 (ix2 p k) * v1 (ix2 k j)
/-- Row `p` of the block of rows. -/
def bX (v4 : FVec Ideal S512x512 .f32) (p : Fin 512) (j : Fin 512) : EReal := v4 (ix2 p j)
/-- The gain. -/
def bG (v5 : FVec Ideal S1x512 .f32) (j : Fin 512) : EReal := v5 (ix2 0 j)

theorem sum_rows (x : FVec Ideal S512x512 .f32) (j : Fin 512) :
    (shapeCast S1x512 (multiReduction .add [0] S512 x 0x00000000#32 reduces_S512x512_S512_2 (.inl rfl) rfl) shapeCasts_S512_S1x512 : FVec Ideal S1x512 .f32) (ix2 0 j) = ∑ p : Fin 512, x (ix2 p j) := by
  refine (shapeCast_apply _ _ _ (ix1 j) ?_).trans ?_
  · rw [Shape.rowMajor_val_one, Shape.rowMajor_val_two]
    show j.val = 0 * 512 + j.val
    omega
  · refine (Ideal.multiReduction_add_single (a := 0) x _ reduces_S512x512_S512_2 (.inl rfl) rfl (ix1 j)).trans ?_
    refine Finset.sum_congr rfl fun k _ => congrArg x (funext fun d => Fin.ext ?_)
    match d with
    | ⟨0, _⟩ => rfl
    | ⟨1, _⟩ => rfl

theorem sum_lanes (x : FVec Ideal S512x512 .f32) (p : Fin 512) :
    (shapeCast S512x1 (multiReduction .add [1] S512 x 0x00000000#32 reduces_S512x512_S512 (.inl rfl) rfl) shapeCasts_S512_S512x1 : FVec Ideal S512x1 .f32) (ix2 p 0) = ∑ k : Fin 512, x (ix2 p k) := by
  refine (shapeCast_apply _ _ _ (ix1 p) ?_).trans ?_
  · rw [Shape.rowMajor_val_one, Shape.rowMajor_val_two]
    show p.val = p.val * 1 + 0
    omega
  · refine (Ideal.multiReduction_add_single (a := 1) x _ reduces_S512x512_S512 (.inl rfl) rfl (ix1 p)).trans ?_
    refine Finset.sum_congr rfl fun k _ => congrArg x (funext fun d => Fin.ext ?_)
    match d with
    | ⟨0, _⟩ => rfl
    | ⟨1, _⟩ => rfl

theorem col_bcast (x : FVec Ideal S512x1 .f32) (p : Fin 512) (j : Fin 512) :
    (broadcastTo S512x512 x broadcasts_S512x1_S512x512 : FVec Ideal S512x512 .f32) (ix2 p j) = x (ix2 p 0) :=
  broadcastTo_apply x _ _ (ix2 p 0) fun a => match a with
    | ⟨0, _⟩ => rfl
    | ⟨1, _⟩ => rfl

theorem row_bcast (x : FVec Ideal S1x512 .f32) (p : Fin 512) (j : Fin 512) :
    (broadcastTo S512x512 x broadcasts_S1x512_S512x512 : FVec Ideal S512x512 .f32) (ix2 p j) = x (ix2 0 j) :=
  broadcastTo_apply x _ _ (ix2 0 j) fun a => match a with
    | ⟨0, _⟩ => rfl
    | ⟨1, _⟩ => rfl

section
variable (v0 : FVec Ideal S512x1024 .bf16) (v1 : FVec Ideal S1024x512 .bf16) (v4 : FVec Ideal S512x512 .f32) (v5 : FVec Ideal S1x512 .f32)

theorem pay2_apply (p j : Fin 512) : k0_pay2 (F := Ideal) v0 v1 (ix2 p j) = bD v0 v1 p j := by
  unfold k0_pay2
  simp only [shapeCast_self]
  have e : dot_S512x1024_S1024x512_S512x512_1_0_0_1_n_n = DotDims.plain 512 1024 512 := rfl
  rw [e]
  refine (Ideal.matmul_plain_apply none v0 v1 _ p j).trans ?_
  show (constant S512x512 .f32 0x00000000#32 (ix2 p j) : Ideal .f32) + _ = _
  simp [constant, Ideal.ofBits_def, bD]

theorem pay3_apply (p : Fin 512) : k0_pay3 (F := Ideal) v4 (ix2 p 0) = rr (bX v4 p) :=
  congrArg (fun z : EReal => Ideal.rsqrt (Ideal.div z cLen + cEps)) (sum_lanes (mulf v4 v4) p)

theorem pay4_apply (p j : Fin 512) : k0_pay4 (F := Ideal) v4 (ix2 p j) = bX v4 p j * rr (bX v4 p) :=
  congrArg (v4 (ix2 p j) * ·) ((col_bcast _ p j).trans (pay3_apply v4 p))

theorem pay5_apply (j : Fin 512) : k0_pay5 (F := Ideal) v0 v1 v4 (ix2 0 j) = ∑ p : Fin 512, bD v0 v1 p j * (bX v4 p j * rr (bX v4 p)) := by
  refine (sum_rows _ j).trans (Finset.sum_congr rfl fun p _ => ?_)
  exact congrArg₂ (· * ·) (pay2_apply v0 v1 p j) (pay4_apply v4 p j)

theorem pay7_apply (p j : Fin 512) : k0_pay7 (F := Ideal) v0 v1 v5 (ix2 p j) = bD v0 v1 p j * bG v5 j :=
  congrArg₂ (· * ·) (pay2_apply v0 v1 p j) (row_bcast v5 p j)

theorem pay1_apply (p j : Fin 512) : k0_pay1 (F := Ideal) (k0_pay3 v4) (k0_pay7 v0 v1 v5) (k0_pay8 v0 v1 v4 v5) (ix2 p j) = dxK (bD v0 v1 p) (bG v5) (bX v4 p) j := by
  refine congrArg₂ (· * ·) ((col_bcast _ p j).trans (pay3_apply v4 p)) (congrArg₂ (fun u w : EReal => u - w) (pay7_apply v0 v1 v5 p j) ?_)
  refine congrArg₂ (· * ·) (pay4_apply v4 p j) ((col_bcast _ p j).trans ?_)
  refine congrArg (fun z : EReal => Ideal.div z cLen) ((sum_lanes _ p).trans (Finset.sum_congr rfl fun k _ => ?_))
  exact congrArg₂ (· * ·) (pay7_apply v0 v1 v5 p k) (pay4_apply v4 p k)
end

/-! ## The blocks -/

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

theorem V_v0 (c : Dev nD) : V m c main_v0 = transpose S1024x512 [1, 0] (m ((c : Thread nD τ).loc main_arg1)) transposes_S512x1024_S1024x512_1_0 := by
  simp only [V, hostOps0]; after_results

/-- Row `i` of the gradient of the rows after the gain. -/
abbrev aD (c : Dev nD) (i : Fin 8192) (j : Fin 512) : EReal := dRow (m ((c : Thread nD τ).loc main_arg0)) (m ((c : Thread nD τ).loc main_arg1)) i j
/-- Row `i` of the rows. -/
abbrev aX (c : Dev nD) (i : Fin 8192) (j : Fin 512) : EReal := xRow (m ((c : Thread nD τ).loc main_arg2)) i j
/-- The gain. -/
abbrev aG (c : Dev nD) (j : Fin 512) : EReal := gRow (m ((c : Thread nD τ).loc main_arg3)) j

/-- Row `p` of the block of point `t`. -/
def rowT (t : Fin cfg0.N) (p : Fin 512) : Fin 8192 := ⟨t.val * 512 + p.val, by have := lt_of_lt_of_eq t.isLt N_0; omega⟩

theorem bX_blk (c : Dev nD) (t : Fin cfg0.N) (p : Fin 512) : bX (iblk m c 2 t) p = aX m c (rowT t p) := by
  funext j
  show iblk m c 2 t (ix2 p j) = m ((c : Thread nD τ).loc main_arg2) (ix2 (rowT t p) j)
  rw [← V_main_arg2 m c]
  blk_simp [iblk]
  refine congrArg (V m c main_arg2) ?_
  blk_ext [index2, ix2, rowT]

theorem bG_blk (c : Dev nD) (t : Fin cfg0.N) : bG (iblk m c 3 t) = aG m c := by
  funext j
  show iblk m c 3 t (ix2 0 j) = m ((c : Thread nD τ).loc main_arg3) (ix2 0 j)
  rw [← V_main_arg3 m c]
  blk_simp [iblk]
  refine congrArg (V m c main_arg3) ?_
  blk_ext [index3, ix2]

theorem b0_blk (c : Dev nD) (t : Fin cfg0.N) (p : Fin 512) (k : Fin 1024) : iblk m c 0 t (ix2 p k) = m ((c : Thread nD τ).loc main_arg0) (ix2 (rowT t p) k) := by
  rw [← V_main_arg0 m c]
  blk_simp [iblk]
  refine congrArg (V m c main_arg0) ?_
  blk_ext [index0, ix2, rowT]

theorem b1_blk (c : Dev nD) (t : Fin cfg0.N) (k : Fin 1024) (j : Fin 512) : iblk m c 1 t (ix2 k j) = m ((c : Thread nD τ).loc main_arg1) (ix2 j k) := by
  refine Eq.trans ?_ ((congrFun (V_v0 m c) (ix2 k j)).trans (transpose_apply (s := S512x1024) (t := S1024x512) [1, 0] _ _ (ix2 k j) (ix2 j k) (fun b => by fin_cases b <;> rfl)))
  blk_simp [iblk]
  refine congrArg (V m c main_v0) ?_
  blk_ext [index1, ix2]

theorem bD_blk (c : Dev nD) (t : Fin cfg0.N) (p : Fin 512) : bD (iblk m c 0 t) (iblk m c 1 t) p = aD m c (rowT t p) := by
  funext j
  refine Finset.sum_congr rfl fun k _ => ?_
  exact congrArg₂ (· * ·) (b0_blk m c t p k) (b1_blk m c t k j)

theorem eq_row1 (y : S1x512.Idx) : y = ix2 0 (y 1) := by
  refine funext fun a => Fin.ext ?_
  match a with
  | ⟨0, _⟩ => have : (y 0).val < 1 := (y 0).isLt; show (y 0).val = 0; omega
  | ⟨1, _⟩ => rfl

/-! ## What the points leave -/

/-- One row's addend to the gradient by the gain. -/
def eG (c : Dev nD) (i : Fin 8192) (j : Fin 512) : EReal := aD m c i j * (aX m c i j * rr (aX m c i))
/-- One point's addend to the gradient by the gain. -/
def tG (c : Dev nD) (t : Fin cfg0.N) (y : S1x512.Idx) : EReal := ∑ p : Fin 512, eG m c (rowT t p) (y 1)
/-- The gradient by the rows as the kernel leaves it. -/
def oK (c : Dev nD) (i : S8192x512.Idx) : EReal := dxK (aD m c (i 0)) (aG m c) (aX m c (i 0)) (i 1)

theorem pay5_blk (c : Dev nD) (t : Fin cfg0.N) (y : S1x512.Idx) :
    k0_pay5 (F := Ideal) (iblk m c 0 t) (iblk m c 1 t) (iblk m c 2 t) y = tG m c t y := by
  rw [eq_row1 y]
  refine (pay5_apply _ _ _ (y 1)).trans (Finset.sum_congr rfl fun p _ => ?_)
  rw [bD_blk, bX_blk]; rfl

theorem pay1_blk (c : Dev nD) (t : Fin cfg0.N) (y : S512x512.Idx) :
    k0_pay1 (F := Ideal) (k0_pay3 (iblk m c 2 t)) (k0_pay7 (iblk m c 0 t) (iblk m c 1 t) (iblk m c 3 t)) (k0_pay8 (iblk m c 0 t) (iblk m c 1 t) (iblk m c 2 t) (iblk m c 3 t)) y = oK m c (ix2 (rowT t (y 0)) (y 1)) := by
  obtain ⟨p, j, rfl⟩ : ∃ p j, y = ix2 p j := ⟨y 0, y 1, eq_ix2 y⟩
  refine (pay1_apply _ _ _ _ p j).trans ?_
  rw [bD_blk, bG_blk, bX_blk]; rfl

theorem out4 (c : Dev nD) (t : Fin cfg0.N) (y : S512x512.Idx) : (outsAt0 m c t.val t.isLt).1 y = oK m c (ix2 (rowT t (y 0)) (y 1)) := by
  have hN : t.val < 16 := lt_of_lt_of_eq t.isLt N_0
  rw [← pay1_blk m c t y]
  by_cases h0 : t.val % 16 = 0
  · rw [outsAt0_A m c t (by omega) (by omega)]
    frame_out
  · rw [outsAt0_B m c t (by omega) (by omega)]
    frame_out

/-- The gradient by the gain at the last point. -/
theorem last5 (c : Dev nD) (t : Fin cfg0.N) (ht : t.val % 16 = 15) (y : S1x512.Idx) :
    (outsAt0 m c t.val t.isLt).2 y = (0 : EReal) + ∑ s : Fin 16, tG m c ⟨16 * (t.val / 16) + s.val, Pipeline.run_point_lt_of_flush t ht s⟩ y := by
  refine Pipeline.eq_sum_fin_of_reset_step_apply_of_flush (fun n h => (outsAt0 m c n h).2) 16 (fun _ => (0 : EReal)) (tG m c) (fun t h y => ?_) (fun t h y => ?_) t ht y
  · have hN : t.val < 16 := lt_of_lt_of_eq t.isLt N_0
    rw [outsAt0_A m c t (by omega) (by omega), zero_add, ← pay5_blk m c t y]
    frame_out
  · have hN : t.val < 16 := lt_of_lt_of_eq t.isLt N_0
    rw [← pay5_blk m c t y, outsAt0_B m c t (by omega) (by omega)]
    frame_out
    simp only [k0_pay6, shapeCast_self]
    rfl

theorem out5 (c : Dev nD) (t : Fin cfg0.N) (ht : t.val % 16 = 15) (y : S1x512.Idx) :
    (outsAt0 m c t.val t.isLt).2 y = ∑ i : Fin 8192, eG m c i (y 1) := by
  rw [last5 m c t ht, zero_add]
  have hN : t.val < 16 := lt_of_lt_of_eq t.isLt N_0
  refine Fin.sum_mul_add_congr (S := 16) (n := 512) fun s p hl => ?_
  have e : rowT ⟨16 * (t.val / 16) + s.val, Pipeline.run_point_lt_of_flush t ht s⟩ p = ⟨s.val * 512 + p.val, hl⟩ :=
    Fin.ext (by show (16 * (t.val / 16) + s.val) * 512 + p.val = s.val * 512 + p.val; omega)
  rw [e]

theorem arr4 (c : Dev nD) : (dats m 0 c).arrAt 4 cfg0.N = (fun i : S8192x512.Idx => oK m c i) := by
  refine (dats m 0 c).arrAt_eq_of_covers 4 _ (by decide +kernel) fun t hf y => ?_
  blk_simp
  rw [after0_4, out4 m c t]
  refine congrArg (oK m c) ?_
  blk_ext [index4, ix2, rowT]

theorem arr5 (c : Dev nD) : (dats m 0 c).arrAt 5 cfg0.N = (fun y : S1x512.Idx => ∑ i : Fin 8192, eG m c i (y 1)) := by
  refine (dats m 0 c).arrAt_eq_of_covers 5 _ (by decide +kernel) fun t hf y => ?_
  have ht := (flush0_5 t).mp hf
  blk_simp
  rw [after0_5, out5 m c t ht]
  refine congrArg (fun z : S1x512.Idx => ∑ i : Fin 8192, eG m c i (z 1)) (show (y : S1x512.Idx) = _ from ?_)
  blk_ext [index5, ix2]

/-! ## The claim -/

/-- The precondition read back for the arguments. -/
theorem real_args (a0 : FVec Ideal Cert.Pre_finite_dn.S8192x1024 .bf16) (a1 : FVec Ideal Cert.Pre_finite_dn.S512x1024 .bf16) (a2 : FVec Ideal Cert.Pre_finite_dn.S8192x512 .f32) (a3 : FVec Ideal Cert.Pre_finite_dn.S1x512 .f32)
    (h : Cert.Pre_finite_dn.fn (F := Ideal) a0 a1 a2 a3 = fun _ => 1#1) :
    (∀ i, IsReal (a0 i)) ∧ (∀ i, IsReal (a1 i)) ∧ (∀ i, IsReal (a2 i)) ∧ ∀ i, IsReal (a3 i) := by
  have h0 := congrFun h (fun k => k.elim0)
  unfold Cert.Pre_finite_dn.fn at h0
  dsimp only at h0
  unfold Cert.Pre_finite_dn.fn_part1 at h0
  dsimp only at h0
  obtain ⟨h0, e3⟩ := IntOp.andi_eq_one.1 h0
  obtain ⟨h0, e2⟩ := IntOp.andi_eq_one.1 h0
  obtain ⟨e0, e1⟩ := IntOp.andi_eq_one.1 h0
  exact ⟨real_of_test _ top16 _ _ _ _ _ e0, real_of_test _ top16 _ _ _ _ _ e1, real_of_test _ top32 _ _ _ _ _ e2, real_of_test _ top32 _ _ _ _ _ e3⟩

/-- The kernel call and the reference compute the same gradients of rows and gain over the reals, at finite arguments. -/
theorem algebraic_dn : Cert.algebraic_KernelDnIdeal_ReferenceDnIdeal_pre_finite_dn (hKernelDnIdeal := Cert.KernelDnIdeal.Gen.facts) (hReferenceDnIdeal := Cert.ReferenceDnIdeal.Gen.facts) (hPre_finite_dn := Cert.Pre_finite_dn.Gen.facts) := by
  intro m g m' g' hpre harg
  refine ⟨fun c => (dats m 0 c).arrAt 4 cfg0.N, fun c => (dats m 0 c).arrAt 5 cfg0.N, Value.run_blocks m g, ?_⟩
  refine (θ_run Cert.ReferenceDnIdeal.defs _ _).mono (fun r h c => ?_) (Cert.ReferenceDnIdeal.Value.run (F := Ideal) m' g')
  obtain ⟨hx, hg, h0⟩ := h c
  obtain ⟨e0, e1, e2, e3⟩ := harg c
  obtain ⟨f0, f1, f2, f3⟩ := real_args _ _ _ _ (hpre c)
  refine ⟨hx.trans ?_, hg.trans ?_, h0⟩
  · refine Eq.trans ?_ (arr4 m c).symm
    unfold Cert.ReferenceDnIdeal.Value.res_main_v37
    rw [e0, e1, e2, e3]
    funext i
    obtain ⟨r, j, rfl⟩ : ∃ r j, i = ix2 r j := ⟨i 0, i 1, eq_ix2 i⟩
    refine (Cert.ReferenceDnIdeal.Own.oX_apply (m ((c : Thread nD τ).loc main_arg0)) (m ((c : Thread nD τ).loc main_arg1)) (m ((c : Thread nD τ).loc main_arg2)) (m ((c : Thread nD τ).loc main_arg3)) r j).trans ?_
    refine dx_eq cLen_eq (by norm_num) (fun k => IsReal.mul' ?_ ?_) (fun k => ?_) j
    · exact isReal_dot _ _ (fun _ => f0 _) (fun _ => f1 _)
    · exact f3 _
    · exact f2 _
  · refine Eq.trans ?_ (arr5 m c).symm
    rw [e0, e1, e2]
    funext y
    rw [eq_row1 y]
    refine (Cert.ReferenceDnIdeal.Own.oG_apply (m ((c : Thread nD τ).loc main_arg0)) (m ((c : Thread nD τ).loc main_arg1)) (m ((c : Thread nD τ).loc main_arg2)) (y 1)).trans ?_
    exact Finset.sum_congr rfl fun i _ => mul_comm _ _

end Cert.KernelDnIdeal.Own
end
-- ==== Proof.PnHost.lean ====
module
public import proofs.«01_k».proof.Proof.Gen.ReferencePnIdeal.Run
public import proofs.«01_k».proof.Proof.NormGrad
public import Idealize.ShloMosaic.Lib.StackMember
@[expose] public section
set_option maxRecDepth 16384
noncomputable section
namespace Cert.ReferencePnIdeal.Own
open Cert.ReferencePnIdeal Cert.ReferencePnIdeal.Gen Idealize.ShloMosaic Idealize.ShloMosaic.TcCoe Idealize.SL.Sem
open Idealize.ShloMosaic.Tactic Idealize.ShloMosaic.ValueIdx
open Cert.NormGrad.Own (cEps red2 red1 red01 real_mul_sum)
open scoped BigOperators

/-- The row length as both programs write it. -/
def cLen : EReal := Ideal.ofBits .f32 0x44800000#32

theorem cLen_eq : cLen = ((1024 : ℝ) : EReal) := by
  unfold cLen
  simp [Ideal.ofBits, Ideal.ieee, -EReal.coe_mul]; norm_num

/-- One half. -/
def cH : EReal := Ideal.ofBits .f32 0x3F000000#32

theorem cH_eq : cH = ((1 / 2 : ℝ) : EReal) := by
  unfold cH
  simp [Ideal.ofBits, Ideal.ieee, -EReal.coe_mul]; norm_num

/-- The mean square of a row, and the constant. -/
abbrev ms (x : Fin 1024 → EReal) : EReal := Cert.NormGrad.Own.ms cLen x
/-- The factor that normalises a row. -/
abbrev rr (x : Fin 1024 → EReal) : EReal := Cert.NormGrad.Own.rr cLen x
/-- The gradient by a row `y` of the branch, as the kernel writes it: `d` the gradient of the gained row, `g` the gain. -/
abbrev dxK (d g y : Fin 1024 → EReal) (j : Fin 1024) : EReal := Cert.NormGrad.Own.dxK cLen (fun k => d k * g k) y j
/-- The part of that gradient that comes through the mean square. -/
abbrev dms (d g y : Fin 1024 → EReal) : EReal := Cert.NormGrad.Own.dms cLen (fun k => d k * g k) y
/-- The gradient by a row as the chain rule gives it. -/
abbrev dxR (d g y : Fin 1024 → EReal) (j : Fin 1024) : EReal := Cert.NormGrad.Own.dxR cLen (fun k => d k * g k) y j

section
variable (X : FVec Ideal S8192x1024 .f32) (Y : FVec Ideal S8192x1024 .bf16) (G : FVec Ideal S1x1024 .f32) (M : FVec Ideal S4x9x1024 .f32)

/-! ## The reference's values, one name for each -/

/-- The gradient of the rows the branch is added to, by image and position. -/
def hX : FVec Ideal S4x2048x1024 .f32 := shapeCast _ X shapeCasts_S8192x1024_S4x2048x1024
/-- The branch's rows, by image and position. -/
def hY : FVec Ideal S4x2048x1024 .f32 := shapeCast _ (extf .f32 Y bitsLt_bf16_f32 : FVec Ideal S8192x1024 .f32) shapeCasts_S8192x1024_S4x2048x1024
/-- The mean squares. -/
def hMs : FVec Ideal S4x2048x1 .f32 := addf (Host.divf (broadcastInDim S4x2048x1 ![0, 1] bcast_S4x2048_S4x2048x1_0_1 (Host.reduceAdd (mulf (hY Y) (hY Y)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
/-- The normalising factors. -/
def hR : FVec Ideal S4x2048x1 .f32 := Host.rsqrt (hMs Y)
/-- The normalised rows. -/
def hN : FVec Ideal S4x2048x1024 .f32 := mulf (hY Y) (broadcastInDim S4x2048x1024 ![0, 1, 2] bcast_S4x2048x1_S4x2048x1024_0_1_2 (hR Y))
/-- The gate. -/
def hM : FVec Ideal S4x2048x1024 .f32 := broadcastInDim S4x2048x1024 ![0, 1, 2] bcast_S4x1x1024_S4x2048x1024_0_1_2 (mulf (broadcastInDim S4x1x1024 ![] bcast_S_S4x1x1024 (constant S_ .f32 0x3F000000#32)) (broadcastInDim S4x1x1024 ![0, 2] bcast_S4x1024_S4x1x1024_0_2 (shapeCast _ (extractStridedSlice S4x1x1024 ![0, 8, 0] M slices_S4x9x1024_S4x1x1024_0_8_0) shapeCasts_S4x1x1024_S4x1024)))
/-- The gain. -/
def hG : FVec Ideal S4x2048x1024 .f32 := broadcastInDim S4x2048x1024 ![0, 1, 2] bcast_S1x1x1024_S4x2048x1024_0_1_2 (broadcastInDim S1x1x1024 ![1, 2] bcast_S1x1024_S1x1x1024_1_2 G)
/-- The gradient of the gained rows. -/
def hS : FVec Ideal S4x2048x1024 .f32 := mulf (hM M) (hX X)
/-- The gradient of the normalised rows. -/
def hA : FVec Ideal S4x2048x1024 .f32 := mulf (hS X M) (hG G)
/-- The gradient through the mean square. -/
def hQ : FVec Ideal S4x2048x1024 .f32 := broadcastInDim S4x2048x1024 ![0, 1] bcast_S4x2048_S4x2048x1024_0_1 (Host.reduceAdd (Host.divf (mulf (shapeCast _ (Host.reduceAdd (mulf (hY Y) (hA X G M)) (constant S_ .f32 0x00000000#32) reducesTo_S4x2048x1024_S4x2048_d2 h_S_) shapeCasts_S4x2048_S4x2048x1 : FVec Ideal S4x2048x1 .f32) (mulf (broadcastInDim S4x2048x1 ![] bcast_S_S4x2048x1 (constant S_ .f32 0xBF000000#32)) (Host.divf (hR Y) (hMs Y)))) (broadcastInDim S4x2048x1 ![] bcast_S_S4x2048x1 (constant S_ .f32 0x44800000#32))) (constant S_ .f32 0x00000000#32) reducesTo_S4x2048x1_S4x2048_d2 h_S_)
/-- The gradient by the branch's rows, before its rounding. -/
def oY32 : FVec Ideal S8192x1024 .f32 := shapeCast _ (addf (addf (mulf (hA X G M) (broadcastInDim S4x2048x1024 ![0, 1, 2] bcast_S4x2048x1_S4x2048x1024_0_1_2 (hR Y))) (mulf (hY Y) (hQ X Y G M))) (mulf (hQ X Y G M) (hY Y))) shapeCasts_S4x2048x1024_S8192x1024
/-- The gradient by the branch's rows. -/
def oY : FVec Ideal S8192x1024 .bf16 := truncf .bf16 (oY32 X Y G M) bitsLt_bf16_f32
/-- The gradient by the gain. -/
def oG : FVec Ideal S1x1024 .f32 := broadcastInDim S1x1024 ![1] bcast_S1024_S1x1024_1 (Host.reduceAdd (shapeCast _ (Host.reduceAdd (mulf (hN Y) (hS X M)) (constant S_ .f32 0x00000000#32) reducesTo_S4x2048x1024_S1024_d0_1 h_S_) shapeCasts_S1024_S1x1x1024) (constant S_ .f32 0x00000000#32) reducesTo_S1x1x1024_S1024_d0_1 h_S_)
/-- The gradient by the gate. -/
def oM : FVec Ideal S4x1x1024 .f32 := mulf (broadcastInDim S4x1x1024 ![] bcast_S_S4x1x1024 (constant S_ .f32 0x3F000000#32)) (shapeCast _ (Host.reduceAdd (mulf (hX X) (mulf (hN Y) (hG G))) (constant S_ .f32 0x00000000#32) reducesTo_S4x2048x1024_S4x1024_d1 h_S_) shapeCasts_S4x1024_S4x1x1024)

/-! ## The arrays by coordinates -/

/-- The row of position `s` of image `b`. -/
def rowOf (b : Fin 4) (s : Fin 2048) : Fin 8192 := ⟨b.val * 2048 + s.val, by omega⟩
/-- Row `i` of the gradient of the rows the branch is added to. -/
def xRow (i : Fin 8192) (j : Fin 1024) : EReal := X (ix2 i j)
/-- Row `i` of the branch. -/
def yRow (i : Fin 8192) (j : Fin 1024) : EReal := Y (ix2 i j)
/-- The gain. -/
def gRow (j : Fin 1024) : EReal := G (ix2 0 j)
/-- Row `i`, of image `b`, of the gradient of the gained rows. -/
def dRow (b : Fin 4) (i : Fin 8192) (j : Fin 1024) : EReal := xRow X i j * (cH * M (ix3 b 8 j))

theorem flat (x : FVec Ideal S8192x1024 .f32) (b : Fin 4) (s : Fin 2048) (j : Fin 1024) :
    (shapeCast _ x shapeCasts_S8192x1024_S4x2048x1024 : FVec Ideal S4x2048x1024 .f32) (ix3 b s j) = x (ix2 (rowOf b s) j) :=
  shapeCast_apply x _ _ (ix2 (rowOf b s) j) (by
    rw [Shape.rowMajor_val_three, Shape.rowMajor_val_two]
    show (b.val * 2048 + s.val) * 1024 + j.val = (b.val * 2048 + s.val) * 1024 + j.val
    rfl)

theorem hX_apply (b : Fin 4) (s : Fin 2048) (j : Fin 1024) : hX X (ix3 b s j) = xRow X (rowOf b s) j := flat X b s j
theorem hY_apply (b : Fin 4) (s : Fin 2048) (j : Fin 1024) : hY Y (ix3 b s j) = yRow Y (rowOf b s) j := flat _ b s j

theorem hMs_apply (b : Fin 4) (s : Fin 2048) : hMs Y (ix3 b s 0) = ms (yRow Y (rowOf b s)) := by
  have e : (broadcastInDim S4x2048x1 ![0, 1] bcast_S4x2048_S4x2048x1_0_1 (Host.reduceAdd (mulf (hY Y) (hY Y)) (constant S_ .f32 0x00000000#32) reducesTo_S4x2048x1024_S4x2048_d2 h_S_)) (ix3 b s 0) = ∑ k : Fin 1024, yRow Y (rowOf b s) k * yRow Y (rowOf b s) k := by
    refine (broadcastInDim_apply _ _ _ _ (ix2 b s) fun a => ?_).trans ?_
    · match a with
      | ⟨0, _⟩ => rfl
      | ⟨1, _⟩ => rfl
    · refine (red2 _ _ (by decide) _ b s).trans (Finset.sum_congr rfl fun k _ => ?_)
      show hY Y (ix3 b s k) * hY Y (ix3 b s k) = _
      rw [hY_apply]
  show Ideal.div _ (Ideal.ofBits .f32 0x44800000#32) + Ideal.ofBits .f32 0x358637BD#32 = _
  rw [e]; rfl

theorem hR_apply (b : Fin 4) (s : Fin 2048) : hR Y (ix3 b s 0) = rr (yRow Y (rowOf b s)) := by
  show Ideal.rsqrt (hMs Y (ix3 b s 0)) = _
  rw [hMs_apply]; rfl

theorem hR_bcast (b : Fin 4) (s : Fin 2048) (j : Fin 1024) :
    (broadcastInDim S4x2048x1024 ![0, 1, 2] bcast_S4x2048x1_S4x2048x1024_0_1_2 (hR Y)) (ix3 b s j) = rr (yRow Y (rowOf b s)) := by
  refine (broadcastInDim_apply _ _ _ _ (ix3 b s 0) fun a => ?_).trans (hR_apply Y b s)
  match a with
  | ⟨0, _⟩ => rfl
  | ⟨1, _⟩ => rfl
  | ⟨2, _⟩ => rfl

theorem hN_apply (b : Fin 4) (s : Fin 2048) (j : Fin 1024) : hN Y (ix3 b s j) = yRow Y (rowOf b s) j * rr (yRow Y (rowOf b s)) := by
  show hY Y (ix3 b s j) * _ = _
  rw [hY_apply, hR_bcast]

theorem hM_apply (b : Fin 4) (s : Fin 2048) (j : Fin 1024) : hM M (ix3 b s j) = cH * M (ix3 b 8 j) := by
  refine (broadcastInDim_apply _ _ _ _ (ix3 b 0 j) fun a => ?_).trans ?_
  · match a with
    | ⟨0, _⟩ => rfl
    | ⟨1, _⟩ => rfl
    | ⟨2, _⟩ => rfl
  · refine congrArg (cH * ·) ?_
    refine (broadcastInDim_apply _ _ _ _ (ix2 b j) fun a => ?_).trans ?_
    · match a with
      | ⟨0, _⟩ => rfl
      | ⟨1, _⟩ => rfl
    · refine (shapeCast_apply _ _ _ (ix3 b 0 j) ?_).trans ?_
      · rw [Shape.rowMajor_val_three, Shape.rowMajor_val_two]
        show (b.val * 1 + 0) * 1024 + j.val = b.val * 1024 + j.val
        omega
      · refine extractStridedSlice_apply _ _ _ _ (ix3 b 8 j) fun a => ?_
        match a with
        | ⟨0, _⟩ => exact (Nat.zero_add _).symm
        | ⟨1, _⟩ => rfl
        | ⟨2, _⟩ => exact (Nat.zero_add _).symm

theorem hG_apply (b : Fin 4) (s : Fin 2048) (j : Fin 1024) : hG G (ix3 b s j) = G (ix2 0 j) := by
  refine (broadcastInDim_apply _ _ _ _ (ix3 0 0 j) fun a => ?_).trans ?_
  · match a with
    | ⟨0, _⟩ => rfl
    | ⟨1, _⟩ => rfl
    | ⟨2, _⟩ => rfl
  · refine broadcastInDim_apply _ _ _ _ (ix2 0 j) fun a => ?_
    match a with
    | ⟨0, _⟩ => rfl
    | ⟨1, _⟩ => rfl

theorem hS_apply (b : Fin 4) (s : Fin 2048) (j : Fin 1024) : hS X M (ix3 b s j) = dRow X M b (rowOf b s) j := by
  show hM M (ix3 b s j) * hX X (ix3 b s j) = _
  rw [hM_apply, hX_apply, mul_comm]; rfl

theorem hA_apply (b : Fin 4) (s : Fin 2048) (j : Fin 1024) : hA X G M (ix3 b s j) = dRow X M b (rowOf b s) j * gRow G j := by
  show hS X M (ix3 b s j) * hG G (ix3 b s j) = _
  rw [hS_apply, hG_apply]; rfl

theorem hQ_apply (b : Fin 4) (s : Fin 2048) (j : Fin 1024) :
    hQ X Y G M (ix3 b s j) = dms (dRow X M b (rowOf b s)) (gRow G) (yRow Y (rowOf b s)) := by
  refine (broadcastInDim_apply _ _ _ _ (ix2 b s) fun a => ?_).trans ?_
  · match a with
    | ⟨0, _⟩ => rfl
    | ⟨1, _⟩ => rfl
  · refine (red2 _ _ (by decide) _ b s).trans ?_
    rw [Fin.sum_univ_one]
    have e : (shapeCast _ (Host.reduceAdd (mulf (hY Y) (hA X G M)) (constant S_ .f32 0x00000000#32) reducesTo_S4x2048x1024_S4x2048_d2 h_S_) shapeCasts_S4x2048_S4x2048x1 : FVec Ideal S4x2048x1 .f32) (ix3 b s 0)
        = ∑ k : Fin 1024, yRow Y (rowOf b s) k * (dRow X M b (rowOf b s) k * gRow G k) := by
      refine (shapeCast_apply _ _ _ (ix2 b s) ?_).trans ?_
      · rw [Shape.rowMajor_val_three, Shape.rowMajor_val_two]
        show b.val * 2048 + s.val = (b.val * 2048 + s.val) * 1 + 0
        omega
      · refine (red2 _ _ (by decide) _ b s).trans (Finset.sum_congr rfl fun k _ => ?_)
        show hY Y (ix3 b s k) * hA X G M (ix3 b s k) = _
        rw [hY_apply, hA_apply]
    show Ideal.div ((shapeCast _ (Host.reduceAdd (mulf (hY Y) (hA X G M)) (constant S_ .f32 0x00000000#32) reducesTo_S4x2048x1024_S4x2048_d2 h_S_) shapeCasts_S4x2048_S4x2048x1 : FVec Ideal S4x2048x1 .f32) (ix3 b s 0) * (Ideal.ofBits .f32 0xBF000000#32 * Ideal.div (hR Y (ix3 b s 0)) (hMs Y (ix3 b s 0)))) (Ideal.ofBits .f32 0x44800000#32) = _
    rw [e, hR_apply, hMs_apply]; rfl

/-- The gradient by the branch's row at image `b`, position `s`. -/
theorem oY_apply (b : Fin 4) (s : Fin 2048) (j : Fin 1024) :
    oY X Y G M (ix2 (rowOf b s) j) = dxR (dRow X M b (rowOf b s)) (gRow G) (yRow Y (rowOf b s)) j := by
  show oY32 X Y G M (ix2 (rowOf b s) j) = _
  refine (shapeCast_apply _ _ _ (ix3 b s j) ?_).trans ?_
  · rw [Shape.rowMajor_val_three, Shape.rowMajor_val_two]
    show (b.val * 2048 + s.val) * 1024 + j.val = (b.val * 2048 + s.val) * 1024 + j.val
    rfl
  · show hA X G M (ix3 b s j) * _ + hY Y (ix3 b s j) * hQ X Y G M (ix3 b s j) + hQ X Y G M (ix3 b s j) * hY Y (ix3 b s j) = _
    rw [hA_apply, hR_bcast, hY_apply, hQ_apply]; rfl

/-- The gradient by the gain. -/
theorem oG_apply (j : Fin 1024) :
    oG X Y M (ix2 0 j) = ∑ b : Fin 4, ∑ s : Fin 2048, yRow Y (rowOf b s) j * rr (yRow Y (rowOf b s)) * dRow X M b (rowOf b s) j := by
  refine (broadcastInDim_apply _ _ _ _ (ix1 j) fun a => ?_).trans ?_
  · match a with
    | ⟨0, _⟩ => rfl
  · refine (red01 _ _ _ j).trans ?_
    rw [Fin.sum_univ_one, Fin.sum_univ_one]
    refine (shapeCast_apply _ _ _ (ix1 j) ?_).trans ?_
    · rw [Shape.rowMajor_val_three, Shape.rowMajor_val_one]
      show j.val = (0 * 1 + 0) * 1024 + j.val
      omega
    · refine (red01 _ _ _ j).trans (Finset.sum_congr rfl fun b _ => Finset.sum_congr rfl fun s _ => ?_)
      show hN Y (ix3 b s j) * hS X M (ix3 b s j) = _
      rw [hN_apply, hS_apply]

/-- The gradient by the gate. -/
theorem oM_apply (b : Fin 4) (j : Fin 1024) :
    oM X Y G (ix3 b 0 j) = ∑ s : Fin 2048, xRow X (rowOf b s) j * (cH * (yRow Y (rowOf b s) j * rr (yRow Y (rowOf b s)) * gRow G j)) := by
  have e : (shapeCast _ (Host.reduceAdd (mulf (hX X) (mulf (hN Y) (hG G))) (constant S_ .f32 0x00000000#32) reducesTo_S4x2048x1024_S4x1024_d1 h_S_) shapeCasts_S4x1024_S4x1x1024 : FVec Ideal S4x1x1024 .f32) (ix3 b 0 j)
      = ∑ s : Fin 2048, xRow X (rowOf b s) j * (yRow Y (rowOf b s) j * rr (yRow Y (rowOf b s)) * gRow G j) := by
    refine (shapeCast_apply _ _ _ (ix2 b j) ?_).trans ((red1 _ _ (by decide) _ b j).trans (Finset.sum_congr rfl fun s _ => ?_))
    · rw [Shape.rowMajor_val_three, Shape.rowMajor_val_two]
      show b.val * 1024 + j.val = (b.val * 1 + 0) * 1024 + j.val
      omega
    · show hX X (ix3 b s j) * (hN Y (ix3 b s j) * hG G (ix3 b s j)) = _
      rw [hX_apply, hN_apply, hG_apply]; rfl
  refine (congrArg (cH * ·) e).trans ?_
  simp only [cH_eq]
  rw [real_mul_sum _ _ (by norm_num)]
  exact Finset.sum_congr rfl fun s _ => mul_left_comm _ _ _

end

end Cert.ReferencePnIdeal.Own
end
-- ==== Proof.Pn.lean ====
module
public import proofs.«01_k».proof.Proof.Gen.KernelPnIdeal.Value
public import proofs.«01_k».proof.Proof.PnHost
public import proofs.«01_k».proof.Proof.Gen.Pre_finite_pn
public import proofs.«01_k».proof.Defs
public import Idealize.ShloMosaic.Lib.ValueLayoutCasts
public import Idealize.ShloMosaic.Lib.Pipeline.ValueKit.Geometry
public import Idealize.ShloMosaic.Lib.Pipeline.ValueKit.Acc
public import Idealize.ShloMosaic.Lib.ReduceAll
public import Idealize.ShloMosaic.Lib.IdealHost
@[expose] public section
set_option maxRecDepth 16384
noncomputable section
namespace Cert.KernelPnIdeal.Own
open Cert.KernelPnIdeal Cert.KernelPnIdeal.Gen Idealize.ShloMosaic Idealize.ShloMosaic.TcCoe Idealize.SL.Sem
open Idealize.ShloMosaic.Tactic Idealize.ShloMosaic.ValueIdx
open Cert.NormGrad.Own (cEps IsReal IsReal.add' IsReal.mul' real_of_test top16 top32 dx_eq)
open Cert.ReferencePnIdeal.Own (cLen cLen_eq cH cH_eq rr dxK dxR rowOf xRow yRow gRow dRow)
open scoped BigOperators

/-! ## What the body computes from one block of 1024 rows -/

theorem sum_rows (x : FVec Ideal S1024x1024 .f32) (j : Fin 1024) :
    (shapeCast S1x1024 (multiReduction .add [0] S1024 x 0x00000000#32 reduces_S1024x1024_S1024_2 (.inl rfl) rfl) shapeCasts_S1024_S1x1024 : FVec Ideal S1x1024 .f32) (ix2 0 j) = ∑ p : Fin 1024, x (ix2 p j) := by
  refine (shapeCast_apply _ _ _ (ix1 j) ?_).trans ?_
  · rw [Shape.rowMajor_val_one, Shape.rowMajor_val_two]
    show j.val = 0 * 1024 + j.val
    omega
  · refine (Ideal.multiReduction_add_single (a := 0) x _ reduces_S1024x1024_S1024_2 (.inl rfl) rfl (ix1 j)).trans ?_
    refine Finset.sum_congr rfl fun k _ => congrArg x (funext fun d => Fin.ext ?_)
    match d with
    | ⟨0, _⟩ => rfl
    | ⟨1, _⟩ => rfl

theorem sum_lanes (x : FVec Ideal S1024x1024 .f32) (p : Fin 1024) :
    (shapeCast S1024x1 (multiReduction .add [1] S1024 x 0x00000000#32 reduces_S1024x1024_S1024 (.inl rfl) rfl) shapeCasts_S1024_S1024x1 : FVec Ideal S1024x1 .f32) (ix2 p 0) = ∑ k : Fin 1024, x (ix2 p k) := by
  refine (shapeCast_apply _ _ _ (ix1 p) ?_).trans ?_
  · rw [Shape.rowMajor_val_one, Shape.rowMajor_val_two]
    show p.val = p.val * 1 + 0
    omega
  · refine (Ideal.multiReduction_add_single (a := 1) x _ reduces_S1024x1024_S1024 (.inl rfl) rfl (ix1 p)).trans ?_
    refine Finset.sum_congr rfl fun k _ => congrArg x (funext fun d => Fin.ext ?_)
    match d with
    | ⟨0, _⟩ => rfl
    | ⟨1, _⟩ => rfl

theorem col_bcast (x : FVec Ideal S1024x1 .f32) (p : Fin 1024) (j : Fin 1024) :
    (broadcastTo S1024x1024 x broadcasts_S1024x1_S1024x1024 : FVec Ideal S1024x1024 .f32) (ix2 p j) = x (ix2 p 0) :=
  broadcastTo_apply x _ _ (ix2 p 0) fun a => match a with
    | ⟨0, _⟩ => rfl
    | ⟨1, _⟩ => rfl

theorem row_bcast (x : FVec Ideal S1x1024 .f32) (p : Fin 1024) (j : Fin 1024) :
    (broadcastTo S1024x1024 x broadcasts_S1x1024_S1024x1024 : FVec Ideal S1024x1024 .f32) (ix2 p j) = x (ix2 0 j) :=
  broadcastTo_apply x _ _ (ix2 0 j) fun a => match a with
    | ⟨0, _⟩ => rfl
    | ⟨1, _⟩ => rfl

theorem up_cast (x : FVec Ideal S1x1024 .f32) (j : Fin 1024) :
    (shapeCast S1x1x1024 x shapeCasts_S1x1024_S1x1x1024 : FVec Ideal S1x1x1024 .f32) (ix3 0 0 j) = x (ix2 0 j) :=
  shapeCast_apply _ _ _ (ix2 0 j) (by
    rw [Shape.rowMajor_val_three, Shape.rowMajor_val_two]
    show 0 * 1024 + j.val = (0 * 1 + 0) * 1024 + j.val
    omega)

theorem down_cast (x : FVec Ideal S1x1x1024 .f32) (j : Fin 1024) :
    (shapeCast S1x1024 x shapeCasts_S1x1x1024_S1x1024 : FVec Ideal S1x1024 .f32) (ix2 0 j) = x (ix3 0 0 j) :=
  shapeCast_apply _ _ _ (ix3 0 0 j) (by
    rw [Shape.rowMajor_val_three, Shape.rowMajor_val_two]
    show (0 * 1 + 0) * 1024 + j.val = 0 * 1024 + j.val
    omega)

section
variable (v0 : FVec Ideal S1024x1024 .bf16) (v2 : FVec Ideal S1024x1024 .f32) (v3 : FVec Ideal S1x1024 .f32) (v22 : FVec Ideal S1x1x1024 .f32)

/-- Row `p` of the block of the branch. -/
def bY (p : Fin 1024) (j : Fin 1024) : EReal := v0 (ix2 p j)
/-- The gain. -/
def bG (j : Fin 1024) : EReal := v3 (ix2 0 j)
/-- Row `p` of the gradient of the gained rows, from the blocks. -/
def bD (p : Fin 1024) (j : Fin 1024) : EReal := v2 (ix2 p j) * (cH * v22 (ix3 0 0 j))

theorem pay5_apply (p : Fin 1024) : k0_pay5 (F := Ideal) v0 (ix2 p 0) = rr (bY v0 p) :=
  congrArg (fun z : EReal => Ideal.rsqrt (Ideal.div z cLen + cEps)) (sum_lanes (mulf (k0_pay4 v0) (k0_pay4 v0)) p)

theorem pay6_apply (p j : Fin 1024) : k0_pay6 (F := Ideal) v0 (ix2 p j) = bY v0 p j * rr (bY v0 p) :=
  congrArg (v0 (ix2 p j) * ·) ((col_bcast _ p j).trans (pay5_apply v0 p))

theorem pay7_apply (j : Fin 1024) : k0_pay7 (F := Ideal) v0 v2 v3 (ix3 0 0 j) = ∑ p : Fin 1024, v2 (ix2 p j) * (cH * (bY v0 p j * rr (bY v0 p) * bG v3 j)) := by
  refine (up_cast _ j).trans ((sum_rows _ j).trans (Finset.sum_congr rfl fun p _ => ?_))
  exact congrArg (fun z : EReal => v2 (ix2 p j) * (cH * z)) (congrArg₂ (· * ·) (pay6_apply v0 p j) (row_bcast v3 p j))

theorem pay8_apply (p j : Fin 1024) : k0_pay8 (F := Ideal) v2 v22 (ix2 p j) = bD v2 v22 p j :=
  congrArg (v2 (ix2 p j) * ·) ((row_bcast _ p j).trans (congrArg (cH * ·) (down_cast v22 j)))

theorem pay9_apply (j : Fin 1024) : k0_pay9 (F := Ideal) v0 v2 v22 (ix2 0 j) = ∑ p : Fin 1024, bD v2 v22 p j * (bY v0 p j * rr (bY v0 p)) := by
  refine (sum_rows _ j).trans (Finset.sum_congr rfl fun p _ => ?_)
  exact congrArg₂ (· * ·) (pay8_apply v2 v22 p j) (pay6_apply v0 p j)

theorem pay10_apply (p j : Fin 1024) : k0_pay10 (F := Ideal) v2 v3 v22 (ix2 p j) = bD v2 v22 p j * bG v3 j :=
  congrArg₂ (· * ·) (pay8_apply v2 v22 p j) (row_bcast v3 p j)

theorem pay1_apply (p j : Fin 1024) : k0_pay1 (F := Ideal) (k0_pay5 v0) (k0_pay10 v2 v3 v22) (k0_pay11 v0 v2 v3 v22) (ix2 p j) = dxK (bD v2 v22 p) (bG v3) (bY v0 p) j := by
  refine congrArg₂ (· * ·) ((col_bcast _ p j).trans (pay5_apply v0 p)) (congrArg₂ (fun u w : EReal => u - w) (pay10_apply v2 v3 v22 p j) ?_)
  refine congrArg₂ (· * ·) (pay6_apply v0 p j) ((col_bcast _ p j).trans ?_)
  refine congrArg (fun z : EReal => Ideal.div z cLen) ((sum_lanes _ p).trans (Finset.sum_congr rfl fun k _ => ?_))
  exact congrArg₂ (· * ·) (pay10_apply v2 v3 v22 p k) (pay6_apply v0 p k)
end

/-! ## The blocks -/

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val / 2, 0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 2, 0, 0] := (by decide +kernel : ∀ t : Fin grid0.N, _)

/-- Row `p` of the block of point `t`. -/
def rowT (t : Fin cfg0.N) (p : Fin 1024) : Fin 8192 := ⟨t.val * 1024 + p.val, by have := lt_of_lt_of_eq t.isLt N_0; omega⟩
/-- The image of point `t`. -/
def imgT (t : Fin cfg0.N) : Fin 4 := ⟨t.val / 2, by have := lt_of_lt_of_eq t.isLt N_0; omega⟩

/-- Row `i` of the gradient of the rows the branch is added to. -/
abbrev aX (c : Dev nD) (i : Fin 8192) (j : Fin 1024) : EReal := xRow (m ((c : Thread nD τ).loc main_arg0)) i j
/-- Row `i` of the branch. -/
abbrev aY (c : Dev nD) (i : Fin 8192) (j : Fin 1024) : EReal := yRow (m ((c : Thread nD τ).loc main_arg1)) i j
/-- The gain. -/
abbrev aG (c : Dev nD) (j : Fin 1024) : EReal := gRow (m ((c : Thread nD τ).loc main_arg2)) j
/-- Row `i`, of image `b`, of the gradient of the gained rows. -/
abbrev aD (c : Dev nD) (b : Fin 4) (i : Fin 8192) (j : Fin 1024) : EReal := dRow (m ((c : Thread nD τ).loc main_arg0)) (m ((c : Thread nD τ).loc main_arg3)) b i j

theorem b0_blk (c : Dev nD) (t : Fin cfg0.N) (p : Fin 1024) (j : Fin 1024) : iblk m c 0 t (ix2 p j) = m ((c : Thread nD τ).loc main_arg0) (ix2 (rowT t p) j) := by
  rw [← V_main_arg0 m c]
  blk_simp [iblk]
  refine congrArg (V m c main_arg0) ?_
  blk_ext [index0, ix2, rowT]

theorem b1_blk (c : Dev nD) (t : Fin cfg0.N) (p : Fin 1024) (j : Fin 1024) : iblk m c 1 t (ix2 p j) = m ((c : Thread nD τ).loc main_arg1) (ix2 (rowT t p) j) := by
  rw [← V_main_arg1 m c]
  blk_simp [iblk]
  refine congrArg (V m c main_arg1) ?_
  blk_ext [index1, ix2, rowT]

theorem b2_blk (c : Dev nD) (t : Fin cfg0.N) (j : Fin 1024) : iblk m c 2 t (ix2 0 j) = m ((c : Thread nD τ).loc main_arg2) (ix2 0 j) := by
  rw [← V_main_arg2 m c]
  blk_simp [iblk]
  refine congrArg (V m c main_arg2) ?_
  blk_ext [index2, ix2]

/-- The row of the modulation the body loads. -/
abbrev modRow (c : Dev nD) (t : Fin cfg0.N) : FVec Ideal S1x1x1024 .f32 :=
  View.ld (iblk m c 3 t) (Rect.unit (s := S1x9x1024) ![0, 8, 0] S1x1x1024.size inb_S1x9x1024_S1x1x1024_0_8_0)

theorem b3_blk (c : Dev nD) (t : Fin cfg0.N) (j : Fin 1024) : modRow m c t (ix3 0 0 j) = m ((c : Thread nD τ).loc main_arg3) (ix3 (imgT t) 8 j) := by
  have e : modRow m c t (ix3 0 0 j) = iblk m c 3 t (ix3 0 8 j) := congrArg (iblk m c 3 t) (funext fun a => Fin.ext (by
    match a with
    | ⟨0, _⟩ => rfl
    | ⟨1, _⟩ => rfl
    | ⟨2, _⟩ => exact (Nat.zero_add _).trans (Nat.one_mul _)))
  rw [e, ← V_main_arg3 m c]
  blk_simp [iblk]
  refine congrArg (V m c main_arg3) ?_
  blk_ext [index3, ix3, imgT]

theorem bY_blk (c : Dev nD) (t : Fin cfg0.N) (p : Fin 1024) : bY (iblk m c 1 t) p = aY m c (rowT t p) := funext fun j => b1_blk m c t p j
theorem bG_blk (c : Dev nD) (t : Fin cfg0.N) : bG (iblk m c 2 t) = aG m c := funext fun j => b2_blk m c t j
theorem bD_blk (c : Dev nD) (t : Fin cfg0.N) (p : Fin 1024) : bD (iblk m c 0 t) (modRow m c t) p = aD m c (imgT t) (rowT t p) :=
  funext fun j => congrArg₂ (fun u w : EReal => u * (cH * w)) (b0_blk m c t p j) (b3_blk m c t j)

theorem eq_row1 (y : S1x1024.Idx) : y = ix2 0 (y 1) := by
  refine funext fun a => Fin.ext ?_
  match a with
  | ⟨0, _⟩ => have : (y 0).val < 1 := (y 0).isLt; show (y 0).val = 0; omega
  | ⟨1, _⟩ => rfl

theorem eq_row2 (y : S1x1x1024.Idx) : y = ix3 0 0 (y 2) := by
  refine funext fun a => Fin.ext ?_
  match a with
  | ⟨0, _⟩ => have : (y 0).val < 1 := (y 0).isLt; show (y 0).val = 0; omega
  | ⟨1, _⟩ => have : (y 1).val < 1 := (y 1).isLt; show (y 1).val = 0; omega
  | ⟨2, _⟩ => rfl

/-! ## What the points leave -/

/-- One row's addend to the gradient by the gain. -/
def eG (c : Dev nD) (b : Fin 4) (i : Fin 8192) (j : Fin 1024) : EReal := aD m c b i j * (aY m c i j * rr (aY m c i))
/-- One row's addend to the gradient by the gate. -/
def eM (c : Dev nD) (i : Fin 8192) (j : Fin 1024) : EReal := aX m c i j * (cH * (aY m c i j * rr (aY m c i) * aG m c j))
/-- One point's addend to the gradient by the gain. -/
def tG (c : Dev nD) (t : Fin cfg0.N) (y : S1x1024.Idx) : EReal := ∑ p : Fin 1024, eG m c (imgT t) (rowT t p) (y 1)
/-- One point's addend to the gradient by the gate. -/
def tM (c : Dev nD) (t : Fin cfg0.N) (y : S1x1x1024.Idx) : EReal := ∑ p : Fin 1024, eM m c (rowT t p) (y 2)
/-- The gradient by the branch's rows as the kernel leaves it. -/
def oK (c : Dev nD) (i : S8192x1024.Idx) : EReal :=
  dxK (aD m c ⟨(i 0).val / 2048, by have : (i 0).val < 8192 := (i 0).isLt; omega⟩ (i 0)) (aG m c) (aY m c (i 0)) (i 1)
/-- The gradient by the gate as the kernel leaves it. -/
def kM (c : Dev nD) (z : S4x1x1024.Idx) : EReal := ∑ s : Fin 2048, eM m c (rowOf (z 0) s) (z 2)

theorem pay9_blk (c : Dev nD) (t : Fin cfg0.N) (y : S1x1024.Idx) :
    k0_pay9 (F := Ideal) (iblk m c 1 t) (iblk m c 0 t) (modRow m c t) y = tG m c t y := by
  rw [eq_row1 y]
  refine (pay9_apply _ _ _ (y 1)).trans (Finset.sum_congr rfl fun p _ => ?_)
  rw [bD_blk, bY_blk]; rfl

theorem pay7_blk (c : Dev nD) (t : Fin cfg0.N) (y : S1x1x1024.Idx) :
    k0_pay7 (F := Ideal) (iblk m c 1 t) (iblk m c 0 t) (iblk m c 2 t) y = tM m c t y := by
  rw [eq_row2 y]
  refine (pay7_apply _ _ _ (y 2)).trans (Finset.sum_congr rfl fun p _ => ?_)
  rw [bY_blk, bG_blk]
  exact congrArg (fun z : EReal => z * (cH * (aY m c (rowT t p) (y 2) * rr (aY m c (rowT t p)) * aG m c (y 2)))) (b0_blk m c t p (y 2))

theorem pay1_blk (c : Dev nD) (t : Fin cfg0.N) (y : S1024x1024.Idx) :
    k0_pay1 (F := Ideal) (k0_pay5 (iblk m c 1 t)) (k0_pay10 (iblk m c 0 t) (iblk m c 2 t) (modRow m c t)) (k0_pay11 (iblk m c 1 t) (iblk m c 0 t) (iblk m c 2 t) (modRow m c t)) y = oK m c (ix2 (rowT t (y 0)) (y 1)) := by
  obtain ⟨p, j, rfl⟩ : ∃ p j, y = ix2 p j := ⟨y 0, y 1, eq_ix2 y⟩
  refine (pay1_apply _ _ _ _ p j).trans ?_
  rw [bD_blk, bG_blk, bY_blk]
  have e : imgT t = ⟨(rowT t p).val / 2048, by have := (rowT t p).isLt; omega⟩ :=
    Fin.ext (by show t.val / 2 = (t.val * 1024 + p.val) / 2048; omega)
  rw [e]; rfl

theorem out4 (c : Dev nD) (t : Fin cfg0.N) (y : S1024x1024.Idx) : (outsAt0 m c t.val t.isLt).1 y = oK m c (ix2 (rowT t (y 0)) (y 1)) := by
  have hN : t.val < 8 := lt_of_lt_of_eq t.isLt N_0
  rw [← pay1_blk m c t y]
  by_cases h0 : t.val % 2 = 0
  · by_cases h2 : t.val % 8 = 0
    · rw [outsAt0_A m c t (by omega) (by omega) (by omega) (by omega)]
      frame_out
      rfl
    · rw [outsAt0_C m c t (by omega) (by omega) (by omega) (by omega)]
      frame_out
      rfl
  · rw [outsAt0_B m c t (by omega) (by omega) (by omega) (by omega)]
    frame_out
    rfl

/-- The gradient by the gain at the last point. -/
theorem last5 (c : Dev nD) (t : Fin cfg0.N) (ht : t.val % 8 = 7) (y : S1x1024.Idx) :
    (outsAt0 m c t.val t.isLt).2.1 y = (0 : EReal) + ∑ s : Fin 8, tG m c ⟨8 * (t.val / 8) + s.val, Pipeline.run_point_lt_of_flush t ht s⟩ y := by
  refine Pipeline.eq_sum_fin_of_reset_step_apply_of_flush (fun n h => (outsAt0 m c n h).2.1) 8 (fun _ => (0 : EReal)) (tG m c) (fun t h y => ?_) (fun t h y => ?_) t ht y
  · have hN : t.val < 8 := lt_of_lt_of_eq t.isLt N_0
    rw [outsAt0_A m c t (by omega) (by omega) (by omega) (by omega), zero_add, ← pay9_blk m c t y]
    frame_out
    rfl
  · have hN : t.val < 8 := lt_of_lt_of_eq t.isLt N_0
    rw [← pay9_blk m c t y]
    by_cases h0 : t.val % 2 = 0
    · rw [outsAt0_C m c t (by omega) (by omega) (by omega) (by omega)]
      frame_out
      simp only [k0_pay3, shapeCast_self]
      rfl
    · rw [outsAt0_B m c t (by omega) (by omega) (by omega) (by omega)]
      frame_out
      simp only [k0_pay3, shapeCast_self]
      rfl

/-- The gradient by the gate at an image's last point. -/
theorem last6 (c : Dev nD) (t : Fin cfg0.N) (ht : t.val % 2 = 1) (y : S1x1x1024.Idx) :
    (outsAt0 m c t.val t.isLt).2.2 y = (0 : EReal) + ∑ s : Fin 2, tM m c ⟨2 * (t.val / 2) + s.val, Pipeline.run_point_lt_of_flush t ht s⟩ y := by
  refine Pipeline.eq_sum_fin_of_reset_step_apply_of_flush (fun n h => (outsAt0 m c n h).2.2) 2 (fun _ => (0 : EReal)) (tM m c) (fun t h y => ?_) (fun t h y => ?_) t ht y
  · have hN : t.val < 8 := lt_of_lt_of_eq t.isLt N_0
    rw [zero_add, ← pay7_blk m c t y]
    by_cases h2 : t.val % 8 = 0
    · rw [outsAt0_A m c t (by omega) (by omega) (by omega) (by omega)]
      frame_out
    · rw [outsAt0_C m c t (by omega) (by omega) (by omega) (by omega)]
      frame_out
  · have hN : t.val < 8 := lt_of_lt_of_eq t.isLt N_0
    rw [← pay7_blk m c t y, outsAt0_B m c t (by omega) (by omega) (by omega) (by omega)]
    frame_out
    simp only [k0_pay2, shapeCast_self]
    rfl

/-! ## The result arrays -/

theorem out5 (c : Dev nD) (t : Fin cfg0.N) (ht : t.val % 8 = 7) (y : S1x1024.Idx) :
    (outsAt0 m c t.val t.isLt).2.1 y = ∑ i : Fin 8192, eG m c ⟨i.val / 2048, by omega⟩ i (y 1) := by
  rw [last5 m c t ht, zero_add]
  have hN : t.val < 8 := lt_of_lt_of_eq t.isLt N_0
  refine Fin.sum_mul_add_congr (S := 8) (n := 1024) fun s p hl => ?_
  have e : rowT ⟨8 * (t.val / 8) + s.val, Pipeline.run_point_lt_of_flush t ht s⟩ p = ⟨s.val * 1024 + p.val, hl⟩ :=
    Fin.ext (by show (8 * (t.val / 8) + s.val) * 1024 + p.val = s.val * 1024 + p.val; omega)
  have e' : imgT ⟨8 * (t.val / 8) + s.val, Pipeline.run_point_lt_of_flush t ht s⟩ = ⟨(s.val * 1024 + p.val) / 2048, by omega⟩ :=
    Fin.ext (by show (8 * (t.val / 8) + s.val) / 2 = (s.val * 1024 + p.val) / 2048; omega)
  rw [e, e']

theorem out6 (c : Dev nD) (t : Fin cfg0.N) (ht : t.val % 2 = 1) (y : S1x1x1024.Idx) :
    (outsAt0 m c t.val t.isLt).2.2 y = kM m c (ix3 (imgT t) 0 (y 2)) := by
  rw [last6 m c t ht, zero_add]
  refine Fin.sum_mul_add_congr (S := 2) (n := 1024) fun s p hl => ?_
  have e : rowT ⟨2 * (t.val / 2) + s.val, Pipeline.run_point_lt_of_flush t ht s⟩ p = rowOf (imgT t) ⟨s.val * 1024 + p.val, hl⟩ :=
    Fin.ext (by show (2 * (t.val / 2) + s.val) * 1024 + p.val = t.val / 2 * 2048 + (s.val * 1024 + p.val); omega)
  rw [e]

theorem arr4 (c : Dev nD) : (dats m 0 c).arrAt 4 cfg0.N = oK m c := by
  refine (dats m 0 c).arrAt_eq_of_covers 4 _ (by decide +kernel) fun t hf y => ?_
  blk_simp
  rw [after0_4, out4 m c t]
  refine congrArg (oK m c) ?_
  blk_ext [index4, ix2, rowT]

theorem arr5 (c : Dev nD) : (dats m 0 c).arrAt 5 cfg0.N = (fun y : S1x1024.Idx => ∑ i : Fin 8192, eG m c ⟨i.val / 2048, by omega⟩ i (y 1)) := by
  refine (dats m 0 c).arrAt_eq_of_covers 5 _ (by decide +kernel) fun t hf y => ?_
  have ht := (flush0_5 t).mp hf
  blk_simp
  rw [after0_5, out5 m c t ht]
  refine congrArg (fun z : S1x1024.Idx => ∑ i : Fin 8192, eG m c ⟨i.val / 2048, by omega⟩ i (z 1)) (show (y : S1x1024.Idx) = _ from ?_)
  blk_ext [index5, ix2]

theorem arr6 (c : Dev nD) : (dats m 0 c).arrAt 6 cfg0.N = kM m c := by
  refine (dats m 0 c).arrAt_eq_of_covers 6 _ (by decide +kernel) fun t hf y => ?_
  have ht := (flush0_6 t).mp hf
  blk_simp
  rw [after0_6, out6 m c t ht]
  refine congrArg (kM m c) ?_
  blk_ext [index6, ix3, imgT]

/-! ## The claim -/

/-- The precondition read back for the arguments. -/
theorem real_args (a0 : FVec Ideal Cert.Pre_finite_pn.S8192x1024 .f32) (a1 : FVec Ideal Cert.Pre_finite_pn.S8192x1024 .bf16) (a2 : FVec Ideal Cert.Pre_finite_pn.S1x1024 .f32) (a3 : FVec Ideal Cert.Pre_finite_pn.S4x9x1024 .f32)
    (h : Cert.Pre_finite_pn.fn (F := Ideal) a0 a1 a2 a3 = fun _ => 1#1) :
    (∀ i, IsReal (a0 i)) ∧ (∀ i, IsReal (a1 i)) ∧ (∀ i, IsReal (a2 i)) ∧ ∀ i, IsReal (a3 i) := by
  have h0 := congrFun h (fun k => k.elim0)
  unfold Cert.Pre_finite_pn.fn at h0
  dsimp only at h0
  unfold Cert.Pre_finite_pn.fn_part1 at h0
  dsimp only at h0
  obtain ⟨h0, e3⟩ := IntOp.andi_eq_one.1 h0
  obtain ⟨h0, e2⟩ := IntOp.andi_eq_one.1 h0
  obtain ⟨e0, e1⟩ := IntOp.andi_eq_one.1 h0
  exact ⟨real_of_test _ top32 _ _ _ _ _ e0, real_of_test _ top16 _ _ _ _ _ e1, real_of_test _ top32 _ _ _ _ _ e2, real_of_test _ top32 _ _ _ _ _ e3⟩

/-- The kernel call and the reference compute the same gradients of the branch, the gain and the gate over the reals, at finite arguments. -/
theorem algebraic_pn : Cert.algebraic_KernelPnIdeal_ReferencePnIdeal_pre_finite_pn (hKernelPnIdeal := Cert.KernelPnIdeal.Gen.facts) (hReferencePnIdeal := Cert.ReferencePnIdeal.Gen.facts) (hPre_finite_pn := Cert.Pre_finite_pn.Gen.facts) := by
  intro m g m' g' hpre harg
  refine ⟨fun c => (dats m 0 c).arrAt 4 cfg0.N, fun c => (dats m 0 c).arrAt 5 cfg0.N, fun c => (dats m 0 c).arrAt 6 cfg0.N, Value.run_blocks m g, ?_⟩
  refine (θ_run Cert.ReferencePnIdeal.defs _ _).mono (fun r h c => ?_) (Cert.ReferencePnIdeal.Value.run (F := Ideal) m' g')
  obtain ⟨hy, hg, hm, h0⟩ := h c
  obtain ⟨e0, e1, e2, e3⟩ := harg c
  obtain ⟨f0, f1, f2, f3⟩ := real_args _ _ _ _ (hpre c)
  refine ⟨hy.trans ?_, hg.trans ?_, hm.trans ?_, h0⟩
  · refine Eq.trans ?_ (arr4 m c).symm
    unfold Cert.ReferencePnIdeal.Value.res_main_v56
    rw [e0, e1, e2, e3]
    funext i
    obtain ⟨r, j, rfl⟩ : ∃ r j, i = ix2 r j := ⟨i 0, i 1, eq_ix2 i⟩
    have er : r = rowOf ⟨r.val / 2048, by omega⟩ ⟨r.val % 2048, by omega⟩ := Fin.ext (by show r.val = r.val / 2048 * 2048 + r.val % 2048; omega)
    refine Eq.trans (b := Cert.ReferencePnIdeal.Own.oY (m ((c : Thread nD τ).loc main_arg0)) (m ((c : Thread nD τ).loc main_arg1)) (m ((c : Thread nD τ).loc main_arg2)) (m ((c : Thread nD τ).loc main_arg3)) (ix2 r j)) rfl ?_
    rw [er]
    refine (Cert.ReferencePnIdeal.Own.oY_apply _ _ _ _ _ _ j).trans ?_
    rw [← er]
    refine dx_eq cLen_eq (by norm_num) (fun k => IsReal.mul' (IsReal.mul' ?_ (IsReal.mul' ⟨_, cH_eq⟩ ?_)) ?_) (fun k => ?_) j
    · exact f0 _
    · exact f3 _
    · exact f2 _
    · exact f1 _
  · refine Eq.trans ?_ (arr5 m c).symm
    rw [e0, e1, e3]
    funext y
    rw [eq_row1 y]
    refine (Cert.ReferencePnIdeal.Own.oG_apply (m ((c : Thread nD τ).loc main_arg0)) (m ((c : Thread nD τ).loc main_arg1)) (m ((c : Thread nD τ).loc main_arg3)) (y 1)).trans ?_
    refine Fin.sum_mul_add_congr (S := 4) (n := 2048) fun b s hl => (mul_comm _ _).trans ?_
    have eb : (⟨(b.val * 2048 + s.val) / 2048, by omega⟩ : Fin 4) = b := Fin.ext (by show (b.val * 2048 + s.val) / 2048 = b.val; omega)
    show _ = aD m c ⟨(b.val * 2048 + s.val) / 2048, _⟩ _ _ * _
    rw [eb]; rfl
  · refine Eq.trans ?_ (arr6 m c).symm
    rw [e0, e1, e2]
    funext z
    have hz : z = ix3 (z 0) 0 (z 2) := funext fun a => Fin.ext (by
      match a with
      | ⟨0, _⟩ => rfl
      | ⟨1, _⟩ => have : (z 1).val < 1 := (z 1).isLt; show (z 1).val = 0; omega
      | ⟨2, _⟩ => rfl)
    rw [hz]
    exact Cert.ReferencePnIdeal.Own.oM_apply (m ((c : Thread nD τ).loc main_arg0)) (m ((c : Thread nD τ).loc main_arg1)) (m ((c : Thread nD τ).loc main_arg2)) (z 0) (z 2)

end Cert.KernelPnIdeal.Own
end
-- ==== Proof.PmHost.lean ====
module
public import proofs.«01_k».proof.Proof.Gen.ReferencePmIdeal.Run
public import proofs.«01_k».proof.Proof.NormGrad
public import Idealize.ShloMosaic.Lib.StackMember
@[expose] public section
set_option maxRecDepth 16384
noncomputable section
namespace Cert.ReferencePmIdeal.Own
open Cert.ReferencePmIdeal Cert.ReferencePmIdeal.Gen Idealize.ShloMosaic Idealize.ShloMosaic.TcCoe Idealize.SL.Sem
open Idealize.ShloMosaic.Tactic Idealize.ShloMosaic.ValueIdx
open Cert.NormGrad.Own (cEps red2 red1 red01)
open scoped BigOperators

/-- The row length as both programs write it. -/
def cLen : EReal := Ideal.ofBits .f32 0x44800000#32

theorem cLen_eq : cLen = ((1024 : ℝ) : EReal) := by
  unfold cLen
  simp [Ideal.ofBits, Ideal.ieee, -EReal.coe_mul]; norm_num

/-- One, as the kernel writes it. -/
def cH : EReal := Ideal.ofBits .f32 0x3F800000#32

theorem cH_eq : cH = ((1 : ℝ) : EReal) := Ideal.ofBits_one_f32

/-- The mean square of a row, and the constant. -/
abbrev ms (x : Fin 1024 → EReal) : EReal := Cert.NormGrad.Own.ms cLen x
/-- The factor that normalises a row. -/
abbrev rr (x : Fin 1024 → EReal) : EReal := Cert.NormGrad.Own.rr cLen x
/-- The gradient by a row `y` of the branch, as the kernel writes it: `d` the gradient of the gained row, `g` the gain. -/
abbrev dxK (d g y : Fin 1024 → EReal) (j : Fin 1024) : EReal := Cert.NormGrad.Own.dxK cLen (fun k => d k * g k) y j
/-- The part of that gradient that comes through the mean square. -/
abbrev dms (d g y : Fin 1024 → EReal) : EReal := Cert.NormGrad.Own.dms cLen (fun k => d k * g k) y
/-- The gradient by a row as the chain rule gives it. -/
abbrev dxR (d g y : Fin 1024 → EReal) (j : Fin 1024) : EReal := Cert.NormGrad.Own.dxR cLen (fun k => d k * g k) y j

section
variable (X : FVec Ideal S8192x1024 .f32) (Y : FVec Ideal S8192x1024 .bf16) (G : FVec Ideal S1x1024 .f32) (M : FVec Ideal S4x9x1024 .f32)

/-! ## The reference's values, one name for each -/

/-- The gradient of the rows the branch is added to, by image and position. -/
def hX : FVec Ideal S4x2048x1024 .f32 := shapeCast _ X shapeCasts_S8192x1024_S4x2048x1024
/-- The branch's rows, by image and position. -/
def hY : FVec Ideal S4x2048x1024 .f32 := shapeCast _ (extf .f32 Y bitsLt_bf16_f32 : FVec Ideal S8192x1024 .f32) shapeCasts_S8192x1024_S4x2048x1024
/-- The mean squares. -/
def hMs : FVec Ideal S4x2048x1 .f32 := addf (Host.divf (broadcastInDim S4x2048x1 ![0, 1] bcast_S4x2048_S4x2048x1_0_1 (Host.reduceAdd (mulf (hY Y) (hY Y)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
/-- The normalising factors. -/
def hR : FVec Ideal S4x2048x1 .f32 := Host.rsqrt (hMs Y)
/-- The normalised rows. -/
def hN : FVec Ideal S4x2048x1024 .f32 := mulf (hY Y) (broadcastInDim S4x2048x1024 ![0, 1, 2] bcast_S4x2048x1_S4x2048x1024_0_1_2 (hR Y))
/-- The gate. -/
def hM : FVec Ideal S4x2048x1024 .f32 := broadcastInDim S4x2048x1024 ![0, 1, 2] bcast_S4x1x1024_S4x2048x1024_0_1_2 (broadcastInDim S4x1x1024 ![0, 2] bcast_S4x1024_S4x1x1024_0_2 (shapeCast _ (extractStridedSlice S4x1x1024 ![0, 5, 0] M slices_S4x9x1024_S4x1x1024_0_5_0) shapeCasts_S4x1x1024_S4x1024))
/-- The gain. -/
def hG : FVec Ideal S4x2048x1024 .f32 := broadcastInDim S4x2048x1024 ![0, 1, 2] bcast_S1x1x1024_S4x2048x1024_0_1_2 (broadcastInDim S1x1x1024 ![1, 2] bcast_S1x1024_S1x1x1024_1_2 G)
/-- The gradient of the gained rows. -/
def hS : FVec Ideal S4x2048x1024 .f32 := mulf (hM M) (hX X)
/-- The gradient of the normalised rows. -/
def hA : FVec Ideal S4x2048x1024 .f32 := mulf (hS X M) (hG G)
/-- The gradient through the mean square. -/
def hQ : FVec Ideal S4x2048x1024 .f32 := broadcastInDim S4x2048x1024 ![0, 1] bcast_S4x2048_S4x2048x1024_0_1 (Host.reduceAdd (Host.divf (mulf (shapeCast _ (Host.reduceAdd (mulf (hY Y) (hA X G M)) (constant S_ .f32 0x00000000#32) reducesTo_S4x2048x1024_S4x2048_d2 h_S_) shapeCasts_S4x2048_S4x2048x1 : FVec Ideal S4x2048x1 .f32) (mulf (broadcastInDim S4x2048x1 ![] bcast_S_S4x2048x1 (constant S_ .f32 0xBF000000#32)) (Host.divf (hR Y) (hMs Y)))) (broadcastInDim S4x2048x1 ![] bcast_S_S4x2048x1 (constant S_ .f32 0x44800000#32))) (constant S_ .f32 0x00000000#32) reducesTo_S4x2048x1_S4x2048_d2 h_S_)
/-- The gradient by the branch's rows, before its rounding. -/
def oY32 : FVec Ideal S8192x1024 .f32 := shapeCast _ (addf (addf (mulf (hA X G M) (broadcastInDim S4x2048x1024 ![0, 1, 2] bcast_S4x2048x1_S4x2048x1024_0_1_2 (hR Y))) (mulf (hY Y) (hQ X Y G M))) (mulf (hQ X Y G M) (hY Y))) shapeCasts_S4x2048x1024_S8192x1024
/-- The gradient by the branch's rows. -/
def oY : FVec Ideal S8192x1024 .bf16 := truncf .bf16 (oY32 X Y G M) bitsLt_bf16_f32
/-- The gradient by the gain. -/
def oG : FVec Ideal S1x1024 .f32 := broadcastInDim S1x1024 ![1] bcast_S1024_S1x1024_1 (Host.reduceAdd (shapeCast _ (Host.reduceAdd (mulf (hN Y) (hS X M)) (constant S_ .f32 0x00000000#32) reducesTo_S4x2048x1024_S1024_d0_1 h_S_) shapeCasts_S1024_S1x1x1024) (constant S_ .f32 0x00000000#32) reducesTo_S1x1x1024_S1024_d0_1 h_S_)
/-- The gradient by the gate. -/
def oM : FVec Ideal S4x1x1024 .f32 := shapeCast _ (Host.reduceAdd (mulf (hX X) (mulf (hN Y) (hG G))) (constant S_ .f32 0x00000000#32) reducesTo_S4x2048x1024_S4x1024_d1 h_S_) shapeCasts_S4x1024_S4x1x1024

/-! ## The arrays by coordinates -/

/-- The row of position `s` of image `b`. -/
def rowOf (b : Fin 4) (s : Fin 2048) : Fin 8192 := ⟨b.val * 2048 + s.val, by omega⟩
/-- Row `i` of the gradient of the rows the branch is added to. -/
def xRow (i : Fin 8192) (j : Fin 1024) : EReal := X (ix2 i j)
/-- Row `i` of the branch. -/
def yRow (i : Fin 8192) (j : Fin 1024) : EReal := Y (ix2 i j)
/-- The gain. -/
def gRow (j : Fin 1024) : EReal := G (ix2 0 j)
/-- Row `i`, of image `b`, of the gradient of the gained rows. -/
def dRow (b : Fin 4) (i : Fin 8192) (j : Fin 1024) : EReal := xRow X i j * (cH * M (ix3 b 5 j))

theorem flat (x : FVec Ideal S8192x1024 .f32) (b : Fin 4) (s : Fin 2048) (j : Fin 1024) :
    (shapeCast _ x shapeCasts_S8192x1024_S4x2048x1024 : FVec Ideal S4x2048x1024 .f32) (ix3 b s j) = x (ix2 (rowOf b s) j) :=
  shapeCast_apply x _ _ (ix2 (rowOf b s) j) (by
    rw [Shape.rowMajor_val_three, Shape.rowMajor_val_two]
    show (b.val * 2048 + s.val) * 1024 + j.val = (b.val * 2048 + s.val) * 1024 + j.val
    rfl)

theorem hX_apply (b : Fin 4) (s : Fin 2048) (j : Fin 1024) : hX X (ix3 b s j) = xRow X (rowOf b s) j := flat X b s j
theorem hY_apply (b : Fin 4) (s : Fin 2048) (j : Fin 1024) : hY Y (ix3 b s j) = yRow Y (rowOf b s) j := flat _ b s j

theorem hMs_apply (b : Fin 4) (s : Fin 2048) : hMs Y (ix3 b s 0) = ms (yRow Y (rowOf b s)) := by
  have e : (broadcastInDim S4x2048x1 ![0, 1] bcast_S4x2048_S4x2048x1_0_1 (Host.reduceAdd (mulf (hY Y) (hY Y)) (constant S_ .f32 0x00000000#32) reducesTo_S4x2048x1024_S4x2048_d2 h_S_)) (ix3 b s 0) = ∑ k : Fin 1024, yRow Y (rowOf b s) k * yRow Y (rowOf b s) k := by
    refine (broadcastInDim_apply _ _ _ _ (ix2 b s) fun a => ?_).trans ?_
    · match a with
      | ⟨0, _⟩ => rfl
      | ⟨1, _⟩ => rfl
    · refine (red2 _ _ (by decide) _ b s).trans (Finset.sum_congr rfl fun k _ => ?_)
      show hY Y (ix3 b s k) * hY Y (ix3 b s k) = _
      rw [hY_apply]
  show Ideal.div _ (Ideal.ofBits .f32 0x44800000#32) + Ideal.ofBits .f32 0x358637BD#32 = _
  rw [e]; rfl

theorem hR_apply (b : Fin 4) (s : Fin 2048) : hR Y (ix3 b s 0) = rr (yRow Y (rowOf b s)) := by
  show Ideal.rsqrt (hMs Y (ix3 b s 0)) = _
  rw [hMs_apply]; rfl

theorem hR_bcast (b : Fin 4) (s : Fin 2048) (j : Fin 1024) :
    (broadcastInDim S4x2048x1024 ![0, 1, 2] bcast_S4x2048x1_S4x2048x1024_0_1_2 (hR Y)) (ix3 b s j) = rr (yRow Y (rowOf b s)) := by
  refine (broadcastInDim_apply _ _ _ _ (ix3 b s 0) fun a => ?_).trans (hR_apply Y b s)
  match a with
  | ⟨0, _⟩ => rfl
  | ⟨1, _⟩ => rfl
  | ⟨2, _⟩ => rfl

theorem hN_apply (b : Fin 4) (s : Fin 2048) (j : Fin 1024) : hN Y (ix3 b s j) = yRow Y (rowOf b s) j * rr (yRow Y (rowOf b s)) := by
  show hY Y (ix3 b s j) * _ = _
  rw [hY_apply, hR_bcast]

theorem hM_apply (b : Fin 4) (s : Fin 2048) (j : Fin 1024) : hM M (ix3 b s j) = cH * M (ix3 b 5 j) := by
  refine (broadcastInDim_apply _ _ _ _ (ix3 b 0 j) fun a => ?_).trans ?_
  · match a with
    | ⟨0, _⟩ => rfl
    | ⟨1, _⟩ => rfl
    | ⟨2, _⟩ => rfl
  · rw [cH_eq, EReal.coe_one, one_mul]
    refine (broadcastInDim_apply _ _ _ _ (ix2 b j) fun a => ?_).trans ?_
    · match a with
      | ⟨0, _⟩ => rfl
      | ⟨1, _⟩ => rfl
    · refine (shapeCast_apply _ _ _ (ix3 b 0 j) ?_).trans ?_
      · rw [Shape.rowMajor_val_three, Shape.rowMajor_val_two]
        show (b.val * 1 + 0) * 1024 + j.val = b.val * 1024 + j.val
        omega
      · refine extractStridedSlice_apply _ _ _ _ (ix3 b 5 j) fun a => ?_
        match a with
        | ⟨0, _⟩ => exact (Nat.zero_add _).symm
        | ⟨1, _⟩ => rfl
        | ⟨2, _⟩ => exact (Nat.zero_add _).symm

theorem hG_apply (b : Fin 4) (s : Fin 2048) (j : Fin 1024) : hG G (ix3 b s j) = G (ix2 0 j) := by
  refine (broadcastInDim_apply _ _ _ _ (ix3 0 0 j) fun a => ?_).trans ?_
  · match a with
    | ⟨0, _⟩ => rfl
    | ⟨1, _⟩ => rfl
    | ⟨2, _⟩ => rfl
  · refine broadcastInDim_apply _ _ _ _ (ix2 0 j) fun a => ?_
    match a with
    | ⟨0, _⟩ => rfl
    | ⟨1, _⟩ => rfl

theorem hS_apply (b : Fin 4) (s : Fin 2048) (j : Fin 1024) : hS X M (ix3 b s j) = dRow X M b (rowOf b s) j := by
  show hM M (ix3 b s j) * hX X (ix3 b s j) = _
  rw [hM_apply, hX_apply, mul_comm]; rfl

theorem hA_apply (b : Fin 4) (s : Fin 2048) (j : Fin 1024) : hA X G M (ix3 b s j) = dRow X M b (rowOf b s) j * gRow G j := by
  show hS X M (ix3 b s j) * hG G (ix3 b s j) = _
  rw [hS_apply, hG_apply]; rfl

theorem hQ_apply (b : Fin 4) (s : Fin 2048) (j : Fin 1024) :
    hQ X Y G M (ix3 b s j) = dms (dRow X M b (rowOf b s)) (gRow G) (yRow Y (rowOf b s)) := by
  refine (broadcastInDim_apply _ _ _ _ (ix2 b s) fun a => ?_).trans ?_
  · match a with
    | ⟨0, _⟩ => rfl
    | ⟨1, _⟩ => rfl
  · refine (red2 _ _ (by decide) _ b s).trans ?_
    rw [Fin.sum_univ_one]
    have e : (shapeCast _ (Host.reduceAdd (mulf (hY Y) (hA X G M)) (constant S_ .f32 0x00000000#32) reducesTo_S4x2048x1024_S4x2048_d2 h_S_) shapeCasts_S4x2048_S4x2048x1 : FVec Ideal S4x2048x1 .f32) (ix3 b s 0)
        = ∑ k : Fin 1024, yRow Y (rowOf b s) k * (dRow X M b (rowOf b s) k * gRow G k) := by
      refine (shapeCast_apply _ _ _ (ix2 b s) ?_).trans ?_
      · rw [Shape.rowMajor_val_three, Shape.rowMajor_val_two]
        show b.val * 2048 + s.val = (b.val * 2048 + s.val) * 1 + 0
        omega
      · refine (red2 _ _ (by decide) _ b s).trans (Finset.sum_congr rfl fun k _ => ?_)
        show hY Y (ix3 b s k) * hA X G M (ix3 b s k) = _
        rw [hY_apply, hA_apply]
    show Ideal.div ((shapeCast _ (Host.reduceAdd (mulf (hY Y) (hA X G M)) (constant S_ .f32 0x00000000#32) reducesTo_S4x2048x1024_S4x2048_d2 h_S_) shapeCasts_S4x2048_S4x2048x1 : FVec Ideal S4x2048x1 .f32) (ix3 b s 0) * (Ideal.ofBits .f32 0xBF000000#32 * Ideal.div (hR Y (ix3 b s 0)) (hMs Y (ix3 b s 0)))) (Ideal.ofBits .f32 0x44800000#32) = _
    rw [e, hR_apply, hMs_apply]; rfl

/-- The gradient by the branch's row at image `b`, position `s`. -/
theorem oY_apply (b : Fin 4) (s : Fin 2048) (j : Fin 1024) :
    oY X Y G M (ix2 (rowOf b s) j) = dxR (dRow X M b (rowOf b s)) (gRow G) (yRow Y (rowOf b s)) j := by
  show oY32 X Y G M (ix2 (rowOf b s) j) = _
  refine (shapeCast_apply _ _ _ (ix3 b s j) ?_).trans ?_
  · rw [Shape.rowMajor_val_three, Shape.rowMajor_val_two]
    show (b.val * 2048 + s.val) * 1024 + j.val = (b.val * 2048 + s.val) * 1024 + j.val
    rfl
  · show hA X G M (ix3 b s j) * _ + hY Y (ix3 b s j) * hQ X Y G M (ix3 b s j) + hQ X Y G M (ix3 b s j) * hY Y (ix3 b s j) = _
    rw [hA_apply, hR_bcast, hY_apply, hQ_apply]; rfl

/-- The gradient by the gain. -/
theorem oG_apply (j : Fin 1024) :
    oG X Y M (ix2 0 j) = ∑ b : Fin 4, ∑ s : Fin 2048, yRow Y (rowOf b s) j * rr (yRow Y (rowOf b s)) * dRow X M b (rowOf b s) j := by
  refine (broadcastInDim_apply _ _ _ _ (ix1 j) fun a => ?_).trans ?_
  · match a with
    | ⟨0, _⟩ => rfl
  · refine (red01 _ _ _ j).trans ?_
    rw [Fin.sum_univ_one, Fin.sum_univ_one]
    refine (shapeCast_apply _ _ _ (ix1 j) ?_).trans ?_
    · rw [Shape.rowMajor_val_three, Shape.rowMajor_val_one]
      show j.val = (0 * 1 + 0) * 1024 + j.val
      omega
    · refine (red01 _ _ _ j).trans (Finset.sum_congr rfl fun b _ => Finset.sum_congr rfl fun s _ => ?_)
      show hN Y (ix3 b s j) * hS X M (ix3 b s j) = _
      rw [hN_apply, hS_apply]

/-- The gradient by the gate. -/
theorem oM_apply (b : Fin 4) (j : Fin 1024) :
    oM X Y G (ix3 b 0 j) = ∑ s : Fin 2048, xRow X (rowOf b s) j * (cH * (yRow Y (rowOf b s) j * rr (yRow Y (rowOf b s)) * gRow G j)) := by
  have e : (shapeCast _ (Host.reduceAdd (mulf (hX X) (mulf (hN Y) (hG G))) (constant S_ .f32 0x00000000#32) reducesTo_S4x2048x1024_S4x1024_d1 h_S_) shapeCasts_S4x1024_S4x1x1024 : FVec Ideal S4x1x1024 .f32) (ix3 b 0 j)
      = ∑ s : Fin 2048, xRow X (rowOf b s) j * (yRow Y (rowOf b s) j * rr (yRow Y (rowOf b s)) * gRow G j) := by
    refine (shapeCast_apply _ _ _ (ix2 b j) ?_).trans ((red1 _ _ (by decide) _ b j).trans (Finset.sum_congr rfl fun s _ => ?_))
    · rw [Shape.rowMajor_val_three, Shape.rowMajor_val_two]
      show b.val * 1024 + j.val = (b.val * 1 + 0) * 1024 + j.val
      omega
    · show hX X (ix3 b s j) * (hN Y (ix3 b s j) * hG G (ix3 b s j)) = _
      rw [hX_apply, hN_apply, hG_apply]; rfl
  simp only [cH_eq, EReal.coe_one, one_mul]
  exact e

end

end Cert.ReferencePmIdeal.Own
end
-- ==== Proof.Pm.lean ====
module
public import proofs.«01_k».proof.Proof.Gen.KernelPmIdeal.Value
public import proofs.«01_k».proof.Proof.PmHost
public import proofs.«01_k».proof.Proof.Gen.Pre_finite_pm
public import proofs.«01_k».proof.Defs
public import Idealize.ShloMosaic.Lib.ValueLayoutCasts
public import Idealize.ShloMosaic.Lib.Pipeline.ValueKit.Geometry
public import Idealize.ShloMosaic.Lib.Pipeline.ValueKit.Acc
public import Idealize.ShloMosaic.Lib.ReduceAll
public import Idealize.ShloMosaic.Lib.IdealHost
@[expose] public section
set_option maxRecDepth 16384
noncomputable section
namespace Cert.KernelPmIdeal.Own
open Cert.KernelPmIdeal Cert.KernelPmIdeal.Gen Idealize.ShloMosaic Idealize.ShloMosaic.TcCoe Idealize.SL.Sem
open Idealize.ShloMosaic.Tactic Idealize.ShloMosaic.ValueIdx
open Cert.NormGrad.Own (cEps IsReal IsReal.add' IsReal.mul' real_of_test top16 top32 dx_eq)
open Cert.ReferencePmIdeal.Own (cLen cLen_eq cH cH_eq rr dxK dxR rowOf xRow yRow gRow dRow)
open scoped BigOperators

/-! ## What the body computes from one block of 1024 rows -/

theorem sum_rows (x : FVec Ideal S1024x1024 .f32) (j : Fin 1024) :
    (shapeCast S1x1024 (multiReduction .add [0] S1024 x 0x00000000#32 reduces_S1024x1024_S1024_2 (.inl rfl) rfl) shapeCasts_S1024_S1x1024 : FVec Ideal S1x1024 .f32) (ix2 0 j) = ∑ p : Fin 1024, x (ix2 p j) := by
  refine (shapeCast_apply _ _ _ (ix1 j) ?_).trans ?_
  · rw [Shape.rowMajor_val_one, Shape.rowMajor_val_two]
    show j.val = 0 * 1024 + j.val
    omega
  · refine (Ideal.multiReduction_add_single (a := 0) x _ reduces_S1024x1024_S1024_2 (.inl rfl) rfl (ix1 j)).trans ?_
    refine Finset.sum_congr rfl fun k _ => congrArg x (funext fun d => Fin.ext ?_)
    match d with
    | ⟨0, _⟩ => rfl
    | ⟨1, _⟩ => rfl

theorem sum_lanes (x : FVec Ideal S1024x1024 .f32) (p : Fin 1024) :
    (shapeCast S1024x1 (multiReduction .add [1] S1024 x 0x00000000#32 reduces_S1024x1024_S1024 (.inl rfl) rfl) shapeCasts_S1024_S1024x1 : FVec Ideal S1024x1 .f32) (ix2 p 0) = ∑ k : Fin 1024, x (ix2 p k) := by
  refine (shapeCast_apply _ _ _ (ix1 p) ?_).trans ?_
  · rw [Shape.rowMajor_val_one, Shape.rowMajor_val_two]
    show p.val = p.val * 1 + 0
    omega
  · refine (Ideal.multiReduction_add_single (a := 1) x _ reduces_S1024x1024_S1024 (.inl rfl) rfl (ix1 p)).trans ?_
    refine Finset.sum_congr rfl fun k _ => congrArg x (funext fun d => Fin.ext ?_)
    match d with
    | ⟨0, _⟩ => rfl
    | ⟨1, _⟩ => rfl

theorem col_bcast (x : FVec Ideal S1024x1 .f32) (p : Fin 1024) (j : Fin 1024) :
    (broadcastTo S1024x1024 x broadcasts_S1024x1_S1024x1024 : FVec Ideal S1024x1024 .f32) (ix2 p j) = x (ix2 p 0) :=
  broadcastTo_apply x _ _ (ix2 p 0) fun a => match a with
    | ⟨0, _⟩ => rfl
    | ⟨1, _⟩ => rfl

theorem row_bcast (x : FVec Ideal S1x1024 .f32) (p : Fin 1024) (j : Fin 1024) :
    (broadcastTo S1024x1024 x broadcasts_S1x1024_S1024x1024 : FVec Ideal S1024x1024 .f32) (ix2 p j) = x (ix2 0 j) :=
  broadcastTo_apply x _ _ (ix2 0 j) fun a => match a with
    | ⟨0, _⟩ => rfl
    | ⟨1, _⟩ => rfl

theorem up_cast (x : FVec Ideal S1x1024 .f32) (j : Fin 1024) :
    (shapeCast S1x1x1024 x shapeCasts_S1x1024_S1x1x1024 : FVec Ideal S1x1x1024 .f32) (ix3 0 0 j) = x (ix2 0 j) :=
  shapeCast_apply _ _ _ (ix2 0 j) (by
    rw [Shape.rowMajor_val_three, Shape.rowMajor_val_two]
    show 0 * 1024 + j.val = (0 * 1 + 0) * 1024 + j.val
    omega)

theorem down_cast (x : FVec Ideal S1x1x1024 .f32) (j : Fin 1024) :
    (shapeCast S1x1024 x shapeCasts_S1x1x1024_S1x1024 : FVec Ideal S1x1024 .f32) (ix2 0 j) = x (ix3 0 0 j) :=
  shapeCast_apply _ _ _ (ix3 0 0 j) (by
    rw [Shape.rowMajor_val_three, Shape.rowMajor_val_two]
    show (0 * 1 + 0) * 1024 + j.val = 0 * 1024 + j.val
    omega)

section
variable (v0 : FVec Ideal S1024x1024 .bf16) (v2 : FVec Ideal S1024x1024 .f32) (v3 : FVec Ideal S1x1024 .f32) (v22 : FVec Ideal S1x1x1024 .f32)

/-- Row `p` of the block of the branch. -/
def bY (p : Fin 1024) (j : Fin 1024) : EReal := v0 (ix2 p j)
/-- The gain. -/
def bG (j : Fin 1024) : EReal := v3 (ix2 0 j)
/-- Row `p` of the gradient of the gained rows, from the blocks. -/
def bD (p : Fin 1024) (j : Fin 1024) : EReal := v2 (ix2 p j) * (cH * v22 (ix3 0 0 j))

theorem pay5_apply (p : Fin 1024) : k0_pay5 (F := Ideal) v0 (ix2 p 0) = rr (bY v0 p) :=
  congrArg (fun z : EReal => Ideal.rsqrt (Ideal.div z cLen + cEps)) (sum_lanes (mulf (k0_pay4 v0) (k0_pay4 v0)) p)

theorem pay6_apply (p j : Fin 1024) : k0_pay6 (F := Ideal) v0 (ix2 p j) = bY v0 p j * rr (bY v0 p) :=
  congrArg (v0 (ix2 p j) * ·) ((col_bcast _ p j).trans (pay5_apply v0 p))

theorem pay7_apply (j : Fin 1024) : k0_pay7 (F := Ideal) v0 v2 v3 (ix3 0 0 j) = ∑ p : Fin 1024, v2 (ix2 p j) * (cH * (bY v0 p j * rr (bY v0 p) * bG v3 j)) := by
  refine (up_cast _ j).trans ((sum_rows _ j).trans (Finset.sum_congr rfl fun p _ => ?_))
  exact congrArg (fun z : EReal => v2 (ix2 p j) * (cH * z)) (congrArg₂ (· * ·) (pay6_apply v0 p j) (row_bcast v3 p j))

theorem pay8_apply (p j : Fin 1024) : k0_pay8 (F := Ideal) v2 v22 (ix2 p j) = bD v2 v22 p j :=
  congrArg (v2 (ix2 p j) * ·) ((row_bcast _ p j).trans (congrArg (cH * ·) (down_cast v22 j)))

theorem pay9_apply (j : Fin 1024) : k0_pay9 (F := Ideal) v0 v2 v22 (ix2 0 j) = ∑ p : Fin 1024, bD v2 v22 p j * (bY v0 p j * rr (bY v0 p)) := by
  refine (sum_rows _ j).trans (Finset.sum_congr rfl fun p _ => ?_)
  exact congrArg₂ (· * ·) (pay8_apply v2 v22 p j) (pay6_apply v0 p j)

theorem pay10_apply (p j : Fin 1024) : k0_pay10 (F := Ideal) v2 v3 v22 (ix2 p j) = bD v2 v22 p j * bG v3 j :=
  congrArg₂ (· * ·) (pay8_apply v2 v22 p j) (row_bcast v3 p j)

theorem pay1_apply (p j : Fin 1024) : k0_pay1 (F := Ideal) (k0_pay5 v0) (k0_pay10 v2 v3 v22) (k0_pay11 v0 v2 v3 v22) (ix2 p j) = dxK (bD v2 v22 p) (bG v3) (bY v0 p) j := by
  refine congrArg₂ (· * ·) ((col_bcast _ p j).trans (pay5_apply v0 p)) (congrArg₂ (fun u w : EReal => u - w) (pay10_apply v2 v3 v22 p j) ?_)
  refine congrArg₂ (· * ·) (pay6_apply v0 p j) ((col_bcast _ p j).trans ?_)
  refine congrArg (fun z : EReal => Ideal.div z cLen) ((sum_lanes _ p).trans (Finset.sum_congr rfl fun k _ => ?_))
  exact congrArg₂ (· * ·) (pay10_apply v2 v3 v22 p k) (pay6_apply v0 p k)
end

/-! ## The blocks -/

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val / 2, 0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 2, 0, 0] := (by decide +kernel : ∀ t : Fin grid0.N, _)

/-- Row `p` of the block of point `t`. -/
def rowT (t : Fin cfg0.N) (p : Fin 1024) : Fin 8192 := ⟨t.val * 1024 + p.val, by have := lt_of_lt_of_eq t.isLt N_0; omega⟩
/-- The image of point `t`. -/
def imgT (t : Fin cfg0.N) : Fin 4 := ⟨t.val / 2, by have := lt_of_lt_of_eq t.isLt N_0; omega⟩

/-- Row `i` of the gradient of the rows the branch is added to. -/
abbrev aX (c : Dev nD) (i : Fin 8192) (j : Fin 1024) : EReal := xRow (m ((c : Thread nD τ).loc main_arg0)) i j
/-- Row `i` of the branch. -/
abbrev aY (c : Dev nD) (i : Fin 8192) (j : Fin 1024) : EReal := yRow (m ((c : Thread nD τ).loc main_arg1)) i j
/-- The gain. -/
abbrev aG (c : Dev nD) (j : Fin 1024) : EReal := gRow (m ((c : Thread nD τ).loc main_arg2)) j
/-- Row `i`, of image `b`, of the gradient of the gained rows. -/
abbrev aD (c : Dev nD) (b : Fin 4) (i : Fin 8192) (j : Fin 1024) : EReal := dRow (m ((c : Thread nD τ).loc main_arg0)) (m ((c : Thread nD τ).loc main_arg3)) b i j

theorem b0_blk (c : Dev nD) (t : Fin cfg0.N) (p : Fin 1024) (j : Fin 1024) : iblk m c 0 t (ix2 p j) = m ((c : Thread nD τ).loc main_arg0) (ix2 (rowT t p) j) := by
  rw [← V_main_arg0 m c]
  blk_simp [iblk]
  refine congrArg (V m c main_arg0) ?_
  blk_ext [index0, ix2, rowT]

theorem b1_blk (c : Dev nD) (t : Fin cfg0.N) (p : Fin 1024) (j : Fin 1024) : iblk m c 1 t (ix2 p j) = m ((c : Thread nD τ).loc main_arg1) (ix2 (rowT t p) j) := by
  rw [← V_main_arg1 m c]
  blk_simp [iblk]
  refine congrArg (V m c main_arg1) ?_
  blk_ext [index1, ix2, rowT]

theorem b2_blk (c : Dev nD) (t : Fin cfg0.N) (j : Fin 1024) : iblk m c 2 t (ix2 0 j) = m ((c : Thread nD τ).loc main_arg2) (ix2 0 j) := by
  rw [← V_main_arg2 m c]
  blk_simp [iblk]
  refine congrArg (V m c main_arg2) ?_
  blk_ext [index2, ix2]

/-- The row of the modulation the body loads. -/
abbrev modRow (c : Dev nD) (t : Fin cfg0.N) : FVec Ideal S1x1x1024 .f32 :=
  View.ld (iblk m c 3 t) (Rect.unit (s := S1x9x1024) ![0, 5, 0] S1x1x1024.size inb_S1x9x1024_S1x1x1024_0_5_0)

theorem b3_blk (c : Dev nD) (t : Fin cfg0.N) (j : Fin 1024) : modRow m c t (ix3 0 0 j) = m ((c : Thread nD τ).loc main_arg3) (ix3 (imgT t) 5 j) := by
  have e : modRow m c t (ix3 0 0 j) = iblk m c 3 t (ix3 0 5 j) := congrArg (iblk m c 3 t) (funext fun a => Fin.ext (by
    match a with
    | ⟨0, _⟩ => rfl
    | ⟨1, _⟩ => rfl
    | ⟨2, _⟩ => exact (Nat.zero_add _).trans (Nat.one_mul _)))
  rw [e, ← V_main_arg3 m c]
  blk_simp [iblk]
  refine congrArg (V m c main_arg3) ?_
  blk_ext [index3, ix3, imgT]

theorem bY_blk (c : Dev nD) (t : Fin cfg0.N) (p : Fin 1024) : bY (iblk m c 1 t) p = aY m c (rowT t p) := funext fun j => b1_blk m c t p j
theorem bG_blk (c : Dev nD) (t : Fin cfg0.N) : bG (iblk m c 2 t) = aG m c := funext fun j => b2_blk m c t j
theorem bD_blk (c : Dev nD) (t : Fin cfg0.N) (p : Fin 1024) : bD (iblk m c 0 t) (modRow m c t) p = aD m c (imgT t) (rowT t p) :=
  funext fun j => congrArg₂ (fun u w : EReal => u * (cH * w)) (b0_blk m c t p j) (b3_blk m c t j)

theorem eq_row1 (y : S1x1024.Idx) : y = ix2 0 (y 1) := by
  refine funext fun a => Fin.ext ?_
  match a with
  | ⟨0, _⟩ => have : (y 0).val < 1 := (y 0).isLt; show (y 0).val = 0; omega
  | ⟨1, _⟩ => rfl

theorem eq_row2 (y : S1x1x1024.Idx) : y = ix3 0 0 (y 2) := by
  refine funext fun a => Fin.ext ?_
  match a with
  | ⟨0, _⟩ => have : (y 0).val < 1 := (y 0).isLt; show (y 0).val = 0; omega
  | ⟨1, _⟩ => have : (y 1).val < 1 := (y 1).isLt; show (y 1).val = 0; omega
  | ⟨2, _⟩ => rfl

/-! ## What the points leave -/

/-- One row's addend to the gradient by the gain. -/
def eG (c : Dev nD) (b : Fin 4) (i : Fin 8192) (j : Fin 1024) : EReal := aD m c b i j * (aY m c i j * rr (aY m c i))
/-- One row's addend to the gradient by the gate. -/
def eM (c : Dev nD) (i : Fin 8192) (j : Fin 1024) : EReal := aX m c i j * (cH * (aY m c i j * rr (aY m c i) * aG m c j))
/-- One point's addend to the gradient by the gain. -/
def tG (c : Dev nD) (t : Fin cfg0.N) (y : S1x1024.Idx) : EReal := ∑ p : Fin 1024, eG m c (imgT t) (rowT t p) (y 1)
/-- One point's addend to the gradient by the gate. -/
def tM (c : Dev nD) (t : Fin cfg0.N) (y : S1x1x1024.Idx) : EReal := ∑ p : Fin 1024, eM m c (rowT t p) (y 2)
/-- The gradient by the branch's rows as the kernel leaves it. -/
def oK (c : Dev nD) (i : S8192x1024.Idx) : EReal :=
  dxK (aD m c ⟨(i 0).val / 2048, by have : (i 0).val < 8192 := (i 0).isLt; omega⟩ (i 0)) (aG m c) (aY m c (i 0)) (i 1)
/-- The gradient by the gate as the kernel leaves it. -/
def kM (c : Dev nD) (z : S4x1x1024.Idx) : EReal := ∑ s : Fin 2048, eM m c (rowOf (z 0) s) (z 2)

theorem pay9_blk (c : Dev nD) (t : Fin cfg0.N) (y : S1x1024.Idx) :
    k0_pay9 (F := Ideal) (iblk m c 1 t) (iblk m c 0 t) (modRow m c t) y = tG m c t y := by
  rw [eq_row1 y]
  refine (pay9_apply _ _ _ (y 1)).trans (Finset.sum_congr rfl fun p _ => ?_)
  rw [bD_blk, bY_blk]; rfl

theorem pay7_blk (c : Dev nD) (t : Fin cfg0.N) (y : S1x1x1024.Idx) :
    k0_pay7 (F := Ideal) (iblk m c 1 t) (iblk m c 0 t) (iblk m c 2 t) y = tM m c t y := by
  rw [eq_row2 y]
  refine (pay7_apply _ _ _ (y 2)).trans (Finset.sum_congr rfl fun p _ => ?_)
  rw [bY_blk, bG_blk]
  exact congrArg (fun z : EReal => z * (cH * (aY m c (rowT t p) (y 2) * rr (aY m c (rowT t p)) * aG m c (y 2)))) (b0_blk m c t p (y 2))

theorem pay1_blk (c : Dev nD) (t : Fin cfg0.N) (y : S1024x1024.Idx) :
    k0_pay1 (F := Ideal) (k0_pay5 (iblk m c 1 t)) (k0_pay10 (iblk m c 0 t) (iblk m c 2 t) (modRow m c t)) (k0_pay11 (iblk m c 1 t) (iblk m c 0 t) (iblk m c 2 t) (modRow m c t)) y = oK m c (ix2 (rowT t (y 0)) (y 1)) := by
  obtain ⟨p, j, rfl⟩ : ∃ p j, y = ix2 p j := ⟨y 0, y 1, eq_ix2 y⟩
  refine (pay1_apply _ _ _ _ p j).trans ?_
  rw [bD_blk, bG_blk, bY_blk]
  have e : imgT t = ⟨(rowT t p).val / 2048, by have := (rowT t p).isLt; omega⟩ :=
    Fin.ext (by show t.val / 2 = (t.val * 1024 + p.val) / 2048; omega)
  rw [e]; rfl

theorem out4 (c : Dev nD) (t : Fin cfg0.N) (y : S1024x1024.Idx) : (outsAt0 m c t.val t.isLt).1 y = oK m c (ix2 (rowT t (y 0)) (y 1)) := by
  have hN : t.val < 8 := lt_of_lt_of_eq t.isLt N_0
  rw [← pay1_blk m c t y]
  by_cases h0 : t.val % 2 = 0
  · by_cases h2 : t.val % 8 = 0
    · rw [outsAt0_A m c t (by omega) (by omega) (by omega) (by omega)]
      frame_out
      rfl
    · rw [outsAt0_C m c t (by omega) (by omega) (by omega) (by omega)]
      frame_out
      rfl
  · rw [outsAt0_B m c t (by omega) (by omega) (by omega) (by omega)]
    frame_out
    rfl

/-- The gradient by the gain at the last point. -/
theorem last5 (c : Dev nD) (t : Fin cfg0.N) (ht : t.val % 8 = 7) (y : S1x1024.Idx) :
    (outsAt0 m c t.val t.isLt).2.1 y = (0 : EReal) + ∑ s : Fin 8, tG m c ⟨8 * (t.val / 8) + s.val, Pipeline.run_point_lt_of_flush t ht s⟩ y := by
  refine Pipeline.eq_sum_fin_of_reset_step_apply_of_flush (fun n h => (outsAt0 m c n h).2.1) 8 (fun _ => (0 : EReal)) (tG m c) (fun t h y => ?_) (fun t h y => ?_) t ht y
  · have hN : t.val < 8 := lt_of_lt_of_eq t.isLt N_0
    rw [outsAt0_A m c t (by omega) (by omega) (by omega) (by omega), zero_add, ← pay9_blk m c t y]
    frame_out
    rfl
  · have hN : t.val < 8 := lt_of_lt_of_eq t.isLt N_0
    rw [← pay9_blk m c t y]
    by_cases h0 : t.val % 2 = 0
    · rw [outsAt0_C m c t (by omega) (by omega) (by omega) (by omega)]
      frame_out
      simp only [k0_pay3, shapeCast_self]
      rfl
    · rw [outsAt0_B m c t (by omega) (by omega) (by omega) (by omega)]
      frame_out
      simp only [k0_pay3, shapeCast_self]
      rfl

/-- The gradient by the gate at an image's last point. -/
theorem last6 (c : Dev nD) (t : Fin cfg0.N) (ht : t.val % 2 = 1) (y : S1x1x1024.Idx) :
    (outsAt0 m c t.val t.isLt).2.2 y = (0 : EReal) + ∑ s : Fin 2, tM m c ⟨2 * (t.val / 2) + s.val, Pipeline.run_point_lt_of_flush t ht s⟩ y := by
  refine Pipeline.eq_sum_fin_of_reset_step_apply_of_flush (fun n h => (outsAt0 m c n h).2.2) 2 (fun _ => (0 : EReal)) (tM m c) (fun t h y => ?_) (fun t h y => ?_) t ht y
  · have hN : t.val < 8 := lt_of_lt_of_eq t.isLt N_0
    rw [zero_add, ← pay7_blk m c t y]
    by_cases h2 : t.val % 8 = 0
    · rw [outsAt0_A m c t (by omega) (by omega) (by omega) (by omega)]
      frame_out
    · rw [outsAt0_C m c t (by omega) (by omega) (by omega) (by omega)]
      frame_out
  · have hN : t.val < 8 := lt_of_lt_of_eq t.isLt N_0
    rw [← pay7_blk m c t y, outsAt0_B m c t (by omega) (by omega) (by omega) (by omega)]
    frame_out
    simp only [k0_pay2, shapeCast_self]
    rfl

/-! ## The result arrays -/

theorem out5 (c : Dev nD) (t : Fin cfg0.N) (ht : t.val % 8 = 7) (y : S1x1024.Idx) :
    (outsAt0 m c t.val t.isLt).2.1 y = ∑ i : Fin 8192, eG m c ⟨i.val / 2048, by omega⟩ i (y 1) := by
  rw [last5 m c t ht, zero_add]
  have hN : t.val < 8 := lt_of_lt_of_eq t.isLt N_0
  refine Fin.sum_mul_add_congr (S := 8) (n := 1024) fun s p hl => ?_
  have e : rowT ⟨8 * (t.val / 8) + s.val, Pipeline.run_point_lt_of_flush t ht s⟩ p = ⟨s.val * 1024 + p.val, hl⟩ :=
    Fin.ext (by show (8 * (t.val / 8) + s.val) * 1024 + p.val = s.val * 1024 + p.val; omega)
  have e' : imgT ⟨8 * (t.val / 8) + s.val, Pipeline.run_point_lt_of_flush t ht s⟩ = ⟨(s.val * 1024 + p.val) / 2048, by omega⟩ :=
    Fin.ext (by show (8 * (t.val / 8) + s.val) / 2 = (s.val * 1024 + p.val) / 2048; omega)
  rw [e, e']

theorem out6 (c : Dev nD) (t : Fin cfg0.N) (ht : t.val % 2 = 1) (y : S1x1x1024.Idx) :
    (outsAt0 m c t.val t.isLt).2.2 y = kM m c (ix3 (imgT t) 0 (y 2)) := by
  rw [last6 m c t ht, zero_add]
  refine Fin.sum_mul_add_congr (S := 2) (n := 1024) fun s p hl => ?_
  have e : rowT ⟨2 * (t.val / 2) + s.val, Pipeline.run_point_lt_of_flush t ht s⟩ p = rowOf (imgT t) ⟨s.val * 1024 + p.val, hl⟩ :=
    Fin.ext (by show (2 * (t.val / 2) + s.val) * 1024 + p.val = t.val / 2 * 2048 + (s.val * 1024 + p.val); omega)
  rw [e]

theorem arr4 (c : Dev nD) : (dats m 0 c).arrAt 4 cfg0.N = oK m c := by
  refine (dats m 0 c).arrAt_eq_of_covers 4 _ (by decide +kernel) fun t hf y => ?_
  blk_simp
  rw [after0_4, out4 m c t]
  refine congrArg (oK m c) ?_
  blk_ext [index4, ix2, rowT]

theorem arr5 (c : Dev nD) : (dats m 0 c).arrAt 5 cfg0.N = (fun y : S1x1024.Idx => ∑ i : Fin 8192, eG m c ⟨i.val / 2048, by omega⟩ i (y 1)) := by
  refine (dats m 0 c).arrAt_eq_of_covers 5 _ (by decide +kernel) fun t hf y => ?_
  have ht := (flush0_5 t).mp hf
  blk_simp
  rw [after0_5, out5 m c t ht]
  refine congrArg (fun z : S1x1024.Idx => ∑ i : Fin 8192, eG m c ⟨i.val / 2048, by omega⟩ i (z 1)) (show (y : S1x1024.Idx) = _ from ?_)
  blk_ext [index5, ix2]

theorem arr6 (c : Dev nD) : (dats m 0 c).arrAt 6 cfg0.N = kM m c := by
  refine (dats m 0 c).arrAt_eq_of_covers 6 _ (by decide +kernel) fun t hf y => ?_
  have ht := (flush0_6 t).mp hf
  blk_simp
  rw [after0_6, out6 m c t ht]
  refine congrArg (kM m c) ?_
  blk_ext [index6, ix3, imgT]

/-! ## The claim -/

/-- The precondition read back for the arguments. -/
theorem real_args (a0 : FVec Ideal Cert.Pre_finite_pm.S8192x1024 .f32) (a1 : FVec Ideal Cert.Pre_finite_pm.S8192x1024 .bf16) (a2 : FVec Ideal Cert.Pre_finite_pm.S1x1024 .f32) (a3 : FVec Ideal Cert.Pre_finite_pm.S4x9x1024 .f32)
    (h : Cert.Pre_finite_pm.fn (F := Ideal) a0 a1 a2 a3 = fun _ => 1#1) :
    (∀ i, IsReal (a0 i)) ∧ (∀ i, IsReal (a1 i)) ∧ (∀ i, IsReal (a2 i)) ∧ ∀ i, IsReal (a3 i) := by
  have h0 := congrFun h (fun k => k.elim0)
  unfold Cert.Pre_finite_pm.fn at h0
  dsimp only at h0
  unfold Cert.Pre_finite_pm.fn_part1 at h0
  dsimp only at h0
  obtain ⟨h0, e3⟩ := IntOp.andi_eq_one.1 h0
  obtain ⟨h0, e2⟩ := IntOp.andi_eq_one.1 h0
  obtain ⟨e0, e1⟩ := IntOp.andi_eq_one.1 h0
  exact ⟨real_of_test _ top32 _ _ _ _ _ e0, real_of_test _ top16 _ _ _ _ _ e1, real_of_test _ top32 _ _ _ _ _ e2, real_of_test _ top32 _ _ _ _ _ e3⟩

/-- The kernel call and the reference compute the same gradients of the branch, the gain and the gate over the reals, at finite arguments. -/
theorem algebraic_pm : Cert.algebraic_KernelPmIdeal_ReferencePmIdeal_pre_finite_pm (hKernelPmIdeal := Cert.KernelPmIdeal.Gen.facts) (hReferencePmIdeal := Cert.ReferencePmIdeal.Gen.facts) (hPre_finite_pm := Cert.Pre_finite_pm.Gen.facts) := by
  intro m g m' g' hpre harg
  refine ⟨fun c => (dats m 0 c).arrAt 4 cfg0.N, fun c => (dats m 0 c).arrAt 5 cfg0.N, fun c => (dats m 0 c).arrAt 6 cfg0.N, Value.run_blocks m g, ?_⟩
  refine (θ_run Cert.ReferencePmIdeal.defs _ _).mono (fun r h c => ?_) (Cert.ReferencePmIdeal.Value.run (F := Ideal) m' g')
  obtain ⟨hy, hg, hm, h0⟩ := h c
  obtain ⟨e0, e1, e2, e3⟩ := harg c
  obtain ⟨f0, f1, f2, f3⟩ := real_args _ _ _ _ (hpre c)
  refine ⟨hy.trans ?_, hg.trans ?_, hm.trans ?_, h0⟩
  · refine Eq.trans ?_ (arr4 m c).symm
    unfold Cert.ReferencePmIdeal.Value.res_main_v52
    rw [e0, e1, e2, e3]
    funext i
    obtain ⟨r, j, rfl⟩ : ∃ r j, i = ix2 r j := ⟨i 0, i 1, eq_ix2 i⟩
    have er : r = rowOf ⟨r.val / 2048, by omega⟩ ⟨r.val % 2048, by omega⟩ := Fin.ext (by show r.val = r.val / 2048 * 2048 + r.val % 2048; omega)
    refine Eq.trans (b := Cert.ReferencePmIdeal.Own.oY (m ((c : Thread nD τ).loc main_arg0)) (m ((c : Thread nD τ).loc main_arg1)) (m ((c : Thread nD τ).loc main_arg2)) (m ((c : Thread nD τ).loc main_arg3)) (ix2 r j)) rfl ?_
    rw [er]
    refine (Cert.ReferencePmIdeal.Own.oY_apply _ _ _ _ _ _ j).trans ?_
    rw [← er]
    refine dx_eq cLen_eq (by norm_num) (fun k => IsReal.mul' (IsReal.mul' ?_ (IsReal.mul' ⟨_, cH_eq⟩ ?_)) ?_) (fun k => ?_) j
    · exact f0 _
    · exact f3 _
    · exact f2 _
    · exact f1 _
  · refine Eq.trans ?_ (arr5 m c).symm
    rw [e0, e1, e3]
    funext y
    rw [eq_row1 y]
    refine (Cert.ReferencePmIdeal.Own.oG_apply (m ((c : Thread nD τ).loc main_arg0)) (m ((c : Thread nD τ).loc main_arg1)) (m ((c : Thread nD τ).loc main_arg3)) (y 1)).trans ?_
    refine Fin.sum_mul_add_congr (S := 4) (n := 2048) fun b s hl => (mul_comm _ _).trans ?_
    have eb : (⟨(b.val * 2048 + s.val) / 2048, by omega⟩ : Fin 4) = b := Fin.ext (by show (b.val * 2048 + s.val) / 2048 = b.val; omega)
    show _ = aD m c ⟨(b.val * 2048 + s.val) / 2048, _⟩ _ _ * _
    rw [eb]; rfl
  · refine Eq.trans ?_ (arr6 m c).symm
    rw [e0, e1, e2]
    funext z
    have hz : z = ix3 (z 0) 0 (z 2) := funext fun a => Fin.ext (by
      match a with
      | ⟨0, _⟩ => rfl
      | ⟨1, _⟩ => have : (z 1).val < 1 := (z 1).isLt; show (z 1).val = 0; omega
      | ⟨2, _⟩ => rfl)
    rw [hz]
    exact Cert.ReferencePmIdeal.Own.oM_apply (m ((c : Thread nD τ).loc main_arg0)) (m ((c : Thread nD τ).loc main_arg1)) (m ((c : Thread nD τ).loc main_arg2)) (z 0) (z 2)

end Cert.KernelPmIdeal.Own
end
-- ==== Proof.MoHost.lean ====
module
public import proofs.«01_k».proof.Proof.Gen.ReferenceMoIdeal.Run
public import proofs.«01_k».proof.Proof.DpHost
@[expose] public section
set_option maxRecDepth 16384
noncomputable section
namespace Cert.ReferenceMoIdeal.Own
open Cert.ReferenceMoIdeal Cert.ReferenceMoIdeal.Gen Idealize.ShloMosaic Idealize.ShloMosaic.TcCoe Idealize.SL.Sem
open Idealize.ShloMosaic.Tactic Idealize.ShloMosaic.ValueIdx
open Cert.NormGrad.Own (red2)
open Cert.ReferenceDpIdeal.Own (rr imgOf posOf)
open scoped BigOperators

section
variable (X : FVec Ideal S8192x1024 .f32) (A B : FVec Ideal S8192x512 .bf16) (W : FVec Ideal S1024x1024 .bf16) (G : FVec Ideal S1x1024 .f32) (M : FVec Ideal S4x9x1024 .f32)

/-! ## The reference's values, one name for each -/

/-- The two branches' rows, side by side. -/
abbrev halves : List ((s : Shape) × (s.Idx → Ideal .bf16)) := [⟨S8192x512, A⟩, ⟨S8192x512, B⟩]
/-- The two branches' rows as one array. -/
def hA : FVec Ideal S8192x1024 .bf16 := concatenate S8192x1024 1 (halves A B) concatenates_S8192x512_S8192x512_S8192x1024_d1
/-- The mixer's projected rows. -/
def hDot : FVec Ideal S8192x1024 .f32 := Host.dotGeneral dot_S8192x1024_S1024x1024_S8192x1024_1_0_0_1_n_n none (extf .f32 (hA A B) bitsLt_bf16_f32) (extf .f32 W bitsLt_bf16_f32)
/-- The projected rows, by image and position. -/
def hY : FVec Ideal S4x2048x1024 .f32 := shapeCast _ (hDot A B W) shapeCasts_S8192x1024_S4x2048x1024
/-- The normalising factors. -/
def hR : FVec Ideal S4x2048x1 .f32 := Host.rsqrt (addf (Host.divf (broadcastInDim S4x2048x1 ![0, 1] bcast_S4x2048_S4x2048x1_0_1 (Host.reduceAdd (mulf (hY A B W) (hY A B W)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))
/-- The gate. -/
def hM : FVec Ideal S4x2048x1024 .f32 := broadcastInDim S4x2048x1024 ![0, 1, 2] bcast_S4x1x1024_S4x2048x1024_0_1_2 (broadcastInDim S4x1x1024 ![0, 2] bcast_S4x1024_S4x1x1024_0_2 (shapeCast _ (extractStridedSlice S4x1x1024 ![0, 5, 0] M slices_S4x9x1024_S4x1x1024_0_5_0) shapeCasts_S4x1x1024_S4x1024))
/-- The gain. -/
def hG : FVec Ideal S4x2048x1024 .f32 := broadcastInDim S4x2048x1024 ![0, 1, 2] bcast_S1x1x1024_S4x2048x1024_0_1_2 (broadcastInDim S1x1x1024 ![1, 2] bcast_S1x1024_S1x1x1024_1_2 G)
/-- The normalised and gained rows, gated. -/
def hB : FVec Ideal S4x2048x1024 .f32 := mulf (hM M) (mulf (mulf (hY A B W) (broadcastInDim S4x2048x1024 ![0, 1, 2] bcast_S4x2048x1_S4x2048x1024_0_1_2 (hR A B W))) (hG G))
/-- The rows after the mixer. -/
def oX : FVec Ideal S8192x1024 .f32 := addf X (shapeCast _ (hB A B W G M) shapeCasts_S4x2048x1024_S8192x1024)

/-! ## The arrays by coordinates -/

/-- Row `i` of the projection: the two branches' products, added. -/
def yRow (i : Fin 8192) (j : Fin 1024) : EReal :=
  (∑ k : Fin 512, A (ix2 i k) * W (ix2 ⟨0 + k.val, by omega⟩ j)) + ∑ k : Fin 512, B (ix2 i k) * W (ix2 ⟨512 + k.val, by omega⟩ j)
/-- One entry of a row after the mixer: `x` the row before, `y` the projected row, `a` the gate, `g` the gain. -/
def step (x y a g : Fin 1024 → EReal) (j : Fin 1024) : EReal := x j + a j * (y j * rr y * g j)
/-- The entry of row `i`, of image `b`, after the mixer. -/
def eRow (b : Fin 4) (i : Fin 8192) (j : Fin 1024) : EReal :=
  step (fun j => X (ix2 i j)) (yRow A B W i) (fun j => M (ix3 b 5 j)) (fun j => G (ix2 0 j)) j

theorem hA_left (i : Fin 8192) (k : Fin 512) : hA A B (ix2 i ⟨0 + k.val, by omega⟩) = A (ix2 i k) := by
  unfold hA
  refine concatenate_apply_piece (t := S8192x1024) 1 (halves A B) _ (ix2 (n0 := 8192) (n1 := 1024) i ⟨0 + k.val, by omega⟩) 0 (show 0 < 2 by decide) S8192x512 _ rfl rfl 0 rfl (ix2 i k) (fun b hb => ?_) (by rfl)
  match b with
  | ⟨0, _⟩ => rfl
  | ⟨1, _⟩ => exact absurd rfl hb

theorem hA_right (i : Fin 8192) (k : Fin 512) : hA A B (ix2 i ⟨512 + k.val, by omega⟩) = B (ix2 i k) := by
  unfold hA
  refine concatenate_apply_piece (t := S8192x1024) 1 (halves A B) _ (ix2 (n0 := 8192) (n1 := 1024) i ⟨512 + k.val, by omega⟩) 1 (show 1 < 2 by decide) S8192x512 _ rfl rfl 512 rfl (ix2 i k) (fun b hb => ?_) (by rfl)
  match b with
  | ⟨0, _⟩ => rfl
  | ⟨1, _⟩ => exact absurd rfl hb

/-- A sum over the lanes of both halves, half by half. -/
theorem sum_halves (f : Fin 1024 → EReal) : ∑ k : Fin 1024, f k = (∑ k : Fin 512, f ⟨0 + k.val, by omega⟩) + ∑ k : Fin 512, f ⟨512 + k.val, by omega⟩ := by
  refine (Fin.sum_univ_add (a := 512) (b := 512) f).trans ?_
  refine congrArg₂ (· + ·) (Finset.sum_congr rfl fun k _ => congrArg f (Fin.ext ?_)) (Finset.sum_congr rfl fun k _ => congrArg f (Fin.ext ?_))
  · exact (Nat.zero_add _).symm
  · rfl

theorem hDot_apply (i : Fin 8192) (j : Fin 1024) : hDot A B W (ix2 i j) = yRow A B W i j := by
  unfold hDot
  rw [show dot_S8192x1024_S1024x1024_S8192x1024_1_0_0_1_n_n = DotDims.plain 8192 1024 1024 from rfl]
  refine (StackMember.dotGeneral_plain_apply none _ _ i j).trans ?_
  refine (sum_halves _).trans (congrArg₂ (· + ·) (Finset.sum_congr rfl fun k _ => ?_) (Finset.sum_congr rfl fun k _ => ?_))
  · exact congrArg (fun z : EReal => z * W (ix2 ⟨0 + k.val, by omega⟩ j)) (hA_left A B i k)
  · exact congrArg (fun z : EReal => z * W (ix2 ⟨512 + k.val, by omega⟩ j)) (hA_right A B i k)

theorem hY_apply (i : Fin 8192) (j : Fin 1024) : hY A B W (ix3 (imgOf i) (posOf i) j) = yRow A B W i j := by
  refine (shapeCast_apply _ _ _ (ix2 i j) ?_).trans (hDot_apply A B W i j)
  rw [Shape.rowMajor_val_three, Shape.rowMajor_val_two]
  show i.val * 1024 + j.val = (i.val / 2048 * 2048 + i.val % 2048) * 1024 + j.val
  omega

theorem hR_apply (i : Fin 8192) : hR A B W (ix3 (imgOf i) (posOf i) 0) = rr (yRow A B W i) := by
  have e : (broadcastInDim S4x2048x1 ![0, 1] bcast_S4x2048_S4x2048x1_0_1 (Host.reduceAdd (mulf (hY A B W) (hY A B W)) (constant S_ .f32 0x00000000#32) reducesTo_S4x2048x1024_S4x2048_d2 h_S_)) (ix3 (imgOf i) (posOf i) 0) = ∑ k : Fin 1024, yRow A B W i k * yRow A B W i k := by
    refine (broadcastInDim_apply _ _ _ _ (ix2 (imgOf i) (posOf i)) fun a => ?_).trans ?_
    · match a with
      | ⟨0, _⟩ => rfl
      | ⟨1, _⟩ => rfl
    · refine (red2 _ _ (by decide) _ _ _).trans (Finset.sum_congr rfl fun k _ => ?_)
      show hY A B W (ix3 (imgOf i) (posOf i) k) * hY A B W (ix3 (imgOf i) (posOf i) k) = _
      rw [hY_apply]
  show Ideal.rsqrt (Ideal.div _ (Ideal.ofBits .f32 0x44800000#32) + Ideal.ofBits .f32 0x358637BD#32) = _
  rw [e]; rfl

theorem hM_apply (b : Fin 4) (s : Fin 2048) (j : Fin 1024) : hM M (ix3 b s j) = M (ix3 b 5 j) := by
  refine (broadcastInDim_apply _ _ _ _ (ix3 b 0 j) fun a => ?_).trans ?_
  · match a with
    | ⟨0, _⟩ => rfl
    | ⟨1, _⟩ => rfl
    | ⟨2, _⟩ => rfl
  · refine (broadcastInDim_apply _ _ _ _ (ix2 b j) fun a => ?_).trans ?_
    · match a with
      | ⟨0, _⟩ => rfl
      | ⟨1, _⟩ => rfl
    · refine (shapeCast_apply _ _ _ (ix3 b 0 j) ?_).trans ?_
      · rw [Shape.rowMajor_val_three, Shape.rowMajor_val_two]
        show (b.val * 1 + 0) * 1024 + j.val = b.val * 1024 + j.val
        omega
      · refine extractStridedSlice_apply _ _ _ _ (ix3 b 5 j) fun a => ?_
        match a with
        | ⟨0, _⟩ => exact (Nat.zero_add _).symm
        | ⟨1, _⟩ => rfl
        | ⟨2, _⟩ => exact (Nat.zero_add _).symm

theorem hG_apply (b : Fin 4) (s : Fin 2048) (j : Fin 1024) : hG G (ix3 b s j) = G (ix2 0 j) := by
  refine (broadcastInDim_apply _ _ _ _ (ix3 0 0 j) fun a => ?_).trans ?_
  · match a with
    | ⟨0, _⟩ => rfl
    | ⟨1, _⟩ => rfl
    | ⟨2, _⟩ => rfl
  · refine broadcastInDim_apply _ _ _ _ (ix2 0 j) fun a => ?_
    match a with
    | ⟨0, _⟩ => rfl
    | ⟨1, _⟩ => rfl

theorem hB_apply (i : Fin 8192) (j : Fin 1024) : hB A B W G M (ix3 (imgOf i) (posOf i) j) = M (ix3 (imgOf i) 5 j) * (yRow A B W i j * rr (yRow A B W i) * G (ix2 0 j)) := by
  refine congrArg₂ (· * ·) (hM_apply M _ _ j) (congrArg₂ (· * ·) (congrArg₂ (· * ·) (hY_apply A B W i j) ?_) (hG_apply G _ _ j))
  refine (broadcastInDim_apply _ _ _ _ (ix3 (imgOf i) (posOf i) 0) fun a => ?_).trans (hR_apply A B W i)
  match a with
  | ⟨0, _⟩ => rfl
  | ⟨1, _⟩ => rfl
  | ⟨2, _⟩ => rfl

theorem oX_apply (i : Fin 8192) (j : Fin 1024) : oX X A B W G M (ix2 i j) = eRow X A B W G M (imgOf i) i j := by
  refine congrArg (fun z : EReal => X (ix2 i j) + z) ?_
  refine (shapeCast_apply _ _ _ (ix3 (imgOf i) (posOf i) j) ?_).trans (hB_apply A B W G M i j)
  rw [Shape.rowMajor_val_three, Shape.rowMajor_val_two]
  show (i.val / 2048 * 2048 + i.val % 2048) * 1024 + j.val = i.val * 1024 + j.val
  omega

end

end Cert.ReferenceMoIdeal.Own
end
-- ==== Proof.Mo.lean ====
module
public import proofs.«01_k».proof.Proof.Gen.KernelMoIdeal.Value
public import proofs.«01_k».proof.Proof.MoHost
public import proofs.«01_k».proof.Defs
public import Idealize.ShloMosaic.Lib.MatmulPlain
public import Idealize.ShloMosaic.Lib.ValueLayoutCasts
public import Idealize.ShloMosaic.Lib.Pipeline.ValueKit.Geometry
public import Idealize.ShloMosaic.Lib.Pipeline.ValueKit.Acc
@[expose] public section
set_option maxRecDepth 16384
noncomputable section
namespace Cert.KernelMoIdeal.Own
open Cert.KernelMoIdeal Cert.KernelMoIdeal.Gen Idealize.ShloMosaic Idealize.ShloMosaic.TcCoe Idealize.SL.Sem
open Idealize.ShloMosaic.Tactic Idealize.ShloMosaic.ValueIdx
open Cert.NormGrad.Own (cEps)
open Cert.ReferenceDpIdeal.Own (cLen rr imgOf)
open Cert.ReferenceMoIdeal.Own (step yRow eRow)
open scoped BigOperators

/-! ## What the body computes from one block of 512 rows -/

theorem sum_lanes (x : FVec Ideal S512x1024 .f32) (p : Fin 512) :
    (shapeCast S512x1 (multiReduction .add [1] S512 x 0x00000000#32 reduces_S512x1024_S512 (.inl rfl) rfl) shapeCasts_S512_S512x1 : FVec Ideal S512x1 .f32) (ix2 p 0) = ∑ k : Fin 1024, x (ix2 p k) := by
  refine (shapeCast_apply _ _ _ (ix1 p) ?_).trans ?_
  · rw [Shape.rowMajor_val_one, Shape.rowMajor_val_two]
    show p.val = p.val * 1 + 0
    omega
  · refine (Ideal.multiReduction_add_single (a := 1) x _ reduces_S512x1024_S512 (.inl rfl) rfl (ix1 p)).trans ?_
    refine Finset.sum_congr rfl fun k _ => congrArg x (funext fun d => Fin.ext ?_)
    match d with
    | ⟨0, _⟩ => rfl
    | ⟨1, _⟩ => rfl

theorem col_bcast (x : FVec Ideal S512x1 .f32) (p : Fin 512) (j : Fin 1024) :
    (broadcastTo S512x1024 x broadcasts_S512x1_S512x1024 : FVec Ideal S512x1024 .f32) (ix2 p j) = x (ix2 p 0) :=
  broadcastTo_apply x _ _ (ix2 p 0) fun a => match a with
    | ⟨0, _⟩ => rfl
    | ⟨1, _⟩ => rfl

theorem row_bcast (x : FVec Ideal S1x1024 .f32) (p : Fin 512) (j : Fin 1024) :
    (broadcastTo S512x1024 x broadcasts_S1x1024_S512x1024 : FVec Ideal S512x1024 .f32) (ix2 p j) = x (ix2 0 j) :=
  broadcastTo_apply x _ _ (ix2 0 j) fun a => match a with
    | ⟨0, _⟩ => rfl
    | ⟨1, _⟩ => rfl

theorem down_cast (x : FVec Ideal S1x1x1024 .f32) (j : Fin 1024) :
    (shapeCast S1x1024 x shapeCasts_S1x1x1024_S1x1024 : FVec Ideal S1x1024 .f32) (ix2 0 j) = x (ix3 0 0 j) :=
  shapeCast_apply _ _ _ (ix3 0 0 j) (by
    rw [Shape.rowMajor_val_three, Shape.rowMajor_val_two]
    show (0 * 1 + 0) * 1024 + j.val = 0 * 1024 + j.val
    omega)

/-- One product of a block of rows with half of the weight. -/
theorem half_apply (a : FVec Ideal S512x512 .bf16) (w : FVec Ideal S512x1024 .bf16) (p : Fin 512) (j : Fin 1024) :
    (matmul dot_S512x512_S512x1024_S512x1024_1_0_0_1_n_n none a (shapeCast S512x1024 w shapeCasts_S512x1024_S512x1024) (constant S512x1024 .f32 0x00000000#32) : FVec Ideal S512x1024 .f32) (ix2 p j) = ∑ k : Fin 512, a (ix2 p k) * w (ix2 k j) := by
  rw [shapeCast_self, show dot_S512x512_S512x1024_S512x1024_1_0_0_1_n_n = DotDims.plain 512 512 1024 from rfl]
  refine (Ideal.matmul_plain_apply none a w _ p j).trans ?_
  show (constant S512x1024 .f32 0x00000000#32 (ix2 p j) : Ideal .f32) + _ = _
  simp [constant, Ideal.ofBits_def]

section
variable (v0 : FVec Ideal S512x512 .bf16) (v1 : FVec Ideal S512x1024 .bf16) (v4 : FVec Ideal S512x512 .bf16) (v5 : FVec Ideal S512x1024 .bf16) (v19 : FVec Ideal S512x1024 .f32) (v20 : FVec Ideal S1x1x1024 .f32) (v26 : FVec Ideal S1x1024 .f32)

/-- Row `p` of the projection, from the blocks. -/
def bY (p : Fin 512) (j : Fin 1024) : EReal := (∑ k : Fin 512, v0 (ix2 p k) * v1 (ix2 k j)) + ∑ k : Fin 512, v4 (ix2 p k) * v5 (ix2 k j)
/-- Row `p` after the mixer, from the blocks. -/
def bE (p : Fin 512) (j : Fin 1024) : EReal :=
  step (fun j => v19 (ix2 p j)) (bY v0 v1 v4 v5 p) (fun j => v20 (ix3 0 0 j)) (fun j => v26 (ix2 0 j)) j

theorem pay1_apply (p : Fin 512) (j : Fin 1024) : k0_pay1 (F := Ideal) v0 v1 v4 v5 (ix2 p j) = bY v0 v1 v4 v5 p j :=
  congrArg₂ (· + ·) (half_apply v0 v1 p j) (half_apply v4 v5 p j)

theorem gate_apply (j : Fin 1024) :
    (mulf (broadcast S1x1024 (Scalar.ofBits .f32 0x3F800000#32 : Ideal .f32)) (shapeCast S1x1024 v20 shapeCasts_S1x1x1024_S1x1024) : FVec Ideal S1x1024 .f32) (ix2 0 j) = v20 (ix3 0 0 j) := by
  show Ideal.ofBits .f32 0x3F800000#32 * (shapeCast S1x1024 v20 shapeCasts_S1x1x1024_S1x1024 : FVec Ideal S1x1024 .f32) (ix2 0 j) = _
  rw [Ideal.ofBits_one_f32, down_cast]
  exact one_mul _

theorem pay3_apply (p : Fin 512) (j : Fin 1024) : k0_pay3 (F := Ideal) v0 v1 v4 v5 v19 v20 v26 (ix2 p j) = bE v0 v1 v4 v5 v19 v20 v26 p j := by
  refine congrArg (fun z : EReal => v19 (ix2 p j) + z) ?_
  refine congrArg₂ (· * ·) ((row_bcast _ p j).trans (gate_apply v20 j)) ?_
  refine congrArg₂ (· * ·) (congrArg₂ (· * ·) (pay1_apply v0 v1 v4 v5 p j) ((col_bcast _ p j).trans ?_)) (row_bcast v26 p j)
  refine congrArg (fun z : EReal => Ideal.rsqrt (Ideal.div z cLen + cEps)) ((sum_lanes _ p).trans (Finset.sum_congr rfl fun k _ => ?_))
  exact congrArg₂ (· * ·) (pay1_apply v0 v1 v4 v5 p k) (pay1_apply v0 v1 v4 v5 p k)
end

/-! ## The blocks -/

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 4, 0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- The halves of the weight the kernel's windows read. -/
theorem V_v0 (c : Dev nD) : V m c main_v0 = extractStridedSlice S512x1024 ![0, 0] (m ((c : Thread nD τ).loc main_arg3)) slices_S1024x1024_S512x1024_0_0 := by
  simp only [V, hostOps0]; after_results
theorem V_v1 (c : Dev nD) : V m c main_v1 = extractStridedSlice S512x1024 ![512, 0] (m ((c : Thread nD τ).loc main_arg3)) slices_S1024x1024_S512x1024_512_0 := by
  simp only [V, hostOps0]; after_results

theorem V_v0_apply (c : Dev nD) (k : Fin 512) (j : Fin 1024) : V m c main_v0 (ix2 k j) = m ((c : Thread nD τ).loc main_arg3) (ix2 ⟨0 + k.val, by omega⟩ j) := by
  rw [V_v0]
  refine extractStridedSlice_apply _ _ _ _ (ix2 ⟨0 + k.val, by omega⟩ j) fun a => ?_
  match a with
  | ⟨0, _⟩ => rfl
  | ⟨1, _⟩ => exact (Nat.zero_add _).symm

theorem V_v1_apply (c : Dev nD) (k : Fin 512) (j : Fin 1024) : V m c main_v1 (ix2 k j) = m ((c : Thread nD τ).loc main_arg3) (ix2 ⟨512 + k.val, by omega⟩ j) := by
  rw [V_v1]
  refine extractStridedSlice_apply _ _ _ _ (ix2 ⟨512 + k.val, by omega⟩ j) fun a => ?_
  match a with
  | ⟨0, _⟩ => rfl
  | ⟨1, _⟩ => exact (Nat.zero_add _).symm

/-- Row `p` of the block of point `t`. -/
def rowT (t : Fin cfg0.N) (p : Fin 512) : Fin 8192 := ⟨t.val * 512 + p.val, by have := lt_of_lt_of_eq t.isLt N_0; omega⟩
/-- The image of point `t`. -/
def imgT (t : Fin cfg0.N) : Fin 4 := ⟨t.val / 4, by have := lt_of_lt_of_eq t.isLt N_0; omega⟩

theorem imgT_eq (t : Fin cfg0.N) (p : Fin 512) : imgT t = imgOf (rowT t p) :=
  Fin.ext (by show t.val / 4 = (t.val * 512 + p.val) / 2048; omega)

/-- Row `i` of the projection. -/
abbrev aY (c : Dev nD) (i : Fin 8192) (j : Fin 1024) : EReal := yRow (m ((c : Thread nD τ).loc main_arg1)) (m ((c : Thread nD τ).loc main_arg2)) (m ((c : Thread nD τ).loc main_arg3)) i j
/-- Row `i` after the mixer. -/
abbrev aE (c : Dev nD) (i : Fin 8192) (j : Fin 1024) : EReal := eRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (imgOf i) i j

theorem b0_blk (c : Dev nD) (t : Fin cfg0.N) (p : Fin 512) (k : Fin 512) : iblk m c 0 t (ix2 p k) = m ((c : Thread nD τ).loc main_arg1) (ix2 (rowT t p) k) := by
  rw [← V_main_arg1 m c]
  blk_simp [iblk]
  refine congrArg (V m c main_arg1) ?_
  blk_ext [index0, ix2, rowT]

theorem b1_blk (c : Dev nD) (t : Fin cfg0.N) (p : Fin 512) (k : Fin 512) : iblk m c 1 t (ix2 p k) = m ((c : Thread nD τ).loc main_arg2) (ix2 (rowT t p) k) := by
  rw [← V_main_arg2 m c]
  blk_simp [iblk]
  refine congrArg (V m c main_arg2) ?_
  blk_ext [index1, ix2, rowT]

theorem b4_blk (c : Dev nD) (t : Fin cfg0.N) (p : Fin 512) (k : Fin 1024) : iblk m c 4 t (ix2 p k) = m ((c : Thread nD τ).loc main_arg0) (ix2 (rowT t p) k) := by
  rw [← V_main_arg0 m c]
  blk_simp [iblk]
  refine congrArg (V m c main_arg0) ?_
  blk_ext [index4, ix2, rowT]

theorem b2_blk (c : Dev nD) (t : Fin cfg0.N) (k : Fin 512) (j : Fin 1024) : iblk m c 2 t (ix2 k j) = m ((c : Thread nD τ).loc main_arg3) (ix2 ⟨0 + k.val, by omega⟩ j) := by
  rw [← V_v0_apply m c]
  blk_simp [iblk]
  refine congrArg (V m c main_v0) ?_
  blk_ext [index2, ix2]

theorem b3_blk (c : Dev nD) (t : Fin cfg0.N) (k : Fin 512) (j : Fin 1024) : iblk m c 3 t (ix2 k j) = m ((c : Thread nD τ).loc main_arg3) (ix2 ⟨512 + k.val, by omega⟩ j) := by
  rw [← V_v1_apply m c]
  blk_simp [iblk]
  refine congrArg (V m c main_v1) ?_
  blk_ext [index3, ix2]

theorem b5_blk (c : Dev nD) (t : Fin cfg0.N) (j : Fin 1024) : iblk m c 5 t (ix2 0 j) = m ((c : Thread nD τ).loc main_arg4) (ix2 0 j) := by
  rw [← V_main_arg4 m c]
  blk_simp [iblk]
  refine congrArg (V m c main_arg4) ?_
  blk_ext [index5, ix2]

/-- The row of the modulation the body loads. -/
abbrev modRow (c : Dev nD) (t : Fin cfg0.N) : FVec Ideal S1x1x1024 .f32 :=
  View.ld (iblk m c 6 t) (Rect.unit (s := S1x9x1024) ![0, 5, 0] S1x1x1024.size inb_S1x9x1024_S1x1x1024_0_5_0)

theorem b6_blk (c : Dev nD) (t : Fin cfg0.N) (j : Fin 1024) : modRow m c t (ix3 0 0 j) = m ((c : Thread nD τ).loc main_arg5) (ix3 (imgT t) 5 j) := by
  have e : modRow m c t (ix3 0 0 j) = iblk m c 6 t (ix3 0 5 j) := congrArg (iblk m c 6 t) (funext fun a => Fin.ext (by
    match a with
    | ⟨0, _⟩ => rfl
    | ⟨1, _⟩ => rfl
    | ⟨2, _⟩ => exact (Nat.zero_add _).trans (Nat.one_mul _)))
  rw [e, ← V_main_arg5 m c]
  blk_simp [iblk]
  refine congrArg (V m c main_arg5) ?_
  blk_ext [index6, ix3, imgT]

theorem bY_blk (c : Dev nD) (t : Fin cfg0.N) (p : Fin 512) : bY (iblk m c 0 t) (iblk m c 2 t) (iblk m c 1 t) (iblk m c 3 t) p = aY m c (rowT t p) := by
  funext j
  refine congrArg₂ (· + ·) (Finset.sum_congr rfl fun k _ => ?_) (Finset.sum_congr rfl fun k _ => ?_)
  · exact congrArg₂ (· * ·) (b0_blk m c t p k) (b2_blk m c t k j)
  · exact congrArg₂ (· * ·) (b1_blk m c t p k) (b3_blk m c t k j)

theorem bE_blk (c : Dev nD) (t : Fin cfg0.N) (p : Fin 512) : bE (iblk m c 0 t) (iblk m c 2 t) (iblk m c 1 t) (iblk m c 3 t) (iblk m c 4 t) (modRow m c t) (iblk m c 5 t) p = aE m c (rowT t p) := by
  funext j
  unfold bE
  simp only [b4_blk m c t p, b5_blk m c t, b6_blk m c t]
  rw [bY_blk m c t p, imgT_eq t p]
  rfl

/-! ## What the points leave -/

/-- The rows after the mixer as the kernel leaves them. -/
def oK (c : Dev nD) (i : S8192x1024.Idx) : EReal := aE m c (i 0) (i 1)
/-- The projection as the kernel leaves it. -/
def oY (c : Dev nD) (i : S8192x1024.Idx) : EReal := aY m c (i 0) (i 1)

theorem pay3_blk (c : Dev nD) (t : Fin cfg0.N) (y : S512x1024.Idx) :
    k0_pay3 (F := Ideal) (iblk m c 0 t) (iblk m c 2 t) (iblk m c 1 t) (iblk m c 3 t) (iblk m c 4 t) (modRow m c t) (iblk m c 5 t) y = oK m c (ix2 (rowT t (y 0)) (y 1)) := by
  obtain ⟨p, j, rfl⟩ : ∃ p j, y = ix2 p j := ⟨y 0, y 1, eq_ix2 y⟩
  refine (pay3_apply _ _ _ _ _ _ _ p j).trans ?_
  rw [bE_blk]; rfl

theorem pay2_blk (c : Dev nD) (t : Fin cfg0.N) (y : S512x1024.Idx) :
    k0_pay2 (F := Ideal) (iblk m c 0 t) (iblk m c 2 t) (iblk m c 1 t) (iblk m c 3 t) y = oY m c (ix2 (rowT t (y 0)) (y 1)) := by
  obtain ⟨p, j, rfl⟩ : ∃ p j, y = ix2 p j := ⟨y 0, y 1, eq_ix2 y⟩
  refine (pay1_apply _ _ _ _ p j).trans ?_
  rw [bY_blk]; rfl

theorem out7 (c : Dev nD) (t : Fin cfg0.N) (y : S512x1024.Idx) : (dats m 0 c).after 7 t y = oK m c (ix2 (rowT t (y 0)) (y 1)) := by
  rw [← pay3_blk m c t y, after0_7]
  unfold out0_7
  frame_out
  rfl

theorem out8 (c : Dev nD) (t : Fin cfg0.N) (y : S512x1024.Idx) : (dats m 0 c).after 8 t y = oY m c (ix2 (rowT t (y 0)) (y 1)) := by
  rw [← pay2_blk m c t y, after0_8]
  unfold out0_8
  frame_out

theorem arr7 (c : Dev nD) : (dats m 0 c).arrAt 7 cfg0.N = oK m c := by
  refine (dats m 0 c).arrAt_eq_of_covers 7 _ (by decide +kernel) fun t hf y => ?_
  blk_simp
  rw [out7 m c t]
  refine congrArg (oK m c) ?_
  blk_ext [index7, ix2, rowT]

theorem arr8 (c : Dev nD) : (dats m 0 c).arrAt 8 cfg0.N = oY m c := by
  refine (dats m 0 c).arrAt_eq_of_covers 8 _ (by decide +kernel) fun t hf y => ?_
  blk_simp
  rw [out8 m c t]
  refine congrArg (oY m c) ?_
  blk_ext [index8, ix2, rowT]

/-! ## The claim -/

/-- The kernel call and the reference compute the same rows and projection over the reals. -/
theorem algebraic_mo : Cert.algebraic_KernelMoIdeal_ReferenceMoIdeal (hKernelMoIdeal := Cert.KernelMoIdeal.Gen.facts) (hReferenceMoIdeal := Cert.ReferenceMoIdeal.Gen.facts) := by
  intro m g m' g' _ harg
  refine ⟨fun c => (dats m 0 c).arrAt 7 cfg0.N, fun c => (dats m 0 c).arrAt 8 cfg0.N, Value.run_blocks m g, ?_⟩
  refine (θ_run Cert.ReferenceMoIdeal.defs _ _).mono (fun r h c => ?_) (Cert.ReferenceMoIdeal.Value.run (F := Ideal) m' g')
  obtain ⟨hx, hy, h0⟩ := h c
  obtain ⟨e0, e1, e2, e3, e4, e5⟩ := harg c
  refine ⟨hx.trans ?_, hy.trans ?_, h0⟩
  · refine Eq.trans ?_ (arr7 m c).symm
    rw [e0, e1, e2, e3, e4, e5]
    funext i
    obtain ⟨r, j, rfl⟩ : ∃ r j, i = ix2 r j := ⟨i 0, i 1, eq_ix2 i⟩
    exact Cert.ReferenceMoIdeal.Own.oX_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j
  · refine Eq.trans ?_ (arr8 m c).symm
    rw [e1, e2, e3]
    funext i
    obtain ⟨r, j, rfl⟩ : ∃ r j, i = ix2 r j := ⟨i 0, i 1, eq_ix2 i⟩
    exact Cert.ReferenceMoIdeal.Own.hDot_apply (m ((c : Thread nD τ).loc main_arg1)) (m ((c : Thread nD τ).loc main_arg2)) (m ((c : Thread nD τ).loc main_arg3)) r j

end Cert.KernelMoIdeal.Own
end
-- ==== Proof.PrHost.lean ====
module
public import proofs.«01_k».proof.Proof.Gen.ReferencePrIdeal.Run
public import proofs.«01_k».proof.Proof.DpHost
@[expose] public section
set_option maxRecDepth 16384
noncomputable section
namespace Cert.ReferencePrIdeal.Own
open Cert.ReferencePrIdeal Cert.ReferencePrIdeal.Gen Idealize.ShloMosaic Idealize.ShloMosaic.TcCoe Idealize.SL.Sem
open Idealize.ShloMosaic.Tactic Idealize.ShloMosaic.ValueIdx
open Cert.ReferenceDpIdeal.Own (imgOf posOf)
open scoped BigOperators

/-- One lane of a row after the rotary embedding: `P` the row's lanes before it, `C` and `S` the cosines and sines of the row's position. -/
def rotE (P : ℕ → EReal) (C S : Fin 8 → EReal) (l : ℕ) : EReal :=
  if h : l % 64 < 8 then P l * C ⟨l % 64, h⟩ - P (l + 8) * S ⟨l % 64, h⟩
  else if h' : l % 64 < 16 then P l * C ⟨l % 64 - 8, by omega⟩ + P (l - 8) * S ⟨l % 64 - 8, by omega⟩
  else P l

theorem rotE_low (P : ℕ → EReal) (C S : Fin 8 → EReal) (n : ℕ) (r : Fin 8) : rotE P C S (64 * n + r.val) = P (64 * n + r.val) * C r - P (64 * n + (8 + r.val)) * S r := by
  have e : (64 * n + r.val) % 64 = r.val := by omega
  have h : (64 * n + r.val) % 64 < 8 := by omega
  unfold rotE
  rw [dif_pos h]
  have er : (⟨(64 * n + r.val) % 64, h⟩ : Fin 8) = r := Fin.ext e
  rw [er, show 64 * n + r.val + 8 = 64 * n + (8 + r.val) by omega]

theorem rotE_mid (P : ℕ → EReal) (C S : Fin 8 → EReal) (n : ℕ) (r : Fin 8) : rotE P C S (64 * n + (8 + r.val)) = P (64 * n + (8 + r.val)) * C r + P (64 * n + r.val) * S r := by
  have e : (64 * n + (8 + r.val)) % 64 = 8 + r.val := by omega
  have h : ¬ (64 * n + (8 + r.val)) % 64 < 8 := by omega
  have h' : (64 * n + (8 + r.val)) % 64 < 16 := by omega
  unfold rotE
  rw [dif_neg h, dif_pos h']
  have er : (⟨(64 * n + (8 + r.val)) % 64 - 8, by omega⟩ : Fin 8) = r := Fin.ext (by show (64 * n + (8 + r.val)) % 64 - 8 = r.val; omega)
  rw [er, show 64 * n + (8 + r.val) - 8 = 64 * n + r.val by omega]

theorem rotE_high (P : ℕ → EReal) (C S : Fin 8 → EReal) (n : ℕ) (r : Fin 48) : rotE P C S (64 * n + (16 + r.val)) = P (64 * n + (16 + r.val)) := by
  unfold rotE
  rw [dif_neg (by omega), dif_neg (by omega)]

section
variable (H : FVec Ideal S8192x1024 .bf16) (W : FVec Ideal S1024x3072 .bf16) (N : IVec S4x2048 32)

/-! ## The reference's values, one name for each -/

/-- The projected rows. -/
def hDot : FVec Ideal S8192x3072 .f32 := Host.dotGeneral dot_S8192x1024_S1024x3072_S8192x3072_1_0_0_1_n_n none (extf .f32 H bitsLt_bf16_f32) (extf .f32 W bitsLt_bf16_f32)
/-- The frequencies of the rotary embedding. -/
def hFreq : FVec Ideal S8 .f32 := Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))
/-- The positions as floats. -/
def hPos : FVec Ideal S4x2048 .f32 := sitofp .f32 N
/-- The angles. -/
def hAng : FVec Ideal S4x1x2048x8 .f32 := mulf (broadcastInDim S4x1x2048x8 ![0, 1, 2, 3] bcast_S4x1x2048x1_S4x1x2048x8_0_1_2_3 (broadcastInDim S4x1x2048x1 ![0, 2] bcast_S4x2048_S4x1x2048x1_0_2 (hPos N))) (broadcastInDim S4x1x2048x8 ![0, 1, 2, 3] bcast_S1x1x1x8_S4x1x2048x8_0_1_2_3 (broadcastInDim S1x1x1x8 ![3] bcast_S8_S1x1x1x8_3 hFreq))
/-- The cosines, for every head. -/
def hC : FVec Ideal S4x8x2048x8 .f32 := broadcastInDim S4x8x2048x8 ![0, 1, 2, 3] bcast_S4x1x2048x8_S4x8x2048x8_0_1_2_3 (Host.cos (hAng N))
/-- The sines, for every head. -/
def hS : FVec Ideal S4x8x2048x8 .f32 := broadcastInDim S4x8x2048x8 ![0, 1, 2, 3] bcast_S4x1x2048x8_S4x8x2048x8_0_1_2_3 (Host.sin (hAng N))
/-- The heads of 512 lanes of the projection. -/
def hT (x : FVec Ideal S8192x512 .f32) : FVec Ideal S4x8x2048x64 .f32 := transpose S4x8x2048x64 [0, 2, 1, 3] (shapeCast _ x shapeCasts_S8192x512_S4x2048x8x64) transposes_S4x2048x8x64_S4x8x2048x64_0_2_1_3
/-- The parts of a head after the rotation. -/
abbrev parts (x : FVec Ideal S4x8x2048x64 .f32) : List ((s : Shape) × (s.Idx → Ideal .f32)) :=
  [⟨S4x8x2048x8, subf (mulf (extractStridedSlice S4x8x2048x8 ![0, 0, 0, 0] x slices_S4x8x2048x64_S4x8x2048x8_0_0_0_0) (hC N)) (mulf (extractStridedSlice S4x8x2048x8 ![0, 0, 0, 8] x slices_S4x8x2048x64_S4x8x2048x8_0_0_0_8) (hS N))⟩,
   ⟨S4x8x2048x8, addf (mulf (extractStridedSlice S4x8x2048x8 ![0, 0, 0, 8] x slices_S4x8x2048x64_S4x8x2048x8_0_0_0_8) (hC N)) (mulf (extractStridedSlice S4x8x2048x8 ![0, 0, 0, 0] x slices_S4x8x2048x64_S4x8x2048x8_0_0_0_0) (hS N))⟩,
   ⟨S4x8x2048x48, extractStridedSlice S4x8x2048x48 ![0, 0, 0, 16] x slices_S4x8x2048x64_S4x8x2048x48_0_0_0_16⟩]
/-- The rotated heads. -/
def hRot (x : FVec Ideal S4x8x2048x64 .f32) : FVec Ideal S4x8x2048x64 .f32 := concatenate S4x8x2048x64 3 (parts N x) concatenates_S4x8x2048x8_S4x8x2048x8_S4x8x2048x48_S4x8x2048x64_d3
/-- The heads side by side. -/
def hFlat (x : FVec Ideal S4x8x2048x64 .f32) : FVec Ideal S8192x512 .f32 := shapeCast _ (transpose S4x2048x8x64 [0, 2, 1, 3] x transposes_S4x8x2048x64_S4x2048x8x64_0_2_1_3) shapeCasts_S4x2048x8x64_S8192x512
/-- The three pieces of the result. -/
abbrev pieces : List ((s : Shape) × (s.Idx → Ideal .f32)) :=
  [⟨S8192x512, hFlat (hRot N (hT (extractStridedSlice S8192x512 ![0, 0] (hDot H W) slices_S8192x3072_S8192x512_0_0)))⟩,
   ⟨S8192x512, hFlat (hRot N (hT (extractStridedSlice S8192x512 ![0, 512] (hDot H W) slices_S8192x3072_S8192x512_0_512)))⟩,
   ⟨S8192x2048, extractStridedSlice S8192x2048 ![0, 1024] (hDot H W) slices_S8192x3072_S8192x2048_0_1024⟩]
/-- The result before its rounding. -/
def oP : FVec Ideal S8192x3072 .f32 := concatenate S8192x3072 1 (pieces H W N) concatenates_S8192x512_S8192x512_S8192x2048_S8192x3072_d1

/-! ## The arrays by coordinates -/

/-- Row `i` of the projection. -/
def yRow (i : Fin 8192) (l : ℕ) : EReal := ∑ k : Fin 1024, H (ix2 i k) * W (ix2 k ⟨l % 3072, by omega⟩)
/-- The angle of row `i` at frequency `r`. -/
def ang (i : Fin 8192) (r : Fin 8) : EReal := hPos N (ix2 (imgOf i) (posOf i)) * hFreq (ix1 r)
/-- The cosines of row `i`. -/
def cosR (i : Fin 8192) (r : Fin 8) : EReal := Ideal.cos (ang N i r)
/-- The sines of row `i`. -/
def sinR (i : Fin 8192) (r : Fin 8) : EReal := Ideal.sin (ang N i r)
/-- Lane `l` of row `i` of the result. -/
def pRow (i : Fin 8192) (l : ℕ) : EReal := if l < 1024 then rotE (yRow H W i) (cosR N i) (sinR N i) l else yRow H W i l

theorem hDot_apply (i : Fin 8192) (l : Fin 3072) : hDot H W (ix2 i l) = yRow H W i l.val := by
  unfold hDot
  rw [show dot_S8192x1024_S1024x3072_S8192x3072_1_0_0_1_n_n = DotDims.plain 8192 1024 3072 from rfl]
  refine (StackMember.dotGeneral_plain_apply none _ _ i l).trans (Finset.sum_congr rfl fun k _ => ?_)
  refine congrArg (fun z => H (ix2 i k) * W (ix2 k z)) (Fin.ext ?_)
  exact (Nat.mod_eq_of_lt l.isLt).symm

theorem hAng_apply (i : Fin 8192) (r : Fin 8) : hAng N (ix4 (imgOf i) 0 (posOf i) r) = ang N i r := by
  refine congrArg₂ (· * ·) ?_ ?_
  · refine (broadcastInDim_apply _ _ _ _ (ix4 (imgOf i) 0 (posOf i) 0) fun a => ?_).trans ?_
    · match a with
      | ⟨0, _⟩ => rfl
      | ⟨1, _⟩ => rfl
      | ⟨2, _⟩ => rfl
      | ⟨3, _⟩ => rfl
    · refine broadcastInDim_apply _ _ _ _ (ix2 (imgOf i) (posOf i)) fun a => ?_
      match a with
      | ⟨0, _⟩ => rfl
      | ⟨1, _⟩ => rfl
  · refine (broadcastInDim_apply _ _ _ _ (ix4 0 0 0 r) fun a => ?_).trans ?_
    · match a with
      | ⟨0, _⟩ => rfl
      | ⟨1, _⟩ => rfl
      | ⟨2, _⟩ => rfl
      | ⟨3, _⟩ => rfl
    · refine broadcastInDim_apply _ _ _ _ (ix1 r) fun a => ?_
      match a with
      | ⟨0, _⟩ => rfl

theorem hC_apply (i : Fin 8192) (h : Fin 8) (r : Fin 8) : hC N (ix4 (imgOf i) h (posOf i) r) = cosR N i r := by
  refine (broadcastInDim_apply _ _ _ _ (ix4 (imgOf i) 0 (posOf i) r) fun a => ?_).trans (congrArg Ideal.cos (hAng_apply N i r))
  match a with
  | ⟨0, _⟩ => rfl
  | ⟨1, _⟩ => rfl
  | ⟨2, _⟩ => rfl
  | ⟨3, _⟩ => rfl

theorem hS_apply (i : Fin 8192) (h : Fin 8) (r : Fin 8) : hS N (ix4 (imgOf i) h (posOf i) r) = sinR N i r := by
  refine (broadcastInDim_apply _ _ _ _ (ix4 (imgOf i) 0 (posOf i) r) fun a => ?_).trans (congrArg Ideal.sin (hAng_apply N i r))
  match a with
  | ⟨0, _⟩ => rfl
  | ⟨1, _⟩ => rfl
  | ⟨2, _⟩ => rfl
  | ⟨3, _⟩ => rfl

theorem hT_apply (x : FVec Ideal S8192x512 .f32) (i : Fin 8192) (h : Fin 8) (d : Fin 64) : hT x (ix4 (imgOf i) h (posOf i) d) = x (ix2 i ⟨64 * h.val + d.val, by omega⟩) := by
  refine (transpose_apply _ _ _ _ (ix4 (imgOf i) (posOf i) h d) fun b => ?_).trans ?_
  · match b with
    | ⟨0, _⟩ => rfl
    | ⟨1, _⟩ => rfl
    | ⟨2, _⟩ => rfl
    | ⟨3, _⟩ => rfl
  · refine shapeCast_apply _ _ _ (ix2 i ⟨64 * h.val + d.val, by omega⟩) ?_
    rw [Shape.rowMajor_val_four, Shape.rowMajor_val_two]
    show i.val * 512 + (64 * h.val + d.val) = ((i.val / 2048 * 2048 + i.val % 2048) * 8 + h.val) * 64 + d.val
    omega

theorem hFlat_apply (x : FVec Ideal S4x8x2048x64 .f32) (i : Fin 8192) (h : Fin 8) (d : Fin 64) : hFlat x (ix2 i ⟨64 * h.val + d.val, by omega⟩) = x (ix4 (imgOf i) h (posOf i) d) := by
  refine (shapeCast_apply _ _ _ (ix4 (imgOf i) (posOf i) h d) ?_).trans ?_
  · rw [Shape.rowMajor_val_four, Shape.rowMajor_val_two]
    show ((i.val / 2048 * 2048 + i.val % 2048) * 8 + h.val) * 64 + d.val = i.val * 512 + (64 * h.val + d.val)
    omega
  · refine transpose_apply _ _ _ _ (ix4 (imgOf i) h (posOf i) d) fun b => ?_
    match b with
    | ⟨0, _⟩ => rfl
    | ⟨1, _⟩ => rfl
    | ⟨2, _⟩ => rfl
    | ⟨3, _⟩ => rfl

/-- A slice of a head's lanes. -/
theorem cut8 (o : ℕ) (ho : o + 8 ≤ 64) (x : FVec Ideal S4x8x2048x64 .f32) (hs : S4x8x2048x64.Slices ![0, 0, 0, o] S4x8x2048x8) (b : Fin 4) (h : Fin 8) (s : Fin 2048) (r : Fin 8) :
    extractStridedSlice S4x8x2048x8 ![0, 0, 0, o] x hs (ix4 b h s r) = x (ix4 b h s ⟨o + r.val, by omega⟩) := by
  refine extractStridedSlice_apply _ _ _ _ (ix4 b h s ⟨o + r.val, by omega⟩) fun a => ?_
  match a with
  | ⟨0, _⟩ => exact (Nat.zero_add _).symm
  | ⟨1, _⟩ => exact (Nat.zero_add _).symm
  | ⟨2, _⟩ => exact (Nat.zero_add _).symm
  | ⟨3, _⟩ => rfl

theorem cut48 (x : FVec Ideal S4x8x2048x64 .f32) (b : Fin 4) (h : Fin 8) (s : Fin 2048) (r : Fin 48) :
    extractStridedSlice S4x8x2048x48 ![0, 0, 0, 16] x slices_S4x8x2048x64_S4x8x2048x48_0_0_0_16 (ix4 b h s r) = x (ix4 b h s ⟨16 + r.val, by omega⟩) := by
  refine extractStridedSlice_apply _ _ _ _ (ix4 b h s ⟨16 + r.val, by omega⟩) fun a => ?_
  match a with
  | ⟨0, _⟩ => exact (Nat.zero_add _).symm
  | ⟨1, _⟩ => exact (Nat.zero_add _).symm
  | ⟨2, _⟩ => exact (Nat.zero_add _).symm
  | ⟨3, _⟩ => rfl

theorem rot_low (x : FVec Ideal S4x8x2048x64 .f32) (i : Fin 8192) (h : Fin 8) (r : Fin 8) :
    hRot N x (ix4 (imgOf i) h (posOf i) ⟨0 + r.val, by omega⟩) = x (ix4 (imgOf i) h (posOf i) ⟨0 + r.val, by omega⟩) * cosR N i r - x (ix4 (imgOf i) h (posOf i) ⟨8 + r.val, by omega⟩) * sinR N i r := by
  unfold hRot
  refine (concatenate_apply_piece (t := S4x8x2048x64) 3 (parts N x) _ (ix4 (n0 := 4) (n1 := 8) (n2 := 2048) (n3 := 64) (imgOf i) h (posOf i) ⟨0 + r.val, by omega⟩) 0 (show 0 < 3 by decide) S4x8x2048x8 _ rfl rfl 0 rfl (ix4 (imgOf i) h (posOf i) r) (fun b hb => ?_) (by rfl)).trans ?_
  · match b with
    | ⟨0, _⟩ => rfl
    | ⟨1, _⟩ => rfl
    | ⟨2, _⟩ => rfl
    | ⟨3, _⟩ => exact absurd rfl hb
  · exact congrArg₂ (fun a b : EReal => a - b) (congrArg₂ (· * ·) (cut8 0 (by omega) x _ _ _ _ r) (hC_apply N i h r)) (congrArg₂ (· * ·) (cut8 8 (by omega) x _ _ _ _ r) (hS_apply N i h r))

theorem rot_mid (x : FVec Ideal S4x8x2048x64 .f32) (i : Fin 8192) (h : Fin 8) (r : Fin 8) :
    hRot N x (ix4 (imgOf i) h (posOf i) ⟨8 + r.val, by omega⟩) = x (ix4 (imgOf i) h (posOf i) ⟨8 + r.val, by omega⟩) * cosR N i r + x (ix4 (imgOf i) h (posOf i) ⟨0 + r.val, by omega⟩) * sinR N i r := by
  unfold hRot
  refine (concatenate_apply_piece (t := S4x8x2048x64) 3 (parts N x) _ (ix4 (n0 := 4) (n1 := 8) (n2 := 2048) (n3 := 64) (imgOf i) h (posOf i) ⟨8 + r.val, by omega⟩) 1 (show 1 < 3 by decide) S4x8x2048x8 _ rfl rfl 8 rfl (ix4 (imgOf i) h (posOf i) r) (fun b hb => ?_) (by rfl)).trans ?_
  · match b with
    | ⟨0, _⟩ => rfl
    | ⟨1, _⟩ => rfl
    | ⟨2, _⟩ => rfl
    | ⟨3, _⟩ => exact absurd rfl hb
  · exact congrArg₂ (fun a b : EReal => a + b) (congrArg₂ (· * ·) (cut8 8 (by omega) x _ _ _ _ r) (hC_apply N i h r)) (congrArg₂ (· * ·) (cut8 0 (by omega) x _ _ _ _ r) (hS_apply N i h r))

theorem rot_high (x : FVec Ideal S4x8x2048x64 .f32) (i : Fin 8192) (h : Fin 8) (r : Fin 48) :
    hRot N x (ix4 (imgOf i) h (posOf i) ⟨16 + r.val, by omega⟩) = x (ix4 (imgOf i) h (posOf i) ⟨16 + r.val, by omega⟩) := by
  unfold hRot
  refine (concatenate_apply_piece (t := S4x8x2048x64) 3 (parts N x) _ (ix4 (n0 := 4) (n1 := 8) (n2 := 2048) (n3 := 64) (imgOf i) h (posOf i) ⟨16 + r.val, by omega⟩) 2 (show 2 < 3 by decide) S4x8x2048x48 _ rfl rfl 16 rfl (ix4 (imgOf i) h (posOf i) r) (fun b hb => ?_) (by rfl)).trans (cut48 x _ _ _ r)
  match b with
  | ⟨0, _⟩ => rfl
  | ⟨1, _⟩ => rfl
  | ⟨2, _⟩ => rfl
  | ⟨3, _⟩ => exact absurd rfl hb

/-- 512 lanes after the rotation, from their lanes `y` before it. -/
theorem flat_rot (x : FVec Ideal S8192x512 .f32) (n : ℕ) (i : Fin 8192) (y : ℕ → EReal)
    (hx : ∀ q : Fin 512, x (ix2 i q) = y (64 * n + q.val)) (q : Fin 512) :
    hFlat (hRot N (hT x)) (ix2 i q) = rotE y (cosR N i) (sinR N i) (64 * n + q.val) := by
  obtain ⟨h, d, hq⟩ : ∃ (h : Fin 8) (d : Fin 64), q.val = 64 * h.val + d.val := ⟨⟨q.val / 64, by omega⟩, ⟨q.val % 64, by omega⟩, (Nat.div_add_mod q.val 64).symm⟩
  have hx' (d : Fin 64) : hT x (ix4 (imgOf i) h (posOf i) d) = y (64 * (n + h.val) + d.val) := by
    rw [hT_apply, hx]
    exact congrArg y (by show 64 * n + (64 * h.val + d.val) = _; omega)
  have eq : q = ⟨64 * h.val + d.val, by omega⟩ := Fin.ext hq
  rw [show 64 * n + q.val = 64 * (n + h.val) + d.val by omega, eq, hFlat_apply]
  rcases Nat.lt_or_ge d.val 8 with h8 | h8
  · obtain ⟨r, hr⟩ : ∃ r : Fin 8, d.val = 0 + r.val := ⟨⟨d.val, h8⟩, (Nat.zero_add _).symm⟩
    rw [show d = ⟨0 + r.val, by omega⟩ from Fin.ext hr, rot_low, hx', hx']
    show y (64 * (n + h.val) + (0 + r.val)) * _ - _ = rotE y _ _ (64 * (n + h.val) + (0 + r.val))
    rw [Nat.zero_add, rotE_low]
  rcases Nat.lt_or_ge d.val 16 with h16 | h16
  · obtain ⟨r, hr⟩ : ∃ r : Fin 8, d.val = 8 + r.val := ⟨⟨d.val - 8, by omega⟩, by show d.val = 8 + (d.val - 8); omega⟩
    rw [show d = ⟨8 + r.val, by omega⟩ from Fin.ext hr, rot_mid, hx', hx']
    show _ + y (64 * (n + h.val) + (0 + r.val)) * _ = rotE y _ _ (64 * (n + h.val) + (8 + r.val))
    rw [Nat.zero_add, rotE_mid]
  · obtain ⟨r, hr⟩ : ∃ r : Fin 48, d.val = 16 + r.val := ⟨⟨d.val - 16, by omega⟩, by show d.val = 16 + (d.val - 16); omega⟩
    rw [show d = ⟨16 + r.val, by omega⟩ from Fin.ext hr, rot_high, hx']
    exact (rotE_high y _ _ (n + h.val) r).symm

/-- A slice of the projection's lanes. -/
theorem lanes512 (o : ℕ) (ho : o + 512 ≤ 3072) (hs : S8192x3072.Slices ![0, o] S8192x512) (i : Fin 8192) (q : Fin 512) :
    extractStridedSlice S8192x512 ![0, o] (hDot H W) hs (ix2 i q) = yRow H W i (o + q.val) := by
  refine (extractStridedSlice_apply _ _ _ _ (ix2 i ⟨o + q.val, by omega⟩) fun a => ?_).trans (hDot_apply H W i _)
  match a with
  | ⟨0, _⟩ => exact (Nat.zero_add _).symm
  | ⟨1, _⟩ => rfl

theorem piece_0 (i : Fin 8192) (q : Fin 512) : oP H W N (ix2 i ⟨0 + q.val, by omega⟩) = rotE (yRow H W i) (cosR N i) (sinR N i) (64 * 0 + q.val) := by
  unfold oP
  refine (concatenate_apply_piece (t := S8192x3072) 1 (pieces H W N) _ (ix2 (n0 := 8192) (n1 := 3072) i ⟨0 + q.val, by omega⟩) 0 (show 0 < 3 by decide) S8192x512 _ rfl rfl 0 rfl (ix2 i q) (fun b hb => ?_) (by rfl)).trans (flat_rot N _ 0 i _ (lanes512 H W 0 (by omega) _ i) q)
  match b with
  | ⟨0, _⟩ => rfl
  | ⟨1, _⟩ => exact absurd rfl hb

theorem piece_1 (i : Fin 8192) (q : Fin 512) : oP H W N (ix2 i ⟨512 + q.val, by omega⟩) = rotE (yRow H W i) (cosR N i) (sinR N i) (64 * 8 + q.val) := by
  unfold oP
  refine (concatenate_apply_piece (t := S8192x3072) 1 (pieces H W N) _ (ix2 (n0 := 8192) (n1 := 3072) i ⟨512 + q.val, by omega⟩) 1 (show 1 < 3 by decide) S8192x512 _ rfl rfl 512 rfl (ix2 i q) (fun b hb => ?_) (by rfl)).trans (flat_rot N _ 8 i _ (lanes512 H W 512 (by omega) _ i) q)
  match b with
  | ⟨0, _⟩ => rfl
  | ⟨1, _⟩ => exact absurd rfl hb

theorem piece_2 (i : Fin 8192) (q : Fin 2048) : oP H W N (ix2 i ⟨1024 + q.val, by omega⟩) = yRow H W i (1024 + q.val) := by
  unfold oP
  refine (concatenate_apply_piece (t := S8192x3072) 1 (pieces H W N) _ (ix2 (n0 := 8192) (n1 := 3072) i ⟨1024 + q.val, by omega⟩) 2 (show 2 < 3 by decide) S8192x2048 _ rfl rfl 1024 rfl (ix2 i q) (fun b hb => ?_) (by rfl)).trans ?_
  · match b with
    | ⟨0, _⟩ => rfl
    | ⟨1, _⟩ => exact absurd rfl hb
  · refine (extractStridedSlice_apply _ _ _ _ (ix2 i ⟨1024 + q.val, by omega⟩) fun a => ?_).trans (hDot_apply H W i _)
    match a with
    | ⟨0, _⟩ => exact (Nat.zero_add _).symm
    | ⟨1, _⟩ => rfl

/-- The result, entry by entry. -/
theorem oP_apply (i : Fin 8192) (l : Fin 3072) : oP H W N (ix2 i l) = pRow H W N i l.val := by
  unfold pRow
  rcases Nat.lt_or_ge l.val 1024 with h | h
  · rw [if_pos h]
    rcases Nat.lt_or_ge l.val 512 with h' | h'
    · have e := piece_0 H W N i ⟨l.val, h'⟩
      simpa only [Nat.zero_add, Nat.mul_zero, Fin.eta] using e
    · have e := piece_1 H W N i ⟨l.val - 512, by omega⟩
      simpa only [show 512 + (l.val - 512) = l.val by omega, show 64 * 8 + (l.val - 512) = l.val by omega, Fin.eta] using e
  · rw [if_neg (by omega)]
    have e := piece_2 H W N i ⟨l.val - 1024, by omega⟩
    simpa only [show 1024 + (l.val - 1024) = l.val by omega, Fin.eta] using e

end

end Cert.ReferencePrIdeal.Own
end
-- ==== Proof.PrTab.lean ====
module
public import proofs.«01_k».proof.Proof.Gen.KernelPrIdeal.Value
public import proofs.«01_k».proof.Proof.PrHost
public import Idealize.ShloMosaic.Lib.KernelVsHost
@[expose] public section
set_option maxRecDepth 16384
noncomputable section
namespace Cert.KernelPrIdeal.Own
open Cert.KernelPrIdeal Cert.KernelPrIdeal.Gen Idealize.ShloMosaic Idealize.ShloMosaic.TcCoe Idealize.SL.Sem
open Idealize.ShloMosaic.Tactic Idealize.ShloMosaic.ValueIdx
open Cert.ReferenceDpIdeal.Own (imgOf posOf)
open Cert.ReferencePrIdeal.Own (rotE cosR sinR)
open scoped BigOperators

/-! ## The tables of the rotary embedding -/

/-- The factor of a lane itself. -/
def cT (C : Fin 8 → EReal) (d : ℕ) : EReal := if h : d < 8 then C ⟨d, h⟩ else if h' : d < 16 then C ⟨d - 8, by omega⟩ else 1
/-- The factor of the lane 8 below. -/
def pT (S : Fin 8 → EReal) (d : ℕ) : EReal := if d < 8 then 0 else if h' : d - 8 < 8 then S ⟨d - 8, h'⟩ else 0
/-- The factor of the lane 8 above. -/
def mT (S : Fin 8 → EReal) (d : ℕ) : EReal := if h : d < 8 then -(S ⟨d, h⟩) else 0

/-- The three products together are the rotated lane. -/
theorem three_eq (P : ℕ → EReal) (C S : Fin 8 → EReal) (l : ℕ) (hl : l < 1024) :
    P l * cT C (l % 64) + P ((l + 1016) % 1024) * pT S (l % 64) + P ((l + 8) % 1024) * mT S (l % 64) = rotE P C S l := by
  unfold rotE cT pT mT
  by_cases h : l % 64 < 8
  · rw [dif_pos h, dif_pos h, dif_pos h, if_pos h, mul_zero, add_zero, mul_neg, ← sub_eq_add_neg, Nat.mod_eq_of_lt (show l + 8 < 1024 by omega)]
  · rw [dif_neg h, dif_neg h, dif_neg h, if_neg h, mul_zero, add_zero]
    by_cases h' : l % 64 < 16
    · rw [dif_pos h', dif_pos h', dif_pos (show l % 64 - 8 < 8 by omega), show (l + 1016) % 1024 = l - 8 by omega]
    · rw [dif_neg h', dif_neg h', dif_neg (show ¬ l % 64 - 8 < 8 by omega), mul_zero, add_zero, mul_one]

section
variable (N : IVec S4x2048 32)

/-- The frequencies. -/
def kFreq : FVec Ideal S8 .f32 := Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))
/-- The angles, row by row. -/
def kAng : FVec Ideal S8192x8 .f32 := mulf (broadcastInDim S8192x8 ![0, 1] bcast_S8192x1_S8192x8_0_1 (shapeCast S8192x1 (sitofp .f32 N : FVec Ideal S4x2048 .f32) shapeCasts_S4x2048_S8192x1)) (broadcastInDim S8192x8 ![0, 1] bcast_S1x8_S8192x8_0_1 (broadcastInDim S1x8 ![1] bcast_S8_S1x8_1 kFreq))
/-- The pieces of the three tables. -/
abbrev cP : List ((s : Shape) × (s.Idx → Ideal .f32)) := [⟨S8192x8, Host.cos (kAng N)⟩, ⟨S8192x8, Host.cos (kAng N)⟩, ⟨S8192x48, broadcastInDim S8192x48 ![] bcast_S_S8192x48 (constant S_ .f32 0x3F800000#32)⟩]
abbrev pP : List ((s : Shape) × (s.Idx → Ideal .f32)) := [⟨S8192x8, broadcastInDim S8192x8 ![] bcast_S_S8192x8 (constant S_ .f32 0x00000000#32)⟩, ⟨S8192x8, Host.sin (kAng N)⟩, ⟨S8192x48, broadcastInDim S8192x48 ![] bcast_S_S8192x48 (constant S_ .f32 0x00000000#32)⟩]
abbrev mP : List ((s : Shape) × (s.Idx → Ideal .f32)) := [⟨S8192x8, Host.negf (Host.sin (kAng N))⟩, ⟨S8192x56, broadcastInDim S8192x56 ![] bcast_S_S8192x56 (constant S_ .f32 0x00000000#32)⟩]
/-- The table of the factors of a lane itself. -/
def kC : FVec Ideal S8192x64 .f32 := concatenate S8192x64 1 (cP N) concatenates_S8192x8_S8192x8_S8192x48_S8192x64_d1
/-- The table of the factors of the lane 8 below. -/
def kP : FVec Ideal S8192x64 .f32 := concatenate S8192x64 1 (pP N) concatenates_S8192x8_S8192x8_S8192x48_S8192x64_d1
/-- The table of the factors of the lane 8 above. -/
def kM : FVec Ideal S8192x64 .f32 := concatenate S8192x64 1 (mP N) concatenates_S8192x8_S8192x56_S8192x64_d1
/-- A table for one head, written twice side by side. -/
def kTile (x : FVec Ideal S8192x64 .f32) : FVec Ideal S8192x128 .f32 := shapeCast _ (broadcastInDim S1x8192x2x64 ![0, 1, 2, 3] bcast_S1x8192x1x64_S1x8192x2x64_0_1_2_3 (shapeCast S1x8192x1x64 x shapeCasts_S8192x64_S1x8192x1x64)) shapeCasts_S1x8192x2x64_S8192x128

theorem kFreq_eq : kFreq = Cert.ReferencePrIdeal.Own.hFreq := rfl

theorem kAng_apply (i : Fin 8192) (r : Fin 8) : kAng N (ix2 i r) = Cert.ReferencePrIdeal.Own.ang N i r := by
  refine congrArg₂ (· * ·) ?_ ?_
  · refine (broadcastInDim_apply _ _ _ _ (ix2 i 0) fun a => ?_).trans ?_
    · match a with
      | ⟨0, _⟩ => rfl
      | ⟨1, _⟩ => rfl
    · refine shapeCast_apply _ _ _ (ix2 (imgOf i) (posOf i)) ?_
      rw [Shape.rowMajor_val_two, Shape.rowMajor_val_two]
      show i.val / 2048 * 2048 + i.val % 2048 = i.val * 1 + 0
      omega
  · refine (broadcastInDim_apply _ _ _ _ (ix2 0 r) fun a => ?_).trans ?_
    · match a with
      | ⟨0, _⟩ => rfl
      | ⟨1, _⟩ => rfl
    · refine (broadcastInDim_apply _ _ _ _ (ix1 r) fun a => ?_).trans (congrFun kFreq_eq _)
      match a with
      | ⟨0, _⟩ => rfl

theorem kTile_apply (x : FVec Ideal S8192x64 .f32) (i : Fin 8192) (j : Fin 128) : kTile x (ix2 i j) = x (ix2 i ⟨j.val % 64, by omega⟩) := by
  refine (shapeCast_apply _ _ _ (ix4 0 i ⟨j.val / 64, by omega⟩ ⟨j.val % 64, by omega⟩) ?_).trans ?_
  · rw [Shape.rowMajor_val_four, Shape.rowMajor_val_two]
    show ((0 * 8192 + i.val) * 2 + j.val / 64) * 64 + j.val % 64 = i.val * 128 + j.val
    omega
  refine (broadcastInDim_apply _ _ _ _ (ix4 0 i 0 ⟨j.val % 64, by omega⟩) fun a => ?_).trans ?_
  · match a with
    | ⟨0, _⟩ => rfl
    | ⟨1, _⟩ => rfl
    | ⟨2, _⟩ => rfl
    | ⟨3, _⟩ => rfl
  · refine shapeCast_apply _ _ _ (ix2 i ⟨j.val % 64, by omega⟩) ?_
    rw [Shape.rowMajor_val_four, Shape.rowMajor_val_two]
    show i.val * 64 + j.val % 64 = ((0 * 8192 + i.val) * 1 + 0) * 64 + j.val % 64
    omega

/-- Three pieces side by side. -/
abbrev trip (x y : FVec Ideal S8192x8 .f32) (z : FVec Ideal S8192x48 .f32) : List ((s : Shape) × (s.Idx → Ideal .f32)) := [⟨S8192x8, x⟩, ⟨S8192x8, y⟩, ⟨S8192x48, z⟩]

/-- A table of three pieces, read at a lane. -/
theorem tab3 (x y : FVec Ideal S8192x8 .f32) (z : FVec Ideal S8192x48 .f32) (h) (i : Fin 8192) (d : Fin 64) :
    (concatenate S8192x64 1 (trip x y z) h : FVec Ideal S8192x64 .f32) (ix2 i d)
      = if h : d.val < 8 then x (ix2 i ⟨d.val, h⟩) else if h' : d.val - 8 < 8 then y (ix2 i ⟨d.val - 8, h'⟩) else z (ix2 i ⟨d.val - 16, by omega⟩) := by
  by_cases h8 : d.val < 8
  · rw [dif_pos h8]
    refine concatenate_apply_piece (t := S8192x64) 1 (trip x y z) _ (ix2 (n0 := 8192) (n1 := 64) i d) 0 (show 0 < 3 by decide) S8192x8 _ rfl rfl 0 rfl (ix2 i ⟨d.val, h8⟩) (fun b hb => ?_) (by show 0 + d.val = d.val; omega)
    match b with
    | ⟨0, _⟩ => rfl
    | ⟨1, _⟩ => exact absurd rfl hb
  rw [dif_neg h8]
  by_cases h16 : d.val - 8 < 8
  · rw [dif_pos h16]
    refine concatenate_apply_piece (t := S8192x64) 1 (trip x y z) _ (ix2 (n0 := 8192) (n1 := 64) i d) 1 (show 1 < 3 by decide) S8192x8 _ rfl rfl 8 rfl (ix2 i ⟨d.val - 8, h16⟩) (fun b hb => ?_) (by show 8 + (d.val - 8) = d.val; omega)
    match b with
    | ⟨0, _⟩ => rfl
    | ⟨1, _⟩ => exact absurd rfl hb
  · rw [dif_neg h16]
    refine concatenate_apply_piece (t := S8192x64) 1 (trip x y z) _ (ix2 (n0 := 8192) (n1 := 64) i d) 2 (show 2 < 3 by decide) S8192x48 _ rfl rfl 16 rfl (ix2 i ⟨d.val - 16, by omega⟩) (fun b hb => ?_) (by show 16 + (d.val - 16) = d.val; omega)
    match b with
    | ⟨0, _⟩ => rfl
    | ⟨1, _⟩ => exact absurd rfl hb

theorem kC_apply (i : Fin 8192) (d : Fin 64) : kC N (ix2 i d) = cT (cosR N i) d.val := by
  unfold kC cT
  rw [tab3]
  by_cases h8 : d.val < 8
  · rw [dif_pos h8, dif_pos h8]
    exact congrArg Ideal.cos (kAng_apply N i _)
  rw [dif_neg h8, dif_neg h8]
  by_cases h16 : d.val < 16
  · rw [dif_pos h16, dif_pos (show d.val - 8 < 8 by omega)]
    exact congrArg Ideal.cos (kAng_apply N i _)
  · rw [dif_neg h16, dif_neg (show ¬ d.val - 8 < 8 by omega)]
    exact Ideal.ofBits_one_f32

theorem kP_apply (i : Fin 8192) (d : Fin 64) : kP N (ix2 i d) = pT (sinR N i) d.val := by
  unfold kP pT
  rw [tab3]
  by_cases h8 : d.val < 8
  · rw [dif_pos h8, if_pos h8]
    exact Ideal.ofBits_zero_f32
  rw [dif_neg h8, if_neg h8]
  by_cases h16 : d.val - 8 < 8
  · rw [dif_pos h16, dif_pos h16]
    exact congrArg Ideal.sin (kAng_apply N i _)
  · rw [dif_neg h16, dif_neg h16]
    exact Ideal.ofBits_zero_f32

theorem kM_apply (i : Fin 8192) (d : Fin 64) : kM N (ix2 i d) = mT (sinR N i) d.val := by
  unfold kM mT
  by_cases h8 : d.val < 8
  · rw [dif_pos h8]
    refine (concatenate_apply_piece (t := S8192x64) 1 (mP N) _ (ix2 (n0 := 8192) (n1 := 64) i d) 0 (show 0 < 2 by decide) S8192x8 _ rfl rfl 0 rfl (ix2 i ⟨d.val, h8⟩) (fun b hb => ?_) (by show 0 + d.val = d.val; omega)).trans ?_
    · match b with
      | ⟨0, _⟩ => rfl
      | ⟨1, _⟩ => exact absurd rfl hb
    · exact congrArg (fun z : EReal => -(Ideal.sin z)) (kAng_apply N i _)
  · rw [dif_neg h8]
    refine (concatenate_apply_piece (t := S8192x64) 1 (mP N) _ (ix2 (n0 := 8192) (n1 := 64) i d) 1 (show 1 < 2 by decide) S8192x56 _ rfl rfl 8 rfl (ix2 i ⟨d.val - 8, by omega⟩) (fun b hb => ?_) (by show 8 + (d.val - 8) = d.val; omega)).trans ?_
    · match b with
      | ⟨0, _⟩ => rfl
      | ⟨1, _⟩ => exact absurd rfl hb
    · exact Ideal.ofBits_zero_f32

end

/-! ## The arrays the kernel's windows read -/

variable (m : (ℓ : Loc nD τ sig) → Buf (Elt Ideal) ℓ)

theorem V_v0 (c : Dev nD) : V m c main_v0 = transpose S3072x1024 [1, 0] (m ((c : Thread nD τ).loc main_arg1)) transposes_S1024x3072_S3072x1024_1_0 := by
  simp only [V, hostOps0]; after_results

theorem V_v29 (c : Dev nD) : V m c main_v29 = kTile (kC (m ((c : Thread nD τ).loc main_arg2))) := by
  simp only [V, hostOps0]; after_results <;> rfl

theorem V_v32 (c : Dev nD) : V m c main_v32 = kTile (kP (m ((c : Thread nD τ).loc main_arg2))) := by
  simp only [V, hostOps0]; after_results <;> rfl

theorem V_v35 (c : Dev nD) : V m c main_v35 = kTile (kM (m ((c : Thread nD τ).loc main_arg2))) := by
  simp only [V, hostOps0]; after_results <;> rfl

end Cert.KernelPrIdeal.Own
end
-- ==== Proof.Pr.lean ====
module
public import proofs.«01_k».proof.Proof.PrTab
public import proofs.«01_k».proof.Defs
public import Idealize.ShloMosaic.Lib.MatmulPlain
public import Idealize.ShloMosaic.Lib.Pipeline.ValueKit.Geometry
public import Idealize.ShloMosaic.Lib.Pipeline.ValueKit.Acc
public import Idealize.ShloMosaic.Lib.KernelVsHost
public import Idealize.ShloMosaic.Lib.ValueLayout
@[expose] public section
set_option maxRecDepth 16384
noncomputable section
namespace Cert.KernelPrIdeal.Own
open Cert.KernelPrIdeal Cert.KernelPrIdeal.Gen Idealize.ShloMosaic Idealize.ShloMosaic.TcCoe Idealize.SL.Sem
open Idealize.ShloMosaic.Tactic Idealize.ShloMosaic.ValueIdx
open Cert.ReferenceDpIdeal.Own (imgOf posOf)
open Cert.ReferencePrIdeal.Own (rotE cosR sinR yRow pRow)
open scoped BigOperators

/-! ## What the body computes from one block of 512 rows -/

section
variable (v0 : FVec Ideal S512x1024 .bf16) (v1 : FVec Ideal S3072x1024 .bf16) (v4 v7 v10 : FVec Ideal S512x128 .f32)

/-- Lane `l` of row `p` of the projection, from the blocks. -/
def bP (p : Fin 512) (l : ℕ) : EReal := ∑ k : Fin 1024, v0 (ix2 p k) * v1 (ix2 ⟨l % 3072, by omega⟩ k)
/-- Lane `l` of row `p` of the output, from the blocks. -/
def bO (p : Fin 512) (l : ℕ) : EReal :=
  if l < 1024 then bP v0 v1 p l * v4 (ix2 p ⟨l % 128, by omega⟩) + bP v0 v1 p ((l + 1016) % 1024) * v7 (ix2 p ⟨l % 128, by omega⟩) + bP v0 v1 p ((l + 8) % 1024) * v10 (ix2 p ⟨l % 128, by omega⟩)
  else bP v0 v1 p l

theorem pay1_apply (p : Fin 512) (l : Fin 3072) : k0_pay1 (F := Ideal) v0 v1 (ix2 p l) = bP v0 v1 p l.val := by
  unfold k0_pay1
  simp only [shapeCast_self]
  rw [show dot_S512x1024_S3072x1024_S512x3072_1_1_0_0_n_n = DotDims.transposedRhs 512 1024 3072 from rfl]
  refine (Ideal.matmul_transposedRhs_apply none v0 v1 _ p l).trans ?_
  have e : ∑ k : Fin 1024, v0 (ix2 p k) * v1 (ix2 l k) = bP v0 v1 p l.val := Finset.sum_congr rfl fun k _ =>
    congrArg (fun z => v0 (ix2 p k) * v1 (ix2 z k)) (Fin.ext (Nat.mod_eq_of_lt l.isLt).symm)
  rw [← e]
  show (constant S512x3072 .f32 0x00000000#32 (ix2 p l) : Ideal .f32) + _ = _
  simp [constant, Ideal.ofBits_def]

/-- The rotated lanes' projection. -/
abbrev low : FVec Ideal S512x1024 .f32 := extractStridedSlice S512x1024 ![0, 0] (k0_pay1 (F := Ideal) v0 v1) slices_S512x3072_o0_0_S512x1024

theorem low_apply (p : Fin 512) (l : Fin 1024) : low v0 v1 (ix2 p l) = bP v0 v1 p l.val := by
  refine (extractStridedSlice_apply _ _ _ _ (ix2 p ⟨l.val, by omega⟩) fun a => ?_).trans (pay1_apply v0 v1 p ⟨l.val, by omega⟩)
  match a with
  | ⟨0, _⟩ => exact (Nat.zero_add _).symm
  | ⟨1, _⟩ => exact (Nat.zero_add _).symm

theorem roll_apply (x : FVec Ideal S512x1024 .f32) (n : BitVec 32) (p : Fin 512) (l : Fin 1024) :
    dynamicRotate 1 n none x rotates_S512x1024_d1 (ix2 p l) = x (ix2 p ⟨(l.val + 1024 - n.toNat % 1024) % 1024, by omega⟩) := by
  refine dynamicRotate_apply 1 n x _ _ _ fun b => ?_
  match b with
  | ⟨0, _⟩ => rfl
  | ⟨1, _⟩ => rfl

/-- Eight copies of a table side by side. -/
theorem eight_apply (x : FVec Ideal S512x128 .f32) (p : Fin 512) (l : Fin 1024) :
    (concatenate S512x1024 1 [⟨S512x128, x⟩, ⟨S512x128, x⟩, ⟨S512x128, x⟩, ⟨S512x128, x⟩, ⟨S512x128, x⟩, ⟨S512x128, x⟩, ⟨S512x128, x⟩, ⟨S512x128, x⟩] concatenates_S512x128_S512x128_S512x128_S512x128_S512x128_S512x128_S512x128_S512x128_S512x1024_d1 : FVec Ideal S512x1024 .f32) (ix2 p l)
      = x (ix2 p ⟨l.val % 128, by omega⟩) := by
  refine concatenate_replicate_apply (t := S512x1024) (s₁ := S512x128) 1 8 x concatenates_S512x128_S512x128_S512x128_S512x128_S512x128_S512x128_S512x128_S512x128_S512x1024_d1 rfl (ix2 p l) (ix2 p ⟨l.val % 128, by omega⟩) rfl fun b hb => ?_
  match b with
  | ⟨0, _⟩ => rfl
  | ⟨1, _⟩ => exact absurd rfl hb

theorem pay2_apply (p : Fin 512) (l : Fin 1024) : k0_pay2 (F := Ideal) v0 v1 v4 v7 v10 (ix2 p l) = bO v0 v1 v4 v7 v10 p l.val := by
  unfold bO
  rw [if_pos l.isLt]
  unfold k0_pay2
  simp only [shapeCast_self]
  refine congrArg₂ (fun a b : EReal => a + b) (congrArg₂ (fun a b : EReal => a + b) ?_ ?_) ?_
  · exact congrArg₂ (fun a b : EReal => a * b) (low_apply v0 v1 p l) ((eight_apply _ p l).trans (congrFun (shapeCast_self _ _) _))
  · refine congrArg₂ (fun a b : EReal => a * b) ((roll_apply _ 8#32 p l).trans ((low_apply v0 v1 p _).trans (congrArg (bP v0 v1 p) ?_))) ((eight_apply _ p l).trans (congrFun (shapeCast_self _ _) _))
    show (l.val + 1024 - 8) % 1024 = (l.val + 1016) % 1024
    omega
  · refine congrArg₂ (fun a b : EReal => a * b) ((roll_apply _ 1016#32 p l).trans ((low_apply v0 v1 p _).trans (congrArg (bP v0 v1 p) ?_))) ((eight_apply _ p l).trans (congrFun (shapeCast_self _ _) _))
    show (l.val + 1024 - 1016) % 1024 = (l.val + 8) % 1024
    omega

theorem pay3_apply (p : Fin 512) (l : Fin 2048) : k0_pay3 (F := Ideal) v0 v1 (ix2 p l) = bO v0 v1 v4 v7 v10 p (1024 + l.val) := by
  unfold bO
  rw [if_neg (by omega)]
  refine (extractStridedSlice_apply (s := S512x3072) (t := S512x2048) _ (k0_pay1 (F := Ideal) v0 v1) slices_S512x3072_o0_1024_S512x2048 (ix2 p l) (ix2 p ⟨1024 + l.val, by omega⟩) fun a => ?_).trans (pay1_apply v0 v1 p ⟨1024 + l.val, by omega⟩)
  match a with
  | ⟨0, _⟩ => exact (Nat.zero_add _).symm
  | ⟨1, _⟩ => rfl
end

/-- A load of a whole block is the block. -/
theorem ld0 {R C : ℕ} {e : EltTy} (x : Vec Ideal ⟨2, ![R, C]⟩ e) (h : ∀ a, ![0, 0] a + ![R, C] a ≤ (⟨2, ![R, C]⟩ : Shape).size a) : View.ld x (Rect.unit (s := ⟨2, ![R, C]⟩) ![0, 0] ![R, C] h) = x := by
  refine View.ld_unit_zero (S := ⟨2, ![R, C]⟩) (funext fun a => ?_) h x
  match a with
  | ⟨0, _⟩ => rfl
  | ⟨1, _⟩ => rfl

/-- What one grid point leaves in the output. -/
theorem out5 (c : Dev nD) (i : grid0.Coords) (arg1 : Memref sig .tc .vmem S512x1024 .bf16) (harg1 : arg1.IsWhole) (arg2 : Memref sig .tc .vmem S3072x1024 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x3072 .bf16) (harg6 : arg6.IsWhole)
    (x0 : Vec Ideal S512x1024 .bf16) (x1 : Vec Ideal S3072x1024 .bf16) (x2 x3 x4 : Vec Ideal S512x128 .f32) : out0_A_5 c i arg1 harg1 arg2 harg2 arg3 harg3 arg4 harg4 arg5 harg5 arg6 harg6 x0 x1 x2 x3 x4 = fun y => bO x0 x1 x2 x3 x4 (y 0) (y 1).val := by
  funext y
  unfold out0_A_5
  rw [View.read_writes_eq_canon _ _ _ (cover0_A_5 c i arg1 harg1 arg2 harg2 arg3 harg3 arg4 harg4 arg5 harg5 arg6 harg6 x0 x1 x2 x3 x4)]
  refine View.canon_apply_of_pieces (fun y : S512x3072.Idx => bO x0 x1 x2 x3 x4 (y 0) (y 1).val) _ ?_ y (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread, List.forall_mem_cons, List.not_mem_nil, false_imp_iff, implies_true, and_true]
  refine ⟨fun z => ?_, fun z => ?_⟩
  · obtain ⟨p, l, rfl⟩ : ∃ (p : Fin 512) (l : Fin 2048), z = ix2 p l := ⟨z 0, z 1, eq_ix2 (n0 := 512) (n1 := 2048) z⟩
    refine (pay3_apply _ _ x2 x3 x4 p l).trans ?_
    rw [ld0 (R := 512) (C := 1024) x0, ld0 (R := 3072) (C := 1024) x1]
    refine congrArg₂ (bO x0 x1 x2 x3 x4) (Fin.ext ?_) ?_
    · show p.val = 0 + 1 * p.val
      omega
    · show 1024 + l.val = 1024 + 1 * l.val
      omega
  · obtain ⟨p, l, rfl⟩ : ∃ (p : Fin 512) (l : Fin 1024), z = ix2 p l := ⟨z 0, z 1, eq_ix2 (n0 := 512) (n1 := 1024) z⟩
    refine (pay2_apply _ _ _ _ _ p l).trans ?_
    rw [ld0 (R := 512) (C := 1024) x0, ld0 (R := 3072) (C := 1024) x1, ld0 (R := 512) (C := 128) x2, ld0 (R := 512) (C := 128) x3, ld0 (R := 512) (C := 128) x4]
    refine congrArg₂ (bO x0 x1 x2 x3 x4) (Fin.ext ?_) ?_
    · show p.val = 0 + 1 * p.val
      omega
    · show l.val = 0 + 1 * l.val
      omega

variable (m : (ℓ : Loc nD τ sig) → Buf (Elt Ideal) ℓ)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)

theorem at5_lane (t : Fin cfg0.N) (y : S512x3072.Idx) : (((cfg0.win 5).blk t).view.emb y 1).val = (y 1).val := by
  blk_simp
  simp [index5]

/-- The blocks' projection is the whole arrays' projection. -/
theorem blkP (c : Dev nD) (t : Fin cfg0.N) (y : S512x3072.Idx) (l : ℕ) :
    bP (iblk m c 0 t) (iblk m c 1 t) (y 0) l = yRow (m ((c : Thread nD τ).loc main_arg0)) (m ((c : Thread nD τ).loc main_arg1)) (((cfg0.win 5).blk t).view.emb y 0) l := by
  unfold bP yRow
  refine Finset.sum_congr rfl fun q _ => ?_
  refine congrArg₂ (fun a b : EReal => a * b) ?_ ?_
  · rw [← V_main_arg0 m c]
    blk_simp [iblk]
    refine congrArg (V m c main_arg0) ?_
    blk_ext [index0, index5, ix2]
  · refine Eq.trans (b := V m c main_v0 (ix2 ⟨l % 3072, by omega⟩ q)) ?_ ?_
    · blk_simp [iblk]
      refine congrArg (V m c main_v0) ?_
      blk_ext [index1, index5, ix2]
    · rw [V_v0]
      exact transpose_ix2_apply _ _ _ _

theorem blk2 (c : Dev nD) (t : Fin cfg0.N) (y : S512x3072.Idx) (l : ℕ) :
    iblk m c 2 t (ix2 (n0 := 512) (n1 := 128) (y 0) ⟨l % 128, by omega⟩) = cT (cosR (m ((c : Thread nD τ).loc main_arg2)) (((cfg0.win 5).blk t).view.emb y 0)) (l % 64) := by
  refine Eq.trans (b := V m c main_v29 (ix2 (n0 := 8192) (n1 := 128) (((cfg0.win 5).blk t).view.emb y 0) ⟨l % 128, by omega⟩)) ?_ ?_
  · blk_simp [iblk]
    refine congrArg (V m c main_v29) ?_
    blk_ext [index2, index5, ix2]
  · rw [V_v29]
    refine (kTile_apply _ _ _).trans ((kC_apply _ _ _).trans (congrArg (cT _) ?_))
    show l % 128 % 64 = l % 64
    omega

theorem blk3 (c : Dev nD) (t : Fin cfg0.N) (y : S512x3072.Idx) (l : ℕ) :
    iblk m c 3 t (ix2 (n0 := 512) (n1 := 128) (y 0) ⟨l % 128, by omega⟩) = pT (sinR (m ((c : Thread nD τ).loc main_arg2)) (((cfg0.win 5).blk t).view.emb y 0)) (l % 64) := by
  refine Eq.trans (b := V m c main_v32 (ix2 (n0 := 8192) (n1 := 128) (((cfg0.win 5).blk t).view.emb y 0) ⟨l % 128, by omega⟩)) ?_ ?_
  · blk_simp [iblk]
    refine congrArg (V m c main_v32) ?_
    blk_ext [index3, index5, ix2]
  · rw [V_v32]
    refine (kTile_apply _ _ _).trans ((kP_apply _ _ _).trans (congrArg (pT _) ?_))
    show l % 128 % 64 = l % 64
    omega

theorem blk4 (c : Dev nD) (t : Fin cfg0.N) (y : S512x3072.Idx) (l : ℕ) :
    iblk m c 4 t (ix2 (n0 := 512) (n1 := 128) (y 0) ⟨l % 128, by omega⟩) = mT (sinR (m ((c : Thread nD τ).loc main_arg2)) (((cfg0.win 5).blk t).view.emb y 0)) (l % 64) := by
  refine Eq.trans (b := V m c main_v35 (ix2 (n0 := 8192) (n1 := 128) (((cfg0.win 5).blk t).view.emb y 0) ⟨l % 128, by omega⟩)) ?_ ?_
  · blk_simp [iblk]
    refine congrArg (V m c main_v35) ?_
    blk_ext [index4, index5, ix2]
  · rw [V_v35]
    refine (kTile_apply _ _ _).trans ((kM_apply _ _ _).trans (congrArg (mT _) ?_))
    show l % 128 % 64 = l % 64
    omega

/-- A block's output is the result's block. -/
theorem blkO (c : Dev nD) (t : Fin cfg0.N) (y : S512x3072.Idx) :
    bO (iblk m c 0 t) (iblk m c 1 t) (iblk m c 2 t) (iblk m c 3 t) (iblk m c 4 t) (y 0) (y 1).val
      = pRow (m ((c : Thread nD τ).loc main_arg0)) (m ((c : Thread nD τ).loc main_arg1)) (m ((c : Thread nD τ).loc main_arg2)) (((cfg0.win 5).blk t).view.emb y 0) (((cfg0.win 5).blk t).view.emb y 1).val := by
  rw [at5_lane]
  unfold bO pRow
  by_cases hl : (y 1).val < 1024
  · rw [if_pos hl, if_pos hl]
    refine Eq.trans ?_ (three_eq _ _ _ _ hl)
    exact congrArg₂ (fun a b : EReal => a + b) (congrArg₂ (fun a b : EReal => a + b)
      (congrArg₂ (fun a b : EReal => a * b) (blkP m c t y _) (blk2 m c t y _))
      (congrArg₂ (fun a b : EReal => a * b) (blkP m c t y _) (blk3 m c t y _)))
      (congrArg₂ (fun a b : EReal => a * b) (blkP m c t y _) (blk4 m c t y _))
  · rw [if_neg hl, if_neg hl]
    exact blkP m c t y _

/-- The rotated projections of the whole arrays. -/
def projected (c : Dev nD) : S8192x3072.Idx → EReal := fun i => pRow (m ((c : Thread nD τ).loc main_arg0)) (m ((c : Thread nD τ).loc main_arg1)) (m ((c : Thread nD τ).loc main_arg2)) (i 0) (i 1).val

/-- The output array after the run. -/
theorem arr5 (c : Dev nD) : (dats m 0 c).arrAt 5 cfg0.N = projected m c := by
  refine (dats m 0 c).arrAt_eq_of_covers 5 _ (by decide +kernel) fun t hf y => ?_
  blk_simp
  rw [after0_5]
  simp only [outsAt0]
  rw [out5]
  exact blkO m c t y

/-- The kernel call and the reference compute the same projections over the reals. -/
theorem algebraic_pr : Cert.algebraic_KernelPrIdeal_ReferencePrIdeal (hKernelPrIdeal := Cert.KernelPrIdeal.Gen.facts) (hReferencePrIdeal := Cert.ReferencePrIdeal.Gen.facts) := by
  intro m g m' g' _ harg
  refine ⟨fun c => (dats m 0 c).arrAt 5 cfg0.N, Value.run_blocks m g, ?_⟩
  refine (θ_run Cert.ReferencePrIdeal.defs _ _).mono (fun r h c => ?_) (Cert.ReferencePrIdeal.Value.run (F := Ideal) m' g')
  obtain ⟨h79, h0, h1, h2⟩ := h c
  obtain ⟨e0, e1, e2⟩ := harg c
  refine ⟨h79.trans ?_, h0, h1, h2⟩
  refine Eq.trans ?_ (arr5 m c).symm
  unfold Cert.ReferencePrIdeal.Value.res_main_v79
  rw [e0, e1, e2]
  funext i
  obtain ⟨p, l, rfl⟩ : ∃ (p : Fin 8192) (l : Fin 3072), i = ix2 p l := ⟨i 0, i 1, eq_ix2 (n0 := 8192) (n1 := 3072) i⟩
  exact Cert.ReferencePrIdeal.Own.oP_apply _ _ _ p l

end Cert.KernelPrIdeal.Own
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelUp
public import proofs.«01_k».proof.Proof.Gen.KernelUpIdeal
public import proofs.«01_k».proof.Proof.Gen.ReferenceUpIdeal
public import proofs.«01_k».proof.Proof.Gen.KernelDown
public import proofs.«01_k».proof.Proof.Gen.KernelDownIdeal
public import proofs.«01_k».proof.Proof.Gen.ReferenceDownIdeal
public import proofs.«01_k».proof.Proof.Gen.KernelDwd
public import proofs.«01_k».proof.Proof.Gen.KernelDwdIdeal
public import proofs.«01_k».proof.Proof.Gen.ReferenceDwdIdeal
public import proofs.«01_k».proof.Proof.Gen.KernelDw
public import proofs.«01_k».proof.Proof.Gen.KernelDwIdeal
public import proofs.«01_k».proof.Proof.Gen.ReferenceDwIdeal
public import proofs.«01_k».proof.Proof.Gen.Pre_finite_down
public import proofs.«01_k».proof.Proof.Gen.Kernel.Frame
public import proofs.«01_k».proof.Proof.Frame
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.KernelDown.Frame
public import proofs.«01_k».proof.Proof.Gen.KernelDownIdeal.Frame
public import proofs.«01_k».proof.Proof.Gen.KernelDownIdeal.Value
public import proofs.«01_k».proof.Proof.Gen.KernelDwd.Frame
public import proofs.«01_k».proof.Proof.Gen.KernelDwdIdeal.Frame
public import proofs.«01_k».proof.Proof.Gen.KernelDwdIdeal.Value
public import proofs.«01_k».proof.Proof.Gen.KernelDw.Frame
public import proofs.«01_k».proof.Proof.Gen.KernelDwIdeal.Frame
public import proofs.«01_k».proof.Proof.Gen.KernelDwIdeal.Value
public import proofs.«01_k».proof.Proof.Gen.ReferenceIdeal.Run
public import proofs.«01_k».proof.Proof.Gen.ReferenceUpIdeal.Run
public import proofs.«01_k».proof.Proof.Gen.ReferenceDownIdeal.Run
public import proofs.«01_k».proof.Proof.Gen.ReferenceDwdIdeal.Run
public import proofs.«01_k».proof.Proof.Gen.ReferenceDwIdeal.Run
public import proofs.«01_k».proof.Proof.Gen.KernelDwo
public import proofs.«01_k».proof.Proof.Gen.KernelDwoIdeal
public import proofs.«01_k».proof.Proof.Gen.ReferenceDwoIdeal
public import proofs.«01_k».proof.Proof.Gen.KernelDwo.Frame
public import proofs.«01_k».proof.Proof.Gen.KernelDwoIdeal.Frame
public import proofs.«01_k».proof.Proof.Gen.KernelDwoIdeal.Value
public import proofs.«01_k».proof.Proof.Gen.ReferenceDwoIdeal.Run
public import proofs.«01_k».proof.Proof.Gen.KernelDwin
public import proofs.«01_k».proof.Proof.Gen.KernelDwinIdeal
public import proofs.«01_k».proof.Proof.Gen.ReferenceDwinIdeal
public import proofs.«01_k».proof.Proof.Gen.KernelDwin.Frame
public import proofs.«01_k».proof.Proof.Gen.KernelDwinIdeal.Frame
public import proofs.«01_k».proof.Proof.Gen.KernelDwinIdeal.Value
public import proofs.«01_k».proof.Proof.Gen.ReferenceDwinIdeal.Run
public import proofs.«01_k».proof.Proof.Gen.KernelDh
public import proofs.«01_k».proof.Proof.Gen.KernelDhIdeal
public import proofs.«01_k».proof.Proof.Gen.ReferenceDhIdeal
public import proofs.«01_k».proof.Proof.Gen.KernelDh.Frame
public import proofs.«01_k».proof.Proof.Gen.KernelDhIdeal.Frame
public import proofs.«01_k».proof.Proof.Gen.KernelDhIdeal.Value
public import proofs.«01_k».proof.Proof.Gen.ReferenceDhIdeal.Run
public import proofs.«01_k».proof.Proof.Gen.Pre_finite_dh
public import proofs.«01_k».proof.Proof.Gen.KernelPn
public import proofs.«01_k».proof.Proof.Gen.KernelPnIdeal
public import proofs.«01_k».proof.Proof.Gen.ReferencePnIdeal
public import proofs.«01_k».proof.Proof.Gen.KernelPn.Frame
public import proofs.«01_k».proof.Proof.Gen.KernelPnIdeal.Frame
public import proofs.«01_k».proof.Proof.Gen.KernelPnIdeal.Value
public import proofs.«01_k».proof.Proof.Gen.ReferencePnIdeal.Run
public import proofs.«01_k».proof.Proof.Gen.KernelDn
public import proofs.«01_k».proof.Proof.Gen.KernelDnIdeal
public import proofs.«01_k».proof.Proof.Gen.ReferenceDnIdeal
public import proofs.«01_k».proof.Proof.Gen.KernelDn.Frame
public import proofs.«01_k».proof.Proof.Gen.KernelDnIdeal.Frame
public import proofs.«01_k».proof.Proof.Gen.KernelDnIdeal.Value
public import proofs.«01_k».proof.Proof.Gen.ReferenceDnIdeal.Run
public import proofs.«01_k».proof.Proof.Gen.KernelDp
public import proofs.«01_k».proof.Proof.Gen.KernelDpIdeal
public import proofs.«01_k».proof.Proof.Gen.ReferenceDpIdeal
public import proofs.«01_k».proof.Proof.Gen.KernelDp.Frame
public import proofs.«01_k».proof.Proof.Gen.KernelDpIdeal.Frame
public import proofs.«01_k».proof.Proof.Gen.KernelDpIdeal.Value
public import proofs.«01_k».proof.Proof.Gen.ReferenceDpIdeal.Run
public import proofs.«01_k».proof.Proof.Gen.Pre_finite_pn
public import proofs.«01_k».proof.Proof.Gen.KernelPm
public import proofs.«01_k».proof.Proof.Gen.KernelMo
public import proofs.«01_k».proof.Proof.Gen.KernelPr
public import proofs.«01_k».proof.Proof.Gen.KernelPmIdeal
public import proofs.«01_k».proof.Proof.Gen.KernelMoIdeal
public import proofs.«01_k».proof.Proof.Gen.KernelPrIdeal
public import proofs.«01_k».proof.Proof.Gen.ReferencePmIdeal
public import proofs.«01_k».proof.Proof.Gen.ReferenceMoIdeal
public import proofs.«01_k».proof.Proof.Gen.ReferencePrIdeal
public import proofs.«01_k».proof.Proof.Gen.KernelPm.Frame
public import proofs.«01_k».proof.Proof.Gen.KernelMo.Frame
public import proofs.«01_k».proof.Proof.Gen.KernelPr.Frame
public import proofs.«01_k».proof.Proof.Gen.KernelPmIdeal.Frame
public import proofs.«01_k».proof.Proof.Gen.KernelMoIdeal.Frame
public import proofs.«01_k».proof.Proof.Gen.KernelPrIdeal.Frame
public import proofs.«01_k».proof.Proof.Gen.KernelPmIdeal.Value
public import proofs.«01_k».proof.Proof.Gen.KernelMoIdeal.Value
public import proofs.«01_k».proof.Proof.Gen.KernelPrIdeal.Value
public import proofs.«01_k».proof.Proof.Gen.ReferencePmIdeal.Run
public import proofs.«01_k».proof.Proof.Gen.ReferenceMoIdeal.Run
public import proofs.«01_k».proof.Proof.Gen.ReferencePrIdeal.Run
public import proofs.«01_k».proof.Proof.Gen.Pre_finite_pm
public import proofs.«01_k».proof.Proof.Gen.Pre_finite_dn
public import Idealize.ShloMosaic.Adequacy
public import Idealize.ShloMosaic.Init
public import proofs.«01_k».proof.Proof.Up
public import proofs.«01_k».proof.Proof.Dw
public import proofs.«01_k».proof.Proof.Dwd
public import proofs.«01_k».proof.Proof.Down
public import proofs.«01_k».proof.Proof.Dwo
public import proofs.«01_k».proof.Proof.Dwin
public import proofs.«01_k».proof.Proof.Dh
public import proofs.«01_k».proof.Proof.Dp
public import proofs.«01_k».proof.Proof.Dn
public import proofs.«01_k».proof.Proof.Pn
public import proofs.«01_k».proof.Proof.Pm
public import proofs.«01_k».proof.Proof.Mo
public import proofs.«01_k».proof.Proof.Pr

@[expose] public section

noncomputable section

namespace Cert.Proof

open Idealize.ShloMosaic Idealize.ShloMosaic.TcCoe Idealize.SL.Sem

/-- The frame of the attention gradient at the bit patterns, in the names of the program read over the reals. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two programs have the same text, so one run serves both. -/
theorem frame_text : FrameBits = Cert.quiescent_Kernel (hKernel := Cert.Kernel.Gen.facts) := by
  sl_kernel_rfl

theorem frame_Kernel : Cert.quiescent_Kernel (hKernel := Cert.Kernel.Gen.facts) :=
  Eq.mp frame_text fun m ρ _ => Cert.KernelIdeal.Own.frame_own (F := Bits) m ρ

theorem frame_KernelIdeal : Cert.quiescent_KernelIdeal (hKernelIdeal := Cert.KernelIdeal.Gen.facts) :=
  fun m ρ _ => (θ_run Cert.KernelIdeal.defs _ _).mono (fun _ h => h) (Cert.KernelIdeal.Own.frame_own (F := Ideal) m ρ)

theorem frame_ReferenceIdeal : Cert.quiescent_ReferenceIdeal (hReferenceIdeal := Cert.ReferenceIdeal.Gen.facts) :=
  fun m ρ _ => (θ_run Cert.ReferenceIdeal.defs _ _).mono (fun r h => ⟨fun c => (h c).2.2.2.2.2, funext fun s => nomatch s⟩) (Cert.ReferenceIdeal.Value.run (F := Ideal) m ρ)

theorem frame_KernelUp : Cert.quiescent_KernelUp (hKernelUp := Cert.KernelUp.Gen.facts) :=
  fun m ρ _ => Cert.KernelUp.Gen.frame (F := Bits) m ρ

theorem frame_KernelUpIdeal : Cert.quiescent_KernelUpIdeal (hKernelUpIdeal := Cert.KernelUpIdeal.Gen.facts) :=
  fun m ρ _ => Cert.KernelUpIdeal.Gen.frame (F := Ideal) m ρ

theorem frame_ReferenceUpIdeal : Cert.quiescent_ReferenceUpIdeal (hReferenceUpIdeal := Cert.ReferenceUpIdeal.Gen.facts) :=
  fun m ρ _ => (θ_run Cert.ReferenceUpIdeal.defs _ _).mono (fun r h => ⟨fun c => (h c).2.2.2, funext fun s => nomatch s⟩) (Cert.ReferenceUpIdeal.Value.run (F := Ideal) m ρ)

theorem frame_KernelDown : Cert.quiescent_KernelDown (hKernelDown := Cert.KernelDown.Gen.facts) :=
  fun m ρ _ => Cert.KernelDown.Gen.frame (F := Bits) m ρ

theorem frame_KernelDownIdeal : Cert.quiescent_KernelDownIdeal (hKernelDownIdeal := Cert.KernelDownIdeal.Gen.facts) :=
  fun m ρ _ => Cert.KernelDownIdeal.Gen.frame (F := Ideal) m ρ

theorem frame_KernelDownIdeal_pre_finite_down : Cert.quiescent_KernelDownIdeal_pre_finite_down (hKernelDownIdeal := Cert.KernelDownIdeal.Gen.facts) (hPre_finite_down := Cert.Pre_finite_down.Gen.facts) :=
  fun m ρ _ => Cert.KernelDownIdeal.Gen.frame (F := Ideal) m ρ

theorem frame_ReferenceDownIdeal : Cert.quiescent_ReferenceDownIdeal (hReferenceDownIdeal := Cert.ReferenceDownIdeal.Gen.facts) :=
  fun m ρ _ => (θ_run Cert.ReferenceDownIdeal.defs _ _).mono (fun r h => ⟨fun c => (h c).2.2, funext fun s => nomatch s⟩) (Cert.ReferenceDownIdeal.Value.run (F := Ideal) m ρ)

theorem frame_ReferenceDownIdeal_pre_finite_down : Cert.quiescent_ReferenceDownIdeal_pre_finite_down (hReferenceDownIdeal := Cert.ReferenceDownIdeal.Gen.facts) (hPre_finite_down := Cert.Pre_finite_down.Gen.facts) :=
  fun m ρ _ => (θ_run Cert.ReferenceDownIdeal.defs _ _).mono (fun r h => ⟨fun c => (h c).2.2, funext fun s => nomatch s⟩) (Cert.ReferenceDownIdeal.Value.run (F := Ideal) m ρ)

theorem frame_KernelDwd : Cert.quiescent_KernelDwd (hKernelDwd := Cert.KernelDwd.Gen.facts) :=
  fun m ρ _ => Cert.KernelDwd.Gen.frame (F := Bits) m ρ

theorem frame_KernelDwdIdeal : Cert.quiescent_KernelDwdIdeal (hKernelDwdIdeal := Cert.KernelDwdIdeal.Gen.facts) :=
  fun m ρ _ => Cert.KernelDwdIdeal.Gen.frame (F := Ideal) m ρ

theorem frame_ReferenceDwdIdeal : Cert.quiescent_ReferenceDwdIdeal (hReferenceDwdIdeal := Cert.ReferenceDwdIdeal.Gen.facts) :=
  fun m ρ _ => (θ_run Cert.ReferenceDwdIdeal.defs _ _).mono (fun r h => ⟨fun c => (h c).2, funext fun s => nomatch s⟩) (Cert.ReferenceDwdIdeal.Value.run (F := Ideal) m ρ)

theorem frame_KernelDw : Cert.quiescent_KernelDw (hKernelDw := Cert.KernelDw.Gen.facts) :=
  fun m ρ _ => Cert.KernelDw.Gen.frame (F := Bits) m ρ

theorem frame_KernelDwIdeal : Cert.quiescent_KernelDwIdeal (hKernelDwIdeal := Cert.KernelDwIdeal.Gen.facts) :=
  fun m ρ _ => Cert.KernelDwIdeal.Gen.frame (F := Ideal) m ρ

theorem frame_ReferenceDwIdeal : Cert.quiescent_ReferenceDwIdeal (hReferenceDwIdeal := Cert.ReferenceDwIdeal.Gen.facts) :=
  fun m ρ _ => (θ_run Cert.ReferenceDwIdeal.defs _ _).mono (fun r h => ⟨fun c => (h c).2, funext fun s => nomatch s⟩) (Cert.ReferenceDwIdeal.Value.run (F := Ideal) m ρ)

theorem frame_KernelDwo : Cert.quiescent_KernelDwo (hKernelDwo := Cert.KernelDwo.Gen.facts) :=
  fun m ρ _ => Cert.KernelDwo.Gen.frame (F := Bits) m ρ

theorem frame_KernelDwoIdeal : Cert.quiescent_KernelDwoIdeal (hKernelDwoIdeal := Cert.KernelDwoIdeal.Gen.facts) :=
  fun m ρ _ => Cert.KernelDwoIdeal.Gen.frame (F := Ideal) m ρ

theorem frame_ReferenceDwoIdeal : Cert.quiescent_ReferenceDwoIdeal (hReferenceDwoIdeal := Cert.ReferenceDwoIdeal.Gen.facts) :=
  fun m ρ _ => (θ_run Cert.ReferenceDwoIdeal.defs _ _).mono (fun r h => ⟨fun c => (h c).2, funext fun s => nomatch s⟩) (Cert.ReferenceDwoIdeal.Value.run (F := Ideal) m ρ)

theorem frame_KernelDwin : Cert.quiescent_KernelDwin (hKernelDwin := Cert.KernelDwin.Gen.facts) :=
  fun m ρ _ => Cert.KernelDwin.Gen.frame (F := Bits) m ρ

theorem frame_KernelDwinIdeal : Cert.quiescent_KernelDwinIdeal (hKernelDwinIdeal := Cert.KernelDwinIdeal.Gen.facts) :=
  fun m ρ _ => Cert.KernelDwinIdeal.Gen.frame (F := Ideal) m ρ

theorem frame_ReferenceDwinIdeal : Cert.quiescent_ReferenceDwinIdeal (hReferenceDwinIdeal := Cert.ReferenceDwinIdeal.Gen.facts) :=
  fun m ρ _ => (θ_run Cert.ReferenceDwinIdeal.defs _ _).mono (fun r h => ⟨fun c => (h c).2, funext fun s => nomatch s⟩) (Cert.ReferenceDwinIdeal.Value.run (F := Ideal) m ρ)

theorem frame_KernelDh : Cert.quiescent_KernelDh (hKernelDh := Cert.KernelDh.Gen.facts) :=
  fun m ρ _ => Cert.KernelDh.Gen.frame (F := Bits) m ρ

theorem frame_KernelDhIdeal : Cert.quiescent_KernelDhIdeal (hKernelDhIdeal := Cert.KernelDhIdeal.Gen.facts) :=
  fun m ρ _ => Cert.KernelDhIdeal.Gen.frame (F := Ideal) m ρ

theorem frame_KernelDhIdeal_pre_finite_dh : Cert.quiescent_KernelDhIdeal_pre_finite_dh (hKernelDhIdeal := Cert.KernelDhIdeal.Gen.facts) (hPre_finite_dh := Cert.Pre_finite_dh.Gen.facts) :=
  fun m ρ _ => Cert.KernelDhIdeal.Gen.frame (F := Ideal) m ρ

theorem frame_ReferenceDhIdeal : Cert.quiescent_ReferenceDhIdeal (hReferenceDhIdeal := Cert.ReferenceDhIdeal.Gen.facts) :=
  fun m ρ _ => (θ_run Cert.ReferenceDhIdeal.defs _ _).mono (fun r h => ⟨fun c => (h c).2.2.2.2, funext fun s => nomatch s⟩) (Cert.ReferenceDhIdeal.Value.run (F := Ideal) m ρ)

theorem frame_ReferenceDhIdeal_pre_finite_dh : Cert.quiescent_ReferenceDhIdeal_pre_finite_dh (hReferenceDhIdeal := Cert.ReferenceDhIdeal.Gen.facts) (hPre_finite_dh := Cert.Pre_finite_dh.Gen.facts) :=
  fun m ρ _ => (θ_run Cert.ReferenceDhIdeal.defs _ _).mono (fun r h => ⟨fun c => (h c).2.2.2.2, funext fun s => nomatch s⟩) (Cert.ReferenceDhIdeal.Value.run (F := Ideal) m ρ)

theorem frame_KernelPn : Cert.quiescent_KernelPn (hKernelPn := Cert.KernelPn.Gen.facts) :=
  fun m ρ _ => Cert.KernelPn.Gen.frame (F := Bits) m ρ

theorem frame_KernelPnIdeal : Cert.quiescent_KernelPnIdeal (hKernelPnIdeal := Cert.KernelPnIdeal.Gen.facts) :=
  fun m ρ _ => Cert.KernelPnIdeal.Gen.frame (F := Ideal) m ρ

theorem frame_KernelPnIdeal_pre_finite_pn : Cert.quiescent_KernelPnIdeal_pre_finite_pn (hKernelPnIdeal := Cert.KernelPnIdeal.Gen.facts) (hPre_finite_pn := Cert.Pre_finite_pn.Gen.facts) :=
  fun m ρ _ => Cert.KernelPnIdeal.Gen.frame (F := Ideal) m ρ

theorem frame_ReferencePnIdeal : Cert.quiescent_ReferencePnIdeal (hReferencePnIdeal := Cert.ReferencePnIdeal.Gen.facts) :=
  fun m ρ _ => (θ_run Cert.ReferencePnIdeal.defs _ _).mono (fun r h => ⟨fun c => (h c).2.2.2, funext fun s => nomatch s⟩) (Cert.ReferencePnIdeal.Value.run (F := Ideal) m ρ)

theorem frame_ReferencePnIdeal_pre_finite_pn : Cert.quiescent_ReferencePnIdeal_pre_finite_pn (hReferencePnIdeal := Cert.ReferencePnIdeal.Gen.facts) (hPre_finite_pn := Cert.Pre_finite_pn.Gen.facts) :=
  fun m ρ _ => (θ_run Cert.ReferencePnIdeal.defs _ _).mono (fun r h => ⟨fun c => (h c).2.2.2, funext fun s => nomatch s⟩) (Cert.ReferencePnIdeal.Value.run (F := Ideal) m ρ)

theorem frame_KernelDn : Cert.quiescent_KernelDn (hKernelDn := Cert.KernelDn.Gen.facts) :=
  fun m ρ _ => Cert.KernelDn.Gen.frame (F := Bits) m ρ

theorem frame_KernelDnIdeal : Cert.quiescent_KernelDnIdeal (hKernelDnIdeal := Cert.KernelDnIdeal.Gen.facts) :=
  fun m ρ _ => Cert.KernelDnIdeal.Gen.frame (F := Ideal) m ρ

theorem frame_KernelDnIdeal_pre_finite_dn : Cert.quiescent_KernelDnIdeal_pre_finite_dn (hKernelDnIdeal := Cert.KernelDnIdeal.Gen.facts) (hPre_finite_dn := Cert.Pre_finite_dn.Gen.facts) :=
  fun m ρ _ => Cert.KernelDnIdeal.Gen.frame (F := Ideal) m ρ

theorem frame_ReferenceDnIdeal : Cert.quiescent_ReferenceDnIdeal (hReferenceDnIdeal := Cert.ReferenceDnIdeal.Gen.facts) :=
  fun m ρ _ => (θ_run Cert.ReferenceDnIdeal.defs _ _).mono (fun r h => ⟨fun c => (h c).2.2, funext fun s => nomatch s⟩) (Cert.ReferenceDnIdeal.Value.run (F := Ideal) m ρ)

theorem frame_ReferenceDnIdeal_pre_finite_dn : Cert.quiescent_ReferenceDnIdeal_pre_finite_dn (hReferenceDnIdeal := Cert.ReferenceDnIdeal.Gen.facts) (hPre_finite_dn := Cert.Pre_finite_dn.Gen.facts) :=
  fun m ρ _ => (θ_run Cert.ReferenceDnIdeal.defs _ _).mono (fun r h => ⟨fun c => (h c).2.2, funext fun s => nomatch s⟩) (Cert.ReferenceDnIdeal.Value.run (F := Ideal) m ρ)

theorem frame_KernelDp : Cert.quiescent_KernelDp (hKernelDp := Cert.KernelDp.Gen.facts) :=
  fun m ρ _ => Cert.KernelDp.Gen.frame (F := Bits) m ρ

theorem frame_KernelDpIdeal : Cert.quiescent_KernelDpIdeal (hKernelDpIdeal := Cert.KernelDpIdeal.Gen.facts) :=
  fun m ρ _ => Cert.KernelDpIdeal.Gen.frame (F := Ideal) m ρ

theorem frame_ReferenceDpIdeal : Cert.quiescent_ReferenceDpIdeal (hReferenceDpIdeal := Cert.ReferenceDpIdeal.Gen.facts) :=
  fun m ρ _ => (θ_run Cert.ReferenceDpIdeal.defs _ _).mono (fun r h => ⟨fun c => (h c).2.2.2, funext fun s => nomatch s⟩) (Cert.ReferenceDpIdeal.Value.run (F := Ideal) m ρ)

theorem frame_KernelPm : Cert.quiescent_KernelPm (hKernelPm := Cert.KernelPm.Gen.facts) :=
  fun m ρ _ => Cert.KernelPm.Gen.frame (F := Bits) m ρ

theorem frame_KernelPmIdeal : Cert.quiescent_KernelPmIdeal (hKernelPmIdeal := Cert.KernelPmIdeal.Gen.facts) :=
  fun m ρ _ => Cert.KernelPmIdeal.Gen.frame (F := Ideal) m ρ

theorem frame_KernelPmIdeal_pre_finite_pm : Cert.quiescent_KernelPmIdeal_pre_finite_pm (hKernelPmIdeal := Cert.KernelPmIdeal.Gen.facts) (hPre_finite_pm := Cert.Pre_finite_pm.Gen.facts) :=
  fun m ρ _ => Cert.KernelPmIdeal.Gen.frame (F := Ideal) m ρ

theorem frame_ReferencePmIdeal : Cert.quiescent_ReferencePmIdeal (hReferencePmIdeal := Cert.ReferencePmIdeal.Gen.facts) :=
  fun m ρ _ => (θ_run Cert.ReferencePmIdeal.defs _ _).mono (fun r h => ⟨fun c => (h c).2.2.2, funext fun s => nomatch s⟩) (Cert.ReferencePmIdeal.Value.run (F := Ideal) m ρ)

theorem frame_ReferencePmIdeal_pre_finite_pm : Cert.quiescent_ReferencePmIdeal_pre_finite_pm (hReferencePmIdeal := Cert.ReferencePmIdeal.Gen.facts) (hPre_finite_pm := Cert.Pre_finite_pm.Gen.facts) :=
  fun m ρ _ => (θ_run Cert.ReferencePmIdeal.defs _ _).mono (fun r h => ⟨fun c => (h c).2.2.2, funext fun s => nomatch s⟩) (Cert.ReferencePmIdeal.Value.run (F := Ideal) m ρ)

theorem frame_KernelMo : Cert.quiescent_KernelMo (hKernelMo := Cert.KernelMo.Gen.facts) :=
  fun m ρ _ => Cert.KernelMo.Gen.frame (F := Bits) m ρ

theorem frame_KernelMoIdeal : Cert.quiescent_KernelMoIdeal (hKernelMoIdeal := Cert.KernelMoIdeal.Gen.facts) :=
  fun m ρ _ => Cert.KernelMoIdeal.Gen.frame (F := Ideal) m ρ

theorem frame_ReferenceMoIdeal : Cert.quiescent_ReferenceMoIdeal (hReferenceMoIdeal := Cert.ReferenceMoIdeal.Gen.facts) :=
  fun m ρ _ => (θ_run Cert.ReferenceMoIdeal.defs _ _).mono (fun r h => ⟨fun c => (h c).2.2, funext fun s => nomatch s⟩) (Cert.ReferenceMoIdeal.Value.run (F := Ideal) m ρ)

theorem frame_KernelPr : Cert.quiescent_KernelPr (hKernelPr := Cert.KernelPr.Gen.facts) :=
  fun m ρ _ => Cert.KernelPr.Gen.frame (F := Bits) m ρ

theorem frame_KernelPrIdeal : Cert.quiescent_KernelPrIdeal (hKernelPrIdeal := Cert.KernelPrIdeal.Gen.facts) :=
  fun m ρ _ => Cert.KernelPrIdeal.Gen.frame (F := Ideal) m ρ

theorem frame_ReferencePrIdeal : Cert.quiescent_ReferencePrIdeal (hReferencePrIdeal := Cert.ReferencePrIdeal.Gen.facts) :=
  fun m ρ _ => (θ_run Cert.ReferencePrIdeal.defs _ _).mono (fun r h => ⟨fun c => (h c).2, funext fun s => nomatch s⟩) (Cert.ReferencePrIdeal.Value.run (F := Ideal) m ρ)

theorem claim : Cert.Claim :=
  ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelDwd.Gen.facts, Cert.KernelDwdIdeal.Gen.facts, Cert.ReferenceDwdIdeal.Gen.facts, Cert.KernelDw.Gen.facts, Cert.KernelDwIdeal.Gen.facts, Cert.ReferenceDwIdeal.Gen.facts, Cert.KernelDwo.Gen.facts, Cert.KernelDwoIdeal.Gen.facts, Cert.ReferenceDwoIdeal.Gen.facts, Cert.KernelDwin.Gen.facts, Cert.KernelDwinIdeal.Gen.facts, Cert.ReferenceDwinIdeal.Gen.facts, Cert.KernelDh.Gen.facts, Cert.KernelDhIdeal.Gen.facts, Cert.ReferenceDhIdeal.Gen.facts, Cert.KernelPn.Gen.facts, Cert.KernelPnIdeal.Gen.facts, Cert.ReferencePnIdeal.Gen.facts, Cert.KernelDn.Gen.facts, Cert.KernelDnIdeal.Gen.facts, Cert.ReferenceDnIdeal.Gen.facts, Cert.KernelDp.Gen.facts, Cert.KernelDpIdeal.Gen.facts, Cert.ReferenceDpIdeal.Gen.facts, Cert.KernelPm.Gen.facts, Cert.KernelPmIdeal.Gen.facts, Cert.ReferencePmIdeal.Gen.facts, Cert.KernelMo.Gen.facts, Cert.KernelMoIdeal.Gen.facts, Cert.ReferenceMoIdeal.Gen.facts, Cert.KernelPr.Gen.facts, Cert.KernelPrIdeal.Gen.facts, Cert.ReferencePrIdeal.Gen.facts, Cert.Pre_finite_down.Gen.facts, Cert.Pre_finite_dh.Gen.facts, Cert.Pre_finite_pn.Gen.facts, Cert.Pre_finite_dn.Gen.facts, Cert.Pre_finite_pm.Gen.facts,
   frame_Kernel,
   frame_KernelIdeal,
   frame_ReferenceIdeal,
   frame_KernelUp,
   frame_KernelUpIdeal,
   frame_ReferenceUpIdeal,
   frame_KernelDown,
   frame_KernelDownIdeal,
   frame_KernelDownIdeal_pre_finite_down,
   frame_ReferenceDownIdeal,
   frame_ReferenceDownIdeal_pre_finite_down,
   frame_KernelDwd,
   frame_KernelDwdIdeal,
   frame_ReferenceDwdIdeal,
   frame_KernelDw,
   frame_KernelDwIdeal,
   frame_ReferenceDwIdeal,
   frame_KernelDwo,
   frame_KernelDwoIdeal,
   frame_ReferenceDwoIdeal,
   frame_KernelDwin,
   frame_KernelDwinIdeal,
   frame_ReferenceDwinIdeal,
   frame_KernelDh,
   frame_KernelDhIdeal,
   frame_KernelDhIdeal_pre_finite_dh,
   frame_ReferenceDhIdeal,
   frame_ReferenceDhIdeal_pre_finite_dh,
   frame_KernelPn,
   frame_KernelPnIdeal,
   frame_KernelPnIdeal_pre_finite_pn,
   frame_ReferencePnIdeal,
   frame_ReferencePnIdeal_pre_finite_pn,
   frame_KernelDn,
   frame_KernelDnIdeal,
   frame_KernelDnIdeal_pre_finite_dn,
   frame_ReferenceDnIdeal,
   frame_ReferenceDnIdeal_pre_finite_dn,
   frame_KernelDp,
   frame_KernelDpIdeal,
   frame_ReferenceDpIdeal,
   frame_KernelPm,
   frame_KernelPmIdeal,
   frame_KernelPmIdeal_pre_finite_pm,
   frame_ReferencePmIdeal,
   frame_ReferencePmIdeal_pre_finite_pm,
   frame_KernelMo,
   frame_KernelMoIdeal,
   frame_ReferenceMoIdeal,
   frame_KernelPr,
   frame_KernelPrIdeal,
   frame_ReferencePrIdeal,
   trivial,
   trivial,
   Cert.KernelUpIdeal.Own.algebraic_up,
   trivial,
   Cert.KernelDownIdeal.Own.algebraic_down,
   trivial,
   Cert.KernelDwdIdeal.Own.algebraic_dwd,
   trivial,
   Cert.KernelDwIdeal.Own.algebraic_dw,
   trivial,
   Cert.KernelDwoIdeal.Own.algebraic_dwo,
   trivial,
   Cert.KernelDwinIdeal.Own.algebraic_dwin,
   trivial,
   Cert.KernelDhIdeal.Own.algebraic_dh,
   trivial,
   Cert.KernelPnIdeal.Own.algebraic_pn,
   trivial,
   Cert.KernelDnIdeal.Own.algebraic_dn,
   trivial,
   Cert.KernelDpIdeal.Own.algebraic_dp,
   trivial,
   Cert.KernelPmIdeal.Own.algebraic_pm,
   trivial,
   Cert.KernelMoIdeal.Own.algebraic_mo,
   trivial,
   Cert.KernelPrIdeal.Own.algebraic_pr⟩

end Cert.Proof

end
